-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v259_0)) (v1 : (c : Dev Cert.KernelIdeal.nD) → Buf (Elt Ideal) ((c.tc : Thread Cert.KernelIdeal.nD Cert.KernelIdeal.τ).loc Cert.KernelIdeal.main_v259_1)) (v2 : (c : Dev Cert.KernelIdeal.nD) → Buf (Elt Ideal) ((c.tc : Thread Cert.KernelIdeal.nD Cert.KernelIdeal.τ).loc Cert.KernelIdeal.main_v259_2)) (v3 : (c : Dev Cert.KernelIdeal.nD) → Buf (Elt Ideal) ((c.tc : Thread Cert.KernelIdeal.nD Cert.KernelIdeal.τ).loc Cert.KernelIdeal.main_v259_3)) (v4 : (c : Dev Cert.KernelIdeal.nD) → Buf (Elt Ideal) ((c.tc : Thread Cert.KernelIdeal.nD Cert.KernelIdeal.τ).loc Cert.KernelIdeal.main_v259_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v259_0) = v0 c
          ∧ r.2.mem ((c.tc : Thread Cert.KernelIdeal.nD Cert.KernelIdeal.τ).loc Cert.KernelIdeal.main_v259_1) = v1 c
          ∧ r.2.mem ((c.tc : Thread Cert.KernelIdeal.nD Cert.KernelIdeal.τ).loc Cert.KernelIdeal.main_v259_2) = v2 c
          ∧ r.2.mem ((c.tc : Thread Cert.KernelIdeal.nD Cert.KernelIdeal.τ).loc Cert.KernelIdeal.main_v259_3) = v3 c
          ∧ r.2.mem ((c.tc : Thread Cert.KernelIdeal.nD Cert.KernelIdeal.τ).loc Cert.KernelIdeal.main_v259_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v306) = v0 c
          ∧ r.2.mem ((c.tc : Thread Cert.ReferenceIdeal.nD Cert.ReferenceIdeal.τ).loc Cert.ReferenceIdeal.main_v307) = v1 c
          ∧ r.2.mem ((c.tc : Thread Cert.ReferenceIdeal.nD Cert.ReferenceIdeal.τ).loc Cert.ReferenceIdeal.main_v308) = v2 c
          ∧ r.2.mem ((c.tc : Thread Cert.ReferenceIdeal.nD Cert.ReferenceIdeal.τ).loc Cert.ReferenceIdeal.main_v295) = v3 c
          ∧ r.2.mem ((c.tc : Thread Cert.ReferenceIdeal.nD Cert.ReferenceIdeal.τ).loc Cert.ReferenceIdeal.main_v305) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v17_0)) (v1 : (c : Dev Cert.Kernel2Ideal.nD) → Buf (Elt Ideal) ((c.tc : Thread Cert.Kernel2Ideal.nD Cert.Kernel2Ideal.τ).loc Cert.Kernel2Ideal.main_v17_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v17_0) = v0 c
          ∧ r.2.mem ((c.tc : Thread Cert.Kernel2Ideal.nD Cert.Kernel2Ideal.τ).loc Cert.Kernel2Ideal.main_v17_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v21) = v0 c
          ∧ r.2.mem ((c.tc : Thread Cert.Reference2Ideal.nD Cert.Reference2Ideal.τ).loc Cert.Reference2Ideal.main_v31) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference3Ideal [hKernel4Ideal : Cert.Kernel4Ideal.Facts] [hReference3Ideal : Cert.Reference3Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel4Ideal m →
    (∀ c : Dev Cert.Kernel4Ideal.nD,
      m' ((c.tc : Thread Cert.Reference3Ideal.nD Cert.Reference3Ideal.τ).loc Cert.Reference3Ideal.main_arg0) = m ((c.tc : Thread Cert.Kernel4Ideal.nD Cert.Kernel4Ideal.τ).loc Cert.Kernel4Ideal.main_arg0)
      ∧ m' ((c.tc : Thread Cert.Reference3Ideal.nD Cert.Reference3Ideal.τ).loc Cert.Reference3Ideal.main_arg1) = m ((c.tc : Thread Cert.Kernel4Ideal.nD Cert.Kernel4Ideal.τ).loc Cert.Kernel4Ideal.main_arg1)
      ∧ m' ((c.tc : Thread Cert.Reference3Ideal.nD Cert.Reference3Ideal.τ).loc Cert.Reference3Ideal.main_arg2) = m ((c.tc : Thread Cert.Kernel4Ideal.nD Cert.Kernel4Ideal.τ).loc Cert.Kernel4Ideal.main_arg2)
      ∧ m' ((c.tc : Thread Cert.Reference3Ideal.nD Cert.Reference3Ideal.τ).loc Cert.Reference3Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v14)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v14) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v14) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v12) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v8) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v11)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v11) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v19) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v9)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v9) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v11) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v1) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v12) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v14) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference3Ideal (hKernel4Ideal := hKernel4Ideal) (hReference3Ideal := hReference3Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
-- ==== Pre_finite.lean ====
abbrev S2048x6144 : Shape := ⟨2, ![2048, 6144]⟩
abbrev S2048x8 : Shape := ⟨2, ![2048, 8]⟩
abbrev S32x8 : Shape := ⟨2, ![32, 8]⟩
abbrev S2048x2048 : Shape := ⟨2, ![2048, 2048]⟩
abbrev S_ : Shape := ⟨0, ![]⟩

class Facts : Prop where
  bitsLt_bf16_f32 : FTy.bits .bf16 < FTy.bits .f32
  bcast_S_S2048x6144 : S_.BroadcastsInDim S2048x6144 (![] : Fin 0 → Fin S2048x6144.rank)
  reducesTo_S2048x6144_S_d0_1 : S2048x6144.ReducesTo [0, 1] S_
  h_S_ : 0 < S_.numel
  bcast_S_S2048x8 : S_.BroadcastsInDim S2048x8 (![] : Fin 0 → Fin S2048x8.rank)
  reducesTo_S2048x8_S_d0_1 : S2048x8.ReducesTo [0, 1] S_
  bcast_S_S32x8 : S_.BroadcastsInDim S32x8 (![] : Fin 0 → Fin S32x8.rank)
  reducesTo_S32x8_S_d0_1 : S32x8.ReducesTo [0, 1] S_
  bcast_S_S2048x2048 : S_.BroadcastsInDim S2048x2048 (![] : Fin 0 → Fin S2048x2048.rank)
  reducesTo_S2048x2048_S_d0_1 : S2048x2048.ReducesTo [0, 1] S_

variable [Facts]

def fn_part1 {F : FTy → Type} [FloatOps F] (main_v14 : IVec S_ 1) (main_v16 : FVec F S2048x2048 .f32) (main_cst_4 : FVec F S_ .f32) : IVec S_ 1 :=
  let main_v17 : FVec F S2048x2048 .f32 := broadcastInDim S2048x2048 ![] bcast_S_S2048x2048 main_cst_4
  let main_v18 : IVec S2048x2048 1 := cmpf .olt main_v16 main_v17
  let main_c_5 : IVec S_ 1 := constantI S_ 1 1#1
  let main_v19 : IVec S_ 1 := (fun x v => Host.reduce IntOp.andi x v reducesTo_S2048x2048_S_d0_1 h_S_) main_v18 main_c_5
  let main_v20 : IVec S_ 1 := andi main_v14 main_v19
  main_v20

def fn {F : FTy → Type} [FloatOps F] (main_arg0 : FVec F S2048x6144 .bf16) (main_arg1 : FVec F S2048x8 .f32) (main_arg2 : FVec F S32x8 .f32) (main_arg3 : FVec F S2048x2048 .bf16) : IVec S_ 1 :=
  let main_v0 : FVec F S2048x6144 .f32 := (extf .f32 · bitsLt_bf16_f32) main_arg0
  let main_v1 : FVec F S2048x6144 .f32 := Host.absf main_v0
  let main_cst : FVec F S_ .f32 := constant S_ .f32 0x7F800000#32
  let main_v2 : FVec F S2048x6144 .f32 := broadcastInDim S2048x6144 ![] bcast_S_S2048x6144 main_cst
  let main_v3 : IVec S2048x6144 1 := cmpf .olt main_v1 main_v2
  let main_c : IVec S_ 1 := constantI S_ 1 1#1
  let main_v4 : IVec S_ 1 := (fun x v => Host.reduce IntOp.andi x v reducesTo_S2048x6144_S_d0_1 h_S_) main_v3 main_c
  let main_v5 : FVec F S2048x8 .f32 := Host.absf main_arg1
  let main_cst_0 : FVec F S_ .f32 := constant S_ .f32 0x7F800000#32
  let main_v6 : FVec F S2048x8 .f32 := broadcastInDim S2048x8 ![] bcast_S_S2048x8 main_cst_0
  let main_v7 : IVec S2048x8 1 := cmpf .olt main_v5 main_v6
  let main_c_1 : IVec S_ 1 := constantI S_ 1 1#1
  let main_v8 : IVec S_ 1 := (fun x v => Host.reduce IntOp.andi x v reducesTo_S2048x8_S_d0_1 h_S_) main_v7 main_c_1
  let main_v9 : IVec S_ 1 := andi main_v4 main_v8
  let main_v10 : FVec F S32x8 .f32 := Host.absf main_arg2
  let main_cst_2 : FVec F S_ .f32 := constant S_ .f32 0x7F800000#32
  let main_v11 : FVec F S32x8 .f32 := broadcastInDim S32x8 ![] bcast_S_S32x8 main_cst_2
  let main_v12 : IVec S32x8 1 := cmpf .olt main_v10 main_v11
  let main_c_3 : IVec S_ 1 := constantI S_ 1 1#1
  let main_v13 : IVec S_ 1 := (fun x v => Host.reduce IntOp.andi x v reducesTo_S32x8_S_d0_1 h_S_) main_v12 main_c_3
  let main_v14 : IVec S_ 1 := andi main_v9 main_v13
  let main_v15 : FVec F S2048x2048 .f32 := (extf .f32 · bitsLt_bf16_f32) main_arg3
  let main_v16 : FVec F S2048x2048 .f32 := Host.absf main_v15
  let main_cst_4 : FVec F S_ .f32 := constant S_ .f32 0x7F800000#32
  fn_part1 (F := F) main_v14 main_v16 main_cst_4
-- ==== Pre_finite2.lean ====
abbrev S2048x5632 : Shape := ⟨2, ![2048, 5632]⟩
abbrev S5632x2048 : Shape := ⟨2, ![5632, 2048]⟩
abbrev S2048x2048 : Shape := ⟨2, ![2048, 2048]⟩
abbrev S_ : Shape := ⟨0, ![]⟩

class Facts : Prop where
  bcast_S_S2048x5632 : S_.BroadcastsInDim S2048x5632 (![] : Fin 0 → Fin S2048x5632.rank)
  reducesTo_S2048x5632_S_d0_1 : S2048x5632.ReducesTo [0, 1] S_
  h_S_ : 0 < S_.numel
  bitsLt_bf16_f32 : FTy.bits .bf16 < FTy.bits .f32
  bcast_S_S5632x2048 : S_.BroadcastsInDim S5632x2048 (![] : Fin 0 → Fin S5632x2048.rank)
  reducesTo_S5632x2048_S_d0_1 : S5632x2048.ReducesTo [0, 1] S_
  bcast_S_S2048x2048 : S_.BroadcastsInDim S2048x2048 (![] : Fin 0 → Fin S2048x2048.rank)
  reducesTo_S2048x2048_S_d0_1 : S2048x2048.ReducesTo [0, 1] S_

variable [Facts]

def fn {F : FTy → Type} [FloatOps F] (main_arg0 : FVec F S2048x5632 .f32) (main_arg1 : FVec F S2048x5632 .f32) (main_arg2 : FVec F S5632x2048 .bf16) (main_arg3 : FVec F S2048x2048 .f32) : IVec S_ 1 :=
  let main_v0 : FVec F S2048x5632 .f32 := Host.absf main_arg1
  let main_cst : FVec F S_ .f32 := constant S_ .f32 0x7F800000#32
  let main_v1 : FVec F S2048x5632 .f32 := broadcastInDim S2048x5632 ![] bcast_S_S2048x5632 main_cst
  let main_v2 : IVec S2048x5632 1 := cmpf .olt main_v0 main_v1
  let main_c : IVec S_ 1 := constantI S_ 1 1#1
  let main_v3 : IVec S_ 1 := (fun x v => Host.reduce IntOp.andi x v reducesTo_S2048x5632_S_d0_1 h_S_) main_v2 main_c
  let main_v4 : FVec F S5632x2048 .f32 := (extf .f32 · bitsLt_bf16_f32) main_arg2
  let main_v5 : FVec F S5632x2048 .f32 := Host.absf main_v4
  let main_cst_0 : FVec F S_ .f32 := constant S_ .f32 0x7F800000#32
  let main_v6 : FVec F S5632x2048 .f32 := broadcastInDim S5632x2048 ![] bcast_S_S5632x2048 main_cst_0
  let main_v7 : IVec S5632x2048 1 := cmpf .olt main_v5 main_v6
  let main_c_1 : IVec S_ 1 := constantI S_ 1 1#1
  let main_v8 : IVec S_ 1 := (fun x v => Host.reduce IntOp.andi x v reducesTo_S5632x2048_S_d0_1 h_S_) main_v7 main_c_1
  let main_v9 : IVec S_ 1 := andi main_v3 main_v8
  let main_v10 : FVec F S2048x2048 .f32 := Host.absf main_arg3
  let main_cst_2 : FVec F S_ .f32 := constant S_ .f32 0x7F800000#32
  let main_v11 : FVec F S2048x2048 .f32 := broadcastInDim S2048x2048 ![] bcast_S_S2048x2048 main_cst_2
  let main_v12 : IVec S2048x2048 1 := cmpf .olt main_v10 main_v11
  let main_c_3 : IVec S_ 1 := constantI S_ 1 1#1
  let main_v13 : IVec S_ 1 := (fun x v => Host.reduce IntOp.andi x v reducesTo_S2048x2048_S_d0_1 h_S_) main_v12 main_c_3
  let main_v14 : IVec S_ 1 := andi main_v9 main_v13
  main_v14
-- ==== Kernel.lean ====
abbrev S2048x6144 : Shape := ⟨2, ![2048, 6144]⟩
abbrev S2048x8 : Shape := ⟨2, ![2048, 8]⟩
abbrev S32x8 : Shape := ⟨2, ![32, 8]⟩
abbrev S2048x2048 : Shape := ⟨2, ![2048, 2048]⟩
abbrev S8x256x256 : Shape := ⟨3, ![8, 256, 256]⟩
abbrev S_ : Shape := ⟨0, ![]⟩
abbrev S3x8x256x256 : Shape := ⟨4, ![3, 8, 256, 256]⟩
abbrev S1x8x256x256 : Shape := ⟨4, ![1, 8, 256, 256]⟩
abbrev S8x256x256x1 : Shape := ⟨4, ![8, 256, 256, 1]⟩
abbrev S8x256x256x8 : Shape := ⟨4, ![8, 256, 256, 8]⟩
abbrev S8x8x256x256 : Shape := ⟨4, ![8, 8, 256, 256]⟩
abbrev S9x8x256x256 : Shape := ⟨4, ![9, 8, 256, 256]⟩
abbrev S2048x128 : Shape := ⟨2, ![2048, 128]⟩
abbrev S8x2048 : Shape := ⟨2, ![8, 2048]⟩
abbrev S128x2048 : Shape := ⟨2, ![128, 2048]⟩
abbrev S2048x2048x1 : Shape := ⟨3, ![2048, 2048, 1]⟩
abbrev S2048x2048x8 : Shape := ⟨3, ![2048, 2048, 8]⟩
abbrev S8x2048x2048 : Shape := ⟨3, ![8, 2048, 2048]⟩
abbrev S2048x16x128 : Shape := ⟨3, ![2048, 16, 128]⟩
abbrev S2048x8x128 : Shape := ⟨3, ![2048, 8, 128]⟩
abbrev S8x2048x1 : Shape := ⟨3, ![8, 2048, 1]⟩
abbrev S8x1x2048 : Shape := ⟨3, ![8, 1, 2048]⟩
abbrev S8x128x2048 : Shape := ⟨3, ![8, 128, 2048]⟩
abbrev S3x2048x2048 : Shape := ⟨3, ![3, 2048, 2048]⟩
abbrev S1x2048x2048 : Shape := ⟨3, ![1, 2048, 2048]⟩
abbrev S3x1x2048x2048 : Shape := ⟨4, ![3, 1, 2048, 2048]⟩
abbrev S3x8x2048x2048 : Shape := ⟨4, ![3, 8, 2048, 2048]⟩
abbrev S3x8x2048 : Shape := ⟨3, ![3, 8, 2048]⟩
abbrev S3x8x2048x1 : Shape := ⟨4, ![3, 8, 2048, 1]⟩
abbrev S8x128x3x2048 : Shape := ⟨4, ![8, 128, 3, 2048]⟩
abbrev S3x2048x8x128 : Shape := ⟨4, ![3, 2048, 8, 128]⟩
abbrev S1x8x2048 : Shape := ⟨3, ![1, 8, 2048]⟩
abbrev S3x2048x8 : Shape := ⟨3, ![3, 2048, 8]⟩
abbrev S3x2048x8x1 : Shape := ⟨4, ![3, 2048, 8, 1]⟩
abbrev S16x2048 : Shape := ⟨2, ![16, 2048]⟩
abbrev S2048x16 : Shape := ⟨2, ![2048, 16]⟩
abbrev S16x1x2048 : Shape := ⟨3, ![16, 1, 2048]⟩
abbrev S1x1x2048 : Shape := ⟨3, ![1, 1, 2048]⟩
abbrev S1x128 : Shape := ⟨2, ![1, 128]⟩
abbrev S1x2048 : Shape := ⟨2, ![1, 2048]⟩
abbrev S256x128 : Shape := ⟨2, ![256, 128]⟩
abbrev S256x256 : Shape := ⟨2, ![256, 256]⟩
abbrev S256 : Shape := ⟨1, ![256]⟩
abbrev S256x1 : Shape := ⟨2, ![256, 1]⟩
abbrev S1x256 : Shape := ⟨2, ![1, 256]⟩
abbrev S1x1x256x256 : Shape := ⟨4, ![1, 1, 256, 256]⟩
abbrev S128x256 : Shape := ⟨2, ![128, 256]⟩
abbrev S1x1x256 : Shape := ⟨3, ![1, 1, 256]⟩
abbrev S512x128 : Shape := ⟨2, ![512, 128]⟩
abbrev S256x512 : Shape := ⟨2, ![256, 512]⟩
abbrev S1x512 : Shape := ⟨2, ![1, 512]⟩
abbrev S128x512 : Shape := ⟨2, ![128, 512]⟩
abbrev S1x1x512 : Shape := ⟨3, ![1, 1, 512]⟩
abbrev S512 : Shape := ⟨1, ![512]⟩
abbrev S768x128 : Shape := ⟨2, ![768, 128]⟩
abbrev S256x768 : Shape := ⟨2, ![256, 768]⟩
abbrev S1x768 : Shape := ⟨2, ![1, 768]⟩
abbrev S128x768 : Shape := ⟨2, ![128, 768]⟩
abbrev S1x1x768 : Shape := ⟨3, ![1, 1, 768]⟩
abbrev S768 : Shape := ⟨1, ![768]⟩
abbrev S1024x128 : Shape := ⟨2, ![1024, 128]⟩
abbrev S256x1024 : Shape := ⟨2, ![256, 1024]⟩
abbrev S1x1024 : Shape := ⟨2, ![1, 1024]⟩
abbrev S128x1024 : Shape := ⟨2, ![128, 1024]⟩
abbrev S1x1x1024 : Shape := ⟨3, ![1, 1, 1024]⟩
abbrev S1024 : Shape := ⟨1, ![1024]⟩
abbrev S1280x128 : Shape := ⟨2, ![1280, 128]⟩
abbrev S256x1280 : Shape := ⟨2, ![256, 1280]⟩
abbrev S1x1280 : Shape := ⟨2, ![1, 1280]⟩
abbrev S128x1280 : Shape := ⟨2, ![128, 1280]⟩
abbrev S1x1x1280 : Shape := ⟨3, ![1, 1, 1280]⟩
abbrev S1280 : Shape := ⟨1, ![1280]⟩
abbrev S1536x128 : Shape := ⟨2, ![1536, 128]⟩
abbrev S256x1536 : Shape := ⟨2, ![256, 1536]⟩
abbrev S1x1536 : Shape := ⟨2, ![1, 1536]⟩
abbrev S128x1536 : Shape := ⟨2, ![128, 1536]⟩
abbrev S1x1x1536 : Shape := ⟨3, ![1, 1, 1536]⟩
abbrev S1536 : Shape := ⟨1, ![1536]⟩
abbrev S1792x128 : Shape := ⟨2, ![1792, 128]⟩
abbrev S256x1792 : Shape := ⟨2, ![256, 1792]⟩
abbrev S1x1792 : Shape := ⟨2, ![1, 1792]⟩
abbrev S128x1792 : Shape := ⟨2, ![128, 1792]⟩
abbrev S1x1x1792 : Shape := ⟨3, ![1, 1, 1792]⟩
abbrev S1792 : Shape := ⟨1, ![1792]⟩
abbrev S256x2048 : Shape := ⟨2, ![256, 2048]⟩
abbrev S2048 : Shape := ⟨1, ![2048]⟩

abbrev nBuf : Space → Nat
  | .hbm => 349
  | .vmem => 27
  | .smem => 0
  | _ => 0

abbrev hbmTy0_0 (i : Nat) : BufTy := match i % 128 with
  | 0 => ⟨S2048x6144, .bf16⟩
  | 1 => ⟨S2048x8, .f32⟩
  | 2 => ⟨S32x8, .f32⟩
  | 3 => ⟨S2048x2048, .bf16⟩
  | 4 => ⟨S8x256x256, .i32⟩
  | 5 => ⟨S_, .i32⟩
  | 6 => ⟨S8x256x256, .i32⟩
  | 7 => ⟨S8x256x256, .i32⟩
  | 8 => ⟨S8x256x256, .i32⟩
  | 9 => ⟨S8x256x256, .i32⟩
  | 10 => ⟨S8x256x256, .i32⟩
  | 11 => ⟨S8x256x256, .i32⟩
  | 12 => ⟨S3x8x256x256, .i32⟩
  | 13 => ⟨S_, .i32⟩
  | 14 => ⟨S3x8x256x256, .i32⟩
  | 15 => ⟨S3x8x256x256, .i1⟩
  | 16 => ⟨S_, .i32⟩
  | 17 => ⟨S3x8x256x256, .i32⟩
  | 18 => ⟨S_, .i32⟩
  | 19 => ⟨S3x8x256x256, .i32⟩
  | 20 => ⟨S3x8x256x256, .i1⟩
  | 21 => ⟨S_, .i32⟩
  | 22 => ⟨S3x8x256x256, .i32⟩
  | 23 => ⟨S_, .i32⟩
  | 24 => ⟨S3x8x256x256, .i32⟩
  | 25 => ⟨S3x8x256x256, .i32⟩
  | 26 => ⟨S3x8x256x256, .i32⟩
  | 27 => ⟨S_, .i32⟩
  | 28 => ⟨S3x8x256x256, .i32⟩
  | 29 => ⟨S3x8x256x256, .i1⟩
  | 30 => ⟨S_, .i32⟩
  | 31 => ⟨S3x8x256x256, .i32⟩
  | 32 => ⟨S_, .i32⟩
  | 33 => ⟨S3x8x256x256, .i32⟩
  | 34 => ⟨S3x8x256x256, .i1⟩
  | 35 => ⟨S_, .i32⟩
  | 36 => ⟨S3x8x256x256, .i32⟩
  | 37 => ⟨S_, .i32⟩
  | 38 => ⟨S3x8x256x256, .i32⟩
  | 39 => ⟨S3x8x256x256, .i32⟩
  | 40 => ⟨S3x8x256x256, .i32⟩
  | 41 => ⟨S_, .i32⟩
  | 42 => ⟨S8x256x256, .i32⟩
  | 43 => ⟨S8x256x256, .i1⟩
  | 44 => ⟨S1x8x256x256, .i1⟩
  | 45 => ⟨S1x8x256x256, .i32⟩
  | 46 => ⟨S3x8x256x256, .i32⟩
  | 47 => ⟨S3x8x256x256, .i1⟩
  | 48 => ⟨S3x8x256x256, .i1⟩
  | 49 => ⟨S3x8x256x256, .i1⟩
  | 50 => ⟨S1x8x256x256, .i32⟩
  | 51 => ⟨S3x8x256x256, .i32⟩
  | 52 => ⟨S3x8x256x256, .i32⟩
  | 53 => ⟨S_, .i32⟩
  | 54 => ⟨S3x8x256x256, .i32⟩
  | 55 => ⟨S3x8x256x256, .i1⟩
  | 56 => ⟨S3x8x256x256, .i1⟩
  | 57 => ⟨S_, .f32⟩
  | 58 => ⟨S_, .f32⟩
  | 59 => ⟨S3x8x256x256, .f32⟩
  | 60 => ⟨S3x8x256x256, .f32⟩
  | 61 => ⟨S3x8x256x256, .f32⟩
  | 62 => ⟨S3x8x256x256, .f32⟩
  | 63 => ⟨S_, .f32⟩
  | 64 => ⟨S8x256x256, .f32⟩
  | 65 => ⟨S_, .i32⟩
  | 66 => ⟨S8x256x256, .i32⟩
  | 67 => ⟨S8x256x256, .i32⟩
  | 68 => ⟨S_, .i32⟩
  | 69 => ⟨S8x256x256, .i32⟩
  | 70 => ⟨S8x256x256, .i32⟩
  | 71 => ⟨S8x256x256, .f32⟩
  | 72 => ⟨S_, .f32⟩
  | 73 => ⟨S8x256x256, .f32⟩
  | 74 => ⟨S8x256x256, .f32⟩
  | 75 => ⟨S8x256x256, .f32⟩
  | 76 => ⟨S_, .f32⟩
  | 77 => ⟨S8x256x256, .f32⟩
  | 78 => ⟨S8x256x256, .f32⟩
  | 79 => ⟨S_, .f32⟩
  | 80 => ⟨S8x256x256, .f32⟩
  | 81 => ⟨S8x256x256, .f32⟩
  | 82 => ⟨S8x256x256, .i32⟩
  | 83 => ⟨S_, .i32⟩
  | 84 => ⟨S8x256x256, .i32⟩
  | 85 => ⟨S8x256x256, .i32⟩
  | 86 => ⟨S_, .i32⟩
  | 87 => ⟨S8x256x256, .i32⟩
  | 88 => ⟨S8x256x256, .i32⟩
  | 89 => ⟨S_, .i32⟩
  | 90 => ⟨S8x256x256, .i32⟩
  | 91 => ⟨S8x256x256, .i1⟩
  | 92 => ⟨S8x256x256, .i32⟩
  | 93 => ⟨S_, .i32⟩
  | 94 => ⟨S8x256x256, .i32⟩
  | 95 => ⟨S8x256x256, .i1⟩
  | 96 => ⟨S_, .i32⟩
  | 97 => ⟨S8x256x256, .i32⟩
  | 98 => ⟨S8x256x256, .i32⟩
  | 99 => ⟨S8x256x256, .i32⟩
  | 100 => ⟨S8x256x256x1, .i32⟩
  | 101 => ⟨S8x256x256x8, .f32⟩
  | 102 => ⟨S8x8x256x256, .f32⟩
  | 103 => ⟨S_, .i32⟩
  | 104 => ⟨S8x256x256, .i32⟩
  | 105 => ⟨S8x256x256, .i1⟩
  | 106 => ⟨S_, .f32⟩
  | 107 => ⟨S_, .f32⟩
  | 108 => ⟨S8x256x256, .f32⟩
  | 109 => ⟨S8x256x256, .f32⟩
  | 110 => ⟨S8x256x256, .f32⟩
  | 111 => ⟨S1x8x256x256, .f32⟩
  | 112 => ⟨S_, .f32⟩
  | 113 => ⟨S8x256x256, .f32⟩
  | 114 => ⟨S8x256x256, .i1⟩
  | 115 => ⟨S8x256x256, .f32⟩
  | 116 => ⟨S1x8x256x256, .f32⟩
  | 117 => ⟨S8x8x256x256, .f32⟩
  | 118 => ⟨S8x8x256x256, .f32⟩
  | 119 => ⟨S_, .f32⟩
  | 120 => ⟨S_, .f32⟩
  | 121 => ⟨S8x8x256x256, .i1⟩
  | 122 => ⟨S8x8x256x256, .f32⟩
  | 123 => ⟨S8x8x256x256, .f32⟩
  | 124 => ⟨S1x8x256x256, .f32⟩
  | 125 => ⟨S9x8x256x256, .f32⟩
  | 126 => ⟨S_, .i32⟩
  | 127 => ⟨S_, .f32⟩
  | _ => ⟨S2048x6144, .bf16⟩

abbrev hbmTy0_1 (i : Nat) : BufTy := match i % 128 with
  | 0 => ⟨S2048x128, .f32⟩
  | 1 => ⟨S8x2048, .f32⟩
  | 2 => ⟨S_, .i32⟩
  | 3 => ⟨S_, .f32⟩
  | 4 => ⟨S128x2048, .f32⟩
  | 5 => ⟨S2048x6144, .f32⟩
  | 6 => ⟨S2048x2048, .f32⟩
  | 7 => ⟨S2048x2048, .f32⟩
  | 8 => ⟨S2048x2048, .f32⟩
  | 9 => ⟨S2048x2048, .i32⟩
  | 10 => ⟨S2048x2048, .i32⟩
  | 11 => ⟨S2048x2048, .i32⟩
  | 12 => ⟨S_, .i32⟩
  | 13 => ⟨S2048x2048, .i32⟩
  | 14 => ⟨S2048x2048, .i32⟩
  | 15 => ⟨S_, .i32⟩
  | 16 => ⟨S2048x2048, .i32⟩
  | 17 => ⟨S2048x2048, .i32⟩
  | 18 => ⟨S2048x2048, .f32⟩
  | 19 => ⟨S_, .f32⟩
  | 20 => ⟨S2048x2048, .f32⟩
  | 21 => ⟨S2048x2048, .f32⟩
  | 22 => ⟨S2048x2048, .f32⟩
  | 23 => ⟨S_, .f32⟩
  | 24 => ⟨S2048x2048, .f32⟩
  | 25 => ⟨S2048x2048, .f32⟩
  | 26 => ⟨S_, .f32⟩
  | 27 => ⟨S2048x2048, .f32⟩
  | 28 => ⟨S2048x2048, .f32⟩
  | 29 => ⟨S2048x2048, .i32⟩
  | 30 => ⟨S_, .i32⟩
  | 31 => ⟨S2048x2048, .i32⟩
  | 32 => ⟨S2048x2048, .i32⟩
  | 33 => ⟨S_, .i32⟩
  | 34 => ⟨S2048x2048, .i32⟩
  | 35 => ⟨S2048x2048, .i32⟩
  | 36 => ⟨S_, .i32⟩
  | 37 => ⟨S2048x2048, .i32⟩
  | 38 => ⟨S2048x2048, .i1⟩
  | 39 => ⟨S2048x2048, .i32⟩
  | 40 => ⟨S_, .i32⟩
  | 41 => ⟨S2048x2048, .i32⟩
  | 42 => ⟨S2048x2048, .i1⟩
  | 43 => ⟨S_, .i32⟩
  | 44 => ⟨S2048x2048, .i32⟩
  | 45 => ⟨S2048x2048, .i32⟩
  | 46 => ⟨S2048x2048, .i32⟩
  | 47 => ⟨S2048x2048x1, .i32⟩
  | 48 => ⟨S2048x2048x8, .f32⟩
  | 49 => ⟨S8x2048x2048, .f32⟩
  | 50 => ⟨S2048x16x128, .f32⟩
  | 51 => ⟨S2048x16x128, .f32⟩
  | 52 => ⟨S2048x16x128, .f32⟩
  | 53 => ⟨S2048x8x128, .f32⟩
  | 54 => ⟨S2048x8x128, .f32⟩
  | 55 => ⟨S2048x8x128, .f32⟩
  | 56 => ⟨S8x2048x2048, .f32⟩
  | 57 => ⟨S8x2048x2048, .bf16⟩
  | 58 => ⟨S8x2048x2048, .f32⟩
  | 59 => ⟨S_, .f32⟩
  | 60 => ⟨S8x2048x2048, .f32⟩
  | 61 => ⟨S8x2048x2048, .f32⟩
  | 62 => ⟨S8x2048, .f32⟩
  | 63 => ⟨S8x2048x1, .f32⟩
  | 64 => ⟨S8x2048, .f32⟩
  | 65 => ⟨S8x1x2048, .f32⟩
  | 66 => ⟨S8x2048x2048, .f32⟩
  | 67 => ⟨S8x2048x2048, .f32⟩
  | 68 => ⟨S8x2048x2048, .f32⟩
  | 69 => ⟨S2048x2048, .i32⟩
  | 70 => ⟨S2048x2048, .i32⟩
  | 71 => ⟨S2048x2048, .i32⟩
  | 72 => ⟨S_, .i32⟩
  | 73 => ⟨S2048x2048, .i32⟩
  | 74 => ⟨S2048x2048, .i1⟩
  | 75 => ⟨S8x2048x2048, .f32⟩
  | 76 => ⟨S_, .f32⟩
  | 77 => ⟨S_, .f32⟩
  | 78 => ⟨S8x2048x2048, .i1⟩
  | 79 => ⟨S8x2048x2048, .f32⟩
  | 80 => ⟨S8x2048x2048, .f32⟩
  | 81 => ⟨S_, .f32⟩
  | 82 => ⟨S8x2048, .f32⟩
  | 83 => ⟨S8x2048x1, .f32⟩
  | 84 => ⟨S8x2048x2048, .f32⟩
  | 85 => ⟨S8x2048x2048, .f32⟩
  | 86 => ⟨S8x2048x2048, .f32⟩
  | 87 => ⟨S_, .f32⟩
  | 88 => ⟨S8x2048, .f32⟩
  | 89 => ⟨S8x2048x1, .f32⟩
  | 90 => ⟨S8x2048x2048, .f32⟩
  | 91 => ⟨S8x2048x2048, .f32⟩
  | 92 => ⟨S8x2048x2048, .bf16⟩
  | 93 => ⟨S8x2048x2048, .f32⟩
  | 94 => ⟨S8x128x2048, .f32⟩
  | 95 => ⟨S2048x8x128, .f32⟩
  | 96 => ⟨S2048x8x128, .bf16⟩
  | 97 => ⟨S2048x8x128, .f32⟩
  | 98 => ⟨S8x2048x1, .f32⟩
  | 99 => ⟨S8x2048x1, .f32⟩
  | 100 => ⟨S8x2048, .f32⟩
  | 101 => ⟨S2048x8x128, .f32⟩
  | 102 => ⟨S2048x8x128, .f32⟩
  | 103 => ⟨S2048x8x128, .f32⟩
  | 104 => ⟨S8x2048x2048, .f32⟩
  | 105 => ⟨S8x2048x2048, .bf16⟩
  | 106 => ⟨S8x2048x2048, .f32⟩
  | 107 => ⟨S_, .f32⟩
  | 108 => ⟨S8x2048x2048, .f32⟩
  | 109 => ⟨S8x2048x2048, .f32⟩
  | 110 => ⟨S2048x2048, .i32⟩
  | 111 => ⟨S2048x2048, .i32⟩
  | 112 => ⟨S2048x2048, .i32⟩
  | 113 => ⟨S3x2048x2048, .i32⟩
  | 114 => ⟨S_, .i32⟩
  | 115 => ⟨S3x2048x2048, .i32⟩
  | 116 => ⟨S3x2048x2048, .i1⟩
  | 117 => ⟨S_, .i32⟩
  | 118 => ⟨S3x2048x2048, .i32⟩
  | 119 => ⟨S_, .i32⟩
  | 120 => ⟨S3x2048x2048, .i32⟩
  | 121 => ⟨S3x2048x2048, .i1⟩
  | 122 => ⟨S_, .i32⟩
  | 123 => ⟨S3x2048x2048, .i32⟩
  | 124 => ⟨S_, .i32⟩
  | 125 => ⟨S3x2048x2048, .i32⟩
  | 126 => ⟨S3x2048x2048, .i32⟩
  | 127 => ⟨S3x2048x2048, .i32⟩
  | _ => ⟨S2048x6144, .bf16⟩

abbrev hbmTy0_2 (i : Nat) : BufTy := match i % 128 with
  | 0 => ⟨S_, .i32⟩
  | 1 => ⟨S3x2048x2048, .i32⟩
  | 2 => ⟨S3x2048x2048, .i1⟩
  | 3 => ⟨S_, .i32⟩
  | 4 => ⟨S3x2048x2048, .i32⟩
  | 5 => ⟨S_, .i32⟩
  | 6 => ⟨S3x2048x2048, .i32⟩
  | 7 => ⟨S3x2048x2048, .i1⟩
  | 8 => ⟨S_, .i32⟩
  | 9 => ⟨S3x2048x2048, .i32⟩
  | 10 => ⟨S_, .i32⟩
  | 11 => ⟨S3x2048x2048, .i32⟩
  | 12 => ⟨S3x2048x2048, .i32⟩
  | 13 => ⟨S3x2048x2048, .i32⟩
  | 14 => ⟨S_, .i32⟩
  | 15 => ⟨S2048x2048, .i32⟩
  | 16 => ⟨S2048x2048, .i1⟩
  | 17 => ⟨S1x2048x2048, .i1⟩
  | 18 => ⟨S1x2048x2048, .i32⟩
  | 19 => ⟨S3x2048x2048, .i32⟩
  | 20 => ⟨S3x2048x2048, .i1⟩
  | 21 => ⟨S3x2048x2048, .i1⟩
  | 22 => ⟨S3x2048x2048, .i1⟩
  | 23 => ⟨S1x2048x2048, .i32⟩
  | 24 => ⟨S3x2048x2048, .i32⟩
  | 25 => ⟨S3x2048x2048, .i32⟩
  | 26 => ⟨S_, .i32⟩
  | 27 => ⟨S3x2048x2048, .i32⟩
  | 28 => ⟨S3x2048x2048, .i1⟩
  | 29 => ⟨S3x2048x2048, .i1⟩
  | 30 => ⟨S3x1x2048x2048, .i1⟩
  | 31 => ⟨S3x8x2048x2048, .i1⟩
  | 32 => ⟨S8x2048x2048, .f32⟩
  | 33 => ⟨S3x8x2048x2048, .f32⟩
  | 34 => ⟨S_, .f32⟩
  | 35 => ⟨S3x8x2048x2048, .f32⟩
  | 36 => ⟨S3x8x2048x2048, .f32⟩
  | 37 => ⟨S_, .f32⟩
  | 38 => ⟨S3x8x2048, .f32⟩
  | 39 => ⟨S3x8x2048x1, .f32⟩
  | 40 => ⟨S3x8x2048x2048, .f32⟩
  | 41 => ⟨S3x8x2048x2048, .f32⟩
  | 42 => ⟨S3x8x2048x2048, .f32⟩
  | 43 => ⟨S_, .f32⟩
  | 44 => ⟨S3x8x2048, .f32⟩
  | 45 => ⟨S3x8x2048x1, .f32⟩
  | 46 => ⟨S3x8x2048x2048, .f32⟩
  | 47 => ⟨S3x8x2048x2048, .f32⟩
  | 48 => ⟨S3x8x2048x2048, .bf16⟩
  | 49 => ⟨S3x8x2048x2048, .f32⟩
  | 50 => ⟨S8x128x3x2048, .f32⟩
  | 51 => ⟨S3x2048x8x128, .f32⟩
  | 52 => ⟨S3x2048x8x128, .bf16⟩
  | 53 => ⟨S3x2048x8x128, .f32⟩
  | 54 => ⟨S3x8x2048x1, .f32⟩
  | 55 => ⟨S3x8x2048x1, .f32⟩
  | 56 => ⟨S3x8x2048, .f32⟩
  | 57 => ⟨S_, .f32⟩
  | 58 => ⟨S8x2048, .f32⟩
  | 59 => ⟨S1x8x2048, .f32⟩
  | 60 => ⟨S3x8x2048, .f32⟩
  | 61 => ⟨S3x8x2048, .f32⟩
  | 62 => ⟨S3x8x2048, .f32⟩
  | 63 => ⟨S_, .f32⟩
  | 64 => ⟨S8x2048, .f32⟩
  | 65 => ⟨S1x8x2048, .f32⟩
  | 66 => ⟨S3x8x2048, .f32⟩
  | 67 => ⟨S3x8x2048, .f32⟩
  | 68 => ⟨S3x2048x8, .f32⟩
  | 69 => ⟨S3x2048x8, .bf16⟩
  | 70 => ⟨S3x2048x8, .f32⟩
  | 71 => ⟨S3x2048x8x1, .f32⟩
  | 72 => ⟨S3x2048x8x128, .f32⟩
  | 73 => ⟨S3x2048x8x128, .f32⟩
  | 74 => ⟨S_, .f32⟩
  | 75 => ⟨S2048x8x128, .f32⟩
  | 76 => ⟨S2048x8x128, .bf16⟩
  | 77 => ⟨S2048x8x128, .f32⟩
  | 78 => ⟨S2048x16x128, .f32⟩
  | 79 => ⟨S2048x2048, .f32⟩
  | 80 => ⟨S8x2048, .f32⟩
  | 81 => ⟨S8x2048, .f32⟩
  | 82 => ⟨S16x2048, .f32⟩
  | 83 => ⟨S2048x16, .f32⟩
  | 84 => ⟨S_, .i32⟩
  | 85 => ⟨S_, .f32⟩
  | 86 => ⟨S2048x128, .f32⟩
  | 87 => ⟨S2048x2048, .bf16⟩
  | 88 => ⟨S2048x2048, .bf16⟩
  | 89 => ⟨S2048x2048, .bf16⟩
  | 90 => ⟨S2048x2048, .bf16⟩
  | 91 => ⟨S16x1x2048, .f32⟩
  | 92 => ⟨S9x8x256x256, .f32⟩
  | _ => ⟨S2048x6144, .bf16⟩

abbrev hbmTy (i : Nat) : BufTy := match i / 128 with
  | 0 => hbmTy0_0 i
  | 1 => hbmTy0_1 i
  | 2 => hbmTy0_2 i
  | _ => ⟨S2048x6144, .bf16⟩

abbrev bufTy : (tb : Table) → Fin (tcTables nBuf tb) → BufTy
  | .hbm, ⟨i, _⟩ => hbmTy i
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .f32⟩
  | .local _ .vmem, ⟨7, _⟩ => ⟨S128x2048, .f32⟩
  | .local _ .vmem, ⟨8, _⟩ => ⟨S1x8x256x256, .f32⟩
  | .local _ .vmem, ⟨9, _⟩ => ⟨S1x8x256x256, .f32⟩
  | .local _ .vmem, ⟨10, _⟩ => ⟨S2048x128, .f32⟩
  | .local _ .vmem, ⟨11, _⟩ => ⟨S2048x128, .bf16⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S2048x128, .bf16⟩
  | .local _ .vmem, ⟨17, _⟩ => ⟨S2048x128, .bf16⟩
  | .local _ .vmem, ⟨18, _⟩ => ⟨S2048x128, .bf16⟩
  | .local _ .vmem, ⟨19, _⟩ => ⟨S2048x128, .bf16⟩
  | .local _ .vmem, ⟨20, _⟩ => ⟨S2048x128, .bf16⟩
  | .local _ .vmem, ⟨21, _⟩ => ⟨S1x1x2048, .f32⟩
  | .local _ .vmem, ⟨22, _⟩ => ⟨S1x1x2048, .f32⟩
  | .local _ .vmem, ⟨23, _⟩ => ⟨S1x8x256x256, .f32⟩
  | .local _ .vmem, ⟨24, _⟩ => ⟨S1x8x256x256, .f32⟩
  | .local _ .vmem, ⟨25, _⟩ => ⟨S128x2048, .f32⟩
  | .local _ .vmem, ⟨26, _⟩ => ⟨S128x2048, .f32⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_c_3 : Ref sig .tc := ⟨.hbm, 21, rfl⟩
abbrev main_v13 : Ref sig .tc := ⟨.hbm, 22, rfl⟩
abbrev main_c_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_5 : Ref sig .tc := ⟨.hbm, 27, rfl⟩
abbrev main_v17 : Ref sig .tc := ⟨.hbm, 28, rfl⟩
abbrev main_v18 : Ref sig .tc := ⟨.hbm, 29, rfl⟩
abbrev main_c_6 : Ref sig .tc := ⟨.hbm, 30, rfl⟩
abbrev main_v19 : Ref sig .tc := ⟨.hbm, 31, rfl⟩
abbrev main_c_7 : Ref sig .tc := ⟨.hbm, 32, rfl⟩
abbrev main_v20 : Ref sig .tc := ⟨.hbm, 33, rfl⟩
abbrev main_v21 : Ref sig .tc := ⟨.hbm, 34, rfl⟩
abbrev main_c_8 : Ref sig .tc := ⟨.hbm, 35, rfl⟩
abbrev main_v22 : Ref sig .tc := ⟨.hbm, 36, rfl⟩
abbrev main_c_9 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_10 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_c_11 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst : Ref sig .tc := ⟨.hbm, 57, rfl⟩
abbrev main_cst_12 : Ref sig .tc := ⟨.hbm, 58, rfl⟩
abbrev main_call0_v0 : Ref sig .tc := ⟨.hbm, 59, rfl⟩
abbrev main_call0_v1 : Ref sig .tc := ⟨.hbm, 60, rfl⟩
abbrev main_v40 : Ref sig .tc := ⟨.hbm, 61, rfl⟩
abbrev main_v41 : Ref sig .tc := ⟨.hbm, 62, rfl⟩
abbrev main_cst_13 : Ref sig .tc := ⟨.hbm, 63, rfl⟩
abbrev main_v42 : Ref sig .tc := ⟨.hbm, 64, rfl⟩
abbrev main_c_14 : Ref sig .tc := ⟨.hbm, 65, rfl⟩
abbrev main_v43 : Ref sig .tc := ⟨.hbm, 66, rfl⟩
abbrev main_v44 : Ref sig .tc := ⟨.hbm, 67, rfl⟩
abbrev main_c_15 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_16 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_17 : Ref sig .tc := ⟨.hbm, 76, rfl⟩
abbrev main_v51 : Ref sig .tc := ⟨.hbm, 77, rfl⟩
abbrev main_v52 : Ref sig .tc := ⟨.hbm, 78, rfl⟩
abbrev main_cst_18 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_c_19 : Ref sig .tc := ⟨.hbm, 83, rfl⟩
abbrev main_v56 : Ref sig .tc := ⟨.hbm, 84, rfl⟩
abbrev main_v57 : Ref sig .tc := ⟨.hbm, 85, rfl⟩
abbrev main_c_20 : Ref sig .tc := ⟨.hbm, 86, rfl⟩
abbrev main_v58 : Ref sig .tc := ⟨.hbm, 87, rfl⟩
abbrev main_v59 : Ref sig .tc := ⟨.hbm, 88, rfl⟩
abbrev main_c_21 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_c_22 : Ref sig .tc := ⟨.hbm, 93, rfl⟩
abbrev main_v63 : Ref sig .tc := ⟨.hbm, 94, rfl⟩
abbrev main_v64 : Ref sig .tc := ⟨.hbm, 95, rfl⟩
abbrev main_c_23 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_c_24 : Ref sig .tc := ⟨.hbm, 103, rfl⟩
abbrev main_v71 : Ref sig .tc := ⟨.hbm, 104, rfl⟩
abbrev main_v72 : Ref sig .tc := ⟨.hbm, 105, rfl⟩
abbrev main_cst_25 : Ref sig .tc := ⟨.hbm, 106, rfl⟩
abbrev main_cst_26 : Ref sig .tc := ⟨.hbm, 107, rfl⟩
abbrev main_call2_v0 : Ref sig .tc := ⟨.hbm, 108, rfl⟩
abbrev main_call2_v1 : Ref sig .tc := ⟨.hbm, 109, rfl⟩
abbrev main_v73 : Ref sig .tc := ⟨.hbm, 110, rfl⟩
abbrev main_v74 : Ref sig .tc := ⟨.hbm, 111, rfl⟩
abbrev main_cst_27 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_cst_28 : Ref sig .tc := ⟨.hbm, 119, rfl⟩
abbrev main_call3_v0 : Ref sig .tc := ⟨.hbm, 120, rfl⟩
abbrev main_call3_v1 : Ref sig .tc := ⟨.hbm, 121, rfl⟩
abbrev main_call3_v2 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_c_29 : Ref sig .tc := ⟨.hbm, 126, rfl⟩
abbrev main_call4_v0 : Ref sig .tc := ⟨.hbm, 127, rfl⟩
abbrev main_v84 : Ref sig .tc := ⟨.hbm, 128, rfl⟩
abbrev main_v85 : Ref sig .tc := ⟨.hbm, 129, rfl⟩
abbrev main_c_30 : Ref sig .tc := ⟨.hbm, 130, rfl⟩
abbrev main_call5_v0 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_c_31 : Ref sig .tc := ⟨.hbm, 140, rfl⟩
abbrev main_v94 : Ref sig .tc := ⟨.hbm, 141, rfl⟩
abbrev main_v95 : Ref sig .tc := ⟨.hbm, 142, rfl⟩
abbrev main_c_32 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_cst_33 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_cst_34 : Ref sig .tc := ⟨.hbm, 151, rfl⟩
abbrev main_v102 : Ref sig .tc := ⟨.hbm, 152, rfl⟩
abbrev main_v103 : Ref sig .tc := ⟨.hbm, 153, rfl⟩
abbrev main_cst_35 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_c_36 : Ref sig .tc := ⟨.hbm, 158, rfl⟩
abbrev main_v107 : Ref sig .tc := ⟨.hbm, 159, rfl⟩
abbrev main_v108 : Ref sig .tc := ⟨.hbm, 160, rfl⟩
abbrev main_c_37 : Ref sig .tc := ⟨.hbm, 161, rfl⟩
abbrev main_v109 : Ref sig .tc := ⟨.hbm, 162, rfl⟩
abbrev main_v110 : Ref sig .tc := ⟨.hbm, 163, rfl⟩
abbrev main_c_38 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_c_39 : Ref sig .tc := ⟨.hbm, 168, rfl⟩
abbrev main_v114 : Ref sig .tc := ⟨.hbm, 169, rfl⟩
abbrev main_v115 : Ref sig .tc := ⟨.hbm, 170, rfl⟩
abbrev main_c_40 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_cst_41 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_c_42 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_cst_43 : Ref sig .tc := ⟨.hbm, 204, rfl⟩
abbrev main_call7_v0 : Ref sig .tc := ⟨.hbm, 205, rfl⟩
abbrev main_call7_v1 : Ref sig .tc := ⟨.hbm, 206, rfl⟩
abbrev main_call7_v2 : Ref sig .tc := ⟨.hbm, 207, rfl⟩
abbrev main_v146 : Ref sig .tc := ⟨.hbm, 208, rfl⟩
abbrev main_cst_44 : Ref sig .tc := ⟨.hbm, 209, rfl⟩
abbrev main_v147 : Ref sig .tc := ⟨.hbm, 210, rfl⟩
abbrev main_v148 : Ref sig .tc := ⟨.hbm, 211, rfl⟩
abbrev main_v149 : Ref sig .tc := ⟨.hbm, 212, rfl⟩
abbrev main_v150 : Ref sig .tc := ⟨.hbm, 213, rfl⟩
abbrev main_v151 : Ref sig .tc := ⟨.hbm, 214, rfl⟩
abbrev main_cst_45 : Ref sig .tc := ⟨.hbm, 215, rfl⟩
abbrev main_v152 : Ref sig .tc := ⟨.hbm, 216, rfl⟩
abbrev main_v153 : Ref sig .tc := ⟨.hbm, 217, rfl⟩
abbrev main_v154 : Ref sig .tc := ⟨.hbm, 218, rfl⟩
abbrev main_v155 : Ref sig .tc := ⟨.hbm, 219, rfl⟩
abbrev main_v156 : Ref sig .tc := ⟨.hbm, 220, rfl⟩
abbrev main_v157 : Ref sig .tc := ⟨.hbm, 221, rfl⟩
abbrev main_v158 : Ref sig .tc := ⟨.hbm, 222, rfl⟩
abbrev main_v159 : Ref sig .tc := ⟨.hbm, 223, rfl⟩
abbrev main_v160 : Ref sig .tc := ⟨.hbm, 224, rfl⟩
abbrev main_v161 : Ref sig .tc := ⟨.hbm, 225, rfl⟩
abbrev main_v162 : Ref sig .tc := ⟨.hbm, 226, rfl⟩
abbrev main_v163 : Ref sig .tc := ⟨.hbm, 227, rfl⟩
abbrev main_v164 : Ref sig .tc := ⟨.hbm, 228, rfl⟩
abbrev main_v165 : Ref sig .tc := ⟨.hbm, 229, rfl⟩
abbrev main_v166 : Ref sig .tc := ⟨.hbm, 230, rfl⟩
abbrev main_v167 : Ref sig .tc := ⟨.hbm, 231, rfl⟩
abbrev main_v168 : Ref sig .tc := ⟨.hbm, 232, rfl⟩
abbrev main_v169 : Ref sig .tc := ⟨.hbm, 233, rfl⟩
abbrev main_v170 : Ref sig .tc := ⟨.hbm, 234, rfl⟩
abbrev main_cst_46 : Ref sig .tc := ⟨.hbm, 235, rfl⟩
abbrev main_v171 : Ref sig .tc := ⟨.hbm, 236, rfl⟩
abbrev main_v172 : Ref sig .tc := ⟨.hbm, 237, rfl⟩
abbrev main_v173 : Ref sig .tc := ⟨.hbm, 238, rfl⟩
abbrev main_v174 : Ref sig .tc := ⟨.hbm, 239, rfl⟩
abbrev main_v175 : Ref sig .tc := ⟨.hbm, 240, rfl⟩
abbrev main_v176 : Ref sig .tc := ⟨.hbm, 241, rfl⟩
abbrev main_c_47 : Ref sig .tc := ⟨.hbm, 242, rfl⟩
abbrev main_v177 : Ref sig .tc := ⟨.hbm, 243, rfl⟩
abbrev main_v178 : Ref sig .tc := ⟨.hbm, 244, rfl⟩
abbrev main_c_48 : Ref sig .tc := ⟨.hbm, 245, rfl⟩
abbrev main_v179 : Ref sig .tc := ⟨.hbm, 246, rfl⟩
abbrev main_c_49 : Ref sig .tc := ⟨.hbm, 247, rfl⟩
abbrev main_v180 : Ref sig .tc := ⟨.hbm, 248, rfl⟩
abbrev main_v181 : Ref sig .tc := ⟨.hbm, 249, rfl⟩
abbrev main_c_50 : Ref sig .tc := ⟨.hbm, 250, rfl⟩
abbrev main_v182 : Ref sig .tc := ⟨.hbm, 251, rfl⟩
abbrev main_c_51 : Ref sig .tc := ⟨.hbm, 252, rfl⟩
abbrev main_v183 : Ref sig .tc := ⟨.hbm, 253, rfl⟩
abbrev main_v184 : Ref sig .tc := ⟨.hbm, 254, rfl⟩
abbrev main_v185 : Ref sig .tc := ⟨.hbm, 255, rfl⟩
abbrev main_c_52 : Ref sig .tc := ⟨.hbm, 256, rfl⟩
abbrev main_v186 : Ref sig .tc := ⟨.hbm, 257, rfl⟩
abbrev main_v187 : Ref sig .tc := ⟨.hbm, 258, rfl⟩
abbrev main_c_53 : Ref sig .tc := ⟨.hbm, 259, rfl⟩
abbrev main_v188 : Ref sig .tc := ⟨.hbm, 260, rfl⟩
abbrev main_c_54 : Ref sig .tc := ⟨.hbm, 261, rfl⟩
abbrev main_v189 : Ref sig .tc := ⟨.hbm, 262, rfl⟩
abbrev main_v190 : Ref sig .tc := ⟨.hbm, 263, rfl⟩
abbrev main_c_55 : Ref sig .tc := ⟨.hbm, 264, rfl⟩
abbrev main_v191 : Ref sig .tc := ⟨.hbm, 265, rfl⟩
abbrev main_c_56 : Ref sig .tc := ⟨.hbm, 266, rfl⟩
abbrev main_v192 : Ref sig .tc := ⟨.hbm, 267, rfl⟩
abbrev main_v193 : Ref sig .tc := ⟨.hbm, 268, rfl⟩
abbrev main_v194 : Ref sig .tc := ⟨.hbm, 269, rfl⟩
abbrev main_c_57 : Ref sig .tc := ⟨.hbm, 270, rfl⟩
abbrev main_v195 : Ref sig .tc := ⟨.hbm, 271, rfl⟩
abbrev main_v196 : Ref sig .tc := ⟨.hbm, 272, rfl⟩
abbrev main_v197 : Ref sig .tc := ⟨.hbm, 273, rfl⟩
abbrev main_v198 : Ref sig .tc := ⟨.hbm, 274, rfl⟩
abbrev main_v199 : Ref sig .tc := ⟨.hbm, 275, rfl⟩
abbrev main_v200 : Ref sig .tc := ⟨.hbm, 276, rfl⟩
abbrev main_v201 : Ref sig .tc := ⟨.hbm, 277, rfl⟩
abbrev main_v202 : Ref sig .tc := ⟨.hbm, 278, rfl⟩
abbrev main_v203 : Ref sig .tc := ⟨.hbm, 279, rfl⟩
abbrev main_v204 : Ref sig .tc := ⟨.hbm, 280, rfl⟩
abbrev main_v205 : Ref sig .tc := ⟨.hbm, 281, rfl⟩
abbrev main_c_58 : Ref sig .tc := ⟨.hbm, 282, rfl⟩
abbrev main_v206 : Ref sig .tc := ⟨.hbm, 283, rfl⟩
abbrev main_v207 : Ref sig .tc := ⟨.hbm, 284, rfl⟩
abbrev main_v208 : Ref sig .tc := ⟨.hbm, 285, rfl⟩
abbrev main_v209 : Ref sig .tc := ⟨.hbm, 286, rfl⟩
abbrev main_v210 : Ref sig .tc := ⟨.hbm, 287, rfl⟩
abbrev main_v211 : Ref sig .tc := ⟨.hbm, 288, rfl⟩
abbrev main_v212 : Ref sig .tc := ⟨.hbm, 289, rfl⟩
abbrev main_cst_59 : Ref sig .tc := ⟨.hbm, 290, rfl⟩
abbrev main_v213 : Ref sig .tc := ⟨.hbm, 291, rfl⟩
abbrev main_v214 : Ref sig .tc := ⟨.hbm, 292, rfl⟩
abbrev main_cst_60 : Ref sig .tc := ⟨.hbm, 293, rfl⟩
abbrev main_v215 : Ref sig .tc := ⟨.hbm, 294, rfl⟩
abbrev main_v216 : Ref sig .tc := ⟨.hbm, 295, rfl⟩
abbrev main_v217 : Ref sig .tc := ⟨.hbm, 296, rfl⟩
abbrev main_v218 : Ref sig .tc := ⟨.hbm, 297, rfl⟩
abbrev main_v219 : Ref sig .tc := ⟨.hbm, 298, rfl⟩
abbrev main_cst_61 : Ref sig .tc := ⟨.hbm, 299, rfl⟩
abbrev main_v220 : Ref sig .tc := ⟨.hbm, 300, rfl⟩
abbrev main_v221 : Ref sig .tc := ⟨.hbm, 301, rfl⟩
abbrev main_v222 : Ref sig .tc := ⟨.hbm, 302, rfl⟩
abbrev main_v223 : Ref sig .tc := ⟨.hbm, 303, rfl⟩
abbrev main_v224 : Ref sig .tc := ⟨.hbm, 304, rfl⟩
abbrev main_v225 : Ref sig .tc := ⟨.hbm, 305, rfl⟩
abbrev main_v226 : Ref sig .tc := ⟨.hbm, 306, rfl⟩
abbrev main_v227 : Ref sig .tc := ⟨.hbm, 307, rfl⟩
abbrev main_v228 : Ref sig .tc := ⟨.hbm, 308, rfl⟩
abbrev main_v229 : Ref sig .tc := ⟨.hbm, 309, rfl⟩
abbrev main_v230 : Ref sig .tc := ⟨.hbm, 310, rfl⟩
abbrev main_v231 : Ref sig .tc := ⟨.hbm, 311, rfl⟩
abbrev main_v232 : Ref sig .tc := ⟨.hbm, 312, rfl⟩
abbrev main_cst_62 : Ref sig .tc := ⟨.hbm, 313, rfl⟩
abbrev main_v233 : Ref sig .tc := ⟨.hbm, 314, rfl⟩
abbrev main_v234 : Ref sig .tc := ⟨.hbm, 315, rfl⟩
abbrev main_v235 : Ref sig .tc := ⟨.hbm, 316, rfl⟩
abbrev main_v236 : Ref sig .tc := ⟨.hbm, 317, rfl⟩
abbrev main_v237 : Ref sig .tc := ⟨.hbm, 318, rfl⟩
abbrev main_cst_63 : Ref sig .tc := ⟨.hbm, 319, rfl⟩
abbrev main_v238 : Ref sig .tc := ⟨.hbm, 320, rfl⟩
abbrev main_v239 : Ref sig .tc := ⟨.hbm, 321, rfl⟩
abbrev main_v240 : Ref sig .tc := ⟨.hbm, 322, rfl⟩
abbrev main_v241 : Ref sig .tc := ⟨.hbm, 323, rfl⟩
abbrev main_v242 : Ref sig .tc := ⟨.hbm, 324, rfl⟩
abbrev main_v243 : Ref sig .tc := ⟨.hbm, 325, rfl⟩
abbrev main_v244 : Ref sig .tc := ⟨.hbm, 326, rfl⟩
abbrev main_v245 : Ref sig .tc := ⟨.hbm, 327, rfl⟩
abbrev main_v246 : Ref sig .tc := ⟨.hbm, 328, rfl⟩
abbrev main_v247 : Ref sig .tc := ⟨.hbm, 329, rfl⟩
abbrev main_cst_64 : Ref sig .tc := ⟨.hbm, 330, rfl⟩
abbrev main_v248 : Ref sig .tc := ⟨.hbm, 331, rfl⟩
abbrev main_v249 : Ref sig .tc := ⟨.hbm, 332, rfl⟩
abbrev main_v250 : Ref sig .tc := ⟨.hbm, 333, rfl⟩
abbrev main_v251 : Ref sig .tc := ⟨.hbm, 334, rfl⟩
abbrev main_v252 : Ref sig .tc := ⟨.hbm, 335, rfl⟩
abbrev main_v253 : Ref sig .tc := ⟨.hbm, 336, rfl⟩
abbrev main_v254 : Ref sig .tc := ⟨.hbm, 337, rfl⟩
abbrev main_v255 : Ref sig .tc := ⟨.hbm, 338, rfl⟩
abbrev main_v256 : Ref sig .tc := ⟨.hbm, 339, rfl⟩
abbrev main_c_65 : Ref sig .tc := ⟨.hbm, 340, rfl⟩
abbrev main_call8_v0 : Ref sig .tc := ⟨.hbm, 341, rfl⟩
abbrev main_v257 : Ref sig .tc := ⟨.hbm, 342, rfl⟩
abbrev main_v258 : Ref sig .tc := ⟨.hbm, 343, rfl⟩
abbrev main_v259_0 : Ref sig .tc := ⟨.hbm, 344, rfl⟩
abbrev main_v259_1 : Ref sig .tc := ⟨.hbm, 345, rfl⟩
abbrev main_v259_2 : Ref sig .tc := ⟨.hbm, 346, rfl⟩
abbrev main_v259_3 : Ref sig .tc := ⟨.hbm, 347, rfl⟩
abbrev main_v259_4 : Ref sig .tc := ⟨.hbm, 348, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_scratch0 : Ref sig .tc := ⟨.vmem, 25, rfl⟩
abbrev cc0_scratch1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c8_i32 : BitVec 32 := 8#32
  let v17 : BitVec 1 := Scalar.cmpi .slt arg0 c8_i32
  let v18 : BitVec 32 := Scalar.extui v17
  let c0_i32 : BitVec 32 := 0#32
  let v19 : BitVec 1 := Scalar.cmpi .ne v18 c0_i32
  v19

def k0_off1 (i : grid0.Coords) : Fin 2 → Nat :=
  let arg0 : BitVec 32 := BitVec.ofNat 32 (i 0).val
  let v47 : Index := Scalar.indexCast arg0
  let c0_33 : Index := 0#32
  ![v47.toNat, 0]
def k0_off2 (i : grid0.Coords) : Fin 2 → Nat :=
  let arg0 : BitVec 32 := BitVec.ofNat 32 (i 0).val
  let v128 : Index := Scalar.indexCast arg0
  let c0_84 : Index := 0#32
  ![v128.toNat, 0]
def k0_off3 (i : grid0.Coords) : Fin 2 → Nat :=
  let arg0 : BitVec 32 := BitVec.ofNat 32 (i 0).val
  let v212 : Index := Scalar.indexCast arg0
  let c0_135 : Index := 0#32
  ![v212.toNat, 0]
def k0_off4 (i : grid0.Coords) : Fin 2 → Nat :=
  let arg0 : BitVec 32 := BitVec.ofNat 32 (i 0).val
  let v296 : Index := Scalar.indexCast arg0
  let c0_186 : Index := 0#32
  ![v296.toNat, 0]
def k0_off5 (i : grid0.Coords) : Fin 2 → Nat :=
  let arg0 : BitVec 32 := BitVec.ofNat 32 (i 0).val
  let v380 : Index := Scalar.indexCast arg0
  let c0_237 : Index := 0#32
  ![v380.toNat, 0]
def k0_off6 (i : grid0.Coords) : Fin 2 → Nat :=
  let arg0 : BitVec 32 := BitVec.ofNat 32 (i 0).val
  let v464 : Index := Scalar.indexCast arg0
  let c0_288 : Index := 0#32
  ![v464.toNat, 0]
def k0_off7 (i : grid0.Coords) : Fin 2 → Nat :=
  let arg0 : BitVec 32 := BitVec.ofNat 32 (i 0).val
  let v548 : Index := Scalar.indexCast arg0
  let c0_339 : Index := 0#32
  ![v548.toNat, 0]
def k0_off8 (i : grid0.Coords) : Fin 2 → Nat :=
  let arg0 : BitVec 32 := BitVec.ofNat 32 (i 0).val
  let v632 : Index := Scalar.indexCast arg0
  let c0_390 : Index := 0#32
  ![v632.toNat, 0]
def k0_cond2 (i : grid0.Coords) : BitVec 1 :=
  let arg0 : BitVec 32 := BitVec.ofNat 32 (i 0).val
  let c8_i32_13 : BitVec 32 := 8#32
  let v20 : BitVec 1 := Scalar.cmpi .sge arg0 c8_i32_13
  let v21 : BitVec 32 := Scalar.extui v20
  let c0_i32_14 : BitVec 32 := 0#32
  let v22 : BitVec 1 := Scalar.cmpi .ne v21 c0_i32_14
  v22

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c7_i32 : BitVec 32 := 7#32
  let v0 : BitVec 32 := Scalar.subi arg0 c7_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  let c0_i32_3 : BitVec 32 := 0#32
  ![v1.toNat, c0_i32_0.toNat, c0_i32_1.toNat, c0_i32_2.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 4 → Nat :=
  let arg0 : BitVec 32 := BitVec.ofNat 32 (i 0).val
  let c7_i32 : BitVec 32 := 7#32
  let v0 : BitVec 32 := Scalar.subi arg0 c7_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  let c0_i32_3 : BitVec 32 := 0#32
  ![v1.toNat, c0_i32_0.toNat, c0_i32_1.toNat, c0_i32_2.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x8x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2048x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x8x256x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceIdeal.lean ====
abbrev S2048x6144 : Shape := ⟨2, ![2048, 6144]⟩
abbrev S2048x8 : Shape := ⟨2, ![2048, 8]⟩
abbrev S32x8 : Shape := ⟨2, ![32, 8]⟩
abbrev S2048x2048 : Shape := ⟨2, ![2048, 2048]⟩
abbrev S_ : Shape := ⟨0, ![]⟩
abbrev S2048x2048x1 : Shape := ⟨3, ![2048, 2048, 1]⟩
abbrev S2048x2048x8 : Shape := ⟨3, ![2048, 2048, 8]⟩
abbrev S8x2048x2048 : Shape := ⟨3, ![8, 2048, 2048]⟩
abbrev S2048x16x128 : Shape := ⟨3, ![2048, 16, 128]⟩
abbrev S2048x8x128 : Shape := ⟨3, ![2048, 8, 128]⟩
abbrev S8x2048 : Shape := ⟨2, ![8, 2048]⟩
abbrev S8x2048x1 : Shape := ⟨3, ![8, 2048, 1]⟩
abbrev S8x1x2048 : Shape := ⟨3, ![8, 1, 2048]⟩
abbrev S8x128x2048 : Shape := ⟨3, ![8, 128, 2048]⟩
abbrev S3x2048x2048 : Shape := ⟨3, ![3, 2048, 2048]⟩
abbrev S1x2048x2048 : Shape := ⟨3, ![1, 2048, 2048]⟩
abbrev S3x1x2048x2048 : Shape := ⟨4, ![3, 1, 2048, 2048]⟩
abbrev S3x8x2048x2048 : Shape := ⟨4, ![3, 8, 2048, 2048]⟩
abbrev S3x8x2048 : Shape := ⟨3, ![3, 8, 2048]⟩
abbrev S3x8x2048x1 : Shape := ⟨4, ![3, 8, 2048, 1]⟩
abbrev S8x128x3x2048 : Shape := ⟨4, ![8, 128, 3, 2048]⟩
abbrev S3x2048x8x128 : Shape := ⟨4, ![3, 2048, 8, 128]⟩
abbrev S1x8x2048 : Shape := ⟨3, ![1, 8, 2048]⟩
abbrev S3x2048x8 : Shape := ⟨3, ![3, 2048, 8]⟩
abbrev S3x2048x8x1 : Shape := ⟨4, ![3, 2048, 8, 1]⟩
abbrev S16x2048 : Shape := ⟨2, ![16, 2048]⟩
abbrev S8x3x2048x2048 : Shape := ⟨4, ![8, 3, 2048, 2048]⟩
abbrev S8x2048x128 : Shape := ⟨3, ![8, 2048, 128]⟩
abbrev S16x1x2048 : Shape := ⟨3, ![16, 1, 2048]⟩
abbrev S8x8x8 : Shape := ⟨3, ![8, 8, 8]⟩
abbrev S8x8x256x8x256 : Shape := ⟨5, ![8, 8, 256, 8, 256]⟩
abbrev S8x8x256x256 : Shape := ⟨4, ![8, 8, 256, 256]⟩
abbrev S9x8x256x256 : Shape := ⟨4, ![9, 8, 256, 256]⟩

abbrev nBuf : Space → Nat
  | .hbm => 388
  | .vmem => 0
  | .smem => 0
  | _ => 0

abbrev hbmTy0_0 (i : Nat) : BufTy := match i % 128 with
  | 0 => ⟨S2048x6144, .bf16⟩
  | 1 => ⟨S2048x8, .f32⟩
  | 2 => ⟨S32x8, .f32⟩
  | 3 => ⟨S2048x2048, .bf16⟩
  | 4 => ⟨S2048x6144, .f32⟩
  | 5 => ⟨S2048x2048, .f32⟩
  | 6 => ⟨S2048x2048, .f32⟩
  | 7 => ⟨S2048x2048, .f32⟩
  | 8 => ⟨S2048x2048, .i32⟩
  | 9 => ⟨S2048x2048, .i32⟩
  | 10 => ⟨S2048x2048, .i32⟩
  | 11 => ⟨S_, .i32⟩
  | 12 => ⟨S2048x2048, .i32⟩
  | 13 => ⟨S2048x2048, .i32⟩
  | 14 => ⟨S_, .i32⟩
  | 15 => ⟨S2048x2048, .i32⟩
  | 16 => ⟨S2048x2048, .i32⟩
  | 17 => ⟨S2048x2048, .f32⟩
  | 18 => ⟨S_, .f32⟩
  | 19 => ⟨S2048x2048, .f32⟩
  | 20 => ⟨S2048x2048, .f32⟩
  | 21 => ⟨S2048x2048, .f32⟩
  | 22 => ⟨S_, .f32⟩
  | 23 => ⟨S2048x2048, .f32⟩
  | 24 => ⟨S2048x2048, .f32⟩
  | 25 => ⟨S_, .f32⟩
  | 26 => ⟨S2048x2048, .f32⟩
  | 27 => ⟨S2048x2048, .f32⟩
  | 28 => ⟨S2048x2048, .i32⟩
  | 29 => ⟨S_, .i32⟩
  | 30 => ⟨S2048x2048, .i32⟩
  | 31 => ⟨S2048x2048, .i32⟩
  | 32 => ⟨S_, .i32⟩
  | 33 => ⟨S2048x2048, .i32⟩
  | 34 => ⟨S2048x2048, .i32⟩
  | 35 => ⟨S_, .i32⟩
  | 36 => ⟨S2048x2048, .i32⟩
  | 37 => ⟨S2048x2048, .i1⟩
  | 38 => ⟨S2048x2048, .i32⟩
  | 39 => ⟨S_, .i32⟩
  | 40 => ⟨S2048x2048, .i32⟩
  | 41 => ⟨S2048x2048, .i1⟩
  | 42 => ⟨S_, .i32⟩
  | 43 => ⟨S2048x2048, .i32⟩
  | 44 => ⟨S2048x2048, .i32⟩
  | 45 => ⟨S2048x2048, .i32⟩
  | 46 => ⟨S2048x2048x1, .i32⟩
  | 47 => ⟨S2048x2048x8, .f32⟩
  | 48 => ⟨S8x2048x2048, .f32⟩
  | 49 => ⟨S2048x16x128, .f32⟩
  | 50 => ⟨S2048x16x128, .f32⟩
  | 51 => ⟨S2048x16x128, .f32⟩
  | 52 => ⟨S2048x8x128, .f32⟩
  | 53 => ⟨S2048x8x128, .f32⟩
  | 54 => ⟨S2048x8x128, .f32⟩
  | 55 => ⟨S8x2048x2048, .f32⟩
  | 56 => ⟨S8x2048x2048, .bf16⟩
  | 57 => ⟨S8x2048x2048, .f32⟩
  | 58 => ⟨S_, .f32⟩
  | 59 => ⟨S8x2048x2048, .f32⟩
  | 60 => ⟨S8x2048x2048, .f32⟩
  | 61 => ⟨S8x2048, .f32⟩
  | 62 => ⟨S8x2048x1, .f32⟩
  | 63 => ⟨S8x2048, .f32⟩
  | 64 => ⟨S8x1x2048, .f32⟩
  | 65 => ⟨S8x2048x2048, .f32⟩
  | 66 => ⟨S8x2048x2048, .f32⟩
  | 67 => ⟨S8x2048x2048, .f32⟩
  | 68 => ⟨S2048x2048, .i32⟩
  | 69 => ⟨S2048x2048, .i32⟩
  | 70 => ⟨S2048x2048, .i32⟩
  | 71 => ⟨S_, .i32⟩
  | 72 => ⟨S2048x2048, .i32⟩
  | 73 => ⟨S2048x2048, .i1⟩
  | 74 => ⟨S8x2048x2048, .f32⟩
  | 75 => ⟨S_, .f32⟩
  | 76 => ⟨S_, .f32⟩
  | 77 => ⟨S8x2048x2048, .i1⟩
  | 78 => ⟨S8x2048x2048, .f32⟩
  | 79 => ⟨S8x2048x2048, .f32⟩
  | 80 => ⟨S_, .f32⟩
  | 81 => ⟨S8x2048x2048, .f32⟩
  | 82 => ⟨S_, .f32⟩
  | 83 => ⟨S8x2048, .f32⟩
  | 84 => ⟨S8x2048x1, .f32⟩
  | 85 => ⟨S8x2048x2048, .f32⟩
  | 86 => ⟨S8x2048x2048, .f32⟩
  | 87 => ⟨S8x2048x2048, .f32⟩
  | 88 => ⟨S_, .f32⟩
  | 89 => ⟨S8x2048, .f32⟩
  | 90 => ⟨S8x2048x1, .f32⟩
  | 91 => ⟨S8x2048x2048, .f32⟩
  | 92 => ⟨S8x2048x2048, .f32⟩
  | 93 => ⟨S8x2048x1, .f32⟩
  | 94 => ⟨S_, .f32⟩
  | 95 => ⟨S8x2048x1, .f32⟩
  | 96 => ⟨S8x2048x1, .f32⟩
  | 97 => ⟨S8x2048x2048, .bf16⟩
  | 98 => ⟨S8x2048x2048, .f32⟩
  | 99 => ⟨S8x128x2048, .f32⟩
  | 100 => ⟨S2048x8x128, .f32⟩
  | 101 => ⟨S2048x8x128, .bf16⟩
  | 102 => ⟨S2048x8x128, .f32⟩
  | 103 => ⟨S8x2048x1, .f32⟩
  | 104 => ⟨S8x2048x1, .f32⟩
  | 105 => ⟨S8x2048, .f32⟩
  | 106 => ⟨S2048x8x128, .f32⟩
  | 107 => ⟨S2048x8x128, .f32⟩
  | 108 => ⟨S2048x8x128, .f32⟩
  | 109 => ⟨S8x2048x2048, .f32⟩
  | 110 => ⟨S8x2048x2048, .bf16⟩
  | 111 => ⟨S8x2048x2048, .f32⟩
  | 112 => ⟨S_, .f32⟩
  | 113 => ⟨S8x2048x2048, .f32⟩
  | 114 => ⟨S8x2048x2048, .f32⟩
  | 115 => ⟨S2048x2048, .i32⟩
  | 116 => ⟨S2048x2048, .i32⟩
  | 117 => ⟨S2048x2048, .i32⟩
  | 118 => ⟨S3x2048x2048, .i32⟩
  | 119 => ⟨S_, .i32⟩
  | 120 => ⟨S3x2048x2048, .i32⟩
  | 121 => ⟨S3x2048x2048, .i1⟩
  | 122 => ⟨S_, .i32⟩
  | 123 => ⟨S3x2048x2048, .i32⟩
  | 124 => ⟨S_, .i32⟩
  | 125 => ⟨S3x2048x2048, .i32⟩
  | 126 => ⟨S3x2048x2048, .i1⟩
  | 127 => ⟨S_, .i32⟩
  | _ => ⟨S2048x6144, .bf16⟩

abbrev hbmTy0_1 (i : Nat) : BufTy := match i % 128 with
  | 0 => ⟨S3x2048x2048, .i32⟩
  | 1 => ⟨S_, .i32⟩
  | 2 => ⟨S3x2048x2048, .i32⟩
  | 3 => ⟨S3x2048x2048, .i32⟩
  | 4 => ⟨S3x2048x2048, .i32⟩
  | 5 => ⟨S_, .i32⟩
  | 6 => ⟨S3x2048x2048, .i32⟩
  | 7 => ⟨S3x2048x2048, .i1⟩
  | 8 => ⟨S_, .i32⟩
  | 9 => ⟨S3x2048x2048, .i32⟩
  | 10 => ⟨S_, .i32⟩
  | 11 => ⟨S3x2048x2048, .i32⟩
  | 12 => ⟨S3x2048x2048, .i1⟩
  | 13 => ⟨S_, .i32⟩
  | 14 => ⟨S3x2048x2048, .i32⟩
  | 15 => ⟨S_, .i32⟩
  | 16 => ⟨S3x2048x2048, .i32⟩
  | 17 => ⟨S3x2048x2048, .i32⟩
  | 18 => ⟨S3x2048x2048, .i32⟩
  | 19 => ⟨S_, .i32⟩
  | 20 => ⟨S2048x2048, .i32⟩
  | 21 => ⟨S2048x2048, .i1⟩
  | 22 => ⟨S1x2048x2048, .i1⟩
  | 23 => ⟨S1x2048x2048, .i32⟩
  | 24 => ⟨S3x2048x2048, .i32⟩
  | 25 => ⟨S3x2048x2048, .i1⟩
  | 26 => ⟨S3x2048x2048, .i1⟩
  | 27 => ⟨S3x2048x2048, .i1⟩
  | 28 => ⟨S1x2048x2048, .i32⟩
  | 29 => ⟨S3x2048x2048, .i32⟩
  | 30 => ⟨S3x2048x2048, .i32⟩
  | 31 => ⟨S_, .i32⟩
  | 32 => ⟨S3x2048x2048, .i32⟩
  | 33 => ⟨S3x2048x2048, .i1⟩
  | 34 => ⟨S3x2048x2048, .i1⟩
  | 35 => ⟨S3x1x2048x2048, .i1⟩
  | 36 => ⟨S3x8x2048x2048, .i1⟩
  | 37 => ⟨S8x2048x2048, .f32⟩
  | 38 => ⟨S3x8x2048x2048, .f32⟩
  | 39 => ⟨S_, .f32⟩
  | 40 => ⟨S3x8x2048x2048, .f32⟩
  | 41 => ⟨S3x8x2048x2048, .f32⟩
  | 42 => ⟨S_, .f32⟩
  | 43 => ⟨S3x8x2048x2048, .f32⟩
  | 44 => ⟨S_, .f32⟩
  | 45 => ⟨S3x8x2048, .f32⟩
  | 46 => ⟨S3x8x2048x1, .f32⟩
  | 47 => ⟨S3x8x2048x2048, .f32⟩
  | 48 => ⟨S3x8x2048x2048, .f32⟩
  | 49 => ⟨S3x8x2048x2048, .f32⟩
  | 50 => ⟨S_, .f32⟩
  | 51 => ⟨S3x8x2048, .f32⟩
  | 52 => ⟨S3x8x2048x1, .f32⟩
  | 53 => ⟨S3x8x2048x2048, .f32⟩
  | 54 => ⟨S3x8x2048x2048, .f32⟩
  | 55 => ⟨S3x8x2048x1, .f32⟩
  | 56 => ⟨S_, .f32⟩
  | 57 => ⟨S3x8x2048x1, .f32⟩
  | 58 => ⟨S3x8x2048x1, .f32⟩
  | 59 => ⟨S3x8x2048x2048, .bf16⟩
  | 60 => ⟨S3x8x2048x2048, .f32⟩
  | 61 => ⟨S8x128x3x2048, .f32⟩
  | 62 => ⟨S3x2048x8x128, .f32⟩
  | 63 => ⟨S3x2048x8x128, .bf16⟩
  | 64 => ⟨S3x2048x8x128, .f32⟩
  | 65 => ⟨S3x8x2048x1, .f32⟩
  | 66 => ⟨S3x8x2048x1, .f32⟩
  | 67 => ⟨S3x8x2048, .f32⟩
  | 68 => ⟨S_, .f32⟩
  | 69 => ⟨S8x2048, .f32⟩
  | 70 => ⟨S1x8x2048, .f32⟩
  | 71 => ⟨S3x8x2048, .f32⟩
  | 72 => ⟨S3x8x2048, .f32⟩
  | 73 => ⟨S3x8x2048, .f32⟩
  | 74 => ⟨S_, .f32⟩
  | 75 => ⟨S8x2048, .f32⟩
  | 76 => ⟨S1x8x2048, .f32⟩
  | 77 => ⟨S3x8x2048, .f32⟩
  | 78 => ⟨S3x8x2048, .f32⟩
  | 79 => ⟨S1x8x2048, .f32⟩
  | 80 => ⟨S_, .f32⟩
  | 81 => ⟨S1x8x2048, .f32⟩
  | 82 => ⟨S1x8x2048, .f32⟩
  | 83 => ⟨S3x2048x8, .f32⟩
  | 84 => ⟨S3x2048x8, .bf16⟩
  | 85 => ⟨S3x2048x8, .f32⟩
  | 86 => ⟨S3x2048x8x1, .f32⟩
  | 87 => ⟨S3x2048x8x128, .f32⟩
  | 88 => ⟨S3x2048x8x128, .f32⟩
  | 89 => ⟨S_, .f32⟩
  | 90 => ⟨S2048x8x128, .f32⟩
  | 91 => ⟨S2048x8x128, .bf16⟩
  | 92 => ⟨S2048x8x128, .f32⟩
  | 93 => ⟨S2048x16x128, .f32⟩
  | 94 => ⟨S2048x2048, .f32⟩
  | 95 => ⟨S8x2048, .f32⟩
  | 96 => ⟨S8x2048, .f32⟩
  | 97 => ⟨S16x2048, .f32⟩
  | 98 => ⟨S2048x2048, .f32⟩
  | 99 => ⟨S2048x16x128, .f32⟩
  | 100 => ⟨S2048x8x128, .f32⟩
  | 101 => ⟨S2048x8x128, .f32⟩
  | 102 => ⟨S2048x8x128, .bf16⟩
  | 103 => ⟨S2048x8x128, .f32⟩
  | 104 => ⟨S3x2048x8x128, .f32⟩
  | 105 => ⟨S3x2048x8x128, .f32⟩
  | 106 => ⟨S3x2048x8x128, .f32⟩
  | 107 => ⟨S3x2048x8x128, .f32⟩
  | 108 => ⟨S_, .f32⟩
  | 109 => ⟨S3x2048x8, .f32⟩
  | 110 => ⟨S3x2048x8x1, .f32⟩
  | 111 => ⟨S_, .f32⟩
  | 112 => ⟨S3x2048x8, .f32⟩
  | 113 => ⟨S3x2048x8, .bf16⟩
  | 114 => ⟨S3x2048x8, .f32⟩
  | 115 => ⟨S3x8x2048, .f32⟩
  | 116 => ⟨S3x8x2048, .f32⟩
  | 117 => ⟨S3x8x2048, .f32⟩
  | 118 => ⟨S3x8x2048, .f32⟩
  | 119 => ⟨S_, .f32⟩
  | 120 => ⟨S8x2048, .f32⟩
  | 121 => ⟨S1x8x2048, .f32⟩
  | 122 => ⟨S1x8x2048, .f32⟩
  | 123 => ⟨S3x8x2048, .f32⟩
  | 124 => ⟨S3x8x2048, .f32⟩
  | 125 => ⟨S_, .f32⟩
  | 126 => ⟨S8x2048, .f32⟩
  | 127 => ⟨S3x8x2048, .f32⟩
  | _ => ⟨S2048x6144, .bf16⟩

abbrev hbmTy0_2 (i : Nat) : BufTy := match i % 128 with
  | 0 => ⟨S3x8x2048, .f32⟩
  | 1 => ⟨S3x8x2048, .f32⟩
  | 2 => ⟨S3x8x2048x1, .f32⟩
  | 3 => ⟨S3x8x2048x1, .f32⟩
  | 4 => ⟨S3x2048x8x128, .bf16⟩
  | 5 => ⟨S3x2048x8x128, .f32⟩
  | 6 => ⟨S8x128x3x2048, .f32⟩
  | 7 => ⟨S8x3x2048x2048, .f32⟩
  | 8 => ⟨S3x8x2048x2048, .f32⟩
  | 9 => ⟨S8x128x2048, .f32⟩
  | 10 => ⟨S2048x8x128, .f32⟩
  | 11 => ⟨S3x8x2048x2048, .bf16⟩
  | 12 => ⟨S3x8x2048x2048, .f32⟩
  | 13 => ⟨S3x8x2048x2048, .f32⟩
  | 14 => ⟨S3x8x2048x2048, .f32⟩
  | 15 => ⟨S3x8x2048x2048, .f32⟩
  | 16 => ⟨S_, .f32⟩
  | 17 => ⟨S3x8x2048, .f32⟩
  | 18 => ⟨S3x8x2048x1, .f32⟩
  | 19 => ⟨S3x8x2048x1, .f32⟩
  | 20 => ⟨S3x8x2048x1, .f32⟩
  | 21 => ⟨S3x8x2048x2048, .f32⟩
  | 22 => ⟨S3x8x2048x2048, .f32⟩
  | 23 => ⟨S_, .f32⟩
  | 24 => ⟨S3x8x2048, .f32⟩
  | 25 => ⟨S3x8x2048x2048, .f32⟩
  | 26 => ⟨S3x8x2048x2048, .f32⟩
  | 27 => ⟨S3x8x2048x2048, .f32⟩
  | 28 => ⟨S_, .f32⟩
  | 29 => ⟨S3x8x2048x2048, .f32⟩
  | 30 => ⟨S3x8x2048x2048, .f32⟩
  | 31 => ⟨S_, .f32⟩
  | 32 => ⟨S8x2048x2048, .f32⟩
  | 33 => ⟨S_, .f32⟩
  | 34 => ⟨S8x2048x2048, .f32⟩
  | 35 => ⟨S8x2048x2048, .f32⟩
  | 36 => ⟨S8x2048x2048, .bf16⟩
  | 37 => ⟨S8x2048x2048, .f32⟩
  | 38 => ⟨S8x2048x128, .f32⟩
  | 39 => ⟨S2048x8x128, .f32⟩
  | 40 => ⟨S8x2048x128, .f32⟩
  | 41 => ⟨S2048x8x128, .f32⟩
  | 42 => ⟨S_, .f32⟩
  | 43 => ⟨S2048x16x128, .f32⟩
  | 44 => ⟨S_, .f32⟩
  | 45 => ⟨S2048x16x128, .f32⟩
  | 46 => ⟨S_, .f32⟩
  | 47 => ⟨S2048x16x128, .f32⟩
  | 48 => ⟨S2048x8x128, .bf16⟩
  | 49 => ⟨S2048x8x128, .f32⟩
  | 50 => ⟨S8x128x2048, .f32⟩
  | 51 => ⟨S8x2048x2048, .f32⟩
  | 52 => ⟨S8x128x2048, .f32⟩
  | 53 => ⟨S2048x8x128, .f32⟩
  | 54 => ⟨S8x2048x2048, .bf16⟩
  | 55 => ⟨S8x2048x2048, .f32⟩
  | 56 => ⟨S8x2048x2048, .f32⟩
  | 57 => ⟨S8x2048x2048, .f32⟩
  | 58 => ⟨S8x2048x2048, .f32⟩
  | 59 => ⟨S_, .f32⟩
  | 60 => ⟨S8x2048, .f32⟩
  | 61 => ⟨S8x2048x1, .f32⟩
  | 62 => ⟨S8x2048x1, .f32⟩
  | 63 => ⟨S8x2048x2048, .f32⟩
  | 64 => ⟨S8x2048x2048, .f32⟩
  | 65 => ⟨S_, .f32⟩
  | 66 => ⟨S8x2048, .f32⟩
  | 67 => ⟨S8x2048x2048, .f32⟩
  | 68 => ⟨S8x2048x2048, .f32⟩
  | 69 => ⟨S8x2048x2048, .f32⟩
  | 70 => ⟨S_, .f32⟩
  | 71 => ⟨S8x2048x2048, .f32⟩
  | 72 => ⟨S8x2048x2048, .f32⟩
  | 73 => ⟨S_, .f32⟩
  | 74 => ⟨S8x2048, .f32⟩
  | 75 => ⟨S8x2048x1, .f32⟩
  | 76 => ⟨S8x2048x2048, .f32⟩
  | 77 => ⟨S_, .f32⟩
  | 78 => ⟨S8x2048, .f32⟩
  | 79 => ⟨S8x1x2048, .f32⟩
  | 80 => ⟨S_, .f32⟩
  | 81 => ⟨S8x2048, .f32⟩
  | 82 => ⟨S2048x8, .f32⟩
  | 83 => ⟨S_, .f32⟩
  | 84 => ⟨S8x2048, .f32⟩
  | 85 => ⟨S2048x8, .f32⟩
  | 86 => ⟨S2048x8, .f32⟩
  | 87 => ⟨S_, .f32⟩
  | 88 => ⟨S8x2048x2048, .f32⟩
  | 89 => ⟨S8x2048x2048, .f32⟩
  | 90 => ⟨S8x2048x2048, .bf16⟩
  | 91 => ⟨S8x2048x2048, .f32⟩
  | 92 => ⟨S8x2048x128, .f32⟩
  | 93 => ⟨S2048x8x128, .f32⟩
  | 94 => ⟨S8x2048x128, .f32⟩
  | 95 => ⟨S2048x8x128, .f32⟩
  | 96 => ⟨S_, .f32⟩
  | 97 => ⟨S2048x16x128, .f32⟩
  | 98 => ⟨S2048x16x128, .f32⟩
  | 99 => ⟨S_, .f32⟩
  | 100 => ⟨S2048x16x128, .f32⟩
  | 101 => ⟨S2048x16x128, .f32⟩
  | 102 => ⟨S_, .f32⟩
  | 103 => ⟨S2048x16x128, .f32⟩
  | 104 => ⟨S2048x16x128, .f32⟩
  | 105 => ⟨S2048x2048, .f32⟩
  | 106 => ⟨S2048x2048, .f32⟩
  | 107 => ⟨S2048x2048, .f32⟩
  | 108 => ⟨S8x2048, .f32⟩
  | 109 => ⟨S_, .i32⟩
  | 110 => ⟨S_, .f32⟩
  | 111 => ⟨S16x2048, .f32⟩
  | 112 => ⟨S16x1x2048, .f32⟩
  | 113 => ⟨S8x8x8, .i32⟩
  | 114 => ⟨S8x8x8, .i32⟩
  | 115 => ⟨S8x8x8, .i32⟩
  | 116 => ⟨S8x8x8, .i32⟩
  | 117 => ⟨S8x8x8, .i1⟩
  | 118 => ⟨S8x8x256x8x256, .f32⟩
  | 119 => ⟨S_, .f32⟩
  | 120 => ⟨S_, .f32⟩
  | 121 => ⟨S8x8x8, .f32⟩
  | 122 => ⟨S8x8x8, .f32⟩
  | 123 => ⟨S8x8x8, .f32⟩
  | 124 => ⟨S8x8x256x256, .f32⟩
  | 125 => ⟨S8x8x256x256, .f32⟩
  | 126 => ⟨S_, .i32⟩
  | 127 => ⟨S_, .f32⟩
  | _ => ⟨S2048x6144, .bf16⟩

abbrev hbmTy0_3 (i : Nat) : BufTy := match i % 128 with
  | 0 => ⟨S9x8x256x256, .f32⟩
  | 1 => ⟨S2048x2048, .bf16⟩
  | 2 => ⟨S2048x2048, .bf16⟩
  | 3 => ⟨S2048x2048, .bf16⟩
  | _ => ⟨S2048x6144, .bf16⟩

abbrev hbmTy (i : Nat) : BufTy := match i / 128 with
  | 0 => hbmTy0_0 i
  | 1 => hbmTy0_1 i
  | 2 => hbmTy0_2 i
  | 3 => hbmTy0_3 i
  | _ => ⟨S2048x6144, .bf16⟩

abbrev bufTy : (tb : Table) → Fin (tcTables nBuf tb) → BufTy
  | .hbm, ⟨i, _⟩ => hbmTy i
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_3 : Ref sig .tc := ⟨.hbm, 29, rfl⟩
abbrev main_v20 : Ref sig .tc := ⟨.hbm, 30, rfl⟩
abbrev main_v21 : Ref sig .tc := ⟨.hbm, 31, rfl⟩
abbrev main_c_4 : Ref sig .tc := ⟨.hbm, 32, rfl⟩
abbrev main_v22 : Ref sig .tc := ⟨.hbm, 33, rfl⟩
abbrev main_v23 : Ref sig .tc := ⟨.hbm, 34, rfl⟩
abbrev main_c_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_6 : Ref sig .tc := ⟨.hbm, 39, rfl⟩
abbrev main_v27 : Ref sig .tc := ⟨.hbm, 40, rfl⟩
abbrev main_v28 : Ref sig .tc := ⟨.hbm, 41, rfl⟩
abbrev main_c_7 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_8 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_c_9 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_10 : Ref sig .tc := ⟨.hbm, 75, rfl⟩
abbrev main_call1_v0 : Ref sig .tc := ⟨.hbm, 76, rfl⟩
abbrev main_v59_1 : Ref sig .tc := ⟨.hbm, 77, rfl⟩
abbrev main_call1_v2 : Ref sig .tc := ⟨.hbm, 78, rfl⟩
abbrev main_v59_0 : Ref sig .tc := ⟨.hbm, 79, rfl⟩
abbrev main_call1_cst : Ref sig .tc := ⟨.hbm, 80, rfl⟩
abbrev main_v59_2 : Ref sig .tc := ⟨.hbm, 81, rfl⟩
abbrev main_cst_11 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_12 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_13 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_cst_14 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_c_15 : Ref sig .tc := ⟨.hbm, 119, rfl⟩
abbrev main_v93 : Ref sig .tc := ⟨.hbm, 120, rfl⟩
abbrev main_v94 : Ref sig .tc := ⟨.hbm, 121, rfl⟩
abbrev main_c_16 : Ref sig .tc := ⟨.hbm, 122, rfl⟩
abbrev main_v95 : Ref sig .tc := ⟨.hbm, 123, rfl⟩
abbrev main_c_17 : Ref sig .tc := ⟨.hbm, 124, rfl⟩
abbrev main_v96 : Ref sig .tc := ⟨.hbm, 125, rfl⟩
abbrev main_v97 : Ref sig .tc := ⟨.hbm, 126, rfl⟩
abbrev main_c_18 : Ref sig .tc := ⟨.hbm, 127, rfl⟩
abbrev main_v98 : Ref sig .tc := ⟨.hbm, 128, rfl⟩
abbrev main_c_19 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_c_20 : Ref sig .tc := ⟨.hbm, 133, rfl⟩
abbrev main_v102 : Ref sig .tc := ⟨.hbm, 134, rfl⟩
abbrev main_v103 : Ref sig .tc := ⟨.hbm, 135, rfl⟩
abbrev main_c_21 : Ref sig .tc := ⟨.hbm, 136, rfl⟩
abbrev main_v104 : Ref sig .tc := ⟨.hbm, 137, rfl⟩
abbrev main_c_22 : Ref sig .tc := ⟨.hbm, 138, rfl⟩
abbrev main_v105 : Ref sig .tc := ⟨.hbm, 139, rfl⟩
abbrev main_v106 : Ref sig .tc := ⟨.hbm, 140, rfl⟩
abbrev main_c_23 : Ref sig .tc := ⟨.hbm, 141, rfl⟩
abbrev main_v107 : Ref sig .tc := ⟨.hbm, 142, rfl⟩
abbrev main_c_24 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_c_25 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_c_26 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_cst_27 : Ref sig .tc := ⟨.hbm, 167, rfl⟩
abbrev main_v129 : Ref sig .tc := ⟨.hbm, 168, rfl⟩
abbrev main_v130 : Ref sig .tc := ⟨.hbm, 169, rfl⟩
abbrev main_cst_28 : Ref sig .tc := ⟨.hbm, 170, rfl⟩
abbrev main_v131 : Ref sig .tc := ⟨.hbm, 171, rfl⟩
abbrev main_cst_29 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_cst_30 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_cst_31 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_cst_32 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_cst_33 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_cst_34 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_cst_35 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩
abbrev main_v177 : Ref sig .tc := ⟨.hbm, 224, rfl⟩
abbrev main_v178 : Ref sig .tc := ⟨.hbm, 225, rfl⟩
abbrev main_v179 : Ref sig .tc := ⟨.hbm, 226, rfl⟩
abbrev main_v180 : Ref sig .tc := ⟨.hbm, 227, rfl⟩
abbrev main_v181 : Ref sig .tc := ⟨.hbm, 228, rfl⟩
abbrev main_v182 : Ref sig .tc := ⟨.hbm, 229, rfl⟩
abbrev main_v183 : Ref sig .tc := ⟨.hbm, 230, rfl⟩
abbrev main_v184 : Ref sig .tc := ⟨.hbm, 231, rfl⟩
abbrev main_v185 : Ref sig .tc := ⟨.hbm, 232, rfl⟩
abbrev main_v186 : Ref sig .tc := ⟨.hbm, 233, rfl⟩
abbrev main_v187 : Ref sig .tc := ⟨.hbm, 234, rfl⟩
abbrev main_v188 : Ref sig .tc := ⟨.hbm, 235, rfl⟩
abbrev main_cst_36 : Ref sig .tc := ⟨.hbm, 236, rfl⟩
abbrev main_v189 : Ref sig .tc := ⟨.hbm, 237, rfl⟩
abbrev main_v190 : Ref sig .tc := ⟨.hbm, 238, rfl⟩
abbrev main_cst_37 : Ref sig .tc := ⟨.hbm, 239, rfl⟩
abbrev main_v191 : Ref sig .tc := ⟨.hbm, 240, rfl⟩
abbrev main_v192 : Ref sig .tc := ⟨.hbm, 241, rfl⟩
abbrev main_v193 : Ref sig .tc := ⟨.hbm, 242, rfl⟩
abbrev main_v194 : Ref sig .tc := ⟨.hbm, 243, rfl⟩
abbrev main_v195 : Ref sig .tc := ⟨.hbm, 244, rfl⟩
abbrev main_v196 : Ref sig .tc := ⟨.hbm, 245, rfl⟩
abbrev main_v197 : Ref sig .tc := ⟨.hbm, 246, rfl⟩
abbrev main_cst_38 : Ref sig .tc := ⟨.hbm, 247, rfl⟩
abbrev main_v198 : Ref sig .tc := ⟨.hbm, 248, rfl⟩
abbrev main_v199 : Ref sig .tc := ⟨.hbm, 249, rfl⟩
abbrev main_v200 : Ref sig .tc := ⟨.hbm, 250, rfl⟩
abbrev main_v201 : Ref sig .tc := ⟨.hbm, 251, rfl⟩
abbrev main_v202 : Ref sig .tc := ⟨.hbm, 252, rfl⟩
abbrev main_cst_39 : Ref sig .tc := ⟨.hbm, 253, rfl⟩
abbrev main_v203 : Ref sig .tc := ⟨.hbm, 254, rfl⟩
abbrev main_v204 : Ref sig .tc := ⟨.hbm, 255, rfl⟩
abbrev main_v205 : Ref sig .tc := ⟨.hbm, 256, rfl⟩
abbrev main_v206 : Ref sig .tc := ⟨.hbm, 257, rfl⟩
abbrev main_v207 : Ref sig .tc := ⟨.hbm, 258, rfl⟩
abbrev main_v208 : Ref sig .tc := ⟨.hbm, 259, rfl⟩
abbrev main_v209 : Ref sig .tc := ⟨.hbm, 260, rfl⟩
abbrev main_v210 : Ref sig .tc := ⟨.hbm, 261, rfl⟩
abbrev main_v211 : Ref sig .tc := ⟨.hbm, 262, rfl⟩
abbrev main_v212 : Ref sig .tc := ⟨.hbm, 263, rfl⟩
abbrev main_v213 : Ref sig .tc := ⟨.hbm, 264, rfl⟩
abbrev main_v214 : Ref sig .tc := ⟨.hbm, 265, rfl⟩
abbrev main_v215 : Ref sig .tc := ⟨.hbm, 266, rfl⟩
abbrev main_v216 : Ref sig .tc := ⟨.hbm, 267, rfl⟩
abbrev main_v217 : Ref sig .tc := ⟨.hbm, 268, rfl⟩
abbrev main_v218 : Ref sig .tc := ⟨.hbm, 269, rfl⟩
abbrev main_v219 : Ref sig .tc := ⟨.hbm, 270, rfl⟩
abbrev main_v220 : Ref sig .tc := ⟨.hbm, 271, rfl⟩
abbrev main_cst_40 : Ref sig .tc := ⟨.hbm, 272, rfl⟩
abbrev main_v221 : Ref sig .tc := ⟨.hbm, 273, rfl⟩
abbrev main_v222 : Ref sig .tc := ⟨.hbm, 274, rfl⟩
abbrev main_v223 : Ref sig .tc := ⟨.hbm, 275, rfl⟩
abbrev main_v224 : Ref sig .tc := ⟨.hbm, 276, rfl⟩
abbrev main_v225 : Ref sig .tc := ⟨.hbm, 277, rfl⟩
abbrev main_v226 : Ref sig .tc := ⟨.hbm, 278, rfl⟩
abbrev main_cst_41 : Ref sig .tc := ⟨.hbm, 279, rfl⟩
abbrev main_v227 : Ref sig .tc := ⟨.hbm, 280, rfl⟩
abbrev main_v228 : Ref sig .tc := ⟨.hbm, 281, rfl⟩
abbrev main_v229 : Ref sig .tc := ⟨.hbm, 282, rfl⟩
abbrev main_v230 : Ref sig .tc := ⟨.hbm, 283, rfl⟩
abbrev main_cst_42 : Ref sig .tc := ⟨.hbm, 284, rfl⟩
abbrev main_v231 : Ref sig .tc := ⟨.hbm, 285, rfl⟩
abbrev main_v232 : Ref sig .tc := ⟨.hbm, 286, rfl⟩
abbrev main_cst_43 : Ref sig .tc := ⟨.hbm, 287, rfl⟩
abbrev main_v233 : Ref sig .tc := ⟨.hbm, 288, rfl⟩
abbrev main_cst_44 : Ref sig .tc := ⟨.hbm, 289, rfl⟩
abbrev main_v234 : Ref sig .tc := ⟨.hbm, 290, rfl⟩
abbrev main_v235 : Ref sig .tc := ⟨.hbm, 291, rfl⟩
abbrev main_v236 : Ref sig .tc := ⟨.hbm, 292, rfl⟩
abbrev main_v237 : Ref sig .tc := ⟨.hbm, 293, rfl⟩
abbrev main_v238 : Ref sig .tc := ⟨.hbm, 294, rfl⟩
abbrev main_v239 : Ref sig .tc := ⟨.hbm, 295, rfl⟩
abbrev main_v240 : Ref sig .tc := ⟨.hbm, 296, rfl⟩
abbrev main_v241 : Ref sig .tc := ⟨.hbm, 297, rfl⟩
abbrev main_cst_45 : Ref sig .tc := ⟨.hbm, 298, rfl⟩
abbrev main_v242 : Ref sig .tc := ⟨.hbm, 299, rfl⟩
abbrev main_cst_46 : Ref sig .tc := ⟨.hbm, 300, rfl⟩
abbrev main_v243 : Ref sig .tc := ⟨.hbm, 301, rfl⟩
abbrev main_cst_47 : Ref sig .tc := ⟨.hbm, 302, rfl⟩
abbrev main_v244 : Ref sig .tc := ⟨.hbm, 303, rfl⟩
abbrev main_v245 : Ref sig .tc := ⟨.hbm, 304, rfl⟩
abbrev main_v246 : Ref sig .tc := ⟨.hbm, 305, rfl⟩
abbrev main_v247 : Ref sig .tc := ⟨.hbm, 306, rfl⟩
abbrev main_v248 : Ref sig .tc := ⟨.hbm, 307, rfl⟩
abbrev main_v249 : Ref sig .tc := ⟨.hbm, 308, rfl⟩
abbrev main_v250 : Ref sig .tc := ⟨.hbm, 309, rfl⟩
abbrev main_v251 : Ref sig .tc := ⟨.hbm, 310, rfl⟩
abbrev main_v252 : Ref sig .tc := ⟨.hbm, 311, rfl⟩
abbrev main_v253 : Ref sig .tc := ⟨.hbm, 312, rfl⟩
abbrev main_v254 : Ref sig .tc := ⟨.hbm, 313, rfl⟩
abbrev main_v255 : Ref sig .tc := ⟨.hbm, 314, rfl⟩
abbrev main_cst_48 : Ref sig .tc := ⟨.hbm, 315, rfl⟩
abbrev main_v256 : Ref sig .tc := ⟨.hbm, 316, rfl⟩
abbrev main_v257 : Ref sig .tc := ⟨.hbm, 317, rfl⟩
abbrev main_v258 : Ref sig .tc := ⟨.hbm, 318, rfl⟩
abbrev main_v259 : Ref sig .tc := ⟨.hbm, 319, rfl⟩
abbrev main_v260 : Ref sig .tc := ⟨.hbm, 320, rfl⟩
abbrev main_cst_49 : Ref sig .tc := ⟨.hbm, 321, rfl⟩
abbrev main_v261 : Ref sig .tc := ⟨.hbm, 322, rfl⟩
abbrev main_v262 : Ref sig .tc := ⟨.hbm, 323, rfl⟩
abbrev main_v263 : Ref sig .tc := ⟨.hbm, 324, rfl⟩
abbrev main_v264 : Ref sig .tc := ⟨.hbm, 325, rfl⟩
abbrev main_call2_cst : Ref sig .tc := ⟨.hbm, 326, rfl⟩
abbrev main_call2_v0 : Ref sig .tc := ⟨.hbm, 327, rfl⟩
abbrev main_v265 : Ref sig .tc := ⟨.hbm, 328, rfl⟩
abbrev main_cst_50 : Ref sig .tc := ⟨.hbm, 329, rfl⟩
abbrev main_v266 : Ref sig .tc := ⟨.hbm, 330, rfl⟩
abbrev main_v267 : Ref sig .tc := ⟨.hbm, 331, rfl⟩
abbrev main_v268 : Ref sig .tc := ⟨.hbm, 332, rfl⟩
abbrev main_cst_51 : Ref sig .tc := ⟨.hbm, 333, rfl⟩
abbrev main_v269 : Ref sig .tc := ⟨.hbm, 334, rfl⟩
abbrev main_v270 : Ref sig .tc := ⟨.hbm, 335, rfl⟩
abbrev main_cst_52 : Ref sig .tc := ⟨.hbm, 336, rfl⟩
abbrev main_v271 : Ref sig .tc := ⟨.hbm, 337, rfl⟩
abbrev main_v272 : Ref sig .tc := ⟨.hbm, 338, rfl⟩
abbrev main_cst_53 : Ref sig .tc := ⟨.hbm, 339, rfl⟩
abbrev main_v273 : Ref sig .tc := ⟨.hbm, 340, rfl⟩
abbrev main_v274 : Ref sig .tc := ⟨.hbm, 341, rfl⟩
abbrev main_v275 : Ref sig .tc := ⟨.hbm, 342, rfl⟩
abbrev main_cst_54 : Ref sig .tc := ⟨.hbm, 343, rfl⟩
abbrev main_v276 : Ref sig .tc := ⟨.hbm, 344, rfl⟩
abbrev main_v277 : Ref sig .tc := ⟨.hbm, 345, rfl⟩
abbrev main_v278 : Ref sig .tc := ⟨.hbm, 346, rfl⟩
abbrev main_v279 : Ref sig .tc := ⟨.hbm, 347, rfl⟩
abbrev main_v280 : Ref sig .tc := ⟨.hbm, 348, rfl⟩
abbrev main_v281 : Ref sig .tc := ⟨.hbm, 349, rfl⟩
abbrev main_v282 : Ref sig .tc := ⟨.hbm, 350, rfl⟩
abbrev main_v283 : Ref sig .tc := ⟨.hbm, 351, rfl⟩
abbrev main_cst_55 : Ref sig .tc := ⟨.hbm, 352, rfl⟩
abbrev main_v284 : Ref sig .tc := ⟨.hbm, 353, rfl⟩
abbrev main_v285 : Ref sig .tc := ⟨.hbm, 354, rfl⟩
abbrev main_cst_56 : Ref sig .tc := ⟨.hbm, 355, rfl⟩
abbrev main_v286 : Ref sig .tc := ⟨.hbm, 356, rfl⟩
abbrev main_v287 : Ref sig .tc := ⟨.hbm, 357, rfl⟩
abbrev main_cst_57 : Ref sig .tc := ⟨.hbm, 358, rfl⟩
abbrev main_v288 : Ref sig .tc := ⟨.hbm, 359, rfl⟩
abbrev main_v289 : Ref sig .tc := ⟨.hbm, 360, rfl⟩
abbrev main_v290 : Ref sig .tc := ⟨.hbm, 361, rfl⟩
abbrev main_v291 : Ref sig .tc := ⟨.hbm, 362, rfl⟩
abbrev main_v292 : Ref sig .tc := ⟨.hbm, 363, rfl⟩
abbrev main_v293 : Ref sig .tc := ⟨.hbm, 364, rfl⟩
abbrev main_c_58 : Ref sig .tc := ⟨.hbm, 365, rfl⟩
abbrev main_call3_v0 : Ref sig .tc := ⟨.hbm, 366, rfl⟩
abbrev main_v294 : Ref sig .tc := ⟨.hbm, 367, rfl⟩
abbrev main_v295 : Ref sig .tc := ⟨.hbm, 368, rfl⟩
abbrev main_v296 : Ref sig .tc := ⟨.hbm, 369, rfl⟩
abbrev main_v297 : Ref sig .tc := ⟨.hbm, 370, rfl⟩
abbrev main_v298 : Ref sig .tc := ⟨.hbm, 371, rfl⟩
abbrev main_v299 : Ref sig .tc := ⟨.hbm, 372, rfl⟩
abbrev main_v300 : Ref sig .tc := ⟨.hbm, 373, rfl⟩
abbrev main_v301 : Ref sig .tc := ⟨.hbm, 374, rfl⟩
abbrev main_cst_59 : Ref sig .tc := ⟨.hbm, 375, rfl⟩
abbrev main_cst_60 : Ref sig .tc := ⟨.hbm, 376, rfl⟩
abbrev main_call4_v0 : Ref sig .tc := ⟨.hbm, 377, rfl⟩
abbrev main_call4_v1 : Ref sig .tc := ⟨.hbm, 378, rfl⟩
abbrev main_v302 : Ref sig .tc := ⟨.hbm, 379, rfl⟩
abbrev main_v303 : Ref sig .tc := ⟨.hbm, 380, rfl⟩
abbrev main_v304 : Ref sig .tc := ⟨.hbm, 381, rfl⟩
abbrev main_c_61 : Ref sig .tc := ⟨.hbm, 382, rfl⟩
abbrev main_call5_v0 : Ref sig .tc := ⟨.hbm, 383, rfl⟩
abbrev main_v305 : Ref sig .tc := ⟨.hbm, 384, rfl⟩
abbrev main_v306 : Ref sig .tc := ⟨.hbm, 385, rfl⟩
abbrev main_v307 : Ref sig .tc := ⟨.hbm, 386, rfl⟩
abbrev main_v308 : Ref sig .tc := ⟨.hbm, 387, rfl⟩

abbrev nD : Nat := 1
abbrev τ : Topo := Topo.v7x

variable {F : FTy → Type} [FloatOps F]
-- ==== Kernel2.lean ====
abbrev S2048x5632 : Shape := ⟨2, ![2048, 5632]⟩
abbrev S5632x2048 : Shape := ⟨2, ![5632, 2048]⟩
abbrev S2048x2048 : Shape := ⟨2, ![2048, 2048]⟩
abbrev S_ : Shape := ⟨0, ![]⟩
abbrev S2048x8x704 : Shape := ⟨3, ![2048, 8, 704]⟩
abbrev S8x2048x704 : Shape := ⟨3, ![8, 2048, 704]⟩
abbrev S16384x704 : Shape := ⟨2, ![16384, 704]⟩
abbrev S1024x2048 : Shape := ⟨2, ![1024, 2048]⟩
abbrev S704x2048 : Shape := ⟨2, ![704, 2048]⟩
abbrev S1024x704 : Shape := ⟨2, ![1024, 704]⟩

abbrev nBuf : Space → Nat
  | .hbm => 40
  | .vmem => 12
  | .smem => 0
  | _ => 0

abbrev bufTy : (tb : Table) → Fin (tcTables nBuf tb) → BufTy
  | .hbm, ⟨0, _⟩ => ⟨S2048x5632, .f32⟩
  | .hbm, ⟨1, _⟩ => ⟨S2048x5632, .f32⟩
  | .hbm, ⟨2, _⟩ => ⟨S5632x2048, .bf16⟩
  | .hbm, ⟨3, _⟩ => ⟨S2048x2048, .f32⟩
  | .hbm, ⟨4, _⟩ => ⟨S2048x5632, .f32⟩
  | .hbm, ⟨5, _⟩ => ⟨S2048x5632, .f32⟩
  | .hbm, ⟨6, _⟩ => ⟨S_, .f32⟩
  | .hbm, ⟨7, _⟩ => ⟨S2048x5632, .f32⟩
  | .hbm, ⟨8, _⟩ => ⟨S2048x5632, .f32⟩
  | .hbm, ⟨9, _⟩ => ⟨S_, .f32⟩
  | .hbm, ⟨10, _⟩ => ⟨S2048x5632, .f32⟩
  | .hbm, ⟨11, _⟩ => ⟨S2048x5632, .f32⟩
  | .hbm, ⟨12, _⟩ => ⟨S_, .f32⟩
  | .hbm, ⟨13, _⟩ => ⟨S2048x5632, .f32⟩
  | .hbm, ⟨14, _⟩ => ⟨S2048x5632, .f32⟩
  | .hbm, ⟨15, _⟩ => ⟨S2048x5632, .f32⟩
  | .hbm, ⟨16, _⟩ => ⟨S2048x5632, .f32⟩
  | .hbm, ⟨17, _⟩ => ⟨S2048x5632, .f32⟩
  | .hbm, ⟨18, _⟩ => ⟨S_, .f32⟩
  | .hbm, ⟨19, _⟩ => ⟨S2048x5632, .f32⟩
  | .hbm, ⟨20, _⟩ => ⟨S2048x5632, .f32⟩
  | .hbm, ⟨21, _⟩ => ⟨S2048x5632, .f32⟩
  | .hbm, ⟨22, _⟩ => ⟨S2048x5632, .f32⟩
  | .hbm, ⟨23, _⟩ => ⟨S2048x5632, .f32⟩
  | .hbm, ⟨24, _⟩ => ⟨S2048x5632, .f32⟩
  | .hbm, ⟨25, _⟩ => ⟨S2048x5632, .f32⟩
  | .hbm, ⟨26, _⟩ => ⟨S_, .f32⟩
  | .hbm, ⟨27, _⟩ => ⟨S2048x2048, .f32⟩
  | .hbm, ⟨28, _⟩ => ⟨S2048x2048, .f32⟩
  | .hbm, ⟨29, _⟩ => ⟨S2048x2048, .bf16⟩
  | .hbm, ⟨30, _⟩ => ⟨S2048x5632, .bf16⟩
  | .hbm, ⟨31, _⟩ => ⟨S2048x8x704, .bf16⟩
  | .hbm, ⟨32, _⟩ => ⟨S8x2048x704, .bf16⟩
  | .hbm, ⟨33, _⟩ => ⟨S16384x704, .bf16⟩
  | .hbm, ⟨34, _⟩ => ⟨S2048x5632, .bf16⟩
  | .hbm, ⟨35, _⟩ => ⟨S2048x8x704, .bf16⟩
  | .hbm, ⟨36, _⟩ => ⟨S8x2048x704, .bf16⟩
  | .hbm, ⟨37, _⟩ => ⟨S16384x704, .bf16⟩
  | .hbm, ⟨38, _⟩ => ⟨S16384x704, .bf16⟩
  | .hbm, ⟨39, _⟩ => ⟨S16384x704, .bf16⟩
  | .local _ .vmem, ⟨0, _⟩ => ⟨S1024x2048, .bf16⟩
  | .local _ .vmem, ⟨1, _⟩ => ⟨S1024x2048, .bf16⟩
  | .local _ .vmem, ⟨2, _⟩ => ⟨S704x2048, .bf16⟩
  | .local _ .vmem, ⟨3, _⟩ => ⟨S704x2048, .bf16⟩
  | .local _ .vmem, ⟨4, _⟩ => ⟨S1024x704, .bf16⟩
  | .local _ .vmem, ⟨5, _⟩ => ⟨S1024x704, .bf16⟩
  | .local _ .vmem, ⟨6, _⟩ => ⟨S1024x704, .bf16⟩
  | .local _ .vmem, ⟨7, _⟩ => ⟨S1024x704, .bf16⟩
  | .local _ .vmem, ⟨8, _⟩ => ⟨S1024x704, .bf16⟩
  | .local _ .vmem, ⟨9, _⟩ => ⟨S1024x704, .bf16⟩
  | .local _ .vmem, ⟨10, _⟩ => ⟨S1024x704, .bf16⟩
  | .local _ .vmem, ⟨11, _⟩ => ⟨S1024x704, .bf16⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v5 : Ref sig .tc := ⟨.hbm, 25, rfl⟩
abbrev main_cst_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17_0 : Ref sig .tc := ⟨.hbm, 38, rfl⟩
abbrev main_v17_1 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S704x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S2048x5632 : Shape := ⟨2, ![2048, 5632]⟩
abbrev S5632x2048 : Shape := ⟨2, ![5632, 2048]⟩
abbrev S2048x2048 : Shape := ⟨2, ![2048, 2048]⟩
abbrev S_ : Shape := ⟨0, ![]⟩
abbrev S2048x704 : Shape := ⟨2, ![2048, 704]⟩
abbrev S16384x704 : Shape := ⟨2, ![16384, 704]⟩

abbrev nBuf : Space → Nat
  | .hbm => 53
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S2048x5632, .f32⟩
  | .hbm, ⟨2, _⟩ => ⟨S5632x2048, .bf16⟩
  | .hbm, ⟨3, _⟩ => ⟨S2048x2048, .f32⟩
  | .hbm, ⟨4, _⟩ => ⟨S2048x5632, .f32⟩
  | .hbm, ⟨5, _⟩ => ⟨S2048x5632, .f32⟩
  | .hbm, ⟨6, _⟩ => ⟨S_, .f32⟩
  | .hbm, ⟨7, _⟩ => ⟨S2048x5632, .f32⟩
  | .hbm, ⟨8, _⟩ => ⟨S2048x5632, .f32⟩
  | .hbm, ⟨9, _⟩ => ⟨S_, .f32⟩
  | .hbm, ⟨10, _⟩ => ⟨S2048x5632, .f32⟩
  | .hbm, ⟨11, _⟩ => ⟨S2048x5632, .f32⟩
  | .hbm, ⟨12, _⟩ => ⟨S_, .f32⟩
  | .hbm, ⟨13, _⟩ => ⟨S2048x5632, .f32⟩
  | .hbm, ⟨14, _⟩ => ⟨S2048x5632, .f32⟩
  | .hbm, ⟨15, _⟩ => ⟨S2048x5632, .f32⟩
  | .hbm, ⟨16, _⟩ => ⟨S2048x5632, .f32⟩
  | .hbm, ⟨17, _⟩ => ⟨S2048x5632, .f32⟩
  | .hbm, ⟨18, _⟩ => ⟨S5632x2048, .f32⟩
  | .hbm, ⟨19, _⟩ => ⟨S2048x2048, .f32⟩
  | .hbm, ⟨20, _⟩ => ⟨S_, .f32⟩
  | .hbm, ⟨21, _⟩ => ⟨S2048x2048, .f32⟩
  | .hbm, ⟨22, _⟩ => ⟨S2048x2048, .f32⟩
  | .hbm, ⟨23, _⟩ => ⟨S_, .f32⟩
  | .hbm, ⟨24, _⟩ => ⟨S2048x2048, .f32⟩
  | .hbm, ⟨25, _⟩ => ⟨S2048x2048, .f32⟩
  | .hbm, ⟨26, _⟩ => ⟨S2048x5632, .f32⟩
  | .hbm, ⟨27, _⟩ => ⟨S2048x5632, .f32⟩
  | .hbm, ⟨28, _⟩ => ⟨S2048x5632, .f32⟩
  | .hbm, ⟨29, _⟩ => ⟨S2048x5632, .f32⟩
  | .hbm, ⟨30, _⟩ => ⟨S2048x5632, .f32⟩
  | .hbm, ⟨31, _⟩ => ⟨S2048x5632, .f32⟩
  | .hbm, ⟨32, _⟩ => ⟨S2048x5632, .f32⟩
  | .hbm, ⟨33, _⟩ => ⟨S2048x5632, .bf16⟩
  | .hbm, ⟨34, _⟩ => ⟨S2048x704, .bf16⟩
  | .hbm, ⟨35, _⟩ => ⟨S2048x704, .bf16⟩
  | .hbm, ⟨36, _⟩ => ⟨S2048x704, .bf16⟩
  | .hbm, ⟨37, _⟩ => ⟨S2048x704, .bf16⟩
  | .hbm, ⟨38, _⟩ => ⟨S2048x704, .bf16⟩
  | .hbm, ⟨39, _⟩ => ⟨S2048x704, .bf16⟩
  | .hbm, ⟨40, _⟩ => ⟨S2048x704, .bf16⟩
  | .hbm, ⟨41, _⟩ => ⟨S2048x704, .bf16⟩
  | .hbm, ⟨42, _⟩ => ⟨S16384x704, .bf16⟩
  | .hbm, ⟨43, _⟩ => ⟨S2048x5632, .bf16⟩
  | .hbm, ⟨44, _⟩ => ⟨S2048x704, .bf16⟩
  | .hbm, ⟨45, _⟩ => ⟨S2048x704, .bf16⟩
  | .hbm, ⟨46, _⟩ => ⟨S2048x704, .bf16⟩
  | .hbm, ⟨47, _⟩ => ⟨S2048x704, .bf16⟩
  | .hbm, ⟨48, _⟩ => ⟨S2048x704, .bf16⟩
  | .hbm, ⟨49, _⟩ => ⟨S2048x704, .bf16⟩
  | .hbm, ⟨50, _⟩ => ⟨S2048x704, .bf16⟩
  | .hbm, ⟨51, _⟩ => ⟨S2048x704, .bf16⟩
  | .hbm, ⟨52, _⟩ => ⟨S16384x704, .bf16⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_v5 : Ref sig .tc := ⟨.hbm, 22, rfl⟩
abbrev main_cst_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩

abbrev nD : Nat := 1
abbrev τ : Topo := Topo.v7x

variable {F : FTy → Type} [FloatOps F]
-- ==== Kernel3.lean ====
abbrev S2048x5632 : Shape := ⟨2, ![2048, 5632]⟩
abbrev S2048x8x704 : Shape := ⟨3, ![2048, 8, 704]⟩
abbrev S8x2048x704 : Shape := ⟨3, ![8, 2048, 704]⟩
abbrev S16384x704 : Shape := ⟨2, ![16384, 704]⟩
abbrev S5632x2048 : Shape := ⟨2, ![5632, 2048]⟩
abbrev S2048x2048 : Shape := ⟨2, ![2048, 2048]⟩
abbrev S1024x704 : Shape := ⟨2, ![1024, 704]⟩
abbrev S704x2048 : Shape := ⟨2, ![704, 2048]⟩
abbrev S1024x2048 : Shape := ⟨2, ![1024, 2048]⟩

abbrev nBuf : Space → Nat
  | .hbm => 13
  | .vmem => 11
  | .smem => 0
  | _ => 0

abbrev bufTy : (tb : Table) → Fin (tcTables nBuf tb) → BufTy
  | .hbm, ⟨0, _⟩ => ⟨S2048x5632, .bf16⟩
  | .hbm, ⟨1, _⟩ => ⟨S2048x5632, .bf16⟩
  | .hbm, ⟨2, _⟩ => ⟨S2048x5632, .bf16⟩
  | .hbm, ⟨3, _⟩ => ⟨S2048x5632, .bf16⟩
  | .hbm, ⟨4, _⟩ => ⟨S2048x8x704, .bf16⟩
  | .hbm, ⟨5, _⟩ => ⟨S8x2048x704, .bf16⟩
  | .hbm, ⟨6, _⟩ => ⟨S16384x704, .bf16⟩
  | .hbm, ⟨7, _⟩ => ⟨S2048x8x704, .bf16⟩
  | .hbm, ⟨8, _⟩ => ⟨S8x2048x704, .bf16⟩
  | .hbm, ⟨9, _⟩ => ⟨S16384x704, .bf16⟩
  | .hbm, ⟨10, _⟩ => ⟨S5632x2048, .bf16⟩
  | .hbm, ⟨11, _⟩ => ⟨S5632x2048, .bf16⟩
  | .hbm, ⟨12, _⟩ => ⟨S2048x2048, .f32⟩
  | .local _ .vmem, ⟨0, _⟩ => ⟨S1024x704, .bf16⟩
  | .local _ .vmem, ⟨1, _⟩ => ⟨S1024x704, .bf16⟩
  | .local _ .vmem, ⟨2, _⟩ => ⟨S1024x704, .bf16⟩
  | .local _ .vmem, ⟨3, _⟩ => ⟨S1024x704, .bf16⟩
  | .local _ .vmem, ⟨4, _⟩ => ⟨S704x2048, .bf16⟩
  | .local _ .vmem, ⟨5, _⟩ => ⟨S704x2048, .bf16⟩
  | .local _ .vmem, ⟨6, _⟩ => ⟨S704x2048, .bf16⟩
  | .local _ .vmem, ⟨7, _⟩ => ⟨S704x2048, .bf16⟩
  | .local _ .vmem, ⟨8, _⟩ => ⟨S1024x2048, .f32⟩
  | .local _ .vmem, ⟨9, _⟩ => ⟨S1024x2048, .f32⟩
  | .local _ .vmem, ⟨10, _⟩ => ⟨S1024x2048, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def k0_cond3 (i : grid0.Coords) : BitVec 1 :=
  let arg1 : BitVec 32 := BitVec.ofNat 32 (i 1).val
  let c7_i32 : BitVec 32 := 7#32
  let v17 : BitVec 1 := Scalar.cmpi .eq arg1 c7_i32
  let v18 : BitVec 32 := Scalar.extui v17
  let c0_i32_11 : BitVec 32 := 0#32
  let v19 : BitVec 1 := Scalar.cmpi .ne v18 c0_i32_11
  v19

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let v1 : BitVec 32 := Scalar.addi v0 arg0
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let v1 : BitVec 32 := Scalar.addi v0 arg0
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg1 c1_i32
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg1 c1_i32
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S704x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S704x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference3Ideal.lean ====
abbrev S2048x5632 : Shape := ⟨2, ![2048, 5632]⟩
abbrev S_ : Shape := ⟨0, ![]⟩
abbrev S2048x2048 : Shape := ⟨2, ![2048, 2048]⟩

abbrev nBuf : Space → Nat
  | .hbm => 15
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x5632, .bf16⟩
  | .hbm, ⟨2, _⟩ => ⟨S2048x5632, .bf16⟩
  | .hbm, ⟨3, _⟩ => ⟨S2048x5632, .bf16⟩
  | .hbm, ⟨4, _⟩ => ⟨S_, .f32⟩
  | .hbm, ⟨5, _⟩ => ⟨S2048x2048, .f32⟩
  | .hbm, ⟨6, _⟩ => ⟨S2048x5632, .f32⟩
  | .hbm, ⟨7, _⟩ => ⟨S2048x5632, .f32⟩
  | .hbm, ⟨8, _⟩ => ⟨S2048x5632, .f32⟩
  | .hbm, ⟨9, _⟩ => ⟨S2048x5632, .f32⟩
  | .hbm, ⟨10, _⟩ => ⟨S2048x5632, .f32⟩
  | .hbm, ⟨11, _⟩ => ⟨S2048x5632, .f32⟩
  | .hbm, ⟨12, _⟩ => ⟨S2048x2048, .f32⟩
  | .hbm, ⟨13, _⟩ => ⟨S2048x2048, .f32⟩
  | .hbm, ⟨14, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel4.lean ====
abbrev S2048x5632 : Shape := ⟨2, ![2048, 5632]⟩
abbrev S5632x2048 : Shape := ⟨2, ![5632, 2048]⟩
abbrev S8x704x2048 : Shape := ⟨3, ![8, 704, 2048]⟩
abbrev S8x1x704x2048 : Shape := ⟨4, ![8, 1, 704, 2048]⟩
abbrev S8x2x704x2048 : Shape := ⟨4, ![8, 2, 704, 2048]⟩
abbrev S11264x2048 : Shape := ⟨2, ![11264, 2048]⟩
abbrev S2048x8x704 : Shape := ⟨3, ![2048, 8, 704]⟩
abbrev S8x2048x704 : Shape := ⟨3, ![8, 2048, 704]⟩
abbrev S16384x704 : Shape := ⟨2, ![16384, 704]⟩
abbrev S2048x2048 : Shape := ⟨2, ![2048, 2048]⟩
abbrev S1024x704 : Shape := ⟨2, ![1024, 704]⟩
abbrev S704x2048 : Shape := ⟨2, ![704, 2048]⟩
abbrev S1024x2048 : Shape := ⟨2, ![1024, 2048]⟩

abbrev nBuf : Space → Nat
  | .hbm => 19
  | .vmem => 11
  | .smem => 0
  | _ => 0

abbrev bufTy : (tb : Table) → Fin (tcTables nBuf tb) → BufTy
  | .hbm, ⟨0, _⟩ => ⟨S2048x5632, .bf16⟩
  | .hbm, ⟨1, _⟩ => ⟨S2048x5632, .bf16⟩
  | .hbm, ⟨2, _⟩ => ⟨S2048x5632, .bf16⟩
  | .hbm, ⟨3, _⟩ => ⟨S2048x5632, .bf16⟩
  | .hbm, ⟨4, _⟩ => ⟨S5632x2048, .bf16⟩
  | .hbm, ⟨5, _⟩ => ⟨S8x704x2048, .bf16⟩
  | .hbm, ⟨6, _⟩ => ⟨S5632x2048, .bf16⟩
  | .hbm, ⟨7, _⟩ => ⟨S8x704x2048, .bf16⟩
  | .hbm, ⟨8, _⟩ => ⟨S8x1x704x2048, .bf16⟩
  | .hbm, ⟨9, _⟩ => ⟨S8x1x704x2048, .bf16⟩
  | .hbm, ⟨10, _⟩ => ⟨S8x2x704x2048, .bf16⟩
  | .hbm, ⟨11, _⟩ => ⟨S11264x2048, .bf16⟩
  | .hbm, ⟨12, _⟩ => ⟨S2048x8x704, .bf16⟩
  | .hbm, ⟨13, _⟩ => ⟨S8x2048x704, .bf16⟩
  | .hbm, ⟨14, _⟩ => ⟨S16384x704, .bf16⟩
  | .hbm, ⟨15, _⟩ => ⟨S2048x8x704, .bf16⟩
  | .hbm, ⟨16, _⟩ => ⟨S8x2048x704, .bf16⟩
  | .hbm, ⟨17, _⟩ => ⟨S16384x704, .bf16⟩
  | .hbm, ⟨18, _⟩ => ⟨S2048x2048, .f32⟩
  | .local _ .vmem, ⟨0, _⟩ => ⟨S1024x704, .bf16⟩
  | .local _ .vmem, ⟨1, _⟩ => ⟨S1024x704, .bf16⟩
  | .local _ .vmem, ⟨2, _⟩ => ⟨S1024x704, .bf16⟩
  | .local _ .vmem, ⟨3, _⟩ => ⟨S1024x704, .bf16⟩
  | .local _ .vmem, ⟨4, _⟩ => ⟨S704x2048, .bf16⟩
  | .local _ .vmem, ⟨5, _⟩ => ⟨S704x2048, .bf16⟩
  | .local _ .vmem, ⟨6, _⟩ => ⟨S704x2048, .bf16⟩
  | .local _ .vmem, ⟨7, _⟩ => ⟨S704x2048, .bf16⟩
  | .local _ .vmem, ⟨8, _⟩ => ⟨S1024x2048, .f32⟩
  | .local _ .vmem, ⟨9, _⟩ => ⟨S1024x2048, .f32⟩
  | .local _ .vmem, ⟨10, _⟩ => ⟨S1024x2048, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def k0_cond3 (i : grid0.Coords) : BitVec 1 :=
  let arg1 : BitVec 32 := BitVec.ofNat 32 (i 1).val
  let c7_i32 : BitVec 32 := 7#32
  let v17 : BitVec 1 := Scalar.cmpi .eq arg1 c7_i32
  let v18 : BitVec 32 := Scalar.extui v17
  let c0_i32_11 : BitVec 32 := 0#32
  let v19 : BitVec 1 := Scalar.cmpi .ne v18 c0_i32_11
  v19

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let v1 : BitVec 32 := Scalar.addi v0 arg0
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let v1 : BitVec 32 := Scalar.addi v0 arg0
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S704x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S704x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Kernel5.lean ====
abbrev S2048x5632 : Shape := ⟨2, ![2048, 5632]⟩
abbrev S2048x2048 : Shape := ⟨2, ![2048, 2048]⟩
abbrev S2816x2048 : Shape := ⟨2, ![2816, 2048]⟩
abbrev S2048x8x704 : Shape := ⟨3, ![2048, 8, 704]⟩
abbrev S8x2048x704 : Shape := ⟨3, ![8, 2048, 704]⟩
abbrev S16384x704 : Shape := ⟨2, ![16384, 704]⟩
abbrev S_ : Shape := ⟨0, ![]⟩
abbrev S1 : Shape := ⟨1, ![1]⟩
abbrev S2048x704 : Shape := ⟨2, ![2048, 704]⟩
abbrev S2048x1024 : Shape := ⟨2, ![2048, 1024]⟩
abbrev S704x1024 : Shape := ⟨2, ![704, 1024]⟩

abbrev nBuf : Space → Nat
  | .hbm => 8
  | .vmem => 8
  | .smem => 1
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S2816x2048, .bf16⟩
  | .hbm, ⟨3, _⟩ => ⟨S2048x8x704, .bf16⟩
  | .hbm, ⟨4, _⟩ => ⟨S8x2048x704, .bf16⟩
  | .hbm, ⟨5, _⟩ => ⟨S16384x704, .bf16⟩
  | .hbm, ⟨6, _⟩ => ⟨S_, .i32⟩
  | .hbm, ⟨7, _⟩ => ⟨S2816x2048, .bf16⟩
  | .local _ .vmem, ⟨0, _⟩ => ⟨S2048x704, .bf16⟩
  | .local _ .vmem, ⟨1, _⟩ => ⟨S2048x704, .bf16⟩
  | .local _ .vmem, ⟨2, _⟩ => ⟨S2048x1024, .bf16⟩
  | .local _ .vmem, ⟨3, _⟩ => ⟨S2048x1024, .bf16⟩
  | .local _ .vmem, ⟨4, _⟩ => ⟨S704x1024, .bf16⟩
  | .local _ .vmem, ⟨5, _⟩ => ⟨S704x1024, .bf16⟩
  | .local _ .vmem, ⟨6, _⟩ => ⟨S704x1024, .bf16⟩
  | .local _ .vmem, ⟨7, _⟩ => ⟨S704x1024, .bf16⟩
  | .local _ .smem, ⟨0, _⟩ => ⟨S1, .i32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v4 : Ref sig .tc := ⟨.hbm, 7, rfl⟩
abbrev main_v3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 2], ![false, false]⟩

abbrev pre0 : Pipeline.Prefetch sig := ⟨1, ![main_v3.idx], fun | 0 => main_v3.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0 : Index := 0#32
  let v1 : BitVec 32 := pf.at 0 (Rect.unit (s := S1) ![0] S1.size inb_S1_S1_0) numel1_S1
  let v2 : BitVec 32 := Scalar.addi v0 v1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S2048x5632 : Shape := ⟨2, ![2048, 5632]⟩
abbrev S2048x2048 : Shape := ⟨2, ![2048, 2048]⟩
abbrev S2816x2048 : Shape := ⟨2, ![2816, 2048]⟩
abbrev S_ : Shape := ⟨0, ![]⟩
abbrev S5632x2048 : Shape := ⟨2, ![5632, 2048]⟩
abbrev S4x2x704x2048 : Shape := ⟨4, ![4, 2, 704, 2048]⟩
abbrev S4x1x704x2048 : Shape := ⟨4, ![4, 1, 704, 2048]⟩
abbrev S4x704x2048 : Shape := ⟨3, ![4, 704, 2048]⟩

abbrev nBuf : Space → Nat
  | .hbm => 19
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S2816x2048, .bf16⟩
  | .hbm, ⟨3, _⟩ => ⟨S_, .f32⟩
  | .hbm, ⟨4, _⟩ => ⟨S5632x2048, .f32⟩
  | .hbm, ⟨5, _⟩ => ⟨S2048x2048, .f32⟩
  | .hbm, ⟨6, _⟩ => ⟨S2048x5632, .f32⟩
  | .hbm, ⟨7, _⟩ => ⟨S2048x5632, .f32⟩
  | .hbm, ⟨8, _⟩ => ⟨S2048x5632, .f32⟩
  | .hbm, ⟨9, _⟩ => ⟨S5632x2048, .f32⟩
  | .hbm, ⟨10, _⟩ => ⟨S2048x5632, .f32⟩
  | .hbm, ⟨11, _⟩ => ⟨S5632x2048, .f32⟩
  | .hbm, ⟨12, _⟩ => ⟨S4x2x704x2048, .f32⟩
  | .hbm, ⟨13, _⟩ => ⟨S4x1x704x2048, .f32⟩
  | .hbm, ⟨14, _⟩ => ⟨S4x704x2048, .f32⟩
  | .hbm, ⟨15, _⟩ => ⟨S2816x2048, .f32⟩
  | .hbm, ⟨16, _⟩ => ⟨S2816x2048, .f32⟩
  | .hbm, ⟨17, _⟩ => ⟨S2816x2048, .f32⟩
  | .hbm, ⟨18, _⟩ => ⟨S2816x2048, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== Kernel6.lean ====
abbrev S2048x5632 : Shape := ⟨2, ![2048, 5632]⟩
abbrev S2048x2048 : Shape := ⟨2, ![2048, 2048]⟩
abbrev S2048x8x704 : Shape := ⟨3, ![2048, 8, 704]⟩
abbrev S8x2048x704 : Shape := ⟨3, ![8, 2048, 704]⟩
abbrev S16384x704 : Shape := ⟨2, ![16384, 704]⟩
abbrev S_ : Shape := ⟨0, ![]⟩
abbrev S1 : Shape := ⟨1, ![1]⟩
abbrev S2816x2048 : Shape := ⟨2, ![2816, 2048]⟩
abbrev S2048x704 : Shape := ⟨2, ![2048, 704]⟩
abbrev S2048x1024 : Shape := ⟨2, ![2048, 1024]⟩
abbrev S704x1024 : Shape := ⟨2, ![704, 1024]⟩

abbrev nBuf : Space → Nat
  | .hbm => 7
  | .vmem => 6
  | .smem => 1
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S2048x8x704, .bf16⟩
  | .hbm, ⟨3, _⟩ => ⟨S8x2048x704, .bf16⟩
  | .hbm, ⟨4, _⟩ => ⟨S16384x704, .bf16⟩
  | .hbm, ⟨5, _⟩ => ⟨S_, .i32⟩
  | .hbm, ⟨6, _⟩ => ⟨S2816x2048, .bf16⟩
  | .local _ .vmem, ⟨0, _⟩ => ⟨S2048x704, .bf16⟩
  | .local _ .vmem, ⟨1, _⟩ => ⟨S2048x704, .bf16⟩
  | .local _ .vmem, ⟨2, _⟩ => ⟨S2048x1024, .bf16⟩
  | .local _ .vmem, ⟨3, _⟩ => ⟨S2048x1024, .bf16⟩
  | .local _ .vmem, ⟨4, _⟩ => ⟨S704x1024, .bf16⟩
  | .local _ .vmem, ⟨5, _⟩ => ⟨S704x1024, .bf16⟩
  | .local _ .smem, ⟨0, _⟩ => ⟨S1, .i32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v4 : Ref sig .tc := ⟨.hbm, 6, rfl⟩
abbrev main_v3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

abbrev pre0 : Pipeline.Prefetch sig := ⟨1, ![main_v3.idx], fun | 0 => main_v3.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0 : Index := 0#32
  let v1 : BitVec 32 := pf.at 0 (Rect.unit (s := S1) ![0] S1.size inb_S1_S1_0) numel1_S1
  let c1_i32 : BitVec 32 := 1#32
  let v2 : BitVec 32 := Scalar.subi c1_i32 v1
  let v3 : BitVec 32 := Scalar.addi v0 v2
  let c0_i32 : BitVec 32 := 0#32
  let c0_i32_0 : BitVec 32 := 0#32
  ![v3.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S2048x5632 : Shape := ⟨2, ![2048, 5632]⟩
abbrev S2048x2048 : Shape := ⟨2, ![2048, 2048]⟩
abbrev S_ : Shape := ⟨0, ![]⟩
abbrev S5632x2048 : Shape := ⟨2, ![5632, 2048]⟩
abbrev S4x2x704x2048 : Shape := ⟨4, ![4, 2, 704, 2048]⟩
abbrev S4x1x704x2048 : Shape := ⟨4, ![4, 1, 704, 2048]⟩
abbrev S4x704x2048 : Shape := ⟨3, ![4, 704, 2048]⟩
abbrev S2816x2048 : Shape := ⟨2, ![2816, 2048]⟩

abbrev nBuf : Space → Nat
  | .hbm => 16
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S_, .f32⟩
  | .hbm, ⟨3, _⟩ => ⟨S5632x2048, .f32⟩
  | .hbm, ⟨4, _⟩ => ⟨S2048x2048, .f32⟩
  | .hbm, ⟨5, _⟩ => ⟨S2048x5632, .f32⟩
  | .hbm, ⟨6, _⟩ => ⟨S2048x5632, .f32⟩
  | .hbm, ⟨7, _⟩ => ⟨S2048x5632, .f32⟩
  | .hbm, ⟨8, _⟩ => ⟨S5632x2048, .f32⟩
  | .hbm, ⟨9, _⟩ => ⟨S2048x5632, .f32⟩
  | .hbm, ⟨10, _⟩ => ⟨S5632x2048, .f32⟩
  | .hbm, ⟨11, _⟩ => ⟨S4x2x704x2048, .f32⟩
  | .hbm, ⟨12, _⟩ => ⟨S4x1x704x2048, .f32⟩
  | .hbm, ⟨13, _⟩ => ⟨S4x704x2048, .f32⟩
  | .hbm, ⟨14, _⟩ => ⟨S2816x2048, .f32⟩
  | .hbm, ⟨15, _⟩ => ⟨S2816x2048, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Kernel7.lean ====
abbrev S2048x6144 : Shape := ⟨2, ![2048, 6144]⟩
abbrev S2048x2048 : Shape := ⟨2, ![2048, 2048]⟩
abbrev S6144x2048 : Shape := ⟨2, ![6144, 2048]⟩
abbrev S2048x768 : Shape := ⟨2, ![2048, 768]⟩
abbrev S2048x1024 : Shape := ⟨2, ![2048, 1024]⟩
abbrev S768x1024 : Shape := ⟨2, ![768, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x6144, .bf16⟩
  | .hbm, ⟨1, _⟩ => ⟨S2048x2048, .bf16⟩
  | .hbm, ⟨2, _⟩ => ⟨S6144x2048, .bf16⟩
  | .local _ .vmem, ⟨0, _⟩ => ⟨S2048x768, .bf16⟩
  | .local _ .vmem, ⟨1, _⟩ => ⟨S2048x768, .bf16⟩
  | .local _ .vmem, ⟨2, _⟩ => ⟨S2048x1024, .bf16⟩
  | .local _ .vmem, ⟨3, _⟩ => ⟨S2048x1024, .bf16⟩
  | .local _ .vmem, ⟨4, _⟩ => ⟨S768x1024, .bf16⟩
  | .local _ .vmem, ⟨5, _⟩ => ⟨S768x1024, .bf16⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S2048x6144 : Shape := ⟨2, ![2048, 6144]⟩
abbrev S2048x2048 : Shape := ⟨2, ![2048, 2048]⟩
abbrev S_ : Shape := ⟨0, ![]⟩
abbrev S6144x2048 : Shape := ⟨2, ![6144, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x6144, .bf16⟩
  | .hbm, ⟨1, _⟩ => ⟨S2048x2048, .bf16⟩
  | .hbm, ⟨2, _⟩ => ⟨S_, .f32⟩
  | .hbm, ⟨3, _⟩ => ⟨S6144x2048, .f32⟩
  | .hbm, ⟨4, _⟩ => ⟨S2048x2048, .f32⟩
  | .hbm, ⟨5, _⟩ => ⟨S2048x6144, .f32⟩
  | .hbm, ⟨6, _⟩ => ⟨S2048x6144, .f32⟩
  | .hbm, ⟨7, _⟩ => ⟨S2048x6144, .f32⟩
  | .hbm, ⟨8, _⟩ => ⟨S6144x2048, .f32⟩
  | .hbm, ⟨9, _⟩ => ⟨S2048x6144, .f32⟩
  | .hbm, ⟨10, _⟩ => ⟨S6144x2048, .f32⟩
  | .hbm, ⟨11, _⟩ => ⟨S6144x2048, .bf16⟩
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel8.lean ====
abbrev S2048x2048 : Shape := ⟨2, ![2048, 2048]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S2048x2048 : Shape := ⟨2, ![2048, 2048]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .f32⟩
  | .hbm, ⟨2, _⟩ => ⟨S2048x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .f32⟩
  | .local _ .vmem, ⟨3, _⟩ => ⟨S2048x1024, .f32⟩
  | .local _ .vmem, ⟨4, _⟩ => ⟨S512x1024, .bf16⟩
  | .local _ .vmem, ⟨5, _⟩ => ⟨S512x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .f32⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S2048x2048 : Shape := ⟨2, ![2048, 2048]⟩
abbrev S512x2048 : Shape := ⟨2, ![512, 2048]⟩
abbrev S1024x2048 : Shape := ⟨2, ![1024, 2048]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S1024x2048, .bf16⟩
  | .local _ .vmem, ⟨4, _⟩ => ⟨S512x1024, .f32⟩
  | .local _ .vmem, ⟨5, _⟩ => ⟨S512x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S2048x2048 : Shape := ⟨2, ![2048, 2048]⟩
abbrev S512x2048 : Shape := ⟨2, ![512, 2048]⟩
abbrev S1024x2048 : Shape := ⟨2, ![1024, 2048]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x2048, .bf16⟩
  | .hbm, ⟨2, _⟩ => ⟨S2048x2048, .bf16⟩
  | .local _ .vmem, ⟨0, _⟩ => ⟨S512x2048, .f32⟩
  | .local _ .vmem, ⟨1, _⟩ => ⟨S512x2048, .f32⟩
  | .local _ .vmem, ⟨2, _⟩ => ⟨S1024x2048, .bf16⟩
  | .local _ .vmem, ⟨3, _⟩ => ⟨S1024x2048, .bf16⟩
  | .local _ .vmem, ⟨4, _⟩ => ⟨S512x1024, .bf16⟩
  | .local _ .vmem, ⟨5, _⟩ => ⟨S512x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference11Ideal.lean ====
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .bf16⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel12.lean ====
abbrev S2048x6144 : Shape := ⟨2, ![2048, 6144]⟩
abbrev S2048x8 : Shape := ⟨2, ![2048, 8]⟩
abbrev S2048x6152 : Shape := ⟨2, ![2048, 6152]⟩
abbrev S6152x2048 : Shape := ⟨2, ![6152, 2048]⟩
abbrev S1024x2048 : Shape := ⟨2, ![1024, 2048]⟩
abbrev S8x2048 : Shape := ⟨2, ![8, 2048]⟩
abbrev S6144x2048 : Shape := ⟨2, ![6144, 2048]⟩
abbrev S_ : Shape := ⟨0, ![]⟩
abbrev S128x2048 : Shape := ⟨2, ![128, 2048]⟩
abbrev S2048x128 : Shape := ⟨2, ![2048, 128]⟩
abbrev S2048x2048 : Shape := ⟨2, ![2048, 2048]⟩
abbrev S512x6144 : Shape := ⟨2, ![512, 6144]⟩
abbrev S6144x1024 : Shape := ⟨2, ![6144, 1024]⟩
abbrev S512x128 : Shape := ⟨2, ![512, 128]⟩
abbrev S128x1024 : Shape := ⟨2, ![128, 1024]⟩
abbrev S512x1024 : Shape := ⟨2, ![512, 1024]⟩

abbrev nBuf : Space → Nat
  | .hbm => 19
  | .vmem => 10
  | .smem => 0
  | _ => 0

abbrev bufTy : (tb : Table) → Fin (tcTables nBuf tb) → BufTy
  | .hbm, ⟨0, _⟩ => ⟨S2048x6144, .bf16⟩
  | .hbm, ⟨1, _⟩ => ⟨S2048x8, .f32⟩
  | .hbm, ⟨2, _⟩ => ⟨S2048x6152, .bf16⟩
  | .hbm, ⟨3, _⟩ => ⟨S6152x2048, .bf16⟩
  | .hbm, ⟨4, _⟩ => ⟨S1024x2048, .bf16⟩
  | .hbm, ⟨5, _⟩ => ⟨S1024x2048, .bf16⟩
  | .hbm, ⟨6, _⟩ => ⟨S1024x2048, .bf16⟩
  | .hbm, ⟨7, _⟩ => ⟨S8x2048, .bf16⟩
  | .hbm, ⟨8, _⟩ => ⟨S1024x2048, .bf16⟩
  | .hbm, ⟨9, _⟩ => ⟨S1024x2048, .bf16⟩
  | .hbm, ⟨10, _⟩ => ⟨S1024x2048, .bf16⟩
  | .hbm, ⟨11, _⟩ => ⟨S6144x2048, .bf16⟩
  | .hbm, ⟨12, _⟩ => ⟨S_, .i32⟩
  | .hbm, ⟨13, _⟩ => ⟨S_, .bf16⟩
  | .hbm, ⟨14, _⟩ => ⟨S128x2048, .bf16⟩
  | .hbm, ⟨15, _⟩ => ⟨S_, .i32⟩
  | .hbm, ⟨16, _⟩ => ⟨S_, .f32⟩
  | .hbm, ⟨17, _⟩ => ⟨S2048x128, .f32⟩
  | .hbm, ⟨18, _⟩ => ⟨S2048x2048, .f32⟩
  | .local _ .vmem, ⟨0, _⟩ => ⟨S512x6144, .bf16⟩
  | .local _ .vmem, ⟨1, _⟩ => ⟨S512x6144, .bf16⟩
  | .local _ .vmem, ⟨2, _⟩ => ⟨S6144x1024, .bf16⟩
  | .local _ .vmem, ⟨3, _⟩ => ⟨S6144x1024, .bf16⟩
  | .local _ .vmem, ⟨4, _⟩ => ⟨S512x128, .f32⟩
  | .local _ .vmem, ⟨5, _⟩ => ⟨S512x128, .f32⟩
  | .local _ .vmem, ⟨6, _⟩ => ⟨S128x1024, .bf16⟩
  | .local _ .vmem, ⟨7, _⟩ => ⟨S128x1024, .bf16⟩
  | .local _ .vmem, ⟨8, _⟩ => ⟨S512x1024, .f32⟩
  | .local _ .vmem, ⟨9, _⟩ => ⟨S512x1024, .f32⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_call0_v0 : Ref sig .tc := ⟨.hbm, 13, rfl⟩
abbrev main_v9 : Ref sig .tc := ⟨.hbm, 14, rfl⟩
abbrev main_c_0 : Ref sig .tc := ⟨.hbm, 15, rfl⟩
abbrev main_call1_v0 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S6144x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference12Ideal.lean ====
abbrev S2048x6144 : Shape := ⟨2, ![2048, 6144]⟩
abbrev S2048x8 : Shape := ⟨2, ![2048, 8]⟩
abbrev S2048x6152 : Shape := ⟨2, ![2048, 6152]⟩
abbrev S_ : Shape := ⟨0, ![]⟩
abbrev S2048x2048 : Shape := ⟨2, ![2048, 2048]⟩
abbrev S2048x1024 : Shape := ⟨2, ![2048, 1024]⟩

abbrev nBuf : Space → Nat
  | .hbm => 24
  | .vmem => 0
  | .smem => 0
  | _ => 0

abbrev bufTy : (tb : Table) → Fin (tcTables nBuf tb) → BufTy
  | .hbm, ⟨0, _⟩ => ⟨S2048x6144, .bf16⟩
  | .hbm, ⟨1, _⟩ => ⟨S2048x8, .f32⟩
  | .hbm, ⟨2, _⟩ => ⟨S2048x6152, .bf16⟩
  | .hbm, ⟨3, _⟩ => ⟨S_, .f32⟩
  | .hbm, ⟨4, _⟩ => ⟨S2048x2048, .f32⟩
  | .hbm, ⟨5, _⟩ => ⟨S2048x6152, .f32⟩
  | .hbm, ⟨6, _⟩ => ⟨S2048x6152, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x8, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S2048x6144, .f32⟩
  | .hbm, ⟨15, _⟩ => ⟨S2048x6144, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x6152, .f32⟩
  | .hbm, ⟨23, _⟩ => ⟨S2048x2048, .f32⟩
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩

abbrev nD : Nat := 1
abbrev τ : Topo := Topo.v7x

variable {F : FTy → Type} [FloatOps F]
-- ==== Kernel13.lean ====
abbrev S2048x2048 : Shape := ⟨2, ![2048, 2048]⟩
abbrev S2048x6152 : Shape := ⟨2, ![2048, 6152]⟩
abbrev S6152x2048 : Shape := ⟨2, ![6152, 2048]⟩
abbrev S1024x2048 : Shape := ⟨2, ![1024, 2048]⟩
abbrev S8x2048 : Shape := ⟨2, ![8, 2048]⟩
abbrev S6144x2048 : Shape := ⟨2, ![6144, 2048]⟩
abbrev S2048x6144 : Shape := ⟨2, ![2048, 6144]⟩
abbrev S512x2048 : Shape := ⟨2, ![512, 2048]⟩
abbrev S768x2048 : Shape := ⟨2, ![768, 2048]⟩
abbrev S512x768 : Shape := ⟨2, ![512, 768]⟩

abbrev nBuf : Space → Nat
  | .hbm => 12
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x6152, .bf16⟩
  | .hbm, ⟨2, _⟩ => ⟨S6152x2048, .bf16⟩
  | .hbm, ⟨3, _⟩ => ⟨S1024x2048, .bf16⟩
  | .hbm, ⟨4, _⟩ => ⟨S1024x2048, .bf16⟩
  | .hbm, ⟨5, _⟩ => ⟨S1024x2048, .bf16⟩
  | .hbm, ⟨6, _⟩ => ⟨S8x2048, .bf16⟩
  | .hbm, ⟨7, _⟩ => ⟨S1024x2048, .bf16⟩
  | .hbm, ⟨8, _⟩ => ⟨S1024x2048, .bf16⟩
  | .hbm, ⟨9, _⟩ => ⟨S1024x2048, .bf16⟩
  | .hbm, ⟨10, _⟩ => ⟨S6144x2048, .bf16⟩
  | .hbm, ⟨11, _⟩ => ⟨S2048x6144, .bf16⟩
  | .local _ .vmem, ⟨0, _⟩ => ⟨S512x2048, .bf16⟩
  | .local _ .vmem, ⟨1, _⟩ => ⟨S512x2048, .bf16⟩
  | .local _ .vmem, ⟨2, _⟩ => ⟨S768x2048, .bf16⟩
  | .local _ .vmem, ⟨3, _⟩ => ⟨S768x2048, .bf16⟩
  | .local _ .vmem, ⟨4, _⟩ => ⟨S512x768, .bf16⟩
  | .local _ .vmem, ⟨5, _⟩ => ⟨S512x768, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S768x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference13Ideal.lean ====
abbrev S2048x2048 : Shape := ⟨2, ![2048, 2048]⟩
abbrev S2048x6152 : Shape := ⟨2, ![2048, 6152]⟩
abbrev S2048x1024 : Shape := ⟨2, ![2048, 1024]⟩
abbrev S2048x8 : Shape := ⟨2, ![2048, 8]⟩
abbrev S2048x6144 : Shape := ⟨2, ![2048, 6144]⟩

abbrev nBuf : Space → Nat
  | .hbm => 14
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x6152, .bf16⟩
  | .hbm, ⟨2, _⟩ => ⟨S2048x2048, .f32⟩
  | .hbm, ⟨3, _⟩ => ⟨S2048x6152, .f32⟩
  | .hbm, ⟨4, _⟩ => ⟨S2048x6152, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x8, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S2048x6144, .f32⟩
  | .hbm, ⟨13, _⟩ => ⟨S2048x6144, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩

abbrev nD : Nat := 1
abbrev τ : Topo := Topo.v7x

variable {F : FTy → Type} [FloatOps F]
-- ==== Kernel14.lean ====
abbrev S2048x2048 : Shape := ⟨2, ![2048, 2048]⟩
abbrev S512x2048 : Shape := ⟨2, ![512, 2048]⟩
abbrev S2048x512 : Shape := ⟨2, ![2048, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .local _ .vmem, ⟨0, _⟩ => ⟨S512x2048, .bf16⟩
  | .local _ .vmem, ⟨1, _⟩ => ⟨S512x2048, .bf16⟩
  | .local _ .vmem, ⟨2, _⟩ => ⟨S2048x512, .bf16⟩
  | .local _ .vmem, ⟨3, _⟩ => ⟨S2048x512, .bf16⟩
  | .local _ .vmem, ⟨4, _⟩ => ⟨S512x512, .f32⟩
  | .local _ .vmem, ⟨5, _⟩ => ⟨S512x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference14Ideal.lean ====
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel15.lean ====
abbrev S2048x2048 : Shape := ⟨2, ![2048, 2048]⟩
abbrev S512x2048 : Shape := ⟨2, ![512, 2048]⟩
abbrev S2048x512 : Shape := ⟨2, ![2048, 512]⟩
abbrev S512x512 : Shape := ⟨2, ![512, 512]⟩

abbrev nBuf : Space → Nat
  | .hbm => 4
  | .vmem => 8
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .local _ .vmem, ⟨0, _⟩ => ⟨S512x2048, .bf16⟩
  | .local _ .vmem, ⟨1, _⟩ => ⟨S512x2048, .bf16⟩
  | .local _ .vmem, ⟨2, _⟩ => ⟨S2048x512, .bf16⟩
  | .local _ .vmem, ⟨3, _⟩ => ⟨S2048x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference15Ideal.lean ====
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel16.lean ====
abbrev S2048x2048 : Shape := ⟨2, ![2048, 2048]⟩
abbrev S2048x5632 : Shape := ⟨2, ![2048, 5632]⟩
abbrev S5632x2048 : Shape := ⟨2, ![5632, 2048]⟩
abbrev S16384x704 : Shape := ⟨2, ![16384, 704]⟩
abbrev S512x2048 : Shape := ⟨2, ![512, 2048]⟩
abbrev S704x2048 : Shape := ⟨2, ![704, 2048]⟩
abbrev S512x704 : Shape := ⟨2, ![512, 704]⟩

abbrev nBuf : Space → Nat
  | .hbm => 4
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x5632, .bf16⟩
  | .hbm, ⟨2, _⟩ => ⟨S5632x2048, .bf16⟩
  | .hbm, ⟨3, _⟩ => ⟨S16384x704, .bf16⟩
  | .local _ .vmem, ⟨0, _⟩ => ⟨S512x2048, .bf16⟩
  | .local _ .vmem, ⟨1, _⟩ => ⟨S512x2048, .bf16⟩
  | .local _ .vmem, ⟨2, _⟩ => ⟨S704x2048, .bf16⟩
  | .local _ .vmem, ⟨3, _⟩ => ⟨S704x2048, .bf16⟩
  | .local _ .vmem, ⟨4, _⟩ => ⟨S512x704, .bf16⟩
  | .local _ .vmem, ⟨5, _⟩ => ⟨S512x704, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S704x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference16Ideal.lean ====
abbrev S2048x2048 : Shape := ⟨2, ![2048, 2048]⟩
abbrev S2048x5632 : Shape := ⟨2, ![2048, 5632]⟩
abbrev S2048x704 : Shape := ⟨2, ![2048, 704]⟩
abbrev S16384x704 : Shape := ⟨2, ![16384, 704]⟩

abbrev nBuf : Space → Nat
  | .hbm => 15
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x5632, .bf16⟩
  | .hbm, ⟨2, _⟩ => ⟨S2048x2048, .f32⟩
  | .hbm, ⟨3, _⟩ => ⟨S2048x5632, .f32⟩
  | .hbm, ⟨4, _⟩ => ⟨S2048x5632, .f32⟩
  | .hbm, ⟨5, _⟩ => ⟨S2048x5632, .bf16⟩
  | .hbm, ⟨6, _⟩ => ⟨S2048x704, .bf16⟩
  | .hbm, ⟨7, _⟩ => ⟨S2048x704, .bf16⟩
  | .hbm, ⟨8, _⟩ => ⟨S2048x704, .bf16⟩
  | .hbm, ⟨9, _⟩ => ⟨S2048x704, .bf16⟩
  | .hbm, ⟨10, _⟩ => ⟨S2048x704, .bf16⟩
  | .hbm, ⟨11, _⟩ => ⟨S2048x704, .bf16⟩
  | .hbm, ⟨12, _⟩ => ⟨S2048x704, .bf16⟩
  | .hbm, ⟨13, _⟩ => ⟨S2048x704, .bf16⟩
  | .hbm, ⟨14, _⟩ => ⟨S16384x704, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩

abbrev nD : Nat := 1
abbrev τ : Topo := Topo.v7x

variable {F : FTy → Type} [FloatOps F]
-- ==== Kernel17.lean ====
abbrev S2048x256 : Shape := ⟨2, ![2048, 256]⟩
abbrev S2048x2048 : Shape := ⟨2, ![2048, 2048]⟩
abbrev S256x256 : Shape := ⟨2, ![256, 256]⟩

abbrev nBuf : Space → Nat
  | .hbm => 3
  | .vmem => 5
  | .smem => 0
  | _ => 0

abbrev bufTy : (tb : Table) → Fin (tcTables nBuf tb) → BufTy
  | .hbm, ⟨0, _⟩ => ⟨S2048x256, .f32⟩
  | .hbm, ⟨1, _⟩ => ⟨S2048x2048, .bf16⟩
  | .hbm, ⟨2, _⟩ => ⟨S2048x256, .bf16⟩
  | .local _ .vmem, ⟨0, _⟩ => ⟨S2048x256, .f32⟩
  | .local _ .vmem, ⟨1, _⟩ => ⟨S2048x256, .bf16⟩
  | .local _ .vmem, ⟨2, _⟩ => ⟨S2048x256, .bf16⟩
  | .local _ .vmem, ⟨3, _⟩ => ⟨S256x256, .bf16⟩
  | .local _ .vmem, ⟨4, _⟩ => ⟨S256x256, .bf16⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2048x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference17Ideal.lean ====
abbrev S2048x256 : Shape := ⟨2, ![2048, 256]⟩
abbrev S2048x2048 : Shape := ⟨2, ![2048, 2048]⟩
abbrev S_ : Shape := ⟨0, ![]⟩
abbrev S256x2048 : Shape := ⟨2, ![256, 2048]⟩
abbrev S256x256 : Shape := ⟨2, ![256, 256]⟩

abbrev nBuf : Space → Nat
  | .hbm => 18
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S2048x2048, .bf16⟩
  | .hbm, ⟨2, _⟩ => ⟨S_, .f32⟩
  | .hbm, ⟨3, _⟩ => ⟨S256x2048, .f32⟩
  | .hbm, ⟨4, _⟩ => ⟨S2048x2048, .f32⟩
  | .hbm, ⟨5, _⟩ => ⟨S2048x2048, .f32⟩
  | .hbm, ⟨6, _⟩ => ⟨S2048x256, .f32⟩
  | .hbm, ⟨7, _⟩ => ⟨S256x2048, .f32⟩
  | .hbm, ⟨8, _⟩ => ⟨S256x2048, .bf16⟩
  | .hbm, ⟨9, _⟩ => ⟨S256x256, .bf16⟩
  | .hbm, ⟨10, _⟩ => ⟨S256x256, .bf16⟩
  | .hbm, ⟨11, _⟩ => ⟨S256x256, .bf16⟩
  | .hbm, ⟨12, _⟩ => ⟨S256x256, .bf16⟩
  | .hbm, ⟨13, _⟩ => ⟨S256x256, .bf16⟩
  | .hbm, ⟨14, _⟩ => ⟨S256x256, .bf16⟩
  | .hbm, ⟨15, _⟩ => ⟨S256x256, .bf16⟩
  | .hbm, ⟨16, _⟩ => ⟨S256x256, .bf16⟩
  | .hbm, ⟨17, _⟩ => ⟨S2048x256, .bf16⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== Proof.Kern.Vocab.lean ====
/- The vector operations of one block of rows of the backward kernel, at any number `n` of keys: the words in which
   every printed payload of the kernel is restated, and what each computes at an index over the extended reals. -/
module

public import Idealize.ShloMosaic.PureOps.Ideal.Laws
public import Idealize.ShloMosaic.Lib.ValueIdx
public import Idealize.ShloMosaic.Lib.ValueIdxCoords
public import Idealize.ShloMosaic.Lib.ValueLayout
public import Idealize.ShloMosaic.Lib.ValueLayoutCasts
public import Idealize.ShloMosaic.Lib.MatmulPlain
public import Idealize.ShloMosaic.Lib.Pipeline.Value

@[expose] public section

noncomputable section

namespace Cert.Attn

open Idealize.ShloMosaic Idealize.ShloMosaic.ValueIdx
open scoped BigOperators

/-- `[K, M]` by `[K, N]`, both contracted on their first axis: `lhsᵀ · rhs`. -/
def dotLhsT (K M N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

theorem dotLhsT_rank (K M N : ℕ) : (dotLhsT K M N).contr.rank = 1 := rfl
theorem dotLhsT_size (K M N : ℕ) :
    (dotLhsT K M N).contr.size ⟨0, by rw [dotLhsT_rank]; exact Nat.one_pos⟩ = K := rfl

theorem matmul_lhsT_apply {K M N : ℕ} {φ₁ φ₂ : FTy} (prec : Option ContractPrecision)
    (lhs : FVec Ideal ⟨2, ![K, M]⟩ φ₁) (rhs : FVec Ideal ⟨2, ![K, N]⟩ φ₂) (acc : FVec Ideal ⟨2, ![M, N]⟩ .f32)
    (r : Fin M) (c : Fin N) :
    FloatOps.matmul (dotLhsT K M N) prec lhs rhs acc (ix2 r c) =
      acc (ix2 r c) + ∑ k : Fin K, lhs (ix2 k r) * rhs (ix2 k c) := by
  rw [Ideal.matmul_apply,
    ← Equiv.sum_comp (contrEquiv1 _ K (dotLhsT_rank K M N) (dotLhsT_size K M N)).symm]
  refine congrArg (acc (ix2 r c) + ·) (Finset.sum_congr rfl fun k _ => ?_)
  have hk := contrEquiv1_symm_val _ K (dotLhsT_rank K M N) (dotLhsT_size K M N) k
  have el : (dotLhsT K M N).lhsIdx (ix2 r c)
      ((contrEquiv1 _ K (dotLhsT_rank K M N) (dotLhsT_size K M N)).symm k) = ix2 k r := by
    funext a; apply Fin.ext
    match a with
    | ⟨0, _⟩ => exact hk
    | ⟨1, _⟩ => rfl
  have er : (dotLhsT K M N).rhsIdx (ix2 r c)
      ((contrEquiv1 _ K (dotLhsT_rank K M N) (dotLhsT_size K M N)).symm k) = ix2 k c := by
    funext a; apply Fin.ext
    match a with
    | ⟨0, _⟩ => exact hk
    | ⟨1, _⟩ => rfl
  rw [el, er]

/-- The shape relations of the operations that do not depend on the number of keys. -/
structure RowFacts : Prop where
  iota : (⟨2, ![1, 128]⟩ : Shape).Iotas .tc 32 [1]
  lanes : (⟨2, ![1, 128]⟩ : Shape).ShapeCasts ⟨2, ![1, 128]⟩
  spread : (⟨2, ![1, 128]⟩ : Shape).Broadcasts ⟨2, ![256, 128]⟩
  rows : (⟨2, ![256, 128]⟩ : Shape).ShapeCasts ⟨2, ![256, 128]⟩
  sum : (⟨2, ![256, 128]⟩ : Shape).Reduces [1] ⟨1, ![256]⟩
  col : (⟨1, ![256]⟩ : Shape).ShapeCasts ⟨2, ![256, 1]⟩
  tile : (⟨4, ![1, 1, 256, 256]⟩ : Shape).ShapeCasts ⟨2, ![256, 256]⟩
  untile : (⟨2, ![256, 256]⟩ : Shape).ShapeCasts ⟨4, ![1, 1, 256, 256]⟩
  trunc : FTy.bf16.bits < FTy.f32.bits

/-- The shape relations of the operations over `n` keys. -/
structure KeyFacts (n : ℕ) : Prop where
  bcol : (⟨2, ![256, 1]⟩ : Shape).Broadcasts ⟨2, ![256, n]⟩
  sumKeys : (⟨2, ![256, n]⟩ : Shape).Reduces [1] ⟨1, ![256]⟩
  acc : (⟨2, ![128, n]⟩ : Shape).ShapeCasts ⟨2, ![128, n]⟩

/-- The shape relations only the forgetting heads use. -/
structure FoxFacts (n : ℕ) : Prop where
  brow : (⟨2, ![1, n]⟩ : Shape).Broadcasts ⟨2, ![256, n]⟩
  row : (⟨2, ![1, n]⟩ : Shape).ShapeCasts ⟨2, ![1, n]⟩
  sumRows : (⟨2, ![256, n]⟩ : Shape).Reduces [0] ⟨1, ![n]⟩
  line : (⟨1, ![n]⟩ : Shape).ShapeCasts ⟨2, ![1, n]⟩
  drop : (⟨3, ![1, 1, n]⟩ : Shape).ShapeCasts ⟨2, ![1, n]⟩
  add : (⟨2, ![1, n]⟩ : Shape).ShapeCasts ⟨3, ![1, 1, n]⟩

variable {F : FTy → Type} [FloatOps F] {n : ℕ}

/-! ## The operations -/

/-- The softmax scale, as the word both programs hold. -/
def scaleWord : BitVec 32 := 0x3DB504F3#32

/-- `q kᵀ · scale`. -/
def scaled (q : FVec F ⟨2, ![256, 128]⟩ .bf16) (k : FVec F ⟨2, ![n, 128]⟩ .bf16) : FVec F ⟨2, ![256, n]⟩ .f32 :=
  mulf (matmul (DotDims.transposedRhs 256 128 n) none q k (constant ⟨2, ![256, n]⟩ .f32 0x00000000#32))
    (broadcast ⟨2, ![256, n]⟩ (Scalar.ofBits .f32 0x3DB504F3#32))

/-- The sum over the lanes of a row, as a column. -/
def laneSum (H : RowFacts) (x : FVec F ⟨2, ![256, 128]⟩ .f32) : FVec F ⟨2, ![256, 1]⟩ .f32 :=
  shapeCast ⟨2, ![256, 1]⟩ (multiReduction .add [1] ⟨1, ![256]⟩ x 0x00000000#32 H.sum (.inl rfl) rfl) H.col

/-- Lane `h` of every row kept, the others zero. -/
def pickLane (H : RowFacts) (h : BitVec 32) (x : FVec F ⟨2, ![256, 128]⟩ .f32) : FVec F ⟨2, ![256, 128]⟩ .f32 :=
  select (broadcastTo ⟨2, ![256, 128]⟩ (shapeCast ⟨2, ![1, 128]⟩
      (cmpi .eq (iota .tc ⟨2, ![1, 128]⟩ 32 [1] H.iota) (broadcast ⟨2, ![1, 128]⟩ h)) H.lanes) H.spread)
    (shapeCast ⟨2, ![256, 128]⟩ x H.rows) (broadcast ⟨2, ![256, 128]⟩ (Scalar.ofBits .f32 0x00000000#32))

/-- Lane `h` of every row, as a column. -/
def laneCol (H : RowFacts) (h : BitVec 32) (x : FVec F ⟨2, ![256, 128]⟩ .f32) : FVec F ⟨2, ![256, 1]⟩ .f32 :=
  laneSum H (pickLane H h x)

/-- The forgetting heads' scores before the causal tile: the scaled products plus `c_t - c_j`. -/
def foxRaw (K : KeyFacts n) (X : FoxFacts n) (s : FVec F ⟨2, ![256, n]⟩ .f32) (cc : FVec F ⟨2, ![256, 1]⟩ .f32)
    (cr : FVec F ⟨2, ![1, n]⟩ .f32) : FVec F ⟨2, ![256, n]⟩ .f32 :=
  addf s (subf (broadcastTo ⟨2, ![256, n]⟩ cc K.bcol) (broadcastTo ⟨2, ![256, n]⟩ (shapeCast ⟨2, ![1, n]⟩ cr X.row) X.brow))

/-- One tile as a matrix. -/
def asTile (H : RowFacts) (x : FVec F ⟨4, ![1, 1, 256, 256]⟩ .f32) : FVec F ⟨2, ![256, 256]⟩ .f32 :=
  shapeCast ⟨2, ![256, 256]⟩ x H.tile

/-- The probabilities: the exponential of the scores less the row's log-sum. -/
def probs (H : RowFacts) (K : KeyFacts n) (h : BitVec 32) (s : FVec F ⟨2, ![256, n]⟩ .f32)
    (lse : FVec F ⟨2, ![256, 128]⟩ .f32) : FVec F ⟨2, ![256, n]⟩ .f32 :=
  exp (subf s (broadcastTo ⟨2, ![256, n]⟩ (laneCol H h lse) K.bcol))

/-- `do · vᵀ`. -/
def dprobs (dov : FVec F ⟨2, ![256, 128]⟩ .bf16) (v : FVec F ⟨2, ![n, 128]⟩ .bf16) : FVec F ⟨2, ![256, n]⟩ .f32 :=
  matmul (DotDims.transposedRhs 256 128 n) none dov v (constant ⟨2, ![256, n]⟩ .f32 0x00000000#32)

/-- The gradient of the scores from the probabilities, their gradient and the row's correction. -/
def dscores (K : KeyFacts n) (p dp : FVec F ⟨2, ![256, n]⟩ .f32) (delta : FVec F ⟨2, ![256, 1]⟩ .f32) :
    FVec F ⟨2, ![256, n]⟩ .f32 :=
  mulf p (subf dp (broadcastTo ⟨2, ![256, n]⟩ delta K.bcol))

/-- The forgetting heads' correction: the sum of `p · dp` over the keys. -/
def foxDelta (H : RowFacts) (K : KeyFacts n) (p dp : FVec F ⟨2, ![256, n]⟩ .f32) : FVec F ⟨2, ![256, 1]⟩ .f32 :=
  shapeCast ⟨2, ![256, 1]⟩ (multiReduction .add [1] ⟨1, ![256]⟩ (mulf p dp) 0x00000000#32 K.sumKeys (.inl rfl) rfl) H.col

/-- The dilated heads' correction: the product of `do` and the output over the head's features. -/
def dilDelta (H : RowFacts) (dov o : FVec F ⟨2, ![256, 128]⟩ .bf16) : FVec F ⟨2, ![256, 1]⟩ .f32 :=
  laneSum H (mulf (extf .f32 dov H.trunc) (extf .f32 (shapeCast ⟨2, ![256, 128]⟩ o H.rows) H.trunc))

/-- The rows of dq. -/
def dqRows (H : RowFacts) (ds : FVec F ⟨2, ![256, n]⟩ .f32) (k : FVec F ⟨2, ![n, 128]⟩ .bf16) :
    FVec F ⟨2, ![256, 128]⟩ .bf16 :=
  truncf .bf16 (mulf (matmul (DotDims.plain 256 n 128) none (truncf .bf16 ds H.trunc) k
    (constant ⟨2, ![256, 128]⟩ .f32 0x00000000#32)) (broadcast ⟨2, ![256, 128]⟩ (Scalar.ofBits .f32 0x3DB504F3#32))) H.trunc

/-- The accumulator of dk, transposed, after a block of rows. -/
def dkAcc (H : RowFacts) (K : KeyFacts n) (old : FVec F ⟨2, ![128, n]⟩ .f32) (q : FVec F ⟨2, ![256, 128]⟩ .bf16)
    (ds : FVec F ⟨2, ![256, n]⟩ .f32) : FVec F ⟨2, ![128, n]⟩ .f32 :=
  shapeCast ⟨2, ![128, n]⟩ (addf old (mulf (matmul (dotLhsT 256 128 n) none q (truncf .bf16 ds H.trunc)
    (constant ⟨2, ![128, n]⟩ .f32 0x00000000#32)) (broadcast ⟨2, ![128, n]⟩ (Scalar.ofBits .f32 0x3DB504F3#32)))) K.acc

/-- The accumulator of dv, transposed, after a block of rows. -/
def dvAcc (H : RowFacts) (K : KeyFacts n) (old : FVec F ⟨2, ![128, n]⟩ .f32) (dov : FVec F ⟨2, ![256, 128]⟩ .bf16)
    (p : FVec F ⟨2, ![256, n]⟩ .f32) : FVec F ⟨2, ![128, n]⟩ .f32 :=
  shapeCast ⟨2, ![128, n]⟩ (addf old (matmul (dotLhsT 256 128 n) none dov (truncf .bf16 p H.trunc)
    (constant ⟨2, ![128, n]⟩ .f32 0x00000000#32))) K.acc

/-- The line of gate gradients after a block of rows. -/
def dctAcc (X : FoxFacts n) (old : FVec F ⟨3, ![1, 1, n]⟩ .f32) (ds : FVec F ⟨2, ![256, n]⟩ .f32) :
    FVec F ⟨3, ![1, 1, n]⟩ .f32 :=
  shapeCast ⟨3, ![1, 1, n]⟩ (addf (shapeCast ⟨2, ![1, n]⟩ old X.drop)
    (subf (broadcast ⟨2, ![1, n]⟩ (Scalar.ofBits .f32 0x00000000#32))
      (shapeCast ⟨2, ![1, n]⟩ (multiReduction .add [0] ⟨1, ![n]⟩ ds 0x00000000#32 X.sumRows (.inl rfl) rfl) X.line))) X.add

/-- One tile of the bias gradient after a block. -/
def tileAcc (H : RowFacts) (old : FVec F ⟨4, ![1, 1, 256, 256]⟩ .f32) (ds : FVec F ⟨2, ![256, 256]⟩ .f32) :
    FVec F ⟨4, ![1, 1, 256, 256]⟩ .f32 :=
  shapeCast ⟨4, ![1, 1, 256, 256]⟩ (addf (shapeCast ⟨2, ![256, 256]⟩ old H.tile) ds) H.untile

/-! ## What they compute at an index -/

/-- The scale as an extended real. -/
def scale : EReal := Ideal.ofBits .f32 0x3DB504F3#32

theorem broadcastCol_apply {a b : ℕ} {α : Type} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h _ _ fun x => ?_
  match x with
  | ⟨0, _⟩ =>
      show r.val = if a = 1 then 0 else r.val
      split_ifs with h1
      · have := r.isLt; omega
      · rfl
  | ⟨1, _⟩ => rfl

theorem scaled_apply (q : FVec Ideal ⟨2, ![256, 128]⟩ .bf16) (k : FVec Ideal ⟨2, ![n, 128]⟩ .bf16) (r : Fin 256)
    (c : Fin n) : scaled q k (ix2 r c) = (∑ d : Fin 128, q (ix2 r d) * k (ix2 c d)) * scale := by
  unfold scaled
  simp only [matmul, mulf_apply]
  rw [Ideal.matmul_transposedRhs_apply, constant_apply, Ideal.ofBits_zero_f32, zero_add]
  rfl

/-- A sum along the rows of a matrix, at a row. -/
theorem sumAxis1_apply {a b : ℕ} (x : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (r : Fin a) :
    multiReduction .add [1] ⟨1, ![a]⟩ x 0x00000000#32 h hφ hacc (ix1 r) = ∑ d : Fin b, x (ix2 r d) := by
  refine (Ideal.multiReduction_add_single x _ h hφ hacc (ix1 r)).trans (Finset.sum_congr rfl fun d _ => congrArg x ?_)
  funext i; apply Fin.ext
  match i with
  | ⟨0, _⟩ => rfl
  | ⟨1, _⟩ => rfl

/-- A sum down the columns of a matrix, at a column. -/
theorem sumAxis0_apply {a b : ℕ} (x : FVec Ideal ⟨2, ![a, b]⟩ .f32) (h : (⟨2, ![a, b]⟩ : Shape).Reduces [0] ⟨1, ![b]⟩)
    (hφ : FKind.Formats .f32) (hacc : (0x00000000#32 : BitVec 32) = FKind.add.neutral .f32 hφ) (c : Fin b) :
    multiReduction .add [0] ⟨1, ![b]⟩ x 0x00000000#32 h hφ hacc (ix1 c) = ∑ r : Fin a, x (ix2 r c) := by
  refine (Ideal.multiReduction_add_single x _ h hφ hacc (ix1 c)).trans (Finset.sum_congr rfl fun d _ => congrArg x ?_)
  funext i; apply Fin.ext
  match i with
  | ⟨0, _⟩ => rfl
  | ⟨1, _⟩ => rfl

theorem laneSum_apply (H : RowFacts) (x : FVec Ideal ⟨2, ![256, 128]⟩ .f32) (r : Fin 256) (u : Fin 1) :
    laneSum H x (ix2 r u) = ∑ d : Fin 128, x (ix2 r d) := by
  unfold laneSum
  rw [shapeCast_a_a1_apply]
  exact sumAxis1_apply x H.sum _ _ r

theorem pickLane_apply (H : RowFacts) (h : ℕ) (hh : h < 128) (x : FVec Ideal ⟨2, ![256, 128]⟩ .f32) (r : Fin 256)
    (d : Fin 128) : pickLane H (BitVec.ofNat 32 h) x (ix2 r d) = if d.val = h then x (ix2 r d) else 0 := by
  unfold pickLane
  have hsel : (broadcastTo ⟨2, ![256, 128]⟩ (shapeCast ⟨2, ![1, 128]⟩
      (cmpi .eq (iota .tc ⟨2, ![1, 128]⟩ 32 [1] H.iota) (broadcast ⟨2, ![1, 128]⟩ (BitVec.ofNat 32 h))) H.lanes) H.spread)
      (ix2 r d) = BitVec.ofBool (BitVec.ofNat 32 d.val == BitVec.ofNat 32 h) := by
    rw [broadcastTo_1b_ab_apply, shapeCast_self]
    show BitVec.ofBool (BitVec.ofNat 32 (0 * 128 + d.val) == BitVec.ofNat 32 h) = _
    rw [Nat.zero_mul, Nat.zero_add]
  rw [select_apply, hsel, shapeCast_self]
  by_cases he : d.val = h
  · rw [if_pos he, he]
    simp [select_one]
  · have hne : (BitVec.ofNat 32 d.val == BitVec.ofNat 32 h) = false := by
      rw [beq_eq_false_iff_ne]
      intro hc
      have := congrArg BitVec.toNat hc
      simp only [BitVec.toNat_ofNat] at this
      have := d.isLt
      omega
    rw [if_neg he, hne]
    show Ideal.ofBits .f32 0x00000000#32 = 0
    exact Ideal.ofBits_zero_f32

theorem laneCol_apply (H : RowFacts) (h : ℕ) (hh : h < 128) (x : FVec Ideal ⟨2, ![256, 128]⟩ .f32) (r : Fin 256)
    (u : Fin 1) : laneCol H (BitVec.ofNat 32 h) x (ix2 r u) = x (ix2 r ⟨h, hh⟩) := by
  unfold laneCol
  rw [laneSum_apply, Finset.sum_eq_single (⟨h, hh⟩ : Fin 128)]
  · rw [pickLane_apply H h hh, if_pos rfl]
  · intro d _ hd
    rw [pickLane_apply H h hh, if_neg]
    exact fun hc => hd (Fin.ext hc)
  · intro hc; exact absurd (Finset.mem_univ _) hc

theorem foxRaw_apply (K : KeyFacts n) (X : FoxFacts n) (s : FVec Ideal ⟨2, ![256, n]⟩ .f32)
    (cc : FVec Ideal ⟨2, ![256, 1]⟩ .f32) (cr : FVec Ideal ⟨2, ![1, n]⟩ .f32) (r : Fin 256) (c : Fin n) :
    foxRaw K X s cc cr (ix2 r c) = s (ix2 r c) + (cc (ix2 r 0) - cr (ix2 0 c)) := by
  unfold foxRaw
  rw [addf_apply, subf_apply, broadcastCol_apply, broadcastTo_1b_ab_apply, shapeCast_self]

theorem asTile_apply (H : RowFacts) (x : FVec Ideal ⟨4, ![1, 1, 256, 256]⟩ .f32) (r c : Fin 256) :
    asTile H x (ix2 r c) = x (ix4 0 0 r c) := by
  unfold asTile
  refine shapeCast_apply _ _ _ _ ?_
  rw [Shape.rowMajor_val_four, Shape.rowMajor_val_two]
  show ((0 * 1 + 0) * 256 + r.val) * 256 + c.val = r.val * 256 + c.val
  omega

theorem probs_apply (H : RowFacts) (K : KeyFacts n) (h : ℕ) (hh : h < 128) (s : FVec Ideal ⟨2, ![256, n]⟩ .f32)
    (lse : FVec Ideal ⟨2, ![256, 128]⟩ .f32) (r : Fin 256) (c : Fin n) :
    probs H K (BitVec.ofNat 32 h) s lse (ix2 r c) = Ideal.exp (s (ix2 r c) - lse (ix2 r ⟨h, hh⟩)) := by
  unfold probs
  rw [← laneCol_apply H h hh lse r 0, ← broadcastCol_apply (b := n) (laneCol H (BitVec.ofNat 32 h) lse) K.bcol r c]
  rfl

theorem dprobs_apply (dov : FVec Ideal ⟨2, ![256, 128]⟩ .bf16) (v : FVec Ideal ⟨2, ![n, 128]⟩ .bf16) (r : Fin 256)
    (c : Fin n) : dprobs dov v (ix2 r c) = ∑ d : Fin 128, dov (ix2 r d) * v (ix2 c d) := by
  unfold dprobs
  simp only [matmul]
  rw [Ideal.matmul_transposedRhs_apply, constant_apply, Ideal.ofBits_zero_f32, zero_add]

theorem dscores_apply (K : KeyFacts n) (p dp : FVec Ideal ⟨2, ![256, n]⟩ .f32) (delta : FVec Ideal ⟨2, ![256, 1]⟩ .f32)
    (r : Fin 256) (c : Fin n) :
    dscores K p dp delta (ix2 r c) = p (ix2 r c) * (dp (ix2 r c) - delta (ix2 r 0)) := by
  unfold dscores
  rw [mulf_apply, subf_apply, broadcastCol_apply]

theorem foxDelta_apply (H : RowFacts) (K : KeyFacts n) (p dp : FVec Ideal ⟨2, ![256, n]⟩ .f32) (r : Fin 256) (u : Fin 1) :
    foxDelta H K p dp (ix2 r u) = ∑ c : Fin n, p (ix2 r c) * dp (ix2 r c) := by
  unfold foxDelta
  rw [shapeCast_a_a1_apply]
  exact sumAxis1_apply (mulf p dp) K.sumKeys _ _ r

theorem dilDelta_apply (H : RowFacts) (dov o : FVec Ideal ⟨2, ![256, 128]⟩ .bf16) (r : Fin 256) (u : Fin 1) :
    dilDelta H dov o (ix2 r u) = ∑ d : Fin 128, dov (ix2 r d) * o (ix2 r d) := by
  unfold dilDelta
  rw [laneSum_apply, shapeCast_self]
  rfl

theorem dqRows_apply (H : RowFacts) (ds : FVec Ideal ⟨2, ![256, n]⟩ .f32) (k : FVec Ideal ⟨2, ![n, 128]⟩ .bf16)
    (r : Fin 256) (d : Fin 128) :
    dqRows H ds k (ix2 r d) = (∑ c : Fin n, ds (ix2 r c) * k (ix2 c d)) * scale := by
  unfold dqRows
  simp only [matmul, truncf_apply, mulf_apply]
  rw [Ideal.matmul_plain_apply, constant_apply, Ideal.ofBits_zero_f32, zero_add]
  rfl

theorem dkAcc_apply (H : RowFacts) (K : KeyFacts n) (old : FVec Ideal ⟨2, ![128, n]⟩ .f32)
    (q : FVec Ideal ⟨2, ![256, 128]⟩ .bf16) (ds : FVec Ideal ⟨2, ![256, n]⟩ .f32) (d : Fin 128) (c : Fin n) :
    dkAcc H K old q ds (ix2 d c) = old (ix2 d c) + (∑ r : Fin 256, q (ix2 r d) * ds (ix2 r c)) * scale := by
  unfold dkAcc
  rw [shapeCast_self]
  simp only [matmul, addf_apply, mulf_apply]
  rw [matmul_lhsT_apply, constant_apply, Ideal.ofBits_zero_f32, zero_add]
  rfl

theorem dvAcc_apply (H : RowFacts) (K : KeyFacts n) (old : FVec Ideal ⟨2, ![128, n]⟩ .f32)
    (dov : FVec Ideal ⟨2, ![256, 128]⟩ .bf16) (p : FVec Ideal ⟨2, ![256, n]⟩ .f32) (d : Fin 128) (c : Fin n) :
    dvAcc H K old dov p (ix2 d c) = old (ix2 d c) + ∑ r : Fin 256, dov (ix2 r d) * p (ix2 r c) := by
  unfold dvAcc
  rw [shapeCast_self]
  simp only [matmul, addf_apply]
  rw [matmul_lhsT_apply, constant_apply, Ideal.ofBits_zero_f32, zero_add]
  rfl

theorem dctAcc_apply (X : FoxFacts n) (old : FVec Ideal ⟨3, ![1, 1, n]⟩ .f32) (ds : FVec Ideal ⟨2, ![256, n]⟩ .f32)
    (c : Fin n) : dctAcc X old ds (ix3 0 0 c) = old (ix3 0 0 c) + (0 - ∑ r : Fin 256, ds (ix2 r c)) := by
  unfold dctAcc
  rw [shapeCast_ab_1ab_apply, addf_apply, shapeCast_1ab_ab_apply, subf_apply, shapeCast_a_1a_apply]
  exact congrArg₂ (fun a b : EReal => old (ix3 0 0 c) + (a - b)) Ideal.ofBits_zero_f32 (sumAxis0_apply ds X.sumRows _ _ c)

theorem tileAcc_apply (H : RowFacts) (old : FVec Ideal ⟨4, ![1, 1, 256, 256]⟩ .f32) (ds : FVec Ideal ⟨2, ![256, 256]⟩ .f32)
    (r c : Fin 256) : tileAcc H old ds (ix4 0 0 r c) = old (ix4 0 0 r c) + ds (ix2 r c) := by
  have e : (shapeCast ⟨2, ![256, 256]⟩ old H.tile) (ix2 r c) = old (ix4 0 0 r c) := asTile_apply H old r c
  unfold tileAcc
  rw [← e]
  refine shapeCast_apply _ _ _ (ix2 r c) ?_
  rw [Shape.rowMajor_val_four, Shape.rowMajor_val_two]
  show r.val * 256 + c.val = ((0 * 1 + 0) * 256 + r.val) * 256 + c.val
  omega

end Cert.Attn
end
-- ==== Proof.Kern.Body.lean ====
/- What the body of the backward kernel does at one head, block of rows by block of rows: the values it forms from the
   nine arrays it reads, and the pieces its stores leave, at any float instance. -/
module

public import proofs.«01_k».proof.Proof.Kern.Vocab
public import Idealize.ShloMosaic.Lib.Pipeline.FrameBody

@[expose] public section

noncomputable section

namespace Cert.Attn

open Idealize.ShloMosaic Idealize.ShloMosaic.ValueIdx

/-! ## The shape relations at the eight blocks -/

theorem rowFacts : RowFacts := ⟨by decide, by decide, by decide, by decide, by decide, by decide, by decide, by decide, by decide⟩

theorem keyFacts : (i : ℕ) → i < 8 → KeyFacts (256 * (i + 1))
  | 0, _ | 1, _ | 2, _ | 3, _ | 4, _ | 5, _ | 6, _ | 7, _ => ⟨by decide, by decide, by decide⟩
  | n + 8, h => absurd h (by omega)

theorem foxFacts : (i : ℕ) → i < 8 → FoxFacts (256 * (i + 1))
  | 0, _ | 1, _ | 2, _ | 3, _ | 4, _ | 5, _ | 6, _ | 7, _ => ⟨by decide, by decide, by decide, by decide, by decide, by decide⟩
  | n + 8, h => absurd h (by omega)

/-- The scores of a block split before the diagonal tile, and joined again. -/
structure CatFacts (i : ℕ) : Prop where
  left : (⟨2, ![256, 256 * (i + 1 + 1)]⟩ : Shape).Slices ![0, 0] ⟨2, ![256, 256 * (i + 1)]⟩
  right : (⟨2, ![256, 256 * (i + 1 + 1)]⟩ : Shape).Slices ![0, 256 * (i + 1)] ⟨2, ![256, 256]⟩
  join : Shape.Concatenates [⟨2, ![256, 256 * (i + 1)]⟩, ⟨2, ![256, 256]⟩] ⟨2, ![256, 256 * (i + 1 + 1)]⟩ 1

theorem catFacts : (i : ℕ) → i + 1 < 8 → CatFacts i
  | 0, _ | 1, _ | 2, _ | 3, _ | 4, _ | 5, _ | 6, _ => ⟨by decide, by decide, by decide⟩
  | n + 7, h => absurd h (by omega)

/-- Two or more tiles side by side. -/
theorem tilesJoin : (i : ℕ) → i + 1 < 8 →
    Shape.Concatenates (List.replicate (i + 2) (⟨2, ![256, 256]⟩ : Shape)) ⟨2, ![256, 256 * (i + 2)]⟩ 1
  | 0, _ | 1, _ | 2, _ | 3, _ | 4, _ | 5, _ | 6, _ => by decide
  | n + 7, h => absurd h (by omega)

theorem inb2 {A B o p a b : ℕ} (h : o + a ≤ A) (h' : p + b ≤ B) :
    ∀ x, (![o, p] : Fin 2 → ℕ) x + (![a, b] : Fin 2 → ℕ) x ≤ (⟨2, ![A, B]⟩ : Shape).size x :=
  fun x => match x with | ⟨0, _⟩ => h | ⟨1, _⟩ => h'

theorem inb3 {A B C o p q a b c : ℕ} (h : o + a ≤ A) (h' : p + b ≤ B) (h'' : q + c ≤ C) :
    ∀ x, (![o, p, q] : Fin 3 → ℕ) x + (![a, b, c] : Fin 3 → ℕ) x ≤ (⟨3, ![A, B, C]⟩ : Shape).size x :=
  fun x => match x with | ⟨0, _⟩ => h | ⟨1, _⟩ => h' | ⟨2, _⟩ => h''

theorem inb4 {A B C D o p q r a b c d : ℕ} (h : o + a ≤ A) (h' : p + b ≤ B) (h'' : q + c ≤ C) (h''' : r + d ≤ D) :
    ∀ x, (![o, p, q, r] : Fin 4 → ℕ) x + (![a, b, c, d] : Fin 4 → ℕ) x ≤ (⟨4, ![A, B, C, D]⟩ : Shape).size x :=
  fun x => match x with | ⟨0, _⟩ => h | ⟨1, _⟩ => h' | ⟨2, _⟩ => h'' | ⟨3, _⟩ => h'''

/-! ## The rectangles -/

/-- The rows of block `i` of a `[2048, 128]` array. -/
abbrev rowsRect (i : ℕ) (hi : i < 8) : Rect ⟨2, ![2048, 128]⟩ :=
  Rect.unit ![256 * i, 0] ![256, 128] (inb2 (by omega) (by omega))

/-- The keys the rows of block `i` see, of a `[2048, 128]` array. -/
abbrev keysRect (i : ℕ) (hi : i < 8) : Rect ⟨2, ![2048, 128]⟩ :=
  Rect.unit ![0, 0] ![256 * (i + 1), 128] (inb2 (by omega) (by omega))

/-- The same keys in a transposed accumulator. -/
abbrev accRect (i : ℕ) (hi : i < 8) : Rect ⟨2, ![128, 2048]⟩ :=
  Rect.unit ![0, 0] ![128, 256 * (i + 1)] (inb2 (by omega) (by omega))

/-- The same keys in a line. -/
abbrev lineRect (i : ℕ) (hi : i < 8) : Rect ⟨3, ![1, 1, 2048]⟩ :=
  Rect.unit ![0, 0, 0] ![1, 1, 256 * (i + 1)] (inb3 (by omega) (by omega) (by omega))

/-- Tile `k` of a head's eight. -/
abbrev tileRect (k : ℕ) (hk : k < 8) : Rect ⟨4, ![1, 8, 256, 256]⟩ :=
  Rect.unit ![0, k, 0, 0] ![1, 1, 256, 256] (inb4 (by omega) (by omega) (by omega) (by omega))

variable {F : FTy → Type} [FloatOps F]

/-! ## The values of a block -/

section
variable (h : BitVec 32)
  (xq xk xv : Vec F ⟨2, ![2048, 128]⟩ .bf16) (xc : Vec F ⟨2, ![2048, 128]⟩ .f32)
  (cr : (i : ℕ) → i < 8 → Vec F ⟨2, ![1, 256 * (i + 1)]⟩ .f32)
  (xt : Vec F ⟨4, ![1, 8, 256, 256]⟩ .f32) (xl : Vec F ⟨2, ![2048, 128]⟩ .f32) (xo xd : Vec F ⟨2, ![2048, 128]⟩ .bf16)

def tileOf (k : ℕ) (hk : k < 8) : FVec F ⟨2, ![256, 256]⟩ .f32 := asTile rowFacts (View.ld xt (tileRect k hk))

/-- The scores of block `i` before the mask of a forgetting head. -/
def foxPre (i : ℕ) (hi : i < 8) : FVec F ⟨2, ![256, 256 * (i + 1)]⟩ .f32 :=
  foxRaw (keyFacts i hi) (foxFacts i hi) (scaled (View.ld xq (rowsRect i hi)) (View.ld xk (keysRect i hi)))
    (laneCol rowFacts h (View.ld xc (rowsRect i hi))) (cr i hi)

/-- The scores of block `i` of a forgetting head: the causal tile added on the diagonal. -/
def foxScores : (i : ℕ) → (hi : i < 8) → FVec F ⟨2, ![256, 256 * (i + 1)]⟩ .f32
  | 0, hi => addf (foxPre h xq xk xc cr 0 hi) (tileOf xt 0 (by omega))
  | i + 1, hi => concatenate ⟨2, ![256, 256 * (i + 1 + 1)]⟩ 1
      [⟨⟨2, ![256, 256 * (i + 1)]⟩, extractStridedSlice ⟨2, ![256, 256 * (i + 1)]⟩ ![0, 0] (foxPre h xq xk xc cr (i + 1) hi) (catFacts i hi).left⟩,
       ⟨⟨2, ![256, 256]⟩, addf (extractStridedSlice ⟨2, ![256, 256]⟩ ![0, 256 * (i + 1)] (foxPre h xq xk xc cr (i + 1) hi) (catFacts i hi).right)
          (tileOf xt 0 (by omega))⟩] (catFacts i hi).join

/-- The tiles of block `i` of a dilated head, the farthest first. -/
def dilTiles : (i : ℕ) → (hi : i < 8) → FVec F ⟨2, ![256, 256 * (i + 1)]⟩ .f32
  | 0, hi => tileOf xt 0 hi
  | 1, hi => concatenate ⟨2, ![256, 256 * 2]⟩ 1 [⟨_, tileOf xt 1 (by omega)⟩, ⟨_, tileOf xt 0 (by omega)⟩] (tilesJoin 0 hi)
  | 2, hi => concatenate ⟨2, ![256, 256 * 3]⟩ 1 [⟨_, tileOf xt 2 (by omega)⟩, ⟨_, tileOf xt 1 (by omega)⟩, ⟨_, tileOf xt 0 (by omega)⟩] (tilesJoin 1 hi)
  | 3, hi => concatenate ⟨2, ![256, 256 * 4]⟩ 1 [⟨_, tileOf xt 3 (by omega)⟩, ⟨_, tileOf xt 2 (by omega)⟩, ⟨_, tileOf xt 1 (by omega)⟩, ⟨_, tileOf xt 0 (by omega)⟩] (tilesJoin 2 hi)
  | 4, hi => concatenate ⟨2, ![256, 256 * 5]⟩ 1 [⟨_, tileOf xt 4 (by omega)⟩, ⟨_, tileOf xt 3 (by omega)⟩, ⟨_, tileOf xt 2 (by omega)⟩, ⟨_, tileOf xt 1 (by omega)⟩, ⟨_, tileOf xt 0 (by omega)⟩] (tilesJoin 3 hi)
  | 5, hi => concatenate ⟨2, ![256, 256 * 6]⟩ 1 [⟨_, tileOf xt 5 (by omega)⟩, ⟨_, tileOf xt 4 (by omega)⟩, ⟨_, tileOf xt 3 (by omega)⟩, ⟨_, tileOf xt 2 (by omega)⟩, ⟨_, tileOf xt 1 (by omega)⟩, ⟨_, tileOf xt 0 (by omega)⟩] (tilesJoin 4 hi)
  | 6, hi => concatenate ⟨2, ![256, 256 * 7]⟩ 1 [⟨_, tileOf xt 6 (by omega)⟩, ⟨_, tileOf xt 5 (by omega)⟩, ⟨_, tileOf xt 4 (by omega)⟩, ⟨_, tileOf xt 3 (by omega)⟩, ⟨_, tileOf xt 2 (by omega)⟩, ⟨_, tileOf xt 1 (by omega)⟩, ⟨_, tileOf xt 0 (by omega)⟩] (tilesJoin 5 hi)
  | 7, hi => concatenate ⟨2, ![256, 256 * 8]⟩ 1 [⟨_, tileOf xt 7 (by omega)⟩, ⟨_, tileOf xt 6 (by omega)⟩, ⟨_, tileOf xt 5 (by omega)⟩, ⟨_, tileOf xt 4 (by omega)⟩, ⟨_, tileOf xt 3 (by omega)⟩, ⟨_, tileOf xt 2 (by omega)⟩, ⟨_, tileOf xt 1 (by omega)⟩, ⟨_, tileOf xt 0 (by omega)⟩] (tilesJoin 6 hi)
  | n + 8, hi => absurd hi (by omega)

/-- The scores of block `i` of a dilated head. -/
def dilScores (i : ℕ) (hi : i < 8) : FVec F ⟨2, ![256, 256 * (i + 1)]⟩ .f32 :=
  addf (scaled (View.ld xq (rowsRect i hi)) (View.ld xk (keysRect i hi))) (dilTiles xt i hi)

/-- The probabilities of block `i` from its scores. -/
def blockP (S : (i : ℕ) → (hi : i < 8) → FVec F ⟨2, ![256, 256 * (i + 1)]⟩ .f32) (i : ℕ) (hi : i < 8) :
    FVec F ⟨2, ![256, 256 * (i + 1)]⟩ .f32 :=
  probs rowFacts (keyFacts i hi) h (S i hi) (View.ld xl (rowsRect i hi))

def blockDp (i : ℕ) (hi : i < 8) : FVec F ⟨2, ![256, 256 * (i + 1)]⟩ .f32 :=
  dprobs (View.ld xd (rowsRect i hi)) (View.ld xv (keysRect i hi))

/-- The gradient of the scores of block `i` of a forgetting head. -/
def foxDs (P : (i : ℕ) → (hi : i < 8) → FVec F ⟨2, ![256, 256 * (i + 1)]⟩ .f32) (i : ℕ) (hi : i < 8) :
    FVec F ⟨2, ![256, 256 * (i + 1)]⟩ .f32 :=
  dscores (keyFacts i hi) (P i hi) (blockDp xv xd i hi) (foxDelta rowFacts (keyFacts i hi) (P i hi) (blockDp xv xd i hi))

/-- The gradient of the scores of block `i` of a dilated head. -/
def dilDs (P : (i : ℕ) → (hi : i < 8) → FVec F ⟨2, ![256, 256 * (i + 1)]⟩ .f32) (i : ℕ) (hi : i < 8) :
    FVec F ⟨2, ![256, 256 * (i + 1)]⟩ .f32 :=
  dscores (keyFacts i hi) (P i hi) (blockDp xv xd i hi)
    (dilDelta rowFacts (View.ld xd (rowsRect i hi)) (View.ld xo (rowsRect i hi)))

/-- The probabilities of a forgetting head. -/
abbrev foxP (i : ℕ) (hi : i < 8) : FVec F ⟨2, ![256, 256 * (i + 1)]⟩ .f32 :=
  blockP h xl (foxScores h xq xk xc cr xt) i hi

/-- The gradient of a forgetting head's scores. -/
abbrev foxD (i : ℕ) (hi : i < 8) : FVec F ⟨2, ![256, 256 * (i + 1)]⟩ .f32 :=
  foxDs xv xd (foxP h xq xk xc cr xt xl) i hi

/-- The probabilities of a dilated head. -/
abbrev dilP (i : ℕ) (hi : i < 8) : FVec F ⟨2, ![256, 256 * (i + 1)]⟩ .f32 :=
  blockP h xl (dilScores xq xk xt) i hi

/-- The gradient of a dilated head's scores. -/
abbrev dilD (i : ℕ) (hi : i < 8) : FVec F ⟨2, ![256, 256 * (i + 1)]⟩ .f32 :=
  dilDs xv xo xd (dilP h xq xk xt xl) i hi

/-! ## The pieces of the stores -/

variable (D P : (i : ℕ) → (hi : i < 8) → FVec F ⟨2, ![256, 256 * (i + 1)]⟩ .f32)

/-- The rows of dq, the last block first. -/
def dqPieces : (i : ℕ) → i ≤ 8 → List (View.Piece (Elt F) ⟨2, ![2048, 128]⟩ .bf16)
  | 0, _ => []
  | i + 1, hi => ⟨rowsRect i hi, dqRows rowFacts (D i hi) (View.ld xk (keysRect i hi))⟩ :: dqPieces i (Nat.le_of_succ_le hi)

/-- The accumulator of dk, the last block first. -/
def dkPieces {sig : RefSig} {κ : Kind} {sp : Space} (v : View sig κ sp ⟨2, ![128, 2048]⟩ .f32) :
    (i : ℕ) → i ≤ 8 → List (View.Piece (Elt F) ⟨2, ![128, 2048]⟩ .f32)
  | 0, _ => [⟨Rect.unit ![0, 0] ![128, 2048] (inb2 (by omega) (by omega)),
      broadcast ⟨2, ![128, 2048]⟩ (Scalar.ofBits .f32 0x00000000#32)⟩]
  | i + 1, hi => ⟨accRect i hi, dkAcc rowFacts (keyFacts i hi)
      (v.readCov (dkPieces v i (Nat.le_of_succ_le hi)) (accRect i hi).toLoadRect) (View.ld xq (rowsRect i hi)) (D i hi)⟩
      :: dkPieces v i (Nat.le_of_succ_le hi)

/-- The accumulator of dv, the last block first. -/
def dvPieces {sig : RefSig} {κ : Kind} {sp : Space} (v : View sig κ sp ⟨2, ![128, 2048]⟩ .f32) :
    (i : ℕ) → i ≤ 8 → List (View.Piece (Elt F) ⟨2, ![128, 2048]⟩ .f32)
  | 0, _ => [⟨Rect.unit ![0, 0] ![128, 2048] (inb2 (by omega) (by omega)),
      broadcast ⟨2, ![128, 2048]⟩ (Scalar.ofBits .f32 0x00000000#32)⟩]
  | i + 1, hi => ⟨accRect i hi, dvAcc rowFacts (keyFacts i hi)
      (v.readCov (dvPieces v i (Nat.le_of_succ_le hi)) (accRect i hi).toLoadRect) (View.ld xd (rowsRect i hi)) (P i hi)⟩
      :: dvPieces v i (Nat.le_of_succ_le hi)

/-- The line of gate gradients, the last block first. -/
def dctPieces {sig : RefSig} {κ : Kind} {sp : Space} (v : View sig κ sp ⟨3, ![1, 1, 2048]⟩ .f32) :
    (i : ℕ) → i ≤ 8 → List (View.Piece (Elt F) ⟨3, ![1, 1, 2048]⟩ .f32)
  | 0, _ => [⟨Rect.unit ![0, 0, 0] ![1, 1, 2048] (inb3 (by omega) (by omega) (by omega)),
      broadcast ⟨3, ![1, 1, 2048]⟩ (Scalar.ofBits .f32 0x00000000#32)⟩]
  | i + 1, hi => ⟨lineRect i hi, dctAcc (foxFacts i hi)
      (v.readCov (dctPieces v i (Nat.le_of_succ_le hi)) (lineRect i hi).toLoadRect) (D i hi)⟩
      :: dctPieces v i (Nat.le_of_succ_le hi)

theorem tileSlices : (i j : ℕ) → i < 8 → j < i + 1 → (⟨2, ![256, 256 * (i + 1)]⟩ : Shape).Slices ![0, 256 * j] ⟨2, ![256, 256]⟩ := by
  intro i j hi hj
  interval_cases i <;> interval_cases j <;> decide

/-- Columns `256 j` to `256 (j + 1)` of block `i`'s score gradients. -/
def dsTile : (i : ℕ) → (hi : i < 8) → (j : ℕ) → j < i + 1 → FVec F ⟨2, ![256, 256]⟩ .f32
  | 0, hi, _, _ => D 0 hi
  | i + 1, hi, j, hj => extractStridedSlice ⟨2, ![256, 256]⟩ ![0, 256 * j] (D (i + 1) hi) (tileSlices (i + 1) j hi hj)

/-- The tiles that block `i` adds to, after the first `j` of them. -/
def tileStep {sig : RefSig} {κ : Kind} {sp : Space} (v : View sig κ sp ⟨4, ![1, 8, 256, 256]⟩ .f32) (i : ℕ) (hi : i < 8)
    (L : List (View.Piece (Elt F) ⟨4, ![1, 8, 256, 256]⟩ .f32)) :
    (j : ℕ) → j ≤ i + 1 → List (View.Piece (Elt F) ⟨4, ![1, 8, 256, 256]⟩ .f32)
  | 0, _ => L
  | j + 1, hj => ⟨tileRect (i - j) (by omega), tileAcc rowFacts
      (v.readCov (tileStep v i hi L j (Nat.le_of_succ_le hj)) (tileRect (i - j) (by omega)).toLoadRect) (dsTile D i hi j hj)⟩
      :: tileStep v i hi L j (Nat.le_of_succ_le hj)

/-- The tiles of the bias gradient after the first `i` blocks. -/
def tilePieces {sig : RefSig} {κ : Kind} {sp : Space} (v : View sig κ sp ⟨4, ![1, 8, 256, 256]⟩ .f32) :
    (i : ℕ) → i ≤ 8 → List (View.Piece (Elt F) ⟨4, ![1, 8, 256, 256]⟩ .f32)
  | 0, _ => [⟨Rect.unit ![0, 0, 0, 0] ![1, 8, 256, 256] (inb4 (by omega) (by omega) (by omega) (by omega)),
      broadcast ⟨4, ![1, 8, 256, 256]⟩ (Scalar.ofBits .f32 0x00000000#32)⟩]
  | i + 1, hi => tileStep D v i hi (tilePieces v i (Nat.le_of_succ_le hi)) (i + 1) le_rfl

end

end Cert.Attn
-- ==== Proof.Kern.Reals.lean ====
/- What one head's body of the backward kernel leaves, over the extended reals, when what it reads is finite: the
   probabilities are `w · exp (x - l)`, with a weight `w` that vanishes above the diagonal, and every output is a real
   sum over all the queries or all the keys. -/
module

public import proofs.«01_k».proof.Proof.Kern.Body
public import Idealize.ShloMosaic.Lib.Pipeline.Value

@[expose] public section

noncomputable section

namespace Cert.Attn

open Idealize.ShloMosaic Idealize.ShloMosaic.ValueIdx
open scoped BigOperators

/-! ## Sums -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over `Fin n` of real values read at the index's number. -/
theorem sum_fin_coe {n : ℕ} (f : Fin n → EReal) (g : ℕ → ℝ) (h : ∀ k : Fin n, f k = ((g k.val : ℝ) : EReal)) :
    ∑ k : Fin n, f k = ((∑ k ∈ Finset.range n, g k : ℝ) : EReal) := by
  rw [Finset.sum_congr rfl fun k _ => h k, ← coe_sum, Fin.sum_univ_eq_sum_range]

/-- A sum of `n` terms extended by zeros. -/
theorem sum_range_extend {n N : ℕ} (hn : n ≤ N) (g : ℕ → ℝ) (h : ∀ k, n ≤ k → k < N → g k = 0) :
    ∑ k ∈ Finset.range n, g k = ∑ k ∈ Finset.range N, g k :=
  Finset.sum_subset (Finset.range_mono hn) fun k hk hk' => h k (by simpa using hk') (by simpa using hk)

/-! ## Reading a block -/

theorem ld_rows {e : EltTy} (x : Vec Ideal ⟨2, ![2048, 128]⟩ e) (i : ℕ) (hi : i < 8) (r : Fin 256) (d : Fin 128) :
    View.ld x (rowsRect i hi) (ix2 r d) = x (ix2 ⟨256 * i + r.val, by omega⟩ d) := by
  refine congrArg x (funext fun a => Fin.ext ?_)
  match a with
  | ⟨0, _⟩ => show 256 * i + 1 * r.val = 256 * i + r.val; omega
  | ⟨1, _⟩ => show 0 + 1 * d.val = d.val; omega

theorem ld_keys {e : EltTy} (x : Vec Ideal ⟨2, ![2048, 128]⟩ e) (i : ℕ) (hi : i < 8) (c : Fin (256 * (i + 1))) (d : Fin 128) :
    View.ld x (keysRect i hi) (ix2 c d) = x (ix2 ⟨c.val, by omega⟩ d) := by
  refine congrArg x (funext fun a => Fin.ext ?_)
  match a with
  | ⟨0, _⟩ => show 0 + 1 * c.val = c.val; omega
  | ⟨1, _⟩ => show 0 + 1 * d.val = d.val; omega

theorem ld_tile {e : EltTy} (x : Vec Ideal ⟨4, ![1, 8, 256, 256]⟩ e) (k : ℕ) (hk : k < 8) (r c : Fin 256) :
    View.ld x (tileRect k hk) (ix4 (0 : Fin 1) (0 : Fin 1) r c) = x (ix4 (0 : Fin 1) ⟨k, hk⟩ r c) := by
  refine congrArg x (funext fun a => Fin.ext ?_)
  match a with
  | ⟨0, _⟩ => rfl
  | ⟨1, _⟩ => show k + 1 * 0 = k; omega
  | ⟨2, _⟩ => show 0 + 1 * r.val = r.val; omega
  | ⟨3, _⟩ => show 0 + 1 * c.val = c.val; omega

theorem tileOf_apply (x : Vec Ideal ⟨4, ![1, 8, 256, 256]⟩ .f32) (k : ℕ) (hk : k < 8) (r c : Fin 256) :
    tileOf x k hk (ix2 r c) = x (ix4 (0 : Fin 1) ⟨k, hk⟩ r c) := by
  unfold tileOf
  rw [asTile_apply, ld_tile]

/-! ## Finite arrays -/

/-- A `[2048, 128]` array holds the reals `A`. -/
def Holds (x : Vec Ideal ⟨2, ![2048, 128]⟩ .bf16) (A : ℕ → ℕ → ℝ) : Prop :=
  ∀ (t : Fin 2048) (d : Fin 128), (x (ix2 t d) : EReal) = ((A t.val d.val : ℝ) : EReal)

/-- The eight blocks of rows hold the reals `A`. -/
def Blocks (B : (i : ℕ) → i < 8 → FVec Ideal ⟨2, ![256, 256 * (i + 1)]⟩ .f32) (A : ℕ → ℕ → ℝ) : Prop :=
  ∀ (i : ℕ) (hi : i < 8) (r : Fin 256) (c : Fin (256 * (i + 1))), B i hi (ix2 r c) = ((A (256 * i + r.val) c.val : ℝ) : EReal)

/-- The softmax scale as a real. -/
def sigma : ℝ := scale.toReal

theorem scale_eq : scale = ((sigma : ℝ) : EReal) := by
  have h : ∃ r : ℝ, scale = ((r : ℝ) : EReal) := by
    refine ⟨(11863283 : ℝ) * (2 ^ 27 : ℝ)⁻¹, ?_⟩
    unfold scale
    simp [Ideal.ofBits, Ideal.ieee]
  obtain ⟨r, hr⟩ := h
  unfold sigma
  rw [hr, EReal.toReal_coe]

/-- The logarithm of a weight plus a bias; the weight zero is masked. -/
def masked (w b : ℝ) : EReal := if w = 0 then ⊥ else ((Real.log w + b : ℝ) : EReal)

theorem exp_masked {w : ℝ} (hw : 0 ≤ w) (x b l : ℝ) :
    Ideal.exp ((x : EReal) + masked w b - (l : EReal)) = ((w * Real.exp (x + b - l) : ℝ) : EReal) := by
  unfold masked
  by_cases h : w = 0
  · rw [if_pos h, h, EReal.add_bot, sub_eq_add_neg, EReal.bot_add, Ideal.exp_bot, zero_mul, EReal.coe_zero]
  · rw [if_neg h, ← EReal.coe_add, ← EReal.coe_sub, Ideal.exp_coe]
    have h' : 0 < w := lt_of_le_of_ne hw (Ne.symm h)
    congr 1
    rw [show x + (Real.log w + b) - l = Real.log w + (x + b - l) by ring, Real.exp_add, Real.exp_log h']

/-- Tile `k` of block `n`, counted from the farthest. -/
def farTile (xt : FVec Ideal ⟨4, ![1, 8, 256, 256]⟩ .f32) (n : ℕ) (hn : n < 8) (k : Fin (n + 1)) :
    FVec Ideal ⟨2, ![256, 256]⟩ .f32 := tileOf xt (n - k.val) (by omega)

section
variable {h : ℕ} {hh : h < 128}
  {xq xk xv : Vec Ideal ⟨2, ![2048, 128]⟩ .bf16} {xc : Vec Ideal ⟨2, ![2048, 128]⟩ .f32}
  {cr : (i : ℕ) → i < 8 → Vec Ideal ⟨2, ![1, 256 * (i + 1)]⟩ .f32}
  {xt : Vec Ideal ⟨4, ![1, 8, 256, 256]⟩ .f32} {xl : Vec Ideal ⟨2, ![2048, 128]⟩ .f32}
  {xo xd : Vec Ideal ⟨2, ![2048, 128]⟩ .bf16}
  {Q K V O DO : ℕ → ℕ → ℝ} {C L : ℕ → ℝ}

/-- The inner product of two rows. -/
def inner (A B : ℕ → ℕ → ℝ) (t j : ℕ) : ℝ := ∑ d ∈ Finset.range 128, A t d * B j d

theorem rows_inner {x y : Vec Ideal ⟨2, ![2048, 128]⟩ .bf16} {A B : ℕ → ℕ → ℝ}
    (hx : Holds x A) (hy : Holds y B) (i : ℕ) (hi : i < 8) (r : Fin 256) (c : Fin (256 * (i + 1))) :
    ∑ d : Fin 128, (View.ld x (rowsRect i hi) (ix2 r d) : EReal) * (View.ld y (keysRect i hi) (ix2 c d) : EReal)
      = ((inner A B (256 * i + r.val) c.val : ℝ) : EReal) :=
  sum_fin_coe _ (fun d => A (256 * i + r.val) d * B c.val d) fun d => by
    have e := ld_rows x i hi r d
    have e' := ld_keys y i hi c d
    rw [e, e', hx, hy, ← EReal.coe_mul]

theorem scaled_block (hq : Holds xq Q) (hk : Holds xk K) (i : ℕ) (hi : i < 8) (r : Fin 256) (c : Fin (256 * (i + 1))) :
    scaled (F := Ideal) (View.ld xq (rowsRect i hi)) (View.ld xk (keysRect i hi)) (ix2 r c)
      = ((inner Q K (256 * i + r.val) c.val * sigma : ℝ) : EReal) := by
  rw [scaled_apply, rows_inner hq hk, scale_eq, ← EReal.coe_mul]

/-- The scores of every block are the reals `X` plus the masked logarithm of the weight `W` plus `B`. -/
def Scores (S : (i : ℕ) → i < 8 → FVec Ideal ⟨2, ![256, 256 * (i + 1)]⟩ .f32) (X W B : ℕ → ℕ → ℝ) : Prop :=
  ∀ (i : ℕ) (hi : i < 8) (r : Fin 256) (c : Fin (256 * (i + 1))),
    S i hi (ix2 r c) = ((X (256 * i + r.val) c.val : ℝ) : EReal) + masked (W (256 * i + r.val) c.val) (B (256 * i + r.val) c.val)

/-- The causal weight. -/
def causal (t j : ℕ) : ℝ := if j ≤ t then 1 else 0

theorem masked_one : masked 1 0 = 0 := by
  unfold masked
  rw [if_neg one_ne_zero, Real.log_one, add_zero, EReal.coe_zero]

theorem foxPre_apply (hq : Holds xq Q) (hk : Holds xk K) (hc : ∀ t : Fin 2048, (xc (ix2 t ⟨h, hh⟩) : EReal) = ((C t.val : ℝ) : EReal))
    (hcr : ∀ i hi (c : Fin (256 * (i + 1))), (cr i hi (ix2 (0 : Fin 1) c) : EReal) = ((C c.val : ℝ) : EReal))
    (i : ℕ) (hi : i < 8) (r : Fin 256) (c : Fin (256 * (i + 1))) :
    foxPre (F := Ideal) (BitVec.ofNat 32 h) xq xk xc cr i hi (ix2 r c)
      = ((inner Q K (256 * i + r.val) c.val * sigma + (C (256 * i + r.val) - C c.val) : ℝ) : EReal) := by
  unfold foxPre
  have e := ld_rows (e := .f32) xc i hi r ⟨h, hh⟩
  rw [foxRaw_apply, scaled_block hq hk, laneCol_apply _ h hh, e, hc, hcr, ← EReal.coe_sub, ← EReal.coe_add]

theorem foxScores_apply (hq : Holds xq Q) (hk : Holds xk K)
    (hc : ∀ t : Fin 2048, (xc (ix2 t ⟨h, hh⟩) : EReal) = ((C t.val : ℝ) : EReal))
    (hcr : ∀ i hi (c : Fin (256 * (i + 1))), (cr i hi (ix2 (0 : Fin 1) c) : EReal) = ((C c.val : ℝ) : EReal))
    (ht : ∀ r c : Fin 256, (xt (ix4 (0 : Fin 1) (0 : Fin 8) r c) : EReal) = masked (causal r.val c.val) 0) :
    Scores (foxScores (BitVec.ofNat 32 h) xq xk xc cr xt)
      (fun t j => inner Q K t j * sigma + (C t - C j)) causal (fun _ _ => 0) := by
  intro i hi r c
  have hp := fun i hi (c : Fin (256 * (i + 1))) => foxPre_apply (h := h) (hh := hh) hq hk hc hcr i hi r c
  match i, hi, c with
  | 0, hi, c =>
      dsimp only [foxScores]
      have e := tileOf_apply xt 0 hi r ⟨c.val, by omega⟩
      rw [addf_apply, hp]
      refine congrArg₂ (fun a b : EReal => a + b) rfl ?_
      refine (e.trans (ht r ⟨c.val, by omega⟩)).trans ?_
      show masked (causal r.val c.val) 0 = masked (causal (256 * 0 + r.val) c.val) 0
      rw [show 256 * 0 + r.val = r.val by omega]
  | i + 1, hi, c =>
      dsimp only [foxScores]
      by_cases hlt : c.val < 256 * (i + 1)
      · refine (concatenate_pair_apply_left (t := ⟨2, ![256, 256 * (i + 1 + 1)]⟩)
          (s₁ := ⟨2, ![256, 256 * (i + 1)]⟩) (s₂ := ⟨2, ![256, 256]⟩) 1 _ _ _ (ix2 r c) rfl (ix2 r (⟨c.val, hlt⟩ : Fin (256 * (i + 1)))) (fun b => by
          match b with
          | ⟨0, _⟩ => rfl
          | ⟨1, _⟩ => rfl)).trans ?_
        rw [slice2_axis1_apply 0 _ _ r ⟨c.val, hlt⟩ c (by simp), hp]
        have : causal (256 * (i + 1) + r.val) c.val = 1 := if_pos (by omega)
        rw [this, masked_one, add_zero]
      · have hc' : c.val - 256 * (i + 1) < 256 := by omega
        refine (concatenate_pair_apply_right (t := ⟨2, ![256, 256 * (i + 1 + 1)]⟩)
          (s₁ := ⟨2, ![256, 256 * (i + 1)]⟩) (s₂ := ⟨2, ![256, 256]⟩) 1 _ _ _ (ix2 r c) rfl rfl (ix2 r (⟨c.val - 256 * (i + 1), hc'⟩ : Fin 256)) (fun b hb => by
          match b, hb with
          | ⟨0, _⟩, _ => rfl
          | ⟨1, _⟩, hb => exact absurd rfl hb) (by
            show c.val - 256 * (i + 1) + 256 * (i + 1) = c.val
            omega)).trans ?_
        rw [addf_apply, slice2_axis1_apply (256 * (i + 1)) _ _ r ⟨_, hc'⟩ c (by
            show c.val = 256 * (i + 1) + (c.val - 256 * (i + 1))
            omega), hp, tileOf_apply]
        refine congrArg (fun b : EReal => _ + b) ((ht r _).trans ?_)
        congr 1
        unfold causal
        refine if_congr ?_ rfl rfl
        show c.val - 256 * (i + 1) ≤ r.val ↔ c.val ≤ 256 * (i + 1) + r.val
        omega

theorem dilTiles_apply (i : ℕ) (hi : i < 8) (r : Fin 256) (c : Fin (256 * (i + 1))) :
    dilTiles xt i hi (ix2 r c) = xt (ix4 (0 : Fin 1) ⟨i - c.val / 256, Nat.lt_of_le_of_lt (Nat.sub_le _ _) hi⟩ r ⟨c.val % 256, Nat.mod_lt _ (Nat.zero_lt_succ _)⟩) := by
  have key : ∀ (n : ℕ) (hn : n < 8) (c : Fin (256 * (n + 1)))
      (H : Shape.Concatenates ((List.ofFn fun k : Fin (n + 1) =>
        (⟨⟨2, ![256, 256]⟩, farTile xt n hn k⟩ : (s : Shape) × (s.Idx → EReal))).map (·.1)) ⟨2, ![256, 256 * (n + 1)]⟩ 1),
      concatenate ⟨2, ![256, 256 * (n + 1)]⟩ 1 (List.ofFn fun k : Fin (n + 1) =>
        (⟨⟨2, ![256, 256]⟩, farTile xt n hn k⟩ : (s : Shape) × (s.Idx → EReal))) H (ix2 r c) = xt (ix4 (0 : Fin 1) ⟨n - c.val / 256, Nat.lt_of_le_of_lt (Nat.sub_le _ _) hn⟩ r ⟨c.val % 256, Nat.mod_lt _ (Nat.zero_lt_succ _)⟩) := by
    intro n hn c H
    rw [concatenate_ofFn_apply 1 (farTile xt n hn) H rfl 256 rfl (ix2 r c)
      ⟨c.val / 256, by omega⟩ rfl (ix2 r ⟨c.val % 256, Nat.mod_lt _ (Nat.zero_lt_succ _)⟩) rfl (fun b hb => by
        match b, hb with
        | ⟨0, _⟩, _ => rfl
        | ⟨1, _⟩, hb => exact absurd rfl hb)]
    exact tileOf_apply xt _ _ r _
  match i, hi, c with
  | 0, hi, c =>
      have e := tileOf_apply xt 0 hi r ⟨c.val, by omega⟩
      refine e.trans (congrArg xt ?_)
      have h0 : c.val / 256 = 0 := Nat.div_eq_of_lt c.isLt
      have h1 : c.val % 256 = c.val := Nat.mod_eq_of_lt c.isLt
      simp only [h0, h1, Nat.sub_zero]
  | 1, hi, c => exact key 1 hi c (tilesJoin 0 hi)
  | 2, hi, c => exact key 2 hi c (tilesJoin 1 hi)
  | 3, hi, c => exact key 3 hi c (tilesJoin 2 hi)
  | 4, hi, c => exact key 4 hi c (tilesJoin 3 hi)
  | 5, hi, c => exact key 5 hi c (tilesJoin 4 hi)
  | 6, hi, c => exact key 6 hi c (tilesJoin 5 hi)
  | 7, hi, c => exact key 7 hi c (tilesJoin 6 hi)
  | n + 8, hi, _ => omega

/-- The scores of a dilated head, when tile `k` holds the masked weights of the distances `256 k + r - c`. -/
theorem dilScores_apply (hq : Holds xq Q) (hk : Holds xk K) {w b : ℤ → ℝ}
    (ht : ∀ (k : Fin 8) (r c : Fin 256), (xt (ix4 (0 : Fin 1) k r c) : EReal)
      = masked (w (256 * k.val + r.val - c.val)) (b (256 * k.val + r.val - c.val))) :
    Scores (dilScores xq xk xt) (fun t j => inner Q K t j * sigma) (fun t j => w (t - j)) (fun t j => b (t - j)) := by
  intro i hi r c
  unfold dilScores
  rw [addf_apply, scaled_block hq hk, dilTiles_apply, ht]
  have e : (256 * ((i - c.val / 256 : ℕ) : ℤ) + r.val - ((c.val % 256 : ℕ) : ℤ)) = (((256 * i + r.val : ℕ) : ℤ) - (c.val : ℤ)) := by
    omega
  simp only [e]

/-! ## Probabilities and their gradients -/

/-- The weighted exponential of the scores less the row's log-sum. -/
def pr (X W B : ℕ → ℕ → ℝ) (L : ℕ → ℝ) (t j : ℕ) : ℝ := W t j * Real.exp (X t j + B t j - L t)

theorem blockP_holds {S : (i : ℕ) → i < 8 → FVec Ideal ⟨2, ![256, 256 * (i + 1)]⟩ .f32} {X W B : ℕ → ℕ → ℝ}
    (hS : Scores S X W B) (hW : ∀ t j, 0 ≤ W t j) (hl : ∀ t : Fin 2048, (xl (ix2 t ⟨h, hh⟩) : EReal) = ((L t.val : ℝ) : EReal)) :
    Blocks (blockP (BitVec.ofNat 32 h) xl S) (pr X W B L) := by
  intro i hi r c
  unfold blockP
  have e := ld_rows (e := .f32) xl i hi r ⟨h, hh⟩
  rw [probs_apply _ _ h hh, hS, e, hl, exp_masked (hW _ _)]
  rfl

theorem blockDp_holds (hd : Holds xd DO) (hv : Holds xv V) : Blocks (blockDp xv xd) (inner DO V) := by
  intro i hi r c
  unfold blockDp
  rw [dprobs_apply, rows_inner hd hv]

/-- The gradient of the scores from the probabilities and the rows' corrections. -/
def gradS (P DP : ℕ → ℕ → ℝ) (δ : ℕ → ℝ) (t j : ℕ) : ℝ := P t j * (DP t j - δ t)

/-- The correction of a forgetting head. -/
def rowSum (P DP : ℕ → ℕ → ℝ) (t : ℕ) : ℝ := ∑ j ∈ Finset.range 2048, P t j * DP t j

/-- An array over (query, key) that vanishes above the diagonal. -/
def Lower (P : ℕ → ℕ → ℝ) : Prop := ∀ t j, t < j → P t j = 0

theorem foxDs_holds {Pb : (i : ℕ) → i < 8 → FVec Ideal ⟨2, ![256, 256 * (i + 1)]⟩ .f32} {P : ℕ → ℕ → ℝ}
    (hP : Blocks Pb P) (hlow : Lower P) (hd : Holds xd DO) (hv : Holds xv V) :
    Blocks (foxDs xv xd Pb) (gradS P (inner DO V) (rowSum P (inner DO V))) := by
  intro i hi r c
  have hdp := blockDp_holds hd hv
  unfold foxDs
  rw [dscores_apply, foxDelta_apply, sum_fin_coe _ (fun j => P (256 * i + r.val) j * inner DO V (256 * i + r.val) j)
    (fun k => by rw [hP, hdp, ← EReal.coe_mul]), hP, hdp, ← EReal.coe_sub, ← EReal.coe_mul]
  rw [sum_range_extend (N := 2048) (by omega) _ (fun k h1 _ => by
    have := r.isLt
    rw [hlow _ _ (by omega), zero_mul])]
  rfl

theorem dilDs_holds {Pb : (i : ℕ) → i < 8 → FVec Ideal ⟨2, ![256, 256 * (i + 1)]⟩ .f32} {P : ℕ → ℕ → ℝ}
    (hP : Blocks Pb P) (hd : Holds xd DO) (hv : Holds xv V) (ho : Holds xo O) :
    Blocks (dilDs xv xo xd Pb) (gradS P (inner DO V) (fun t => inner DO O t t)) := by
  intro i hi r c
  have hdp := blockDp_holds hd hv
  unfold dilDs
  rw [dscores_apply, dilDelta_apply, sum_fin_coe _ (fun d => DO (256 * i + r.val) d * O (256 * i + r.val) d)
    (fun d => by
      have e := ld_rows xd i hi r d
      have e' := ld_rows xo i hi r d
      rw [e, e', hd, ho, ← EReal.coe_mul]), hP, hdp, ← EReal.coe_sub, ← EReal.coe_mul]
  rfl

end

end Cert.Attn
-- ==== Proof.Kern.Sums.lean ====
/- What the stores of one head's body leave, over the extended reals and at finite score gradients: the rows of dq, and
   the accumulators of dk, dv, the gates' line and the bias tiles after each block of rows. -/
module

public import proofs.«01_k».proof.Proof.Kern.Reals

@[expose] public section

noncomputable section

namespace Cert.Attn

open Idealize.ShloMosaic Idealize.ShloMosaic.ValueIdx
open scoped BigOperators

variable {xq xk xd : Vec Ideal ⟨2, ![2048, 128]⟩ .bf16} {Q K DO : ℕ → ℕ → ℝ}
  {D : (i : ℕ) → i < 8 → FVec Ideal ⟨2, ![256, 256 * (i + 1)]⟩ .f32} {DS : ℕ → ℕ → ℝ}

/-! ## dq -/

/-- Rows of the score gradients times the keys. -/
def dqR (DS K : ℕ → ℕ → ℝ) (t d : ℕ) : ℝ := (∑ j ∈ Finset.range 2048, DS t j * K j d) * sigma

theorem rows_emb (i : ℕ) (hi : i < 8) (r : Fin 256) (d : Fin 128) :
    (rowsRect i hi).emb (ix2 r d) = ix2 (⟨256 * i + r.val, by omega⟩ : Fin 2048) d := by
  funext a; apply Fin.ext
  match a with
  | ⟨0, _⟩ => show 256 * i + 1 * r.val = 256 * i + r.val; omega
  | ⟨1, _⟩ => show 0 + 1 * d.val = d.val; omega

theorem dqRows_holds (hD : Blocks D DS) (hlow : Lower DS) (hk : Holds xk K) (i : ℕ) (hi : i < 8) (r : Fin 256) (d : Fin 128) :
    dqRows (F := Ideal) rowFacts (D i hi) (View.ld xk (keysRect i hi)) (ix2 r d) = ((dqR DS K (256 * i + r.val) d.val : ℝ) : EReal) := by
  rw [dqRows_apply, sum_fin_coe _ (fun j => DS (256 * i + r.val) j * K j d.val) (fun c => by
    have e := ld_keys xk i hi c d
    rw [hD, e, hk, ← EReal.coe_mul]), sum_range_extend (N := 2048) (by omega) _ (fun j h1 _ => by
    have := r.isLt
    rw [hlow _ _ (by omega), zero_mul]), scale_eq, ← EReal.coe_mul]
  rfl

theorem dqPieces_canon (hD : Blocks D DS) (hlow : Lower DS) (hk : Holds xk K) (d : Fin 128) :
    ∀ (i : ℕ) (hi : i ≤ 8) (t : Fin 2048), t.val < 256 * i →
      (View.canon (Val := Elt Ideal) (dqPieces (F := Ideal) xk D i hi) (ix2 t d) : EReal) = ((dqR DS K t.val d.val : ℝ) : EReal) := by
  intro i
  induction i with
  | zero => intro hi t ht; omega
  | succ i ih =>
      intro hi t ht
      by_cases hge : 256 * i ≤ t.val
      · have e : ix2 t d = (rowsRect i hi).emb (ix2 (⟨t.val - 256 * i, by omega⟩ : Fin 256) d) := by
          rw [rows_emb]
          congr 1
          exact Fin.ext (by show t.val = 256 * i + (t.val - 256 * i); omega)
        rw [e]
        refine (View.canon_cons_emb (Val := Elt Ideal) (rowsRect i hi) _ _ _).trans ?_
        refine (dqRows_holds hD hlow hk i hi _ d).trans ?_
        rw [show 256 * i + (t.val - 256 * i) = t.val by omega]
      · refine (View.canon_cons_of_not_mem (Val := Elt Ideal) _ _ ?_).trans (ih (by omega) t (by omega))
        intro hm
        have := ((Rect.mem_set_unit (inb := inb2 (by omega) (by omega))).mp hm) ⟨0, by decide⟩
        exact hge this.1

/-! ## dk and dv -/

/-- Columns of the score gradients of the first `n` rows, times the queries. -/
def dkR (n : ℕ) (DS Q : ℕ → ℕ → ℝ) (j d : ℕ) : ℝ := (∑ t ∈ Finset.range n, Q t d * DS t j) * sigma

/-- Columns of the probabilities of the first `n` rows, times the output's gradient. -/
def dvR (n : ℕ) (P DO : ℕ → ℕ → ℝ) (j d : ℕ) : ℝ := ∑ t ∈ Finset.range n, DO t d * P t j

theorem sum_block (i : ℕ) (f : ℕ → ℝ) :
    ∑ t ∈ Finset.range (256 * (i + 1)), f t = ∑ t ∈ Finset.range (256 * i), f t + ∑ r ∈ Finset.range 256, f (256 * i + r) := by
  rw [show 256 * (i + 1) = 256 * i + 256 by ring, Finset.sum_range_add]

theorem sum_block_zero (i : ℕ) (f : ℕ → ℝ) (h : ∀ t, t < 256 * (i + 1) → f t = 0) :
    ∑ t ∈ Finset.range (256 * (i + 1)), f t = ∑ t ∈ Finset.range (256 * i), f t := by
  rw [sum_block, Finset.sum_eq_zero (s := Finset.range 256) (fun r hr => h _ (by have := Finset.mem_range.mp hr; omega)), add_zero]

theorem acc_emb (i : ℕ) (hi : i < 8) (d : Fin 128) (c : Fin (256 * (i + 1))) :
    (accRect i hi).emb (ix2 d c) = ix2 d (⟨c.val, by omega⟩ : Fin 2048) := by
  funext a; apply Fin.ext
  match a with
  | ⟨0, _⟩ => show 0 + 1 * d.val = d.val; omega
  | ⟨1, _⟩ => show 0 + 1 * c.val = c.val; omega

theorem zero2 : (![0, 0] : Fin 2 → ℕ) = fun _ => 0 := by funext a; fin_cases a <;> rfl
theorem zero3 : (![0, 0, 0] : Fin 3 → ℕ) = fun _ => 0 := by funext a; fin_cases a <;> rfl
theorem zero4 : (![0, 0, 0, 0] : Fin 4 → ℕ) = fun _ => 0 := by funext a; fin_cases a <;> rfl

theorem zero_const {s : Shape} (y : s.Idx) :
    (broadcast s (Scalar.ofBits (F := Ideal) .f32 0x00000000#32) y : EReal) = ((0 : ℝ) : EReal) :=
  Ideal.ofBits_zero_f32.trans EReal.coe_zero.symm

theorem dkPieces_canon {sig : RefSig} {κ : Kind} {sp : Space} (v : View sig κ sp ⟨2, ![128, 2048]⟩ .f32)
    (hD : Blocks D DS) (hlow : Lower DS) (hq : Holds xq Q) (d : Fin 128) :
    ∀ (i : ℕ) (hi : i ≤ 8) (j : Fin 2048),
      (View.canon (Val := Elt Ideal) (dkPieces (F := Ideal) xq D v i hi) (ix2 d j) : EReal) = ((dkR (256 * i) DS Q j.val d.val : ℝ) : EReal) := by
  intro i
  induction i with
  | zero =>
      intro hi j
      refine (congrFun (View.canon_unit_zero (Val := Elt Ideal) (S := ⟨2, ![128, 2048]⟩) zero2 _ _) (ix2 d j)).trans ?_
      refine (zero_const _).trans ?_
      unfold dkR
      simp
  | succ i ih =>
      intro hi j
      by_cases hlt : j.val < 256 * (i + 1)
      · have e : ix2 d j = (accRect i hi).emb (ix2 d (⟨j.val, hlt⟩ : Fin (256 * (i + 1)))) := by rw [acc_emb]
        conv_lhs => rw [e]
        refine (View.canon_cons_emb (Val := Elt Ideal) (accRect i hi) _ _ _).trans ?_
        refine (dkAcc_apply _ _ _ _ _ d _).trans ?_
        rw [View.readCov_eq_canon']
        have e' : (accRect i hi).toLoadRect.idx (ix2 d (⟨j.val, hlt⟩ : Fin (256 * (i + 1)))) = ix2 d j := acc_emb i hi d _
        rw [sum_fin_coe _ (fun r => Q (256 * i + r) d.val * DS (256 * i + r) j.val) (fun r => by
          have e2 := ld_rows xq i hi r d
          rw [hD, e2, hq, ← EReal.coe_mul]), scale_eq, ← EReal.coe_mul]
        refine (congrArg (fun x : EReal => x + _) ((congrArg _ e').trans (ih (by omega) j))).trans ?_
        rw [← EReal.coe_add]
        unfold dkR
        rw [sum_block, add_mul]
      · refine (View.canon_cons_of_not_mem (Val := Elt Ideal) _ _ ?_).trans ((ih (by omega) j).trans ?_)
        · intro hm
          have := ((Rect.mem_set_unit (inb := inb2 (by omega) (by omega))).mp hm) ⟨1, by decide⟩
          have h2 : j.val < 0 + 256 * (i + 1) := this.2
          omega
        · unfold dkR
          rw [sum_block_zero i _ (fun t ht => by rw [hlow _ _ (by omega), mul_zero])]

theorem dvPieces_canon {sig : RefSig} {κ : Kind} {sp : Space} (v : View sig κ sp ⟨2, ![128, 2048]⟩ .f32)
    (hD : Blocks D DS) (hlow : Lower DS) (hd : Holds xd DO) (d : Fin 128) :
    ∀ (i : ℕ) (hi : i ≤ 8) (j : Fin 2048),
      (View.canon (Val := Elt Ideal) (dvPieces (F := Ideal) xd D v i hi) (ix2 d j) : EReal) = ((dvR (256 * i) DS DO j.val d.val : ℝ) : EReal) := by
  intro i
  induction i with
  | zero =>
      intro hi j
      refine (congrFun (View.canon_unit_zero (Val := Elt Ideal) (S := ⟨2, ![128, 2048]⟩) zero2 _ _) (ix2 d j)).trans ?_
      refine (zero_const _).trans ?_
      unfold dvR
      simp
  | succ i ih =>
      intro hi j
      by_cases hlt : j.val < 256 * (i + 1)
      · have e : ix2 d j = (accRect i hi).emb (ix2 d (⟨j.val, hlt⟩ : Fin (256 * (i + 1)))) := by rw [acc_emb]
        conv_lhs => rw [e]
        refine (View.canon_cons_emb (Val := Elt Ideal) (accRect i hi) _ _ _).trans ?_
        refine (dvAcc_apply _ _ _ _ _ d _).trans ?_
        rw [View.readCov_eq_canon']
        have e' : (accRect i hi).toLoadRect.idx (ix2 d (⟨j.val, hlt⟩ : Fin (256 * (i + 1)))) = ix2 d j := acc_emb i hi d _
        rw [sum_fin_coe _ (fun r => DO (256 * i + r) d.val * DS (256 * i + r) j.val) (fun r => by
          have e2 := ld_rows xd i hi r d
          rw [hD, e2, hd, ← EReal.coe_mul])]
        refine (congrArg (fun x : EReal => x + _) ((congrArg _ e').trans (ih (by omega) j))).trans ?_
        rw [← EReal.coe_add]
        unfold dvR
        rw [sum_block]
      · refine (View.canon_cons_of_not_mem (Val := Elt Ideal) _ _ ?_).trans ((ih (by omega) j).trans ?_)
        · intro hm
          have := ((Rect.mem_set_unit (inb := inb2 (by omega) (by omega))).mp hm) ⟨1, by decide⟩
          have h2 : j.val < 0 + 256 * (i + 1) := this.2
          omega
        · unfold dvR
          rw [sum_block_zero i _ (fun t ht => by rw [hlow _ _ (by omega), mul_zero])]

/-! ## The gates' line -/

/-- Less the column sums of the score gradients over the first `n` rows. -/
def dctR (n : ℕ) (DS : ℕ → ℕ → ℝ) (j : ℕ) : ℝ := -∑ t ∈ Finset.range n, DS t j

theorem line_emb (i : ℕ) (hi : i < 8) (c : Fin (256 * (i + 1))) :
    (lineRect i hi).emb (ix3 (0 : Fin 1) (0 : Fin 1) c) = ix3 (0 : Fin 1) (0 : Fin 1) (⟨c.val, by omega⟩ : Fin 2048) := by
  funext a; apply Fin.ext
  match a with
  | ⟨0, _⟩ => rfl
  | ⟨1, _⟩ => rfl
  | ⟨2, _⟩ => show 0 + 1 * c.val = c.val; omega

theorem dctPieces_canon {sig : RefSig} {κ : Kind} {sp : Space} (v : View sig κ sp ⟨3, ![1, 1, 2048]⟩ .f32)
    (hD : Blocks D DS) (hlow : Lower DS) :
    ∀ (i : ℕ) (hi : i ≤ 8) (j : Fin 2048),
      (View.canon (Val := Elt Ideal) (dctPieces (F := Ideal) D v i hi) (ix3 (0 : Fin 1) (0 : Fin 1) j) : EReal)
        = ((dctR (256 * i) DS j.val : ℝ) : EReal) := by
  intro i
  induction i with
  | zero =>
      intro hi j
      refine (congrFun (View.canon_unit_zero (Val := Elt Ideal) (S := ⟨3, ![1, 1, 2048]⟩) zero3 _ _) (ix3 (0 : Fin 1) (0 : Fin 1) j)).trans ?_
      refine (zero_const _).trans ?_
      unfold dctR
      simp
  | succ i ih =>
      intro hi j
      by_cases hlt : j.val < 256 * (i + 1)
      · have e : ix3 (0 : Fin 1) (0 : Fin 1) j = (lineRect i hi).emb (ix3 (0 : Fin 1) (0 : Fin 1) (⟨j.val, hlt⟩ : Fin (256 * (i + 1)))) := by
          rw [line_emb]
        conv_lhs => rw [e]
        refine (View.canon_cons_emb (Val := Elt Ideal) (lineRect i hi) _ _ _).trans ?_
        refine (dctAcc_apply _ _ _ _).trans ?_
        rw [View.readCov_eq_canon']
        have e' : (lineRect i hi).toLoadRect.idx (ix3 (0 : Fin 1) (0 : Fin 1) (⟨j.val, hlt⟩ : Fin (256 * (i + 1))))
          = ix3 (0 : Fin 1) (0 : Fin 1) j := line_emb i hi _
        rw [sum_fin_coe _ (fun r => DS (256 * i + r) j.val) (fun r => by rw [hD]), zero_sub, ← EReal.coe_neg]
        refine (congrArg (fun x : EReal => x + _) ((congrArg _ e').trans (ih (by omega) j))).trans ?_
        rw [← EReal.coe_add]
        unfold dctR
        rw [sum_block, neg_add]
      · refine (View.canon_cons_of_not_mem (Val := Elt Ideal) _ _ ?_).trans ((ih (by omega) j).trans ?_)
        · intro hm
          have := ((Rect.mem_set_unit (inb := inb3 (by omega) (by omega) (by omega))).mp hm) ⟨2, by decide⟩
          have h2 : j.val < 0 + 256 * (i + 1) := this.2
          omega
        · unfold dctR
          rw [sum_block_zero i _ (fun t ht => by rw [hlow _ _ (by omega)])]

/-! ## The bias tiles -/

/-- Tile `k` of the bias gradient over the first `n` blocks of rows. -/
def tileR (n : ℕ) (DS : ℕ → ℕ → ℝ) (k r c : ℕ) : ℝ :=
  ∑ m ∈ Finset.range n, if k ≤ m then DS (256 * m + r) (256 * (m - k) + c) else 0

theorem tileR_succ (n : ℕ) (k r c : ℕ) :
    tileR (n + 1) DS k r c = tileR n DS k r c + if k ≤ n then DS (256 * n + r) (256 * (n - k) + c) else 0 :=
  Finset.sum_range_succ _ _

theorem tile_emb (k : ℕ) (hk : k < 8) (r c : Fin 256) :
    (tileRect k hk).emb (ix4 (0 : Fin 1) (0 : Fin 1) r c) = ix4 (0 : Fin 1) (⟨k, hk⟩ : Fin 8) r c := by
  funext a; apply Fin.ext
  match a with
  | ⟨0, _⟩ => rfl
  | ⟨1, _⟩ => show k + 1 * 0 = k; omega
  | ⟨2, _⟩ => show 0 + 1 * r.val = r.val; omega
  | ⟨3, _⟩ => show 0 + 1 * c.val = c.val; omega

theorem dsTile_apply (hD : Blocks D DS) : ∀ (i : ℕ) (hi : i < 8) (j : ℕ) (hj : j < i + 1) (r c : Fin 256),
    (dsTile (F := Ideal) D i hi j hj (ix2 r c) : EReal) = ((DS (256 * i + r.val) (256 * j + c.val) : ℝ) : EReal) := by
  intro i hi j hj r c
  match i, hi, hj with
  | 0, hi, hj =>
      obtain rfl : j = 0 := by omega
      refine (hD 0 hi r (⟨c.val, by omega⟩ : Fin (256 * (0 + 1)))).trans ?_
      rw [show 256 * 0 + c.val = c.val by omega]
  | i + 1, hi, hj =>
      dsimp only [dsTile]
      rw [slice2_axis1_apply (256 * j) _ _ r c (⟨256 * j + c.val, by omega⟩ : Fin (256 * (i + 1 + 1))) rfl, hD]

theorem tileStep_canon {sig : RefSig} {κ : Kind} {sp : Space} (v : View sig κ sp ⟨4, ![1, 8, 256, 256]⟩ .f32)
    (hD : Blocks D DS) (i : ℕ) (hi : i < 8) (L : List (View.Piece (Elt Ideal) ⟨4, ![1, 8, 256, 256]⟩ .f32))
    (hL : ∀ (k : Fin 8) (r c : Fin 256), (View.canon (Val := Elt Ideal) L (ix4 (0 : Fin 1) k r c) : EReal)
      = ((tileR i DS k.val r.val c.val : ℝ) : EReal)) :
    ∀ (j : ℕ) (hj : j ≤ i + 1) (k : Fin 8) (r c : Fin 256),
      (View.canon (Val := Elt Ideal) (tileStep (F := Ideal) D v i hi L j hj) (ix4 (0 : Fin 1) k r c) : EReal)
        = ((if k.val ≤ i ∧ i - k.val < j then tileR (i + 1) DS k.val r.val c.val else tileR i DS k.val r.val c.val : ℝ) : EReal) := by
  intro j
  induction j with
  | zero =>
      intro hj k r c
      rw [if_neg (by omega)]
      exact hL k r c
  | succ j ih =>
      intro hj k r c
      by_cases he : k.val = i - j
      · have e : ix4 (0 : Fin 1) k r c = (tileRect (i - j) (by omega)).emb (ix4 (0 : Fin 1) (0 : Fin 1) r c) := by
          rw [tile_emb]
          congr 1
          exact Fin.ext he
        conv_lhs => rw [e]
        refine (View.canon_cons_emb (Val := Elt Ideal) (tileRect (i - j) (by omega)) _ _ _).trans ?_
        refine (tileAcc_apply _ _ _ r c).trans ?_
        rw [View.readCov_eq_canon']
        have e' : (tileRect (i - j) (by omega)).toLoadRect.idx (ix4 (0 : Fin 1) (0 : Fin 1) r c) = ix4 (0 : Fin 1) k r c := e.symm
        rw [dsTile_apply hD]
        refine (congrArg (fun x : EReal => x + _) ((congrArg _ e').trans (ih (by omega) k r c))).trans ?_
        rw [if_neg (by omega), if_pos (by omega), ← EReal.coe_add, tileR_succ, if_pos (by omega),
          show i - k.val = j by omega]
      · refine (View.canon_cons_of_not_mem (Val := Elt Ideal) _ _ ?_).trans ((ih (by omega) k r c).trans ?_)
        · intro hm
          have := ((Rect.mem_set_unit (inb := inb4 (by omega) (by omega) (by omega) (by omega))).mp hm) ⟨1, by decide⟩
          have h1 : i - j ≤ k.val := this.1
          have h2 : k.val < i - j + 1 := this.2
          omega
        · congr 1
          refine if_congr ?_ rfl rfl
          omega

theorem tilePieces_canon {sig : RefSig} {κ : Kind} {sp : Space} (v : View sig κ sp ⟨4, ![1, 8, 256, 256]⟩ .f32)
    (hD : Blocks D DS) : ∀ (i : ℕ) (hi : i ≤ 8) (k : Fin 8) (r c : Fin 256),
      (View.canon (Val := Elt Ideal) (tilePieces (F := Ideal) D v i hi) (ix4 (0 : Fin 1) k r c) : EReal)
        = ((tileR i DS k.val r.val c.val : ℝ) : EReal) := by
  intro i
  induction i with
  | zero =>
      intro hi k r c
      refine (congrFun (View.canon_unit_zero (Val := Elt Ideal) (S := ⟨4, ![1, 8, 256, 256]⟩) zero4 _ _) (ix4 (0 : Fin 1) k r c)).trans ?_
      refine (zero_const _).trans ?_
      unfold tileR
      simp
  | succ i ih =>
      intro hi k r c
      refine (tileStep_canon v hD i hi _ (ih (by omega)) (i + 1) le_rfl k r c).trans ?_
      by_cases hk : k.val ≤ i
      · rw [if_pos (by omega)]
      · rw [if_neg (by omega), tileR_succ, if_neg hk, add_zero]

end Cert.Attn
-- ==== Proof.Kern.Inputs.lean ====
/- What a head's body reads, at finite values: a forgetting head's and a dilated head's inputs, with the probabilities
   and the score gradients that the body forms from them. -/
module

public import proofs.«01_k».proof.Proof.Kern.Sums

@[expose] public section

noncomputable section

namespace Cert.Attn

open Idealize.ShloMosaic Idealize.ShloMosaic.ValueIdx
open scoped BigOperators

/-- The nine arrays of forgetting head `h`: queries, keys, values, gate sums (by lane, and transposed), tiles, log-sums by
    lane, and the output's gradient; the saved output is not read. -/
structure FoxIn (h : ℕ) (hh : h < 128) (xq xk xv : Vec Ideal ⟨2, ![2048, 128]⟩ .bf16) (xc : Vec Ideal ⟨2, ![2048, 128]⟩ .f32)
    (xr : Vec Ideal ⟨2, ![128, 2048]⟩ .f32) (xt : Vec Ideal ⟨4, ![1, 8, 256, 256]⟩ .f32) (xl : Vec Ideal ⟨2, ![2048, 128]⟩ .f32)
    (xd : Vec Ideal ⟨2, ![2048, 128]⟩ .bf16) (Q K V DO : ℕ → ℕ → ℝ) (C L : ℕ → ℝ) : Prop where
  q : Holds xq Q
  k : Holds xk K
  v : Holds xv V
  c : ∀ t : Fin 2048, (xc (ix2 t ⟨h, hh⟩) : EReal) = ((C t.val : ℝ) : EReal)
  row : ∀ t : Fin 2048, (xr (ix2 (⟨h, hh⟩ : Fin 128) t) : EReal) = ((C t.val : ℝ) : EReal)
  tile : ∀ r c : Fin 256, (xt (ix4 (0 : Fin 1) (0 : Fin 8) r c) : EReal) = masked (causal r.val c.val) 0
  lse : ∀ t : Fin 2048, (xl (ix2 t ⟨h, hh⟩) : EReal) = ((L t.val : ℝ) : EReal)
  do_ : Holds xd DO

/-- The arrays of dilated head `h` that are read; `w` and `b` are the multiplicity and the bias of a distance. -/
structure DilIn (h : ℕ) (hh : h < 128) (xq xk xv : Vec Ideal ⟨2, ![2048, 128]⟩ .bf16)
    (xt : Vec Ideal ⟨4, ![1, 8, 256, 256]⟩ .f32) (xl : Vec Ideal ⟨2, ![2048, 128]⟩ .f32)
    (xo xd : Vec Ideal ⟨2, ![2048, 128]⟩ .bf16) (Q K V O DO : ℕ → ℕ → ℝ) (w b : ℤ → ℝ) (L : ℕ → ℝ) : Prop where
  q : Holds xq Q
  k : Holds xk K
  v : Holds xv V
  tile : ∀ (k : Fin 8) (r c : Fin 256), (xt (ix4 (0 : Fin 1) k r c) : EReal)
      = masked (w (256 * k.val + r.val - c.val)) (b (256 * k.val + r.val - c.val))
  lse : ∀ t : Fin 2048, (xl (ix2 t ⟨h, hh⟩) : EReal) = ((L t.val : ℝ) : EReal)
  o : Holds xo O
  do_ : Holds xd DO
  nonneg : ∀ n, 0 ≤ w n
  past : ∀ n, n < 0 → w n = 0

/-- A forgetting head's scores. -/
def foxX (Q K : ℕ → ℕ → ℝ) (C : ℕ → ℝ) (t j : ℕ) : ℝ := inner Q K t j * sigma + (C t - C j)

/-- A forgetting head's probabilities. -/
def foxPr (Q K : ℕ → ℕ → ℝ) (C L : ℕ → ℝ) : ℕ → ℕ → ℝ := pr (foxX Q K C) causal (fun _ _ => 0) L

/-- A forgetting head's score gradients. -/
def foxGr (Q K V DO : ℕ → ℕ → ℝ) (C L : ℕ → ℝ) : ℕ → ℕ → ℝ :=
  gradS (foxPr Q K C L) (inner DO V) (rowSum (foxPr Q K C L) (inner DO V))

/-- A dilated head's probabilities. -/
def dilPr (Q K : ℕ → ℕ → ℝ) (w b : ℤ → ℝ) (L : ℕ → ℝ) : ℕ → ℕ → ℝ :=
  pr (fun t j => inner Q K t j * sigma) (fun t j => w (t - j)) (fun t j => b (t - j)) L

/-- A dilated head's score gradients. -/
def dilGr (Q K V O DO : ℕ → ℕ → ℝ) (w b : ℤ → ℝ) (L : ℕ → ℝ) : ℕ → ℕ → ℝ :=
  gradS (dilPr Q K w b L) (inner DO V) (fun t => inner DO O t t)

theorem lower_grad {P DP : ℕ → ℕ → ℝ} {δ : ℕ → ℝ} (h : Lower P) : Lower (gradS P DP δ) := fun t j htj => by
  unfold gradS
  rw [h t j htj, zero_mul]

theorem causal_nonneg (t j : ℕ) : 0 ≤ causal t j := by
  unfold causal
  split_ifs <;> norm_num

theorem foxPr_lower (Q K : ℕ → ℕ → ℝ) (C L : ℕ → ℝ) : Lower (foxPr Q K C L) := fun t j htj => by
  unfold foxPr pr causal
  rw [if_neg (by omega), zero_mul]

section
variable {h : ℕ} {hh : h < 128} {xq xk xv xo xd : Vec Ideal ⟨2, ![2048, 128]⟩ .bf16} {xc xl : Vec Ideal ⟨2, ![2048, 128]⟩ .f32}
  {xr : Vec Ideal ⟨2, ![128, 2048]⟩ .f32} {xt : Vec Ideal ⟨4, ![1, 8, 256, 256]⟩ .f32}
  {cr : (i : ℕ) → i < 8 → Vec Ideal ⟨2, ![1, 256 * (i + 1)]⟩ .f32}
  {Q K V O DO : ℕ → ℕ → ℝ} {C L : ℕ → ℝ} {w b : ℤ → ℝ}

theorem FoxIn.probs (H : FoxIn h hh xq xk xv xc xr xt xl xd Q K V DO C L)
    (hcr : ∀ i hi (c : Fin (256 * (i + 1))), (cr i hi (ix2 (0 : Fin 1) c) : EReal) = ((C c.val : ℝ) : EReal)) :
    Blocks (foxP (F := Ideal) (BitVec.ofNat 32 h) xq xk xc cr xt xl) (foxPr Q K C L) :=
  blockP_holds (hh := hh) (foxScores_apply (hh := hh) H.q H.k H.c hcr H.tile) causal_nonneg H.lse

theorem FoxIn.grads (H : FoxIn h hh xq xk xv xc xr xt xl xd Q K V DO C L)
    (hcr : ∀ i hi (c : Fin (256 * (i + 1))), (cr i hi (ix2 (0 : Fin 1) c) : EReal) = ((C c.val : ℝ) : EReal)) :
    Blocks (foxD (F := Ideal) (BitVec.ofNat 32 h) xq xk xv xc cr xt xl xd) (foxGr Q K V DO C L) :=
  foxDs_holds (H.probs hcr) (foxPr_lower Q K C L) H.do_ H.v

theorem DilIn.probs (H : DilIn h hh xq xk xv xt xl xo xd Q K V O DO w b L) :
    Blocks (dilP (F := Ideal) (BitVec.ofNat 32 h) xq xk xt xl) (dilPr Q K w b L) :=
  blockP_holds (hh := hh) (dilScores_apply H.q H.k H.tile) (fun _ _ => H.nonneg _) H.lse

theorem DilIn.lower (H : DilIn h hh xq xk xv xt xl xo xd Q K V O DO w b L) : Lower (dilPr Q K w b L) := fun t j htj => by
  unfold dilPr pr
  dsimp only
  rw [H.past _ (by omega), zero_mul]

theorem DilIn.grads (H : DilIn h hh xq xk xv xt xl xo xd Q K V O DO w b L) :
    Blocks (dilD (F := Ideal) (BitVec.ofNat 32 h) xq xk xv xt xl xo xd) (dilGr Q K V O DO w b L) :=
  dilDs_holds H.probs H.do_ H.v H.o

end

end Cert.Attn
-- ==== Proof.Math.Softmax.lean ====
/- The real-number facts behind the gradient of attention: the derivative of a normalised exponential weighting, for
   one softmax and for a softmax-weighted mixture of softmaxes. Nothing here mentions a program. -/
module

public import Mathlib.Analysis.SpecialFunctions.Log.Basic
public import Mathlib.Algebra.BigOperators.Field
public import Mathlib.Tactic.FieldSimp
public import Mathlib.Tactic.Ring

@[expose] public section

namespace Cert.Attn

/-- The derivative of `e / Z` as a reverse sweep spells it (`1 / Z²` times the weight, summed and negated) is the
    familiar `p (g − ⟨p, g⟩)` with `p = e / Z`. -/
theorem softmax_grad {ι : Type*} [Fintype ι] (e g : ι → ℝ) (Z : ℝ) (hZ : Z ≠ 0) (j : ι) :
    (g j / Z + -∑ k, g k * (1 / (Z * Z)) * e k) * e j = e j / Z * (g j - ∑ k, e k / Z * g k) := by
  have h : ∑ k, g k * (1 / (Z * Z)) * e k = (∑ k, e k / Z * g k) / Z := by
    rw [Finset.sum_div]
    refine Finset.sum_congr rfl fun k _ => ?_
    field_simp
  rw [h]
  field_simp
  ring

/-- The gradients of one row's scores add up to zero: the weights add up to one. -/
theorem softmax_grad_sum {ι : Type*} [Fintype ι] (p g : ι → ℝ) (hp : ∑ k, p k = 1) :
    ∑ j, p j * (g j - ∑ k, p k * g k) = 0 := by
  simp only [mul_sub, Finset.sum_sub_distrib, ← Finset.sum_mul, hp, one_mul, sub_self]

/-- One window pattern's share of the gradient of the scores, in a mixture of softmaxes: the pattern's own softmax is
    weighted by `w`, its output has inner product `a` with the incoming gradient, and the gradient `dl` of its
    log-sum arrives too. All of it is the pattern's weight times `g − δ`, with one `δ` for all patterns. -/
theorem mixture_grad {ι : Type*} [Fintype ι] (e g : ι → ℝ) (Z w a δ dl : ℝ) (hZ : Z ≠ 0)
    (hdl : dl = w * (a - δ)) (ha : ∑ k, e k / Z * g k = a) (j : ι) :
    (w * g j / Z + (dl / Z + -∑ k, w * g k * (1 / (Z * Z)) * e k)) * e j
      = w * (e j / Z) * (g j - δ) := by
  have h : ∑ k, w * g k * (1 / (Z * Z)) * e k = w * a / Z := by
    rw [← ha, Finset.mul_sum, Finset.sum_div]
    refine Finset.sum_congr rfl fun k _ => ?_
    field_simp
  rw [h, hdl]
  field_simp
  ring

/-- A pattern's weight in the mixture times its softmax is the exponential of the score less the joint log-sum. -/
theorem mixture_weight (s M Z MX ZZ : ℝ) (hZ : 0 < Z) (hZZ : 0 < ZZ) :
    Real.exp (M + Real.log Z - MX) / ZZ * (Real.exp (s - M) / Z) = Real.exp (s - (MX + Real.log ZZ)) := by
  have h1 : Real.exp (M + Real.log Z - MX) = Real.exp (M - MX) * Z := by
    rw [show M + Real.log Z - MX = (M - MX) + Real.log Z by ring, Real.exp_add, Real.exp_log hZ]
  have h2 : Real.exp (s - (MX + Real.log ZZ)) = Real.exp (s - M) * Real.exp (M - MX) / ZZ := by
    rw [show s - (MX + Real.log ZZ) = (s - M) + (M - MX) - Real.log ZZ by ring, Real.exp_sub, Real.exp_add,
      Real.exp_log hZZ]
  rw [h1, h2]
  field_simp

/-- A softmax weight is the exponential of the score less the log-sum. -/
theorem softmax_weight (s M Z : ℝ) (hZ : 0 < Z) :
    Real.exp (s - M) / Z = Real.exp (s - (M + Real.log Z)) := by
  rw [show s - (M + Real.log Z) = (s - M) - Real.log Z by ring, Real.exp_sub (s - M), Real.exp_log hZ]

end Cert.Attn

end
-- ==== Proof.Ref.Base.lean ====
/- How a printed host operation acts on real numbers: each lemma says that the result holds a real when its operands do. -/
module

public import proofs.«01_k».proof.Proof.Gen.ReferenceIdeal.Read
public import proofs.«01_k».proof.Proof.Kern.Inputs
public import proofs.«01_k».proof.Proof.Math.Softmax
public import Idealize.ShloMosaic.Lib.IdealHost

@[expose] public section

noncomputable section

namespace Cert.Ref

open Idealize.ShloMosaic Idealize.ShloMosaic.ValueIdx Cert.Attn

variable {a b : EReal} {x y : ℝ}

/-- The array `v` holds the reals `f`. -/
abbrev Reads {s : Shape} (v : s.Idx → EReal) (f : s.Idx → ℝ) : Prop := ∀ i, v i = ((f i : ℝ) : EReal)

theorem e_mul (ha : a = (x : EReal)) (hb : b = (y : EReal)) :
    FloatOps.mulf (F := Ideal) (φ := .f32) a b = ((x * y : ℝ) : EReal) := by
  rw [ha, hb, Ideal.mulf_def, EReal.coe_mul]

theorem e_add (ha : a = (x : EReal)) (hb : b = (y : EReal)) :
    FloatOps.addf (F := Ideal) (φ := .f32) a b = ((x + y : ℝ) : EReal) := by
  rw [ha, hb, Ideal.addf_def, EReal.coe_add]

theorem e_sub (ha : a = (x : EReal)) (hb : b = (y : EReal)) :
    FloatOps.subf (F := Ideal) (φ := .f32) a b = ((x - y : ℝ) : EReal) := by
  rw [ha, hb, Ideal.subf_def, EReal.coe_sub]

theorem e_neg (ha : a = (x : EReal)) : FloatOps.hostNegf (F := Ideal) (φ := .f32) a = ((-x : ℝ) : EReal) := by
  rw [ha, Ideal.hostNegf_def, Ideal.negf_def, EReal.coe_neg]

theorem e_div (ha : a = (x : EReal)) (hb : b = (y : EReal)) (hy : y ≠ 0) :
    FloatOps.hostDivf (F := Ideal) (φ := .f32) a b = ((x / y : ℝ) : EReal) := by
  rw [ha, hb, Ideal.hostDivf_def, Ideal.div_coe hy, ← EReal.coe_mul, mul_one_div]

theorem e_exp (ha : a = (x : EReal)) : FloatOps.hostUnary (F := Ideal) (φ := .f32) .exp a = ((Real.exp x : ℝ) : EReal) := by
  rw [ha, Ideal.hostUnary_exp_def, Ideal.exp_coe]

theorem e_log (ha : a = (x : EReal)) (hx : 0 < x) :
    FloatOps.hostUnary (F := Ideal) (φ := .f32) .log a = ((Real.log x : ℝ) : EReal) := by
  rw [ha, Ideal.hostUnary_log_def, Ideal.log_coe, if_neg (not_le.mpr hx)]

theorem e_zero : FloatOps.ofBits (F := Ideal) .f32 0x00000000#32 = ((0 : ℝ) : EReal) := Ideal.ofBits_zero_f32

theorem e_one : FloatOps.ofBits (F := Ideal) .f32 0x3F800000#32 = ((1 : ℝ) : EReal) := Ideal.ofBits_one_f32

theorem e_sigma : FloatOps.ofBits (F := Ideal) .f32 0x3DB504F3#32 = ((sigma : ℝ) : EReal) := scale_eq

theorem e_low : FloatOps.ofBits (F := Ideal) .f32 0xFF800000#32 = (⊥ : EReal) := by
  simp [Ideal.ofBits, Ideal.ieee]

theorem e_eq (h : x = y) : ((x : ℝ) : EReal) = ((y : ℝ) : EReal) := by rw [h]

theorem dq_eq (G K : ℕ → ℕ → ℝ) (t d : ℕ) :
    ∑ j ∈ Finset.range 2048, G t j * sigma * K j d = dqR G K t d := by
  unfold dqR; rw [Finset.sum_mul]; exact Finset.sum_congr rfl fun _ _ => by ring

theorem dk_eq (G Q : ℕ → ℕ → ℝ) (j d : ℕ) :
    ∑ t ∈ Finset.range 2048, G t j * sigma * Q t d = dkR 2048 G Q j d := by
  unfold dkR; rw [Finset.sum_mul]; exact Finset.sum_congr rfl fun _ _ => by ring

theorem dct_eq (G : ℕ → ℕ → ℝ) (j : ℕ) : ∑ t ∈ Finset.range 2048, -G t j = dctR 2048 G j := by
  unfold dctR; rw [Finset.sum_neg_distrib]

theorem at_eq' {f : ℕ → ℕ → ℝ} {t t' c c' : ℕ} (ht : t = t') (hc : c = c') :
    ((f t c : ℝ) : EReal) = ((f t' c' : ℝ) : EReal) := by rw [ht, hc]

/-- A sum from a zero. -/
theorem e_sum {n : ℕ} {c : EReal} (hc : c = ((0 : ℝ) : EReal)) {f : Fin n → EReal} {g : ℕ → ℝ}
    (h : ∀ k, f k = ((g k.val : ℝ) : EReal)) : c + ∑ k, f k = ((∑ k ∈ Finset.range n, g k : ℝ) : EReal) := by
  rw [hc, EReal.coe_zero, zero_add]
  exact sum_fin_coe f g h

theorem e_one_term {c : EReal} (hc : c = ((0 : ℝ) : EReal)) {f : Fin 1 → EReal} {z : ℝ}
    (h : ∀ k, f k = ((z : ℝ) : EReal)) : c + ∑ k, f k = ((z : ℝ) : EReal) := by
  rw [hc, EReal.coe_zero, zero_add, Fin.sum_univ_one, h]

/-- A product of two arrays along one axis. -/
theorem e_dot {n : ℕ} {l r : Fin n → EReal} {p q : ℕ → ℝ} (hl : ∀ k, l k = ((p k.val : ℝ) : EReal))
    (hr : ∀ k, r k = ((q k.val : ℝ) : EReal)) :
    ∑ k, l k * r k = ((∑ k ∈ Finset.range n, p k * q k : ℝ) : EReal) :=
  sum_fin_coe _ (fun k => p k * q k) fun k => by rw [hl, hr, EReal.coe_mul]

/-- A maximum from `-∞` over values that are reals or `-∞`, one of them a real, is a real. -/
theorem real_of_fold {n : ℕ} {c : EReal} (hc : c = ⊥) (f : Fin n → EReal) (htop : ∀ k, f k ≠ ⊤) (k₀ : Fin n) (h₀ : f k₀ ≠ ⊥) :
    ∃ m : ℝ, (Finset.univ : Finset (Fin n)).fold max c f = (m : EReal) := by
  have hle : f k₀ ≤ (Finset.univ : Finset (Fin n)).fold max c f :=
    (Finset.le_fold_max (f k₀)).mpr (Or.inr ⟨k₀, Finset.mem_univ _, le_rfl⟩)
  have hlt : (Finset.univ : Finset (Fin n)).fold max c f < ⊤ :=
    (Finset.fold_max_lt ⊤).mpr ⟨by rw [hc]; exact bot_lt_top, fun k _ => lt_top_iff_ne_top.mpr (htop k)⟩
  refine ⟨((Finset.univ : Finset (Fin n)).fold max c f).toReal, (EReal.coe_toReal hlt.ne ?_).symm⟩
  intro h
  rw [h] at hle
  exact h₀ (le_bot_iff.mp hle)

/-- The comparison of two positions as 32-bit words. -/
theorem word_ge (t j : ℕ) (ht : t < 2048) (hj : j < 2048) :
    IntOp.cmpi .sge (IntOp.subi (BitVec.ofNat 32 t) (BitVec.ofNat 32 j)) 0x00000000#32 = if j ≤ t then 1#1 else 0#1 := by
  have h : (BitVec.ofNat 32 t - BitVec.ofNat 32 j).toInt = (t : ℤ) - j := by
    rw [BitVec.toInt_sub, BitVec.toInt_ofNat', BitVec.toInt_ofNat']
    simp only [Int.bmod]
    omega
  unfold IntOp.cmpi IntOp.subi
  simp only [BitVec.sle_eq_decide, h]
  by_cases hle : j ≤ t
  · simp [hle]
  · simp [hle]

end Cert.Ref
-- ==== Proof.Ref.Dist.lean ====
/- The bias bucket and the window patterns as functions of the distance between a query and a key, word for word as both
   programs compute them, and the two gathers out of the bias table read at an index. -/
module

public import proofs.«01_k».proof.Proof.Ref.Base

@[expose] public section

noncomputable section

namespace Cert.Ref

open Idealize.ShloMosaic Idealize.ShloMosaic.ValueIdx Cert.Attn

/-- A distance, zero where negative. -/
def farW (d : BitVec 32) : BitVec 32 := IntOp.maxsi d 0#32

/-- The logarithmic bucket of a distance. -/
def logW (d : BitVec 32) : BitVec 32 :=
  FloatOps.fptosi (F := Ideal) (φ := .f32) 32 (FloatOps.mulf (F := Ideal) (φ := .f32) (FloatOps.hostDivf (F := Ideal) (φ := .f32)
    (FloatOps.hostUnary (F := Ideal) (φ := .f32) .log (FloatOps.hostDivf (F := Ideal) (φ := .f32)
      (FloatOps.sitofp (F := Ideal) .f32 (IntOp.maxsi (farW d) 1#32)) (FloatOps.ofBits .f32 0x41800000#32)))
    (FloatOps.ofBits .f32 0x409B43D5#32)) (FloatOps.ofBits .f32 0x41800000#32))

/-- The bucket of a distance. -/
def bucketW (d : BitVec 32) : BitVec 32 :=
  Scalar.select (IntOp.cmpi .slt (farW d) 16#32) (farW d) (IntOp.minsi (IntOp.addi 16#32 (logW d)) 31#32)

/-- The row of the bias table a distance reads. -/
def rowW (d : BitVec 32) : BitVec 32 :=
  Scalar.select (IntOp.cmpi .slt (bucketW d) 0#32) (IntOp.addi (bucketW d) 32#32) (bucketW d)

/-- One of three numbers by the number of a pattern. -/
def pickW (p a b c : BitVec 32) : BitVec 32 :=
  Scalar.select (IntOp.cmpi .eq p 0#32) a (Scalar.select (IntOp.cmpi .eq p 1#32) b c)

/-- Whether pattern `p` holds the distance `d`. -/
def seenW (p d : BitVec 32) : BitVec 1 :=
  IntOp.andi (IntOp.andi (IntOp.cmpi .sge d 0#32) (IntOp.cmpi .sle d (pickW p 128#32 512#32 2048#32)))
    (IntOp.cmpi .eq (IntOp.remsi .host d (pickW p 1#32 4#32 16#32)) 0#32)

/-- A pattern's indicator. -/
def patR (p : ℕ) (d : ℤ) : ℝ := if 0 ≤ d ∧ seenW (BitVec.ofNat 32 p) (BitVec.ofInt 32 d) = 1 then 1 else 0

/-- How many patterns hold a distance. -/
def multR (d : ℤ) : ℝ := ∑ p ∈ Finset.range 3, patR p d

/-- A head's bias at a distance. -/
def biasR (rel : ℕ → ℕ → ℝ) (h : ℕ) (d : ℤ) : ℝ := rel (min (rowW (BitVec.ofInt 32 d)).toInt.toNat 31) h

theorem patR_or (p : ℕ) (d : ℤ) : patR p d = 0 ∨ patR p d = 1 := by
  unfold patR; split_ifs <;> simp

theorem patR_nonneg (p : ℕ) (d : ℤ) : 0 ≤ patR p d := by
  unfold patR; split_ifs <;> simp

theorem multR_nonneg (d : ℤ) : 0 ≤ multR d := Finset.sum_nonneg fun p _ => patR_nonneg p d

theorem patR_past (p : ℕ) (d : ℤ) (hd : d < 0) : patR p d = 0 := by
  unfold patR; rw [if_neg (fun h => absurd h.1 (not_le.mpr hd))]

theorem multR_past (d : ℤ) (hd : d < 0) : multR d = 0 := Finset.sum_eq_zero fun p _ => patR_past p d hd

theorem patR_zero (p : ℕ) (hp : p < 3) : patR p 0 = 1 := by
  unfold patR
  rw [if_pos]
  refine ⟨le_rfl, ?_⟩
  match p, hp with
  | 0, _ => decide
  | 1, _ => decide
  | 2, _ => decide

/-- The difference of two positions, as a word. -/
theorem word_sub (t j : ℕ) : IntOp.subi (BitVec.ofNat 32 t) (BitVec.ofNat 32 j) = BitVec.ofInt 32 ((t : ℤ) - j) := by
  unfold IntOp.subi
  rw [BitVec.sub_eq_add_neg, sub_eq_add_neg, BitVec.ofInt_add, BitVec.ofInt_neg, BitVec.ofInt_natCast, BitVec.ofInt_natCast]

theorem and_one {a b : BitVec 1} : IntOp.andi a b = 1 ↔ a = 1 ∧ b = 1 := by
  unfold IntOp.andi
  revert a b; decide

theorem seenW_past (p : BitVec 32) (d : ℤ) (hlo : -4096 < d) (hd : d < 0) : seenW p (BitVec.ofInt 32 d) ≠ 1 := by
  intro h
  have h1 := (and_one.mp (and_one.mp h).1).1
  have e : (BitVec.ofInt 32 d).toInt = d := by
    rw [BitVec.toInt_ofInt, Int.bmod_eq_of_le] <;> omega
  have h2 : IntOp.cmpi .sge (BitVec.ofInt 32 d) 0#32 = 0#1 := by
    unfold IntOp.cmpi
    simp only [BitVec.sle_eq_decide, e]
    simp [not_le.mpr hd]
  rw [h2] at h1
  exact absurd h1 (by decide)

/-- A pattern's mask at two positions. -/
theorem seen_iff (p : ℕ) (d : ℤ) (hlo : -4096 < d) :
    seenW (BitVec.ofNat 32 p) (BitVec.ofInt 32 d) = 1 ↔ patR p d = 1 := by
  unfold patR
  constructor
  · intro h
    rw [if_pos ⟨not_lt.mp fun hd => seenW_past _ d hlo hd h, h⟩]
  · intro h
    by_contra hc
    rw [if_neg (fun hh => hc hh.2)] at h
    exact zero_ne_one h

end Cert.Ref
-- ==== Proof.Ref.Bias.lean ====
/- The reference's bias and window masks at two positions: functions of their distance. -/
module

public import proofs.«01_k».proof.Proof.Ref.Dist

@[expose] public section

noncomputable section

namespace Cert.Ref

open Cert.ReferenceIdeal Cert.ReferenceIdeal.Gen Cert.ReferenceIdeal.Read
open Idealize.ShloMosaic Idealize.ShloMosaic.ValueIdx Idealize.ShloMosaic.StableHlo Cert.Attn

theorem gather_rows (x : S32x8.Idx → EReal) (idx : IVec S2048x2048x1 32) (y : S2048x2048x8.Idx) :
    Host.gather gather_S32x8_S2048x2048x1_S2048x2048x8_2_0_n_n_0_2_18 x idx y
      = x (ix2 (⟨min (idx (ix3 (y 0) (y 1) (0 : Fin 1))).toInt.toNat 31, by omega⟩ : Fin 32) (y 2)) := by
  unfold Host.gather
  congr 1
  funext a
  refine Fin.ext ?_
  match a with
  | ⟨0, _⟩ =>
    show (gather_S32x8_S2048x2048x1_S2048x2048x8_2_0_n_n_0_2_18).start y idx 0 + (gather_S32x8_S2048x2048x1_S2048x2048x8_2_0_n_n_0_2_18).batchCoord y 0
      + (gather_S32x8_S2048x2048x1_S2048x2048x8_2_0_n_n_0_2_18).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gather_S32x8_S2048x2048x1_S2048x2048x8_2_0_n_n_0_2_18).startIndexMap from List.mem_singleton.mpr rfl)]
    have hsi : (gather_S32x8_S2048x2048x1_S2048x2048x8_2_0_n_n_0_2_18).siIdx y
        ⟨List.idxOf (0 : Fin 2) (gather_S32x8_S2048x2048x1_S2048x2048x8_2_0_n_n_0_2_18).startIndexMap,
          List.idxOf_lt_length_iff.2 (List.mem_singleton.mpr rfl)⟩ = ix3 (y 0) (y 1) (0 : Fin 1) := by
      funext b; refine Fin.ext ?_
      match b with
      | ⟨0, _⟩ => rfl
      | ⟨1, _⟩ => rfl
      | ⟨2, _⟩ => rfl
    rw [hsi]
    rfl
  | ⟨1, _⟩ =>
    show (gather_S32x8_S2048x2048x1_S2048x2048x8_2_0_n_n_0_2_18).start y idx 1 + (gather_S32x8_S2048x2048x1_S2048x2048x8_2_0_n_n_0_2_18).batchCoord y 1
      + (gather_S32x8_S2048x2048x1_S2048x2048x8_2_0_n_n_0_2_18).offCoord y 1 = (y 2).val
    rw [GatherDims.batchCoord_eq_zero _ _ _ List.not_mem_nil]
    have h1 : (gather_S32x8_S2048x2048x1_S2048x2048x8_2_0_n_n_0_2_18).start y idx 1 = 0 := by
      unfold GatherDims.start
      rw [dif_neg (show ¬(1 : Fin 2) ∈ (gather_S32x8_S2048x2048x1_S2048x2048x8_2_0_n_n_0_2_18).startIndexMap by decide)]
    rw [h1, zero_add, zero_add]
    rfl

/-- The distance of two positions. -/
theorem dist6 (i : S2048x2048.Idx) : val_main_v6 (F := Ideal) i = BitVec.ofInt 32 (((i 0).val : ℤ) - (i 1).val) := by
  rw [val_main_v6_apply, val_main_v4_apply, val_main_v5_apply]
  exact word_sub _ _

theorem far8 (i : S2048x2048.Idx) : val_main_v8 (F := Ideal) i = farW (BitVec.ofInt 32 (((i 0).val : ℤ) - (i 1).val)) := by
  rw [val_main_v8_apply, dist6, val_main_v7_apply, val_main_c_apply]; rfl

theorem bucket26 (i : S2048x2048.Idx) : val_main_v26 (F := Ideal) i = bucketW (BitVec.ofInt 32 (((i 0).val : ℤ) - (i 1).val)) := by
  rw [val_main_v26_apply, val_main_v25_apply, val_main_v23_apply, val_main_v21_apply, val_main_v19_apply, val_main_v18_apply,
    val_main_v16_apply, val_main_v14_apply, val_main_v13_apply, val_main_v11_apply, val_main_v10_apply, far8, val_main_v9_apply,
    val_main_c_0_apply, val_main_v12_apply, val_main_cst_apply, val_main_v15_apply, val_main_cst_1_apply, val_main_v17_apply,
    val_main_cst_2_apply, val_main_v20_apply, val_main_c_3_apply, val_main_v22_apply, val_main_c_4_apply, val_main_v24_apply,
    val_main_c_5_apply]
  rfl

theorem row31 (i : S2048x2048.Idx) : val_main_v31 (F := Ideal) i = rowW (BitVec.ofInt 32 (((i 0).val : ℤ) - (i 1).val)) := by
  rw [val_main_v31_apply, val_main_v28_apply, val_main_v30_apply, bucket26, val_main_v27_apply, val_main_c_6_apply,
    val_main_v29_apply, val_main_c_7_apply]
  rfl

variable {x2 : (⟨S32x8, .f32⟩ : BufTy).Contents (Elt Ideal)} {rel : ℕ → ℕ → ℝ}

/-- The bias of two positions. -/
theorem r34 (H2 : Reads (s := S32x8) x2 fun i => rel (i 0).val (i 1).val) :
    Reads (s := S8x2048x2048) (val_main_v34 (F := Ideal) x2) fun i => biasR rel (i 0).val (((i 1).val : ℤ) - (i 2).val) := fun i => by
  show (val_main_v34 (F := Ideal) x2 i : EReal) = ((biasR rel (i 0).val (((i 1).val : ℤ) - (i 2).val) : ℝ) : EReal)
  rw [val_main_v34_apply]
  unfold val_main_v33
  refine (gather_rows x2 _ _).trans ((H2 _).trans ?_)
  unfold biasR
  have e : (val_main_v32 (F := Ideal) (ix3 (idx_main_v34 i 0) (idx_main_v34 i 1) (0 : Fin 1))) = rowW (BitVec.ofInt 32 (((i 1).val : ℤ) - (i 2).val)) :=
    (val_main_v32_apply _).trans (row31 _)
  exact at_eq' (by show min _ 31 = min _ 31; rw [e]) rfl

theorem pick101 (i : S3x2048x2048.Idx) : val_main_v101 (F := Ideal) i = pickW (BitVec.ofNat 32 (i 0).val) 128#32 512#32 2048#32 := by
  rw [val_main_v101_apply, val_main_v94_apply, val_main_v95_apply, val_main_v100_apply, val_main_v97_apply, val_main_v98_apply,
    val_main_v99_apply, val_main_v92_apply, val_main_v93_apply, val_main_v96_apply, val_main_c_15_apply, val_main_c_16_apply,
    val_main_c_17_apply, val_main_c_18_apply, val_main_c_19_apply]
  rfl

theorem pick110 (i : S3x2048x2048.Idx) : val_main_v110 (F := Ideal) i = pickW (BitVec.ofNat 32 (i 0).val) 1#32 4#32 16#32 := by
  rw [val_main_v110_apply, val_main_v103_apply, val_main_v104_apply, val_main_v109_apply, val_main_v106_apply, val_main_v107_apply,
    val_main_v108_apply, val_main_v92_apply, val_main_v102_apply, val_main_v105_apply, val_main_c_20_apply, val_main_c_21_apply,
    val_main_c_22_apply, val_main_c_23_apply, val_main_c_24_apply]
  rfl

theorem dist91 (i : S2048x2048.Idx) : val_main_v91 (F := Ideal) i = BitVec.ofInt 32 (((i 0).val : ℤ) - (i 1).val) := by
  rw [val_main_v91_apply, val_main_v89_apply, val_main_v90_apply]
  exact word_sub _ _

theorem seen124 (i : S3x2048x2048.Idx) : val_main_v124 (F := Ideal) i
    = seenW (BitVec.ofNat 32 (i 0).val) (BitVec.ofInt 32 (((i 1).val : ℤ) - (i 2).val)) := by
  rw [val_main_v124_apply, val_main_v118_apply, val_main_v117_apply, val_main_v113_apply, val_main_v112_apply, dist91,
    val_main_v111_apply, val_main_c_25_apply, val_main_v116_apply, val_main_v115_apply, val_main_v114_apply, dist91, pick101,
    val_main_v123_apply, val_main_v121_apply, val_main_v120_apply, val_main_v119_apply, dist91, pick110, val_main_v122_apply,
    val_main_c_26_apply]
  rfl

/-- A pattern's mask. -/
theorem mask126 (i : S3x8x2048x2048.Idx) : val_main_v126 (F := Ideal) i
    = seenW (BitVec.ofNat 32 (i 0).val) (BitVec.ofInt 32 (((i 2).val : ℤ) - (i 3).val)) := by
  rw [val_main_v126_apply, val_main_v125_apply, seen124]

theorem mask126_iff (i : S3x8x2048x2048.Idx) :
    val_main_v126 (F := Ideal) i = 1 ↔ patR (i 0).val (((i 2).val : ℤ) - (i 3).val) = 1 := by
  rw [mask126]
  refine seen_iff _ _ ?_
  have h2 : (i 2).val < 2048 := (i 2).isLt
  have h3 : (i 3).val < 2048 := (i 3).isLt
  omega

end Cert.Ref
-- ==== Proof.Kern.Prefix.lean ====
/- What the host lines before the call leave in the buffers the call reads: the attention lines are the reference's
   own, operation for operation, so what they hold is what the reference's lines hold. -/
module

public import proofs.«01_k».proof.Proof.Gen.KernelIdeal.Launch
public import proofs.«01_k».proof.Proof.Gen.ReferenceIdeal.Read
public import Idealize.ShloMosaic.Lib.StableHlo.RunRead

@[expose] public section

set_option maxRecDepth 16384

noncomputable section

namespace Cert.KernelIdeal.Gen

open Idealize.ShloMosaic Idealize.ShloMosaic.TcCoe Idealize.ShloMosaic.StableHlo
open Idealize.SL Idealize.SL.Sem
open Cert.ReferenceIdeal.Read

variable {F : FTy → Type} [FloatOps F]

/-- A line of operations cut in two. -/
theorem after_cut (n : ℕ) (l : List (HloOp τ sig (Elt F))) (U : Valuation τ sig (Elt F)) :
    after l U = after (l.drop n) (after (l.take n) U) := by
  have h : ∀ (a b : List (HloOp τ sig (Elt F))) (U : Valuation τ sig (Elt F)), after (a ++ b) U = after b (after a U) := by
    intro a
    induction a with
    | nil => intros; rfl
    | cons o a ih => intro b U; exact ih b _
  rw [← h, List.take_append_drop]

/-! ## The bias tiles -/

/-- The distance a tile's cell stands for. -/
def kDelta : (⟨S8x256x256, .i32⟩ : BufTy).Contents (Elt F) :=
  subi (addi (muli (iotaInDim S8x256x256 32 0) (broadcastInDim S8x256x256 ![] bcast_S_S8x256x256 (constantI S_ 32 256#32)))
    (iotaInDim S8x256x256 32 1)) (iotaInDim S8x256x256 32 2)

/-- A whole number at each cell of the eight tiles. -/
def kFill (n : BitVec 32) : (⟨S8x256x256, .i32⟩ : BufTy).Contents (Elt F) :=
  broadcastInDim S8x256x256 ![] bcast_S_S8x256x256 (constantI S_ 32 n)

/-- A whole number at each cell of the eight tiles, for each window. -/
def kFill3 (n : BitVec 32) : (⟨S3x8x256x256, .i32⟩ : BufTy).Contents (Elt F) :=
  broadcastInDim S3x8x256x256 ![] bcast_S_S3x8x256x256 (constantI S_ 32 n)

/-- The number of a window. -/
def kPattern : (⟨S3x8x256x256, .i32⟩ : BufTy).Contents (Elt F) := iotaInDim S3x8x256x256 32 0

/-- One number for each window. -/
def kPick (a b c : BitVec 32) : (⟨S3x8x256x256, .i32⟩ : BufTy).Contents (Elt F) :=
  select (cmpi .eq (kPattern (F := F)) (kFill3 (F := F) 0#32)) (kFill3 (F := F) a)
    (select (cmpi .eq (kPattern (F := F)) (kFill3 (F := F) 1#32)) (kFill3 (F := F) b) (kFill3 (F := F) c))

/-- The distances, for each window. -/
def kDelta3 : (⟨S3x8x256x256, .i32⟩ : BufTy).Contents (Elt F) :=
  broadcastInDim S3x8x256x256 ![0, 1, 2, 3] bcast_S1x8x256x256_S3x8x256x256_0_1_2_3
    (broadcastInDim S1x8x256x256 ![1, 2, 3] bcast_S8x256x256_S1x8x256x256_1_2_3 (kDelta (F := F)))

/-- Whether a window holds a distance. -/
def kSeen : (⟨S3x8x256x256, .i1⟩ : BufTy).Contents (Elt F) :=
  andi (andi
    (broadcastInDim S3x8x256x256 ![0, 1, 2, 3] bcast_S1x8x256x256_S3x8x256x256_0_1_2_3
      (broadcastInDim S1x8x256x256 ![1, 2, 3] bcast_S8x256x256_S1x8x256x256_1_2_3 (cmpi .sge (kDelta (F := F)) (kFill (F := F) 0#32))))
    (cmpi .sle (kDelta3 (F := F)) (kPick (F := F) 128#32 512#32 2048#32)))
    (cmpi .eq (Host.remsi (kDelta3 (F := F)) (kPick (F := F) 1#32 4#32 16#32)) (kFill3 (F := F) 0#32))

/-- How many windows hold a distance. -/
def kMult : (⟨S8x256x256, .f32⟩ : BufTy).Contents (Elt F) :=
  Host.reduceAdd (select (kSeen (F := F))
      (broadcastInDim S3x8x256x256 ![] bcast_S_S3x8x256x256 (constant (F := F) S_ .f32 0x3F800000#32))
      (broadcastInDim S3x8x256x256 ![] bcast_S_S3x8x256x256 (constant (F := F) S_ .f32 0x00000000#32)))
    (constant (F := F) S_ .f32 0x00000000#32) reducesTo_S3x8x256x256_S8x256x256_d0 h_S_

/-- A distance, zero where negative. -/
def kFar : (⟨S8x256x256, .i32⟩ : BufTy).Contents (Elt F) := maxsi (kDelta (F := F)) (kFill (F := F) 0#32)

/-- The bucket of a distance. -/
def kBucket : (⟨S8x256x256, .i32⟩ : BufTy).Contents (Elt F) :=
  select (cmpi .slt (kFar (F := F)) (kFill (F := F) 16#32)) (kFar (F := F))
    (minsi (addi (kFill (F := F) 16#32) (fptosi 32 (mulf (Host.divf (Host.log (Host.divf
        (sitofp .f32 (maxsi (kFar (F := F)) (kFill (F := F) 1#32)))
        (broadcastInDim S8x256x256 ![] bcast_S_S8x256x256 (constant (F := F) S_ .f32 0x41800000#32))))
        (broadcastInDim S8x256x256 ![] bcast_S_S8x256x256 (constant (F := F) S_ .f32 0x409B43D5#32)))
        (broadcastInDim S8x256x256 ![] bcast_S_S8x256x256 (constant (F := F) S_ .f32 0x41800000#32)))))
      (kFill (F := F) 31#32))

section
variable (x0 : (⟨S2048x6144, .bf16⟩ : BufTy).Contents (Elt F)) (x1 : (⟨S2048x8, .f32⟩ : BufTy).Contents (Elt F))
  (x2 : (⟨S32x8, .f32⟩ : BufTy).Contents (Elt F)) (U : Valuation τ sig (Elt F))

/-- The bias of each dilated head at each cell of the tiles. -/
def kBias : (⟨S8x8x256x256, .f32⟩ : BufTy).Contents (Elt F) :=
  transpose S8x8x256x256 [3, 0, 1, 2]
    (Host.gather gather_S32x8_S8x256x256x1_S8x256x256x8_3_0_n_n_0_3_18 x2
      (broadcastInDim S8x256x256x1 ![0, 1, 2] bcast_S8x256x256_S8x256x256x1_0_1_2
        (select (cmpi .slt (kBucket (F := F)) (kFill (F := F) 0#32)) (addi (kBucket (F := F)) (kFill (F := F) 32#32)) (kBucket (F := F)))))
    transposes_S8x256x256x8_S8x8x256x256_3_0_1_2

/-- The causal mask of the forgetting heads. -/
def kMask : (⟨S8x256x256, .f32⟩ : BufTy).Contents (Elt F) :=
  select (cmpi .sge (kDelta (F := F)) (kFill (F := F) 0#32))
    (broadcastInDim S8x256x256 ![] bcast_S_S8x256x256 (constant (F := F) S_ .f32 0x00000000#32))
    (broadcastInDim S8x256x256 ![] bcast_S_S8x256x256 (constant (F := F) S_ .f32 0xFF800000#32))

/-- The masks of the dilated heads, with their biases. -/
def kDil : (⟨S8x8x256x256, .f32⟩ : BufTy).Contents (Elt F) :=
  select (broadcastInDim S8x8x256x256 ![1, 2, 3] bcast_S8x256x256_S8x8x256x256_1_2_3
      (cmpf .ogt (kMult (F := F)) (broadcastInDim S8x256x256 ![] bcast_S_S8x256x256 (constant (F := F) S_ .f32 0x00000000#32))))
    (addf (broadcastInDim S8x8x256x256 ![0, 1, 2, 3] bcast_S1x8x256x256_S8x8x256x256_0_1_2_3
      (broadcastInDim S1x8x256x256 ![1, 2, 3] bcast_S8x256x256_S1x8x256x256_1_2_3 (Host.log (kMult (F := F))))) (kBias x2))
    (broadcastInDim S8x8x256x256 ![] bcast_S_S8x8x256x256 (constant (F := F) S_ .f32 0xFF800000#32))

/-- The nine groups of tiles. -/
def kTiles : (⟨S9x8x256x256, .f32⟩ : BufTy).Contents (Elt F) :=
  concatenate S9x8x256x256 0
    [⟨S1x8x256x256, broadcastInDim S1x8x256x256 ![1, 2, 3] bcast_S8x256x256_S1x8x256x256_1_2_3 (kMask (F := F))⟩,
      ⟨S8x8x256x256, kDil x2⟩] concatenates_S1x8x256x256_S8x8x256x256_S9x8x256x256_d0

/-- The gate sums by row, padded to the lanes. -/
def kRows : (⟨S2048x128, .f32⟩ : BufTy).Contents (Elt F) :=
  pad S2048x128 ![0, 0] ![0, 120] ![0, 0] x1 (sitofp (F := F) .f32 (constantI S_ 32 0#32)) pads_S2048x8_S2048x128_000_01200 h_S_

/-- The gate sums by column, padded to the lanes. -/
def kCols : (⟨S128x2048, .f32⟩ : BufTy).Contents (Elt F) :=
  pad S128x2048 ![0, 0] ![120, 0] ![0, 0] (transpose S8x2048 [1, 0] x1 transposes_S2048x8_S8x2048_1_0)
    (sitofp (F := F) .f32 (constantI S_ 32 0#32)) pads_S8x2048_S128x2048_01200_000 h_S_

/-- Each row's log denominators, padded to the lanes. -/
def kLse : (⟨S2048x128, .f32⟩ : BufTy).Contents (Elt F) :=
  pad S2048x128 ![0, 0] ![0, 112] ![0, 0]
    (transpose S2048x16 [1, 0] (val_main_v178 (F := F) x0 x1 x2) transposes_S16x2048_S2048x16_1_0)
    (sitofp (F := F) .f32 (constantI S_ 32 0#32)) pads_S2048x16_S2048x128_000_01120 h_S_

/-- The lines of the tiles and of the padded gate sums. -/
abbrev opsA : List (HloOp τ sig (Elt F)) :=
  hostOps0 ++ (hostOps0_1 ++ (hostOps0_2 ++ (hostOps0_3 ++ (hostOps0_4 ++ (hostOps0_5 ++ (hostOps0_6 ++ (hostOps0_7 ++ (hostOps0_8
    ++ (hostOps0_9 ++ (hostOps0_10 ++ hostOps0_11))))))))))

/-- The window counts and the bucket. -/
theorem stepA1 : after (hostOps0 ++ hostOps0_1) U (Proc.devRef .tc main_v6) = kDelta (F := F)
    ∧ after (hostOps0 ++ hostOps0_1) U (Proc.devRef .tc main_v40) = select (kSeen (F := F))
      (broadcastInDim S3x8x256x256 ![] bcast_S_S3x8x256x256 (constant (F := F) S_ .f32 0x3F800000#32))
      (broadcastInDim S3x8x256x256 ![] bcast_S_S3x8x256x256 (constant (F := F) S_ .f32 0x00000000#32)) := by
  refine ⟨?_, ?_⟩ <;> after_reads_simp <;> rfl

theorem stepA2 (h6 : U (Proc.devRef .tc main_v6) = kDelta (F := F))
    (h40 : U (Proc.devRef .tc main_v40) = select (kSeen (F := F))
      (broadcastInDim S3x8x256x256 ![] bcast_S_S3x8x256x256 (constant (F := F) S_ .f32 0x3F800000#32))
      (broadcastInDim S3x8x256x256 ![] bcast_S_S3x8x256x256 (constant (F := F) S_ .f32 0x00000000#32))) :
    after (hostOps0_2 ++ hostOps0_3) U (Proc.devRef .tc main_v42) = kMult (F := F)
      ∧ after (hostOps0_2 ++ hostOps0_3) U (Proc.devRef .tc main_v62) = kBucket (F := F) := by
  refine ⟨?_, ?_⟩ <;> after_reads_simp <;> simp only [h6, h40] <;> rfl

theorem stepA3 (h6 : U (Proc.devRef .tc main_v6) = kDelta (F := F)) (h42 : U (Proc.devRef .tc main_v42) = kMult (F := F))
    (h62 : U (Proc.devRef .tc main_v62) = kBucket (F := F)) (h2 : U (Proc.devRef .tc main_arg2) = x2) :
    after (hostOps0_4 ++ (hostOps0_5 ++ (hostOps0_6 ++ (hostOps0_7 ++ hostOps0_8)))) U (Proc.devRef .tc main_v83) = kTiles x2
      ∧ after (hostOps0_4 ++ (hostOps0_5 ++ (hostOps0_6 ++ (hostOps0_7 ++ hostOps0_8)))) U (Proc.devRef .tc main_c_29) = constantI S_ 32 0#32 := by
  simp only [hostOps0_8]
  generalize hf : (fun (a : (⟨S1x8x256x256, .f32⟩ : BufTy).Contents (Elt F)) (b : (⟨S8x8x256x256, .f32⟩ : BufTy).Contents (Elt F)) =>
    concatenate S9x8x256x256 0 [⟨S1x8x256x256, a⟩, ⟨S8x8x256x256, b⟩] concatenates_S1x8x256x256_S8x8x256x256_S9x8x256x256_d0) = f
  refine ⟨?_, ?_⟩
  · after_reads_simp
    simp only [h6, h42, h62, h2]
    subst hf
    rfl
  · after_reads_simp

theorem stepA4 (h29 : U (Proc.devRef .tc main_c_29) = constantI S_ 32 0#32) (h1 : U (Proc.devRef .tc main_arg1) = x1) :
    after (hostOps0_9 ++ (hostOps0_10 ++ hostOps0_11)) U (Proc.devRef .tc main_v84) = kRows x1
      ∧ after (hostOps0_9 ++ (hostOps0_10 ++ hostOps0_11)) U (Proc.devRef .tc main_v86) = kCols x1 := by
  refine ⟨?_, ?_⟩ <;> after_reads_simp <;> (try simp only [h1, h29]) <;> rfl

/-! ## The attention lines -/

/-- The three groups of columns and the bucket of each distance. -/
theorem step12 (h0 : U (Proc.devRef .tc main_arg0) = x0) :
    after hostOps0_12 U (Proc.devRef .tc main_v88) = val_main_v1 x0 ∧ after hostOps0_12 U (Proc.devRef .tc main_v89) = val_main_v2 x0
      ∧ after hostOps0_12 U (Proc.devRef .tc main_v90) = val_main_v3 x0
      ∧ after hostOps0_12 U (Proc.devRef .tc main_v95) = val_main_v8 (F := F)
      ∧ after hostOps0_12 U (Proc.devRef .tc main_v110) = val_main_v23 (F := F)
      ∧ after hostOps0_12 U (Proc.devRef .tc main_v112) = val_main_v25 (F := F) := by
  refine ⟨?_, ?_, ?_, ?_, ?_, ?_⟩ <;> after_reads_simp <;> (try rw [h0]) <;> rfl

/-- The bias, the heads and the masked scores of the forgetting heads. -/
theorem step14 (h88 : U (Proc.devRef .tc main_v88) = val_main_v1 x0) (h89 : U (Proc.devRef .tc main_v89) = val_main_v2 x0)
    (h90 : U (Proc.devRef .tc main_v90) = val_main_v3 x0) (h95 : U (Proc.devRef .tc main_v95) = val_main_v8 (F := F))
    (h110 : U (Proc.devRef .tc main_v110) = val_main_v23 (F := F)) (h112 : U (Proc.devRef .tc main_v112) = val_main_v25 (F := F))
    (h1 : U (Proc.devRef .tc main_arg1) = x1) (h2 : U (Proc.devRef .tc main_arg2) = x2) :
    after (hostOps0_13 ++ (hostOps0_14 ++ hostOps0_15)) U (Proc.devRef .tc main_v121) = val_main_v34 x2
      ∧ after (hostOps0_13 ++ (hostOps0_14 ++ hostOps0_15)) U (Proc.devRef .tc main_v122) = val_main_v35 x0
      ∧ after (hostOps0_13 ++ (hostOps0_14 ++ hostOps0_15)) U (Proc.devRef .tc main_v123) = val_main_v36 x0
      ∧ after (hostOps0_13 ++ (hostOps0_14 ++ hostOps0_15)) U (Proc.devRef .tc main_v124) = val_main_v37 x0
      ∧ after (hostOps0_13 ++ (hostOps0_14 ++ hostOps0_15)) U (Proc.devRef .tc main_v127) = val_main_v40 x0
      ∧ after (hostOps0_13 ++ (hostOps0_14 ++ hostOps0_15)) U (Proc.devRef .tc main_v146) = val_main_v59_0 x0 x1 := by
  refine ⟨?_, ?_, ?_, ?_, ?_, ?_⟩ <;> after_reads_simp <;> simp only [h88, h89, h90, h95, h110, h112, h1, h2] <;> rfl

/-- The forgetting heads' softmax, output and log denominators. -/
theorem step16a (h146 : U (Proc.devRef .tc main_v146) = val_main_v59_0 (F := F) x0 x1)
    (h127 : U (Proc.devRef .tc main_v127) = val_main_v40 (F := F) x0) :
    after (List.take 20 hostOps0_16) U (Proc.devRef .tc main_v161) = val_main_v77 (F := F) x0 x1
      ∧ after (List.take 20 hostOps0_16) U (Proc.devRef .tc main_v164) = val_main_v80 (F := F) x0 x1 := by
  simp only [hostOps0_16, List.take_succ_cons, List.take_zero]
  refine ⟨?_, ?_⟩ <;> after_reads_simp <;> simp only [h146, h127] <;> rfl

/-- The masked scores of the dilated heads. -/
theorem step16b (h121 : U (Proc.devRef .tc main_v121) = val_main_v34 x2) (h122 : U (Proc.devRef .tc main_v122) = val_main_v35 x0)
    (h123 : U (Proc.devRef .tc main_v123) = val_main_v36 x0) (h124 : U (Proc.devRef .tc main_v124) = val_main_v37 x0) :
    after (List.take 64 (List.drop 20 hostOps0_16)) U (Proc.devRef .tc main_v214) = val_main_v130 (F := F) x0 x2
      ∧ after (List.take 64 (List.drop 20 hostOps0_16)) U (Proc.devRef .tc main_v167) = val_main_v83 (F := F) x0 := by
  simp only [hostOps0_16, List.take_succ_cons, List.take_zero, List.drop_succ_cons, List.drop_zero]
  refine ⟨?_, ?_⟩ <;> after_reads_simp <;> simp only [h121, h122, h123, h124] <;> rfl

/-- Each window's output and log denominators. -/
theorem step16c (h214 : U (Proc.devRef .tc main_v214) = val_main_v130 (F := F) x0 x2)
    (h167 : U (Proc.devRef .tc main_v167) = val_main_v83 (F := F) x0) :
    after (List.take 20 (List.drop 84 hostOps0_16)) U (Proc.devRef .tc main_v229) = val_main_v149 (F := F) x0 x2
      ∧ after (List.take 20 (List.drop 84 hostOps0_16)) U (Proc.devRef .tc main_v232) = val_main_v152 (F := F) x0 x2 := by
  simp only [hostOps0_16, List.take_succ_cons, List.take_zero, List.drop_succ_cons, List.drop_zero]
  refine ⟨?_, ?_⟩ <;> after_reads_simp <;> simp only [h214, h167] <;> rfl

/-- The mixed output and the log denominators of all heads. -/
theorem step16d (h229 : U (Proc.devRef .tc main_v229) = val_main_v149 (F := F) x0 x2)
    (h232 : U (Proc.devRef .tc main_v232) = val_main_v152 (F := F) x0 x2)
    (h161 : U (Proc.devRef .tc main_v161) = val_main_v77 (F := F) x0 x1) (h164 : U (Proc.devRef .tc main_v164) = val_main_v80 (F := F) x0 x1) :
    after (List.drop 104 hostOps0_16 ++ (hostOps0_17 ++ hostOps0_18)) U (Proc.devRef .tc main_v257) = kLse x0 x1 x2
      ∧ after (List.drop 104 hostOps0_16 ++ (hostOps0_17 ++ hostOps0_18)) U (Proc.devRef .tc main_v258)
        = truncf .bf16 (val_main_v175 (F := F) x0 x1 x2) bitsLt_bf16_f32 := by
  simp only [hostOps0_16, List.drop_succ_cons, List.drop_zero]
  generalize hf : (fun (a b : (⟨S2048x8x128, .f32⟩ : BufTy).Contents (Elt F)) =>
    concatenate S2048x16x128 1 [⟨S2048x8x128, a⟩, ⟨S2048x8x128, b⟩] concatenates_S2048x8x128_S2048x8x128_S2048x16x128_d1) = f
  generalize hg : (fun (a b : (⟨S8x2048, .f32⟩ : BufTy).Contents (Elt F)) =>
    concatenate S16x2048 0 [⟨S8x2048, a⟩, ⟨S8x2048, b⟩] concatenates_S8x2048_S8x2048_S16x2048_d0) = g
  refine ⟨?_, ?_⟩ <;> after_reads_simp <;> simp only [h229, h232, h161, h164] <;> subst hf hg <;> rfl

end

end Cert.KernelIdeal.Gen
-- ==== Proof.Eqn.Tables.lean ====
/- The tiles that the call reads: the same functions of a distance as the reference's masks and biases. -/
module

public import proofs.«01_k».proof.Proof.Ref.Bias
public import proofs.«01_k».proof.Proof.Kern.Prefix

@[expose] public section

noncomputable section

namespace Cert.Eqn

open Cert.KernelIdeal Cert.KernelIdeal.Gen
open Idealize.ShloMosaic Idealize.ShloMosaic.ValueIdx Idealize.ShloMosaic.StableHlo Cert.Attn Cert.Ref

/-- The distance of a cell of a tile. -/
abbrev far (k r c : ℕ) : ℤ := 256 * (k : ℤ) + r - c

theorem delta_word (i : S8x256x256.Idx) : kDelta (F := Ideal) i = BitVec.ofInt 32 (far (i 0).val (i 1).val (i 2).val) := by
  show IntOp.subi (IntOp.addi (IntOp.muli (BitVec.ofNat 32 (i 0).val) 256#32) (BitVec.ofNat 32 (i 1).val)) (BitVec.ofNat 32 (i 2).val) = _
  have e : IntOp.addi (IntOp.muli (BitVec.ofNat 32 (i 0).val) 256#32) (BitVec.ofNat 32 (i 1).val)
      = BitVec.ofNat 32 ((i 0).val * 256 + (i 1).val) := by
    unfold IntOp.addi IntOp.muli
    rw [BitVec.ofNat_add, BitVec.ofNat_mul]
  rw [e, word_sub]
  congr 1
  unfold far
  push_cast
  ring

theorem bucket_word (i : S8x256x256.Idx) :
    kBucket (F := Ideal) i = bucketW (BitVec.ofInt 32 (far (i 0).val (i 1).val (i 2).val)) := by
  rw [← delta_word i]
  rfl

theorem delta3_word (i : S3x8x256x256.Idx) :
    kDelta3 (F := Ideal) i = BitVec.ofInt 32 (far (i 1).val (i 2).val (i 3).val) := by
  unfold kDelta3
  exact (broadcastInDim_apply _ _ _ i (ix4 (0 : Fin 1) (i 1) (i 2) (i 3)) (fun a => by
    match a with
    | ⟨0, _⟩ => rfl
    | ⟨1, _⟩ => rfl
    | ⟨2, _⟩ => rfl
    | ⟨3, _⟩ => rfl)).trans ((broadcastInDim_apply _ _ _ _ (ix3 (i 1) (i 2) (i 3)) (fun a => by
      match a with
      | ⟨0, _⟩ => rfl
      | ⟨1, _⟩ => rfl
      | ⟨2, _⟩ => rfl)).trans (delta_word _))

theorem pick_word (a b c : BitVec 32) (i : S3x8x256x256.Idx) :
    kPick (F := Ideal) a b c i = pickW (BitVec.ofNat 32 (i 0).val) a b c := rfl

theorem ahead_word (i : S3x8x256x256.Idx) :
    broadcastInDim S3x8x256x256 ![0, 1, 2, 3] bcast_S1x8x256x256_S3x8x256x256_0_1_2_3
      (broadcastInDim S1x8x256x256 ![1, 2, 3] bcast_S8x256x256_S1x8x256x256_1_2_3 (cmpi .sge (kDelta (F := Ideal)) (kFill (F := Ideal) 0#32))) i
      = IntOp.cmpi .sge (BitVec.ofInt 32 (far (i 1).val (i 2).val (i 3).val)) 0#32 := by
  refine (broadcastInDim_apply _ _ _ i (ix4 (0 : Fin 1) (i 1) (i 2) (i 3)) (fun a => by
    match a with
    | ⟨0, _⟩ => rfl
    | ⟨1, _⟩ => rfl
    | ⟨2, _⟩ => rfl
    | ⟨3, _⟩ => rfl)).trans ((broadcastInDim_apply _ _ _ _ (ix3 (i 1) (i 2) (i 3)) (fun a => by
      match a with
      | ⟨0, _⟩ => rfl
      | ⟨1, _⟩ => rfl
      | ⟨2, _⟩ => rfl)).trans ?_)
  show IntOp.cmpi .sge (kDelta (F := Ideal) (ix3 (i 1) (i 2) (i 3))) 0#32 = _
  rw [delta_word]

/-- Whether a window holds a cell's distance. -/
theorem seen_word (i : S3x8x256x256.Idx) : kSeen (F := Ideal) i
    = seenW (BitVec.ofNat 32 (i 0).val) (BitVec.ofInt 32 (far (i 1).val (i 2).val (i 3).val)) := by
  unfold kSeen
  show IntOp.andi (IntOp.andi (broadcastInDim S3x8x256x256 ![0, 1, 2, 3] bcast_S1x8x256x256_S3x8x256x256_0_1_2_3
      (broadcastInDim S1x8x256x256 ![1, 2, 3] bcast_S8x256x256_S1x8x256x256_1_2_3 (cmpi .sge (kDelta (F := Ideal)) (kFill (F := Ideal) 0#32))) i)
    (IntOp.cmpi .sle (kDelta3 (F := Ideal) i) (kPick (F := Ideal) 128#32 512#32 2048#32 i)))
    (IntOp.cmpi .eq (IntOp.remsi .host (kDelta3 (F := Ideal) i) (kPick (F := Ideal) 1#32 4#32 16#32 i)) 0#32) = _
  rw [ahead_word, delta3_word, pick_word, pick_word]
  rfl

theorem far_lo (k : Fin 8) (r c : Fin 256) : -4096 < far k.val r.val c.val := by unfold far; omega

/-- How many windows hold a cell's distance. -/
theorem mult_word (k : Fin 8) (r c : Fin 256) :
    (kMult (F := Ideal) (ix3 k r c) : EReal) = ((multR (far k.val r.val c.val) : ℝ) : EReal) := by
  unfold kMult multR
  simp only [Host.reduceAdd, Ideal.hostReduceAdd_def]
  rw [Ideal.hostReduceAdd_single reducesTo_S3x8x256x256_S8x256x256_d0 (by decide)]
  refine e_sum (g := fun p => patR p (far k.val r.val c.val)) e_zero fun p => ?_
  have hi : (Shape.Reduces.lift (s := S3x8x256x256) (t := S8x256x256) (by decide) (ix3 k r c) p : S3x8x256x256.Idx)
      = ix4 (⟨p.val, p.isLt⟩ : Fin 3) k r c := funext fun a => Fin.ext (by
    match a with
    | ⟨0, _⟩ => rfl
    | ⟨1, _⟩ => rfl
    | ⟨2, _⟩ => rfl
    | ⟨3, _⟩ => rfl)
  rw [hi]
  show Scalar.select (kSeen (F := Ideal) (ix4 (⟨p.val, p.isLt⟩ : Fin 3) k r c)) (FloatOps.ofBits (F := Ideal) .f32 0x3F800000#32)
    (FloatOps.ofBits (F := Ideal) .f32 0x00000000#32) = _
  have hs := seen_iff p.val (far k.val r.val c.val) (far_lo k r c)
  rw [seen_word]
  unfold Scalar.select
  rcases patR_or p.val (far k.val r.val c.val) with h | h
  · rw [if_neg (fun hh => by rw [hs.mp hh] at h; exact one_ne_zero h), h]; exact e_zero
  · rw [if_pos (hs.mpr h), h]; exact e_one

theorem gather_tiles (x : S32x8.Idx → EReal) (idx : IVec S8x256x256x1 32) (y : S8x256x256x8.Idx) :
    Host.gather gather_S32x8_S8x256x256x1_S8x256x256x8_3_0_n_n_0_3_18 x idx y
      = x (ix2 (⟨min (idx (ix4 (y 0) (y 1) (y 2) (0 : Fin 1))).toInt.toNat 31, by omega⟩ : Fin 32) (y 3)) := by
  unfold Host.gather
  congr 1
  funext a
  refine Fin.ext ?_
  match a with
  | ⟨0, _⟩ =>
    show (gather_S32x8_S8x256x256x1_S8x256x256x8_3_0_n_n_0_3_18).start y idx 0 + (gather_S32x8_S8x256x256x1_S8x256x256x8_3_0_n_n_0_3_18).batchCoord y 0
      + (gather_S32x8_S8x256x256x1_S8x256x256x8_3_0_n_n_0_3_18).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gather_S32x8_S8x256x256x1_S8x256x256x8_3_0_n_n_0_3_18).startIndexMap from List.mem_singleton.mpr rfl)]
    have hsi : (gather_S32x8_S8x256x256x1_S8x256x256x8_3_0_n_n_0_3_18).siIdx y
        ⟨List.idxOf (0 : Fin 2) (gather_S32x8_S8x256x256x1_S8x256x256x8_3_0_n_n_0_3_18).startIndexMap,
          List.idxOf_lt_length_iff.2 (List.mem_singleton.mpr rfl)⟩ = ix4 (y 0) (y 1) (y 2) (0 : Fin 1) := by
      funext b; refine Fin.ext ?_
      match b with
      | ⟨0, _⟩ => rfl
      | ⟨1, _⟩ => rfl
      | ⟨2, _⟩ => rfl
      | ⟨3, _⟩ => rfl
    rw [hsi]
    rfl
  | ⟨1, _⟩ =>
    show (gather_S32x8_S8x256x256x1_S8x256x256x8_3_0_n_n_0_3_18).start y idx 1 + (gather_S32x8_S8x256x256x1_S8x256x256x8_3_0_n_n_0_3_18).batchCoord y 1
      + (gather_S32x8_S8x256x256x1_S8x256x256x8_3_0_n_n_0_3_18).offCoord y 1 = (y 3).val
    rw [GatherDims.batchCoord_eq_zero _ _ _ List.not_mem_nil]
    have h1 : (gather_S32x8_S8x256x256x1_S8x256x256x8_3_0_n_n_0_3_18).start y idx 1 = 0 := by
      unfold GatherDims.start
      rw [dif_neg (show ¬(1 : Fin 2) ∈ (gather_S32x8_S8x256x256x1_S8x256x256x8_3_0_n_n_0_3_18).startIndexMap by decide)]
    rw [h1, zero_add, zero_add]
    rfl

section
variable {x2 : (⟨S32x8, .f32⟩ : BufTy).Contents (Elt Ideal)} {rel : ℕ → ℕ → ℝ}
  (H2 : Reads (s := S32x8) x2 fun i => rel (i 0).val (i 1).val)
include H2

/-- A dilated head's bias at a cell. -/
theorem bias_word (h k : Fin 8) (r c : Fin 256) :
    (kBias (F := Ideal) x2 (ix4 h k r c) : EReal) = ((biasR rel h.val (far k.val r.val c.val) : ℝ) : EReal) := by
  unfold kBias
  refine (transpose_apply _ _ _ (ix4 h k r c) (ix4 k r c h : S8x256x256x8.Idx) (fun b => by
    match b with
    | ⟨0, _⟩ => rfl
    | ⟨1, _⟩ => rfl
    | ⟨2, _⟩ => rfl
    | ⟨3, _⟩ => rfl)).trans ((gather_tiles x2 _ _).trans ((H2 _).trans ?_))
  unfold biasR
  refine at_eq' ?_ rfl
  show min (BitVec.toInt _).toNat 31 = min _ 31
  have e : broadcastInDim S8x256x256x1 ![0, 1, 2] bcast_S8x256x256_S8x256x256x1_0_1_2
        (select (cmpi .slt (kBucket (F := Ideal)) (kFill (F := Ideal) 0#32)) (addi (kBucket (F := Ideal)) (kFill (F := Ideal) 32#32)) (kBucket (F := Ideal)))
        (ix4 k r c (0 : Fin 1)) = rowW (BitVec.ofInt 32 (far k.val r.val c.val)) := by
    refine (broadcastInDim_apply _ _ _ _ (ix3 k r c) (fun a => by
      match a with
      | ⟨0, _⟩ => rfl
      | ⟨1, _⟩ => rfl
      | ⟨2, _⟩ => rfl)).trans ?_
    show Scalar.select (IntOp.cmpi .slt (kBucket (F := Ideal) (ix3 k r c)) 0#32)
      (IntOp.addi (kBucket (F := Ideal) (ix3 k r c)) 32#32) (kBucket (F := Ideal) (ix3 k r c)) = _
    rw [bucket_word]
    rfl
  exact congrArg (fun z : BitVec 32 => min z.toInt.toNat 31) e

/-- A dilated head's tiles. -/
theorem dil_word (h k : Fin 8) (r c : Fin 256) : (kDil (F := Ideal) x2 (ix4 h k r c) : EReal)
    = masked (multR (far k.val r.val c.val)) (biasR rel h.val (far k.val r.val c.val)) := by
  have hm := mult_word k r c
  have hc : broadcastInDim S8x8x256x256 ![1, 2, 3] bcast_S8x256x256_S8x8x256x256_1_2_3
      (cmpf .ogt (kMult (F := Ideal)) (broadcastInDim S8x256x256 ![] bcast_S_S8x256x256 (constant (F := Ideal) S_ .f32 0x00000000#32)))
      (ix4 h k r c) = Ideal.cmp .ogt ((multR (far k.val r.val c.val) : ℝ) : EReal) ((0 : ℝ) : EReal) := by
    refine (broadcastInDim_apply _ _ _ _ (ix3 k r c) (fun a => by
      match a with
      | ⟨0, _⟩ => rfl
      | ⟨1, _⟩ => rfl
      | ⟨2, _⟩ => rfl)).trans ?_
    show Ideal.cmp .ogt (kMult (F := Ideal) (ix3 k r c)) (FloatOps.ofBits (F := Ideal) .f32 0x00000000#32) = _
    rw [hm, e_zero]
  have hl : broadcastInDim S8x8x256x256 ![0, 1, 2, 3] bcast_S1x8x256x256_S8x8x256x256_0_1_2_3
      (broadcastInDim S1x8x256x256 ![1, 2, 3] bcast_S8x256x256_S1x8x256x256_1_2_3 (Host.log (kMult (F := Ideal)))) (ix4 h k r c)
      = FloatOps.hostUnary (F := Ideal) (φ := .f32) .log ((multR (far k.val r.val c.val) : ℝ) : EReal) := by
    refine (broadcastInDim_apply _ _ _ _ (ix4 (0 : Fin 1) k r c) (fun a => by
      match a with
      | ⟨0, _⟩ => rfl
      | ⟨1, _⟩ => rfl
      | ⟨2, _⟩ => rfl
      | ⟨3, _⟩ => rfl)).trans ((broadcastInDim_apply _ _ _ _ (ix3 k r c) (fun a => by
        match a with
        | ⟨0, _⟩ => rfl
        | ⟨1, _⟩ => rfl
        | ⟨2, _⟩ => rfl)).trans ?_)
    show FloatOps.hostUnary (F := Ideal) (φ := .f32) .log (kMult (F := Ideal) (ix3 k r c)) = _
    rw [hm]
  unfold kDil
  show Scalar.select (broadcastInDim S8x8x256x256 ![1, 2, 3] bcast_S8x256x256_S8x8x256x256_1_2_3
      (cmpf .ogt (kMult (F := Ideal)) (broadcastInDim S8x256x256 ![] bcast_S_S8x256x256 (constant (F := Ideal) S_ .f32 0x00000000#32)))
      (ix4 h k r c))
    (FloatOps.addf (F := Ideal) (φ := .f32) (broadcastInDim S8x8x256x256 ![0, 1, 2, 3] bcast_S1x8x256x256_S8x8x256x256_0_1_2_3
      (broadcastInDim S1x8x256x256 ![1, 2, 3] bcast_S8x256x256_S1x8x256x256_1_2_3 (Host.log (kMult (F := Ideal)))) (ix4 h k r c))
      (kBias (F := Ideal) x2 (ix4 h k r c)))
    (FloatOps.ofBits (F := Ideal) .f32 0xFF800000#32) = _
  rw [hc, hl, bias_word H2]
  have hn := multR_nonneg (far k.val r.val c.val)
  unfold masked Ideal.cmp Scalar.select
  by_cases h0 : multR (far k.val r.val c.val) = 0
  · rw [if_pos h0, h0, if_neg (by simp)]
    exact e_low
  · have hp : 0 < multR (far k.val r.val c.val) := lt_of_le_of_ne hn (Ne.symm h0)
    rw [if_neg h0, if_pos (by simp [hp])]
    exact e_add (e_log rfl hp) rfl

/-- The tiles a dilated head reads. -/
theorem tiles_dil (g : Fin 9) (h k : Fin 8) (hg : g.val = h.val + 1) (r c : Fin 256) :
    (kTiles (F := Ideal) x2 (ix4 g k r c) : EReal) = masked (multR (far k.val r.val c.val)) (biasR rel h.val (far k.val r.val c.val)) := by
  unfold kTiles
  exact (concatenate_pair_apply_right (t := S9x8x256x256) (s₁ := S1x8x256x256) (s₂ := S8x8x256x256) 0 _ _ _ (ix4 g k r c) rfl rfl
    (ix4 h k r c) (fun b hb => by
      match b, hb with
      | ⟨0, _⟩, hb => exact absurd rfl hb
      | ⟨1, _⟩, _ => rfl
      | ⟨2, _⟩, _ => rfl
      | ⟨3, _⟩, _ => rfl) hg.symm).trans (dil_word H2 h k r c)

omit H2 in
/-- The tiles a forgetting head reads. -/
theorem tiles_fox (r c : Fin 256) :
    (kTiles (F := Ideal) x2 (ix4 (0 : Fin 9) (0 : Fin 8) r c) : EReal) = masked (causal r.val c.val) 0 := by
  unfold kTiles
  refine (concatenate_pair_apply_left (t := S9x8x256x256) (s₁ := S1x8x256x256) (s₂ := S8x8x256x256) 0 _ _ _
    (ix4 (0 : Fin 9) (0 : Fin 8) r c) rfl (ix4 (0 : Fin 1) (0 : Fin 8) r c) (fun b => by
      match b with
      | ⟨0, _⟩ => rfl
      | ⟨1, _⟩ => rfl
      | ⟨2, _⟩ => rfl
      | ⟨3, _⟩ => rfl)).trans ((broadcastInDim_apply _ _ _ _ (ix3 (0 : Fin 8) r c) (fun a => by
        match a with
        | ⟨0, _⟩ => rfl
        | ⟨1, _⟩ => rfl
        | ⟨2, _⟩ => rfl)).trans ?_)
  have hr : r.val < 2048 := by omega
  have hc : c.val < 2048 := by omega
  have hd : kDelta (F := Ideal) (ix3 (0 : Fin 8) r c) = IntOp.subi (BitVec.ofNat 32 r.val) (BitVec.ofNat 32 c.val) := by
    rw [word_sub, delta_word]
    congr 1
    show far 0 r.val c.val = _
    unfold far
    omega
  show Scalar.select (IntOp.cmpi .sge (kDelta (F := Ideal) (ix3 (0 : Fin 8) r c)) 0#32) (FloatOps.ofBits (F := Ideal) .f32 0x00000000#32)
    (FloatOps.ofBits (F := Ideal) .f32 0xFF800000#32) = _
  rw [hd, word_ge _ _ hr hc]
  unfold masked causal Scalar.select
  by_cases h : c.val ≤ r.val
  · rw [if_pos h, if_pos h, if_pos (show (1#1 : BitVec 1) = 1 from rfl), if_neg one_ne_zero, Real.log_one, add_zero]
    exact e_zero
  · rw [if_neg h, if_neg h, if_neg (by decide), if_pos rfl]
    exact e_low

end

end Cert.Eqn
-- ==== Proof.Eqn.Blocks.lean ====
/- Where the blocks of the call's windows lie in their arrays. -/
module

public import proofs.«01_k».proof.Proof.Gen.KernelIdeal.Frame
public import Idealize.ShloMosaic.Lib.Pipeline.Value
public import Idealize.ShloMosaic.Lib.ValueLayout

@[expose] public section

noncomputable section

namespace Cert.KernelIdeal.Gen

open Idealize.ShloMosaic Idealize.ShloMosaic.TcCoe Idealize.ShloMosaic.ValueIdx
open Idealize.SL Idealize.SL.Sem

/-- The group of tiles of a head. -/
abbrev group (h : ℕ) : ℕ := h - 7

theorem place0 : ∀ t : Fin cfg0.N, win0_0.index t 0 = 0 ∧ win0_0.index t 1 = t.val :=
  (by decide +kernel : ∀ t : Fin grid0.N, win0_0.index t 0 = 0 ∧ win0_0.index t 1 = t.val)

theorem place1 : ∀ t : Fin cfg0.N, win0_1.index t 0 = 0 ∧ win0_1.index t 1 = 16 + t.val :=
  (by decide +kernel : ∀ t : Fin grid0.N, win0_1.index t 0 = 0 ∧ win0_1.index t 1 = 16 + t.val)

theorem place2 : ∀ t : Fin cfg0.N, win0_2.index t 0 = 0 ∧ win0_2.index t 1 = 32 + t.val :=
  (by decide +kernel : ∀ t : Fin grid0.N, win0_2.index t 0 = 0 ∧ win0_2.index t 1 = 32 + t.val)

theorem place3 : ∀ t : Fin cfg0.N, win0_3.index t 0 = 0 ∧ win0_3.index t 1 = 0 :=
  (by decide +kernel : ∀ t : Fin grid0.N, win0_3.index t 0 = 0 ∧ win0_3.index t 1 = 0)

theorem place4 : ∀ t : Fin cfg0.N, win0_4.index t 0 = 0 ∧ win0_4.index t 1 = 0 :=
  (by decide +kernel : ∀ t : Fin grid0.N, win0_4.index t 0 = 0 ∧ win0_4.index t 1 = 0)

theorem place5 : ∀ t : Fin cfg0.N, win0_5.index t 0 = group t.val ∧ win0_5.index t 1 = 0 ∧ win0_5.index t 2 = 0 ∧ win0_5.index t 3 = 0 :=
  (by decide +kernel : ∀ t : Fin grid0.N, win0_5.index t 0 = group t.val ∧ win0_5.index t 1 = 0 ∧ win0_5.index t 2 = 0 ∧ win0_5.index t 3 = 0)

theorem place6 : ∀ t : Fin cfg0.N, win0_6.index t 0 = 0 ∧ win0_6.index t 1 = 0 :=
  (by decide +kernel : ∀ t : Fin grid0.N, win0_6.index t 0 = 0 ∧ win0_6.index t 1 = 0)

theorem place7 : ∀ t : Fin cfg0.N, win0_7.index t 0 = 0 ∧ win0_7.index t 1 = t.val :=
  (by decide +kernel : ∀ t : Fin grid0.N, win0_7.index t 0 = 0 ∧ win0_7.index t 1 = t.val)

theorem place8 : ∀ t : Fin cfg0.N, win0_8.index t 0 = 0 ∧ win0_8.index t 1 = t.val :=
  (by decide +kernel : ∀ t : Fin grid0.N, win0_8.index t 0 = 0 ∧ win0_8.index t 1 = t.val)

theorem place9 : ∀ t : Fin cfg0.N, win0_9.index t 0 = 0 ∧ win0_9.index t 1 = t.val :=
  (by decide +kernel : ∀ t : Fin grid0.N, win0_9.index t 0 = 0 ∧ win0_9.index t 1 = t.val)

theorem place10 : ∀ t : Fin cfg0.N, win0_10.index t 0 = 0 ∧ win0_10.index t 1 = t.val :=
  (by decide +kernel : ∀ t : Fin grid0.N, win0_10.index t 0 = 0 ∧ win0_10.index t 1 = t.val)

theorem place11 : ∀ t : Fin cfg0.N, win0_11.index t 0 = 0 ∧ win0_11.index t 1 = t.val :=
  (by decide +kernel : ∀ t : Fin grid0.N, win0_11.index t 0 = 0 ∧ win0_11.index t 1 = t.val)

theorem place12 : ∀ t : Fin cfg0.N, win0_12.index t 0 = t.val ∧ win0_12.index t 1 = 0 ∧ win0_12.index t 2 = 0 :=
  (by decide +kernel : ∀ t : Fin grid0.N, win0_12.index t 0 = t.val ∧ win0_12.index t 1 = 0 ∧ win0_12.index t 2 = 0)

theorem place13 : ∀ t : Fin cfg0.N, win0_13.index t 0 = group t.val ∧ win0_13.index t 1 = 0 ∧ win0_13.index t 2 = 0 ∧ win0_13.index t 3 = 0 :=
  (by decide +kernel : ∀ t : Fin grid0.N, win0_13.index t 0 = group t.val ∧ win0_13.index t 1 = 0 ∧ win0_13.index t 2 = 0 ∧ win0_13.index t 3 = 0)

theorem flush9 : ∀ t : Fin cfg0.N, (cfg0.win 9).flush t = true :=
  (by decide +kernel : ∀ t : Fin grid0.N, win0_9.flush t = true)

theorem flush10 : ∀ t : Fin cfg0.N, (cfg0.win 10).flush t = true :=
  (by decide +kernel : ∀ t : Fin grid0.N, win0_10.flush t = true)

theorem flush11 : ∀ t : Fin cfg0.N, (cfg0.win 11).flush t = true :=
  (by decide +kernel : ∀ t : Fin grid0.N, win0_11.flush t = true)

theorem flush12 : ∀ t : Fin cfg0.N, (cfg0.win 12).flush t = true :=
  (by decide +kernel : ∀ t : Fin grid0.N, win0_12.flush t = true)

theorem flush13 : ∀ t : Fin cfg0.N, 7 ≤ t.val → (cfg0.win 13).flush t = true :=
  (by decide +kernel : ∀ t : Fin grid0.N, 7 ≤ t.val → win0_13.flush t = true)

section
variable {F : FTy → Type} [FloatOps F] (c : Dev nD) (t : Fin cfg0.N)

theorem block0 (X : Buf (Elt F) ((c : Thread nD τ).loc main_arg0)) (r : Fin 2048) (d : Fin 128) (n : ℕ) (hn : n < 6144) (h : n = 128 * t.val + d.val) :
    ((cfg0.win 0).blk t).view.read (Elt F) X (ix2 r d) = X (ix2 r (⟨n, hn⟩ : Fin 6144)) := by
  refine congrArg X (funext fun a => Fin.ext ?_)
  have p := place0 t
  match a with
  | ⟨0, _⟩ => exact (win0_0.rect_emb_val t (ix2 r d) 0).trans (by rw [p.1]; show 0 * 2048 + r.val = r.val; omega)
  | ⟨1, _⟩ => exact (win0_0.rect_emb_val t (ix2 r d) 1).trans (by rw [p.2]; show t.val * 128 + d.val = n; omega)

theorem block1 (X : Buf (Elt F) ((c : Thread nD τ).loc main_arg0)) (r : Fin 2048) (d : Fin 128) (n : ℕ) (hn : n < 6144) (h : n = 2048 + (128 * t.val + d.val)) :
    ((cfg0.win 1).blk t).view.read (Elt F) X (ix2 r d) = X (ix2 r (⟨n, hn⟩ : Fin 6144)) := by
  refine congrArg X (funext fun a => Fin.ext ?_)
  have p := place1 t
  match a with
  | ⟨0, _⟩ => exact (win0_1.rect_emb_val t (ix2 r d) 0).trans (by rw [p.1]; show 0 * 2048 + r.val = r.val; omega)
  | ⟨1, _⟩ => exact (win0_1.rect_emb_val t (ix2 r d) 1).trans (by rw [p.2]; show (16 + t.val) * 128 + d.val = n; omega)

theorem block2 (X : Buf (Elt F) ((c : Thread nD τ).loc main_arg0)) (r : Fin 2048) (d : Fin 128) (n : ℕ) (hn : n < 6144) (h : n = 4096 + (128 * t.val + d.val)) :
    ((cfg0.win 2).blk t).view.read (Elt F) X (ix2 r d) = X (ix2 r (⟨n, hn⟩ : Fin 6144)) := by
  refine congrArg X (funext fun a => Fin.ext ?_)
  have p := place2 t
  match a with
  | ⟨0, _⟩ => exact (win0_2.rect_emb_val t (ix2 r d) 0).trans (by rw [p.1]; show 0 * 2048 + r.val = r.val; omega)
  | ⟨1, _⟩ => exact (win0_2.rect_emb_val t (ix2 r d) 1).trans (by rw [p.2]; show (32 + t.val) * 128 + d.val = n; omega)

theorem block3 (X : Buf (Elt F) ((c : Thread nD τ).loc main_v84)) (r : Fin 2048) (d : Fin 128) : ((cfg0.win 3).blk t).view.read (Elt F) X (ix2 r d) = X (ix2 r d) := by
  refine congrArg X (funext fun a => Fin.ext ?_)
  have p := place3 t
  match a with
  | ⟨0, _⟩ => exact (win0_3.rect_emb_val t (ix2 r d) 0).trans (by rw [p.1]; show 0 * 2048 + r.val = r.val; omega)
  | ⟨1, _⟩ => exact (win0_3.rect_emb_val t (ix2 r d) 1).trans (by rw [p.2]; show 0 * 128 + d.val = d.val; omega)

theorem block4 (X : Buf (Elt F) ((c : Thread nD τ).loc main_v86)) (d : Fin 128) (r : Fin 2048) : ((cfg0.win 4).blk t).view.read (Elt F) X (ix2 d r) = X (ix2 d r) := by
  refine congrArg X (funext fun a => Fin.ext ?_)
  have p := place4 t
  match a with
  | ⟨0, _⟩ => exact (win0_4.rect_emb_val t (ix2 d r) 0).trans (by rw [p.1]; show 0 * 128 + d.val = d.val; omega)
  | ⟨1, _⟩ => exact (win0_4.rect_emb_val t (ix2 d r) 1).trans (by rw [p.2]; show 0 * 2048 + r.val = r.val; omega)

theorem block5 (X : Buf (Elt F) ((c : Thread nD τ).loc main_v83)) (k : Fin 8) (r q : Fin 256) (g : Fin 9) (h : g.val = group t.val) :
    ((cfg0.win 5).blk t).view.read (Elt F) X (ix4 (0 : Fin 1) k r q) = X (ix4 g k r q) := by
  refine congrArg X (funext fun a => Fin.ext ?_)
  have p := place5 t
  match a with
  | ⟨0, _⟩ => exact (win0_5.rect_emb_val t (ix4 (0 : Fin 1) k r q) 0).trans (by rw [p.1, ← h]; show g.val * 1 + 0 = g.val; omega)
  | ⟨1, _⟩ => exact (win0_5.rect_emb_val t (ix4 (0 : Fin 1) k r q) 1).trans (by rw [p.2.1]; show 0 * 8 + k.val = k.val; omega)
  | ⟨2, _⟩ => exact (win0_5.rect_emb_val t (ix4 (0 : Fin 1) k r q) 2).trans (by rw [p.2.2.1]; show 0 * 256 + r.val = r.val; omega)
  | ⟨3, _⟩ => exact (win0_5.rect_emb_val t (ix4 (0 : Fin 1) k r q) 3).trans (by rw [p.2.2.2]; show 0 * 256 + q.val = q.val; omega)

theorem block6 (X : Buf (Elt F) ((c : Thread nD τ).loc main_v257)) (r : Fin 2048) (d : Fin 128) : ((cfg0.win 6).blk t).view.read (Elt F) X (ix2 r d) = X (ix2 r d) := by
  refine congrArg X (funext fun a => Fin.ext ?_)
  have p := place6 t
  match a with
  | ⟨0, _⟩ => exact (win0_6.rect_emb_val t (ix2 r d) 0).trans (by rw [p.1]; show 0 * 2048 + r.val = r.val; omega)
  | ⟨1, _⟩ => exact (win0_6.rect_emb_val t (ix2 r d) 1).trans (by rw [p.2]; show 0 * 128 + d.val = d.val; omega)

theorem block7 (X : Buf (Elt F) ((c : Thread nD τ).loc main_v258)) (r : Fin 2048) (d : Fin 128) (n : ℕ) (hn : n < 2048) (h : n = 128 * t.val + d.val) :
    ((cfg0.win 7).blk t).view.read (Elt F) X (ix2 r d) = X (ix2 r (⟨n, hn⟩ : Fin 2048)) := by
  refine congrArg X (funext fun a => Fin.ext ?_)
  have p := place7 t
  match a with
  | ⟨0, _⟩ => exact (win0_7.rect_emb_val t (ix2 r d) 0).trans (by rw [p.1]; show 0 * 2048 + r.val = r.val; omega)
  | ⟨1, _⟩ => exact (win0_7.rect_emb_val t (ix2 r d) 1).trans (by rw [p.2]; show t.val * 128 + d.val = n; omega)

theorem block8 (X : Buf (Elt F) ((c : Thread nD τ).loc main_arg3)) (r : Fin 2048) (d : Fin 128) (n : ℕ) (hn : n < 2048) (h : n = 128 * t.val + d.val) :
    ((cfg0.win 8).blk t).view.read (Elt F) X (ix2 r d) = X (ix2 r (⟨n, hn⟩ : Fin 2048)) := by
  refine congrArg X (funext fun a => Fin.ext ?_)
  have p := place8 t
  match a with
  | ⟨0, _⟩ => exact (win0_8.rect_emb_val t (ix2 r d) 0).trans (by rw [p.1]; show 0 * 2048 + r.val = r.val; omega)
  | ⟨1, _⟩ => exact (win0_8.rect_emb_val t (ix2 r d) 1).trans (by rw [p.2]; show t.val * 128 + d.val = n; omega)

/-! ## The blocks of the results -/

theorem block9 (X : Buf (Elt F) ((c : Thread nD τ).loc main_v259_0)) (r : Fin 2048) (d : Fin 128) (n : ℕ) (hn : n < 2048) (h : n = 128 * t.val + d.val) :
    ((cfg0.win 9).blk t).view.read (Elt F) X (ix2 r d) = X (ix2 r (⟨n, hn⟩ : Fin 2048)) := by
  refine congrArg X (funext fun a => Fin.ext ?_)
  have p := place9 t
  match a with
  | ⟨0, _⟩ => exact (win0_9.rect_emb_val t (ix2 r d) 0).trans (by rw [p.1]; show 0 * 2048 + r.val = r.val; omega)
  | ⟨1, _⟩ => exact (win0_9.rect_emb_val t (ix2 r d) 1).trans (by rw [p.2]; show t.val * 128 + d.val = n; omega)

theorem block10 (X : Buf (Elt F) ((c : Thread nD τ).loc main_v259_1)) (r : Fin 2048) (d : Fin 128) (n : ℕ) (hn : n < 2048) (h : n = 128 * t.val + d.val) :
    ((cfg0.win 10).blk t).view.read (Elt F) X (ix2 r d) = X (ix2 r (⟨n, hn⟩ : Fin 2048)) := by
  refine congrArg X (funext fun a => Fin.ext ?_)
  have p := place10 t
  match a with
  | ⟨0, _⟩ => exact (win0_10.rect_emb_val t (ix2 r d) 0).trans (by rw [p.1]; show 0 * 2048 + r.val = r.val; omega)
  | ⟨1, _⟩ => exact (win0_10.rect_emb_val t (ix2 r d) 1).trans (by rw [p.2]; show t.val * 128 + d.val = n; omega)

theorem block11 (X : Buf (Elt F) ((c : Thread nD τ).loc main_v259_2)) (r : Fin 2048) (d : Fin 128) (n : ℕ) (hn : n < 2048) (h : n = 128 * t.val + d.val) :
    ((cfg0.win 11).blk t).view.read (Elt F) X (ix2 r d) = X (ix2 r (⟨n, hn⟩ : Fin 2048)) := by
  refine congrArg X (funext fun a => Fin.ext ?_)
  have p := place11 t
  match a with
  | ⟨0, _⟩ => exact (win0_11.rect_emb_val t (ix2 r d) 0).trans (by rw [p.1]; show 0 * 2048 + r.val = r.val; omega)
  | ⟨1, _⟩ => exact (win0_11.rect_emb_val t (ix2 r d) 1).trans (by rw [p.2]; show t.val * 128 + d.val = n; omega)

theorem block12 (X : Buf (Elt F) ((c : Thread nD τ).loc main_v259_3)) (r : Fin 2048) (g : Fin 16) (h : g.val = t.val) :
    ((cfg0.win 12).blk t).view.read (Elt F) X (ix3 (0 : Fin 1) (0 : Fin 1) r) = X (ix3 g (0 : Fin 1) r) := by
  refine congrArg X (funext fun a => Fin.ext ?_)
  have p := place12 t
  match a with
  | ⟨0, _⟩ => exact (win0_12.rect_emb_val t (ix3 (0 : Fin 1) (0 : Fin 1) r) 0).trans (by rw [p.1]; show t.val * 1 + 0 = g.val; omega)
  | ⟨1, _⟩ => exact (win0_12.rect_emb_val t (ix3 (0 : Fin 1) (0 : Fin 1) r) 1).trans (by rw [p.2.1]; rfl)
  | ⟨2, _⟩ => exact (win0_12.rect_emb_val t (ix3 (0 : Fin 1) (0 : Fin 1) r) 2).trans (by rw [p.2.2]; show 0 * 2048 + r.val = r.val; omega)

theorem block13 (X : Buf (Elt F) ((c : Thread nD τ).loc main_v259_4)) (k : Fin 8) (r q : Fin 256) (g : Fin 9) (h : g.val = group t.val) :
    ((cfg0.win 13).blk t).view.read (Elt F) X (ix4 (0 : Fin 1) k r q) = X (ix4 g k r q) := by
  refine congrArg X (funext fun a => Fin.ext ?_)
  have p := place13 t
  match a with
  | ⟨0, _⟩ => exact (win0_13.rect_emb_val t (ix4 (0 : Fin 1) k r q) 0).trans (by rw [p.1, ← h]; show g.val * 1 + 0 = g.val; omega)
  | ⟨1, _⟩ => exact (win0_13.rect_emb_val t (ix4 (0 : Fin 1) k r q) 1).trans (by rw [p.2.1]; show 0 * 8 + k.val = k.val; omega)
  | ⟨2, _⟩ => exact (win0_13.rect_emb_val t (ix4 (0 : Fin 1) k r q) 2).trans (by rw [p.2.2.1]; show 0 * 256 + r.val = r.val; omega)
  | ⟨3, _⟩ => exact (win0_13.rect_emb_val t (ix4 (0 : Fin 1) k r q) 3).trans (by rw [p.2.2.2]; show 0 * 256 + q.val = q.val; omega)

end

/-- The tiles are written back from the last forgetting head on, each group once. -/
theorem flushed_late : ∀ t : Fin cfg0.N, (cfg0.win 13).flush t = true → 7 ≤ t.val :=
  (by decide +kernel : ∀ t : Fin grid0.N, win0_13.flush t = true → 7 ≤ t.val)

theorem disjoint13 : ∀ t t' : Fin cfg0.N, (cfg0.win 13).flush t = true → (cfg0.win 13).flush t' = true → t ≠ t' →
    Disjoint ((cfg0.win 13).blk t).view.set ((cfg0.win 13).blk t').view.set := fun t t' hf hf' hne =>
  (cfg0.win 13).disjoint_blk fun h => hne (Fin.ext (by
    have e : win0_13.index t 0 = win0_13.index t' 0 := congrFun h 0
    rw [(place13 t).1, (place13 t').1] at e
    have h7 := flushed_late t hf
    have h7' := flushed_late t' hf'
    show t.val = t'.val
    simp only [group] at e
    omega))

end Cert.KernelIdeal.Gen
-- ==== Proof.Kern.BridgeA.lean ====
/- The pieces that the run of the body finds in case A (the forgetting heads) are those of `Kern/Body.lean`. -/
module

public import proofs.«01_k».proof.Proof.Kern.Body
public import proofs.«01_k».proof.Proof.Gen.KernelIdeal.Frame.RunA

@[expose] public section

set_option maxRecDepth 16384

noncomputable section

namespace Cert.KernelIdeal.Gen

open Idealize.ShloMosaic Idealize.ShloMosaic.TcCoe Idealize.ShloMosaic.Tactic
open Idealize.SL Idealize.SL.Sem
open Cert.Attn

variable {F : FTy → Type} [FloatOps F]

/-- The row of gate sums of block `j`'s keys that head `i 0` reads. -/
def ctRow (x4 : Vec F S128x2048 .f32) (i : grid0.Coords) (hc0 : cond0_0 i) :
    (j : ℕ) → j < 8 → Vec F ⟨2, ![1, 256 * (j + 1)]⟩ .f32
  | 0, _ => View.ld x4 (Rect.unit (s := S128x2048) (k0_off1 i) S1x256.size (k0_off1_inb i hc0))
  | 1, _ => View.ld x4 (Rect.unit (s := S128x2048) (k0_off2 i) S1x512.size (k0_off2_inb i hc0))
  | 2, _ => View.ld x4 (Rect.unit (s := S128x2048) (k0_off3 i) S1x768.size (k0_off3_inb i hc0))
  | 3, _ => View.ld x4 (Rect.unit (s := S128x2048) (k0_off4 i) S1x1024.size (k0_off4_inb i hc0))
  | 4, _ => View.ld x4 (Rect.unit (s := S128x2048) (k0_off5 i) S1x1280.size (k0_off5_inb i hc0))
  | 5, _ => View.ld x4 (Rect.unit (s := S128x2048) (k0_off6 i) S1x1536.size (k0_off6_inb i hc0))
  | 6, _ => View.ld x4 (Rect.unit (s := S128x2048) (k0_off7 i) S1x1792.size (k0_off7_inb i hc0))
  | 7, _ => View.ld x4 (Rect.unit (s := S128x2048) (k0_off8 i) S1x2048.size (k0_off8_inb i hc0))
  | n + 8, h => absurd h (by omega)

section
variable (c : Dev nD) (i : grid0.Coords) (arg1 : Memref sig .tc .vmem S2048x128 .bf16) (harg1 : arg1.IsWhole)
  (arg2 : Memref sig .tc .vmem S2048x128 .bf16) (harg2 : arg2.IsWhole)
  (arg3 : Memref sig .tc .vmem S2048x128 .bf16) (harg3 : arg3.IsWhole) (arg4 : Memref sig .tc .vmem S2048x128 .f32)
  (harg4 : arg4.IsWhole) (arg5 : Memref sig .tc .vmem S128x2048 .f32) (harg5 : arg5.IsWhole)
  (arg6 : Memref sig .tc .vmem S1x8x256x256 .f32) (harg6 : arg6.IsWhole)
  (arg7 : Memref sig .tc .vmem S2048x128 .f32) (harg7 : arg7.IsWhole) (arg8 : Memref sig .tc .vmem S2048x128 .bf16)
  (harg8 : arg8.IsWhole) (arg9 : Memref sig .tc .vmem S2048x128 .bf16) (harg9 : arg9.IsWhole)
  (arg10 : Memref sig .tc .vmem S2048x128 .bf16) (harg10 : arg10.IsWhole)
  (arg11 : Memref sig .tc .vmem S2048x128 .bf16) (harg11 : arg11.IsWhole)
  (arg12 : Memref sig .tc .vmem S2048x128 .bf16) (harg12 : arg12.IsWhole)
  (arg13 : Memref sig .tc .vmem S1x1x2048 .f32) (harg13 : arg13.IsWhole)
  (arg14 : Memref sig .tc .vmem S1x8x256x256 .f32) (harg14 : arg14.IsWhole)
  (arg15 : Memref sig .tc .vmem S128x2048 .f32) (harg15 : arg15.IsWhole)
  (arg16 : Memref sig .tc .vmem S128x2048 .f32) (harg16 : arg16.IsWhole) (hc0 : cond0_0 i) (hc1 : ¬cond0_1 i)
  (x0 : Vec F S2048x128 .bf16) (x1 : Vec F S2048x128 .bf16) (x2 : Vec F S2048x128 .bf16)
  (x3 : Vec F S2048x128 .f32) (x4 : Vec F S128x2048 .f32) (x5 : Vec F S1x8x256x256 .f32)
  (x6 : Vec F S2048x128 .f32) (x7 : Vec F S2048x128 .bf16) (x8 : Vec F S2048x128 .bf16)

theorem runA_dq : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8).1
    = dqPieces (arg2.view.read (Elt F) (harg2.unread x1))
        (foxD (BitVec.ofNat 32 (i 0).val) (arg1.view.read (Elt F) (harg1.unread x0)) (arg2.view.read (Elt F) (harg2.unread x1)) (arg3.view.read (Elt F) (harg3.unread x2)) (arg4.view.read (Elt F) (harg4.unread x3)) (ctRow (arg5.view.read (Elt F) (harg5.unread x4)) i hc0) (arg6.view.read (Elt F) (harg6.unread x5)) (arg7.view.read (Elt F) (harg7.unread x6)) (arg9.view.read (Elt F) (harg9.unread x8))) 8 le_rfl := by
  sl_kernel_rfl

theorem runA_acc0 : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8).2.2.2.2.2.1
    = dkPieces (arg1.view.read (Elt F) (harg1.unread x0))
        (foxD (BitVec.ofNat 32 (i 0).val) (arg1.view.read (Elt F) (harg1.unread x0)) (arg2.view.read (Elt F) (harg2.unread x1)) (arg3.view.read (Elt F) (harg3.unread x2)) (arg4.view.read (Elt F) (harg4.unread x3)) (ctRow (arg5.view.read (Elt F) (harg5.unread x4)) i hc0) (arg6.view.read (Elt F) (harg6.unread x5)) (arg7.view.read (Elt F) (harg7.unread x6)) (arg9.view.read (Elt F) (harg9.unread x8))) arg15.view 8 le_rfl := by
  sl_kernel_rfl

theorem runA_acc1 : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8).2.2.2.2.2.2.1
    = dvPieces (arg9.view.read (Elt F) (harg9.unread x8))
        (foxP (BitVec.ofNat 32 (i 0).val) (arg1.view.read (Elt F) (harg1.unread x0)) (arg2.view.read (Elt F) (harg2.unread x1)) (arg4.view.read (Elt F) (harg4.unread x3)) (ctRow (arg5.view.read (Elt F) (harg5.unread x4)) i hc0) (arg6.view.read (Elt F) (harg6.unread x5)) (arg7.view.read (Elt F) (harg7.unread x6))) arg16.view 8 le_rfl := by
  sl_kernel_rfl

theorem runA_dk : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8).2.1
    = [⟨Rect.unit ![0, 0] S2048x128.size inb_S2048x128_S2048x128_0_0,
        k0_pay206 (arg15.view.readCov (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8).2.2.2.2.2.1 (Rect.unit ![0, 0] S128x2048.size inb_S128x2048_S128x2048_0_0).toLoadRect)⟩] := by
  sl_kernel_rfl

theorem runA_dv : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8).2.2.1
    = [⟨Rect.unit ![0, 0] S2048x128.size inb_S2048x128_S2048x128_0_0,
        k0_pay1 (arg16.view.readCov (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8).2.2.2.2.2.2.1 (Rect.unit ![0, 0] S128x2048.size inb_S128x2048_S128x2048_0_0).toLoadRect)⟩] := by
  sl_kernel_rfl

theorem runA_dct : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8).2.2.2.1
    = dctPieces (foxD (BitVec.ofNat 32 (i 0).val) (arg1.view.read (Elt F) (harg1.unread x0)) (arg2.view.read (Elt F) (harg2.unread x1)) (arg3.view.read (Elt F) (harg3.unread x2)) (arg4.view.read (Elt F) (harg4.unread x3)) (ctRow (arg5.view.read (Elt F) (harg5.unread x4)) i hc0) (arg6.view.read (Elt F) (harg6.unread x5)) (arg7.view.read (Elt F) (harg7.unread x6)) (arg9.view.read (Elt F) (harg9.unread x8))) arg13.view 8 le_rfl := by
  sl_kernel_rfl

theorem runA_dtb : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8).2.2.2.2.1
    = [⟨Rect.unit ![0, 0, 0, 0] S1x8x256x256.size inb_S1x8x256x256_S1x8x256x256_0_0_0_0, k0_pay200⟩] := by
  sl_kernel_rfl

end

end Cert.KernelIdeal.Gen
-- ==== Proof.Kern.BridgeB.lean ====
/- The pieces that the run of the body finds in case B (the dilated heads) are those of `Kern/Body.lean`. -/
module

public import proofs.«01_k».proof.Proof.Kern.Body
public import proofs.«01_k».proof.Proof.Gen.KernelIdeal.Frame.RunB

@[expose] public section

set_option maxRecDepth 16384

noncomputable section

namespace Cert.KernelIdeal.Gen

open Idealize.ShloMosaic Idealize.ShloMosaic.TcCoe Idealize.ShloMosaic.Tactic
open Idealize.SL Idealize.SL.Sem
open Cert.Attn

variable {F : FTy → Type} [FloatOps F]

section
variable (c : Dev nD) (i : grid0.Coords) (arg1 : Memref sig .tc .vmem S2048x128 .bf16) (harg1 : arg1.IsWhole)
  (arg2 : Memref sig .tc .vmem S2048x128 .bf16) (harg2 : arg2.IsWhole)
  (arg3 : Memref sig .tc .vmem S2048x128 .bf16) (harg3 : arg3.IsWhole) (arg4 : Memref sig .tc .vmem S2048x128 .f32)
  (harg4 : arg4.IsWhole) (arg5 : Memref sig .tc .vmem S128x2048 .f32) (harg5 : arg5.IsWhole)
  (arg6 : Memref sig .tc .vmem S1x8x256x256 .f32) (harg6 : arg6.IsWhole)
  (arg7 : Memref sig .tc .vmem S2048x128 .f32) (harg7 : arg7.IsWhole) (arg8 : Memref sig .tc .vmem S2048x128 .bf16)
  (harg8 : arg8.IsWhole) (arg9 : Memref sig .tc .vmem S2048x128 .bf16) (harg9 : arg9.IsWhole)
  (arg10 : Memref sig .tc .vmem S2048x128 .bf16) (harg10 : arg10.IsWhole)
  (arg11 : Memref sig .tc .vmem S2048x128 .bf16) (harg11 : arg11.IsWhole)
  (arg12 : Memref sig .tc .vmem S2048x128 .bf16) (harg12 : arg12.IsWhole)
  (arg13 : Memref sig .tc .vmem S1x1x2048 .f32) (harg13 : arg13.IsWhole)
  (arg14 : Memref sig .tc .vmem S1x8x256x256 .f32) (harg14 : arg14.IsWhole)
  (arg15 : Memref sig .tc .vmem S128x2048 .f32) (harg15 : arg15.IsWhole)
  (arg16 : Memref sig .tc .vmem S128x2048 .f32) (harg16 : arg16.IsWhole) (hc0 : ¬cond0_0 i) (hc1 : cond0_1 i)
  (x0 : Vec F S2048x128 .bf16) (x1 : Vec F S2048x128 .bf16) (x2 : Vec F S2048x128 .bf16)
  (x3 : Vec F S2048x128 .f32) (x4 : Vec F S128x2048 .f32) (x5 : Vec F S1x8x256x256 .f32)
  (x6 : Vec F S2048x128 .f32) (x7 : Vec F S2048x128 .bf16) (x8 : Vec F S2048x128 .bf16)

theorem runB_dq : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8).1
    = dqPieces (arg2.view.read (Elt F) (harg2.unread x1))
        (dilD (BitVec.ofNat 32 (i 0).val) (arg1.view.read (Elt F) (harg1.unread x0)) (arg2.view.read (Elt F) (harg2.unread x1)) (arg3.view.read (Elt F) (harg3.unread x2)) (arg6.view.read (Elt F) (harg6.unread x5)) (arg7.view.read (Elt F) (harg7.unread x6)) (arg8.view.read (Elt F) (harg8.unread x7)) (arg9.view.read (Elt F) (harg9.unread x8))) 8 le_rfl := by
  sl_kernel_rfl

theorem runB_acc0 : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8).2.2.2.2.2.1
    = dkPieces (arg1.view.read (Elt F) (harg1.unread x0))
        (dilD (BitVec.ofNat 32 (i 0).val) (arg1.view.read (Elt F) (harg1.unread x0)) (arg2.view.read (Elt F) (harg2.unread x1)) (arg3.view.read (Elt F) (harg3.unread x2)) (arg6.view.read (Elt F) (harg6.unread x5)) (arg7.view.read (Elt F) (harg7.unread x6)) (arg8.view.read (Elt F) (harg8.unread x7)) (arg9.view.read (Elt F) (harg9.unread x8))) arg15.view 8 le_rfl := by
  sl_kernel_rfl

theorem runB_acc1 : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8).2.2.2.2.2.2.1
    = dvPieces (arg9.view.read (Elt F) (harg9.unread x8))
        (dilP (BitVec.ofNat 32 (i 0).val) (arg1.view.read (Elt F) (harg1.unread x0)) (arg2.view.read (Elt F) (harg2.unread x1)) (arg6.view.read (Elt F) (harg6.unread x5)) (arg7.view.read (Elt F) (harg7.unread x6))) arg16.view 8 le_rfl := by
  sl_kernel_rfl

theorem runB_dk : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8).2.1
    = [⟨Rect.unit ![0, 0] S2048x128.size inb_S2048x128_S2048x128_0_0,
        k0_pay206 (arg15.view.readCov (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8).2.2.2.2.2.1 (Rect.unit ![0, 0] S128x2048.size inb_S128x2048_S128x2048_0_0).toLoadRect)⟩] := by
  sl_kernel_rfl

theorem runB_dv : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8).2.2.1
    = [⟨Rect.unit ![0, 0] S2048x128.size inb_S2048x128_S2048x128_0_0,
        k0_pay1 (arg16.view.readCov (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8).2.2.2.2.2.2.1 (Rect.unit ![0, 0] S128x2048.size inb_S128x2048_S128x2048_0_0).toLoadRect)⟩] := by
  sl_kernel_rfl

theorem runB_dct : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8).2.2.2.1
    = [⟨Rect.unit ![0, 0, 0] S1x1x2048.size inb_S1x1x2048_S1x1x2048_0_0_0, k0_pay199⟩] := by
  sl_kernel_rfl

theorem runB_dtb : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8).2.2.2.2.1
    = tilePieces (dilD (BitVec.ofNat 32 (i 0).val) (arg1.view.read (Elt F) (harg1.unread x0)) (arg2.view.read (Elt F) (harg2.unread x1)) (arg3.view.read (Elt F) (harg3.unread x2)) (arg6.view.read (Elt F) (harg6.unread x5)) (arg7.view.read (Elt F) (harg7.unread x6)) (arg8.view.read (Elt F) (harg8.unread x7)) (arg9.view.read (Elt F) (harg9.unread x8))) arg14.view 8 le_rfl := by
  sl_kernel_rfl

end

end Cert.KernelIdeal.Gen
-- ==== Proof.Kern.Heads.lean ====
/- What the body leaves in the five output blocks at one head, at finite inputs. -/
module

public import proofs.«01_k».proof.Proof.Kern.Inputs
public import proofs.«01_k».proof.Proof.Kern.BridgeA
public import proofs.«01_k».proof.Proof.Kern.BridgeB
public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic Idealize.ShloMosaic.ValueIdx
open Idealize.SL Idealize.SL.Sem
open Cert.Attn

theorem coords_val : ∀ t : Fin cfg0.N, (grid0.coords t 0).val = t.val :=
  (by decide +kernel : ∀ t : Fin grid0.N, (grid0.coords t 0).val = t.val)

/-- A head's row of gate sums. -/
theorem ctRow_apply (x4 : Vec Ideal S128x2048 .f32) (i : grid0.Coords) (hc0 : cond0_0 i) (h : ℕ) (hh : h < 128)
    (hi : (i 0).val = h) : ∀ (j : ℕ) (hj : j < 8) (c : Fin (256 * (j + 1))),
    ctRow (F := Ideal) x4 i hc0 j hj (ix2 (0 : Fin 1) c) = x4 (ix2 (⟨h, hh⟩ : Fin 128) (⟨c.val, by omega⟩ : Fin 2048)) := by
  have key : ∀ (off : Fin 2 → ℕ) (n : ℕ) (inb) (c : Fin n) (hn : c.val < 2048), off = ![(i 0).val, 0] →
      View.ld x4 (Rect.unit (s := S128x2048) off ![1, n] inb) (ix2 (0 : Fin 1) c)
        = x4 (ix2 (⟨h, hh⟩ : Fin 128) (⟨c.val, hn⟩ : Fin 2048)) := by
    intro off n inb c hn he
    subst he
    refine congrArg x4 (funext fun a => Fin.ext ?_)
    match a with
    | ⟨0, _⟩ => show (i 0).val + 1 * 0 = h; omega
    | ⟨1, _⟩ => show 0 + 1 * c.val = c.val; omega
  intro j hj c
  match j, hj, c with
  | 0, _, c => exact key _ 256 _ c _ (k0_off1_eq i)
  | 1, _, c => exact key _ 512 _ c _ (k0_off2_eq i)
  | 2, _, c => exact key _ 768 _ c _ (k0_off3_eq i)
  | 3, _, c => exact key _ 1024 _ c _ (k0_off4_eq i)
  | 4, _, c => exact key _ 1280 _ c _ (k0_off5_eq i)
  | 5, _, c => exact key _ 1536 _ c _ (k0_off6_eq i)
  | 6, _, c => exact key _ 1792 _ c _ (k0_off7_eq i)
  | 7, _, c => exact key _ 2048 _ c _ (k0_off8_eq i)
  | n + 8, h, _ => omega

theorem pay206_apply (x : Vec Ideal S128x2048 .f32) (t : Fin 2048) (d : Fin 128) :
    (k0_pay206 (F := Ideal) x (ix2 t d) : EReal) = x (ix2 d t) := by
  unfold k0_pay206
  exact transpose_ix2_apply _ _ _ _

theorem pay1_apply (x : Vec Ideal S128x2048 .f32) (t : Fin 2048) (d : Fin 128) :
    (k0_pay1 (F := Ideal) x (ix2 t d) : EReal) = x (ix2 d t) := by
  unfold k0_pay1
  exact transpose_ix2_apply _ _ _ _

/-- A whole accumulator read back is what the writes left. -/
theorem acc_read {κ : Kind} {sp : Space} (v : View sig κ sp S128x2048 .f32) (L : List (View.Piece (Elt Ideal) S128x2048 .f32))
    (d : Fin 128) (j : Fin 2048) :
    v.readCov (Val := Elt Ideal) L (Rect.unit ![0, 0] S128x2048.size inb_S128x2048_S128x2048_0_0).toLoadRect (ix2 d j)
      = View.canon (Val := Elt Ideal) L (ix2 d j) := by
  rw [View.readCov_eq_canon']
  refine congrArg (View.canon (Val := Elt Ideal) L) (funext fun a => Fin.ext ?_)
  match a with
  | ⟨0, _⟩ => show 0 + 1 * d.val = d.val; omega
  | ⟨1, _⟩ => show 0 + 1 * j.val = j.val; omega

variable (m : (ℓ : Loc nD τ sig) → Buf (Elt Ideal) ℓ) (c : Dev nD) (t : Fin cfg0.N)
  {Q K V O DO : ℕ → ℕ → ℝ} {C L : ℕ → ℝ} {w b : ℤ → ℝ}

/-- What the body reads at a forgetting head. -/
abbrev FoxAt (hh : t.val < 128) (Q K V DO : ℕ → ℕ → ℝ) (C L : ℕ → ℝ) : Prop :=
  FoxIn t.val hh (iblk m c 0 t) (iblk m c 1 t) (iblk m c 2 t) (iblk m c 3 t) (iblk m c 4 t) (iblk m c 5 t) (iblk m c 6 t)
    (iblk m c 8 t) Q K V DO C L

/-- What the body reads at a dilated head. -/
abbrev DilAt (hh : t.val < 128) (Q K V O DO : ℕ → ℕ → ℝ) (w b : ℤ → ℝ) (L : ℕ → ℝ) : Prop :=
  DilIn t.val hh (iblk m c 0 t) (iblk m c 1 t) (iblk m c 2 t) (iblk m c 5 t) (iblk m c 6 t) (iblk m c 7 t) (iblk m c 8 t)
    Q K V O DO w b L

section
variable {m c t} {hh : t.val < 128}

theorem fox_row (H : FoxAt m c t hh Q K V DO C L) (hc0 : cond0_0 (grid0.coords t)) (i : ℕ) (hi : i < 8) (j : Fin (256 * (i + 1))) :
    (ctRow (F := Ideal) (iblk m c 4 t) (grid0.coords t) hc0 i hi (ix2 (0 : Fin 1) j) : EReal) = ((C j.val : ℝ) : EReal) :=
  (ctRow_apply (iblk m c 4 t) (grid0.coords t) hc0 t.val hh (coords_val t) i hi j).trans (H.row _)

theorem fox_dq (h0 : t.val < 8) (h1 : ¬8 ≤ t.val) (H : FoxAt m c t hh Q K V DO C L) (r : Fin 2048) (d : Fin 128) :
    ((outsAt0 m c t.val t.isLt).1 (ix2 r d) : EReal) = ((dqR (foxGr Q K V DO C L) K r.val d.val : ℝ) : EReal) := by
  rw [outsAt0_A m c t h0 h1]
  dsimp only
  unfold out0_A_9
  rw [View.read_writes_eq_canon _ _ _ (by apply cover0_A_9), runA_dq]
  simp only [Memref.IsWhole.read_unread, coords_val]
  exact dqPieces_canon (H.grads (fox_row H _)) (lower_grad (foxPr_lower Q K C L)) H.k d 8 le_rfl r (by omega)

theorem fox_dk (h0 : t.val < 8) (h1 : ¬8 ≤ t.val) (H : FoxAt m c t hh Q K V DO C L) (r : Fin 2048) (d : Fin 128) :
    ((outsAt0 m c t.val t.isLt).2.1 (ix2 r d) : EReal) = ((dkR 2048 (foxGr Q K V DO C L) Q r.val d.val : ℝ) : EReal) := by
  rw [outsAt0_A m c t h0 h1]
  dsimp only
  unfold out0_A_10
  rw [View.read_writes_eq_canon _ _ _ (by apply cover0_A_10), runA_dk, View.canon_unit_zero zero2, pay206_apply, acc_read, runA_acc0]
  simp only [Memref.IsWhole.read_unread, coords_val]
  exact dkPieces_canon _ (H.grads (fox_row H _)) (lower_grad (foxPr_lower Q K C L)) H.q d 8 le_rfl r

theorem fox_dv (h0 : t.val < 8) (h1 : ¬8 ≤ t.val) (H : FoxAt m c t hh Q K V DO C L) (r : Fin 2048) (d : Fin 128) :
    ((outsAt0 m c t.val t.isLt).2.2.1 (ix2 r d) : EReal) = ((dvR 2048 (foxPr Q K C L) DO r.val d.val : ℝ) : EReal) := by
  rw [outsAt0_A m c t h0 h1]
  dsimp only
  unfold out0_A_11
  rw [View.read_writes_eq_canon _ _ _ (by apply cover0_A_11), runA_dv, View.canon_unit_zero zero2, pay1_apply, acc_read, runA_acc1]
  simp only [Memref.IsWhole.read_unread, coords_val]
  exact dvPieces_canon _ (H.probs (fox_row H _)) (foxPr_lower Q K C L) H.do_ d 8 le_rfl r

theorem fox_dct (h0 : t.val < 8) (h1 : ¬8 ≤ t.val) (H : FoxAt m c t hh Q K V DO C L) (r : Fin 2048) :
    ((outsAt0 m c t.val t.isLt).2.2.2.1 (ix3 (0 : Fin 1) (0 : Fin 1) r) : EReal) = ((dctR 2048 (foxGr Q K V DO C L) r.val : ℝ) : EReal) := by
  rw [outsAt0_A m c t h0 h1]
  dsimp only
  unfold out0_A_12
  rw [View.read_writes_eq_canon _ _ _ (by apply cover0_A_12), runA_dct]
  simp only [Memref.IsWhole.read_unread, coords_val]
  exact dctPieces_canon _ (H.grads (fox_row H _)) (lower_grad (foxPr_lower Q K C L)) 8 le_rfl r

theorem fox_dtb (h0 : t.val < 8) (h1 : ¬8 ≤ t.val) (k : Fin 8) (r q : Fin 256) :
    ((outsAt0 m c t.val t.isLt).2.2.2.2 (ix4 (0 : Fin 1) k r q) : EReal) = 0 := by
  rw [outsAt0_A m c t h0 h1]
  dsimp only
  unfold out0_A_13
  rw [View.read_writes_eq_canon _ _ _ (by apply cover0_A_13), runA_dtb, View.canon_unit_zero zero4]
  exact Ideal.ofBits_zero_f32

theorem dil_dq (h0 : ¬t.val < 8) (h1 : 8 ≤ t.val) (H : DilAt m c t hh Q K V O DO w b L) (r : Fin 2048) (d : Fin 128) :
    ((outsAt0 m c t.val t.isLt).1 (ix2 r d) : EReal) = ((dqR (dilGr Q K V O DO w b L) K r.val d.val : ℝ) : EReal) := by
  rw [outsAt0_B m c t h0 h1]
  dsimp only
  unfold out0_B_9
  rw [View.read_writes_eq_canon _ _ _ (by apply cover0_B_9), runB_dq]
  simp only [Memref.IsWhole.read_unread, coords_val]
  exact dqPieces_canon H.grads (lower_grad H.lower) H.k d 8 le_rfl r (by omega)

theorem dil_dk (h0 : ¬t.val < 8) (h1 : 8 ≤ t.val) (H : DilAt m c t hh Q K V O DO w b L) (r : Fin 2048) (d : Fin 128) :
    ((outsAt0 m c t.val t.isLt).2.1 (ix2 r d) : EReal) = ((dkR 2048 (dilGr Q K V O DO w b L) Q r.val d.val : ℝ) : EReal) := by
  rw [outsAt0_B m c t h0 h1]
  dsimp only
  unfold out0_B_10
  rw [View.read_writes_eq_canon _ _ _ (by apply cover0_B_10), runB_dk, View.canon_unit_zero zero2, pay206_apply, acc_read, runB_acc0]
  simp only [Memref.IsWhole.read_unread, coords_val]
  exact dkPieces_canon _ H.grads (lower_grad H.lower) H.q d 8 le_rfl r

theorem dil_dv (h0 : ¬t.val < 8) (h1 : 8 ≤ t.val) (H : DilAt m c t hh Q K V O DO w b L) (r : Fin 2048) (d : Fin 128) :
    ((outsAt0 m c t.val t.isLt).2.2.1 (ix2 r d) : EReal) = ((dvR 2048 (dilPr Q K w b L) DO r.val d.val : ℝ) : EReal) := by
  rw [outsAt0_B m c t h0 h1]
  dsimp only
  unfold out0_B_11
  rw [View.read_writes_eq_canon _ _ _ (by apply cover0_B_11), runB_dv, View.canon_unit_zero zero2, pay1_apply, acc_read, runB_acc1]
  simp only [Memref.IsWhole.read_unread, coords_val]
  exact dvPieces_canon _ H.probs H.lower H.do_ d 8 le_rfl r

theorem dil_dct (h0 : ¬t.val < 8) (h1 : 8 ≤ t.val) (r : Fin 2048) :
    ((outsAt0 m c t.val t.isLt).2.2.2.1 (ix3 (0 : Fin 1) (0 : Fin 1) r) : EReal) = 0 := by
  rw [outsAt0_B m c t h0 h1]
  dsimp only
  unfold out0_B_12
  rw [View.read_writes_eq_canon _ _ _ (by apply cover0_B_12), runB_dct, View.canon_unit_zero zero3]
  exact Ideal.ofBits_zero_f32

theorem dil_dtb (h0 : ¬t.val < 8) (h1 : 8 ≤ t.val) (H : DilAt m c t hh Q K V O DO w b L) (k : Fin 8) (r q : Fin 256) :
    ((outsAt0 m c t.val t.isLt).2.2.2.2 (ix4 (0 : Fin 1) k r q) : EReal)
      = ((tileR 8 (dilGr Q K V O DO w b L) k.val r.val q.val : ℝ) : EReal) := by
  rw [outsAt0_B m c t h0 h1]
  dsimp only
  unfold out0_B_13
  rw [View.read_writes_eq_canon _ _ _ (by apply cover0_B_13), runB_dtb]
  simp only [Memref.IsWhole.read_unread, coords_val]
  exact tilePieces_canon _ H.grads 8 le_rfl k r q

end

end Cert.KernelIdeal.Gen
-- ==== Proof.Kern.PrefixAll.lean ====
/- What the call's operands hold when it starts, from the arguments. -/
module

public import proofs.«01_k».proof.Proof.Kern.Prefix
public import proofs.«01_k».proof.Proof.Gen.KernelIdeal.Frame.Runs

@[expose] public section

set_option maxRecDepth 16384

noncomputable section

namespace Cert.KernelIdeal.Gen

open Idealize.ShloMosaic Idealize.ShloMosaic.TcCoe Idealize.ShloMosaic.StableHlo
open Idealize.SL Idealize.SL.Sem
open Cert.ReferenceIdeal.Read

variable {F : FTy → Type} [FloatOps F]

theorem after_join (a b : List (HloOp τ sig (Elt F))) (U : Valuation τ sig (Elt F)) : after (a ++ b) U = after b (after a U) := by
  rw [after_cut a.length, List.drop_left, List.take_left]

theorem four_pieces {α : Type} (l : List α) :
    l = List.take 20 l ++ (List.take 64 (List.drop 20 l) ++ (List.take 20 (List.drop 84 l) ++ List.drop 104 l)) := by
  rw [show List.drop 104 l = List.drop 20 (List.drop 84 l) by rw [List.drop_drop], List.take_append_drop,
    show List.drop 84 l = List.drop 64 (List.drop 20 l) by rw [List.drop_drop], List.take_append_drop, List.take_append_drop]

/-- The lines before the call, grouped. -/
theorem lines_eq (W : Valuation τ sig (Elt F)) :
    after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18]) W
      = after (List.drop 104 hostOps0_16 ++ (hostOps0_17 ++ hostOps0_18)) (after (List.take 20 (List.drop 84 hostOps0_16))
          (after (List.take 64 (List.drop 20 hostOps0_16)) (after (List.take 20 hostOps0_16) (after (hostOps0_13 ++ (hostOps0_14 ++ hostOps0_15))
            (after hostOps0_12 (after (hostOps0_9 ++ (hostOps0_10 ++ hostOps0_11))
              (after (hostOps0_4 ++ (hostOps0_5 ++ (hostOps0_6 ++ (hostOps0_7 ++ hostOps0_8))))
                (after (hostOps0_2 ++ hostOps0_3) (after (hostOps0 ++ hostOps0_1) W))))))))) := by
  rw [← after_join, ← after_join, ← after_join, ← after_join, ← after_join, ← after_join, ← after_join, ← after_join, ← after_join]
  congr 1

variable (x0 : (⟨S2048x6144, .bf16⟩ : BufTy).Contents (Elt F)) (x1 : (⟨S2048x8, .f32⟩ : BufTy).Contents (Elt F))
  (x2 : (⟨S32x8, .f32⟩ : BufTy).Contents (Elt F))

theorem lines_hold (W : Valuation τ sig (Elt F)) (h0 : W (Proc.devRef .tc main_arg0) = x0)
    (h1 : W (Proc.devRef .tc main_arg1) = x1) (h2 : W (Proc.devRef .tc main_arg2) = x2)
    (U : Valuation τ sig (Elt F)) (hU : U = after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18]) W) :
    U (Proc.devRef .tc main_v83) = kTiles x2 ∧ U (Proc.devRef .tc main_v84) = kRows x1 ∧ U (Proc.devRef .tc main_v86) = kCols x1
      ∧ U (Proc.devRef .tc main_v257) = kLse x0 x1 x2
      ∧ U (Proc.devRef .tc main_v258) = truncf .bf16 (val_main_v175 (F := F) x0 x1 x2) bitsLt_bf16_f32 := by
  rw [lines_eq] at hU
  obtain ⟨a6, a40⟩ := stepA1 W
  have a0 : after (hostOps0 ++ hostOps0_1) W (Proc.devRef .tc main_arg0) = x0 := by after_reads_simp; exact h0
  have a1 : after (hostOps0 ++ hostOps0_1) W (Proc.devRef .tc main_arg1) = x1 := by after_reads_simp; exact h1
  have a2 : after (hostOps0 ++ hostOps0_1) W (Proc.devRef .tc main_arg2) = x2 := by after_reads_simp; exact h2
  generalize after (hostOps0 ++ hostOps0_1) W = U1 at *
  obtain ⟨b42, b62⟩ := stepA2 U1 a6 a40
  have b6 : after (hostOps0_2 ++ hostOps0_3) U1 (Proc.devRef .tc main_v6) = kDelta (F := F) := by after_reads_simp; exact a6
  have b0 : after (hostOps0_2 ++ hostOps0_3) U1 (Proc.devRef .tc main_arg0) = x0 := by after_reads_simp; exact a0
  have b1 : after (hostOps0_2 ++ hostOps0_3) U1 (Proc.devRef .tc main_arg1) = x1 := by after_reads_simp; exact a1
  have b2 : after (hostOps0_2 ++ hostOps0_3) U1 (Proc.devRef .tc main_arg2) = x2 := by after_reads_simp; exact a2
  generalize after (hostOps0_2 ++ hostOps0_3) U1 = U2 at *
  obtain ⟨c83, c29⟩ := stepA3 x2 U2 b6 b42 b62 b2
  have c0 : after (hostOps0_4 ++ (hostOps0_5 ++ (hostOps0_6 ++ (hostOps0_7 ++ hostOps0_8)))) U2 (Proc.devRef .tc main_arg0) = x0 := by
    after_reads_simp; exact b0
  have c1 : after (hostOps0_4 ++ (hostOps0_5 ++ (hostOps0_6 ++ (hostOps0_7 ++ hostOps0_8)))) U2 (Proc.devRef .tc main_arg1) = x1 := by
    after_reads_simp; exact b1
  have c2 : after (hostOps0_4 ++ (hostOps0_5 ++ (hostOps0_6 ++ (hostOps0_7 ++ hostOps0_8)))) U2 (Proc.devRef .tc main_arg2) = x2 := by
    after_reads_simp; exact b2
  generalize after (hostOps0_4 ++ (hostOps0_5 ++ (hostOps0_6 ++ (hostOps0_7 ++ hostOps0_8)))) U2 = U3 at *
  obtain ⟨d84, d86⟩ := stepA4 x1 U3 c29 c1
  have d83 : after (hostOps0_9 ++ (hostOps0_10 ++ hostOps0_11)) U3 (Proc.devRef .tc main_v83) = kTiles x2 := by after_reads_simp; exact c83
  have d0 : after (hostOps0_9 ++ (hostOps0_10 ++ hostOps0_11)) U3 (Proc.devRef .tc main_arg0) = x0 := by after_reads_simp; exact c0
  have d1 : after (hostOps0_9 ++ (hostOps0_10 ++ hostOps0_11)) U3 (Proc.devRef .tc main_arg1) = x1 := by after_reads_simp; exact c1
  have d2 : after (hostOps0_9 ++ (hostOps0_10 ++ hostOps0_11)) U3 (Proc.devRef .tc main_arg2) = x2 := by after_reads_simp; exact c2
  generalize after (hostOps0_9 ++ (hostOps0_10 ++ hostOps0_11)) U3 = U4 at *
  obtain ⟨e88, e89, e90, e95, e110, e112⟩ := step12 x0 U4 d0
  have e1 : after hostOps0_12 U4 (Proc.devRef .tc main_arg1) = x1 := by after_reads_simp; exact d1
  have e2 : after hostOps0_12 U4 (Proc.devRef .tc main_arg2) = x2 := by after_reads_simp; exact d2
  generalize hU5 : after hostOps0_12 U4 = U5 at *
  obtain ⟨f121, f122, f123, f124, f127, f146⟩ := step14 x0 x1 x2 U5 e88 e89 e90 e95 e110 e112 e1 e2
  generalize hU6 : after (hostOps0_13 ++ (hostOps0_14 ++ hostOps0_15)) U5 = U6 at *
  obtain ⟨g161, g164⟩ := step16a x0 x1 U6 f146 f127
  have g121 : after (List.take 20 hostOps0_16) U6 (Proc.devRef .tc main_v121) = val_main_v34 x2 := by
    simp only [hostOps0_16, List.take_succ_cons, List.take_zero]; after_reads_simp; exact f121
  have g122 : after (List.take 20 hostOps0_16) U6 (Proc.devRef .tc main_v122) = val_main_v35 x0 := by
    simp only [hostOps0_16, List.take_succ_cons, List.take_zero]; after_reads_simp; exact f122
  have g123 : after (List.take 20 hostOps0_16) U6 (Proc.devRef .tc main_v123) = val_main_v36 x0 := by
    simp only [hostOps0_16, List.take_succ_cons, List.take_zero]; after_reads_simp; exact f123
  have g124 : after (List.take 20 hostOps0_16) U6 (Proc.devRef .tc main_v124) = val_main_v37 x0 := by
    simp only [hostOps0_16, List.take_succ_cons, List.take_zero]; after_reads_simp; exact f124
  generalize hU7 : after (List.take 20 hostOps0_16) U6 = U7 at *
  obtain ⟨i214, i167⟩ := step16b x0 x2 U7 g121 g122 g123 g124
  have i161 : after (List.take 64 (List.drop 20 hostOps0_16)) U7 (Proc.devRef .tc main_v161) = val_main_v77 (F := F) x0 x1 := by
    simp only [hostOps0_16, List.take_succ_cons, List.take_zero, List.drop_succ_cons, List.drop_zero]; after_reads_simp; exact g161
  have i164 : after (List.take 64 (List.drop 20 hostOps0_16)) U7 (Proc.devRef .tc main_v164) = val_main_v80 (F := F) x0 x1 := by
    simp only [hostOps0_16, List.take_succ_cons, List.take_zero, List.drop_succ_cons, List.drop_zero]; after_reads_simp; exact g164
  generalize hU8 : after (List.take 64 (List.drop 20 hostOps0_16)) U7 = U8 at *
  obtain ⟨j229, j232⟩ := step16c x0 x2 U8 i214 i167
  have j161 : after (List.take 20 (List.drop 84 hostOps0_16)) U8 (Proc.devRef .tc main_v161) = val_main_v77 (F := F) x0 x1 := by
    simp only [hostOps0_16, List.take_succ_cons, List.take_zero, List.drop_succ_cons, List.drop_zero]; after_reads_simp; exact i161
  have j164 : after (List.take 20 (List.drop 84 hostOps0_16)) U8 (Proc.devRef .tc main_v164) = val_main_v80 (F := F) x0 x1 := by
    simp only [hostOps0_16, List.take_succ_cons, List.take_zero, List.drop_succ_cons, List.drop_zero]; after_reads_simp; exact i164
  generalize hU9 : after (List.take 20 (List.drop 84 hostOps0_16)) U8 = U9 at *
  obtain ⟨k257, k258⟩ := step16d x0 x1 x2 U9 j229 j232 j161 j164
  have keep : ∀ b ∈ ([main_v83, main_v84, main_v86] : List (Ref sig .tc)), U (Proc.devRef .tc b) = U4 (Proc.devRef .tc b) := by
    intro b hb
    subst hU9 hU8 hU7 hU6 hU5
    rw [hU]
    simp only [hostOps0_16, List.take_succ_cons, List.take_zero, List.drop_succ_cons, List.drop_zero]
    fin_cases hb <;> after_reads_simp
  refine ⟨?_, ?_, ?_, ?_, ?_⟩
  · exact (keep _ (by simp)).trans d83
  · exact (keep _ (by simp)).trans d84
  · exact (keep _ (by simp)).trans d86
  · rw [hU]; exact k257
  · rw [hU]; exact k258

variable (m : (ℓ : Loc nD τ sig) → Buf (Elt F) ℓ) (c : Dev nD)

/-- What the call's five prepared operands hold when it starts. -/
theorem V_prepared :
    V m c main_v83 = kTiles (m ((c : Thread nD τ).loc main_arg2))
      ∧ V m c main_v84 = kRows (m ((c : Thread nD τ).loc main_arg1))
      ∧ V m c main_v86 = kCols (m ((c : Thread nD τ).loc main_arg1))
      ∧ V m c main_v257 = kLse (m ((c : Thread nD τ).loc main_arg0)) (m ((c : Thread nD τ).loc main_arg1)) (m ((c : Thread nD τ).loc main_arg2))
      ∧ V m c main_v258 = truncf .bf16 (val_main_v175 (F := F) (m ((c : Thread nD τ).loc main_arg0)) (m ((c : Thread nD τ).loc main_arg1))
          (m ((c : Thread nD τ).loc main_arg2))) bitsLt_bf16_f32 :=
  lines_hold _ _ _ (fun b => m (c, b)) rfl rfl rfl _ rfl

end Cert.KernelIdeal.Gen
-- ==== Proof.Ref.Heads.lean ====
/- The reference's arrays of queries, keys, values and incoming gradients, split into heads: every element of them is a
   real of the arguments. -/
module

public import proofs.«01_k».proof.Proof.Ref.Base

@[expose] public section

noncomputable section

namespace Cert.Ref

open Cert.ReferenceIdeal Cert.ReferenceIdeal.Gen Cert.ReferenceIdeal.Read
open Idealize.ShloMosaic Idealize.ShloMosaic.ValueIdx Idealize.ShloMosaic.StableHlo Cert.Attn

/-- Head `h`'s columns of the array `a`, counted from column `c`. -/
def headOf (a : ℕ → ℕ → ℝ) (c h t d : ℕ) : ℝ := a t (c + (128 * h + d))

theorem at_eq {a : ℕ → ℕ → ℝ} {t t' c c' : ℕ} (ht : t = t') (hc : c = c') :
    ((a t c : ℝ) : EReal) = ((a t' c' : ℝ) : EReal) := by rw [ht, hc]

theorem split_row (i : S2048x16x128.Idx) : (((i 0).val * 16 + (i 1).val) * 128 + (i 2).val) / 2048 = (i 0).val := by
  have h1 : (i 1).val < 16 := (i 1).isLt
  have h2 : (i 2).val < 128 := (i 2).isLt
  omega

theorem split_col (i : S2048x16x128.Idx) :
    (((i 0).val * 16 + (i 1).val) * 128 + (i 2).val) % 2048 = 128 * (i 1).val + (i 2).val := by
  have h1 : (i 1).val < 16 := (i 1).isLt
  have h2 : (i 2).val < 128 := (i 2).isLt
  omega

variable {x0 : (⟨S2048x6144, .bf16⟩ : BufTy).Contents (Elt Ideal)} {x1 : (⟨S2048x8, .f32⟩ : BufTy).Contents (Elt Ideal)}
  {x3 : (⟨S2048x2048, .bf16⟩ : BufTy).Contents (Elt Ideal)} {q cc dd : ℕ → ℕ → ℝ}

section
variable (H0 : Reads (s := S2048x6144) x0 fun i => q (i 0).val (i 1).val)
include H0

theorem r0 : Reads (s := S2048x6144) (val_main_v0 (F := Ideal) x0) fun i => q (i 0).val (i 1).val :=
  fun i => (val_main_v0_apply x0 i).trans (H0 i)

theorem r1 : Reads (s := S2048x2048) (val_main_v1 (F := Ideal) x0) fun i => q (i 0).val (0 + (i 1).val) := fun i =>
  (val_main_v1_apply x0 i).trans ((r0 H0 _).trans (at_eq rfl (by dsimp only [idx_main_v1]; omega)))

theorem r2 : Reads (s := S2048x2048) (val_main_v2 (F := Ideal) x0) fun i => q (i 0).val (2048 + (i 1).val) := fun i =>
  (val_main_v2_apply x0 i).trans ((r0 H0 _).trans (at_eq rfl (by dsimp only [idx_main_v2])))

theorem r3 : Reads (s := S2048x2048) (val_main_v3 (F := Ideal) x0) fun i => q (i 0).val (4096 + (i 1).val) := fun i =>
  (val_main_v3_apply x0 i).trans ((r0 H0 _).trans (at_eq rfl (by dsimp only [idx_main_v3])))

theorem r35 : Reads (s := S2048x16x128) (val_main_v35 (F := Ideal) x0) fun i => headOf q 0 (i 1).val (i 0).val (i 2).val := fun i =>
  (val_main_v35_apply x0 i).trans ((r1 H0 _).trans (at_eq (split_row i) (congrArg (0 + ·) (split_col i))))

theorem r36 : Reads (s := S2048x16x128) (val_main_v36 (F := Ideal) x0) fun i => headOf q 2048 (i 1).val (i 0).val (i 2).val := fun i =>
  (val_main_v36_apply x0 i).trans ((r2 H0 _).trans (at_eq (split_row i) (congrArg (2048 + ·) (split_col i))))

theorem r37 : Reads (s := S2048x16x128) (val_main_v37 (F := Ideal) x0) fun i => headOf q 4096 (i 1).val (i 0).val (i 2).val := fun i =>
  (val_main_v37_apply x0 i).trans ((r3 H0 _).trans (at_eq (split_row i) (congrArg (4096 + ·) (split_col i))))

theorem r38 : Reads (s := S2048x8x128) (val_main_v38 (F := Ideal) x0) fun i => headOf q 0 (i 1).val (i 0).val (i 2).val :=
  fun i => (val_main_v38_apply x0 i).trans (r35 H0 _)

theorem r39 : Reads (s := S2048x8x128) (val_main_v39 (F := Ideal) x0) fun i => headOf q 2048 (i 1).val (i 0).val (i 2).val :=
  fun i => (val_main_v39_apply x0 i).trans (r36 H0 _)

theorem r40 : Reads (s := S2048x8x128) (val_main_v40 (F := Ideal) x0) fun i => headOf q 4096 (i 1).val (i 0).val (i 2).val :=
  fun i => (val_main_v40_apply x0 i).trans (r37 H0 _)

theorem r81 : Reads (s := S2048x8x128) (val_main_v81 (F := Ideal) x0) fun i => headOf q 0 (8 + (i 1).val) (i 0).val (i 2).val :=
  fun i => (val_main_v81_apply x0 i).trans (r35 H0 _)

theorem r82 : Reads (s := S2048x8x128) (val_main_v82 (F := Ideal) x0) fun i => headOf q 2048 (8 + (i 1).val) (i 0).val (i 2).val :=
  fun i => (val_main_v82_apply x0 i).trans (r36 H0 _)

theorem r83 : Reads (s := S2048x8x128) (val_main_v83 (F := Ideal) x0) fun i => headOf q 4096 (8 + (i 1).val) (i 0).val (i 2).val :=
  fun i => (val_main_v83_apply x0 i).trans (r37 H0 _)

end

section
variable (H3 : Reads (s := S2048x2048) x3 fun i => dd (i 0).val (i 1).val)
include H3

theorem r179 : Reads (s := S2048x2048) (val_main_v179 (F := Ideal) x3) fun i => dd (i 0).val (0 + (i 1).val) := fun i =>
  (val_main_v179_apply x3 i).trans ((H3 i).trans (at_eq rfl (by omega)))

theorem r180 : Reads (s := S2048x16x128) (val_main_v180 (F := Ideal) x3) fun i => headOf dd 0 (i 1).val (i 0).val (i 2).val := fun i =>
  (val_main_v180_apply x3 i).trans ((r179 H3 _).trans (at_eq (split_row i) (congrArg (0 + ·) (split_col i))))

/-- The forgetting heads' incoming gradients. -/
theorem r246 : Reads (s := S2048x8x128) (val_main_v246 (F := Ideal) x3) fun i => headOf dd 0 (i 1).val (i 0).val (i 2).val :=
  fun i => (val_main_v246_apply x3 i).trans ((val_main_v245_apply x3 i).trans ((val_main_v181_apply x3 i).trans (r180 H3 _)))

/-- The dilated heads' incoming gradients. -/
theorem r184 : Reads (s := S2048x8x128) (val_main_v184 (F := Ideal) x3) fun i => headOf dd 0 (8 + (i 1).val) (i 0).val (i 2).val :=
  fun i => (val_main_v184_apply x3 i).trans ((val_main_v183_apply x3 i).trans ((val_main_v182_apply x3 i).trans (r180 H3 _)))

end

end Cert.Ref
-- ==== Proof.Ref.Soft.lean ====
/- Real-number facts about a softmax row: shifting by the row's maximum changes neither the weights nor the log-sum; and
   the arrays of maxima hold reals. -/
module

public import proofs.«01_k».proof.Proof.Ref.Base

@[expose] public section

noncomputable section

namespace Cert.Ref

open Idealize.ShloMosaic Idealize.ShloMosaic.ValueIdx Cert.Attn

/-- The sum of a row's shifted exponentials. -/
def rowZ (n : ℕ) (W X : ℕ → ℝ) (M : ℝ) : ℝ := ∑ k ∈ Finset.range n, W k * Real.exp (X k - M)

/-- The sum of a row's exponentials. -/
def rowA (n : ℕ) (W X : ℕ → ℝ) : ℝ := ∑ k ∈ Finset.range n, W k * Real.exp (X k)

theorem rowZ_eq {n : ℕ} (W X : ℕ → ℝ) (M : ℝ) : rowZ n W X M = rowA n W X * Real.exp (-M) := by
  unfold rowZ rowA
  rw [Finset.sum_mul]
  refine Finset.sum_congr rfl fun k _ => ?_
  rw [sub_eq_add_neg, Real.exp_add]; ring

theorem rowA_pos {n : ℕ} {W X : ℕ → ℝ} (hW : ∀ k, 0 ≤ W k) (k₀ : ℕ) (hk : k₀ < n) (h₀ : 0 < W k₀) : 0 < rowA n W X :=
  Finset.sum_pos' (fun k _ => mul_nonneg (hW k) (Real.exp_pos _).le)
    ⟨k₀, Finset.mem_range.mpr hk, mul_pos h₀ (Real.exp_pos _)⟩

theorem rowZ_pos {n : ℕ} {W X : ℕ → ℝ} (hA : 0 < rowA n W X) (M : ℝ) : 0 < rowZ n W X M := by
  rw [rowZ_eq]; exact mul_pos hA (Real.exp_pos _)

theorem lse_shift {n : ℕ} {W X : ℕ → ℝ} (hA : 0 < rowA n W X) (M : ℝ) : M + Real.log (rowZ n W X M) = Real.log (rowA n W X) := by
  rw [rowZ_eq, Real.log_mul hA.ne' (Real.exp_pos _).ne', Real.log_exp]; ring

theorem weight_shift {n : ℕ} {W X : ℕ → ℝ} (hA : 0 < rowA n W X) (M : ℝ) (j : ℕ) :
    W j * Real.exp (X j - M) / rowZ n W X M = W j * Real.exp (X j - Real.log (rowA n W X)) := by
  rw [rowZ_eq, Real.exp_sub, Real.exp_sub, Real.exp_log hA, Real.exp_neg]
  have := Real.exp_pos M
  field_simp

theorem weight_sum {n : ℕ} {W X : ℕ → ℝ} (hA : 0 < rowA n W X) :
    ∑ j ∈ Finset.range n, W j * Real.exp (X j - Real.log (rowA n W X)) = 1 := by
  have h : ∀ j, W j * Real.exp (X j - Real.log (rowA n W X)) = W j * Real.exp (X j) / rowA n W X := fun j => by
    rw [Real.exp_sub, Real.exp_log hA]; ring
  simp only [h, ← Finset.sum_div]
  exact div_self hA.ne'

/-- The derivative of a softmax row as the reverse sweep spells it. -/
theorem grad_row {n : ℕ} (e g : ℕ → ℝ) (Z : ℝ) (hZ : Z ≠ 0) (j : ℕ) (hj : j < n) :
    (g j / Z + -∑ k ∈ Finset.range n, g k * (1 / (Z * Z)) * e k) * e j
      = e j / Z * (g j - ∑ k ∈ Finset.range n, e k / Z * g k) := by
  rw [Finset.sum_range, Finset.sum_range]
  exact softmax_grad (fun k : Fin n => e k.val) (fun k => g k.val) Z hZ ⟨j, hj⟩

theorem grad_row_sum {n : ℕ} (p g : ℕ → ℝ) (hp : ∑ k ∈ Finset.range n, p k = 1) :
    ∑ j ∈ Finset.range n, p j * (g j - ∑ k ∈ Finset.range n, p k * g k) = 0 := by
  rw [Finset.sum_range] at hp ⊢
  rw [Finset.sum_range]
  exact softmax_grad_sum (fun k : Fin n => p k.val) (fun k => g k.val) hp

/-- The exponential of a masked score less the maximum. -/
theorem e_masked {s m : EReal} {W x M : ℝ} (hW : W = 0 ∨ W = 1) (hs : s = if W = 1 then (x : EReal) else ⊥) (hm : m = (M : EReal)) :
    FloatOps.hostUnary (F := Ideal) (φ := .f32) .exp (FloatOps.subf (F := Ideal) (φ := .f32) s m)
      = ((W * Real.exp (x - M) : ℝ) : EReal) := by
  rw [hs, hm, Ideal.hostUnary_exp_def, Ideal.subf_def]
  rcases hW with h | h
  · rw [h, if_neg zero_ne_one, sub_eq_add_neg, EReal.bot_add, Ideal.exp_bot, zero_mul, EReal.coe_zero]
  · rw [h, if_pos rfl, ← EReal.coe_sub, Ideal.exp_coe, one_mul]

/-- Real values of a matrix, taken from the extended reals. -/
theorem reals_of2 {a b : ℕ} (v : (⟨2, ![a, b]⟩ : Shape).Idx → EReal) (h : ∀ i, ∃ r : ℝ, v i = (r : EReal)) :
    ∃ M : ℕ → ℕ → ℝ, ∀ i : (⟨2, ![a, b]⟩ : Shape).Idx, v i = ((M (i 0).val (i 1).val : ℝ) : EReal) := by
  refine ⟨fun m n => if hm : m < a then if hn : n < b then (v (ix2 ⟨m, hm⟩ ⟨n, hn⟩)).toReal else 0 else 0, fun i => ?_⟩
  have e : i = ix2 ⟨(i 0).val, (i 0).isLt⟩ ⟨(i 1).val, (i 1).isLt⟩ := by
    funext k; match k with
    | ⟨0, _⟩ => rfl
    | ⟨1, _⟩ => rfl
  have h0 : (i 0).val < a := (i 0).isLt
  have h1 : (i 1).val < b := (i 1).isLt
  obtain ⟨r, hr⟩ := h i
  beta_reduce
  rw [dif_pos h0, dif_pos h1]
  exact hr.trans (congrArg _ ((congrArg EReal.toReal hr).symm.trans (congrArg (fun k => (v k).toReal) e)))

theorem reals_of3 {a b c : ℕ} (v : (⟨3, ![a, b, c]⟩ : Shape).Idx → EReal) (h : ∀ i, ∃ r : ℝ, v i = (r : EReal)) :
    ∃ M : ℕ → ℕ → ℕ → ℝ, ∀ i : (⟨3, ![a, b, c]⟩ : Shape).Idx, v i = ((M (i 0).val (i 1).val (i 2).val : ℝ) : EReal) := by
  refine ⟨fun l m n => if hl : l < a then if hm : m < b then if hn : n < c then (v (ix3 ⟨l, hl⟩ ⟨m, hm⟩ ⟨n, hn⟩)).toReal
    else 0 else 0 else 0, fun i => ?_⟩
  have e : i = ix3 ⟨(i 0).val, (i 0).isLt⟩ ⟨(i 1).val, (i 1).isLt⟩ ⟨(i 2).val, (i 2).isLt⟩ := by
    funext k; match k with
    | ⟨0, _⟩ => rfl
    | ⟨1, _⟩ => rfl
    | ⟨2, _⟩ => rfl
  have h0 : (i 0).val < a := (i 0).isLt
  have h1 : (i 1).val < b := (i 1).isLt
  have h2 : (i 2).val < c := (i 2).isLt
  obtain ⟨r, hr⟩ := h i
  beta_reduce
  rw [dif_pos h0, dif_pos h1, dif_pos h2]
  exact hr.trans (congrArg _ ((congrArg EReal.toReal hr).symm.trans (congrArg (fun k => (v k).toReal) e)))

end Cert.Ref
-- ==== Proof.Ref.Fox.lean ====
/- The reference's forgetting heads: the scores, the softmax, the log-sum, and the gradients of q, k, v and c, element by
   element as reals. -/
module

public import proofs.«01_k».proof.Proof.Ref.Heads
public import proofs.«01_k».proof.Proof.Ref.Soft

@[expose] public section

noncomputable section

namespace Cert.Ref

open Cert.ReferenceIdeal Cert.ReferenceIdeal.Gen Cert.ReferenceIdeal.Read
open Idealize.ShloMosaic Idealize.ShloMosaic.ValueIdx Idealize.ShloMosaic.StableHlo Cert.Attn

theorem flat_row (i : S8x2048x1.Idx) : (((i 0).val * 2048 + (i 1).val) * 1 + (i 2).val) / 2048 = (i 0).val := by
  have h1 : (i 1).val < 2048 := (i 1).isLt
  have h2 : (i 2).val < 1 := (i 2).isLt
  omega

theorem flat_col (i : S8x2048x1.Idx) : (((i 0).val * 2048 + (i 1).val) * 1 + (i 2).val) % 2048 = (i 1).val := by
  have h1 : (i 1).val < 2048 := (i 1).isLt
  have h2 : (i 2).val < 1 := (i 2).isLt
  omega

section reals
variable (q cc dd : ℕ → ℕ → ℝ) (h : ℕ)

/-- A forgetting head's scores. -/
def fX : ℕ → ℕ → ℝ := foxX (headOf q 0 h) (headOf q 2048 h) (fun t => cc t h)

/-- A forgetting head's log-sums. -/
def fL (t : ℕ) : ℝ := Real.log (rowA 2048 (causal t) (fX q cc h t))

/-- A forgetting head's probabilities. -/
def fP : ℕ → ℕ → ℝ := foxPr (headOf q 0 h) (headOf q 2048 h) (fun t => cc t h) (fL q cc h)

/-- A forgetting head's gradients of the probabilities. -/
def fD : ℕ → ℕ → ℝ := inner (headOf dd 0 h) (headOf q 4096 h)

/-- A forgetting head's gradients of the scores. -/
def fG : ℕ → ℕ → ℝ :=
  foxGr (headOf q 0 h) (headOf q 2048 h) (headOf q 4096 h) (headOf dd 0 h) (fun t => cc t h) (fL q cc h)

theorem causal_or (t j : ℕ) : causal t j = 0 ∨ causal t j = 1 := by
  unfold causal; split_ifs <;> simp

theorem causal_nonneg (t j : ℕ) : 0 ≤ causal t j := by
  unfold causal; split_ifs <;> simp

theorem fA_pos (t : ℕ) : 0 < rowA 2048 (causal t) (fX q cc h t) :=
  rowA_pos (causal_nonneg t) 0 (by decide) (by simp [causal])

theorem fP_eq (M : ℝ) (t j : ℕ) :
    causal t j * Real.exp (fX q cc h t j - M) / rowZ 2048 (causal t) (fX q cc h t) M = fP q cc h t j := by
  rw [weight_shift (fA_pos q cc h t)]
  show _ = causal t j * Real.exp (fX q cc h t j + 0 - fL q cc h t)
  rw [add_zero]; rfl

theorem fP_sum (t : ℕ) : ∑ j ∈ Finset.range 2048, fP q cc h t j = 1 := by
  rw [← weight_sum (fA_pos q cc h t)]
  refine Finset.sum_congr rfl fun j _ => ?_
  show causal t j * Real.exp (fX q cc h t j + 0 - fL q cc h t) = _
  rw [add_zero]; rfl

theorem fG_row (t : ℕ) : ∑ j ∈ Finset.range 2048, fG q cc dd h t j = 0 :=
  grad_row_sum (fP q cc h t) (fD q dd h t) (fP_sum q cc h t)

theorem fG_masked (t j : ℕ) (hj : causal t j = 0) : fG q cc dd h t j = 0 := by
  show fP q cc h t j * _ = 0
  have : fP q cc h t j = 0 := by
    show causal t j * _ = 0
    rw [hj, zero_mul]
  rw [this, zero_mul]

theorem fG_eq (M : ℝ) (t j : ℕ) (hj : j < 2048) :
    (fD q dd h t j / rowZ 2048 (causal t) (fX q cc h t) M
        + -∑ k ∈ Finset.range 2048, fD q dd h t k * (1 / (rowZ 2048 (causal t) (fX q cc h t) M * rowZ 2048 (causal t) (fX q cc h t) M))
            * (causal t k * Real.exp (fX q cc h t k - M))) * (causal t j * Real.exp (fX q cc h t j - M))
      = fG q cc dd h t j := by
  rw [grad_row (fun k => causal t k * Real.exp (fX q cc h t k - M)) (fD q dd h t) _ (rowZ_pos (fA_pos q cc h t) M).ne' j hj]
  simp only [fP_eq]
  rfl

end reals

variable {x0 : (⟨S2048x6144, .bf16⟩ : BufTy).Contents (Elt Ideal)} {x1 : (⟨S2048x8, .f32⟩ : BufTy).Contents (Elt Ideal)}
  {x3 : (⟨S2048x2048, .bf16⟩ : BufTy).Contents (Elt Ideal)} {q cc dd : ℕ → ℕ → ℝ} {M : ℕ → ℕ → ℝ}

/-- The causal mask. -/
theorem mask59 (i : S8x2048x2048.Idx) : val_main_v59_1 (F := Ideal) i = if (i 2).val ≤ (i 1).val then 1#1 else 0#1 := by
  rw [val_main_v59_1_apply, val_main_v57_apply, val_main_v55_apply, val_main_v53_apply, val_main_v54_apply, val_main_v56_apply,
    val_main_c_9_apply]
  exact word_ge (i 1).val (i 2).val (i 1).isLt (i 2).isLt

section
variable (H0 : Reads (s := S2048x6144) x0 fun i => q (i 0).val (i 1).val)
  (H1 : Reads (s := S2048x8) x1 fun i => cc (i 0).val (i 1).val)
include H0 H1

theorem r58 : Reads (s := S8x2048x2048) (val_main_v58 (F := Ideal) x0 x1) fun i => fX q cc (i 0).val (i 1).val (i 2).val := fun i =>
  (val_main_v58_apply x0 x1 i).trans (e_add
    ((val_main_v45_apply x0 i).trans (e_mul
      ((val_main_v43_apply x0 i).trans ((val_main_v42_apply x0 i).trans ((val_main_v41_apply x0 i).trans
        (e_dot (p := fun d => headOf q 0 (i 0).val (i 1).val d) (q := fun d => headOf q 2048 (i 0).val (i 2).val d)
          (fun _ => r38 H0 _) (fun _ => r39 H0 _)))))
      ((val_main_v44_apply i).trans ((val_main_cst_8_apply _).trans e_sigma))))
    ((val_main_v52_apply x1 i).trans (e_sub
      ((val_main_v50_apply x1 i).trans ((val_main_v47_apply x1 _).trans ((val_main_v46_apply x1 _).trans (H1 _))))
      ((val_main_v51_apply x1 i).trans ((val_main_v49_apply x1 _).trans ((val_main_v48_apply x1 _).trans (H1 _)))))))

theorem r59 (i : S8x2048x2048.Idx) : (val_main_v59_0 (F := Ideal) x0 x1 i : EReal)
    = if causal (i 1).val (i 2).val = 1 then ((fX q cc (i 0).val (i 1).val (i 2).val : ℝ) : EReal) else ⊥ := by
  have hb : (val_main_call1_v2 (F := Ideal) i : EReal) = ⊥ :=
    (val_main_call1_v2_apply i).trans ((val_main_call1_v0_apply _).trans ((val_main_cst_10_apply _).trans e_low))
  have hx := r58 H0 H1 i
  rw [val_main_v59_0_apply, mask59]
  unfold Scalar.select causal
  by_cases h : (i 2).val ≤ (i 1).val
  · rw [if_pos h, if_pos (show (1#1 : BitVec 1) = 1 from rfl), if_pos h, if_pos rfl]; exact hx
  · rw [if_neg h, if_neg (by decide), if_neg h, if_neg zero_ne_one]; exact hb

/-- Every row's maximum is a real. -/
theorem max60 (i : S8x2048.Idx) : ∃ m : ℝ, (val_main_v60 (F := Ideal) x0 x1 i : EReal) = (m : EReal) := by
  have hr : S8x2048x2048.Reduces [2] S8x2048 := by decide
  have hv : ∀ k : Fin 2048, (val_main_v59_0 (F := Ideal) x0 x1 (hr.lift i k) : EReal)
      = if causal (hr.lift i k 1).val (hr.lift i k 2).val = 1
          then ((fX q cc (hr.lift i k 0).val (hr.lift i k 1).val (hr.lift i k 2).val : ℝ) : EReal) else ⊥ := fun k => r59 H0 H1 _
  obtain ⟨m, hm⟩ := real_of_fold (n := 2048) e_low (fun k => val_main_v59_0 (F := Ideal) x0 x1 (hr.lift i k)) (fun k => by
    rw [hv]; split_ifs
    · exact EReal.coe_ne_top _
    · exact bot_ne_top) ⟨0, by decide⟩ (by
    rw [hv, if_pos]
    · exact EReal.coe_ne_bot _
    · have : (hr.lift i (⟨0, by decide⟩ : Fin 2048) 2).val = 0 := rfl
      rw [this]; simp [causal])
  exact ⟨m, (Host.reduce_eq_fold_single (α := EReal) max (val_main_v59_0 (F := Ideal) x0 x1) (val_main_cst_11 (F := Ideal))
    reducesTo_S8x2048x2048_S8x2048_d2 hr h_S_ i).trans hm⟩

section
variable (HM : Reads (s := S8x2048) (val_main_v60 (F := Ideal) x0 x1) fun i => M (i 0).val (i 1).val)
include HM

theorem r64 : Reads (s := S8x2048x2048) (val_main_v64 (F := Ideal) x0 x1) fun i =>
    causal (i 1).val (i 2).val * Real.exp (fX q cc (i 0).val (i 1).val (i 2).val - M (i 0).val (i 1).val) := fun i =>
  (val_main_v64_apply x0 x1 i).trans ((congrArg _ (val_main_v63_apply x0 x1 i)).trans (e_masked (causal_or _ _) (r59 H0 H1 i)
    ((val_main_v62_apply x0 x1 i).trans ((val_main_v61_apply x0 x1 _).trans (HM _)))))

theorem r66 : Reads (s := S8x2048x1) (val_main_v66 (F := Ideal) x0 x1) fun i =>
    rowZ 2048 (causal (i 1).val) (fX q cc (i 0).val (i 1).val) (M (i 0).val (i 1).val) := fun i =>
  (val_main_v66_apply x0 x1 i).trans ((val_main_v65_apply x0 x1 _).trans (e_sum ((val_main_cst_12_apply _).trans e_zero)
    (g := fun k => causal (i 1).val k * Real.exp (fX q cc (i 0).val (i 1).val k - M (i 0).val (i 1).val))
    (fun _ => r64 H0 H1 HM _)))

theorem r73 : Reads (s := S8x2048x2048) (val_main_v73 (F := Ideal) x0 x1) fun i => fP q cc (i 0).val (i 1).val (i 2).val := fun i =>
  (val_main_v73_apply x0 x1 i).trans ((val_main_v72_apply x0 x1 i).trans ((val_main_v68_apply x0 x1 i).trans
    ((e_div (r64 H0 H1 HM i) ((val_main_v67_apply x0 x1 i).trans (r66 H0 H1 HM _)) (rowZ_pos (fA_pos _ _ _ _) _).ne').trans
      (e_eq (fP_eq q cc (i 0).val (M (i 0).val (i 1).val) (i 1).val (i 2).val)))))

theorem r71 : Reads (s := S8x2048x1) (val_main_v71 (F := Ideal) x0 x1) fun i =>
    1 / (rowZ 2048 (causal (i 1).val) (fX q cc (i 0).val (i 1).val) (M (i 0).val (i 1).val)
      * rowZ 2048 (causal (i 1).val) (fX q cc (i 0).val (i 1).val) (M (i 0).val (i 1).val)) := fun i =>
  (val_main_v71_apply x0 x1 i).trans (e_div ((val_main_v70_apply i).trans ((val_main_cst_13_apply _).trans e_one))
    ((val_main_v69_apply x0 x1 i).trans (e_mul (r66 H0 H1 HM i) (r66 H0 H1 HM i)))
    (mul_pos (rowZ_pos (fA_pos _ _ _ _) _) (rowZ_pos (fA_pos _ _ _ _) _)).ne')

theorem r79 : Reads (s := S8x2048x1) (val_main_v79 (F := Ideal) x0 x1) fun i => fL q cc (i 0).val (i 1).val := fun i =>
  (val_main_v79_apply x0 x1 i).trans ((e_add ((val_main_v61_apply x0 x1 i).trans (HM _))
    ((val_main_v78_apply x0 x1 i).trans (e_log (r66 H0 H1 HM i) (rowZ_pos (fA_pos _ _ _ _) _)))).trans
      (e_eq (lse_shift (fA_pos q cc (i 0).val (i 1).val) (M (i 0).val (i 1).val))))

/-- The forgetting heads' log-sums. -/
theorem r80 : Reads (s := S8x2048) (val_main_v80 (F := Ideal) x0 x1) fun i => fL q cc (i 0).val (i 1).val := fun i =>
  (val_main_v80_apply x0 x1 i).trans ((r79 H0 H1 HM _).trans (at_eq (a := fL q cc)
    (by have h1 : (i 1).val < 2048 := (i 1).isLt
        show ((i 0).val * 2048 + (i 1).val) / 2048 = (i 0).val; omega)
    (by have h1 : (i 1).val < 2048 := (i 1).isLt
        show ((i 0).val * 2048 + (i 1).val) / 1 % 2048 = (i 1).val; omega)))

variable (H3 : Reads (s := S2048x2048) x3 fun i => dd (i 0).val (i 1).val)
include H3

omit H1 HM in
theorem r252 : Reads (s := S8x2048x2048) (val_main_v252 (F := Ideal) x0 x3) fun i => fD q dd (i 0).val (i 1).val (i 2).val := fun i =>
  (val_main_v252_apply x0 x3 i).trans ((val_main_v251_apply x0 x3 i).trans ((val_main_v248_apply x0 x3 i).trans
    (e_dot (p := fun d => headOf dd 0 (i 0).val (i 1).val d) (q := fun d => headOf q 4096 (i 0).val (i 2).val d)
      (fun _ => (val_main_v247_apply x3 _).trans (r246 H3 _)) (fun _ => r40 H0 _))))

/-- The forgetting heads' gradients of the scores. -/
theorem r265 : Reads (s := S8x2048x2048) (val_main_v265 (F := Ideal) x0 x1 x3) fun i =>
    fG q cc dd (i 0).val (i 1).val (i 2).val := fun i => by
  have hs : (val_main_v258 (F := Ideal) x0 x1 x3 (ix3 (i 0) (i 1) (0 : Fin 1)) : EReal)
      = ((-∑ k ∈ Finset.range 2048, fD q dd (i 0).val (i 1).val k
          * (1 / (rowZ 2048 (causal (i 1).val) (fX q cc (i 0).val (i 1).val) (M (i 0).val (i 1).val)
              * rowZ 2048 (causal (i 1).val) (fX q cc (i 0).val (i 1).val) (M (i 0).val (i 1).val)))
          * (causal (i 1).val k * Real.exp (fX q cc (i 0).val (i 1).val k - M (i 0).val (i 1).val)) : ℝ) : EReal) := by
    refine (val_main_v258_apply x0 x1 x3 _).trans (e_neg ((val_main_v257_apply x0 x1 x3 _).trans ?_))
    have e : idx_main_v257 (ix3 (i 0) (i 1) (0 : Fin 1)) = ix2 (i 0) (i 1) := by
      funext k; apply Fin.ext
      match k with
      | ⟨0, _⟩ => exact flat_row (ix3 (i 0) (i 1) (0 : Fin 1))
      | ⟨1, _⟩ => exact flat_col (ix3 (i 0) (i 1) (0 : Fin 1))
    rw [e]
    exact (val_main_v256_apply x0 x1 x3 _).trans (e_sum ((val_main_cst_48_apply _).trans e_zero) (fun _ =>
      (val_main_v255_apply x0 x1 x3 _).trans (e_mul ((val_main_v254_apply x0 x1 x3 _).trans (e_mul (r252 H0 H3 _)
        ((val_main_v253_apply x0 x1 _).trans (r71 H0 H1 HM _)))) (r64 H0 H1 HM _))))
  have hg : (val_main_v264 (F := Ideal) x0 x1 x3 i : EReal) = ((fG q cc dd (i 0).val (i 1).val (i 2).val : ℝ) : EReal) := by
    rw [← fG_eq q cc dd (i 0).val (M (i 0).val (i 1).val) (i 1).val (i 2).val (i 2).isLt]
    exact (val_main_v264_apply x0 x1 x3 i).trans (e_mul ((val_main_v263_apply x0 x1 x3 i).trans (e_add
      ((val_main_v260_apply x0 x1 x3 i).trans (e_div (r252 H0 H3 i) ((val_main_v259_apply x0 x1 i).trans (r66 H0 H1 HM _))
        (rowZ_pos (fA_pos _ _ _ _) _).ne'))
      ((val_main_v262_apply x0 x1 x3 i).trans ((val_main_v261_apply x0 x1 x3 _).trans
        (e_one_term ((val_main_cst_49_apply _).trans e_zero) (fun k => by
          have hk : idx_main_v261 (idx_main_v262 i) k = ix3 (i 0) (i 1) (0 : Fin 1) := by
            funext a; apply Fin.ext
            match a with
            | ⟨0, _⟩ => rfl
            | ⟨1, _⟩ => rfl
            | ⟨2, _⟩ => exact (by omega : k.val = 0)
          rw [hk]; exact hs)))))) (r64 H0 H1 HM i))
  have hz : (val_main_call2_v0 (F := Ideal) i : EReal) = ((0 : ℝ) : EReal) :=
    (val_main_call2_v0_apply i).trans ((val_main_call2_cst_apply _).trans e_zero)
  show (_ : EReal) = ((fG q cc dd (i 0).val (i 1).val (i 2).val : ℝ) : EReal)
  rw [val_main_v265_apply, mask59]
  unfold Scalar.select
  by_cases h : (i 2).val ≤ (i 1).val
  · rw [if_pos h, if_pos (show (1#1 : BitVec 1) = 1 from rfl)]; exact hg
  · rw [if_neg h, if_neg (by decide), fG_masked q cc dd _ _ _ (by unfold causal; rw [if_neg h])]; exact hz

/-- The forgetting heads' gradient of v. -/
theorem r250 : Reads (s := S2048x8x128) (val_main_v250 (F := Ideal) x0 x1 x3) fun i =>
    dvR 2048 (fP q cc (i 1).val) (headOf dd 0 (i 1).val) (i 0).val (i 2).val := fun i =>
  (val_main_v250_apply x0 x1 x3 i).trans ((val_main_v249_apply x0 x1 x3 _).trans
    (e_dot (p := fun t => headOf dd 0 (i 1).val t (i 2).val) (q := fun t => fP q cc (i 1).val t (i 0).val)
      (fun _ => (val_main_v247_apply x3 _).trans (r246 H3 _)) (fun _ => r73 H0 H1 HM _)))

theorem r279 : Reads (s := S8x2048x2048) (val_main_v279 (F := Ideal) x0 x1 x3) fun i =>
    fG q cc dd (i 0).val (i 1).val (i 2).val * sigma := fun i =>
  (val_main_v279_apply x0 x1 x3 i).trans ((val_main_v278_apply x0 x1 x3 i).trans ((val_main_v277_apply x0 x1 x3 i).trans
    (e_mul (r265 H0 H1 HM H3 i) ((val_main_v276_apply i).trans ((val_main_cst_54_apply _).trans e_sigma)))))

end
end

end Cert.Ref
-- ==== Proof.Ref.FoxGrad.lean ====
/- The reference's gradients of the forgetting heads' q, k and c, from the gradients of the scores. -/
module

public import proofs.«01_k».proof.Proof.Ref.Fox

@[expose] public section

noncomputable section

namespace Cert.Ref

open Cert.ReferenceIdeal Cert.ReferenceIdeal.Gen Cert.ReferenceIdeal.Read
open Idealize.ShloMosaic Idealize.ShloMosaic.ValueIdx Idealize.ShloMosaic.StableHlo Cert.Attn

variable {x0 : (⟨S2048x6144, .bf16⟩ : BufTy).Contents (Elt Ideal)} {x1 : (⟨S2048x8, .f32⟩ : BufTy).Contents (Elt Ideal)}
  {x3 : (⟨S2048x2048, .bf16⟩ : BufTy).Contents (Elt Ideal)} {q cc dd : ℕ → ℕ → ℝ} {M : ℕ → ℕ → ℝ}

section
variable (H0 : Reads (s := S2048x6144) x0 fun i => q (i 0).val (i 1).val)
  (H1 : Reads (s := S2048x8) x1 fun i => cc (i 0).val (i 1).val)
  (HM : Reads (s := S8x2048) (val_main_v60 (F := Ideal) x0 x1) fun i => M (i 0).val (i 1).val)
  (H3 : Reads (s := S2048x2048) x3 fun i => dd (i 0).val (i 1).val)
include H0 H1 HM H3

/-- The forgetting heads' gradient of k. -/
theorem r281 : Reads (s := S2048x8x128) (val_main_v281 (F := Ideal) x0 x1 x3) fun i =>
    dkR 2048 (fG q cc dd (i 1).val) (headOf q 0 (i 1).val) (i 0).val (i 2).val := fun i =>
  (val_main_v281_apply x0 x1 x3 i).trans ((val_main_v280_apply x0 x1 x3 _).trans
    ((e_dot (p := fun t => fG q cc dd (i 1).val t (i 0).val * sigma) (q := fun t => headOf q 0 (i 1).val t (i 2).val)
      (fun k => r279 H0 H1 HM H3 (lidx_main_v280 (idx_main_v281 i) k)) (fun k => r38 H0 (ridx_main_v280 (idx_main_v281 i) k))).trans (e_eq (dk_eq (fG q cc dd (i 1).val) (headOf q 0 (i 1).val) (i 0).val (i 2).val))))

/-- The forgetting heads' gradient of q. -/
theorem r283 : Reads (s := S2048x8x128) (val_main_v283 (F := Ideal) x0 x1 x3) fun i =>
    dqR (fG q cc dd (i 1).val) (headOf q 2048 (i 1).val) (i 0).val (i 2).val := fun i =>
  (val_main_v283_apply x0 x1 x3 i).trans ((val_main_v282_apply x0 x1 x3 _).trans
    ((e_dot (p := fun j => fG q cc dd (i 1).val (i 0).val j * sigma) (q := fun j => headOf q 2048 (i 1).val j (i 2).val)
      (fun k => r279 H0 H1 HM H3 (lidx_main_v282 (idx_main_v283 i) k)) (fun k => r39 H0 (ridx_main_v282 (idx_main_v283 i) k))).trans (e_eq (dq_eq (fG q cc dd (i 1).val) (headOf q 2048 (i 1).val) (i 0).val (i 2).val))))

theorem r269 : Reads (s := S8x2048) (val_main_v269 (F := Ideal) x0 x1 x3) fun i =>
    dctR 2048 (fG q cc dd (i 0).val) (i 1).val := fun i =>
  (val_main_v269_apply x0 x1 x3 i).trans ((e_sum ((val_main_cst_51_apply _).trans e_zero)
    (g := fun t => -fG q cc dd (i 0).val t (i 1).val) (fun k => (val_main_v268_apply x0 x1 x3 (idx_main_v269 i k)).trans
      (e_neg (r265 H0 H1 HM H3 (idx_main_v269 i k))))).trans (e_eq (dct_eq (fG q cc dd (i 0).val) (i 1).val)))

theorem r266 : Reads (s := S8x2048) (val_main_v266 (F := Ideal) x0 x1 x3) fun _ => 0 := fun i =>
  (val_main_v266_apply x0 x1 x3 i).trans ((e_sum ((val_main_cst_50_apply _).trans e_zero)
    (g := fun j => fG q cc dd (i 0).val (i 1).val j) (fun k => r265 H0 H1 HM H3 (idx_main_v266 i k))).trans
      (e_eq (fG_row q cc dd (i 0).val (i 1).val)))

/-- The forgetting heads' gradient of c: the negated column sums, since every row sums to zero. -/
theorem r293 : Reads (s := S8x2048) (val_main_v293 (F := Ideal) x0 x1 x3) fun i =>
    dctR 2048 (fG q cc dd (i 0).val) (i 1).val := fun i =>
  (val_main_v293_apply x0 x1 x3 i).trans ((val_main_v275_apply x0 x1 x3 _).trans ((e_add
    ((val_main_v272_apply x0 x1 x3 _).trans ((val_main_v271_apply x0 x1 x3 _).trans
      (e_one_term ((val_main_cst_52_apply _).trans e_zero) (fun k => (val_main_v270_apply x0 x1 x3 _).trans
        ((r269 H0 H1 HM H3 _).trans (at_eq (a := fun a b => dctR 2048 (fG q cc dd a) b) (t' := (i 0).val) (c' := (i 1).val)
          (by have h0 : (i 0).val < 8 := (i 0).isLt
              have h1 : (i 1).val < 2048 := (i 1).isLt
              have hk : k.val < 1 := k.isLt
              show (((i 0).val * 1 + k.val) * 2048 + (i 1).val) / 2048 = (i 0).val; omega)
          (by have h1 : (i 1).val < 2048 := (i 1).isLt
              have hk : k.val < 1 := k.isLt
              show (((i 0).val * 1 + k.val) * 2048 + (i 1).val) % 2048 = (i 1).val; omega)))))))
    ((val_main_v274_apply x0 x1 x3 _).trans ((val_main_v273_apply x0 x1 x3 _).trans
      (e_one_term ((val_main_cst_53_apply _).trans e_zero) (fun _ => (val_main_v267_apply x0 x1 x3 _).trans
        (r266 H0 H1 HM H3 _)))))).trans (e_eq (add_zero _))))

end

end Cert.Ref
-- ==== Proof.Ref.DilReal.lean ====
/- The dilated heads on the real numbers: three softmaxes, one per window pattern, mixed by the softmax of their log-sums,
   are one weighting of the keys; and the gradients that a reverse sweep assembles pattern by pattern are that weighting's. -/
module

public import proofs.«01_k».proof.Proof.Ref.Dist
public import proofs.«01_k».proof.Proof.Ref.Soft
public import proofs.«01_k».proof.Proof.Ref.Heads

@[expose] public section

noncomputable section

namespace Cert.Ref

open Idealize.ShloMosaic Cert.Attn

/-- A pattern's indicator at two positions. -/
def pat (p t j : ℕ) : ℝ := patR p ((t : ℤ) - j)

theorem pat_or (p t j : ℕ) : pat p t j = 0 ∨ pat p t j = 1 := patR_or _ _

theorem pat_self (p t : ℕ) (hp : p < 3) : pat p t t = 1 := by
  unfold pat; rw [sub_self]; exact patR_zero p hp

variable (q rel dd : ℕ → ℕ → ℝ) (h : ℕ)

/-- A dilated head's scores. -/
def dX (t j : ℕ) : ℝ :=
  inner (headOf q 0 (8 + h)) (headOf q 2048 (8 + h)) t j * sigma + biasR rel h ((t : ℤ) - j)

/-- A pattern's log-sum. -/
def dLp (p t : ℕ) : ℝ := Real.log (rowA 2048 (pat p t) (dX q rel h t))

/-- The joint log-sum. -/
def dLL (t : ℕ) : ℝ := Real.log (rowA 3 (fun _ => 1) (fun p => dLp q rel h p t))

/-- A pattern's weight in the mixture. -/
def dw (p t : ℕ) : ℝ := 1 * Real.exp (dLp q rel h p t - dLL q rel h t)

/-- A pattern's probabilities. -/
def dPp (p t j : ℕ) : ℝ := pat p t j * Real.exp (dX q rel h t j - dLp q rel h p t)

/-- A pattern's output. -/
def dOp (p t d : ℕ) : ℝ := ∑ j ∈ Finset.range 2048, headOf q 4096 (8 + h) j d * dPp q rel h p t j

/-- A dilated head's output. -/
def dO (t d : ℕ) : ℝ := ∑ p ∈ Finset.range 3, dw q rel h p t * dOp q rel h p t d

/-- A dilated head's probabilities. -/
def dP : ℕ → ℕ → ℝ := dilPr (headOf q 0 (8 + h)) (headOf q 2048 (8 + h)) multR (biasR rel h) (dLL q rel h)

/-- A dilated head's gradients of the probabilities. -/
def dD : ℕ → ℕ → ℝ := inner (headOf dd 0 (8 + h)) (headOf q 4096 (8 + h))

/-- A dilated head's gradients of the scores. -/
def dG : ℕ → ℕ → ℝ :=
  dilGr (headOf q 0 (8 + h)) (headOf q 2048 (8 + h)) (headOf q 4096 (8 + h)) (dO q rel h) (headOf dd 0 (8 + h)) multR
    (biasR rel h) (dLL q rel h)

/-- The gradient of a pattern's weight. -/
def dA (p t : ℕ) : ℝ := ∑ d ∈ Finset.range 128, headOf dd 0 (8 + h) t d * dOp q rel h p t d

theorem pA_pos (p t : ℕ) (hp : p < 3) (ht : t < 2048) : 0 < rowA 2048 (pat p t) (dX q rel h t) :=
  rowA_pos (fun _ => patR_nonneg _ _) t ht (by rw [pat_self p t hp]; exact one_pos)

theorem wA_pos (X : ℕ → ℝ) : 0 < rowA 3 (fun _ => 1) X := rowA_pos (fun _ => zero_le_one) 0 (by decide) one_pos

theorem dPp_eq (M : ℝ) (p t j : ℕ) (hp : p < 3) (ht : t < 2048) :
    pat p t j * Real.exp (dX q rel h t j - M) / rowZ 2048 (pat p t) (dX q rel h t) M = dPp q rel h p t j :=
  weight_shift (pA_pos q rel h p t hp ht) M j

theorem dw_eq (M : ℝ) (p t : ℕ) :
    1 * Real.exp (dLp q rel h p t - M) / rowZ 3 (fun _ => 1) (fun p => dLp q rel h p t) M = dw q rel h p t :=
  weight_shift (W := fun _ => 1) (X := fun p => dLp q rel h p t) (wA_pos _) M p

theorem mix (t j : ℕ) : ∑ p ∈ Finset.range 3, dw q rel h p t * dPp q rel h p t j = dP q rel h t j := by
  have e : ∀ p, dw q rel h p t * dPp q rel h p t j = patR p ((t : ℤ) - j) * Real.exp (dX q rel h t j - dLL q rel h t) := fun p => by
    unfold dw dPp pat
    rw [show dX q rel h t j - dLL q rel h t = (dLp q rel h p t - dLL q rel h t) + (dX q rel h t j - dLp q rel h p t) by ring,
      Real.exp_add]
    ring
  simp only [e, ← Finset.sum_mul]
  rfl

theorem delta_eq (t : ℕ) :
    ∑ p ∈ Finset.range 3, dw q rel h p t * dA q rel dd h p t = inner (headOf dd 0 (8 + h)) (dO q rel h) t t := by
  unfold Cert.Attn.inner dA dO
  simp only [Finset.mul_sum]
  rw [Finset.sum_comm]
  exact Finset.sum_congr rfl fun _ _ => Finset.sum_congr rfl fun _ _ => by ring

theorem dA_eq (p t : ℕ) : ∑ j ∈ Finset.range 2048, dPp q rel h p t j * dD q dd h t j = dA q rel dd h p t := by
  unfold dA dOp dD Cert.Attn.inner
  simp only [Finset.mul_sum]
  rw [Finset.sum_comm]
  exact Finset.sum_congr rfl fun _ _ => Finset.sum_congr rfl fun _ _ => by ring

/-- The gradient of a pattern's log-sum. -/
def dl (p t : ℕ) : ℝ := dw q rel h p t * (dA q rel dd h p t - inner (headOf dd 0 (8 + h)) (dO q rel h) t t)

theorem dl_eq (M : ℝ) (p t : ℕ) (hp : p < 3) :
    (dA q rel dd h p t / rowZ 3 (fun _ => 1) (fun p => dLp q rel h p t) M
        + -∑ k ∈ Finset.range 3, dA q rel dd h k t
            * (1 / (rowZ 3 (fun _ => 1) (fun p => dLp q rel h p t) M * rowZ 3 (fun _ => 1) (fun p => dLp q rel h p t) M))
            * (1 * Real.exp (dLp q rel h k t - M))) * (1 * Real.exp (dLp q rel h p t - M))
      = dl q rel dd h p t := by
  rw [grad_row (fun k => 1 * Real.exp (dLp q rel h k t - M)) (fun k => dA q rel dd h k t) _ (rowZ_pos (wA_pos _) M).ne' p hp]
  simp only [dw_eq]
  rw [delta_eq]
  rfl

/-- One pattern's share of the gradients of the scores, as the reverse sweep spells it. -/
theorem share_eq (M : ℝ) (p t j : ℕ) (hp : p < 3) (ht : t < 2048) (hj : j < 2048) :
    (dw q rel h p t * dD q dd h t j / rowZ 2048 (pat p t) (dX q rel h t) M
        + (dl q rel dd h p t / rowZ 2048 (pat p t) (dX q rel h t) M
          + -∑ k ∈ Finset.range 2048, dw q rel h p t * dD q dd h t k
            * (1 / (rowZ 2048 (pat p t) (dX q rel h t) M * rowZ 2048 (pat p t) (dX q rel h t) M))
            * (pat p t k * Real.exp (dX q rel h t k - M)))) * (pat p t j * Real.exp (dX q rel h t j - M))
      = dw q rel h p t * dPp q rel h p t j * (dD q dd h t j - inner (headOf dd 0 (8 + h)) (dO q rel h) t t) := by
  have hZ := (rowZ_pos (pA_pos q rel h p t hp ht) M).ne'
  have key := mixture_grad (fun k : Fin 2048 => pat p t k.val * Real.exp (dX q rel h t k.val - M)) (fun k => dD q dd h t k.val)
    (rowZ 2048 (pat p t) (dX q rel h t) M) (dw q rel h p t) (dA q rel dd h p t)
    (inner (headOf dd 0 (8 + h)) (dO q rel h) t t) (dl q rel dd h p t) hZ rfl (by
      simp only [dPp_eq q rel h M p t _ hp ht]
      rw [← dA_eq, Finset.sum_range]) ⟨j, hj⟩
  simp only [dPp_eq q rel h M p t _ hp ht] at key
  rw [Finset.sum_range]
  exact key

theorem dG_eq (t j : ℕ) :
    ∑ p ∈ Finset.range 3, dw q rel h p t * dPp q rel h p t j * (dD q dd h t j - inner (headOf dd 0 (8 + h)) (dO q rel h) t t)
      = dG q rel dd h t j := by
  rw [← Finset.sum_mul, mix]
  rfl

theorem share_masked (p t j : ℕ) (hm : pat p t j ≠ 1) :
    dw q rel h p t * dPp q rel h p t j * (dD q dd h t j - inner (headOf dd 0 (8 + h)) (dO q rel h) t t) = 0 := by
  have h0 : pat p t j = 0 := (pat_or p t j).resolve_right hm
  unfold dPp
  rw [h0, zero_mul, mul_zero, zero_mul]

theorem dv_eq (j d : ℕ) :
    ∑ p ∈ Finset.range 3, ∑ t ∈ Finset.range 2048, dw q rel h p t * headOf dd 0 (8 + h) t d * dPp q rel h p t j
      = dvR 2048 (dP q rel h) (headOf dd 0 (8 + h)) j d := by
  unfold dvR
  rw [Finset.sum_comm]
  refine Finset.sum_congr rfl fun t _ => ?_
  rw [← mix, Finset.mul_sum]
  exact Finset.sum_congr rfl fun _ _ => by ring

end Cert.Ref
-- ==== Proof.Ref.Dil.lean ====
/- The reference's dilated heads, forward: the scores, the three softmaxes, their log-sums, and the mixture. -/
module

public import proofs.«01_k».proof.Proof.Ref.DilReal
public import proofs.«01_k».proof.Proof.Ref.Bias

@[expose] public section

noncomputable section

namespace Cert.Ref

open Cert.ReferenceIdeal Cert.ReferenceIdeal.Gen Cert.ReferenceIdeal.Read
open Idealize.ShloMosaic Idealize.ShloMosaic.ValueIdx Idealize.ShloMosaic.StableHlo Cert.Attn

variable {x0 : (⟨S2048x6144, .bf16⟩ : BufTy).Contents (Elt Ideal)} {x2 : (⟨S32x8, .f32⟩ : BufTy).Contents (Elt Ideal)}
  {q rel : ℕ → ℕ → ℝ} {M : ℕ → ℕ → ℕ → ℝ} {MX : ℕ → ℕ → ℝ}

theorem at_eq3 {f : ℕ → ℕ → ℕ → ℝ} {a a' b b' c c' : ℕ} (ha : a = a') (hb : b = b') (hc : c = c') :
    ((f a b c : ℝ) : EReal) = ((f a' b' c' : ℝ) : EReal) := by rw [ha, hb, hc]

section
variable (H0 : Reads (s := S2048x6144) x0 fun i => q (i 0).val (i 1).val)
  (H2 : Reads (s := S32x8) x2 fun i => rel (i 0).val (i 1).val)
include H0 H2

theorem r127 : Reads (s := S8x2048x2048) (val_main_v127 (F := Ideal) x0 x2) fun i => dX q rel (i 0).val (i 1).val (i 2).val := fun i =>
  (val_main_v127_apply x0 x2 i).trans (e_add
    ((val_main_v88_apply x0 i).trans (e_mul
      ((val_main_v86_apply x0 i).trans ((val_main_v85_apply x0 i).trans ((val_main_v84_apply x0 i).trans
        (e_dot (p := fun d => headOf q 0 (8 + (i 0).val) (i 1).val d) (q := fun d => headOf q 2048 (8 + (i 0).val) (i 2).val d)
          (fun k => r81 H0 (lidx_main_v84 i k)) (fun k => r82 H0 (ridx_main_v84 i k))))))
      ((val_main_v87_apply i).trans ((val_main_cst_14_apply _).trans e_sigma))))
    (r34 H2 i))

theorem r130 (i : S3x8x2048x2048.Idx) : (val_main_v130 (F := Ideal) x0 x2 i : EReal)
    = if pat (i 0).val (i 2).val (i 3).val = 1 then ((dX q rel (i 1).val (i 2).val (i 3).val : ℝ) : EReal) else ⊥ := by
  have hb : (val_main_v129 (F := Ideal) i : EReal) = ⊥ :=
    (val_main_v129_apply i).trans ((val_main_cst_27_apply _).trans e_low)
  have hx : (val_main_v128 (F := Ideal) x0 x2 i : EReal) = ((dX q rel (i 1).val (i 2).val (i 3).val : ℝ) : EReal) :=
    (val_main_v128_apply x0 x2 i).trans (r127 H0 H2 _)
  have hm := mask126_iff i
  rw [val_main_v130_apply]
  unfold Scalar.select pat
  by_cases h : patR (i 0).val (((i 2).val : ℤ) - (i 3).val) = 1
  · rw [if_pos h, if_pos (hm.mpr h)]; exact hx
  · rw [if_neg h, if_neg (fun e => h (hm.mp e))]; exact hb

/-- Every row's maximum is a real. -/
theorem max132 (i : S3x8x2048.Idx) : ∃ m : ℝ, (val_main_v132 (F := Ideal) x0 x2 i : EReal) = (m : EReal) := by
  have hr : S3x8x2048x2048.Reduces [3] S3x8x2048 := by decide
  have hv : ∀ k : Fin 2048, (val_main_v130 (F := Ideal) x0 x2 (hr.lift i k) : EReal)
      = if pat (i 0).val (i 2).val k.val = 1
          then ((dX q rel (i 1).val (i 2).val k.val : ℝ) : EReal) else ⊥ := fun k => r130 H0 H2 _
  have h2 : (i 2).val < 2048 := (i 2).isLt
  obtain ⟨m, hm⟩ := real_of_fold (n := 2048) e_low (fun k => val_main_v130 (F := Ideal) x0 x2 (hr.lift i k)) (fun k => by
    rw [hv]; split_ifs
    · exact EReal.coe_ne_top _
    · exact bot_ne_top) ⟨(i 2).val, h2⟩ (by
    rw [hv, if_pos (pat_self _ _ (i 0).isLt)]
    exact EReal.coe_ne_bot _)
  exact ⟨m, (Host.reduce_eq_fold_single (α := EReal) max (val_main_v130 (F := Ideal) x0 x2) (val_main_cst_29 (F := Ideal))
    reducesTo_S3x8x2048x2048_S3x8x2048_d3 hr h_S_ i).trans hm⟩

section
variable (HM : Reads (s := S3x8x2048) (val_main_v132 (F := Ideal) x0 x2) fun i => M (i 0).val (i 1).val (i 2).val)
include HM

theorem r136 : Reads (s := S3x8x2048x2048) (val_main_v136 (F := Ideal) x0 x2) fun i =>
    pat (i 0).val (i 2).val (i 3).val * Real.exp (dX q rel (i 1).val (i 2).val (i 3).val - M (i 0).val (i 1).val (i 2).val) := fun i =>
  (val_main_v136_apply x0 x2 i).trans ((congrArg _ (val_main_v135_apply x0 x2 i)).trans (e_masked (pat_or _ _ _) (r130 H0 H2 i)
    ((val_main_v134_apply x0 x2 i).trans ((val_main_v133_apply x0 x2 _).trans (HM _)))))

theorem r138 : Reads (s := S3x8x2048x1) (val_main_v138 (F := Ideal) x0 x2) fun i =>
    rowZ 2048 (pat (i 0).val (i 2).val) (dX q rel (i 1).val (i 2).val) (M (i 0).val (i 1).val (i 2).val) := fun i =>
  (val_main_v138_apply x0 x2 i).trans ((val_main_v137_apply x0 x2 _).trans (e_sum ((val_main_cst_30_apply _).trans e_zero)
    (g := fun k => pat (i 0).val (i 2).val k * Real.exp (dX q rel (i 1).val (i 2).val k - M (i 0).val (i 1).val (i 2).val))
    (fun k => r136 H0 H2 HM (idx_main_v137 (idx_main_v138 i) k))))

omit H0 H2 HM in
theorem pz_ne (q rel : ℕ → ℕ → ℝ) (M : ℝ) (h p t : ℕ) (hp : p < 3) (ht : t < 2048) : rowZ 2048 (pat p t) (dX q rel h t) M ≠ 0 :=
  (rowZ_pos (pA_pos q rel h p t hp ht) M).ne'

theorem r145 : Reads (s := S3x8x2048x2048) (val_main_v145 (F := Ideal) x0 x2) fun i =>
    dPp q rel (i 1).val (i 0).val (i 2).val (i 3).val := fun i =>
  (val_main_v145_apply x0 x2 i).trans ((val_main_v144_apply x0 x2 i).trans ((val_main_v140_apply x0 x2 i).trans
    ((e_div (r136 H0 H2 HM i) ((val_main_v139_apply x0 x2 i).trans (r138 H0 H2 HM _))
      (pz_ne q rel (M (i 0).val (i 1).val (i 2).val) (i 1).val (i 0).val (i 2).val (i 0).isLt (i 2).isLt)).trans
      (e_eq (dPp_eq q rel (i 1).val (M (i 0).val (i 1).val (i 2).val) (i 0).val (i 2).val (i 3).val (i 0).isLt (i 2).isLt)))))

theorem r143 : Reads (s := S3x8x2048x1) (val_main_v143 (F := Ideal) x0 x2) fun i =>
    1 / (rowZ 2048 (pat (i 0).val (i 2).val) (dX q rel (i 1).val (i 2).val) (M (i 0).val (i 1).val (i 2).val)
      * rowZ 2048 (pat (i 0).val (i 2).val) (dX q rel (i 1).val (i 2).val) (M (i 0).val (i 1).val (i 2).val)) := fun i =>
  (val_main_v143_apply x0 x2 i).trans (e_div ((val_main_v142_apply i).trans ((val_main_cst_31_apply _).trans e_one))
    ((val_main_v141_apply x0 x2 i).trans (e_mul (r138 H0 H2 HM i) (r138 H0 H2 HM i)))
    (mul_ne_zero (pz_ne q rel (M (i 0).val (i 1).val (i 2).val) (i 1).val (i 0).val (i 2).val (i 0).isLt (i 2).isLt)
      (pz_ne q rel (M (i 0).val (i 1).val (i 2).val) (i 1).val (i 0).val (i 2).val (i 0).isLt (i 2).isLt)))

theorem r149 : Reads (s := S3x2048x8x128) (val_main_v149 (F := Ideal) x0 x2) fun i =>
    dOp q rel (i 2).val (i 0).val (i 1).val (i 3).val := fun i =>
  (val_main_v149_apply x0 x2 i).trans ((val_main_v148_apply x0 x2 i).trans ((val_main_v147_apply x0 x2 i).trans
    ((val_main_v146_apply x0 x2 _).trans
      (e_dot (p := fun j => headOf q 4096 (8 + (i 2).val) j (i 3).val) (q := fun j => dPp q rel (i 2).val (i 0).val (i 1).val j)
        (fun k => r83 H0 (lidx_main_v146 (idx_main_v147 i) k)) (fun k => r145 H0 H2 HM (ridx_main_v146 (idx_main_v147 i) k))))))

theorem r151 : Reads (s := S3x8x2048x1) (val_main_v151 (F := Ideal) x0 x2) fun i =>
    dLp q rel (i 1).val (i 0).val (i 2).val := fun i =>
  (val_main_v151_apply x0 x2 i).trans ((e_add ((val_main_v133_apply x0 x2 i).trans (HM _))
    ((val_main_v150_apply x0 x2 i).trans (e_log (r138 H0 H2 HM i)
      (rowZ_pos (pA_pos q rel (i 1).val (i 0).val (i 2).val (i 0).isLt (i 2).isLt) (M (i 0).val (i 1).val (i 2).val))))).trans
      (e_eq (lse_shift (pA_pos q rel (i 1).val (i 0).val (i 2).val (i 0).isLt (i 2).isLt) (M (i 0).val (i 1).val (i 2).val))))

/-- The patterns' log-sums. -/
theorem r152 : Reads (s := S3x8x2048) (val_main_v152 (F := Ideal) x0 x2) fun i =>
    dLp q rel (i 1).val (i 0).val (i 2).val := fun i =>
  (val_main_v152_apply x0 x2 i).trans ((r151 H0 H2 HM _).trans (at_eq3 (f := fun a b c => dLp q rel a b c)
    (by have h0 : (i 0).val < 3 := (i 0).isLt
        have h1 : (i 1).val < 8 := (i 1).isLt
        have h2 : (i 2).val < 2048 := (i 2).isLt
        show (((i 0).val * 8 + (i 1).val) * 2048 + (i 2).val) / 2048 % 8 = (i 1).val; omega)
    (by have h1 : (i 1).val < 8 := (i 1).isLt
        have h2 : (i 2).val < 2048 := (i 2).isLt
        show (((i 0).val * 8 + (i 1).val) * 2048 + (i 2).val) / 16384 = (i 0).val; omega)
    (by have h2 : (i 2).val < 2048 := (i 2).isLt
        show (((i 0).val * 8 + (i 1).val) * 2048 + (i 2).val) / 1 % 2048 = (i 2).val; omega)))

/-- The largest of the patterns' log-sums is a real. -/
theorem max153 (i : S8x2048.Idx) : ∃ m : ℝ, (val_main_v153 (F := Ideal) x0 x2 i : EReal) = (m : EReal) := by
  have hr : S3x8x2048.Reduces [0] S8x2048 := by decide
  have hv : ∀ k : Fin 3, (val_main_v152 (F := Ideal) x0 x2 (hr.lift i k) : EReal)
      = ((dLp q rel (hr.lift i k 1).val (hr.lift i k 0).val (hr.lift i k 2).val : ℝ) : EReal) := fun k => r152 H0 H2 HM _
  obtain ⟨m, hm⟩ := real_of_fold (n := 3) e_low (fun k => val_main_v152 (F := Ideal) x0 x2 (hr.lift i k)) (fun k => by
    rw [hv]; exact EReal.coe_ne_top _) ⟨0, by decide⟩ (by
    rw [hv]; exact EReal.coe_ne_bot _)
  exact ⟨m, (Host.reduce_eq_fold_single (α := EReal) max (val_main_v152 (F := Ideal) x0 x2) (val_main_cst_32 (F := Ideal))
    reducesTo_S3x8x2048_S8x2048_d0 hr h_S_ i).trans hm⟩

section
variable (HX : Reads (s := S8x2048) (val_main_v153 (F := Ideal) x0 x2) fun i => MX (i 0).val (i 1).val)
include HX

theorem r157 : Reads (s := S3x8x2048) (val_main_v157 (F := Ideal) x0 x2) fun i =>
    1 * Real.exp (dLp q rel (i 1).val (i 0).val (i 2).val - MX (i 1).val (i 2).val) := fun i =>
  (val_main_v157_apply x0 x2 i).trans ((e_exp ((val_main_v156_apply x0 x2 i).trans (e_sub (r152 H0 H2 HM i)
    ((val_main_v155_apply x0 x2 i).trans ((val_main_v154_apply x0 x2 _).trans (HX _)))))).trans (e_eq (one_mul _).symm))

theorem r158 : Reads (s := S8x2048) (val_main_v158 (F := Ideal) x0 x2) fun i =>
    rowZ 3 (fun _ => 1) (fun p => dLp q rel (i 0).val p (i 1).val) (MX (i 0).val (i 1).val) := fun i =>
  (val_main_v158_apply x0 x2 i).trans (e_sum ((val_main_cst_33_apply _).trans e_zero)
    (g := fun p => 1 * Real.exp (dLp q rel (i 0).val p (i 1).val - MX (i 0).val (i 1).val))
    (fun k => r157 H0 H2 HM HX (idx_main_v158 i k)))

theorem r159 : Reads (s := S1x8x2048) (val_main_v159 (F := Ideal) x0 x2) fun i =>
    rowZ 3 (fun _ => 1) (fun p => dLp q rel (i 1).val p (i 2).val) (MX (i 1).val (i 2).val) := fun i =>
  (val_main_v159_apply x0 x2 i).trans (r158 H0 H2 HM HX (idx_main_v159 i))

omit H0 H2 HM HX in
theorem wz_ne (X : ℕ → ℝ) (M : ℝ) : rowZ 3 (fun _ => 1) X M ≠ 0 := (rowZ_pos (wA_pos X) M).ne'

theorem r161 : Reads (s := S3x8x2048) (val_main_v161 (F := Ideal) x0 x2) fun i => dw q rel (i 1).val (i 0).val (i 2).val := fun i =>
  (val_main_v161_apply x0 x2 i).trans ((e_div (r157 H0 H2 HM HX i)
    ((val_main_v160_apply x0 x2 i).trans (r159 H0 H2 HM HX _)) (wz_ne _ _)).trans
      (e_eq (dw_eq q rel (i 1).val (MX (i 1).val (i 2).val) (i 0).val (i 2).val)))

theorem r164 : Reads (s := S1x8x2048) (val_main_v164 (F := Ideal) x0 x2) fun i =>
    1 / (rowZ 3 (fun _ => 1) (fun p => dLp q rel (i 1).val p (i 2).val) (MX (i 1).val (i 2).val)
      * rowZ 3 (fun _ => 1) (fun p => dLp q rel (i 1).val p (i 2).val) (MX (i 1).val (i 2).val)) := fun i =>
  (val_main_v164_apply x0 x2 i).trans (e_div ((val_main_v163_apply i).trans ((val_main_cst_34_apply _).trans e_one))
    ((val_main_v162_apply x0 x2 i).trans (e_mul (r159 H0 H2 HM HX i) (r159 H0 H2 HM HX i)))
    (mul_ne_zero (wz_ne _ _) (wz_ne _ _)))

theorem r168 : Reads (s := S3x2048x8x1) (val_main_v168 (F := Ideal) x0 x2) fun i => dw q rel (i 2).val (i 0).val (i 1).val := fun i =>
  (val_main_v168_apply x0 x2 i).trans ((val_main_v167_apply x0 x2 _).trans ((val_main_v166_apply x0 x2 _).trans
    ((val_main_v165_apply x0 x2 _).trans (r161 H0 H2 HM HX _))))

/-- The dilated heads' outputs. -/
theorem r173 : Reads (s := S2048x8x128) (val_main_v173 (F := Ideal) x0 x2) fun i => dO q rel (i 1).val (i 0).val (i 2).val := fun i =>
  (val_main_v173_apply x0 x2 i).trans ((val_main_v172_apply x0 x2 i).trans ((val_main_v171_apply x0 x2 i).trans
    (e_sum ((val_main_cst_35_apply _).trans e_zero)
      (g := fun p => dw q rel (i 1).val p (i 0).val * dOp q rel (i 1).val p (i 0).val (i 2).val)
      (fun k => (val_main_v170_apply x0 x2 (idx_main_v171 i k)).trans (e_mul
        ((val_main_v169_apply x0 x2 (idx_main_v171 i k)).trans (r168 H0 H2 HM HX (idx_main_v169 (idx_main_v171 i k))))
        (r149 H0 H2 HM (idx_main_v171 i k)))))))

/-- The dilated heads' log-sums. -/
theorem r177 : Reads (s := S8x2048) (val_main_v177 (F := Ideal) x0 x2) fun i => dLL q rel (i 0).val (i 1).val := fun i =>
  (val_main_v177_apply x0 x2 i).trans ((e_add (HX i)
    ((val_main_v176_apply x0 x2 i).trans (e_log (r158 H0 H2 HM HX i) (rowZ_pos (wA_pos _) _)))).trans
      (e_eq (lse_shift (wA_pos (fun p => dLp q rel (i 0).val p (i 1).val)) (MX (i 0).val (i 1).val))))

end
end
end

end Cert.Ref
-- ==== Proof.Ref.DilGrad.lean ====
/- The reference's dilated heads, backward: the gradients of the mixture's weights, of the log-sums and of the scores, and
   from these the gradients of q and k. -/
module

public import proofs.«01_k».proof.Proof.Ref.Dil

@[expose] public section

noncomputable section

namespace Cert.Ref

open Cert.ReferenceIdeal Cert.ReferenceIdeal.Gen Cert.ReferenceIdeal.Read
open Idealize.ShloMosaic Idealize.ShloMosaic.ValueIdx Idealize.ShloMosaic.StableHlo Cert.Attn

variable {x0 : (⟨S2048x6144, .bf16⟩ : BufTy).Contents (Elt Ideal)} {x2 : (⟨S32x8, .f32⟩ : BufTy).Contents (Elt Ideal)}
  {x3 : (⟨S2048x2048, .bf16⟩ : BufTy).Contents (Elt Ideal)}
  {q rel dd : ℕ → ℕ → ℝ} {M : ℕ → ℕ → ℕ → ℝ} {MX : ℕ → ℕ → ℝ}

theorem r185 (H3 : Reads (s := S2048x2048) x3 fun i => dd (i 0).val (i 1).val) :
    Reads (s := S3x2048x8x128) (val_main_v185 (F := Ideal) x3) fun i =>
      headOf dd 0 (8 + (i 2).val) (i 1).val (i 3).val := fun i =>
  (val_main_v185_apply x3 i).trans (r184 H3 (idx_main_v185 i))

section
variable (H0 : Reads (s := S2048x6144) x0 fun i => q (i 0).val (i 1).val)
  (H2 : Reads (s := S32x8) x2 fun i => rel (i 0).val (i 1).val)
  (HM : Reads (s := S3x8x2048) (val_main_v132 (F := Ideal) x0 x2) fun i => M (i 0).val (i 1).val (i 2).val)
  (HX : Reads (s := S8x2048) (val_main_v153 (F := Ideal) x0 x2) fun i => MX (i 0).val (i 1).val)
  (H3 : Reads (s := S2048x2048) x3 fun i => dd (i 0).val (i 1).val)
include H0 H2 HM HX H3

theorem r187 : Reads (s := S3x2048x8x128) (val_main_v187 (F := Ideal) x0 x2 x3) fun i =>
    dw q rel (i 2).val (i 0).val (i 1).val * headOf dd 0 (8 + (i 2).val) (i 1).val (i 3).val := fun i =>
  (val_main_v187_apply x0 x2 x3 i).trans (e_mul ((val_main_v186_apply x0 x2 i).trans (r168 H0 H2 HM HX (idx_main_v186 i)))
    (r185 H3 i))

omit HX in
theorem r189 : Reads (s := S3x2048x8) (val_main_v189 (F := Ideal) x0 x2 x3) fun i =>
    dA q rel dd (i 2).val (i 0).val (i 1).val := fun i =>
  (val_main_v189_apply x0 x2 x3 i).trans (e_sum ((val_main_cst_36_apply _).trans e_zero)
    (g := fun d => headOf dd 0 (8 + (i 2).val) (i 1).val d * dOp q rel (i 2).val (i 0).val (i 1).val d)
    (fun k => (val_main_v188_apply x0 x2 x3 (idx_main_v189 i k)).trans (e_mul (r185 H3 (idx_main_v189 i k))
      (r149 H0 H2 HM (idx_main_v189 i k)))))

omit HX in
theorem r190 : Reads (s := S3x2048x8x1) (val_main_v190 (F := Ideal) x0 x2 x3) fun i =>
    dA q rel dd (i 2).val (i 0).val (i 1).val := fun i =>
  (val_main_v190_apply x0 x2 x3 i).trans ((r189 H0 H2 HM H3 (idx_main_v190 i)).trans (at_eq3 (f := fun a b c => dA q rel dd a b c)
    (by have h0 : (i 0).val < 3 := (i 0).isLt
        have h1 : (i 1).val < 2048 := (i 1).isLt
        have h2 : (i 2).val < 8 := (i 2).isLt
        have h3 : (i 3).val < 1 := (i 3).isLt
        show ((((i 0).val * 2048 + (i 1).val) * 8 + (i 2).val) * 1 + (i 3).val) % 8 = (i 2).val; omega)
    (by have h0 : (i 0).val < 3 := (i 0).isLt
        have h1 : (i 1).val < 2048 := (i 1).isLt
        have h2 : (i 2).val < 8 := (i 2).isLt
        have h3 : (i 3).val < 1 := (i 3).isLt
        show ((((i 0).val * 2048 + (i 1).val) * 8 + (i 2).val) * 1 + (i 3).val) / 16384 = (i 0).val; omega)
    (by have h0 : (i 0).val < 3 := (i 0).isLt
        have h1 : (i 1).val < 2048 := (i 1).isLt
        have h2 : (i 2).val < 8 := (i 2).isLt
        have h3 : (i 3).val < 1 := (i 3).isLt
        show ((((i 0).val * 2048 + (i 1).val) * 8 + (i 2).val) * 1 + (i 3).val) / 8 % 2048 = (i 1).val; omega)))

omit HX in
/-- The gradients of the mixture's weights. -/
theorem r194 : Reads (s := S3x8x2048) (val_main_v194 (F := Ideal) x0 x2 x3) fun i =>
    dA q rel dd (i 1).val (i 0).val (i 2).val := fun i =>
  (val_main_v194_apply x0 x2 x3 i).trans ((val_main_v193_apply x0 x2 x3 _).trans ((val_main_v192_apply x0 x2 x3 _).trans
    ((val_main_v191_apply x0 x2 x3 _).trans (e_one_term ((val_main_cst_37_apply _).trans e_zero)
      (fun k => r190 H0 H2 HM H3 (idx_main_v191 (idx_main_v194 i) k))))))

theorem r200 : Reads (s := S1x8x2048) (val_main_v200 (F := Ideal) x0 x2 x3) fun i =>
    -∑ k ∈ Finset.range 3, dA q rel dd (i 1).val k (i 2).val
      * (1 / (rowZ 3 (fun _ => 1) (fun p => dLp q rel (i 1).val p (i 2).val) (MX (i 1).val (i 2).val)
          * rowZ 3 (fun _ => 1) (fun p => dLp q rel (i 1).val p (i 2).val) (MX (i 1).val (i 2).val)))
      * (1 * Real.exp (dLp q rel (i 1).val k (i 2).val - MX (i 1).val (i 2).val)) := fun i => by
  refine (val_main_v200_apply x0 x2 x3 i).trans (e_neg ((val_main_v199_apply x0 x2 x3 i).trans ?_))
  have e : idx_main_v199 i = ix2 (i 1) (i 2) := by
    have h0 : (i 0).val < 1 := (i 0).isLt
    have h1 : (i 1).val < 8 := (i 1).isLt
    have h2 : (i 2).val < 2048 := (i 2).isLt
    funext k; apply Fin.ext
    match k with
    | ⟨0, _⟩ => show (((i 0).val * 8 + (i 1).val) * 2048 + (i 2).val) / 2048 = (i 1).val; omega
    | ⟨1, _⟩ => show (((i 0).val * 8 + (i 1).val) * 2048 + (i 2).val) % 2048 = (i 2).val; omega
  rw [e]
  exact (val_main_v198_apply x0 x2 x3 _).trans (e_sum ((val_main_cst_38_apply _).trans e_zero)
    (g := fun k => dA q rel dd (i 1).val k (i 2).val
      * (1 / (rowZ 3 (fun _ => 1) (fun p => dLp q rel (i 1).val p (i 2).val) (MX (i 1).val (i 2).val)
          * rowZ 3 (fun _ => 1) (fun p => dLp q rel (i 1).val p (i 2).val) (MX (i 1).val (i 2).val)))
      * (1 * Real.exp (dLp q rel (i 1).val k (i 2).val - MX (i 1).val (i 2).val)))
    (fun k => (val_main_v197_apply x0 x2 x3 (idx_main_v198 (ix2 (i 1) (i 2)) k)).trans (e_mul
      ((val_main_v196_apply x0 x2 x3 (idx_main_v198 (ix2 (i 1) (i 2)) k)).trans (e_mul
        (r194 H0 H2 HM H3 (idx_main_v198 (ix2 (i 1) (i 2)) k))
        ((val_main_v195_apply x0 x2 (idx_main_v198 (ix2 (i 1) (i 2)) k)).trans
          (r164 H0 H2 HM HX (idx_main_v195 (idx_main_v198 (ix2 (i 1) (i 2)) k))))))
      (r157 H0 H2 HM HX (idx_main_v198 (ix2 (i 1) (i 2)) k)))))

/-- The gradients of the patterns' log-sums. -/
theorem r206 : Reads (s := S3x8x2048) (val_main_v206 (F := Ideal) x0 x2 x3) fun i =>
    dl q rel dd (i 1).val (i 0).val (i 2).val := fun i =>
  (val_main_v206_apply x0 x2 x3 i).trans ((e_mul ((val_main_v205_apply x0 x2 x3 i).trans (e_add
    ((val_main_v202_apply x0 x2 x3 i).trans (e_div (r194 H0 H2 HM H3 i)
      ((val_main_v201_apply x0 x2 i).trans (r159 H0 H2 HM HX (idx_main_v201 i))) (wz_ne _ _)))
    ((val_main_v204_apply x0 x2 x3 i).trans ((val_main_v203_apply x0 x2 x3 _).trans
      (e_one_term ((val_main_cst_39_apply _).trans e_zero)
        (fun k => r200 H0 H2 HM HX H3 (idx_main_v203 (idx_main_v204 i) k)))))))
    (r157 H0 H2 HM HX i)).trans
      (e_eq (dl_eq q rel dd (i 1).val (MX (i 1).val (i 2).val) (i 0).val (i 2).val (i 0).isLt)))

theorem r208 : Reads (s := S3x8x2048x1) (val_main_v208 (F := Ideal) x0 x2 x3) fun i =>
    dl q rel dd (i 1).val (i 0).val (i 2).val
      / rowZ 2048 (pat (i 0).val (i 2).val) (dX q rel (i 1).val (i 2).val) (M (i 0).val (i 1).val (i 2).val) := fun i =>
  (val_main_v208_apply x0 x2 x3 i).trans (e_div ((val_main_v207_apply x0 x2 x3 i).trans (r206 H0 H2 HM HX H3 (idx_main_v207 i)))
    (r138 H0 H2 HM i) (pz_ne q rel (M (i 0).val (i 1).val (i 2).val) (i 1).val (i 0).val (i 2).val (i 0).isLt (i 2).isLt))

theorem r211 : Reads (s := S8x128x3x2048) (val_main_v211 (F := Ideal) x0 x2 x3) fun i =>
    dw q rel (i 0).val (i 2).val (i 3).val * headOf dd 0 (8 + (i 0).val) (i 3).val (i 1).val := fun i =>
  (val_main_v211_apply x0 x2 x3 i).trans ((val_main_v210_apply x0 x2 x3 _).trans ((val_main_v209_apply x0 x2 x3 _).trans
    (r187 H0 H2 HM HX H3 (idx_main_v211 i))))

omit H0 H2 HM HX H3 in
theorem wD_eq (q rel dd : ℕ → ℕ → ℝ) (h p t j : ℕ) :
    ∑ d ∈ Finset.range 128, dw q rel h p t * headOf dd 0 (8 + h) t d * headOf q 4096 (8 + h) j d
      = dw q rel h p t * dD q dd h t j := by
  unfold dD Cert.Attn.inner
  rw [Finset.mul_sum]
  exact Finset.sum_congr rfl fun _ _ => by ring

theorem r217 : Reads (s := S3x8x2048x2048) (val_main_v217 (F := Ideal) x0 x2 x3) fun i =>
    dw q rel (i 1).val (i 0).val (i 2).val * dD q dd (i 1).val (i 2).val (i 3).val := fun i =>
  (val_main_v217_apply x0 x2 x3 i).trans ((val_main_v216_apply x0 x2 x3 i).trans ((val_main_v213_apply x0 x2 x3 i).trans
    ((val_main_v212_apply x0 x2 x3 _).trans
      ((e_dot (p := fun d => dw q rel (i 1).val (i 0).val (i 2).val * headOf dd 0 (8 + (i 1).val) (i 2).val d)
        (q := fun d => headOf q 4096 (8 + (i 1).val) (i 3).val d)
        (fun k => r211 H0 H2 HM HX H3 (lidx_main_v212 (idx_main_v213 i) k))
        (fun k => r83 H0 (ridx_main_v212 (idx_main_v213 i) k))).trans
        (e_eq (wD_eq q rel dd (i 1).val (i 0).val (i 2).val (i 3).val))))))

theorem r221 : Reads (s := S3x8x2048) (val_main_v221 (F := Ideal) x0 x2 x3) fun i =>
    ∑ k ∈ Finset.range 2048, dw q rel (i 1).val (i 0).val (i 2).val * dD q dd (i 1).val (i 2).val k
      * (1 / (rowZ 2048 (pat (i 0).val (i 2).val) (dX q rel (i 1).val (i 2).val) (M (i 0).val (i 1).val (i 2).val)
          * rowZ 2048 (pat (i 0).val (i 2).val) (dX q rel (i 1).val (i 2).val) (M (i 0).val (i 1).val (i 2).val)))
      * (pat (i 0).val (i 2).val k * Real.exp (dX q rel (i 1).val (i 2).val k - M (i 0).val (i 1).val (i 2).val)) := fun i =>
  (val_main_v221_apply x0 x2 x3 i).trans (e_sum ((val_main_cst_40_apply _).trans e_zero)
    (g := fun k => dw q rel (i 1).val (i 0).val (i 2).val * dD q dd (i 1).val (i 2).val k
      * (1 / (rowZ 2048 (pat (i 0).val (i 2).val) (dX q rel (i 1).val (i 2).val) (M (i 0).val (i 1).val (i 2).val)
          * rowZ 2048 (pat (i 0).val (i 2).val) (dX q rel (i 1).val (i 2).val) (M (i 0).val (i 1).val (i 2).val)))
      * (pat (i 0).val (i 2).val k * Real.exp (dX q rel (i 1).val (i 2).val k - M (i 0).val (i 1).val (i 2).val)))
    (fun k => (val_main_v220_apply x0 x2 x3 (idx_main_v221 i k)).trans (e_mul
      ((val_main_v219_apply x0 x2 x3 (idx_main_v221 i k)).trans (e_mul (r217 H0 H2 HM HX H3 (idx_main_v221 i k))
        ((val_main_v218_apply x0 x2 (idx_main_v221 i k)).trans (r143 H0 H2 HM (idx_main_v218 (idx_main_v221 i k))))))
      (r136 H0 H2 HM (idx_main_v221 i k)))))

theorem r224 : Reads (s := S3x8x2048x1) (val_main_v224 (F := Ideal) x0 x2 x3) fun i =>
    dl q rel dd (i 1).val (i 0).val (i 2).val
      / rowZ 2048 (pat (i 0).val (i 2).val) (dX q rel (i 1).val (i 2).val) (M (i 0).val (i 1).val (i 2).val)
    + -∑ k ∈ Finset.range 2048, dw q rel (i 1).val (i 0).val (i 2).val * dD q dd (i 1).val (i 2).val k
      * (1 / (rowZ 2048 (pat (i 0).val (i 2).val) (dX q rel (i 1).val (i 2).val) (M (i 0).val (i 1).val (i 2).val)
          * rowZ 2048 (pat (i 0).val (i 2).val) (dX q rel (i 1).val (i 2).val) (M (i 0).val (i 1).val (i 2).val)))
      * (pat (i 0).val (i 2).val k * Real.exp (dX q rel (i 1).val (i 2).val k - M (i 0).val (i 1).val (i 2).val)) := fun i => by
  refine (val_main_v224_apply x0 x2 x3 i).trans (e_add (r208 H0 H2 HM HX H3 i)
    ((val_main_v223_apply x0 x2 x3 i).trans (e_neg ((val_main_v222_apply x0 x2 x3 i).trans ?_))))
  have e : idx_main_v222 i = ix3 (i 0) (i 1) (i 2) := by
    have h0 : (i 0).val < 3 := (i 0).isLt
    have h1 : (i 1).val < 8 := (i 1).isLt
    have h2 : (i 2).val < 2048 := (i 2).isLt
    have h3 : (i 3).val < 1 := (i 3).isLt
    funext k; apply Fin.ext
    match k with
    | ⟨0, _⟩ => show ((((i 0).val * 8 + (i 1).val) * 2048 + (i 2).val) * 1 + (i 3).val) / 16384 = (i 0).val; omega
    | ⟨1, _⟩ => show ((((i 0).val * 8 + (i 1).val) * 2048 + (i 2).val) * 1 + (i 3).val) / 2048 % 8 = (i 1).val; omega
    | ⟨2, _⟩ => show ((((i 0).val * 8 + (i 1).val) * 2048 + (i 2).val) * 1 + (i 3).val) % 2048 = (i 2).val; omega
  rw [e]
  exact r221 H0 H2 HM HX H3 (ix3 (i 0) (i 1) (i 2))

/-- One pattern's share of the gradients of the scores. -/
theorem r230 : Reads (s := S3x8x2048x2048) (val_main_v230 (F := Ideal) x0 x2 x3) fun i =>
    dw q rel (i 1).val (i 0).val (i 2).val * dPp q rel (i 1).val (i 0).val (i 2).val (i 3).val
      * (dD q dd (i 1).val (i 2).val (i 3).val
        - Cert.Attn.inner (headOf dd 0 (8 + (i 1).val)) (dO q rel (i 1).val) (i 2).val (i 2).val) := fun i =>
  (val_main_v230_apply x0 x2 x3 i).trans ((e_mul ((val_main_v229_apply x0 x2 x3 i).trans (e_add
    ((val_main_v226_apply x0 x2 x3 i).trans (e_div (r217 H0 H2 HM HX H3 i)
      ((val_main_v225_apply x0 x2 i).trans (r138 H0 H2 HM (idx_main_v225 i)))
      (pz_ne q rel (M (i 0).val (i 1).val (i 2).val) (i 1).val (i 0).val (i 2).val (i 0).isLt (i 2).isLt)))
    ((val_main_v228_apply x0 x2 x3 i).trans ((val_main_v227_apply x0 x2 x3 _).trans
      (e_one_term ((val_main_cst_41_apply _).trans e_zero)
        (fun k => r224 H0 H2 HM HX H3 (idx_main_v227 (idx_main_v228 i) k)))))))
    (r136 H0 H2 HM i)).trans
      (e_eq (share_eq q rel dd (i 1).val (M (i 0).val (i 1).val (i 2).val) (i 0).val (i 2).val (i 3).val (i 0).isLt (i 2).isLt
        (i 3).isLt)))

theorem r232 : Reads (s := S3x8x2048x2048) (val_main_v232 (F := Ideal) x0 x2 x3) fun i =>
    dw q rel (i 1).val (i 0).val (i 2).val * dPp q rel (i 1).val (i 0).val (i 2).val (i 3).val
      * (dD q dd (i 1).val (i 2).val (i 3).val
        - Cert.Attn.inner (headOf dd 0 (8 + (i 1).val)) (dO q rel (i 1).val) (i 2).val (i 2).val) := fun i => by
  have hz : (val_main_v231 (F := Ideal) i : EReal) = ((0 : ℝ) : EReal) :=
    (val_main_v231_apply i).trans ((val_main_cst_42_apply _).trans e_zero)
  have hg := r230 H0 H2 HM HX H3 i
  have hm := mask126_iff i
  show (_ : EReal) = _
  rw [val_main_v232_apply]
  unfold Scalar.select
  by_cases h : patR (i 0).val (((i 2).val : ℤ) - (i 3).val) = 1
  · rw [if_pos (hm.mpr h)]; exact hg
  · rw [if_neg (fun e => h (hm.mp e))]
    exact hz.trans (e_eq (share_masked q rel dd (i 1).val (i 0).val (i 2).val (i 3).val h).symm)

/-- The dilated heads' gradients of the scores. -/
theorem r233 : Reads (s := S8x2048x2048) (val_main_v233 (F := Ideal) x0 x2 x3) fun i =>
    dG q rel dd (i 0).val (i 1).val (i 2).val := fun i =>
  (val_main_v233_apply x0 x2 x3 i).trans ((e_sum ((val_main_cst_43_apply _).trans e_zero)
    (g := fun p => dw q rel (i 0).val p (i 1).val * dPp q rel (i 0).val p (i 1).val (i 2).val
      * (dD q dd (i 0).val (i 1).val (i 2).val
        - Cert.Attn.inner (headOf dd 0 (8 + (i 0).val)) (dO q rel (i 0).val) (i 1).val (i 1).val))
    (fun k => r232 H0 H2 HM HX H3 (idx_main_v233 i k))).trans (e_eq (dG_eq q rel dd (i 0).val (i 1).val (i 2).val)))

theorem r237 : Reads (s := S8x2048x2048) (val_main_v237 (F := Ideal) x0 x2 x3) fun i =>
    dG q rel dd (i 0).val (i 1).val (i 2).val * sigma := fun i =>
  (val_main_v237_apply x0 x2 x3 i).trans ((val_main_v236_apply x0 x2 x3 i).trans ((val_main_v235_apply x0 x2 x3 i).trans
    (e_mul (r233 H0 H2 HM HX H3 i) ((val_main_v234_apply i).trans ((val_main_cst_44_apply _).trans e_sigma)))))

/-- The dilated heads' gradient of k. -/
theorem r239 : Reads (s := S2048x8x128) (val_main_v239 (F := Ideal) x0 x2 x3) fun i =>
    dkR 2048 (dG q rel dd (i 1).val) (headOf q 0 (8 + (i 1).val)) (i 0).val (i 2).val := fun i =>
  (val_main_v239_apply x0 x2 x3 i).trans ((val_main_v238_apply x0 x2 x3 _).trans
    ((e_dot (p := fun t => dG q rel dd (i 1).val t (i 0).val * sigma) (q := fun t => headOf q 0 (8 + (i 1).val) t (i 2).val)
      (fun k => r237 H0 H2 HM HX H3 (lidx_main_v238 (idx_main_v239 i) k)) (fun k => r81 H0 (ridx_main_v238 (idx_main_v239 i) k))).trans
      (e_eq (dk_eq (dG q rel dd (i 1).val) (headOf q 0 (8 + (i 1).val)) (i 0).val (i 2).val))))

/-- The dilated heads' gradient of q. -/
theorem r241 : Reads (s := S2048x8x128) (val_main_v241 (F := Ideal) x0 x2 x3) fun i =>
    dqR (dG q rel dd (i 1).val) (headOf q 2048 (8 + (i 1).val)) (i 0).val (i 2).val := fun i =>
  (val_main_v241_apply x0 x2 x3 i).trans ((val_main_v240_apply x0 x2 x3 _).trans
    ((e_dot (p := fun j => dG q rel dd (i 1).val (i 0).val j * sigma) (q := fun j => headOf q 2048 (8 + (i 1).val) j (i 2).val)
      (fun k => r237 H0 H2 HM HX H3 (lidx_main_v240 (idx_main_v241 i) k)) (fun k => r82 H0 (ridx_main_v240 (idx_main_v241 i) k))).trans
      (e_eq (dq_eq (dG q rel dd (i 1).val) (headOf q 2048 (8 + (i 1).val)) (i 0).val (i 2).val))))

end

end Cert.Ref
-- ==== Proof.Ref.TwoAxis.lean ====
/- The reference's two products that sum over a pair of axes, each as a double sum. -/
module

public import proofs.«01_k».proof.Proof.Gen.ReferenceIdeal.Read
public import Idealize.ShloMosaic.Lib.TwoAxisContraction

@[expose] public section

noncomputable section

namespace Cert.Ref

open Cert.ReferenceIdeal Cert.ReferenceIdeal.Gen Cert.ReferenceIdeal.Read
open Idealize.ShloMosaic Idealize.ShloMosaic.ValueIdx Idealize.ShloMosaic.StableHlo

abbrev D214 := dot_S8x128x3x2048_S3x8x2048x2048_S8x128x2048_23_02_1_3_0_1
abbrev D303 := dot_S8x8x8_S8x8x256x8x256_S8x8x256x256_01_13_2_024_n_n

/-- A sum over patterns and rows. -/
theorem dot214 (l : S8x128x3x2048.Idx → EReal) (r : S3x8x2048x2048.Idx → EReal) (i : S8x128x2048.Idx) :
    Host.dotGeneral (F := Ideal) (φ₁ := .f32) (φ₂ := .f32) D214 none l r i
      = ∑ a : Fin 3, ∑ b : Fin 2048, l (ix4 (i 0) (i 1) a b) * r (ix4 a (i 0) b (i 2)) := by
  simp only [Host.dotGeneral]
  rw [Ideal.dotGeneral_apply, sum_contr2 D214 3 2048 rfl rfl rfl]
  refine Finset.sum_congr rfl fun a _ => Finset.sum_congr rfl fun b _ => ?_
  have h0 := contrEquiv2_symm_val0 D214 3 2048 rfl rfl rfl (a, b)
  have h1 := contrEquiv2_symm_val1 D214 3 2048 rfl rfl rfl (a, b)
  generalize (contrEquiv2 D214 3 2048 rfl rfl rfl).symm (a, b) = k at h0 h1
  have el : (D214).lhsIdx i k = ix4 (i 0) (i 1) a b := funext fun x => Fin.ext (by
    match x with
    | ⟨0, _⟩ => rfl
    | ⟨1, _⟩ => rfl
    | ⟨2, _⟩ => exact h0
    | ⟨3, _⟩ => exact h1)
  have er : (D214).rhsIdx i k = ix4 a (i 0) b (i 2) := funext fun x => Fin.ext (by
    match x with
    | ⟨0, _⟩ => exact h0
    | ⟨1, _⟩ => rfl
    | ⟨2, _⟩ => exact h1
    | ⟨3, _⟩ => rfl)
  rw [el, er]
  rfl

/-- A sum over pairs of blocks. -/
theorem dot303 (l : S8x8x8.Idx → EReal) (r : S8x8x256x8x256.Idx → EReal) (i : S8x8x256x256.Idx) :
    Host.dotGeneral (F := Ideal) (φ₁ := .f32) (φ₂ := .f32) D303 none l r i
      = ∑ a : Fin 8, ∑ b : Fin 8, l (ix3 a b (i 0)) * r (ix5 (i 1) a (i 2) b (i 3)) := by
  simp only [Host.dotGeneral]
  rw [Ideal.dotGeneral_apply, sum_contr2 D303 8 8 rfl rfl rfl]
  refine Finset.sum_congr rfl fun a _ => Finset.sum_congr rfl fun b _ => ?_
  have h0 := contrEquiv2_symm_val0 D303 8 8 rfl rfl rfl (a, b)
  have h1 := contrEquiv2_symm_val1 D303 8 8 rfl rfl rfl (a, b)
  generalize (contrEquiv2 D303 8 8 rfl rfl rfl).symm (a, b) = k at h0 h1
  have el : (D303).lhsIdx i k = ix3 a b (i 0) := funext fun x => Fin.ext (by
    match x with
    | ⟨0, _⟩ => exact h0
    | ⟨1, _⟩ => exact h1
    | ⟨2, _⟩ => rfl)
  have er : (D303).rhsIdx i k = ix5 (i 1) a (i 2) b (i 3) := funext fun x => Fin.ext (by
    match x with
    | ⟨0, _⟩ => rfl
    | ⟨1, _⟩ => exact h0
    | ⟨2, _⟩ => rfl
    | ⟨3, _⟩ => exact h1
    | ⟨4, _⟩ => rfl)
  rw [el, er]
  rfl

end Cert.Ref
-- ==== Proof.Ref.Results.lean ====
/- The reference's results, element by element as reals: the two groups of heads side by side, and the tiles. -/
module

public import proofs.«01_k».proof.Proof.Ref.FoxGrad
public import proofs.«01_k».proof.Proof.Ref.DilGrad
public import proofs.«01_k».proof.Proof.Ref.TwoAxis
public import Idealize.ShloMosaic.Lib.KernelVsHost

@[expose] public section

noncomputable section

namespace Cert.Ref

open Cert.ReferenceIdeal Cert.ReferenceIdeal.Gen Cert.ReferenceIdeal.Read
open Idealize.ShloMosaic Idealize.ShloMosaic.ValueIdx Idealize.ShloMosaic.StableHlo Cert.Attn

/-- The whole number zero, as a float. -/
theorem e_word0 : FloatOps.sitofp (F := Ideal) .f32 (0#32) = ((0 : ℝ) : EReal) := by
  show ((((0#32 : BitVec 32).toInt : ℤ) : ℝ) : EReal) = _
  simp

/-- The eight forgetting heads and, after them, the eight dilated heads. -/
def both {α : Type} (f g : ℕ → α) (h : ℕ) : α := if h < 8 then f h else g (h - 8)

/-- Two groups of heads, each padded with zeros to all sixteen, added. -/
theorem join_heads {lo hi : S2048x8x128.Idx → EReal} {f g : ℕ → ℕ → ℕ → ℝ}
    (hlo : Reads lo fun i => f (i 1).val (i 0).val (i 2).val) (hhi : Reads hi fun i => g (i 1).val (i 0).val (i 2).val)
    {z z' : S_.Idx → EReal} (hz : ∀ i, z i = ((0 : ℝ) : EReal)) (hz' : ∀ i, z' i = ((0 : ℝ) : EReal)) :
    Reads (s := S2048x16x128) (addf (F := Ideal) (φ := .f32)
      (pad S2048x16x128 ![0, 8, 0] ![0, 0, 0] ![0, 0, 0] hi z pads_S2048x8x128_S2048x16x128_000_800_000 h_S_)
      (pad S2048x16x128 ![0, 0, 0] ![0, 8, 0] ![0, 0, 0] lo z' pads_S2048x8x128_S2048x16x128_000_080_000 h_S_))
      fun i => both f g (i 1).val (i 0).val (i 2).val := fun i => by
  have h1 : (i 1).val < 16 := (i 1).isLt
  unfold both
  by_cases h : (i 1).val < 8
  · beta_reduce
    rw [if_pos h]
    have ea : pad S2048x16x128 ![0, 8, 0] ![0, 0, 0] ![0, 0, 0] hi z pads_S2048x8x128_S2048x16x128_000_800_000 h_S_ i = ((0 : ℝ) : EReal) :=
      (pad_apply_of_not_inside _ _ _ hi z _ h_S_ i (1 : Fin 3) (fun hc => by
        have h8 : 8 ≤ (i 1).val := hc.1
        omega)).trans (hz _)
    have eb : pad S2048x16x128 ![0, 0, 0] ![0, 8, 0] ![0, 0, 0] lo z' pads_S2048x8x128_S2048x16x128_000_080_000 h_S_ i
        = ((f (i 1).val (i 0).val (i 2).val : ℝ) : EReal) :=
      (pad_apply_of_inside _ _ _ lo z' _ h_S_ i (ix3 (i 0) (⟨(i 1).val, h⟩ : Fin 8) (i 2)) (fun a => by
        match a with
        | ⟨0, _⟩ => show (i 0).val = 0 + (i 0).val * (0 + 1); omega
        | ⟨1, _⟩ => show (i 1).val = 0 + (i 1).val * (0 + 1); omega
        | ⟨2, _⟩ => show (i 2).val = 0 + (i 2).val * (0 + 1); omega)).trans (hlo _)
    exact (e_add ea eb).trans (e_eq (zero_add _))
  · beta_reduce
    rw [if_neg h]
    have ea : pad S2048x16x128 ![0, 8, 0] ![0, 0, 0] ![0, 0, 0] hi z pads_S2048x8x128_S2048x16x128_000_800_000 h_S_ i
        = ((g ((i 1).val - 8) (i 0).val (i 2).val : ℝ) : EReal) :=
      (pad_apply_of_inside _ _ _ hi z _ h_S_ i (ix3 (i 0) (⟨(i 1).val - 8, by omega⟩ : Fin 8) (i 2)) (fun a => by
        match a with
        | ⟨0, _⟩ => show (i 0).val = 0 + (i 0).val * (0 + 1); omega
        | ⟨1, _⟩ => show (i 1).val = 8 + ((i 1).val - 8) * (0 + 1); omega
        | ⟨2, _⟩ => show (i 2).val = 0 + (i 2).val * (0 + 1); omega)).trans (hhi _)
    have eb : pad S2048x16x128 ![0, 0, 0] ![0, 8, 0] ![0, 0, 0] lo z' pads_S2048x8x128_S2048x16x128_000_080_000 h_S_ i = ((0 : ℝ) : EReal) :=
      (pad_apply_of_not_inside _ _ _ lo z' _ h_S_ i (1 : Fin 3) (fun hc => by
        have h8 : ((i 1).val - 0) / (0 + 1) < 8 := hc.2.2
        omega)).trans (hz' _)
    exact (e_add ea eb).trans (e_eq (add_zero _))

theorem flat_head (n : ℕ) (hn : n < 2048) (t : ℕ) : (t * 2048 + n) / 128 % 16 = n / 128 := by omega

/-- The columns of the heads one after the other. -/
theorem flat_heads {v : S2048x16x128.Idx → EReal} {f : ℕ → ℕ → ℕ → ℝ} (hv : Reads v fun i => f (i 1).val (i 0).val (i 2).val)
    (i : S2048x2048.Idx) : v (idx_main_v290 i) = ((f ((i 1).val / 128) (i 0).val ((i 1).val % 128) : ℝ) : EReal) :=
  (hv _).trans (at_eq3 (f := f)
    (by have h1 : (i 1).val < 2048 := (i 1).isLt
        show ((i 0).val * 2048 + (i 1).val) / 128 % 16 = (i 1).val / 128; omega)
    (by have h1 : (i 1).val < 2048 := (i 1).isLt
        show ((i 0).val * 2048 + (i 1).val) / 2048 = (i 0).val; omega)
    (by show ((i 0).val * 2048 + (i 1).val) % 128 = (i 1).val % 128; omega))

section reals
variable (q cc rel dd : ℕ → ℕ → ℝ)

/-- The gradient of q, of all heads. -/
def gQ : ℕ → ℕ → ℕ → ℝ :=
  both (fun h => dqR (fG q cc dd h) (headOf q 2048 h)) (fun h => dqR (dG q rel dd h) (headOf q 2048 (8 + h)))

/-- The gradient of k, of all heads. -/
def gK : ℕ → ℕ → ℕ → ℝ :=
  both (fun h => dkR 2048 (fG q cc dd h) (headOf q 0 h)) (fun h => dkR 2048 (dG q rel dd h) (headOf q 0 (8 + h)))

/-- The gradient of v, of all heads. -/
def gV : ℕ → ℕ → ℕ → ℝ :=
  both (fun h => dvR 2048 (fP q cc h) (headOf dd 0 h)) (fun h => dvR 2048 (dP q rel h) (headOf dd 0 (8 + h)))

/-- The gradient of c, of all heads. -/
def gC : ℕ → ℕ → ℝ := both (fun h => dctR 2048 (fG q cc dd h)) (fun _ _ => 0)

/-- The gradients of the tiles: none of the causal mask, then each dilated head's. -/
def gT : ℕ → ℕ → ℕ → ℕ → ℝ := fun s k r c => if s = 0 then 0 else tileR 8 (dG q rel dd (s - 1)) k r c

end reals

variable {x0 : (⟨S2048x6144, .bf16⟩ : BufTy).Contents (Elt Ideal)} {x1 : (⟨S2048x8, .f32⟩ : BufTy).Contents (Elt Ideal)}
  {x2 : (⟨S32x8, .f32⟩ : BufTy).Contents (Elt Ideal)} {x3 : (⟨S2048x2048, .bf16⟩ : BufTy).Contents (Elt Ideal)}
  {q cc rel dd : ℕ → ℕ → ℝ}

section
variable (H0 : Reads (s := S2048x6144) x0 fun i => q (i 0).val (i 1).val)
  (H1 : Reads (s := S2048x8) x1 fun i => cc (i 0).val (i 1).val)
  (H2 : Reads (s := S32x8) x2 fun i => rel (i 0).val (i 1).val)
  (H3 : Reads (s := S2048x2048) x3 fun i => dd (i 0).val (i 1).val)

include H0 H1 in
theorem fox_max : ∃ M : ℕ → ℕ → ℝ, Reads (s := S8x2048) (val_main_v60 (F := Ideal) x0 x1) fun i => M (i 0).val (i 1).val :=
  reals_of2 _ (max60 H0 H1)

include H0 H2 in
theorem dil_max : ∃ (M : ℕ → ℕ → ℕ → ℝ) (MX : ℕ → ℕ → ℝ),
    (Reads (s := S3x8x2048) (val_main_v132 (F := Ideal) x0 x2) fun i => M (i 0).val (i 1).val (i 2).val)
    ∧ Reads (s := S8x2048) (val_main_v153 (F := Ideal) x0 x2) fun i => MX (i 0).val (i 1).val := by
  obtain ⟨M, hM⟩ := reals_of3 _ (max132 H0 H2)
  obtain ⟨MX, hX⟩ := reals_of2 _ (max153 H0 H2 hM)
  exact ⟨M, MX, hM, hX⟩

include H0 H2 in
/-- What the kernel is given as the dilated heads' outputs. -/
theorem read_o (t : Fin 2048) (h : ℕ) (hh : h < 8) (d : Fin 128) (n : Fin 2048) (hn : n.val = 128 * (8 + h) + d.val) :
    (val_main_v175 (F := Ideal) x0 x1 x2 (ix2 t n) : EReal) = ((dO q rel h t.val d.val : ℝ) : EReal) := by
  obtain ⟨M, MX, HM, HX⟩ := dil_max H0 H2
  refine (val_main_v175_apply x0 x1 x2 (ix2 t n)).trans ?_
  refine (concatenate_pair_apply_right (t := S2048x16x128) (s₁ := S2048x8x128) (s₂ := S2048x8x128) 1
    (val_main_v77 (F := Ideal) x0 x1) (val_main_v173 (F := Ideal) x0 x2) _ (idx_main_v175 (ix2 t n)) rfl rfl
    (ix3 t (⟨h, hh⟩ : Fin 8) d) (fun b hb => ?_) ?_).trans (r173 H0 H2 HM HX _)
  · match b with
    | ⟨0, _⟩ => show t.val = (t.val * 2048 + n.val) / 2048; omega
    | ⟨1, _⟩ => exact absurd rfl hb
    | ⟨2, _⟩ => show d.val = (t.val * 2048 + n.val) % 128; omega
  · show h + 8 = (t.val * 2048 + n.val) / 128 % 16; omega

include H0 H1 in
/-- What the kernel is given as the forgetting heads' log-sums. -/
theorem read_lse_fox (t : Fin 2048) (h : Fin 16) (hh : h.val < 8) :
    (val_main_v178 (F := Ideal) x0 x1 x2 (ix2 h t) : EReal) = ((fL q cc h.val t.val : ℝ) : EReal) := by
  obtain ⟨M, HM⟩ := fox_max H0 H1
  exact (concatenate_pair_apply_left (t := S16x2048) (s₁ := S8x2048) (s₂ := S8x2048) 0
    (val_main_v80 (F := Ideal) x0 x1) (val_main_v177 (F := Ideal) x0 x2) _ (ix2 h t) rfl
    (ix2 (⟨h.val, hh⟩ : Fin 8) t) (fun b => by
      match b with
      | ⟨0, _⟩ => rfl
      | ⟨1, _⟩ => rfl)).trans (r80 H0 H1 HM _)

include H0 H2 in
/-- What the kernel is given as the dilated heads' log-sums. -/
theorem read_lse_dil (t : Fin 2048) (h : ℕ) (hh : h < 8) (g : Fin 16) (hg : g.val = 8 + h) :
    (val_main_v178 (F := Ideal) x0 x1 x2 (ix2 g t) : EReal) = ((dLL q rel h t.val : ℝ) : EReal) := by
  obtain ⟨M, MX, HM, HX⟩ := dil_max H0 H2
  exact (concatenate_pair_apply_right (t := S16x2048) (s₁ := S8x2048) (s₂ := S8x2048) 0
    (val_main_v80 (F := Ideal) x0 x1) (val_main_v177 (F := Ideal) x0 x2) _ (ix2 g t) rfl rfl
    (ix2 (⟨h, hh⟩ : Fin 8) t) (fun b hb => by
      match b with
      | ⟨0, _⟩ => exact absurd rfl hb
      | ⟨1, _⟩ => rfl) (by show h + 8 = g.val; omega)).trans (r177 H0 H2 HM HX _)

include H0 H2 H3 in
/-- The dilated heads' gradient of v. -/
theorem r215 : Reads (s := S2048x8x128) (val_main_v215 (F := Ideal) x0 x2 x3) fun i =>
    dvR 2048 (dP q rel (i 1).val) (headOf dd 0 (8 + (i 1).val)) (i 0).val (i 2).val := fun i => by
  obtain ⟨M, MX, HM, HX⟩ := dil_max H0 H2
  refine (val_main_v215_apply x0 x2 x3 i).trans ?_
  unfold val_main_v214
  refine (dot214 (val_main_v211 (F := Ideal) x0 x2 x3) (val_main_v145 (F := Ideal) x0 x2) _).trans ?_
  refine Eq.trans ?_ (e_eq (dv_eq q rel dd (i 1).val (i 0).val (i 2).val))
  refine sum_fin_coe _ (fun p => ∑ t ∈ Finset.range 2048,
    dw q rel (i 1).val p t * headOf dd 0 (8 + (i 1).val) t (i 2).val * dPp q rel (i 1).val p t (i 0).val) fun a => ?_
  exact e_dot (p := fun t => dw q rel (i 1).val a.val t * headOf dd 0 (8 + (i 1).val) t (i 2).val)
    (q := fun t => dPp q rel (i 1).val a.val t (i 0).val)
    (fun b => r211 H0 H2 HM HX H3 (ix4 (idx_main_v215 i 0) (idx_main_v215 i 1) a b))
    (fun b => r145 H0 H2 HM (ix4 a (idx_main_v215 i 0) b (idx_main_v215 i 2)))

include H0 H1 H2 H3

/-- The reference's gradient of q. -/
theorem result_q (i : S2048x2048.Idx) : (val_main_v306 (F := Ideal) x0 x1 x2 x3 i : EReal)
    = ((gQ q cc rel dd ((i 1).val / 128) (i 0).val ((i 1).val % 128) : ℝ) : EReal) := by
  obtain ⟨M, HM⟩ := fox_max H0 H1
  obtain ⟨M', MX, HM', HX⟩ := dil_max H0 H2
  refine (val_main_v306_apply x0 x1 x2 x3 i).trans ((val_main_v292_apply x0 x1 x2 x3 i).trans ?_)
  unfold val_main_v289 val_main_v244 val_main_v288
  exact flat_heads (f := gQ q cc rel dd) (join_heads (r283 H0 H1 HM H3) (r241 H0 H2 HM' HX H3)
    (fun i => (val_main_cst_47_apply i).trans e_zero) (fun i => (val_main_cst_57_apply i).trans e_zero)) i

/-- The reference's gradient of k. -/
theorem result_k (i : S2048x2048.Idx) : (val_main_v307 (F := Ideal) x0 x1 x2 x3 i : EReal)
    = ((gK q cc rel dd ((i 1).val / 128) (i 0).val ((i 1).val % 128) : ℝ) : EReal) := by
  obtain ⟨M, HM⟩ := fox_max H0 H1
  obtain ⟨M', MX, HM', HX⟩ := dil_max H0 H2
  refine (val_main_v307_apply x0 x1 x2 x3 i).trans ((val_main_v291_apply x0 x1 x2 x3 i).trans ?_)
  unfold val_main_v287 val_main_v243 val_main_v286
  exact flat_heads (f := gK q cc rel dd) (join_heads (r281 H0 H1 HM H3) (r239 H0 H2 HM' HX H3)
    (fun i => (val_main_cst_46_apply i).trans e_zero) (fun i => (val_main_cst_56_apply i).trans e_zero)) i

/-- The reference's gradient of v. -/
theorem result_v (i : S2048x2048.Idx) : (val_main_v308 (F := Ideal) x0 x1 x2 x3 i : EReal)
    = ((gV q cc rel dd ((i 1).val / 128) (i 0).val ((i 1).val % 128) : ℝ) : EReal) := by
  obtain ⟨M, HM⟩ := fox_max H0 H1
  refine (val_main_v308_apply x0 x1 x2 x3 i).trans ((val_main_v290_apply x0 x1 x2 x3 i).trans ?_)
  unfold val_main_v285 val_main_v242 val_main_v284
  exact flat_heads (f := gV q cc rel dd) (join_heads (r250 H0 H1 HM H3) (r215 H0 H2 H3)
    (fun i => (val_main_cst_45_apply i).trans e_zero) (fun i => (val_main_cst_55_apply i).trans e_zero)) i

omit H2 in
/-- The reference's gradient of c. -/
theorem result_c (i : S16x1x2048.Idx) : (val_main_v295 (F := Ideal) x0 x1 x3 i : EReal)
    = ((gC q cc dd (i 0).val (i 2).val : ℝ) : EReal) := by
  obtain ⟨M, HM⟩ := fox_max H0 H1
  refine (val_main_v295_apply x0 x1 x3 i).trans ?_
  unfold val_main_v294 gC both
  have hz : ∀ j, (val_main_call3_v0 (F := Ideal) j : EReal) = ((0 : ℝ) : EReal) := fun j => by
    rw [val_main_call3_v0_apply, val_main_c_58_apply]; exact e_word0
  by_cases h : (i 0).val < 8
  · rw [if_pos h]
    exact (pad_apply_of_inside _ _ _ (val_main_v293 (F := Ideal) x0 x1 x3) _ _ h_S_ (idx_main_v295 i)
      (ix2 (⟨(i 0).val, h⟩ : Fin 8) (i 2)) (fun a => by
        match a with
        | ⟨0, _⟩ => show (i 0).val = 0 + (i 0).val * (0 + 1); omega
        | ⟨1, _⟩ => show (i 2).val = 0 + (i 2).val * (0 + 1); omega)).trans (r293 H0 H1 HM H3 _)
  · rw [if_neg h]
    exact (pad_apply_of_not_inside _ _ _ (val_main_v293 (F := Ideal) x0 x1 x3) _ _ h_S_ (idx_main_v295 i) (0 : Fin 2) (fun hc => by
      have h8 : ((i 0).val - 0) / (0 + 1) < 8 := hc.2.2
      omega)).trans (hz _)

end

end Cert.Ref
-- ==== Proof.Eqn.Inputs.lean ====
/- What the call's body reads at each head, at finite arguments. -/
module

public import proofs.«01_k».proof.Proof.Eqn.Tables
public import proofs.«01_k».proof.Proof.Eqn.Blocks
public import proofs.«01_k».proof.Proof.Kern.Heads
public import proofs.«01_k».proof.Proof.Kern.PrefixAll
public import proofs.«01_k».proof.Proof.Ref.Results
public import Idealize.ShloMosaic.Lib.KernelVsHost

@[expose] public section

noncomputable section

namespace Cert.Eqn

open Cert.KernelIdeal Cert.KernelIdeal.Gen
open Idealize.ShloMosaic Idealize.ShloMosaic.TcCoe Idealize.ShloMosaic.ValueIdx Idealize.ShloMosaic.StableHlo
open Idealize.SL Idealize.SL.Sem
open Cert.Attn Cert.Ref

section pads
variable (x0 : (⟨S2048x6144, .bf16⟩ : BufTy).Contents (Elt Ideal)) (x1 : (⟨S2048x8, .f32⟩ : BufTy).Contents (Elt Ideal))
  (x2 : (⟨S32x8, .f32⟩ : BufTy).Contents (Elt Ideal))

theorem rows_apply (t : Fin 2048) (l : Fin 128) (h : Fin 8) (hl : l.val = h.val) :
    kRows (F := Ideal) x1 (ix2 t l) = x1 (ix2 t h) := by
  unfold kRows
  exact pad_apply_of_inside _ _ _ x1 _ _ h_S_ (ix2 t l) (ix2 t h) (fun a => by
    match a with
    | ⟨0, _⟩ => show t.val = 0 + t.val * (0 + 1); omega
    | ⟨1, _⟩ => show l.val = 0 + h.val * (0 + 1); omega)

theorem cols_apply (t : Fin 2048) (l : Fin 128) (h : Fin 8) (hl : l.val = h.val) :
    kCols (F := Ideal) x1 (ix2 l t) = x1 (ix2 t h) := by
  unfold kCols
  exact (pad_apply_of_inside _ _ _ (transpose S8x2048 [1, 0] x1 transposes_S2048x8_S8x2048_1_0) _ _ h_S_ (ix2 l t) (ix2 h t) (fun a => by
    match a with
    | ⟨0, _⟩ => show l.val = 0 + h.val * (0 + 1); omega
    | ⟨1, _⟩ => show t.val = 0 + t.val * (0 + 1); omega)).trans (transpose_ix2_apply _ _ _ _)

theorem lse_apply (t : Fin 2048) (l : Fin 128) (h : Fin 16) (hl : l.val = h.val) :
    kLse (F := Ideal) x0 x1 x2 (ix2 t l) = Cert.ReferenceIdeal.Read.val_main_v178 (F := Ideal) x0 x1 x2 (ix2 h t) := by
  unfold kLse
  generalize Cert.ReferenceIdeal.Read.val_main_v178 (F := Ideal) x0 x1 x2 = y
  exact (pad_apply_of_inside _ _ _ (transpose S2048x16 [1, 0] y transposes_S16x2048_S2048x16_1_0) _ _ h_S_ (ix2 t l) (ix2 t h) (fun a => by
    match a with
    | ⟨0, _⟩ => show t.val = 0 + t.val * (0 + 1); omega
    | ⟨1, _⟩ => show l.val = 0 + h.val * (0 + 1); omega)).trans (transpose_ix2_apply _ _ _ _)

end pads

section
variable (m : (ℓ : Loc nD τ sig) → Buf (Elt Ideal) ℓ) (c : Dev nD) (q cc rel dd : ℕ → ℕ → ℝ)

/-- The four arguments hold the reals `q`, `cc`, `rel` and `dd`. -/
structure Args : Prop where
  h0 : Reads (s := S2048x6144) (m ((c : Thread nD τ).loc main_arg0)) fun i => q (i 0).val (i 1).val
  h1 : Reads (s := S2048x8) (m ((c : Thread nD τ).loc main_arg1)) fun i => cc (i 0).val (i 1).val
  h2 : Reads (s := S32x8) (m ((c : Thread nD τ).loc main_arg2)) fun i => rel (i 0).val (i 1).val
  h3 : Reads (s := S2048x2048) (m ((c : Thread nD τ).loc main_arg3)) fun i => dd (i 0).val (i 1).val

variable {m c q cc rel dd} (A : Args m c q cc rel dd) (t : Fin cfg0.N)
include A

omit A in
theorem points' (t : Fin cfg0.N) : t.val < 16 := t.isLt

theorem in_q (h : ℕ) (ht : t.val = h) : Holds (iblk m c 0 t) (headOf q 0 h) := fun r d => by
  have hb := points' t
  refine (block0 c t _ r d (128 * t.val + d.val) (by omega) rfl).trans ?_
  rw [V_main_arg0]
  refine (A.h0 _).trans (at_eq rfl ?_)
  show 128 * t.val + d.val = 0 + (128 * h + d.val)
  omega

theorem in_k (h : ℕ) (ht : t.val = h) : Holds (iblk m c 1 t) (headOf q 2048 h) := fun r d => by
  have hb := points' t
  refine (block1 c t _ r d (2048 + (128 * t.val + d.val)) (by omega) rfl).trans ?_
  rw [V_main_arg0]
  refine (A.h0 _).trans (at_eq rfl ?_)
  show 2048 + (128 * t.val + d.val) = 2048 + (128 * h + d.val)
  omega

theorem in_v (h : ℕ) (ht : t.val = h) : Holds (iblk m c 2 t) (headOf q 4096 h) := fun r d => by
  have hb := points' t
  refine (block2 c t _ r d (4096 + (128 * t.val + d.val)) (by omega) rfl).trans ?_
  rw [V_main_arg0]
  refine (A.h0 _).trans (at_eq rfl ?_)
  show 4096 + (128 * t.val + d.val) = 4096 + (128 * h + d.val)
  omega

theorem in_do (h : ℕ) (ht : t.val = h) : Holds (iblk m c 8 t) (headOf dd 0 h) := fun r d => by
  have hb := points' t
  refine (block8 c t _ r d (128 * t.val + d.val) (by omega) rfl).trans ?_
  rw [V_main_arg3]
  refine (A.h3 _).trans (at_eq rfl ?_)
  show 128 * t.val + d.val = 0 + (128 * h + d.val)
  omega

/-- What the body reads at a forgetting head. -/
theorem fox_at (hh : t.val < 128) (h8 : t.val < 8) : FoxAt m c t hh (headOf q 0 t.val) (headOf q 2048 t.val) (headOf q 4096 t.val)
    (headOf dd 0 t.val) (fun s => cc s t.val) (fL q cc t.val) where
  q := in_q A t _ rfl
  k := in_k A t _ rfl
  v := in_v A t _ rfl
  do_ := in_do A t _ rfl
  c s := by
    refine (block3 c t _ s _).trans ?_
    rw [(V_prepared m c).2.1]
    exact (rows_apply _ s ⟨t.val, hh⟩ ⟨t.val, h8⟩ rfl).trans (A.h1 _)
  row s := by
    refine (block4 c t _ _ s).trans ?_
    rw [(V_prepared m c).2.2.1]
    exact (cols_apply _ s ⟨t.val, hh⟩ ⟨t.val, h8⟩ rfl).trans (A.h1 _)
  tile r p := by
    refine (block5 c t _ (0 : Fin 8) r p (0 : Fin 9) (by show 0 = t.val - 7; omega)).trans ?_
    rw [(V_prepared m c).1]
    exact tiles_fox r p
  lse s := by
    refine (block6 c t _ s _).trans ?_
    rw [(V_prepared m c).2.2.2.1]
    exact (lse_apply _ _ _ s ⟨t.val, hh⟩ ⟨t.val, points' t⟩ rfl).trans (read_lse_fox A.h0 A.h1 s ⟨t.val, points' t⟩ h8)

/-- What the body reads at a dilated head. -/
theorem dil_at (hh : t.val < 128) (h : ℕ) (ht : t.val = 8 + h) : DilAt m c t hh (headOf q 0 (8 + h)) (headOf q 2048 (8 + h))
    (headOf q 4096 (8 + h)) (dO q rel h) (headOf dd 0 (8 + h)) multR (biasR rel h) (dLL q rel h) where
  q := in_q A t _ ht
  k := in_k A t _ ht
  v := in_v A t _ ht
  do_ := in_do A t _ ht
  tile k r p := by
    have hb := points' t
    refine (block5 c t _ k r p (⟨h + 1, by omega⟩ : Fin 9) (by show h + 1 = t.val - 7; omega)).trans ?_
    rw [(V_prepared m c).1]
    exact tiles_dil A.h2 _ (⟨h, by omega⟩ : Fin 8) k rfl r p
  lse s := by
    have hb := points' t
    refine (block6 c t _ s _).trans ?_
    rw [(V_prepared m c).2.2.2.1]
    exact (lse_apply _ _ _ s ⟨t.val, hh⟩ ⟨t.val, hb⟩ rfl).trans (read_lse_dil A.h0 A.h2 s h (by omega) ⟨t.val, hb⟩ ht)
  o s d := by
    have hb := points' t
    refine (block7 c t _ s d (128 * t.val + d.val) (by omega) rfl).trans ?_
    rw [(V_prepared m c).2.2.2.2]
    exact read_o A.h0 A.h2 s h (by omega) d _ (by show 128 * t.val + d.val = _; omega)
  nonneg := multR_nonneg
  past := multR_past

end

end Cert.Eqn
-- ==== Proof.Eqn.Arrays.lean ====
/- What the call's five result arrays hold, at finite arguments. -/
module

public import proofs.«01_k».proof.Proof.Eqn.Inputs
public import proofs.«01_k».proof.Proof.Gen.KernelIdeal.Value

@[expose] public section

noncomputable section

namespace Cert.Eqn

open Cert.KernelIdeal Cert.KernelIdeal.Gen Cert.KernelIdeal.Value
open Idealize.ShloMosaic Idealize.ShloMosaic.TcCoe Idealize.ShloMosaic.ValueIdx
open Idealize.SL Idealize.SL.Sem
open Cert.Attn Cert.Ref

section
variable {m : (ℓ : Loc nD τ sig) → Buf (Elt Ideal) ℓ} {c : Dev nD} {q cc rel dd : ℕ → ℕ → ℝ}
  (A : Args m c q cc rel dd)
include A

theorem head_q (t : Fin cfg0.N) (r : Fin 2048) (d : Fin 128) :
    ((outsAt0 m c t.val t.isLt).1 (ix2 r d) : EReal) = ((gQ q cc rel dd t.val r.val d.val : ℝ) : EReal) := by
  have hb := points' t
  unfold gQ both
  by_cases h : t.val < 8
  · rw [if_pos h]
    exact fox_dq h (by omega) (fox_at A t (by omega) h) r d
  · rw [if_neg h]
    exact dil_dq h (by omega) (dil_at A t (by omega) (t.val - 8) (by omega)) r d

theorem head_k (t : Fin cfg0.N) (r : Fin 2048) (d : Fin 128) :
    ((outsAt0 m c t.val t.isLt).2.1 (ix2 r d) : EReal) = ((gK q cc rel dd t.val r.val d.val : ℝ) : EReal) := by
  have hb := points' t
  unfold gK both
  by_cases h : t.val < 8
  · rw [if_pos h]
    exact fox_dk h (by omega) (fox_at A t (by omega) h) r d
  · rw [if_neg h]
    exact dil_dk h (by omega) (dil_at A t (by omega) (t.val - 8) (by omega)) r d

theorem head_v (t : Fin cfg0.N) (r : Fin 2048) (d : Fin 128) :
    ((outsAt0 m c t.val t.isLt).2.2.1 (ix2 r d) : EReal) = ((gV q cc rel dd t.val r.val d.val : ℝ) : EReal) := by
  have hb := points' t
  unfold gV both
  by_cases h : t.val < 8
  · rw [if_pos h]
    exact fox_dv h (by omega) (fox_at A t (by omega) h) r d
  · rw [if_neg h]
    exact dil_dv h (by omega) (dil_at A t (by omega) (t.val - 8) (by omega)) r d

theorem head_c (t : Fin cfg0.N) (r : Fin 2048) :
    ((outsAt0 m c t.val t.isLt).2.2.2.1 (ix3 (0 : Fin 1) (0 : Fin 1) r) : EReal) = ((gC q cc dd t.val r.val : ℝ) : EReal) := by
  have hb := points' t
  unfold gC both
  by_cases h : t.val < 8
  · rw [if_pos h]
    exact fox_dct h (by omega) (fox_at A t (by omega) h) r
  · rw [if_neg h]
    exact (dil_dct h (by omega) r).trans EReal.coe_zero.symm

theorem head_t (t : Fin cfg0.N) (k : Fin 8) (r p : Fin 256) :
    ((outsAt0 m c t.val t.isLt).2.2.2.2 (ix4 (0 : Fin 1) k r p) : EReal)
      = ((gT q rel dd (group t.val) k.val r.val p.val : ℝ) : EReal) := by
  have hb := points' t
  unfold gT group
  by_cases h : t.val < 8
  · rw [if_pos (by omega)]
    exact (fox_dtb h (by omega) k r p).trans EReal.coe_zero.symm
  · rw [if_neg (by omega), show t.val - 7 - 1 = t.val - 8 by omega]
    exact dil_dtb h (by omega) (dil_at A t (by omega) (t.val - 8) (by omega)) k r p

omit A in
/-- The head of a column. -/
theorem column (i : S2048x2048.Idx) (hd : (i 1).val / 128 < 16) (hm : (i 1).val % 128 < 128) :
    (i 1).val = 128 * (⟨(i 1).val / 128, hd⟩ : Fin 16).val + (⟨(i 1).val % 128, hm⟩ : Fin 128).val := by
  show (i 1).val = 128 * ((i 1).val / 128) + (i 1).val % 128
  omega

omit A in
theorem column_lt (i : S2048x2048.Idx) : (i 1).val / 128 < 16 := by
  have h : (i 1).val < 2048 := (i 1).isLt
  omega

theorem array_q (i : S2048x2048.Idx) : ((dats m 0 c).arrAt 9 cfg0.N i : EReal)
    = ((gQ q cc rel dd ((i 1).val / 128) (i 0).val ((i 1).val % 128) : ℝ) : EReal) := by
  have hm : (i 1).val % 128 < 128 := Nat.mod_lt _ (by norm_num)
  let t : Fin cfg0.N := ⟨(i 1).val / 128, column_lt i⟩
  have hi : i = ix2 (i 0) (⟨(i 1).val, (i 1).isLt⟩ : Fin 2048) := funext fun a => Fin.ext (by
    match a with
    | ⟨0, _⟩ => rfl
    | ⟨1, _⟩ => rfl)
  have e := (block9 c t ((dats m 0 c).arrAt 9 cfg0.N) (i 0) ⟨(i 1).val % 128, hm⟩ (i 1).val (i 1).isLt (column i _ _)).symm
  rw [blocks9 m c t (flush9 t), flushed9] at e
  exact (congrArg _ hi).trans (e.trans (head_q A t (i 0) ⟨(i 1).val % 128, hm⟩))

theorem array_k (i : S2048x2048.Idx) : ((dats m 0 c).arrAt 10 cfg0.N i : EReal)
    = ((gK q cc rel dd ((i 1).val / 128) (i 0).val ((i 1).val % 128) : ℝ) : EReal) := by
  have hm : (i 1).val % 128 < 128 := Nat.mod_lt _ (by norm_num)
  let t : Fin cfg0.N := ⟨(i 1).val / 128, column_lt i⟩
  have hi : i = ix2 (i 0) (⟨(i 1).val, (i 1).isLt⟩ : Fin 2048) := funext fun a => Fin.ext (by
    match a with
    | ⟨0, _⟩ => rfl
    | ⟨1, _⟩ => rfl)
  have e := (block10 c t ((dats m 0 c).arrAt 10 cfg0.N) (i 0) ⟨(i 1).val % 128, hm⟩ (i 1).val (i 1).isLt (column i _ _)).symm
  rw [blocks10 m c t (flush10 t), flushed10] at e
  exact (congrArg _ hi).trans (e.trans (head_k A t (i 0) ⟨(i 1).val % 128, hm⟩))

theorem array_v (i : S2048x2048.Idx) : ((dats m 0 c).arrAt 11 cfg0.N i : EReal)
    = ((gV q cc rel dd ((i 1).val / 128) (i 0).val ((i 1).val % 128) : ℝ) : EReal) := by
  have hm : (i 1).val % 128 < 128 := Nat.mod_lt _ (by norm_num)
  let t : Fin cfg0.N := ⟨(i 1).val / 128, column_lt i⟩
  have hi : i = ix2 (i 0) (⟨(i 1).val, (i 1).isLt⟩ : Fin 2048) := funext fun a => Fin.ext (by
    match a with
    | ⟨0, _⟩ => rfl
    | ⟨1, _⟩ => rfl)
  have e := (block11 c t ((dats m 0 c).arrAt 11 cfg0.N) (i 0) ⟨(i 1).val % 128, hm⟩ (i 1).val (i 1).isLt (column i _ _)).symm
  rw [blocks11 m c t (flush11 t), flushed11] at e
  exact (congrArg _ hi).trans (e.trans (head_v A t (i 0) ⟨(i 1).val % 128, hm⟩))

theorem array_c (i : S16x1x2048.Idx) : ((dats m 0 c).arrAt 12 cfg0.N i : EReal)
    = ((gC q cc dd (i 0).val (i 2).val : ℝ) : EReal) := by
  let t : Fin cfg0.N := ⟨(i 0).val, (i 0).isLt⟩
  have hi : i = ix3 (i 0) (0 : Fin 1) (i 2) := funext fun a => Fin.ext (by
    match a with
    | ⟨0, _⟩ => rfl
    | ⟨1, _⟩ =>
      have h1 : (i 1).val < 1 := (i 1).isLt
      show (i 1).val = 0
      omega
    | ⟨2, _⟩ => rfl)
  have e := (block12 c t ((dats m 0 c).arrAt 12 cfg0.N) (i 2) (i 0) rfl).symm
  rw [blocks12 m c t (flush12 t), flushed12] at e
  exact (congrArg _ hi).trans (e.trans (head_c A t (i 2)))

theorem array_t (i : S9x8x256x256.Idx) : ((dats m 0 c).arrAt 13 cfg0.N i : EReal)
    = ((gT q rel dd (i 0).val (i 1).val (i 2).val (i 3).val : ℝ) : EReal) := by
  have h9 : (i 0).val < 9 := (i 0).isLt
  let t : Fin cfg0.N := ⟨(i 0).val + 7, by show (i 0).val + 7 < 16; omega⟩
  have hg : group t.val = (i 0).val := by show (i 0).val + 7 - 7 = (i 0).val; omega
  have hi : i = ix4 (i 0) (i 1) (i 2) (i 3) := funext fun a => Fin.ext (by
    match a with
    | ⟨0, _⟩ => rfl
    | ⟨1, _⟩ => rfl
    | ⟨2, _⟩ => rfl
    | ⟨3, _⟩ => rfl)
  have e := (block13 c t ((dats m 0 c).arrAt 13 cfg0.N) (i 1) (i 2) (i 3) (i 0) hg.symm).symm
  rw [(dats m 0 c).read_blk_arrAt_eq_flushed 13 disjoint13 cfg0.N t t.isLt (flush13 t (by show 7 ≤ (i 0).val + 7; omega)), flushed13] at e
  refine (congrArg _ hi).trans (e.trans ((head_t A t (i 1) (i 2) (i 3)).trans ?_))
  rw [hg]

end

end Cert.Eqn
-- ==== Proof.Eqn.Finite.lean ====
/- What the precondition says: every entry of the four arguments is a real number. -/
module

public import proofs.«01_k».proof.Defs
public import proofs.«01_k».proof.Proof.Eqn.Inputs
public import Idealize.ShloMosaic.Lib.ReduceAll

@[expose] public section

noncomputable section

namespace Cert.Eqn

open Idealize.ShloMosaic Idealize.ShloMosaic.TcCoe Idealize.ShloMosaic.ValueIdx
open Idealize.SL Idealize.SL.Sem
open Cert.Ref

/-- The shape relations the precondition's operations take. -/
instance facts_finite : Cert.Pre_finite.Facts where
  bitsLt_bf16_f32 := by decide
  bcast_S_S2048x6144 := by decide
  reducesTo_S2048x6144_S_d0_1 := by decide
  h_S_ := by decide
  bcast_S_S2048x8 := by decide
  reducesTo_S2048x8_S_d0_1 := by decide
  bcast_S_S32x8 := by decide
  reducesTo_S32x8_S_d0_1 := by decide
  bcast_S_S2048x2048 := by decide
  reducesTo_S2048x2048_S_d0_1 := by decide

instance : Subsingleton Cert.Pre_finite.S_.Idx := ⟨fun a b => funext fun i => i.elim0⟩

/-- A number whose absolute value lies below infinity is a real one. -/
theorem real_of_word (x : EReal)
    (h : FloatOps.cmpf (F := Ideal) (φ := .f32) .olt (FloatOps.hostAbsf (F := Ideal) (φ := .f32) x)
      (FloatOps.ofBits (F := Ideal) .f32 0x7F800000#32) = 1#1) : x = ((x.toReal : ℝ) : EReal) := by
  have htop : Ideal.ofBits .f32 0x7F800000#32 = ⊤ := by simp [Ideal.ofBits, Ideal.ieee]
  have h' : Ideal.cmp .olt (max x (-x)) (Ideal.ofBits .f32 0x7F800000#32) = 1#1 := h
  rw [htop] at h'
  have hlt : max x (-x) < ⊤ := by
    by_contra hn
    simp [Ideal.cmp, hn] at h'
  refine (EReal.coe_toReal ?_ ?_).symm
  · rintro rfl; simp at hlt
  · rintro rfl; simp at hlt

/-- The real numbers a table of two axes holds, as a function of the positions. -/
def realsOf {a b : ℕ} (x : (⟨2, ![a, b]⟩ : Shape).Idx → EReal) (t n : ℕ) : ℝ :=
  if h : t < a ∧ n < b then (x (ix2 ⟨t, h.1⟩ ⟨n, h.2⟩)).toReal else 0

theorem reads_reals {a b : ℕ} (x : (⟨2, ![a, b]⟩ : Shape).Idx → EReal)
    (hx : ∀ i, x i = (((x i).toReal : ℝ) : EReal)) :
    ∀ i, x i = ((realsOf x (i 0).val (i 1).val : ℝ) : EReal) := fun i => by
  have e : ix2 (i 0) (i 1) = i := by funext k; match k with
    | ⟨0, _⟩ => rfl
    | ⟨1, _⟩ => rfl
  unfold realsOf
  rw [dif_pos ⟨(i 0).isLt, (i 1).isLt⟩]
  exact (hx i).trans (congrArg (fun j => (((x j).toReal : ℝ) : EReal)) e.symm)

/-- The precondition, read: the four arguments are real everywhere. -/
theorem finite_reals (x0 : FVec Ideal Cert.Pre_finite.S2048x6144 .bf16) (x1 : FVec Ideal Cert.Pre_finite.S2048x8 .f32)
    (x2 : FVec Ideal Cert.Pre_finite.S32x8 .f32) (x3 : FVec Ideal Cert.Pre_finite.S2048x2048 .bf16)
    (h : Cert.Pre_finite.fn (F := Ideal) x0 x1 x2 x3 = fun _ => 1#1) :
    (∀ i, (x0 i : EReal) = (((x0 i : EReal).toReal : ℝ) : EReal)) ∧ (∀ i, (x1 i : EReal) = (((x1 i : EReal).toReal : ℝ) : EReal))
      ∧ (∀ i, (x2 i : EReal) = (((x2 i : EReal).toReal : ℝ) : EReal)) ∧ ∀ i, (x3 i : EReal) = (((x3 i : EReal).toReal : ℝ) : EReal) := by
  have h0 := congrFun h (fun i => i.elim0)
  dsimp only [Cert.Pre_finite.fn, Cert.Pre_finite.fn_part1] at h0
  have h1 := and_one.mp h0
  have h2 := and_one.mp h1.1
  have h3 := and_one.mp h2.1
  exact ⟨fun i => real_of_word _ (Host.reduce_andi_all _ _ _ _ _ h3.1 i),
    fun i => real_of_word _ (Host.reduce_andi_all _ _ _ _ _ h3.2 i),
    fun i => real_of_word _ (Host.reduce_andi_all _ _ _ _ _ h2.2 i),
    fun i => real_of_word _ (Host.reduce_andi_all _ _ _ _ _ h1.2 i)⟩

section
open Cert.KernelIdeal

/-- At finite arguments there are reals the arguments hold. -/
theorem args_of_finite {m : (ℓ : Loc nD τ sig) → Buf (Elt Ideal) ℓ} [Cert.KernelIdeal.Facts] (h : Cert.Pre_KernelIdeal_finite m) (c : Dev nD) :
    ∃ q cc rel dd : ℕ → ℕ → ℝ, Args m c q cc rel dd := by
  obtain ⟨r0, r1, r2, r3⟩ := finite_reals _ _ _ _ (h c)
  exact ⟨_, _, _, _, reads_reals _ r0, reads_reals _ r1, reads_reals _ r2, reads_reals _ r3⟩

end

end Cert.Eqn

end
-- ==== Proof.Ref.Tiles.lean ====
/- The reference's gradients of the tiles: each cell gathers the gradients of the scores of the cells of the score matrix it
   was added to. -/
module

public import proofs.«01_k».proof.Proof.Ref.Results

@[expose] public section

noncomputable section

namespace Cert.Ref

open Cert.ReferenceIdeal Cert.ReferenceIdeal.Gen Cert.ReferenceIdeal.Read
open Idealize.ShloMosaic Idealize.ShloMosaic.ValueIdx Idealize.ShloMosaic.StableHlo Cert.Attn

theorem word_diff : ∀ a b k : Fin 8,
    IntOp.cmpi .eq (IntOp.subi (BitVec.ofNat 32 a.val) (BitVec.ofNat 32 b.val)) (BitVec.ofNat 32 k.val)
      = if a.val = b.val + k.val then 1#1 else 0#1 := by decide +kernel

/-- Which pairs of blocks are a given number of blocks apart. -/
theorem r302 : Reads (s := S8x8x8) (val_main_v302 (F := Ideal)) fun i => if (i 0).val = (i 1).val + (i 2).val then 1 else 0 := fun i => by
  have ha : (val_main_call4_v0 (F := Ideal) i : EReal) = ((1 : ℝ) : EReal) :=
    (val_main_call4_v0_apply i).trans ((val_main_cst_59_apply _).trans e_one)
  have hb : (val_main_call4_v1 (F := Ideal) i : EReal) = ((0 : ℝ) : EReal) :=
    (val_main_call4_v1_apply i).trans ((val_main_cst_60_apply _).trans e_zero)
  have hw : val_main_v300 (F := Ideal) i = if (i 0).val = (i 1).val + (i 2).val then 1#1 else 0#1 := by
    rw [val_main_v300_apply, val_main_v298_apply, val_main_v296_apply, val_main_v297_apply, val_main_v299_apply]
    exact word_diff (i 0) (i 1) (i 2)
  show (_ : EReal) = (((if (i 0).val = (i 1).val + (i 2).val then 1 else 0 : ℝ)) : EReal)
  rw [val_main_v302_apply, hw]
  unfold Scalar.select
  by_cases h : (i 0).val = (i 1).val + (i 2).val
  · rw [if_pos h, if_pos (show (1#1 : BitVec 1) = 1 from rfl), if_pos h]; exact ha
  · rw [if_neg h, if_neg (by decide), if_neg h]; exact hb

/-- A sum over pairs of blocks a given number of blocks apart. -/
theorem diag_sum (k : ℕ) (f : ℕ → ℕ → ℝ) :
    ∑ a ∈ Finset.range 8, ∑ b ∈ Finset.range 8, (if a = b + k then 1 else 0) * f a b
      = ∑ a ∈ Finset.range 8, if k ≤ a then f a (a - k) else 0 := by
  refine Finset.sum_congr rfl fun a ha => ?_
  have ha' : a < 8 := Finset.mem_range.mp ha
  by_cases h : k ≤ a
  · rw [if_pos h, Finset.sum_eq_single (a - k)]
    · rw [if_pos (by omega), one_mul]
    · intro b _ hb
      rw [if_neg (by omega), zero_mul]
    · intro hn
      exact absurd (Finset.mem_range.mpr (by omega)) hn
  · rw [if_neg h]
    exact Finset.sum_eq_zero fun b _ => by rw [if_neg (by omega), zero_mul]

variable {x0 : (⟨S2048x6144, .bf16⟩ : BufTy).Contents (Elt Ideal)}
  {x2 : (⟨S32x8, .f32⟩ : BufTy).Contents (Elt Ideal)} {x3 : (⟨S2048x2048, .bf16⟩ : BufTy).Contents (Elt Ideal)}
  {q rel dd : ℕ → ℕ → ℝ}

section
variable (H0 : Reads (s := S2048x6144) x0 fun i => q (i 0).val (i 1).val)
  (H2 : Reads (s := S32x8) x2 fun i => rel (i 0).val (i 1).val)
  (H3 : Reads (s := S2048x2048) x3 fun i => dd (i 0).val (i 1).val)
include H0 H2 H3

theorem r301 : Reads (s := S8x8x256x8x256) (val_main_v301 (F := Ideal) x0 x2 x3) fun i =>
    dG q rel dd (i 0).val (256 * (i 1).val + (i 2).val) (256 * (i 3).val + (i 4).val) := fun i => by
  obtain ⟨M, MX, HM, HX⟩ := dil_max H0 H2
  have h0 : (i 0).val < 8 := (i 0).isLt
  have h1 : (i 1).val < 8 := (i 1).isLt
  have h2 : (i 2).val < 256 := (i 2).isLt
  have h3 : (i 3).val < 8 := (i 3).isLt
  have h4 : (i 4).val < 256 := (i 4).isLt
  refine (val_main_v301_apply x0 x2 x3 i).trans ((r233 H0 H2 HM HX H3 _).trans (at_eq3 (f := dG q rel dd) ?_ ?_ ?_))
  · show ((((((i 0).val * 8 + (i 1).val) * 256 + (i 2).val) * 8 + (i 3).val) * 256 + (i 4).val)) / 4194304 = (i 0).val; omega
  · show ((((((i 0).val * 8 + (i 1).val) * 256 + (i 2).val) * 8 + (i 3).val) * 256 + (i 4).val)) / 2048 % 2048 = 256 * (i 1).val + (i 2).val
    omega
  · show ((((((i 0).val * 8 + (i 1).val) * 256 + (i 2).val) * 8 + (i 3).val) * 256 + (i 4).val)) % 2048 = 256 * (i 3).val + (i 4).val
    omega

theorem r304 : Reads (s := S8x8x256x256) (val_main_v304 (F := Ideal) x0 x2 x3) fun i =>
    tileR 8 (dG q rel dd (i 0).val) (i 1).val (i 2).val (i 3).val := fun i => by
  refine (val_main_v304_apply x0 x2 x3 i).trans ?_
  unfold val_main_v303
  refine (dot303 (val_main_v302 (F := Ideal)) (val_main_v301 (F := Ideal) x0 x2 x3) _).trans ?_
  refine Eq.trans ?_ (e_eq (diag_sum (i 1).val fun a b =>
    dG q rel dd (i 0).val (256 * a + (i 2).val) (256 * b + (i 3).val)))
  refine sum_fin_coe _ (fun a => ∑ b ∈ Finset.range 8, (if a = b + (i 1).val then 1 else 0)
    * dG q rel dd (i 0).val (256 * a + (i 2).val) (256 * b + (i 3).val)) fun a => ?_
  exact e_dot (p := fun b => if a.val = b + (i 1).val then 1 else 0)
    (q := fun b => dG q rel dd (i 0).val (256 * a.val + (i 2).val) (256 * b + (i 3).val))
    (fun b => r302 (ix3 a b (idx_main_v304 i 0)))
    (fun b => r301 H0 H2 H3 (ix5 (idx_main_v304 i 1) a (idx_main_v304 i 2) b (idx_main_v304 i 3)))

/-- The reference's gradients of the tiles. -/
theorem result_t (i : S9x8x256x256.Idx) : (val_main_v305 (F := Ideal) x0 x2 x3 i : EReal)
    = ((gT q rel dd (i 0).val (i 1).val (i 2).val (i 3).val : ℝ) : EReal) := by
  unfold val_main_v305 gT
  have hz : ∀ j, (val_main_call5_v0 (F := Ideal) j : EReal) = ((0 : ℝ) : EReal) := fun j => by
    rw [val_main_call5_v0_apply, val_main_c_61_apply]; exact e_word0
  have h0 : (i 0).val < 9 := (i 0).isLt
  by_cases h : (i 0).val = 0
  · rw [if_pos h]
    exact (pad_apply_of_not_inside _ _ _ (val_main_v304 (F := Ideal) x0 x2 x3) _ _ h_S_ i (0 : Fin 4) (fun hc => by
      have h8 : 1 ≤ (i 0).val := hc.1
      omega)).trans (hz _)
  · rw [if_neg h]
    exact (pad_apply_of_inside _ _ _ (val_main_v304 (F := Ideal) x0 x2 x3) _ _ h_S_ i
      (ix4 (⟨(i 0).val - 1, by omega⟩ : Fin 8) (i 1) (i 2) (i 3)) (fun a => by
        match a with
        | ⟨0, _⟩ => show (i 0).val = 1 + ((i 0).val - 1) * (0 + 1); omega
        | ⟨1, _⟩ => show (i 1).val = 0 + (i 1).val * (0 + 1); omega
        | ⟨2, _⟩ => show (i 2).val = 0 + (i 2).val * (0 + 1); omega
        | ⟨3, _⟩ => show (i 3).val = 0 + (i 3).val * (0 + 1); omega)).trans (r304 H0 H2 H3 _)

end

end Cert.Ref
-- ==== Proof.Eqn.Agree.lean ====
/- The call's five arrays and the reference's five results are the same arrays, at finite arguments. -/
module

public import proofs.«01_k».proof.Proof.Eqn.Arrays
public import proofs.«01_k».proof.Proof.Eqn.Finite
public import proofs.«01_k».proof.Proof.Ref.Tiles

@[expose] public section

noncomputable section

namespace Cert.Eqn

open Cert.KernelIdeal Cert.KernelIdeal.Gen Cert.KernelIdeal.Value
open Idealize.ShloMosaic Idealize.ShloMosaic.TcCoe Idealize.ShloMosaic.ValueIdx
open Idealize.SL Idealize.SL.Sem
open Cert.Attn Cert.Ref Cert.ReferenceIdeal.Read

section
variable {m : (ℓ : Loc nD τ sig) → Buf (Elt Ideal) ℓ} {c : Dev nD} (h : Cert.Pre_KernelIdeal_finite m)
  {x0 : (⟨S2048x6144, .bf16⟩ : BufTy).Contents (Elt Ideal)} {x1 : (⟨S2048x8, .f32⟩ : BufTy).Contents (Elt Ideal)}
  {x2 : (⟨S32x8, .f32⟩ : BufTy).Contents (Elt Ideal)} {x3 : (⟨S2048x2048, .bf16⟩ : BufTy).Contents (Elt Ideal)}
  (e0 : x0 = m ((c : Thread nD τ).loc main_arg0)) (e1 : x1 = m ((c : Thread nD τ).loc main_arg1))
  (e2 : x2 = m ((c : Thread nD τ).loc main_arg2)) (e3 : x3 = m ((c : Thread nD τ).loc main_arg3))
include h e0 e1 e2 e3

theorem agree_q : val_main_v306 (F := Ideal) x0 x1 x2 x3 = (dats m 0 c).arrAt 9 cfg0.N := by
  obtain ⟨q, cc, rel, dd, A⟩ := args_of_finite h c
  subst e0 e1 e2 e3
  exact funext fun i => (result_q A.h0 A.h1 A.h2 A.h3 i).trans (array_q A i).symm

theorem agree_k : val_main_v307 (F := Ideal) x0 x1 x2 x3 = (dats m 0 c).arrAt 10 cfg0.N := by
  obtain ⟨q, cc, rel, dd, A⟩ := args_of_finite h c
  subst e0 e1 e2 e3
  exact funext fun i => (result_k A.h0 A.h1 A.h2 A.h3 i).trans (array_k A i).symm

theorem agree_v : val_main_v308 (F := Ideal) x0 x1 x2 x3 = (dats m 0 c).arrAt 11 cfg0.N := by
  obtain ⟨q, cc, rel, dd, A⟩ := args_of_finite h c
  subst e0 e1 e2 e3
  exact funext fun i => (result_v A.h0 A.h1 A.h2 A.h3 i).trans (array_v A i).symm

omit e2 in
theorem agree_c : val_main_v295 (F := Ideal) x0 x1 x3 = (dats m 0 c).arrAt 12 cfg0.N := by
  obtain ⟨q, cc, rel, dd, A⟩ := args_of_finite h c
  subst e0 e1 e3
  exact funext fun i => (result_c A.h0 A.h1 A.h3 i).trans (array_c A i).symm

omit e1 in
theorem agree_t : val_main_v305 (F := Ideal) x0 x2 x3 = (dats m 0 c).arrAt 13 cfg0.N := by
  obtain ⟨q, cc, rel, dd, A⟩ := args_of_finite h c
  subst e0 e2 e3
  exact funext fun i => (result_t A.h0 A.h2 A.h3 i).trans (array_t A i).symm

end

end Cert.Eqn

end
-- ==== Proof.Act.Prefix.lean ====
/- What the host lines leave in the three arrays the call `ffn_bwd_act` reads besides the weights: half the incoming
   gradient, and the two derivatives of `silu(a) · b`, cut into shards. -/
module

public import proofs.«01_k».proof.Proof.Gen.Kernel2Ideal.Frame
public import Idealize.ShloMosaic.Lib.StableHlo.RunRead

@[expose] public section

set_option maxRecDepth 16384

noncomputable section

namespace Cert.Kernel2Ideal.Gen

open Idealize.ShloMosaic Idealize.ShloMosaic.TcCoe Idealize.ShloMosaic.StableHlo
open Idealize.SL Idealize.SL.Sem

variable {F : FTy → Type} [FloatOps F]

/-- One at every token and hidden unit. -/
def ones : (⟨S2048x5632, .f32⟩ : BufTy).Contents (Elt F) :=
  broadcastInDim S2048x5632 ![] bcast_S_S2048x5632 (constant (F := F) S_ .f32 0x3F800000#32)

section
variable (a b : (⟨S2048x5632, .f32⟩ : BufTy).Contents (Elt F))

/-- The logistic function of the gate. -/
def logistic : (⟨S2048x5632, .f32⟩ : BufTy).Contents (Elt F) :=
  Host.divf (ones (F := F)) (addf (ones (F := F)) (Host.exp (Host.negf a)))

/-- Its slope. -/
def slope : (⟨S2048x5632, .f32⟩ : BufTy).Contents (Elt F) :=
  mulf (logistic a) (subf (ones (F := F)) (logistic a))

/-- The derivative of `silu(a) · b` by the gate `a`. -/
def byGate : (⟨S2048x5632, .f32⟩ : BufTy).Contents (Elt F) :=
  addf (mulf (mulf (ones (F := F)) b) (logistic a)) (mulf (mulf a (mulf (ones (F := F)) b)) (slope a))

/-- The derivative of `silu(a) · b` by `b`. -/
def byUp : (⟨S2048x5632, .f32⟩ : BufTy).Contents (Elt F) :=
  mulf (mulf a (logistic a)) (ones (F := F))

/-- A matrix rounded and cut into the eight shards of its columns, one below another. -/
def cut (X : (⟨S2048x5632, .f32⟩ : BufTy).Contents (Elt F)) : (⟨S16384x704, .bf16⟩ : BufTy).Contents (Elt F) :=
  shapeCast S16384x704 (transpose S8x2048x704 [1, 0, 2]
    (shapeCast S2048x8x704 (truncf .bf16 X bitsLt_bf16_f32) shapeCasts_S2048x5632_S2048x8x704)
    transposes_S2048x8x704_S8x2048x704_1_0_2) shapeCasts_S8x2048x704_S16384x704
end

/-- Half the incoming gradient. -/
def halved (x : (⟨S2048x2048, .f32⟩ : BufTy).Contents (Elt F)) : (⟨S2048x2048, .bf16⟩ : BufTy).Contents (Elt F) :=
  truncf .bf16 (mulf (broadcastInDim S2048x2048 ![] bcast_S_S2048x2048 (constant (F := F) S_ .f32 0x3F000000#32)) x) bitsLt_bf16_f32

variable (m : (ℓ : Loc nD τ sig) → Buf (Elt F) ℓ) (c : Dev nD)

theorem V_prepared :
    V m c main_v8 = halved (m ((c : Thread nD τ).loc main_arg3))
      ∧ V m c main_v12 = cut (byGate (m ((c : Thread nD τ).loc main_arg0)) (m ((c : Thread nD τ).loc main_arg1)))
      ∧ V m c main_v16 = cut (byUp (m ((c : Thread nD τ).loc main_arg0))) := by
  refine ⟨?_, ?_, ?_⟩ <;> unfold V <;> after_reads_simp <;> rfl

end Cert.Kernel2Ideal.Gen
-- ==== Proof.Math.Shards.lean ====
/- The layout of the feed-forward calls: the eight shards of the hidden axis, one after another. -/
module

public import Idealize.ShloMosaic.PureOps.Ideal.Laws
public import Idealize.ShloMosaic.Lib.ValueIdx
public import Idealize.ShloMosaic.Lib.ValueIdxCoords
public import Idealize.ShloMosaic.Lib.ValueLayout
public import Idealize.ShloMosaic.Lib.Pipeline.Value

@[expose] public section

noncomputable section

namespace Cert.Shards

open Idealize.ShloMosaic Idealize.ShloMosaic.ValueIdx

variable {α : Type}

/-- The token of a row of the sharded layout. -/
def token (r : Fin 16384) : Fin 2048 := ⟨r.val % 2048, Nat.mod_lt _ (by norm_num)⟩

/-- The hidden unit of a row and column of the sharded layout. -/
def unit (r : Fin 16384) (y : Fin 704) : Fin 5632 :=
  ⟨704 * (r.val / 2048) + y.val, by have := r.isLt; have := y.isLt; omega⟩

/-- A matrix cut into shards by two reshapes and a transposition, at an index. -/
theorem cut_apply (X : (⟨2, ![2048, 5632]⟩ : Shape).Idx → α)
    (h1 : (⟨2, ![2048, 5632]⟩ : Shape).ShapeCasts ⟨3, ![2048, 8, 704]⟩)
    (h2 : (⟨3, ![2048, 8, 704]⟩ : Shape).Transposes [1, 0, 2] ⟨3, ![8, 2048, 704]⟩)
    (h3 : (⟨3, ![8, 2048, 704]⟩ : Shape).ShapeCasts ⟨2, ![16384, 704]⟩) (r : Fin 16384) (y : Fin 704) :
    shapeCast ⟨2, ![16384, 704]⟩ (transpose ⟨3, ![8, 2048, 704]⟩ [1, 0, 2] (shapeCast ⟨3, ![2048, 8, 704]⟩ X h1) h2) h3 (ix2 r y)
      = X (ix2 (token r) (unit r y)) := by
  have hr := r.isLt
  have hs : r.val / 2048 < 8 := by omega
  let s : Fin 8 := ⟨r.val / 2048, hs⟩
  refine (shapeCast_apply _ h3 (ix2 r y) (ix3 s (token r) y) ?_).trans ?_
  · rw [Shape.rowMajor_val_three, Shape.rowMajor_val_two]
    show (r.val / 2048 * 2048 + r.val % 2048) * 704 + y.val = r.val * 704 + y.val
    have := Nat.div_add_mod r.val 2048
    omega
  refine (transpose_apply [1, 0, 2] _ h2 (ix3 s (token r) y) (ix3 (token r) s y) ?_).trans ?_
  · intro b
    match b with
    | ⟨0, _⟩ => rfl
    | ⟨1, _⟩ => rfl
    | ⟨2, _⟩ => rfl
  refine shapeCast_apply X h1 (ix3 (token r) s y) (ix2 (token r) (unit r y)) ?_
  rw [Shape.rowMajor_val_three, Shape.rowMajor_val_two]
  show (r.val % 2048) * 5632 + (704 * (r.val / 2048) + y.val) = (r.val % 2048 * 8 + r.val / 2048) * 704 + y.val
  omega

/-- Eight slices of columns one below another, at an index. -/
theorem stacked_apply (X : (⟨2, ![2048, 5632]⟩ : Shape).Idx → α) (f : Fin 8 → ((⟨2, ![2048, 704]⟩ : Shape).Idx → α))
    (hf : ∀ (s : Fin 8) (t : Fin 2048) (y : Fin 704),
      f s (ix2 t y) = X (ix2 t (⟨704 * s.val + y.val, by have := s.isLt; have := y.isLt; omega⟩ : Fin 5632)))
    (h : Shape.Concatenates ((List.ofFn fun s : Fin 8 => (⟨⟨2, ![2048, 704]⟩, f s⟩ : (s : Shape) × (s.Idx → α))).map (·.1))
      ⟨2, ![16384, 704]⟩ 0) (r : Fin 16384) (y : Fin 704) :
    concatenate ⟨2, ![16384, 704]⟩ 0 (List.ofFn fun s : Fin 8 => (⟨⟨2, ![2048, 704]⟩, f s⟩ : (s : Shape) × (s.Idx → α))) h (ix2 r y)
      = X (ix2 (token r) (unit r y)) := by
  have hr := r.isLt
  have hs : r.val / 2048 < 8 := by omega
  refine (concatenate_ofFn_apply (t := ⟨2, ![16384, 704]⟩) (s₁ := ⟨2, ![2048, 704]⟩) 0 f h rfl 2048 rfl (ix2 r y)
    (⟨r.val / 2048, hs⟩ : Fin 8) rfl (ix2 (token r) y) rfl ?_).trans (hf _ _ _)
  intro b hb
  match b with
  | ⟨0, _⟩ => exact absurd rfl hb
  | ⟨1, _⟩ => rfl

/-- The hidden unit of a row of every other shard, the shards from `side` on. -/
def sided (side : Fin 2) (R : Fin 2816) : Fin 5632 :=
  ⟨704 * (2 * (R.val / 704) + side.val) + R.val % 704, by have := R.isLt; have := side.isLt; omega⟩

/-- A hidden unit's column of an activation times a feature's column of another operand, over the tokens. -/
def overTokens (A : FVec Ideal ⟨2, ![2048, 5632]⟩ .bf16) (O : FVec Ideal ⟨2, ![2048, 2048]⟩ .bf16) (k : Fin 5632) (d : Fin 2048) : EReal :=
  ∑ t : Fin 2048, (A (ix2 t k) : EReal) * (O (ix2 t d) : EReal)

/-- What had landed of a weight gradient, at a row of the shards and a feature. -/
def landedAt (L : FVec Ideal ⟨2, ![2816, 2048]⟩ .bf16) (R : Fin 2816) (d : Fin 2048) : EReal := L (ix2 R d)

end Cert.Shards
-- ==== Proof.Act.Array.lean ====
/- What the two result arrays of the call `ffn_bwd_act` hold: at each token and hidden unit the incoming gradient's
   product with the unit's row of the down weights, times the derivative the host prepared. -/
module

public import proofs.«01_k».proof.Proof.Act.Prefix
public import proofs.«01_k».proof.Proof.Math.Shards
public import proofs.«01_k».proof.Proof.Gen.Kernel2Ideal.Value
public import Idealize.ShloMosaic.Lib.MatmulPlain
public import Idealize.ShloMosaic.Lib.IdealHost

@[expose] public section

noncomputable section

namespace Cert.Kernel2Ideal.Gen

open Idealize.ShloMosaic Idealize.ShloMosaic.TcCoe Idealize.ShloMosaic.ValueIdx
open Idealize.SL Idealize.SL.Sem
open Cert.Shards

theorem at0 : ∀ t : Fin cfg0.N, win0_0.index t 0 = t.val % 2 ∧ win0_0.index t 1 = 0 :=
  (by decide +kernel : ∀ t : Fin grid0.N, win0_0.index t 0 = t.val % 2 ∧ win0_0.index t 1 = 0)

theorem at1 : ∀ t : Fin cfg0.N, win0_1.index t 0 = t.val / 2 ∧ win0_1.index t 1 = 0 :=
  (by decide +kernel : ∀ t : Fin grid0.N, win0_1.index t 0 = t.val / 2 ∧ win0_1.index t 1 = 0)

theorem at2 : ∀ t : Fin cfg0.N, win0_2.index t 0 = t.val ∧ win0_2.index t 1 = 0 :=
  (by decide +kernel : ∀ t : Fin grid0.N, win0_2.index t 0 = t.val ∧ win0_2.index t 1 = 0)

theorem at3 : ∀ t : Fin cfg0.N, win0_3.index t 0 = t.val ∧ win0_3.index t 1 = 0 :=
  (by decide +kernel : ∀ t : Fin grid0.N, win0_3.index t 0 = t.val ∧ win0_3.index t 1 = 0)

theorem at4 : ∀ t : Fin cfg0.N, win0_4.index t 0 = t.val ∧ win0_4.index t 1 = 0 :=
  (by decide +kernel : ∀ t : Fin grid0.N, win0_4.index t 0 = t.val ∧ win0_4.index t 1 = 0)

theorem at5 : ∀ t : Fin cfg0.N, win0_5.index t 0 = t.val ∧ win0_5.index t 1 = 0 :=
  (by decide +kernel : ∀ t : Fin grid0.N, win0_5.index t 0 = t.val ∧ win0_5.index t 1 = 0)

theorem writes4 : ∀ t : Fin cfg0.N, (cfg0.win 4).flush t = true :=
  (by decide +kernel : ∀ t : Fin grid0.N, win0_4.flush t = true)

theorem writes5 : ∀ t : Fin cfg0.N, (cfg0.win 5).flush t = true :=
  (by decide +kernel : ∀ t : Fin grid0.N, win0_5.flush t = true)

section
variable {F : FTy → Type} [FloatOps F] (c : Dev nD) (t : Fin cfg0.N) (R : Fin 16384) (r : Fin 1024)
  (h : R.val = 1024 * t.val + r.val)
include h

theorem reads0 (X : Buf (Elt F) ((c : Thread nD τ).loc main_v8)) (k : Fin 2048) :
    ((cfg0.win 0).blk t).view.read (Elt F) X (ix2 r k) = X (ix2 (token R) k) := by
  refine congrArg X (funext fun a => Fin.ext ?_)
  have p := at0 t
  have hr := r.isLt
  match a with
  | ⟨0, _⟩ => exact (win0_0.rect_emb_val t (ix2 r k) 0).trans (by rw [p.1]; show t.val % 2 * 1024 + r.val = R.val % 2048; omega)
  | ⟨1, _⟩ => exact (win0_0.rect_emb_val t (ix2 r k) 1).trans (by rw [p.2]; show 0 * 2048 + k.val = k.val; omega)

theorem reads1 (X : Buf (Elt F) ((c : Thread nD τ).loc main_arg2)) (y : Fin 704) (k : Fin 2048) :
    ((cfg0.win 1).blk t).view.read (Elt F) X (ix2 y k) = X (ix2 (unit R y) k) := by
  refine congrArg X (funext fun a => Fin.ext ?_)
  have p := at1 t
  have hr := r.isLt
  match a with
  | ⟨0, _⟩ => exact (win0_1.rect_emb_val t (ix2 y k) 0).trans (by rw [p.1]; show t.val / 2 * 704 + y.val = 704 * (R.val / 2048) + y.val; omega)
  | ⟨1, _⟩ => exact (win0_1.rect_emb_val t (ix2 y k) 1).trans (by rw [p.2]; show 0 * 2048 + k.val = k.val; omega)

theorem reads2 (X : Buf (Elt F) ((c : Thread nD τ).loc main_v12)) (y : Fin 704) :
    ((cfg0.win 2).blk t).view.read (Elt F) X (ix2 r y) = X (ix2 R y) := by
  refine congrArg X (funext fun a => Fin.ext ?_)
  have p := at2 t
  match a with
  | ⟨0, _⟩ => exact (win0_2.rect_emb_val t (ix2 r y) 0).trans (by rw [p.1]; show t.val * 1024 + r.val = R.val; omega)
  | ⟨1, _⟩ => exact (win0_2.rect_emb_val t (ix2 r y) 1).trans (by rw [p.2]; show 0 * 704 + y.val = y.val; omega)

theorem reads3 (X : Buf (Elt F) ((c : Thread nD τ).loc main_v16)) (y : Fin 704) :
    ((cfg0.win 3).blk t).view.read (Elt F) X (ix2 r y) = X (ix2 R y) := by
  refine congrArg X (funext fun a => Fin.ext ?_)
  have p := at3 t
  match a with
  | ⟨0, _⟩ => exact (win0_3.rect_emb_val t (ix2 r y) 0).trans (by rw [p.1]; show t.val * 1024 + r.val = R.val; omega)
  | ⟨1, _⟩ => exact (win0_3.rect_emb_val t (ix2 r y) 1).trans (by rw [p.2]; show 0 * 704 + y.val = y.val; omega)

theorem reads4 (X : Buf (Elt F) ((c : Thread nD τ).loc main_v17_0)) (y : Fin 704) :
    ((cfg0.win 4).blk t).view.read (Elt F) X (ix2 r y) = X (ix2 R y) := by
  refine congrArg X (funext fun a => Fin.ext ?_)
  have p := at4 t
  match a with
  | ⟨0, _⟩ => exact (win0_4.rect_emb_val t (ix2 r y) 0).trans (by rw [p.1]; show t.val * 1024 + r.val = R.val; omega)
  | ⟨1, _⟩ => exact (win0_4.rect_emb_val t (ix2 r y) 1).trans (by rw [p.2]; show 0 * 704 + y.val = y.val; omega)

theorem reads5 (X : Buf (Elt F) ((c : Thread nD τ).loc main_v17_1)) (y : Fin 704) :
    ((cfg0.win 5).blk t).view.read (Elt F) X (ix2 r y) = X (ix2 R y) := by
  refine congrArg X (funext fun a => Fin.ext ?_)
  have p := at5 t
  match a with
  | ⟨0, _⟩ => exact (win0_5.rect_emb_val t (ix2 r y) 0).trans (by rw [p.1]; show t.val * 1024 + r.val = R.val; omega)
  | ⟨1, _⟩ => exact (win0_5.rect_emb_val t (ix2 r y) 1).trans (by rw [p.2]; show 0 * 704 + y.val = y.val; omega)
end

/-- One block's product of the incoming gradient with the down weights. -/
theorem product_apply (P0 : Vec Ideal S1024x2048 .bf16) (P1 : Vec Ideal S704x2048 .bf16) (r : Fin 1024) (y : Fin 704) :
    (k0_pay1 P0 P1 (ix2 r y) : EReal) = ∑ k : Fin 2048, (P0 (ix2 r k) : EReal) * (P1 (ix2 y k) : EReal) := by
  unfold k0_pay1
  rw [shapeCast_self]
  simp only [matmul]
  refine (Ideal.matmul_transposedRhs_apply none P0 P1 _ r y).trans ?_
  rw [constant_apply, Ideal.ofBits_zero_f32, zero_add]

/-- What one point leaves in the first result's block. -/
theorem leaves4 (x0 : Vec Ideal S1024x2048 .bf16) (x1 : Vec Ideal S704x2048 .bf16) (x2 x3 : Vec Ideal S1024x704 .bf16)
    (r : Fin 1024) (y : Fin 704) :
    (out0_4 x0 x1 x2 x3 (ix2 r y) : EReal) = (k0_pay1 x0 x1 (ix2 r y) : EReal) * (x2 (ix2 r y) : EReal) := by
  have e0 : View.ld x0 r0_0 = x0 := View.ld_unit_zero (funext fun a => match a with | ⟨0, _⟩ => rfl | ⟨1, _⟩ => rfl) _ x0
  have e1 : View.ld x1 r0_1 = x1 := View.ld_unit_zero (funext fun a => match a with | ⟨0, _⟩ => rfl | ⟨1, _⟩ => rfl) _ x1
  have e2 : View.ld x2 r0_2 = x2 := View.ld_unit_zero (funext fun a => match a with | ⟨0, _⟩ => rfl | ⟨1, _⟩ => rfl) _ x2
  unfold out0_4
  rw [e0, e1, e2, View.canon_unit_zero (funext fun a => match a with | ⟨0, _⟩ => rfl | ⟨1, _⟩ => rfl)]
  unfold k0_pay2
  rw [shapeCast_self]
  rfl

/-- What one point leaves in the second result's block. -/
theorem leaves5 (x0 : Vec Ideal S1024x2048 .bf16) (x1 : Vec Ideal S704x2048 .bf16) (x2 x3 : Vec Ideal S1024x704 .bf16)
    (r : Fin 1024) (y : Fin 704) :
    (out0_5 x0 x1 x2 x3 (ix2 r y) : EReal) = (k0_pay1 x0 x1 (ix2 r y) : EReal) * (x3 (ix2 r y) : EReal) := by
  have e0 : View.ld x0 r0_0 = x0 := View.ld_unit_zero (funext fun a => match a with | ⟨0, _⟩ => rfl | ⟨1, _⟩ => rfl) _ x0
  have e1 : View.ld x1 r0_1 = x1 := View.ld_unit_zero (funext fun a => match a with | ⟨0, _⟩ => rfl | ⟨1, _⟩ => rfl) _ x1
  have e3 : View.ld x3 r0_2 = x3 := View.ld_unit_zero (funext fun a => match a with | ⟨0, _⟩ => rfl | ⟨1, _⟩ => rfl) _ x3
  unfold out0_5
  rw [e0, e1, e3, View.canon_unit_zero (funext fun a => match a with | ⟨0, _⟩ => rfl | ⟨1, _⟩ => rfl)]
  unfold k0_pay3
  rw [shapeCast_self]
  rfl

section
variable (m : (ℓ : Loc nD τ sig) → Buf (Elt Ideal) ℓ) (c : Dev nD)

/-- The incoming gradient's product with a unit's row of the down weights. -/
def pulled (R : Fin 16384) (y : Fin 704) : EReal :=
  ∑ k : Fin 2048, (halved (F := Ideal) (m ((c : Thread nD τ).loc main_arg3)) (ix2 (token R) k) : EReal)
    * (m ((c : Thread nD τ).loc main_arg2) (ix2 (unit R y) k) : EReal)

/-- The point that writes a row. -/
def pointOf (R : Fin 16384) : Fin cfg0.N :=
  ⟨R.val / 1024, by have := R.isLt; rw [show cfg0.N = 16 from N_0]; omega⟩

/-- A row's place in its block. -/
def rowOf (R : Fin 16384) : Fin 1024 := ⟨R.val % 1024, Nat.mod_lt _ (by norm_num)⟩

theorem row_split (R : Fin 16384) : R.val = 1024 * (pointOf R).val + (rowOf R).val :=
  (Nat.div_add_mod R.val 1024).symm

theorem product_at (R : Fin 16384) (y : Fin 704) :
    (k0_pay1 (iblk m c 0 (pointOf R)) (iblk m c 1 (pointOf R)) (ix2 (rowOf R) y) : EReal) = pulled m c R y := by
  rw [product_apply]
  refine Finset.sum_congr rfl fun k _ => ?_
  refine congrArg₂ (fun u v : EReal => u * v) ?_ ?_
  · exact (reads0 c (pointOf R) R (rowOf R) (row_split R) (V m c main_v8) k).trans (congrFun (V_prepared m c).1 _)
  · exact (reads1 c (pointOf R) R (rowOf R) (row_split R) (V m c main_arg2) y k).trans (congrFun (V_main_arg2 m c) _)

theorem array4 (R : Fin 16384) (y : Fin 704) : ((dats m 0 c).arrAt 4 cfg0.N (ix2 R y) : EReal)
    = pulled m c R y * (cut (F := Ideal) (byGate (m ((c : Thread nD τ).loc main_arg0)) (m ((c : Thread nD τ).loc main_arg1))) (ix2 R y) : EReal) := by
  have e := (reads4 c (pointOf R) R (rowOf R) (row_split R) ((dats m 0 c).arrAt 4 cfg0.N) y).symm
  rw [Value.blocks4 m c (pointOf R) (writes4 _), Value.flushed4] at e
  refine e.trans ((leaves4 (iblk m c 0 (pointOf R)) (iblk m c 1 (pointOf R)) (iblk m c 2 (pointOf R)) (iblk m c 3 (pointOf R)) (rowOf R) y).trans ?_)
  refine congrArg₂ (fun u v : EReal => u * v) (product_at m c R y) ?_
  exact (reads2 c (pointOf R) R (rowOf R) (row_split R) (V m c main_v12) y).trans (congrFun (V_prepared m c).2.1 _)

theorem array5 (R : Fin 16384) (y : Fin 704) : ((dats m 0 c).arrAt 5 cfg0.N (ix2 R y) : EReal)
    = pulled m c R y * (cut (F := Ideal) (byUp (m ((c : Thread nD τ).loc main_arg0))) (ix2 R y) : EReal) := by
  have e := (reads5 c (pointOf R) R (rowOf R) (row_split R) ((dats m 0 c).arrAt 5 cfg0.N) y).symm
  rw [Value.blocks5 m c (pointOf R) (writes5 _), Value.flushed5] at e
  refine e.trans ((leaves5 (iblk m c 0 (pointOf R)) (iblk m c 1 (pointOf R)) (iblk m c 2 (pointOf R)) (iblk m c 3 (pointOf R)) (rowOf R) y).trans ?_)
  refine congrArg₂ (fun u v : EReal => u * v) (product_at m c R y) ?_
  exact (reads3 c (pointOf R) R (rowOf R) (row_split R) (V m c main_v16) y).trans (congrFun (V_prepared m c).2.2 _)
end

end Cert.Kernel2Ideal.Gen
-- ==== Proof.Act.Agree.lean ====
/- The reference's two gradients, cut into shards, are what the call `ffn_bwd_act` leaves: the derivative of a product
   pulls the incoming gradient through, which for real numbers is multiplying by the derivative the forward pass saved. -/
module

public import proofs.«01_k».proof.Proof.Act.Array
public import proofs.«01_k».proof.Proof.Eqn.Finite
public import proofs.«01_k».proof.Proof.Gen.Reference2Ideal.Read

@[expose] public section

noncomputable section

namespace Cert.Act

open Idealize.ShloMosaic Idealize.ShloMosaic.TcCoe Idealize.ShloMosaic.ValueIdx
open Idealize.SL Idealize.SL.Sem
open Cert.Shards

/-! ## The precondition -/

/-- The shape relations the precondition's operations take. -/
instance facts_finite2 : Cert.Pre_finite2.Facts where
  bcast_S_S2048x5632 := by decide
  reducesTo_S2048x5632_S_d0_1 := by decide
  h_S_ := by decide
  bitsLt_bf16_f32 := by decide
  bcast_S_S5632x2048 := by decide
  reducesTo_S5632x2048_S_d0_1 := by decide
  bcast_S_S2048x2048 := by decide
  reducesTo_S2048x2048_S_d0_1 := by decide

instance : Subsingleton Cert.Pre_finite2.S_.Idx := ⟨fun a b => funext fun i => i.elim0⟩

/-- The precondition, read: three of the arguments are real everywhere. -/
theorem finite2_reals (x0 x1 : FVec Ideal Cert.Pre_finite2.S2048x5632 .f32) (x2 : FVec Ideal Cert.Pre_finite2.S5632x2048 .bf16)
    (x3 : FVec Ideal Cert.Pre_finite2.S2048x2048 .f32) (h : Cert.Pre_finite2.fn (F := Ideal) x0 x1 x2 x3 = fun _ => 1#1) :
    (∀ i, (x1 i : EReal) = (((x1 i : EReal).toReal : ℝ) : EReal)) ∧ (∀ i, (x2 i : EReal) = (((x2 i : EReal).toReal : ℝ) : EReal))
      ∧ ∀ i, (x3 i : EReal) = (((x3 i : EReal).toReal : ℝ) : EReal) := by
  have h0 := congrFun h (fun i => i.elim0)
  dsimp only [Cert.Pre_finite2.fn] at h0
  have h1 := Cert.Ref.and_one.mp h0
  have h2 := Cert.Ref.and_one.mp h1.1
  exact ⟨fun i => Cert.Eqn.real_of_word _ (Host.reduce_andi_all _ _ _ _ _ h2.1 i),
    fun i => Cert.Eqn.real_of_word _ (Host.reduce_andi_all _ _ _ _ _ h2.2 i),
    fun i => Cert.Eqn.real_of_word _ (Host.reduce_andi_all _ _ _ _ _ h1.2 i)⟩

/-! ## The equation at one token and hidden unit -/

/-- The logistic function of an extended real. -/
def sigma (a : EReal) : EReal := Ideal.div 1 (1 + Ideal.exp (-a))

theorem sigma_bot : sigma ⊥ = 0 := by
  have h1 : (1 : EReal) + ⊤ = ⊤ := EReal.coe_add_top 1
  have h : Ideal.exp (-⊥) = ⊤ := by rw [EReal.neg_bot]; rfl
  unfold sigma
  rw [h, h1, Ideal.div, if_neg (by simp), EReal.inv_top, mul_zero]

theorem sigma_top : sigma ⊤ = 1 := by
  have h : Ideal.exp (-⊤) = 0 := by rw [EReal.neg_top]; rfl
  unfold sigma
  rw [h, add_zero, Ideal.div, if_neg one_ne_zero]
  have : ((1 : ℝ) : EReal)⁻¹ = ((1 : ℝ) : EReal) := by rw [← EReal.coe_inv, inv_one]
  rw [one_mul]
  exact this

theorem sigma_coe (r : ℝ) : sigma (r : EReal) = ((1 / (1 + Real.exp (-r)) : ℝ) : EReal) := by
  have h : (1 : EReal) + Ideal.exp (-(r : EReal)) = ((1 + Real.exp (-r) : ℝ) : EReal) := by
    rw [← EReal.coe_neg, EReal.coe_add]; rfl
  unfold sigma
  rw [h, Ideal.div_coe (by positivity), one_mul]

/-- Pulling a real number through the derivative by the gate is multiplying by that derivative. -/
theorem pull_gate (a : EReal) (b d : ℝ) :
    (d : EReal) * (1 * (b : EReal) * sigma a + a * (1 * (b : EReal)) * (sigma a * (1 - sigma a)))
      = (d : EReal) * (b : EReal) * sigma a + a * ((d : EReal) * (b : EReal)) * (sigma a * (1 - sigma a)) := by
  induction a with
  | bot => rw [sigma_bot]; simp
  | top =>
    rw [sigma_top, show (1 : EReal) - 1 = 0 from EReal.sub_self (EReal.coe_ne_top 1) (EReal.coe_ne_bot 1)]
    simp
  | coe r =>
    rw [sigma_coe]
    generalize 1 / (1 + Real.exp (-r)) = s
    rw [← EReal.coe_one]
    norm_cast
    ring

/-! ## The reference, cut into shards -/

section
open Cert.Reference2Ideal Cert.Reference2Ideal.Gen

/-- The columns of one shard. -/
theorem slices_shard (s : Fin 8) : S2048x5632.Slices ![0, 704 * s.val] S2048x704 :=
  ⟨rfl, fun a => match a with
    | ⟨0, _⟩ => by show 0 + 2048 ≤ 2048; omega
    | ⟨1, _⟩ => by have := s.isLt; show 704 * s.val + 704 ≤ 5632; omega⟩

/-- Eight slices of columns, one below another. -/
def stacked (X : (⟨S2048x5632, .bf16⟩ : BufTy).Contents (Elt Ideal)) : (⟨S16384x704, .bf16⟩ : BufTy).Contents (Elt Ideal) :=
  concatenate S16384x704 0
    [⟨S2048x704, extractStridedSlice S2048x704 ![0, 0] X slices_S2048x5632_S2048x704_0_0⟩,
      ⟨S2048x704, extractStridedSlice S2048x704 ![0, 704] X slices_S2048x5632_S2048x704_0_704⟩,
      ⟨S2048x704, extractStridedSlice S2048x704 ![0, 1408] X slices_S2048x5632_S2048x704_0_1408⟩,
      ⟨S2048x704, extractStridedSlice S2048x704 ![0, 2112] X slices_S2048x5632_S2048x704_0_2112⟩,
      ⟨S2048x704, extractStridedSlice S2048x704 ![0, 2816] X slices_S2048x5632_S2048x704_0_2816⟩,
      ⟨S2048x704, extractStridedSlice S2048x704 ![0, 3520] X slices_S2048x5632_S2048x704_0_3520⟩,
      ⟨S2048x704, extractStridedSlice S2048x704 ![0, 4224] X slices_S2048x5632_S2048x704_0_4224⟩,
      ⟨S2048x704, extractStridedSlice S2048x704 ![0, 4928] X slices_S2048x5632_S2048x704_0_4928⟩]
    concatenates_S2048x704_S2048x704_S2048x704_S2048x704_S2048x704_S2048x704_S2048x704_S2048x704_S16384x704_d0

theorem stacked_at (X : (⟨S2048x5632, .bf16⟩ : BufTy).Contents (Elt Ideal)) (R : Fin 16384) (y : Fin 704) :
    stacked X (ix2 R y) = X (ix2 (token R) (unit R y)) := by
  refine stacked_apply X (fun s => extractStridedSlice S2048x704 ![0, 704 * s.val] X (slices_shard s)) ?_
    concatenates_S2048x704_S2048x704_S2048x704_S2048x704_S2048x704_S2048x704_S2048x704_S2048x704_S16384x704_d0 R y
  intro s t y
  refine extractStridedSlice_apply _ X (slices_shard s) (ix2 t y) _ (fun a => ?_)
  match a with
  | ⟨0, _⟩ => show t.val = 0 + t.val; omega
  | ⟨1, _⟩ => rfl

variable (x0 x1 : (⟨S2048x5632, .f32⟩ : BufTy).Contents (Elt Ideal)) (x2 : (⟨S5632x2048, .bf16⟩ : BufTy).Contents (Elt Ideal))
  (x3 : (⟨S2048x2048, .f32⟩ : BufTy).Contents (Elt Ideal))

theorem reference_gate (R : Fin 16384) (y : Fin 704) :
    Read.val_main_v21 (F := Ideal) x0 x1 x2 x3 (ix2 R y) = Read.val_main_v11 (F := Ideal) x0 x1 x2 x3 (ix2 (token R) (unit R y)) :=
  stacked_at (Read.val_main_v12 (F := Ideal) x0 x1 x2 x3) R y

theorem reference_up (R : Fin 16384) (y : Fin 704) :
    Read.val_main_v31 (F := Ideal) x0 x2 x3 (ix2 R y) = Read.val_main_v9 (F := Ideal) x0 x2 x3 (ix2 (token R) (unit R y)) :=
  stacked_at (Read.val_main_v22 (F := Ideal) x0 x2 x3) R y
end

/-! ## The two results -/

section
open Cert.Kernel2Ideal Cert.Kernel2Ideal.Gen
variable (m : (ℓ : Loc nD τ sig) → Buf (Elt Ideal) ℓ) (c : Dev nD)

theorem ones_at (i : S2048x5632.Idx) : (ones (F := Ideal) i : EReal) = 1 := by
  unfold ones
  rw [broadcastInDim_apply _ Cert.Kernel2Ideal.Gen.bcast_S_S2048x5632 (constant (F := Ideal) S_ .f32 0x3F800000#32) i (fun a => a.elim0) (fun a => a.elim0)]
  exact Ideal.ofBits_one_f32

theorem logistic_at (a : (⟨S2048x5632, .f32⟩ : BufTy).Contents (Elt Ideal)) (i : S2048x5632.Idx) :
    (Cert.Kernel2Ideal.Gen.logistic (F := Ideal) a i : EReal) = sigma (a i) := by
  show Ideal.div (ones (F := Ideal) i : EReal) ((ones (F := Ideal) i : EReal) + Ideal.exp (-(a i : EReal))) = _
  rw [ones_at]
  rfl

/-- The derivative by the gate the host prepared, at one token and unit. -/
theorem byGate_at (a b : (⟨S2048x5632, .f32⟩ : BufTy).Contents (Elt Ideal)) (i : S2048x5632.Idx) :
    (byGate (F := Ideal) a b i : EReal)
      = 1 * (b i : EReal) * sigma (a i) + (a i : EReal) * (1 * (b i : EReal)) * (sigma (a i) * (1 - sigma (a i))) := by
  show (ones (F := Ideal) i : EReal) * (b i : EReal) * (Cert.Kernel2Ideal.Gen.logistic (F := Ideal) a i : EReal)
    + (a i : EReal) * ((ones (F := Ideal) i : EReal) * (b i : EReal))
      * ((Cert.Kernel2Ideal.Gen.logistic (F := Ideal) a i : EReal) * ((ones (F := Ideal) i : EReal) - (Cert.Kernel2Ideal.Gen.logistic (F := Ideal) a i : EReal))) = _
  rw [ones_at, logistic_at]

theorem byUp_at (a : (⟨S2048x5632, .f32⟩ : BufTy).Contents (Elt Ideal)) (i : S2048x5632.Idx) :
    (byUp (F := Ideal) a i : EReal) = (a i : EReal) * sigma (a i) := by
  show (a i : EReal) * (Cert.Kernel2Ideal.Gen.logistic (F := Ideal) a i : EReal) * (ones (F := Ideal) i : EReal) = _
  rw [ones_at, logistic_at, mul_one]

/-- Half the incoming gradient, at one token and feature. -/
theorem halved_at (x : (⟨S2048x2048, .f32⟩ : BufTy).Contents (Elt Ideal)) (i : S2048x2048.Idx) :
    (halved (F := Ideal) x i : EReal) = Ideal.ofBits .f32 0x3F000000#32 * (x i : EReal) := by
  have e := broadcastInDim_apply _ Cert.Kernel2Ideal.Gen.bcast_S_S2048x2048 (constant (F := Ideal) S_ .f32 0x3F000000#32) i (fun a => a.elim0) (fun a => a.elim0)
  exact congrArg (fun u : EReal => u * (x i : EReal)) e

theorem cut_at (X : (⟨S2048x5632, .f32⟩ : BufTy).Contents (Elt Ideal)) (R : Fin 16384) (y : Fin 704) :
    (cut (F := Ideal) X (ix2 R y) : EReal) = X (ix2 (token R) (unit R y)) :=
  cut_apply (truncf (F := Ideal) (φ := .f32) .bf16 X Cert.Kernel2Ideal.Gen.bitsLt_bf16_f32) _ _ _ R y

theorem pulled_reference (R : Fin 16384) (y : Fin 704) :
    (Cert.Reference2Ideal.Read.val_main_v8 (F := Ideal) (m ((c : Thread nD τ).loc main_arg2)) (m ((c : Thread nD τ).loc main_arg3))
      (ix2 (token R) (unit R y)) : EReal) = pulled m c R y := by
  rw [Cert.Reference2Ideal.Read.val_main_v8_apply]
  refine Finset.sum_congr rfl fun k _ => ?_
  have el : Cert.Reference2Ideal.Read.lidx_main_v8 (ix2 (token R) (unit R y)) k = ix2 (token R) k :=
    funext fun a => match a with
      | ⟨0, _⟩ => rfl
      | ⟨1, _⟩ => rfl
  have er : Cert.Reference2Ideal.Read.ridx_main_v8 (ix2 (token R) (unit R y)) k = ix2 (unit R y) k :=
    funext fun a => match a with
      | ⟨0, _⟩ => rfl
      | ⟨1, _⟩ => rfl
  rw [el, er]
  refine congrArg₂ (fun u v : EReal => u * v) ?_ rfl
  rw [halved_at]
  simp only [Cert.Reference2Ideal.Read.val_main_v1_apply, Cert.Reference2Ideal.Read.val_main_v2_apply, Cert.Reference2Ideal.Read.val_main_v3_apply, Cert.Reference2Ideal.Read.val_main_cst_apply, Cert.Reference2Ideal.Read.val_main_v4_apply, Cert.Reference2Ideal.Read.val_main_v5_apply, Cert.Reference2Ideal.Read.val_main_cst_0_apply, Cert.Reference2Ideal.Read.val_main_v6_apply, Cert.Reference2Ideal.Read.val_main_v7_apply]
  rfl

/-- The reference's logistic function. -/
theorem logistic_reference (a : (⟨S2048x5632, .f32⟩ : BufTy).Contents (Elt Ideal)) (i : S2048x5632.Idx) :
    (Cert.Reference2Ideal.Read.val_main_v0_2 (F := Ideal) a i : EReal) = sigma (a i) := by
  simp only [Cert.Reference2Ideal.Read.val_main_call0_v0_apply, Cert.Reference2Ideal.Read.val_main_call0_v1_apply, Cert.Reference2Ideal.Read.val_main_call0_cst_apply, Cert.Reference2Ideal.Read.val_main_call0_v2_apply, Cert.Reference2Ideal.Read.val_main_call0_v3_apply, Cert.Reference2Ideal.Read.val_main_call0_cst_0_apply, Cert.Reference2Ideal.Read.val_main_call0_v4_apply, Cert.Reference2Ideal.Read.val_main_v0_2_apply, Cert.Reference2Ideal.Read.val_main_call0_cst_1_apply, Cert.Reference2Ideal.Read.val_main_call0_v6_apply, Cert.Reference2Ideal.Read.val_main_call0_v7_apply, Ideal.ofBits_def, Ideal.ofBits_one_f32]
  rfl

/-- The sum over the features is a real number. -/
theorem pulled_real
    (h2 : ∀ i, ∃ r : ℝ, (m ((c : Thread nD τ).loc main_arg2) i : EReal) = (r : EReal))
    (h3 : ∀ i, ∃ r : ℝ, (m ((c : Thread nD τ).loc main_arg3) i : EReal) = (r : EReal)) (R : Fin 16384) (y : Fin 704) :
    ∃ r : ℝ, pulled m c R y = (r : EReal) := by
  choose w hw using h2
  choose t ht using h3
  have half : Ideal.ofBits .f32 0x3F000000#32 = ((1 / 2 : ℝ) : EReal) := by
    simp [Ideal.ofBits, Ideal.ieee]
    rw [← EReal.coe_mul]
    norm_num
  refine ⟨∑ k : Fin 2048, (1 / 2 * t (ix2 (token R) k)) * w (ix2 (unit R y) k), ?_⟩
  unfold pulled
  rw [Cert.Attn.coe_sum]
  refine Finset.sum_congr rfl fun k _ => ?_
  rw [halved_at, ht, hw, half, ← EReal.coe_mul, ← EReal.coe_mul]
/-- The slope the reference multiplies by. -/
theorem gate_reference (a b : (⟨S2048x5632, .f32⟩ : BufTy).Contents (Elt Ideal)) (w : (⟨S5632x2048, .bf16⟩ : BufTy).Contents (Elt Ideal))
    (t : (⟨S2048x2048, .f32⟩ : BufTy).Contents (Elt Ideal)) (i : S2048x5632.Idx) (d : EReal)
    (hd : (Cert.Reference2Ideal.Read.val_main_v8 (F := Ideal) w t i : EReal) = d) :
    (Cert.Reference2Ideal.Read.val_main_v11 (F := Ideal) a b w t i : EReal)
      = d * (b i : EReal) * sigma (a i) + (a i : EReal) * (d * (b i : EReal)) * (sigma (a i) * (1 - sigma (a i))) := by
  subst hd
  simp only [Cert.Reference2Ideal.Read.val_main_call0_cst_1_apply, Cert.Reference2Ideal.Read.val_main_call0_v6_apply, Cert.Reference2Ideal.Read.val_main_call0_v7_apply, Cert.Reference2Ideal.Read.val_main_v0_1_apply, Cert.Reference2Ideal.Read.val_main_v0_0_apply, Cert.Reference2Ideal.Read.val_main_v9_apply, Cert.Reference2Ideal.Read.val_main_v10_apply, Cert.Reference2Ideal.Read.val_main_call1_v0_apply, Cert.Reference2Ideal.Read.val_main_call1_v1_apply, Cert.Reference2Ideal.Read.val_main_call1_v2_apply, Cert.Reference2Ideal.Read.val_main_v11_apply, Ideal.ofBits_def, Ideal.ofBits_one_f32, Ideal.mulf_def, Ideal.addf_def, Ideal.subf_def, logistic_reference]

theorem up_reference (a : (⟨S2048x5632, .f32⟩ : BufTy).Contents (Elt Ideal)) (w : (⟨S5632x2048, .bf16⟩ : BufTy).Contents (Elt Ideal))
    (t : (⟨S2048x2048, .f32⟩ : BufTy).Contents (Elt Ideal)) (i : S2048x5632.Idx) (d : EReal)
    (hd : (Cert.Reference2Ideal.Read.val_main_v8 (F := Ideal) w t i : EReal) = d) :
    (Cert.Reference2Ideal.Read.val_main_v9 (F := Ideal) a w t i : EReal) = (a i : EReal) * sigma (a i) * d := by
  subst hd
  simp only [Cert.Reference2Ideal.Read.val_main_v9_apply, Cert.Reference2Ideal.Read.val_main_v0_0_apply, Ideal.mulf_def, logistic_reference]
end

section
open Cert.Kernel2Ideal Cert.Kernel2Ideal.Gen
variable {m : (ℓ : Loc nD τ sig) → Buf (Elt Ideal) ℓ} {c : Dev nD} (h : Cert.Pre_Kernel2Ideal_finite2 m)
  {x0 x1 : (⟨S2048x5632, .f32⟩ : BufTy).Contents (Elt Ideal)} {x2 : (⟨S5632x2048, .bf16⟩ : BufTy).Contents (Elt Ideal)}
  {x3 : (⟨S2048x2048, .f32⟩ : BufTy).Contents (Elt Ideal)}
  (e0 : x0 = m ((c : Thread nD τ).loc main_arg0)) (e1 : x1 = m ((c : Thread nD τ).loc main_arg1))
  (e2 : x2 = m ((c : Thread nD τ).loc main_arg2)) (e3 : x3 = m ((c : Thread nD τ).loc main_arg3))

include h e0 e1 e2 e3 in
/-- The gate's gradient. -/
theorem agree_gate : Cert.Reference2Ideal.Read.val_main_v21 (F := Ideal) x0 x1 x2 x3 = (dats m 0 c).arrAt 4 cfg0.N := by
  obtain ⟨r1, r2, r3⟩ := finite2_reals _ _ _ _ (h c)
  subst e0 e1 e2 e3
  funext i
  obtain ⟨R, y, rfl⟩ : ∃ (R : Fin 16384) (y : Fin 704), i = ix2 R y := ⟨i 0, i 1, eq_ix2 i⟩
  obtain ⟨d, hd⟩ := pulled_real m c (fun i => ⟨_, r2 i⟩) (fun i => ⟨_, r3 i⟩) R y
  refine (reference_gate _ _ _ _ R y).trans ((gate_reference _ _ _ _ _ _ (pulled_reference m c R y)).trans (Eq.trans ?_ (array4 m c R y).symm))
  rw [cut_at, byGate_at, hd, r1]
  exact (pull_gate _ _ _).symm

include e0 e2 e3 in
/-- The up-projection's gradient. -/
theorem agree_up : Cert.Reference2Ideal.Read.val_main_v31 (F := Ideal) x0 x2 x3 = (dats m 0 c).arrAt 5 cfg0.N := by
  subst e0 e2 e3
  funext i
  obtain ⟨R, y, rfl⟩ : ∃ (R : Fin 16384) (y : Fin 704), i = ix2 R y := ⟨i 0, i 1, eq_ix2 i⟩
  refine (reference_up _ _ _ R y).trans ((up_reference _ _ _ _ _ (pulled_reference m c R y)).trans (Eq.trans ?_ (array5 m c R y).symm))
  rw [cut_at, byUp_at, mul_comm]
end

end Cert.Act
-- ==== Proof.Dh.Array.lean ====
/- What the result array of the call `ffn_bwd_dh` holds: at each token and feature the eight shards' products of the two
   gradients with the two weights, added up one shard after another. -/
module

public import proofs.«01_k».proof.Proof.Math.Shards
public import proofs.«01_k».proof.Proof.Gen.Kernel3Ideal.Value
public import Idealize.ShloMosaic.Lib.StableHlo.RunRead
public import Idealize.ShloMosaic.Lib.Pipeline.ValueKit.Acc
public import Idealize.ShloMosaic.Lib.MatmulPlain
public import Idealize.ShloMosaic.Lib.IdealHost

@[expose] public section

set_option maxRecDepth 16384

noncomputable section

namespace Cert.Kernel3Ideal.Gen

open Idealize.ShloMosaic Idealize.ShloMosaic.TcCoe Idealize.ShloMosaic.ValueIdx Idealize.ShloMosaic.StableHlo
open Idealize.SL Idealize.SL.Sem
open Cert.Shards
open scoped BigOperators

/-! ## What the host prepares -/

section
variable {F : FTy → Type} [FloatOps F]

/-- A matrix cut into the eight shards of its columns, one below another. -/
def cut (X : (⟨S2048x5632, .bf16⟩ : BufTy).Contents (Elt F)) : (⟨S16384x704, .bf16⟩ : BufTy).Contents (Elt F) :=
  shapeCast S16384x704 (transpose S8x2048x704 [1, 0, 2] (shapeCast S2048x8x704 X shapeCasts_S2048x5632_S2048x8x704)
    transposes_S2048x8x704_S8x2048x704_1_0_2) shapeCasts_S8x2048x704_S16384x704

/-- A weight matrix with its axes swapped. -/
def turned (X : (⟨S2048x5632, .bf16⟩ : BufTy).Contents (Elt F)) : (⟨S5632x2048, .bf16⟩ : BufTy).Contents (Elt F) :=
  transpose S5632x2048 [1, 0] X transposes_S2048x5632_S5632x2048_1_0

variable (m : (ℓ : Loc nD τ sig) → Buf (Elt F) ℓ) (c : Dev nD)

theorem V_prepared :
    V m c main_v2 = cut (m ((c : Thread nD τ).loc main_arg0)) ∧ V m c main_v5 = cut (m ((c : Thread nD τ).loc main_arg1))
      ∧ V m c main_v6 = turned (m ((c : Thread nD τ).loc main_arg2)) ∧ V m c main_v7 = turned (m ((c : Thread nD τ).loc main_arg3)) := by
  refine ⟨?_, ?_, ?_, ?_⟩ <;> unfold V <;> after_reads_simp <;> rfl
end

/-! ## The blocks of one point -/

theorem at0 : ∀ t : Fin cfg0.N, win0_0.index t 0 = t.val % 8 * 2 + t.val / 8 ∧ win0_0.index t 1 = 0 :=
  (by decide +kernel : ∀ t : Fin grid0.N, win0_0.index t 0 = t.val % 8 * 2 + t.val / 8 ∧ win0_0.index t 1 = 0)

theorem at1 : ∀ t : Fin cfg0.N, win0_1.index t 0 = t.val % 8 * 2 + t.val / 8 ∧ win0_1.index t 1 = 0 :=
  (by decide +kernel : ∀ t : Fin grid0.N, win0_1.index t 0 = t.val % 8 * 2 + t.val / 8 ∧ win0_1.index t 1 = 0)

theorem at2 : ∀ t : Fin cfg0.N, win0_2.index t 0 = t.val % 8 ∧ win0_2.index t 1 = 0 :=
  (by decide +kernel : ∀ t : Fin grid0.N, win0_2.index t 0 = t.val % 8 ∧ win0_2.index t 1 = 0)

theorem at3 : ∀ t : Fin cfg0.N, win0_3.index t 0 = t.val % 8 ∧ win0_3.index t 1 = 0 :=
  (by decide +kernel : ∀ t : Fin grid0.N, win0_3.index t 0 = t.val % 8 ∧ win0_3.index t 1 = 0)

section
variable {F : FTy → Type} [FloatOps F] (c : Dev nD) (t : Fin cfg0.N)

theorem reads0 (R : Fin 16384) (r : Fin 1024) (h : R.val = 1024 * (t.val % 8 * 2 + t.val / 8) + r.val)
    (X : Buf (Elt F) ((c : Thread nD τ).loc main_v2)) (y : Fin 704) :
    ((cfg0.win 0).blk t).view.read (Elt F) X (ix2 r y) = X (ix2 R y) := by
  refine congrArg X (funext fun a => Fin.ext ?_)
  have p := at0 t
  match a with
  | ⟨0, _⟩ => exact (win0_0.rect_emb_val t (ix2 r y) 0).trans (by rw [p.1]; show (t.val % 8 * 2 + t.val / 8) * 1024 + r.val = R.val; omega)
  | ⟨1, _⟩ => exact (win0_0.rect_emb_val t (ix2 r y) 1).trans (by rw [p.2]; show 0 * 704 + y.val = y.val; omega)

theorem reads1 (R : Fin 16384) (r : Fin 1024) (h : R.val = 1024 * (t.val % 8 * 2 + t.val / 8) + r.val)
    (X : Buf (Elt F) ((c : Thread nD τ).loc main_v5)) (y : Fin 704) :
    ((cfg0.win 1).blk t).view.read (Elt F) X (ix2 r y) = X (ix2 R y) := by
  refine congrArg X (funext fun a => Fin.ext ?_)
  have p := at1 t
  match a with
  | ⟨0, _⟩ => exact (win0_1.rect_emb_val t (ix2 r y) 0).trans (by rw [p.1]; show (t.val % 8 * 2 + t.val / 8) * 1024 + r.val = R.val; omega)
  | ⟨1, _⟩ => exact (win0_1.rect_emb_val t (ix2 r y) 1).trans (by rw [p.2]; show 0 * 704 + y.val = y.val; omega)

theorem reads2 (k : Fin 5632) (y : Fin 704) (h : k.val = 704 * (t.val % 8) + y.val)
    (X : Buf (Elt F) ((c : Thread nD τ).loc main_v6)) (d : Fin 2048) :
    ((cfg0.win 2).blk t).view.read (Elt F) X (ix2 y d) = X (ix2 k d) := by
  refine congrArg X (funext fun a => Fin.ext ?_)
  have p := at2 t
  match a with
  | ⟨0, _⟩ => exact (win0_2.rect_emb_val t (ix2 y d) 0).trans (by rw [p.1]; show t.val % 8 * 704 + y.val = k.val; omega)
  | ⟨1, _⟩ => exact (win0_2.rect_emb_val t (ix2 y d) 1).trans (by rw [p.2]; show 0 * 2048 + d.val = d.val; omega)

theorem reads3 (k : Fin 5632) (y : Fin 704) (h : k.val = 704 * (t.val % 8) + y.val)
    (X : Buf (Elt F) ((c : Thread nD τ).loc main_v7)) (d : Fin 2048) :
    ((cfg0.win 3).blk t).view.read (Elt F) X (ix2 y d) = X (ix2 k d) := by
  refine congrArg X (funext fun a => Fin.ext ?_)
  have p := at3 t
  match a with
  | ⟨0, _⟩ => exact (win0_3.rect_emb_val t (ix2 y d) 0).trans (by rw [p.1]; show t.val % 8 * 704 + y.val = k.val; omega)
  | ⟨1, _⟩ => exact (win0_3.rect_emb_val t (ix2 y d) 1).trans (by rw [p.2]; show 0 * 2048 + d.val = d.val; omega)
end

/-- One shard's two products, added. -/
theorem product_apply (P0 : Vec Ideal S1024x704 .bf16) (P2 : Vec Ideal S704x2048 .bf16) (P1 : Vec Ideal S1024x704 .bf16)
    (P3 : Vec Ideal S704x2048 .bf16) (r : Fin 1024) (d : Fin 2048) :
    (k0_pay1 P0 P2 P1 P3 (ix2 r d) : EReal)
      = (∑ y : Fin 704, (P0 (ix2 r y) : EReal) * (P2 (ix2 y d) : EReal)) + ∑ y : Fin 704, (P1 (ix2 r y) : EReal) * (P3 (ix2 y d) : EReal) := by
  unfold k0_pay1
  simp only [shapeCast_self, matmul]
  refine congrArg₂ (fun u v : EReal => u + v) ?_ ?_
  · refine (Ideal.matmul_plain_apply none P0 P2 _ r d).trans ?_
    rw [constant_apply, Ideal.ofBits_zero_f32, zero_add]
  · refine (Ideal.matmul_plain_apply none P1 P3 _ r d).trans ?_
    rw [constant_apply, Ideal.ofBits_zero_f32, zero_add]

/-- A token's line of a gradient times a feature's line of a weight, over all hidden units … -/
def dotted (A W : (⟨S2048x5632, .bf16⟩ : BufTy).Contents (Elt Ideal)) (T d : Fin 2048) : EReal :=
  ∑ k : Fin 5632, (A (ix2 T k) : EReal) * (W (ix2 d k) : EReal)

/-- The shard's place of a hidden unit. -/
def place (s : Fin 8) (y : Fin 704) : Fin 5632 := ⟨704 * s.val + y.val, by omega⟩

/-- … and over one shard's. -/
def shardDotted (A W : (⟨S2048x5632, .bf16⟩ : BufTy).Contents (Elt Ideal)) (s : Fin 8) (T d : Fin 2048) : EReal :=
  ∑ y : Fin 704, (A (ix2 T (place s y)) : EReal) * (W (ix2 d (place s y)) : EReal)

/-- Eight shards of hidden units are all of them. -/
theorem shards_sum (A W : (⟨S2048x5632, .bf16⟩ : BufTy).Contents (Elt Ideal)) (T d : Fin 2048) :
    ∑ s : Fin 8, shardDotted A W s T d = dotted A W T d := by
  unfold shardDotted dotted
  rw [← Fintype.sum_prod_type' (fun s y => (A (ix2 T (place s y)) : EReal) * (W (ix2 d (place s y)) : EReal)),
    ← Equiv.sum_comp (finProdFinEquiv (m := 8) (n := 704)) (fun k => (A (ix2 T k) : EReal) * (W (ix2 d k) : EReal))]
  refine Finset.sum_congr rfl fun p _ => ?_
  have e : place p.1 p.2 = finProdFinEquiv p := Fin.ext (by
    show 704 * p.1.val + p.2.val = p.2.val + 704 * p.1.val
    omega)
  rw [e]

section
variable (m : (ℓ : Loc nD τ sig) → Buf (Elt Ideal) ℓ) (c : Dev nD)

/-- What one point adds. -/
def part (n : ℕ) (j : S1024x2048.Idx) : EReal :=
  if h : n < cfg0.N then (k0_pay1 (iblk m c 0 ⟨n, h⟩) (iblk m c 2 ⟨n, h⟩) (iblk m c 1 ⟨n, h⟩) (iblk m c 3 ⟨n, h⟩) j : EReal) else 0

theorem part_at (t : Fin cfg0.N) (j : S1024x2048.Idx) :
    part m c t.val j = (k0_pay1 (iblk m c 0 t) (iblk m c 2 t) (iblk m c 1 t) (iblk m c 3 t) j : EReal) := dif_pos t.isLt

/-- The carried sum starts at the first shard … -/
theorem carried_first (t : Fin cfg0.N) (h : t.val % 8 = 0) (j : S1024x2048.Idx) :
    ((outsAt0 m c t.val t.isLt).2 j : EReal) = 0 + part m c t.val j := by
  rw [outsAt0_A m c t h (by omega) (by omega), part_at, zero_add]
  frame_out
  unfold k0_pay2
  rw [shapeCast_self]

/-- … and each next shard is added. -/
theorem carried_next (t : Fin cfg0.N) (h : ¬t.val % 8 = 0) (j : S1024x2048.Idx) :
    ((outsAt0 m c t.val t.isLt).2 j : EReal)
      = ((outsAt0 m c (t.val - 1) (Nat.lt_of_le_of_lt (Nat.sub_le _ _) t.isLt)).2 j : EReal) + part m c t.val j := by
  rw [part_at]
  by_cases h7 : t.val % 8 = 7
  · rw [outsAt0_C m c t h (by omega) h7]
    frame_out
    unfold k0_pay3
    rw [shapeCast_self]
    exact congrArg (fun u : EReal => u + (k0_pay1 (iblk m c 0 t) (iblk m c 2 t) (iblk m c 1 t) (iblk m c 3 t) j : EReal))
      (congrFun ((Memref.isWhole_whole cc0_scratch0).read_unread _) j)
  · rw [outsAt0_B m c t h (by omega) h7]
    frame_out
    unfold k0_pay3
    rw [shapeCast_self]
    exact congrArg (fun u : EReal => u + (k0_pay1 (iblk m c 0 t) (iblk m c 2 t) (iblk m c 1 t) (iblk m c 3 t) j : EReal))
      (congrFun ((Memref.isWhole_whole cc0_scratch0).read_unread _) j)

/-- The last shard's point writes the carried sum back. -/
theorem written (t : Fin cfg0.N) (h : t.val % 8 = 7) : (outsAt0 m c t.val t.isLt).1 = (outsAt0 m c t.val t.isLt).2 := by
  rw [outsAt0_C m c t (by omega) (by omega) h]
  frame_out

theorem written_sum (t : Fin cfg0.N) (h : t.val % 8 = 7) (j : S1024x2048.Idx) :
    ((outsAt0 m c t.val t.isLt).1 j : EReal) = ∑ s ∈ Finset.range 8, part m c (8 * (t.val / 8) + s) j := by
  rw [written m c t h]
  exact (Pipeline.eq_sum_of_reset_step_apply_of_mod (fun n h => ((outsAt0 m c n h).2 : S1024x2048.Idx → EReal)) 8 (fun _ => 0) (part m c)
    (carried_first m c) (carried_next m c) t h j).trans (zero_add _)

/-- The row of the stacked shards that holds a token's line of one shard. -/
def line (s : Fin 8) (t : Fin 2048) : Fin 16384 := ⟨2048 * s.val + t.val, by omega⟩

theorem cut_line (X : (⟨S2048x5632, .bf16⟩ : BufTy).Contents (Elt Ideal)) (s : Fin 8) (t : Fin 2048) (y : Fin 704) :
    (cut (F := Ideal) X (ix2 (line s t) y) : EReal) = X (ix2 t (place s y)) := by
  refine (cut_apply X _ _ _ (line s t) y).trans (congrArg X ?_)
  have e0 : token (line s t) = t := Fin.ext (by have := t.isLt; show (2048 * s.val + t.val) % 2048 = t.val; omega)
  have e1 : unit (line s t) y = place s y :=
    Fin.ext (by have := t.isLt; show 704 * ((2048 * s.val + t.val) / 2048) + y.val = 704 * s.val + y.val; omega)
  rw [e0, e1]

theorem turned_at (X : (⟨S2048x5632, .bf16⟩ : BufTy).Contents (Elt Ideal)) (k : Fin 5632) (d : Fin 2048) :
    (turned (F := Ideal) X (ix2 k d) : EReal) = X (ix2 d k) :=
  transpose_apply _ X transposes_S2048x5632_S5632x2048_1_0 (ix2 k d) (ix2 d k) (fun a => match a with
    | ⟨0, _⟩ => rfl
    | ⟨1, _⟩ => rfl)

/-- What the point of one shard adds at one token and feature, over the arguments. -/
theorem part_args (T : Fin 2048) (s : Fin 8) (d : Fin 2048) :
    part m c (8 * (T.val / 1024) + s.val) (ix2 (⟨T.val % 1024, Nat.mod_lt _ (by decide)⟩ : Fin 1024) d)
      = shardDotted (m ((c : Thread nD τ).loc main_arg0)) (m ((c : Thread nD τ).loc main_arg2)) s T d
        + shardDotted (m ((c : Thread nD τ).loc main_arg1)) (m ((c : Thread nD τ).loc main_arg3)) s T d := by
  have hT := T.isLt
  have hs := s.isLt
  have hN : 8 * (T.val / 1024) + s.val < cfg0.N := by rw [show cfg0.N = 16 from N_0]; omega
  have hR : (line s T).val = 1024 * ((8 * (T.val / 1024) + s.val) % 8 * 2 + (8 * (T.val / 1024) + s.val) / 8) + T.val % 1024 := by
    show 2048 * s.val + T.val = _; omega
  have hk : ∀ y : Fin 704, (place s y).val = 704 * ((8 * (T.val / 1024) + s.val) % 8) + y.val := fun y => by
    show 704 * s.val + y.val = _; omega
  refine (part_at m c ⟨_, hN⟩ _).trans ((product_apply _ _ _ _ _ d).trans ?_)
  refine congrArg₂ (fun u v : EReal => u + v) (Finset.sum_congr rfl fun y _ => ?_) (Finset.sum_congr rfl fun y _ => ?_)
  · refine congrArg₂ (fun u v : EReal => u * v) ?_ ?_
    · exact (reads0 c ⟨_, hN⟩ (line s T) _ hR (V m c main_v2) y).trans ((congrFun (V_prepared m c).1 _).trans (cut_line _ s T y))
    · exact (reads2 c ⟨_, hN⟩ (place s y) y (hk y) (V m c main_v6) d).trans ((congrFun (V_prepared m c).2.2.1 _).trans (turned_at _ _ d))
  · refine congrArg₂ (fun u v : EReal => u * v) ?_ ?_
    · exact (reads1 c ⟨_, hN⟩ (line s T) _ hR (V m c main_v5) y).trans ((congrFun (V_prepared m c).2.1 _).trans (cut_line _ s T y))
    · exact (reads3 c ⟨_, hN⟩ (place s y) y (hk y) (V m c main_v7) d).trans ((congrFun (V_prepared m c).2.2.2 _).trans (turned_at _ _ d))

theorem result_at (T d : Fin 2048) : (Value.G4 m c (ix2 T d) : EReal)
    = dotted (m ((c : Thread nD τ).loc main_arg0)) (m ((c : Thread nD τ).loc main_arg2)) T d
      + dotted (m ((c : Thread nD τ).loc main_arg1)) (m ((c : Thread nD τ).loc main_arg3)) T d := by
  have hT := T.isLt
  have hd := d.isLt
  have e : Value.pt4Of (ix2 T d) = 8 * (T.val / 1024) + 7 := by
    show 8 * (1 * (T.val / 1024 - 0) + 1 * (d.val / 2048 - 0)) + 7 = _; omega
  have hN : Value.pt4Of (ix2 T d) < cfg0.N := by rw [e, show cfg0.N = 16 from N_0]; omega
  have el : Value.loc4Of (ix2 T d) = ix2 (⟨T.val % 1024, Nat.mod_lt _ (by decide)⟩ : Fin 1024) d := funext fun a => match a with
    | ⟨0, _⟩ => rfl
    | ⟨1, _⟩ => Fin.ext (by show d.val % 2048 = d.val; omega)
  unfold Value.G4
  rw [dif_pos hN, ← Value.outsAt0_sweep m c _ hN, el]
  refine (written_sum m c ⟨_, hN⟩ (by show Value.pt4Of (ix2 T d) % 8 = 7; rw [e]; omega) _).trans ?_
  rw [show (8 * (Value.pt4Of (ix2 T d) / 8) : ℕ) = 8 * (T.val / 1024) by rw [e]; omega, Finset.sum_range, ← shards_sum, ← shards_sum,
    ← Finset.sum_add_distrib]
  exact Finset.sum_congr rfl fun s _ => part_args m c T s d
end

end Cert.Kernel3Ideal.Gen

end
-- ==== Proof.Dh.Agree.lean ====
/- The reference's gradient by the normalised input is what the call `ffn_bwd_dh` leaves, at all arguments. -/
module

public import proofs.«01_k».proof.Proof.Dh.Array
public import proofs.«01_k».proof.Proof.Gen.Reference3Ideal.Read

@[expose] public section

noncomputable section

namespace Cert.Dh

open Idealize.ShloMosaic Idealize.ShloMosaic.TcCoe Idealize.ShloMosaic.ValueIdx
open Idealize.SL Idealize.SL.Sem
open Cert.Kernel3Ideal Cert.Kernel3Ideal.Gen

section
variable (x0 x1 x2 x3 : (⟨S2048x5632, .bf16⟩ : BufTy).Contents (Elt Ideal)) (T d : Fin 2048)

/-- The reference at one token and feature. -/
theorem reference_at : (Cert.Reference3Ideal.Read.val_main_v9 (F := Ideal) x0 x1 x2 x3 (ix2 T d) : EReal)
    = dotted x0 x2 T d + dotted x1 x3 T d := by
  refine (add_comm (Cert.Reference3Ideal.Read.val_main_v7 (F := Ideal) x1 x3 (ix2 T d) : EReal) _).trans ?_
  refine congrArg₂ (fun u v : EReal => u + v) ?_ ?_
  · rw [Cert.Reference3Ideal.Read.val_main_v8_apply]
    refine Finset.sum_congr rfl fun k _ => congrArg₂ (fun u v : EReal => u * v) (congrArg x0 ?_) (congrArg x2 ?_)
    all_goals exact funext fun a => match a with
      | ⟨0, _⟩ => rfl
      | ⟨1, _⟩ => rfl
  · rw [Cert.Reference3Ideal.Read.val_main_v7_apply]
    refine Finset.sum_congr rfl fun k _ => congrArg₂ (fun u v : EReal => u * v) (congrArg x1 ?_) (congrArg x3 ?_)
    all_goals exact funext fun a => match a with
      | ⟨0, _⟩ => rfl
      | ⟨1, _⟩ => rfl
end

variable {m : (ℓ : Loc nD τ sig) → Buf (Elt Ideal) ℓ} {c : Dev nD}
  {x0 x1 x2 x3 : (⟨S2048x5632, .bf16⟩ : BufTy).Contents (Elt Ideal)}
  (e0 : x0 = m ((c : Thread nD τ).loc main_arg0)) (e1 : x1 = m ((c : Thread nD τ).loc main_arg1))
  (e2 : x2 = m ((c : Thread nD τ).loc main_arg2)) (e3 : x3 = m ((c : Thread nD τ).loc main_arg3))

include e0 e1 e2 e3 in
theorem agree : Cert.Reference3Ideal.Read.val_main_v9 (F := Ideal) x0 x1 x2 x3 = Value.G4 m c := by
  subst e0 e1 e2 e3
  funext i
  obtain ⟨T, d, rfl⟩ : ∃ (T d : Fin 2048), i = ix2 T d := ⟨i 0, i 1, eq_ix2 i⟩
  exact (reference_at _ _ _ _ T d).trans (result_at m c T d).symm

end Cert.Dh

end
-- ==== Proof.Dh.Stacked.lean ====
/- What the result array of the second feed-forward's call `ffn_bwd_dh` holds: the same sums as the first's, its two weights
   read from one array that holds the shards of both in turn. -/
module

public import proofs.«01_k».proof.Proof.Dh.Array
public import proofs.«01_k».proof.Proof.Gen.Kernel4Ideal.Value
public import Idealize.ShloMosaic.Lib.StableHlo.RunRead
public import Idealize.ShloMosaic.Lib.Pipeline.ValueKit.Acc
public import Idealize.ShloMosaic.Lib.MatmulPlain
public import Idealize.ShloMosaic.Lib.IdealHost

@[expose] public section

set_option maxRecDepth 16384

noncomputable section

namespace Cert.Kernel4Ideal.Gen

open Idealize.ShloMosaic Idealize.ShloMosaic.TcCoe Idealize.ShloMosaic.ValueIdx Idealize.ShloMosaic.StableHlo
open Idealize.SL Idealize.SL.Sem
open Cert.Shards
open Cert.Kernel3Ideal.Gen (cut turned cut_line turned_at dotted place shardDotted shards_sum line)
open scoped BigOperators

/-! ## What the host prepares -/

section
variable {F : FTy → Type} [FloatOps F]

/-- The two weights' shards in turn, one below another. -/
def interleaved (G U : (⟨S2048x5632, .bf16⟩ : BufTy).Contents (Elt F)) : (⟨S11264x2048, .bf16⟩ : BufTy).Contents (Elt F) :=
  shapeCast S11264x2048 (concatenate S8x2x704x2048 1
    [⟨S8x1x704x2048, broadcastInDim S8x1x704x2048 ![0, 2, 3] bcast_S8x704x2048_S8x1x704x2048_0_2_3
        (shapeCast S8x704x2048 (turned G) shapeCasts_S5632x2048_S8x704x2048)⟩,
      ⟨S8x1x704x2048, broadcastInDim S8x1x704x2048 ![0, 2, 3] bcast_S8x704x2048_S8x1x704x2048_0_2_3
        (shapeCast S8x704x2048 (turned U) shapeCasts_S5632x2048_S8x704x2048)⟩] concatenates_S8x1x704x2048_S8x1x704x2048_S8x2x704x2048_d1)
    shapeCasts_S8x2x704x2048_S11264x2048

variable (m : (ℓ : Loc nD τ sig) → Buf (Elt F) ℓ) (c : Dev nD)

theorem V_prepared :
    V m c main_v10 = cut (m ((c : Thread nD τ).loc main_arg0)) ∧ V m c main_v13 = cut (m ((c : Thread nD τ).loc main_arg1))
      ∧ V m c main_v7 = interleaved (m ((c : Thread nD τ).loc main_arg2)) (m ((c : Thread nD τ).loc main_arg3)) := by
  refine ⟨?_, ?_, ?_⟩ <;> unfold V <;> after_reads_simp <;> rfl
end

/-! ## The blocks of one point -/

theorem at0 : ∀ t : Fin cfg0.N, win0_0.index t 0 = t.val % 8 * 2 + t.val / 8 ∧ win0_0.index t 1 = 0 :=
  (by decide +kernel : ∀ t : Fin grid0.N, win0_0.index t 0 = t.val % 8 * 2 + t.val / 8 ∧ win0_0.index t 1 = 0)

theorem at1 : ∀ t : Fin cfg0.N, win0_1.index t 0 = t.val % 8 * 2 + t.val / 8 ∧ win0_1.index t 1 = 0 :=
  (by decide +kernel : ∀ t : Fin grid0.N, win0_1.index t 0 = t.val % 8 * 2 + t.val / 8 ∧ win0_1.index t 1 = 0)

theorem at2 : ∀ t : Fin cfg0.N, win0_2.index t 0 = t.val % 8 * 2 ∧ win0_2.index t 1 = 0 :=
  (by decide +kernel : ∀ t : Fin grid0.N, win0_2.index t 0 = t.val % 8 * 2 ∧ win0_2.index t 1 = 0)

theorem at3 : ∀ t : Fin cfg0.N, win0_3.index t 0 = t.val % 8 * 2 + 1 ∧ win0_3.index t 1 = 0 :=
  (by decide +kernel : ∀ t : Fin grid0.N, win0_3.index t 0 = t.val % 8 * 2 + 1 ∧ win0_3.index t 1 = 0)

section
variable {F : FTy → Type} [FloatOps F] (c : Dev nD) (t : Fin cfg0.N)

theorem reads0 (R : Fin 16384) (r : Fin 1024) (h : R.val = 1024 * (t.val % 8 * 2 + t.val / 8) + r.val)
    (X : Buf (Elt F) ((c : Thread nD τ).loc main_v10)) (y : Fin 704) :
    ((cfg0.win 0).blk t).view.read (Elt F) X (ix2 r y) = X (ix2 R y) := by
  refine congrArg X (funext fun a => Fin.ext ?_)
  have p := at0 t
  match a with
  | ⟨0, _⟩ => exact (win0_0.rect_emb_val t (ix2 r y) 0).trans (by rw [p.1]; show (t.val % 8 * 2 + t.val / 8) * 1024 + r.val = R.val; omega)
  | ⟨1, _⟩ => exact (win0_0.rect_emb_val t (ix2 r y) 1).trans (by rw [p.2]; show 0 * 704 + y.val = y.val; omega)

theorem reads1 (R : Fin 16384) (r : Fin 1024) (h : R.val = 1024 * (t.val % 8 * 2 + t.val / 8) + r.val)
    (X : Buf (Elt F) ((c : Thread nD τ).loc main_v13)) (y : Fin 704) :
    ((cfg0.win 1).blk t).view.read (Elt F) X (ix2 r y) = X (ix2 R y) := by
  refine congrArg X (funext fun a => Fin.ext ?_)
  have p := at1 t
  match a with
  | ⟨0, _⟩ => exact (win0_1.rect_emb_val t (ix2 r y) 0).trans (by rw [p.1]; show (t.val % 8 * 2 + t.val / 8) * 1024 + r.val = R.val; omega)
  | ⟨1, _⟩ => exact (win0_1.rect_emb_val t (ix2 r y) 1).trans (by rw [p.2]; show 0 * 704 + y.val = y.val; omega)

theorem reads2 (k : Fin 11264) (y : Fin 704) (h : k.val = 704 * (t.val % 8 * 2) + y.val)
    (X : Buf (Elt F) ((c : Thread nD τ).loc main_v7)) (d : Fin 2048) :
    ((cfg0.win 2).blk t).view.read (Elt F) X (ix2 y d) = X (ix2 k d) := by
  refine congrArg X (funext fun a => Fin.ext ?_)
  have p := at2 t
  match a with
  | ⟨0, _⟩ => exact (win0_2.rect_emb_val t (ix2 y d) 0).trans (by rw [p.1]; show t.val % 8 * 2 * 704 + y.val = k.val; omega)
  | ⟨1, _⟩ => exact (win0_2.rect_emb_val t (ix2 y d) 1).trans (by rw [p.2]; show 0 * 2048 + d.val = d.val; omega)

theorem reads3 (k : Fin 11264) (y : Fin 704) (h : k.val = 704 * (t.val % 8 * 2 + 1) + y.val)
    (X : Buf (Elt F) ((c : Thread nD τ).loc main_v7)) (d : Fin 2048) :
    ((cfg0.win 3).blk t).view.read (Elt F) X (ix2 y d) = X (ix2 k d) := by
  refine congrArg X (funext fun a => Fin.ext ?_)
  have p := at3 t
  match a with
  | ⟨0, _⟩ => exact (win0_3.rect_emb_val t (ix2 y d) 0).trans (by rw [p.1]; show (t.val % 8 * 2 + 1) * 704 + y.val = k.val; omega)
  | ⟨1, _⟩ => exact (win0_3.rect_emb_val t (ix2 y d) 1).trans (by rw [p.2]; show 0 * 2048 + d.val = d.val; omega)
end

/-- One shard's two products, added. -/
theorem product_apply (P0 : Vec Ideal S1024x704 .bf16) (P2 : Vec Ideal S704x2048 .bf16) (P1 : Vec Ideal S1024x704 .bf16)
    (P3 : Vec Ideal S704x2048 .bf16) (r : Fin 1024) (d : Fin 2048) :
    (k0_pay1 P0 P2 P1 P3 (ix2 r d) : EReal)
      = (∑ y : Fin 704, (P0 (ix2 r y) : EReal) * (P2 (ix2 y d) : EReal)) + ∑ y : Fin 704, (P1 (ix2 r y) : EReal) * (P3 (ix2 y d) : EReal) := by
  unfold k0_pay1
  simp only [shapeCast_self, matmul]
  refine congrArg₂ (fun u v : EReal => u + v) ?_ ?_
  · refine (Ideal.matmul_plain_apply none P0 P2 _ r d).trans ?_
    rw [constant_apply, Ideal.ofBits_zero_f32, zero_add]
  · refine (Ideal.matmul_plain_apply none P1 P3 _ r d).trans ?_
    rw [constant_apply, Ideal.ofBits_zero_f32, zero_add]

/-- The row of the interleaved weights that holds a hidden unit of one weight. -/
def row (s : Fin 8) (w : Fin 2) (y : Fin 704) : Fin 11264 := ⟨704 * (s.val * 2 + w.val) + y.val, by omega⟩

/-- A weight's shards with an axis put in, at an index. -/
theorem shard_at (X : (⟨S2048x5632, .bf16⟩ : BufTy).Contents (Elt Ideal)) (s : Fin 8) (y : Fin 704) (d : Fin 2048) :
    broadcastInDim S8x1x704x2048 ![0, 2, 3] bcast_S8x704x2048_S8x1x704x2048_0_2_3
      (shapeCast S8x704x2048 (turned (F := Ideal) X) shapeCasts_S5632x2048_S8x704x2048) (ix4 s (0 : Fin 1) y d) = X (ix2 d (place s y)) := by
  refine (broadcastInDim_apply _ _ _ _ (ix3 s y d) fun a => match a with
    | ⟨0, _⟩ => rfl
    | ⟨1, _⟩ => rfl
    | ⟨2, _⟩ => rfl).trans ?_
  refine (shapeCast_apply _ shapeCasts_S5632x2048_S8x704x2048 (ix3 s y d) (ix2 (place s y) d) ?_).trans (turned_at X (place s y) d)
  rw [Shape.rowMajor_val_three, Shape.rowMajor_val_two]
  show (704 * s.val + y.val) * 2048 + d.val = (s.val * 704 + y.val) * 2048 + d.val
  omega

theorem interleaved_at (G U : (⟨S2048x5632, .bf16⟩ : BufTy).Contents (Elt Ideal)) (s : Fin 8) (w : Fin 2) (y : Fin 704) (d : Fin 2048) :
    interleaved (F := Ideal) G U (ix2 (row s w y) d) = (if w = 0 then G else U) (ix2 d (place s y)) := by
  unfold interleaved
  refine (shapeCast_apply _ shapeCasts_S8x2x704x2048_S11264x2048 (ix2 (row s w y) d) (ix4 s w y d) ?_).trans ?_
  · rw [Shape.rowMajor_val_four, Shape.rowMajor_val_two]
    show ((s.val * 2 + w.val) * 704 + y.val) * 2048 + d.val = (704 * (s.val * 2 + w.val) + y.val) * 2048 + d.val
    omega
  match w with
  | ⟨0, _⟩ =>
    refine (concatenate_pair_apply_left (s₁ := S8x1x704x2048) (s₂ := S8x1x704x2048) (1 : Fin 4) _ _ concatenates_S8x1x704x2048_S8x1x704x2048_S8x2x704x2048_d1 (ix4 s (0 : Fin 2) y d) rfl
      (ix4 s (0 : Fin 1) y d) fun b => match b with
        | ⟨0, _⟩ => rfl
        | ⟨1, _⟩ => rfl
        | ⟨2, _⟩ => rfl
        | ⟨3, _⟩ => rfl).trans ?_
    exact shard_at G s y d
  | ⟨1, _⟩ =>
    refine (concatenate_pair_apply_right (s₁ := S8x1x704x2048) (s₂ := S8x1x704x2048) (1 : Fin 4) _ _ concatenates_S8x1x704x2048_S8x1x704x2048_S8x2x704x2048_d1 (ix4 s (1 : Fin 2) y d) rfl
      rfl (ix4 s (0 : Fin 1) y d) (fun b hb => match b with
        | ⟨0, _⟩ => rfl
        | ⟨1, _⟩ => absurd rfl hb
        | ⟨2, _⟩ => rfl
        | ⟨3, _⟩ => rfl) rfl).trans ?_
    exact shard_at U s y d

section
variable (m : (ℓ : Loc nD τ sig) → Buf (Elt Ideal) ℓ) (c : Dev nD)

/-- What one point adds. -/
def part (n : ℕ) (j : S1024x2048.Idx) : EReal :=
  if h : n < cfg0.N then (k0_pay1 (iblk m c 0 ⟨n, h⟩) (iblk m c 2 ⟨n, h⟩) (iblk m c 1 ⟨n, h⟩) (iblk m c 3 ⟨n, h⟩) j : EReal) else 0

theorem part_at (t : Fin cfg0.N) (j : S1024x2048.Idx) :
    part m c t.val j = (k0_pay1 (iblk m c 0 t) (iblk m c 2 t) (iblk m c 1 t) (iblk m c 3 t) j : EReal) := dif_pos t.isLt

/-- The carried sum starts at the first shard … -/
theorem carried_first (t : Fin cfg0.N) (h : t.val % 8 = 0) (j : S1024x2048.Idx) :
    ((outsAt0 m c t.val t.isLt).2 j : EReal) = 0 + part m c t.val j := by
  rw [outsAt0_A m c t h (by omega) (by omega), part_at, zero_add]
  frame_out
  unfold k0_pay2
  rw [shapeCast_self]

/-- … and each next shard is added. -/
theorem carried_next (t : Fin cfg0.N) (h : ¬t.val % 8 = 0) (j : S1024x2048.Idx) :
    ((outsAt0 m c t.val t.isLt).2 j : EReal)
      = ((outsAt0 m c (t.val - 1) (Nat.lt_of_le_of_lt (Nat.sub_le _ _) t.isLt)).2 j : EReal) + part m c t.val j := by
  rw [part_at]
  by_cases h7 : t.val % 8 = 7
  · rw [outsAt0_C m c t h (by omega) h7]
    frame_out
    unfold k0_pay3
    rw [shapeCast_self]
    exact congrArg (fun u : EReal => u + (k0_pay1 (iblk m c 0 t) (iblk m c 2 t) (iblk m c 1 t) (iblk m c 3 t) j : EReal))
      (congrFun ((Memref.isWhole_whole cc0_scratch0).read_unread _) j)
  · rw [outsAt0_B m c t h (by omega) h7]
    frame_out
    unfold k0_pay3
    rw [shapeCast_self]
    exact congrArg (fun u : EReal => u + (k0_pay1 (iblk m c 0 t) (iblk m c 2 t) (iblk m c 1 t) (iblk m c 3 t) j : EReal))
      (congrFun ((Memref.isWhole_whole cc0_scratch0).read_unread _) j)

/-- The last shard's point writes the carried sum back. -/
theorem written (t : Fin cfg0.N) (h : t.val % 8 = 7) : (outsAt0 m c t.val t.isLt).1 = (outsAt0 m c t.val t.isLt).2 := by
  rw [outsAt0_C m c t (by omega) (by omega) h]
  frame_out

theorem written_sum (t : Fin cfg0.N) (h : t.val % 8 = 7) (j : S1024x2048.Idx) :
    ((outsAt0 m c t.val t.isLt).1 j : EReal) = ∑ s ∈ Finset.range 8, part m c (8 * (t.val / 8) + s) j := by
  rw [written m c t h]
  exact (Pipeline.eq_sum_of_reset_step_apply_of_mod (fun n h => ((outsAt0 m c n h).2 : S1024x2048.Idx → EReal)) 8 (fun _ => 0) (part m c)
    (carried_first m c) (carried_next m c) t h j).trans (zero_add _)

/-- What the point of one shard adds at one token and feature, over the arguments. -/
theorem part_args (T : Fin 2048) (s : Fin 8) (d : Fin 2048) :
    part m c (8 * (T.val / 1024) + s.val) (ix2 (⟨T.val % 1024, Nat.mod_lt _ (by decide)⟩ : Fin 1024) d)
      = shardDotted (m ((c : Thread nD τ).loc main_arg0)) (m ((c : Thread nD τ).loc main_arg2)) s T d
        + shardDotted (m ((c : Thread nD τ).loc main_arg1)) (m ((c : Thread nD τ).loc main_arg3)) s T d := by
  have hT := T.isLt
  have hs := s.isLt
  have hN : 8 * (T.val / 1024) + s.val < cfg0.N := by rw [show cfg0.N = 16 from N_0]; omega
  have hR : (line s T).val = 1024 * ((8 * (T.val / 1024) + s.val) % 8 * 2 + (8 * (T.val / 1024) + s.val) / 8) + T.val % 1024 := by
    show 2048 * s.val + T.val = _; omega
  have hg : ∀ y : Fin 704, (row s 0 y).val = 704 * ((8 * (T.val / 1024) + s.val) % 8 * 2) + y.val := fun y => by
    show 704 * (s.val * 2 + 0) + y.val = _; omega
  have hu : ∀ y : Fin 704, (row s 1 y).val = 704 * ((8 * (T.val / 1024) + s.val) % 8 * 2 + 1) + y.val := fun y => by
    show 704 * (s.val * 2 + 1) + y.val = _; omega
  refine (part_at m c ⟨_, hN⟩ _).trans ((product_apply _ _ _ _ _ d).trans ?_)
  refine congrArg₂ (fun u v : EReal => u + v) (Finset.sum_congr rfl fun y _ => ?_) (Finset.sum_congr rfl fun y _ => ?_)
  · refine congrArg₂ (fun u v : EReal => u * v) ?_ ?_
    · exact (reads0 c ⟨_, hN⟩ (line s T) _ hR (V m c main_v10) y).trans ((congrFun (V_prepared m c).1 _).trans (cut_line _ s T y))
    · exact (reads2 c ⟨_, hN⟩ (row s 0 y) y (hg y) (V m c main_v7) d).trans ((congrFun (V_prepared m c).2.2 _).trans (interleaved_at _ _ s 0 y d))
  · refine congrArg₂ (fun u v : EReal => u * v) ?_ ?_
    · exact (reads1 c ⟨_, hN⟩ (line s T) _ hR (V m c main_v13) y).trans ((congrFun (V_prepared m c).2.1 _).trans (cut_line _ s T y))
    · exact (reads3 c ⟨_, hN⟩ (row s 1 y) y (hu y) (V m c main_v7) d).trans ((congrFun (V_prepared m c).2.2 _).trans (interleaved_at _ _ s 1 y d))

theorem result_at (T d : Fin 2048) : (Value.G4 m c (ix2 T d) : EReal)
    = dotted (m ((c : Thread nD τ).loc main_arg0)) (m ((c : Thread nD τ).loc main_arg2)) T d
      + dotted (m ((c : Thread nD τ).loc main_arg1)) (m ((c : Thread nD τ).loc main_arg3)) T d := by
  have hT := T.isLt
  have hd := d.isLt
  have e : Value.pt4Of (ix2 T d) = 8 * (T.val / 1024) + 7 := by
    show 8 * (1 * (T.val / 1024 - 0) + 1 * (d.val / 2048 - 0)) + 7 = _; omega
  have hN : Value.pt4Of (ix2 T d) < cfg0.N := by rw [e, show cfg0.N = 16 from N_0]; omega
  have el : Value.loc4Of (ix2 T d) = ix2 (⟨T.val % 1024, Nat.mod_lt _ (by decide)⟩ : Fin 1024) d := funext fun a => match a with
    | ⟨0, _⟩ => rfl
    | ⟨1, _⟩ => Fin.ext (by show d.val % 2048 = d.val; omega)
  unfold Value.G4
  rw [dif_pos hN, ← Value.outsAt0_sweep m c _ hN, el]
  refine (written_sum m c ⟨_, hN⟩ (by show Value.pt4Of (ix2 T d) % 8 = 7; rw [e]; omega) _).trans ?_
  rw [show (8 * (Value.pt4Of (ix2 T d) / 8) : ℕ) = 8 * (T.val / 1024) by rw [e]; omega, Finset.sum_range, ← shards_sum, ← shards_sum,
    ← Finset.sum_add_distrib]
  exact Finset.sum_congr rfl fun s _ => part_args m c T s d
end

end Cert.Kernel4Ideal.Gen

end
-- ==== Proof.Dh.AgreeStacked.lean ====
/- The reference's gradient by the normalised input is what the second feed-forward's call leaves too, at all arguments. -/
module

public import proofs.«01_k».proof.Proof.Dh.Agree
public import proofs.«01_k».proof.Proof.Dh.Stacked

@[expose] public section

noncomputable section

namespace Cert.Dh

open Idealize.ShloMosaic Idealize.ShloMosaic.TcCoe Idealize.ShloMosaic.ValueIdx
open Idealize.SL Idealize.SL.Sem
open Cert.Kernel4Ideal Cert.Kernel4Ideal.Gen

variable {m : (ℓ : Loc nD τ sig) → Buf (Elt Ideal) ℓ} {c : Dev nD}
  {x0 x1 x2 x3 : (⟨S2048x5632, .bf16⟩ : BufTy).Contents (Elt Ideal)}
  (e0 : x0 = m ((c : Thread nD τ).loc main_arg0)) (e1 : x1 = m ((c : Thread nD τ).loc main_arg1))
  (e2 : x2 = m ((c : Thread nD τ).loc main_arg2)) (e3 : x3 = m ((c : Thread nD τ).loc main_arg3))

include e0 e1 e2 e3 in
theorem agree_stacked : Cert.Reference3Ideal.Read.val_main_v9 (F := Ideal) x0 x1 x2 x3 = Value.G4 m c := by
  subst e0 e1 e2 e3
  funext i
  obtain ⟨T, d, rfl⟩ : ∃ (T d : Fin 2048), i = ix2 T d := ⟨i 0, i 1, eq_ix2 i⟩
  exact (reference_at _ _ _ _ T d).trans (result_at m c T d).symm

end Cert.Dh

end
-- ==== Proof.Dw.Tables.lean ====
/- The prefetched tables of the two calls `ffn_dw_side` at the machine's formats name blocks inside their arrays. -/
module

public import proofs.«01_k».proof.Proof.Gen.Kernel5.Frame
public import proofs.«01_k».proof.Proof.Gen.Kernel6.Frame
public import Idealize.ShloMosaic.Lib.StableHlo.RunRead
public import Idealize.ShloMosaic.PureOps.BitExact

@[expose] public section

set_option maxRecDepth 16384

noncomputable section

namespace Cert.Dw

open Idealize.ShloMosaic Idealize.ShloMosaic.TcCoe Idealize.ShloMosaic.StableHlo
open Idealize.SL Idealize.SL.Sem

section
open Cert.Kernel5 Cert.Kernel5.Gen

variable {F : FTy → Type} [FloatOps F] (m : (ℓ : Loc nD τ sig) → Buf (Elt F) ℓ)

set_option backward.proofsInPublic true in
/-- The table as the host fills it. -/
def sideTableKernel5 : pre0.Contents (Elt F) := fun | ⟨0, _⟩ => fun _ => 0#32 | ⟨_ + 1, h⟩ => absurd h (by simp)

theorem tbl_Kernel5 : tbl m = sideTableKernel5 := by
  funext j
  match j with
  | ⟨0, _⟩ =>
    show V m 0 main_v3 = fun _ => 0#32
    unfold V
    after_reads_simp
    rfl

theorem bits_Kernel5 : ok0 (F := Bits) sideTableKernel5 := by decide +kernel

/-- Every block the table names is inside its array. -/
theorem ok_Kernel5 : Ok (F := F) m := by
  unfold Ok
  rw [tbl_Kernel5 m]
  exact bits_Kernel5
end

section
open Cert.Kernel6 Cert.Kernel6.Gen

variable {F : FTy → Type} [FloatOps F] (m : (ℓ : Loc nD τ sig) → Buf (Elt F) ℓ)

set_option backward.proofsInPublic true in
/-- The table as the host fills it. -/
def sideTableKernel6 : pre0.Contents (Elt F) := fun | ⟨0, _⟩ => fun _ => 0#32 | ⟨_ + 1, h⟩ => absurd h (by simp)

theorem tbl_Kernel6 : tbl m = sideTableKernel6 := by
  funext j
  match j with
  | ⟨0, _⟩ =>
    show V m 0 main_v3 = fun _ => 0#32
    unfold V
    after_reads_simp
    rfl

theorem bits_Kernel6 : ok0 (F := Bits) sideTableKernel6 := by decide +kernel

/-- Every block the table names is inside its array. -/
theorem ok_Kernel6 : Ok (F := F) m := by
  unfold Ok
  rw [tbl_Kernel6 m]
  exact bits_Kernel6
end

end Cert.Dw

end
-- ==== Proof.Dw.Mine.lean ====
/- What the result array of the call `ffn_dw_side` on the device's own side's shards holds: at each hidden unit of those
   shards and each feature, the sum over the tokens of the activation times the other operand, plus what had landed. -/
module

public import proofs.«01_k».proof.Proof.Math.Shards
public import proofs.«01_k».proof.Proof.Kern.Vocab
public import proofs.«01_k».proof.Proof.Gen.Kernel5Ideal.Frame
public import Idealize.ShloMosaic.Lib.StableHlo.RunRead
public import Idealize.ShloMosaic.Lib.Pipeline.ValueKit.Acc
public import Idealize.ShloMosaic.Lib.IdealHost

@[expose] public section

set_option maxRecDepth 16384

noncomputable section

namespace Cert.Kernel5Ideal.Gen

open Idealize.ShloMosaic Idealize.ShloMosaic.TcCoe Idealize.ShloMosaic.ValueIdx Idealize.ShloMosaic.StableHlo
open Idealize.SL Idealize.SL.Sem
open Cert.Shards
open scoped BigOperators

/-! ## The table -/

section
variable {F : FTy → Type} [FloatOps F]

set_option backward.proofsInPublic true in
/-- The table that says which side's shards are taken, as the host fills it: the device's side is the first. -/
def sideTable : pre0.Contents (Elt F) := fun | ⟨0, _⟩ => fun _ => 0#32 | ⟨_ + 1, h⟩ => absurd h (by simp)

variable (m : (ℓ : Loc nD τ sig) → Buf (Elt F) ℓ)

theorem V_table (c : Dev nD) : V m c main_v3 = fun _ => 0#32 := by
  unfold V
  after_reads_simp
  rfl

theorem tbl_side : tbl m = sideTable := by
  funext j
  match j with
  | ⟨0, _⟩ => exact V_table m 0

/-- The shards of the device's own side are the even ones. -/
theorem shard_at : ∀ i : grid0.Coords, cc0_transform_0 (F := Bits) inb_S1_S1_0 numel1_S1 sideTable i = ![2 * (i 0).val, 0] := by
  decide +kernel

theorem shard_at' (i : grid0.Coords) : cc0_transform_0 (F := F) inb_S1_S1_0 numel1_S1 sideTable i = ![2 * (i 0).val, 0] :=
  shard_at i

theorem ok_bits : ok0 (F := Bits) sideTable := by decide +kernel

theorem ok : Ok (F := F) m := by
  unfold Ok
  rw [tbl_side m]
  exact ok_bits
end

/-! ## The blocks of one point -/

theorem at0 (t : Fin grid0.N) : (grid0.coords t 0).val = t.val / 2 :=
  (by decide +kernel : ∀ t : Fin grid0.N, (grid0.coords t 0).val = t.val / 2) t

theorem at1 (t : Fin grid0.N) : cc0_transform_1 (grid0.coords t) 0 = 0 ∧ cc0_transform_1 (grid0.coords t) 1 = t.val % 2 :=
  (by decide +kernel : ∀ t : Fin grid0.N, cc0_transform_1 (grid0.coords t) 0 = 0 ∧ cc0_transform_1 (grid0.coords t) 1 = t.val % 2) t

theorem at2 (t : Fin grid0.N) : cc0_transform_2 (grid0.coords t) 0 = t.val / 2 ∧ cc0_transform_2 (grid0.coords t) 1 = t.val % 2 :=
  (by decide +kernel : ∀ t : Fin grid0.N, cc0_transform_2 (grid0.coords t) 0 = t.val / 2 ∧ cc0_transform_2 (grid0.coords t) 1 = t.val % 2) t

theorem at3 (t : Fin grid0.N) : cc0_transform_3 (grid0.coords t) 0 = t.val / 2 ∧ cc0_transform_3 (grid0.coords t) 1 = t.val % 2 :=
  (by decide +kernel : ∀ t : Fin grid0.N, cc0_transform_3 (grid0.coords t) 0 = t.val / 2 ∧ cc0_transform_3 (grid0.coords t) 1 = t.val % 2) t

section
variable {F : FTy → Type} [FloatOps F] (m : (ℓ : Loc nD τ sig) → Buf (Elt F) ℓ) (c : Dev nD) (t : Fin grid0.N)

theorem index0 : ((cfgM m (ok m)).win 0).index t = ![2 * (t.val / 2), 0] := by
  show cc0_transform_0 inb_S1_S1_0 numel1_S1 (tbl m) (grid0.coords t) = _
  rw [tbl_side m, shard_at', at0]

theorem reads0 (R : Fin 16384) (k : Fin 2048) (h : R.val = 2048 * (2 * (t.val / 2)) + k.val)
    (X : Buf (Elt F) ((c : Thread nD τ).loc main_v2)) (y : Fin 704) :
    (((cfgM m (ok m)).win 0).blk t).view.read (Elt F) X (ix2 k y) = X (ix2 R y) := by
  refine congrArg X (funext fun a => Fin.ext ?_)
  match a with
  | ⟨0, _⟩ => exact (((cfgM m (ok m)).win 0).rect_emb_val t (ix2 k y) (0 : Fin 2)).trans (by
      rw [index0 m t]; show (2 * (t.val / 2)) * 2048 + k.val = R.val; omega)
  | ⟨1, _⟩ => exact (((cfgM m (ok m)).win 0).rect_emb_val t (ix2 k y) (1 : Fin 2)).trans (by
      rw [index0 m t]; show 0 * 704 + y.val = y.val; omega)

theorem reads1 (d : Fin 2048) (z : Fin 1024) (h : d.val = 1024 * (t.val % 2) + z.val)
    (X : Buf (Elt F) ((c : Thread nD τ).loc main_arg1)) (k : Fin 2048) :
    (((cfgM m (ok m)).win 1).blk t).view.read (Elt F) X (ix2 k z) = X (ix2 k d) := by
  refine congrArg X (funext fun a => Fin.ext ?_)
  have p : ((cfgM m (ok m)).win 1).index t (0 : Fin 2) = 0 ∧ ((cfgM m (ok m)).win 1).index t (1 : Fin 2) = t.val % 2 := at1 t
  match a with
  | ⟨0, _⟩ => exact (((cfgM m (ok m)).win 1).rect_emb_val t (ix2 k z) (0 : Fin 2)).trans (by
      rw [p.1]; show 0 * 2048 + k.val = k.val; omega)
  | ⟨1, _⟩ => exact (((cfgM m (ok m)).win 1).rect_emb_val t (ix2 k z) (1 : Fin 2)).trans (by
      rw [p.2]; show t.val % 2 * 1024 + z.val = d.val; omega)

theorem reads2 (R : Fin 2816) (y : Fin 704) (d : Fin 2048) (z : Fin 1024) (h : R.val = 704 * (t.val / 2) + y.val)
    (h' : d.val = 1024 * (t.val % 2) + z.val) (X : Buf (Elt F) ((c : Thread nD τ).loc main_arg2)) :
    (((cfgM m (ok m)).win 2).blk t).view.read (Elt F) X (ix2 y z) = X (ix2 R d) := by
  refine congrArg X (funext fun a => Fin.ext ?_)
  have p : ((cfgM m (ok m)).win 2).index t (0 : Fin 2) = t.val / 2 ∧ ((cfgM m (ok m)).win 2).index t (1 : Fin 2) = t.val % 2 := at2 t
  match a with
  | ⟨0, _⟩ => exact (((cfgM m (ok m)).win 2).rect_emb_val t (ix2 y z) (0 : Fin 2)).trans (by
      rw [p.1]; show t.val / 2 * 704 + y.val = R.val; omega)
  | ⟨1, _⟩ => exact (((cfgM m (ok m)).win 2).rect_emb_val t (ix2 y z) (1 : Fin 2)).trans (by
      rw [p.2]; show t.val % 2 * 1024 + z.val = d.val; omega)

theorem reads3 (R : Fin 2816) (y : Fin 704) (d : Fin 2048) (z : Fin 1024) (h : R.val = 704 * (t.val / 2) + y.val)
    (h' : d.val = 1024 * (t.val % 2) + z.val) (X : Buf (Elt F) ((c : Thread nD τ).loc main_v4)) :
    (((cfgM m (ok m)).win 3).blk t).view.read (Elt F) X (ix2 y z) = X (ix2 R d) := by
  refine congrArg X (funext fun a => Fin.ext ?_)
  have p : ((cfgM m (ok m)).win 3).index t (0 : Fin 2) = t.val / 2 ∧ ((cfgM m (ok m)).win 3).index t (1 : Fin 2) = t.val % 2 := at3 t
  match a with
  | ⟨0, _⟩ => exact (((cfgM m (ok m)).win 3).rect_emb_val t (ix2 y z) (0 : Fin 2)).trans (by
      rw [p.1]; show t.val / 2 * 704 + y.val = R.val; omega)
  | ⟨1, _⟩ => exact (((cfgM m (ok m)).win 3).rect_emb_val t (ix2 y z) (1 : Fin 2)).trans (by
      rw [p.2]; show t.val % 2 * 1024 + z.val = d.val; omega)

/-! ## The array after the run -/

theorem flushed : (dats m (ok m) 0 c).flushed 3 t = ((cfgM m (ok m)).win 3).cut (grid0.coords t) (outsAt0 m (ok m) c t) := by
  show ((cfgM m (ok m)).win 3).cut (grid0.coords t) ((dats m (ok m) 0 c).after 3 t) = _
  rw [after0_3]

theorem point_inj : ∀ t t' : Fin grid0.N, cc0_transform_3 (grid0.coords t) = cc0_transform_3 (grid0.coords t') → t = t' := by
  decide +kernel

theorem apart : ∀ t t' : Fin (cfgM m (ok m)).N, ((cfgM m (ok m)).win 3).flush t = true → ((cfgM m (ok m)).win 3).flush t' = true → t ≠ t' →
    Disjoint (((cfgM m (ok m)).win 3).blk t).view.set (((cfgM m (ok m)).win 3).blk t').view.set :=
  fun t t' _ _ hne => ((cfgM m (ok m)).win 3).disjoint_blk fun h => hne (point_inj t t' h)

theorem block : (((cfgM m (ok m)).win 3).blk t).view.read (Elt F) ((dats m (ok m) 0 c).arrAt 3 (cfgM m (ok m)).N)
    = (dats m (ok m) 0 c).flushed 3 t :=
  (dats m (ok m) 0 c).read_blk_arrAt_eq_flushed 3 (apart m) (cfgM m (ok m)).N t t.isLt (flush0_3 _ t)

theorem left : outsAt0 m (ok m) c t = k0_pay1 (iblk m (ok m) c 0 t) (iblk m (ok m) c 1 t) (iblk m (ok m) c 2 t) := by
  unfold outsAt0
  frame_out
  exact (congrArg₂ (fun u v => k0_pay1 u v _) ((hs0_0 m (ok m) t).read_unread _) ((hs0_1 m (ok m) t).read_unread _)).trans
    (congrArg (k0_pay1 _ _) ((hs0_2 m (ok m) t).read_unread _))

/-- A matrix cut into the eight shards of its columns, one below another. -/
def cut (X : (⟨S2048x5632, .bf16⟩ : BufTy).Contents (Elt F)) : (⟨S16384x704, .bf16⟩ : BufTy).Contents (Elt F) :=
  shapeCast S16384x704 (transpose S8x2048x704 [1, 0, 2] (shapeCast S2048x8x704 X shapeCasts_S2048x5632_S2048x8x704)
    transposes_S2048x8x704_S8x2048x704_1_0_2) shapeCasts_S8x2048x704_S16384x704

theorem V_prepared : V m c main_v2 = cut (m ((c : Thread nD τ).loc main_arg0)) := by
  unfold V
  after_reads_simp
  rfl

variable (ρ : Dev nD → PrngReg)

/-- Every run ends with the named array in the result and the arguments as they were. -/
theorem run : θ_run defs (onTc (τ := τ) (main (F := F))) ⟨m, fun _ => 0, ρ⟩ fun r => ∀ c : Dev nD,
      r.2.mem ((c : Thread nD τ).loc main_v4) = (dats m (ok m) 0 c).arrAt 3 (cfgM m (ok m)).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1 3,
      ((h c).2 main_arg0 (by decide : main_arg0 ∈ Pipeline.restRefs sig spec0)).trans (V_main_arg0 m c),
      ((h c).1 1).trans (((dats m (ok m) 0 c).arrAt_in 1 rfl _).trans ((A_eq m (ok m) c 1).trans (V_main_arg1 m c))),
      ((h c).1 2).trans (((dats m (ok m) 0 c).arrAt_in 2 rfl _).trans ((A_eq m (ok m) c 2).trans (V_main_arg2 m c)))⟩)
    (run_main m ρ (ok m))
end

/-- One block: the activations' lines times the other operand's, over the tokens, plus what had landed. -/
theorem product_apply (P0 : Vec Ideal S2048x704 .bf16) (P1 : Vec Ideal S2048x1024 .bf16) (P2 : Vec Ideal S704x1024 .bf16)
    (y : Fin 704) (z : Fin 1024) :
    (k0_pay1 P0 P1 P2 (ix2 y z) : EReal) = (∑ k : Fin 2048, (P0 (ix2 k y) : EReal) * (P1 (ix2 k z) : EReal)) + (P2 (ix2 y z) : EReal) := by
  unfold k0_pay1
  simp only [shapeCast_self, matmul]
  refine congrArg (fun u : EReal => u + (P2 (ix2 y z) : EReal)) ((Cert.Attn.matmul_lhsT_apply none P0 P1 _ y z).trans ?_)
  rw [constant_apply, Ideal.ofBits_zero_f32, zero_add]

section
variable (m : (ℓ : Loc nD τ sig) → Buf (Elt Ideal) ℓ) (c : Dev nD)

theorem result_at (R : Fin 2816) (d : Fin 2048) : ((dats m (ok m) 0 c).arrAt 3 (cfgM m (ok m)).N (ix2 R d) : EReal)
    = overTokens (m ((c : Thread nD τ).loc main_arg0)) (m ((c : Thread nD τ).loc main_arg1)) (sided 0 R) d
      + landedAt (m ((c : Thread nD τ).loc main_arg2)) R d := by
  have hR := R.isLt
  have hd := d.isLt
  have hN : 2 * (R.val / 704) + d.val / 1024 < grid0.N := by rw [show grid0.N = 8 from N_0]; omega
  have h1 : R.val = 704 * ((2 * (R.val / 704) + d.val / 1024) / 2) + R.val % 704 := by omega
  have h2 : d.val = 1024 * ((2 * (R.val / 704) + d.val / 1024) % 2) + d.val % 1024 := by omega
  have e := (reads3 m c ⟨_, hN⟩ R ⟨R.val % 704, Nat.mod_lt _ (by decide)⟩ d ⟨d.val % 1024, Nat.mod_lt _ (by decide)⟩ h1 h2
    ((dats m (ok m) 0 c).arrAt 3 (cfgM m (ok m)).N)).symm
  rw [block m c ⟨_, hN⟩, flushed m c ⟨_, hN⟩, left m c ⟨_, hN⟩] at e
  refine e.trans ((product_apply _ _ _ _ _).trans (congrArg₂ (fun u v : EReal => u + v) (Finset.sum_congr rfl fun k _ => ?_)
    ((reads2 m c ⟨_, hN⟩ R _ d _ h1 h2 (V m c main_arg2)).trans (congrFun (V_main_arg2 m c) _))))
  have hk := k.isLt
  refine congrArg₂ (fun u v : EReal => u * v) ?_ ?_
  · refine (reads0 m c ⟨_, hN⟩ ⟨2048 * (2 * (R.val / 704)) + k.val, by omega⟩ k (by
      show _ = 2048 * (2 * ((2 * (R.val / 704) + d.val / 1024) / 2)) + k.val; show 2048 * (2 * (R.val / 704)) + k.val = _; omega)
      (V m c main_v2) _).trans ((congrFun (V_prepared m c) _).trans ((cut_apply _ _ _ _ _ _).trans (congrArg (m ((c : Thread nD τ).loc main_arg0)) ?_)))
    refine congrArg₂ ix2 (Fin.ext ?_) (Fin.ext ?_)
    · show (2048 * (2 * (R.val / 704)) + k.val) % 2048 = k.val; omega
    · show 704 * ((2048 * (2 * (R.val / 704)) + k.val) / 2048) + R.val % 704 = 704 * (2 * (R.val / 704) + 0) + R.val % 704; omega
  · exact (reads1 m c ⟨_, hN⟩ d _ h2 (V m c main_arg1) k).trans (congrFun (V_main_arg1 m c) _)
end

end Cert.Kernel5Ideal.Gen

end
-- ==== Proof.Dw.AgreeMine.lean ====
/- The reference's weight gradient of the device's own side's shards, with what had landed added, is what the call `ffn_dw_side` leaves, at all arguments. -/
module

public import proofs.«01_k».proof.Proof.Dw.Mine
public import proofs.«01_k».proof.Proof.Gen.Reference5Ideal.Read

@[expose] public section

noncomputable section

namespace Cert.Dw

open Idealize.ShloMosaic Idealize.ShloMosaic.TcCoe Idealize.ShloMosaic.ValueIdx
open Idealize.SL Idealize.SL.Sem
open Cert.Kernel5Ideal Cert.Kernel5Ideal.Gen Cert.Reference5Ideal.Read Cert.Shards

section
variable (x0 : (⟨S2048x5632, .bf16⟩ : BufTy).Contents (Elt Ideal)) (x1 : (⟨S2048x2048, .bf16⟩ : BufTy).Contents (Elt Ideal))

theorem mine_dot_at (k : Fin 5632) (d : Fin 2048) :
    (val_main_v7 (F := Ideal) x0 x1 (ix2 k d) : EReal) = overTokens x0 x1 k d := by
  rw [val_main_v7_apply, val_main_v6_apply, val_main_v5_apply]
  refine Finset.sum_congr rfl fun t _ => congrArg₂ (fun u v : EReal => u * v) (congrArg x0 ?_) (congrArg x1 ?_)
  all_goals exact funext fun a => match a with
    | ⟨0, _⟩ => rfl
    | ⟨1, _⟩ => rfl

theorem mine_reference_at (x2 : (⟨S2816x2048, .bf16⟩ : BufTy).Contents (Elt Ideal)) (R : Fin 2816) (d : Fin 2048) :
    (val_main_v14 (F := Ideal) x0 x1 x2 (ix2 R d) : EReal) = overTokens x0 x1 (sided 0 R) d + landedAt x2 R d := by
  have hR := R.isLt
  have hd := d.isLt
  refine congrArg (fun u : EReal => u + landedAt x2 R d) ((val_main_v11_apply x0 x1 (ix2 R d)).trans ?_)
  rw [val_main_v10_apply, val_main_v9_apply, val_main_v8_apply, ← mine_dot_at]
  refine congrArg (val_main_v7 (F := Ideal) x0 x1) (funext fun a => Fin.ext ?_)
  match a with
  | ⟨0, _⟩ =>
    show _ = 704 * (2 * (R.val / 704) + 0) + R.val % 704
    dsimp
    omega
  | ⟨1, _⟩ =>
    show _ = d.val
    dsimp
    omega
end

variable {m : (ℓ : Loc nD τ sig) → Buf (Elt Ideal) ℓ} {c : Dev nD}
  {x0 : (⟨S2048x5632, .bf16⟩ : BufTy).Contents (Elt Ideal)} {x1 : (⟨S2048x2048, .bf16⟩ : BufTy).Contents (Elt Ideal)}
  {x2 : (⟨S2816x2048, .bf16⟩ : BufTy).Contents (Elt Ideal)}
  (e0 : x0 = m ((c : Thread nD τ).loc main_arg0)) (e1 : x1 = m ((c : Thread nD τ).loc main_arg1))
  (e2 : x2 = m ((c : Thread nD τ).loc main_arg2))

include e0 e1 e2 in
theorem agree_mine : val_main_v14 (F := Ideal) x0 x1 x2 = (dats m (ok m) 0 c).arrAt 3 (cfgM m (ok m)).N := by
  subst e0 e1 e2
  funext i
  obtain ⟨R, d, rfl⟩ : ∃ (R : Fin 2816) (d : Fin 2048), i = ix2 R d := ⟨i 0, i 1, eq_ix2 i⟩
  exact (mine_reference_at _ _ _ R d).trans (result_at m c R d).symm

end Cert.Dw

end
-- ==== Proof.Dw.Theirs.lean ====
/- What the result array of the call `ffn_dw_side` on the other side's shards holds: at each hidden unit of those shards and
   each feature, the sum over the tokens of the activation times the other operand. -/
module

public import proofs.«01_k».proof.Proof.Math.Shards
public import proofs.«01_k».proof.Proof.Kern.Vocab
public import proofs.«01_k».proof.Proof.Gen.Kernel6Ideal.Frame
public import Idealize.ShloMosaic.Lib.StableHlo.RunRead
public import Idealize.ShloMosaic.Lib.Pipeline.ValueKit.Acc
public import Idealize.ShloMosaic.Lib.IdealHost

@[expose] public section

set_option maxRecDepth 16384

noncomputable section

namespace Cert.Kernel6Ideal.Gen

open Idealize.ShloMosaic Idealize.ShloMosaic.TcCoe Idealize.ShloMosaic.ValueIdx Idealize.ShloMosaic.StableHlo
open Idealize.SL Idealize.SL.Sem
open Cert.Shards
open scoped BigOperators

/-! ## The table -/

section
variable {F : FTy → Type} [FloatOps F]

set_option backward.proofsInPublic true in
/-- The table that says which side's shards are taken, as the host fills it: the device's side is the first. -/
def sideTable : pre0.Contents (Elt F) := fun | ⟨0, _⟩ => fun _ => 0#32 | ⟨_ + 1, h⟩ => absurd h (by simp)

variable (m : (ℓ : Loc nD τ sig) → Buf (Elt F) ℓ)

theorem V_table (c : Dev nD) : V m c main_v3 = fun _ => 0#32 := by
  unfold V
  after_reads_simp
  rfl

theorem tbl_side : tbl m = sideTable := by
  funext j
  match j with
  | ⟨0, _⟩ => exact V_table m 0

/-- The shards of the other side are the odd ones. -/
theorem shard_at : ∀ i : grid0.Coords, cc0_transform_0 (F := Bits) inb_S1_S1_0 numel1_S1 sideTable i = ![2 * (i 0).val + 1, 0] := by
  decide +kernel

theorem shard_at' (i : grid0.Coords) : cc0_transform_0 (F := F) inb_S1_S1_0 numel1_S1 sideTable i = ![2 * (i 0).val + 1, 0] :=
  shard_at i

theorem ok_bits : ok0 (F := Bits) sideTable := by decide +kernel

theorem ok : Ok (F := F) m := by
  unfold Ok
  rw [tbl_side m]
  exact ok_bits
end

/-! ## The blocks of one point -/

theorem at0 (t : Fin grid0.N) : (grid0.coords t 0).val = t.val / 2 :=
  (by decide +kernel : ∀ t : Fin grid0.N, (grid0.coords t 0).val = t.val / 2) t

theorem at1 (t : Fin grid0.N) : cc0_transform_1 (grid0.coords t) 0 = 0 ∧ cc0_transform_1 (grid0.coords t) 1 = t.val % 2 :=
  (by decide +kernel : ∀ t : Fin grid0.N, cc0_transform_1 (grid0.coords t) 0 = 0 ∧ cc0_transform_1 (grid0.coords t) 1 = t.val % 2) t

theorem at2 (t : Fin grid0.N) : cc0_transform_2 (grid0.coords t) 0 = t.val / 2 ∧ cc0_transform_2 (grid0.coords t) 1 = t.val % 2 :=
  (by decide +kernel : ∀ t : Fin grid0.N, cc0_transform_2 (grid0.coords t) 0 = t.val / 2 ∧ cc0_transform_2 (grid0.coords t) 1 = t.val % 2) t

section
variable {F : FTy → Type} [FloatOps F] (m : (ℓ : Loc nD τ sig) → Buf (Elt F) ℓ) (c : Dev nD) (t : Fin grid0.N)

theorem index0 : ((cfgM m (ok m)).win 0).index t = ![2 * (t.val / 2) + 1, 0] := by
  show cc0_transform_0 inb_S1_S1_0 numel1_S1 (tbl m) (grid0.coords t) = _
  rw [tbl_side m, shard_at', at0]

theorem reads0 (R : Fin 16384) (k : Fin 2048) (h : R.val = 2048 * (2 * (t.val / 2) + 1) + k.val)
    (X : Buf (Elt F) ((c : Thread nD τ).loc main_v2)) (y : Fin 704) :
    (((cfgM m (ok m)).win 0).blk t).view.read (Elt F) X (ix2 k y) = X (ix2 R y) := by
  refine congrArg X (funext fun a => Fin.ext ?_)
  match a with
  | ⟨0, _⟩ => exact (((cfgM m (ok m)).win 0).rect_emb_val t (ix2 k y) (0 : Fin 2)).trans (by
      rw [index0 m t]; show (2 * (t.val / 2) + 1) * 2048 + k.val = R.val; omega)
  | ⟨1, _⟩ => exact (((cfgM m (ok m)).win 0).rect_emb_val t (ix2 k y) (1 : Fin 2)).trans (by
      rw [index0 m t]; show 0 * 704 + y.val = y.val; omega)

theorem reads1 (d : Fin 2048) (z : Fin 1024) (h : d.val = 1024 * (t.val % 2) + z.val)
    (X : Buf (Elt F) ((c : Thread nD τ).loc main_arg1)) (k : Fin 2048) :
    (((cfgM m (ok m)).win 1).blk t).view.read (Elt F) X (ix2 k z) = X (ix2 k d) := by
  refine congrArg X (funext fun a => Fin.ext ?_)
  have p : ((cfgM m (ok m)).win 1).index t (0 : Fin 2) = 0 ∧ ((cfgM m (ok m)).win 1).index t (1 : Fin 2) = t.val % 2 := at1 t
  match a with
  | ⟨0, _⟩ => exact (((cfgM m (ok m)).win 1).rect_emb_val t (ix2 k z) (0 : Fin 2)).trans (by
      rw [p.1]; show 0 * 2048 + k.val = k.val; omega)
  | ⟨1, _⟩ => exact (((cfgM m (ok m)).win 1).rect_emb_val t (ix2 k z) (1 : Fin 2)).trans (by
      rw [p.2]; show t.val % 2 * 1024 + z.val = d.val; omega)

theorem reads2 (R : Fin 2816) (y : Fin 704) (d : Fin 2048) (z : Fin 1024) (h : R.val = 704 * (t.val / 2) + y.val)
    (h' : d.val = 1024 * (t.val % 2) + z.val) (X : Buf (Elt F) ((c : Thread nD τ).loc main_v4)) :
    (((cfgM m (ok m)).win 2).blk t).view.read (Elt F) X (ix2 y z) = X (ix2 R d) := by
  refine congrArg X (funext fun a => Fin.ext ?_)
  have p : ((cfgM m (ok m)).win 2).index t (0 : Fin 2) = t.val / 2 ∧ ((cfgM m (ok m)).win 2).index t (1 : Fin 2) = t.val % 2 := at2 t
  match a with
  | ⟨0, _⟩ => exact (((cfgM m (ok m)).win 2).rect_emb_val t (ix2 y z) (0 : Fin 2)).trans (by
      rw [p.1]; show t.val / 2 * 704 + y.val = R.val; omega)
  | ⟨1, _⟩ => exact (((cfgM m (ok m)).win 2).rect_emb_val t (ix2 y z) (1 : Fin 2)).trans (by
      rw [p.2]; show t.val % 2 * 1024 + z.val = d.val; omega)

/-! ## The array after the run -/

theorem flushed : (dats m (ok m) 0 c).flushed 2 t = ((cfgM m (ok m)).win 2).cut (grid0.coords t) (outsAt0 m (ok m) c t) := by
  show ((cfgM m (ok m)).win 2).cut (grid0.coords t) ((dats m (ok m) 0 c).after 2 t) = _
  rw [after0_2]

theorem point_inj : ∀ t t' : Fin grid0.N, cc0_transform_2 (grid0.coords t) = cc0_transform_2 (grid0.coords t') → t = t' := by
  decide +kernel

theorem apart : ∀ t t' : Fin (cfgM m (ok m)).N, ((cfgM m (ok m)).win 2).flush t = true → ((cfgM m (ok m)).win 2).flush t' = true → t ≠ t' →
    Disjoint (((cfgM m (ok m)).win 2).blk t).view.set (((cfgM m (ok m)).win 2).blk t').view.set :=
  fun t t' _ _ hne => ((cfgM m (ok m)).win 2).disjoint_blk fun h => hne (point_inj t t' h)

theorem block : (((cfgM m (ok m)).win 2).blk t).view.read (Elt F) ((dats m (ok m) 0 c).arrAt 2 (cfgM m (ok m)).N)
    = (dats m (ok m) 0 c).flushed 2 t :=
  (dats m (ok m) 0 c).read_blk_arrAt_eq_flushed 2 (apart m) (cfgM m (ok m)).N t t.isLt (flush0_2 _ t)

theorem left : outsAt0 m (ok m) c t = k0_pay1 (iblk m (ok m) c 0 t) (iblk m (ok m) c 1 t) := by
  unfold outsAt0
  frame_out
  exact congrArg₂ k0_pay1 ((hs0_0 m (ok m) t).read_unread _) ((hs0_1 m (ok m) t).read_unread _)

/-- A matrix cut into the eight shards of its columns, one below another. -/
def cut (X : (⟨S2048x5632, .bf16⟩ : BufTy).Contents (Elt F)) : (⟨S16384x704, .bf16⟩ : BufTy).Contents (Elt F) :=
  shapeCast S16384x704 (transpose S8x2048x704 [1, 0, 2] (shapeCast S2048x8x704 X shapeCasts_S2048x5632_S2048x8x704)
    transposes_S2048x8x704_S8x2048x704_1_0_2) shapeCasts_S8x2048x704_S16384x704

theorem V_prepared : V m c main_v2 = cut (m ((c : Thread nD τ).loc main_arg0)) := by
  unfold V
  after_reads_simp
  rfl

variable (ρ : Dev nD → PrngReg)

/-- Every run ends with the named array in the result and the arguments as they were. -/
theorem run : θ_run defs (onTc (τ := τ) (main (F := F))) ⟨m, fun _ => 0, ρ⟩ fun r => ∀ c : Dev nD,
      r.2.mem ((c : Thread nD τ).loc main_v4) = (dats m (ok m) 0 c).arrAt 2 (cfgM m (ok m)).N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1 2,
      ((h c).2 main_arg0 (by decide : main_arg0 ∈ Pipeline.restRefs sig spec0)).trans (V_main_arg0 m c),
      ((h c).1 1).trans (((dats m (ok m) 0 c).arrAt_in 1 rfl _).trans ((A_eq m (ok m) c 1).trans (V_main_arg1 m c)))⟩)
    (run_main m ρ (ok m))
end

/-- One block: the activations' lines times the other operand's, over the tokens. -/
theorem product_apply (P0 : Vec Ideal S2048x704 .bf16) (P1 : Vec Ideal S2048x1024 .bf16) (y : Fin 704) (z : Fin 1024) :
    (k0_pay1 P0 P1 (ix2 y z) : EReal) = ∑ k : Fin 2048, (P0 (ix2 k y) : EReal) * (P1 (ix2 k z) : EReal) := by
  unfold k0_pay1
  simp only [shapeCast_self, matmul]
  refine (Cert.Attn.matmul_lhsT_apply none P0 P1 _ y z).trans ?_
  rw [constant_apply, Ideal.ofBits_zero_f32, zero_add]

section
variable (m : (ℓ : Loc nD τ sig) → Buf (Elt Ideal) ℓ) (c : Dev nD)

theorem result_at (R : Fin 2816) (d : Fin 2048) : ((dats m (ok m) 0 c).arrAt 2 (cfgM m (ok m)).N (ix2 R d) : EReal)
    = overTokens (m ((c : Thread nD τ).loc main_arg0)) (m ((c : Thread nD τ).loc main_arg1)) (sided 1 R) d := by
  have hR := R.isLt
  have hd := d.isLt
  have hN : 2 * (R.val / 704) + d.val / 1024 < grid0.N := by rw [show grid0.N = 8 from N_0]; omega
  have h1 : R.val = 704 * ((2 * (R.val / 704) + d.val / 1024) / 2) + R.val % 704 := by omega
  have h2 : d.val = 1024 * ((2 * (R.val / 704) + d.val / 1024) % 2) + d.val % 1024 := by omega
  have e := (reads2 m c ⟨_, hN⟩ R ⟨R.val % 704, Nat.mod_lt _ (by decide)⟩ d ⟨d.val % 1024, Nat.mod_lt _ (by decide)⟩ h1 h2
    ((dats m (ok m) 0 c).arrAt 2 (cfgM m (ok m)).N)).symm
  rw [block m c ⟨_, hN⟩, flushed m c ⟨_, hN⟩, left m c ⟨_, hN⟩] at e
  refine e.trans ((product_apply _ _ _ _).trans (Finset.sum_congr rfl fun k _ => ?_))
  have hk := k.isLt
  refine congrArg₂ (fun u v : EReal => u * v) ?_ ?_
  · refine (reads0 m c ⟨_, hN⟩ ⟨2048 * (2 * (R.val / 704) + 1) + k.val, by omega⟩ k (by
      show _ = 2048 * (2 * ((2 * (R.val / 704) + d.val / 1024) / 2) + 1) + k.val; show 2048 * (2 * (R.val / 704) + 1) + k.val = _; omega)
      (V m c main_v2) _).trans ((congrFun (V_prepared m c) _).trans ((cut_apply _ _ _ _ _ _).trans (congrArg (m ((c : Thread nD τ).loc main_arg0)) ?_)))
    refine congrArg₂ ix2 (Fin.ext ?_) (Fin.ext ?_)
    · show (2048 * (2 * (R.val / 704) + 1) + k.val) % 2048 = k.val; omega
    · show 704 * ((2048 * (2 * (R.val / 704) + 1) + k.val) / 2048) + R.val % 704 = 704 * (2 * (R.val / 704) + 1) + R.val % 704; omega
  · exact (reads1 m c ⟨_, hN⟩ d _ h2 (V m c main_arg1) k).trans (congrFun (V_main_arg1 m c) _)
end

end Cert.Kernel6Ideal.Gen

end
-- ==== Proof.Dw.AgreeTheirs.lean ====
/- The reference's weight gradient of the other side's shards is what the call `ffn_dw_side` leaves, at all arguments. -/
module

public import proofs.«01_k».proof.Proof.Dw.Theirs
public import proofs.«01_k».proof.Proof.Gen.Reference6Ideal.Read

@[expose] public section

noncomputable section

namespace Cert.Dw

open Idealize.ShloMosaic Idealize.ShloMosaic.TcCoe Idealize.ShloMosaic.ValueIdx
open Idealize.SL Idealize.SL.Sem
open Cert.Kernel6Ideal Cert.Kernel6Ideal.Gen Cert.Reference6Ideal.Read Cert.Shards

section
variable (x0 : (⟨S2048x5632, .bf16⟩ : BufTy).Contents (Elt Ideal)) (x1 : (⟨S2048x2048, .bf16⟩ : BufTy).Contents (Elt Ideal))

theorem theirs_dot_at (k : Fin 5632) (d : Fin 2048) :
    (val_main_v7 (F := Ideal) x0 x1 (ix2 k d) : EReal) = overTokens x0 x1 k d := by
  rw [val_main_v7_apply, val_main_v6_apply, val_main_v5_apply]
  refine Finset.sum_congr rfl fun t _ => congrArg₂ (fun u v : EReal => u * v) (congrArg x0 ?_) (congrArg x1 ?_)
  all_goals exact funext fun a => match a with
    | ⟨0, _⟩ => rfl
    | ⟨1, _⟩ => rfl

theorem theirs_reference_at (R : Fin 2816) (d : Fin 2048) :
    (val_main_v12 (F := Ideal) x0 x1 (ix2 R d) : EReal) = overTokens x0 x1 (sided 1 R) d := by
  have hR := R.isLt
  have hd := d.isLt
  refine (val_main_v11_apply x0 x1 (ix2 R d)).trans ?_
  rw [val_main_v10_apply, val_main_v9_apply, val_main_v8_apply, ← theirs_dot_at]
  refine congrArg (val_main_v7 (F := Ideal) x0 x1) (funext fun a => Fin.ext ?_)
  match a with
  | ⟨0, _⟩ =>
    show _ = 704 * (2 * (R.val / 704) + 1) + R.val % 704
    dsimp
    omega
  | ⟨1, _⟩ =>
    show _ = d.val
    dsimp
    omega
end

variable {m : (ℓ : Loc nD τ sig) → Buf (Elt Ideal) ℓ} {c : Dev nD}
  {x0 : (⟨S2048x5632, .bf16⟩ : BufTy).Contents (Elt Ideal)} {x1 : (⟨S2048x2048, .bf16⟩ : BufTy).Contents (Elt Ideal)}
  (e0 : x0 = m ((c : Thread nD τ).loc main_arg0)) (e1 : x1 = m ((c : Thread nD τ).loc main_arg1))

include e0 e1 in
theorem agree_theirs : val_main_v12 (F := Ideal) x0 x1 = (dats m (ok m) 0 c).arrAt 2 (cfgM m (ok m)).N := by
  subst e0 e1
  funext i
  obtain ⟨R, d, rfl⟩ : ∃ (R : Fin 2816) (d : Fin 2048), i = ix2 R d := ⟨i 0, i 1, eq_ix2 i⟩
  exact (theirs_reference_at _ _ R d).trans (result_at m c R d).symm

end Cert.Dw

end
-- ==== Proof.Math.Products.lean ====
/- The two products of a backward pass, as sums, and where an element of a window's block sits in its array. -/
module

public import Idealize.ShloMosaic.PureOps.Ideal.Laws
public import Idealize.ShloMosaic.Lib.ValueIdx
public import Idealize.ShloMosaic.Lib.ValueIdxCoords
public import Idealize.ShloMosaic.Lib.MatmulPlain
public import Idealize.ShloMosaic.Lib.IdealHost
public import Idealize.ShloMosaic.Lib.Pipeline.Value
public import proofs.«01_k».proof.Proof.Kern.Vocab

@[expose] public section

noncomputable section

namespace Cert.Products

open Idealize.ShloMosaic Idealize.ShloMosaic.ValueIdx
open scoped BigOperators

/-- A weight's gradient: a column of the input times a column of the incoming gradient, over the tokens. -/
def byWeight {K M N : ℕ} (A : (⟨2, ![K, M]⟩ : Shape).Idx → EReal) (B : (⟨2, ![K, N]⟩ : Shape).Idx → EReal) (r : Fin M) (d : Fin N) : EReal :=
  ∑ k : Fin K, A (ix2 k r) * B (ix2 k d)

/-- An input's gradient: a row of the incoming gradient times a row of the weight, over the weight's columns. -/
def byInput {K M N : ℕ} (A : (⟨2, ![M, K]⟩ : Shape).Idx → EReal) (B : (⟨2, ![N, K]⟩ : Shape).Idx → EReal) (r : Fin M) (d : Fin N) : EReal :=
  ∑ k : Fin K, A (ix2 r k) * B (ix2 d k)

/-- The printed product over the rows of both operands, from a zero accumulator. -/
theorem rows_apply {K M N : ℕ} (A : FVec Ideal ⟨2, ![K, M]⟩ .bf16) (B : FVec Ideal ⟨2, ![K, N]⟩ .bf16) (r : Fin M) (d : Fin N) :
    (matmul (Cert.Attn.dotLhsT K M N) none A B (constant (F := Ideal) ⟨2, ![M, N]⟩ .f32 0x00000000#32) (ix2 r d) : EReal)
      = byWeight A B r d := by
  simp only [matmul]
  rw [Cert.Attn.matmul_lhsT_apply, constant_apply, Ideal.ofBits_zero_f32, zero_add]
  rfl

/-- The printed product over the columns of both operands, from a zero accumulator. -/
theorem columns_apply {K M N : ℕ} (A : FVec Ideal ⟨2, ![M, K]⟩ .bf16) (B : FVec Ideal ⟨2, ![N, K]⟩ .bf16) (r : Fin M) (d : Fin N) :
    (matmul (DotDims.transposedRhs M K N) none A B (constant (F := Ideal) ⟨2, ![M, N]⟩ .f32 0x00000000#32) (ix2 r d) : EReal)
      = byInput A B r d := by
  simp only [matmul]
  rw [Ideal.matmul_transposedRhs_apply, constant_apply, Ideal.ofBits_zero_f32, zero_add]
  rfl

/-- The printed product of rows by columns, from a zero accumulator. -/
theorem plain_apply {K M N : ℕ} (A : FVec Ideal ⟨2, ![M, K]⟩ .bf16) (B : FVec Ideal ⟨2, ![K, N]⟩ .bf16) (r : Fin M) (d : Fin N) :
    (matmul (DotDims.plain M K N) none A B (constant (F := Ideal) ⟨2, ![M, N]⟩ .f32 0x00000000#32) (ix2 r d) : EReal)
      = ∑ k : Fin K, A (ix2 r k) * B (ix2 k d) := by
  simp only [matmul]
  rw [Ideal.matmul_plain_apply, constant_apply, Ideal.ofBits_zero_f32, zero_add]

/-- Where an element of a block sits: on each axis the block's index times its size, plus its own place. -/
theorem placed {sig : RefSig} {G : Pipeline.Grid} (w : Pipeline.Window sig G) (t : Fin G.N) (y : (w.xblock (G.coords t)).Idx) (z : w.shape.Idx)
    (hk : w.kind = .blocked) (h : ∀ a, w.index t a * w.size a + (y a).val = (z a).val) : (w.rect t).emb y = z :=
  funext fun a => Fin.ext ((w.rect_emb_val t y a hk).trans (h a))

end Cert.Products

end
-- ==== Proof.Mm.QkvDw.lean ====
/- What the result array of the call `mix_qkv_dw` holds, and that the reference's gradient of the projection's weight is it. -/
module

public import proofs.«01_k».proof.Proof.Math.Products
public import proofs.«01_k».proof.Proof.Gen.Kernel7Ideal.Value
public import proofs.«01_k».proof.Proof.Gen.Reference7Ideal.Read

@[expose] public section

noncomputable section

namespace Cert.Kernel7Ideal.Gen

open Idealize.ShloMosaic Idealize.ShloMosaic.TcCoe Idealize.ShloMosaic.ValueIdx
open Idealize.SL Idealize.SL.Sem
open Cert.Products

/-- The blocks of a point: columns of the operands, and the tile of the result. -/
theorem blocks_at : ∀ t : Fin cfg0.N, (win0_0.index t 0 = 0 ∧ win0_0.index t 1 = t.val / 2)
    ∧ (win0_1.index t 0 = 0 ∧ win0_1.index t 1 = t.val % 2) ∧ (win0_2.index t 0 = t.val / 2 ∧ win0_2.index t 1 = t.val % 2) :=
  (by decide +kernel : ∀ t : Fin grid0.N, (win0_0.index t 0 = 0 ∧ win0_0.index t 1 = t.val / 2)
    ∧ (win0_1.index t 0 = 0 ∧ win0_1.index t 1 = t.val % 2) ∧ (win0_2.index t 0 = t.val / 2 ∧ win0_2.index t 1 = t.val % 2))

theorem writes : ∀ t : Fin cfg0.N, (cfg0.win 2).flush t = true :=
  (by decide +kernel : ∀ t : Fin grid0.N, win0_2.flush t = true)

section
variable {F : FTy → Type} [FloatOps F] (c : Dev nD) (t : Fin cfg0.N)

theorem reads0 (X : Buf (Elt F) ((c : Thread nD τ).loc main_arg0)) (k : Fin 2048) (y : Fin 768) (R : Fin 6144)
    (h : t.val / 2 * 768 + y.val = R.val) : ((cfg0.win 0).blk t).view.read (Elt F) X (ix2 k y) = X (ix2 k R) :=
  congrArg X (placed win0_0 t (ix2 k y) (ix2 k R) rfl fun a => match a with
    | ⟨0, _⟩ => by rw [show win0_0.index t ⟨0, _⟩ = 0 from (blocks_at t).1.1, Nat.zero_mul, Nat.zero_add]
    | ⟨1, _⟩ => by rw [show win0_0.index t ⟨1, _⟩ = _ from (blocks_at t).1.2]; exact h)

theorem reads1 (X : Buf (Elt F) ((c : Thread nD τ).loc main_arg1)) (k : Fin 2048) (z : Fin 1024) (d : Fin 2048)
    (h : t.val % 2 * 1024 + z.val = d.val) : ((cfg0.win 1).blk t).view.read (Elt F) X (ix2 k z) = X (ix2 k d) :=
  congrArg X (placed win0_1 t (ix2 k z) (ix2 k d) rfl fun a => match a with
    | ⟨0, _⟩ => by rw [show win0_1.index t ⟨0, _⟩ = 0 from (blocks_at t).2.1.1, Nat.zero_mul, Nat.zero_add]
    | ⟨1, _⟩ => by rw [show win0_1.index t ⟨1, _⟩ = _ from (blocks_at t).2.1.2]; exact h)

theorem reads2 (X : Buf (Elt F) ((c : Thread nD τ).loc main_v0)) (y : Fin 768) (z : Fin 1024) (R : Fin 6144) (d : Fin 2048)
    (h : t.val / 2 * 768 + y.val = R.val) (h' : t.val % 2 * 1024 + z.val = d.val) :
    ((cfg0.win 2).blk t).view.read (Elt F) X (ix2 y z) = X (ix2 R d) :=
  congrArg X (placed win0_2 t (ix2 y z) (ix2 R d) rfl fun a => match a with
    | ⟨0, _⟩ => by rw [show win0_2.index t ⟨0, _⟩ = _ from (blocks_at t).2.2.1]; exact h
    | ⟨1, _⟩ => by rw [show win0_2.index t ⟨1, _⟩ = _ from (blocks_at t).2.2.2]; exact h')
end

/-- What one point leaves in the result's block. -/
theorem leaves (x0 : Vec Ideal S2048x768 .bf16) (x1 : Vec Ideal S2048x1024 .bf16) (y : Fin 768) (z : Fin 1024) :
    (out0_2 x0 x1 (ix2 y z) : EReal) = byWeight x0 x1 y z := by
  have e0 : View.ld x0 r0_0 = x0 := View.ld_unit_zero (funext fun a => match a with | ⟨0, _⟩ => rfl | ⟨1, _⟩ => rfl) _ x0
  have e1 : View.ld x1 r0_1 = x1 := View.ld_unit_zero (funext fun a => match a with | ⟨0, _⟩ => rfl | ⟨1, _⟩ => rfl) _ x1
  unfold out0_2
  rw [e0, e1, View.canon_unit_zero (funext fun a => match a with | ⟨0, _⟩ => rfl | ⟨1, _⟩ => rfl)]
  exact rows_apply x0 x1 y z

section
variable (m : (ℓ : Loc nD τ sig) → Buf (Elt Ideal) ℓ) (c : Dev nD)

theorem result_at (R : Fin 6144) (d : Fin 2048) : ((dats m 0 c).arrAt 2 cfg0.N (ix2 R d) : EReal)
    = byWeight (m ((c : Thread nD τ).loc main_arg0)) (m ((c : Thread nD τ).loc main_arg1)) R d := by
  have hR := R.isLt
  have hd := d.isLt
  have hN : 2 * (R.val / 768) + d.val / 1024 < cfg0.N := by rw [show cfg0.N = 16 from N_0]; omega
  have h : (2 * (R.val / 768) + d.val / 1024) / 2 * 768 + R.val % 768 = R.val := by omega
  have h' : (2 * (R.val / 768) + d.val / 1024) % 2 * 1024 + d.val % 1024 = d.val := by omega
  have e := (reads2 c ⟨_, hN⟩ ((dats m 0 c).arrAt 2 cfg0.N) ⟨R.val % 768, Nat.mod_lt _ (by decide)⟩ ⟨d.val % 1024, Nat.mod_lt _ (by decide)⟩ R d h h').symm
  rw [Value.blocks2 m c ⟨_, hN⟩ (writes _), Value.flushed2] at e
  refine e.trans ((leaves _ _ _ _).trans (Finset.sum_congr rfl fun k _ => congrArg₂ (fun u v : EReal => u * v) ?_ ?_))
  · exact (reads0 c ⟨_, hN⟩ (V m c main_arg0) k _ R h).trans (congrFun (V_main_arg0 m c) _)
  · exact (reads1 c ⟨_, hN⟩ (V m c main_arg1) k _ d h').trans (congrFun (V_main_arg1 m c) _)
end

end Cert.Kernel7Ideal.Gen

namespace Cert.Mm

open Idealize.ShloMosaic Idealize.ShloMosaic.TcCoe Idealize.ShloMosaic.ValueIdx
open Idealize.SL Idealize.SL.Sem
open Cert.Kernel7Ideal Cert.Kernel7Ideal.Gen Cert.Reference7Ideal.Read Cert.Products

theorem qkv_dw_reference_at (x0 : (⟨S2048x6144, .bf16⟩ : BufTy).Contents (Elt Ideal)) (x1 : (⟨S2048x2048, .bf16⟩ : BufTy).Contents (Elt Ideal))
    (R : Fin 6144) (d : Fin 2048) : (val_main_v8 (F := Ideal) x0 x1 (ix2 R d) : EReal) = byWeight x0 x1 R d := by
  refine (val_main_v7_apply x0 x1 (ix2 R d)).trans ?_
  rw [val_main_v6_apply, val_main_v5_apply]
  refine Finset.sum_congr rfl fun k _ => congrArg₂ (fun u v : EReal => u * v) (congrArg x0 ?_) (congrArg x1 ?_)
  all_goals exact funext fun a => match a with
    | ⟨0, _⟩ => rfl
    | ⟨1, _⟩ => rfl

variable {m : (ℓ : Loc nD τ sig) → Buf (Elt Ideal) ℓ} {c : Dev nD}
  {x0 : (⟨S2048x6144, .bf16⟩ : BufTy).Contents (Elt Ideal)} {x1 : (⟨S2048x2048, .bf16⟩ : BufTy).Contents (Elt Ideal)}
  (e0 : x0 = m ((c : Thread nD τ).loc main_arg0)) (e1 : x1 = m ((c : Thread nD τ).loc main_arg1))

include e0 e1 in
theorem agree_qkv_dw : val_main_v8 (F := Ideal) x0 x1 = (dats m 0 c).arrAt 2 cfg0.N := by
  subst e0 e1
  funext i
  obtain ⟨R, d, rfl⟩ : ∃ (R : Fin 6144) (d : Fin 2048), i = ix2 R d := ⟨i 0, i 1, eq_ix2 i⟩
  exact (qkv_dw_reference_at _ _ R d).trans (result_at m c R d).symm

end Cert.Mm

end
-- ==== Proof.Mm.GateDw.lean ====
/- What the result array of the call `ple_gate_dw` holds, and that the reference's gradient of the gate's weight is it. -/
module

public import proofs.«01_k».proof.Proof.Math.Products
public import proofs.«01_k».proof.Proof.Gen.Kernel8Ideal.Value
public import proofs.«01_k».proof.Proof.Gen.Reference8Ideal.Read

@[expose] public section

noncomputable section

namespace Cert.Kernel8Ideal.Gen

open Idealize.ShloMosaic Idealize.ShloMosaic.TcCoe Idealize.ShloMosaic.ValueIdx
open Idealize.SL Idealize.SL.Sem
open Cert.Products

/-- The blocks of a point: columns of the operands, and the tile of the result. -/
theorem blocks_at : ∀ t : Fin cfg0.N, (win0_0.index t 0 = 0 ∧ win0_0.index t 1 = t.val / 2)
    ∧ (win0_1.index t 0 = 0 ∧ win0_1.index t 1 = t.val % 2) ∧ (win0_2.index t 0 = t.val / 2 ∧ win0_2.index t 1 = t.val % 2) :=
  (by decide +kernel : ∀ t : Fin grid0.N, (win0_0.index t 0 = 0 ∧ win0_0.index t 1 = t.val / 2)
    ∧ (win0_1.index t 0 = 0 ∧ win0_1.index t 1 = t.val % 2) ∧ (win0_2.index t 0 = t.val / 2 ∧ win0_2.index t 1 = t.val % 2))

theorem writes : ∀ t : Fin cfg0.N, (cfg0.win 2).flush t = true :=
  (by decide +kernel : ∀ t : Fin grid0.N, win0_2.flush t = true)

section
variable {F : FTy → Type} [FloatOps F] (c : Dev nD) (t : Fin cfg0.N)

theorem reads0 (X : Buf (Elt F) ((c : Thread nD τ).loc main_arg0)) (k : Fin 2048) (y : Fin 512) (R : Fin 2048)
    (h : t.val / 2 * 512 + y.val = R.val) : ((cfg0.win 0).blk t).view.read (Elt F) X (ix2 k y) = X (ix2 k R) :=
  congrArg X (placed win0_0 t (ix2 k y) (ix2 k R) rfl fun a => match a with
    | ⟨0, _⟩ => by rw [show win0_0.index t ⟨0, _⟩ = 0 from (blocks_at t).1.1, Nat.zero_mul, Nat.zero_add]
    | ⟨1, _⟩ => by rw [show win0_0.index t ⟨1, _⟩ = _ from (blocks_at t).1.2]; exact h)

theorem reads1 (X : Buf (Elt F) ((c : Thread nD τ).loc main_arg1)) (k : Fin 2048) (z : Fin 1024) (d : Fin 2048)
    (h : t.val % 2 * 1024 + z.val = d.val) : ((cfg0.win 1).blk t).view.read (Elt F) X (ix2 k z) = X (ix2 k d) :=
  congrArg X (placed win0_1 t (ix2 k z) (ix2 k d) rfl fun a => match a with
    | ⟨0, _⟩ => by rw [show win0_1.index t ⟨0, _⟩ = 0 from (blocks_at t).2.1.1, Nat.zero_mul, Nat.zero_add]
    | ⟨1, _⟩ => by rw [show win0_1.index t ⟨1, _⟩ = _ from (blocks_at t).2.1.2]; exact h)

theorem reads2 (X : Buf (Elt F) ((c : Thread nD τ).loc main_v0)) (y : Fin 512) (z : Fin 1024) (R : Fin 2048) (d : Fin 2048)
    (h : t.val / 2 * 512 + y.val = R.val) (h' : t.val % 2 * 1024 + z.val = d.val) :
    ((cfg0.win 2).blk t).view.read (Elt F) X (ix2 y z) = X (ix2 R d) :=
  congrArg X (placed win0_2 t (ix2 y z) (ix2 R d) rfl fun a => match a with
    | ⟨0, _⟩ => by rw [show win0_2.index t ⟨0, _⟩ = _ from (blocks_at t).2.2.1]; exact h
    | ⟨1, _⟩ => by rw [show win0_2.index t ⟨1, _⟩ = _ from (blocks_at t).2.2.2]; exact h')
end

/-- What one point leaves in the result's block. -/
theorem leaves (x0 : Vec Ideal S2048x512 .bf16) (x1 : Vec Ideal S2048x1024 .bf16) (y : Fin 512) (z : Fin 1024) :
    (out0_2 x0 x1 (ix2 y z) : EReal) = byWeight x0 x1 y z := by
  have e0 : View.ld x0 r0_0 = x0 := View.ld_unit_zero (funext fun a => match a with | ⟨0, _⟩ => rfl | ⟨1, _⟩ => rfl) _ x0
  have e1 : View.ld x1 r0_1 = x1 := View.ld_unit_zero (funext fun a => match a with | ⟨0, _⟩ => rfl | ⟨1, _⟩ => rfl) _ x1
  unfold out0_2
  rw [e0, e1, View.canon_unit_zero (funext fun a => match a with | ⟨0, _⟩ => rfl | ⟨1, _⟩ => rfl)]
  exact rows_apply x0 x1 y z

section
variable (m : (ℓ : Loc nD τ sig) → Buf (Elt Ideal) ℓ) (c : Dev nD)

theorem result_at (R : Fin 2048) (d : Fin 2048) : ((dats m 0 c).arrAt 2 cfg0.N (ix2 R d) : EReal)
    = byWeight (m ((c : Thread nD τ).loc main_arg0)) (m ((c : Thread nD τ).loc main_arg1)) R d := by
  have hR := R.isLt
  have hd := d.isLt
  have hN : 2 * (R.val / 512) + d.val / 1024 < cfg0.N := by rw [show cfg0.N = 8 from N_0]; omega
  have h : (2 * (R.val / 512) + d.val / 1024) / 2 * 512 + R.val % 512 = R.val := by omega
  have h' : (2 * (R.val / 512) + d.val / 1024) % 2 * 1024 + d.val % 1024 = d.val := by omega
  have e := (reads2 c ⟨_, hN⟩ ((dats m 0 c).arrAt 2 cfg0.N) ⟨R.val % 512, Nat.mod_lt _ (by decide)⟩ ⟨d.val % 1024, Nat.mod_lt _ (by decide)⟩ R d h h').symm
  rw [Value.blocks2 m c ⟨_, hN⟩ (writes _), Value.flushed2] at e
  refine e.trans ((leaves _ _ _ _).trans (Finset.sum_congr rfl fun k _ => congrArg₂ (fun u v : EReal => u * v) ?_ ?_))
  · exact (reads0 c ⟨_, hN⟩ (V m c main_arg0) k _ R h).trans (congrFun (V_main_arg0 m c) _)
  · exact (reads1 c ⟨_, hN⟩ (V m c main_arg1) k _ d h').trans (congrFun (V_main_arg1 m c) _)
end

end Cert.Kernel8Ideal.Gen

namespace Cert.Mm

open Idealize.ShloMosaic Idealize.ShloMosaic.TcCoe Idealize.ShloMosaic.ValueIdx
open Idealize.SL Idealize.SL.Sem
open Cert.Kernel8Ideal Cert.Kernel8Ideal.Gen Cert.Reference8Ideal.Read Cert.Products

theorem gate_dw_reference_at (x0 : (⟨S2048x2048, .bf16⟩ : BufTy).Contents (Elt Ideal)) (x1 : (⟨S2048x2048, .bf16⟩ : BufTy).Contents (Elt Ideal))
    (R : Fin 2048) (d : Fin 2048) : (val_main_v6 (F := Ideal) x0 x1 (ix2 R d) : EReal) = byWeight x0 x1 R d := by
  refine (val_main_v5_apply x0 x1 (ix2 R d)).trans ?_
  rw [val_main_v4_apply]
  refine (Finset.sum_congr rfl fun k _ => mul_comm _ _).trans ?_
  refine Finset.sum_congr rfl fun k _ => congrArg₂ (fun u v : EReal => u * v) (congrArg x0 ?_) (congrArg x1 ?_)
  all_goals exact funext fun a => match a with
    | ⟨0, _⟩ => rfl
    | ⟨1, _⟩ => rfl

variable {m : (ℓ : Loc nD τ sig) → Buf (Elt Ideal) ℓ} {c : Dev nD}
  {x0 : (⟨S2048x2048, .bf16⟩ : BufTy).Contents (Elt Ideal)} {x1 : (⟨S2048x2048, .bf16⟩ : BufTy).Contents (Elt Ideal)}
  (e0 : x0 = m ((c : Thread nD τ).loc main_arg0)) (e1 : x1 = m ((c : Thread nD τ).loc main_arg1))

include e0 e1 in
theorem agree_gate_dw : val_main_v6 (F := Ideal) x0 x1 = (dats m 0 c).arrAt 2 cfg0.N := by
  subst e0 e1
  funext i
  obtain ⟨R, d, rfl⟩ : ∃ (R : Fin 2048) (d : Fin 2048), i = ix2 R d := ⟨i 0, i 1, eq_ix2 i⟩
  exact (gate_dw_reference_at _ _ R d).trans (result_at m c R d).symm

end Cert.Mm

end
-- ==== Proof.Mm.OutDw.lean ====
/- What the result array of the call `mix_out_dw` holds, and that the reference's gradient of the output projection's weight is it. -/
module

public import proofs.«01_k».proof.Proof.Math.Products
public import proofs.«01_k».proof.Proof.Gen.Kernel9Ideal.Value
public import proofs.«01_k».proof.Proof.Gen.Reference9Ideal.Read

@[expose] public section

noncomputable section

namespace Cert.Kernel9Ideal.Gen

open Idealize.ShloMosaic Idealize.ShloMosaic.TcCoe Idealize.ShloMosaic.ValueIdx
open Idealize.SL Idealize.SL.Sem
open Cert.Products

/-- The blocks of a point: columns of the operands, and the tile of the result. -/
theorem blocks_at : ∀ t : Fin cfg0.N, (win0_0.index t 0 = 0 ∧ win0_0.index t 1 = t.val / 2)
    ∧ (win0_1.index t 0 = 0 ∧ win0_1.index t 1 = t.val % 2) ∧ (win0_2.index t 0 = t.val / 2 ∧ win0_2.index t 1 = t.val % 2) :=
  (by decide +kernel : ∀ t : Fin grid0.N, (win0_0.index t 0 = 0 ∧ win0_0.index t 1 = t.val / 2)
    ∧ (win0_1.index t 0 = 0 ∧ win0_1.index t 1 = t.val % 2) ∧ (win0_2.index t 0 = t.val / 2 ∧ win0_2.index t 1 = t.val % 2))

theorem writes : ∀ t : Fin cfg0.N, (cfg0.win 2).flush t = true :=
  (by decide +kernel : ∀ t : Fin grid0.N, win0_2.flush t = true)

section
variable {F : FTy → Type} [FloatOps F] (c : Dev nD) (t : Fin cfg0.N)

theorem reads0 (X : Buf (Elt F) ((c : Thread nD τ).loc main_arg0)) (k : Fin 2048) (y : Fin 512) (R : Fin 2048)
    (h : t.val / 2 * 512 + y.val = R.val) : ((cfg0.win 0).blk t).view.read (Elt F) X (ix2 k y) = X (ix2 k R) :=
  congrArg X (placed win0_0 t (ix2 k y) (ix2 k R) rfl fun a => match a with
    | ⟨0, _⟩ => by rw [show win0_0.index t ⟨0, _⟩ = 0 from (blocks_at t).1.1, Nat.zero_mul, Nat.zero_add]
    | ⟨1, _⟩ => by rw [show win0_0.index t ⟨1, _⟩ = _ from (blocks_at t).1.2]; exact h)

theorem reads1 (X : Buf (Elt F) ((c : Thread nD τ).loc main_arg1)) (k : Fin 2048) (z : Fin 1024) (d : Fin 2048)
    (h : t.val % 2 * 1024 + z.val = d.val) : ((cfg0.win 1).blk t).view.read (Elt F) X (ix2 k z) = X (ix2 k d) :=
  congrArg X (placed win0_1 t (ix2 k z) (ix2 k d) rfl fun a => match a with
    | ⟨0, _⟩ => by rw [show win0_1.index t ⟨0, _⟩ = 0 from (blocks_at t).2.1.1, Nat.zero_mul, Nat.zero_add]
    | ⟨1, _⟩ => by rw [show win0_1.index t ⟨1, _⟩ = _ from (blocks_at t).2.1.2]; exact h)

theorem reads2 (X : Buf (Elt F) ((c : Thread nD τ).loc main_v0)) (y : Fin 512) (z : Fin 1024) (R : Fin 2048) (d : Fin 2048)
    (h : t.val / 2 * 512 + y.val = R.val) (h' : t.val % 2 * 1024 + z.val = d.val) :
    ((cfg0.win 2).blk t).view.read (Elt F) X (ix2 y z) = X (ix2 R d) :=
  congrArg X (placed win0_2 t (ix2 y z) (ix2 R d) rfl fun a => match a with
    | ⟨0, _⟩ => by rw [show win0_2.index t ⟨0, _⟩ = _ from (blocks_at t).2.2.1]; exact h
    | ⟨1, _⟩ => by rw [show win0_2.index t ⟨1, _⟩ = _ from (blocks_at t).2.2.2]; exact h')
end

/-- What one point leaves in the result's block. -/
theorem leaves (x0 : Vec Ideal S2048x512 .bf16) (x1 : Vec Ideal S2048x1024 .f32) (y : Fin 512) (z : Fin 1024) :
    (out0_2 x0 x1 (ix2 y z) : EReal) = byWeight x0 x1 y z := by
  have e0 : View.ld x0 r0_0 = x0 := View.ld_unit_zero (funext fun a => match a with | ⟨0, _⟩ => rfl | ⟨1, _⟩ => rfl) _ x0
  have e1 : View.ld x1 r0_1 = x1 := View.ld_unit_zero (funext fun a => match a with | ⟨0, _⟩ => rfl | ⟨1, _⟩ => rfl) _ x1
  unfold out0_2
  rw [e0, e1, View.canon_unit_zero (funext fun a => match a with | ⟨0, _⟩ => rfl | ⟨1, _⟩ => rfl)]
  exact rows_apply x0 (truncf .bf16 x1 bitsLt_bf16_f32) y z

section
variable (m : (ℓ : Loc nD τ sig) → Buf (Elt Ideal) ℓ) (c : Dev nD)

theorem result_at (R : Fin 2048) (d : Fin 2048) : ((dats m 0 c).arrAt 2 cfg0.N (ix2 R d) : EReal)
    = byWeight (m ((c : Thread nD τ).loc main_arg0)) (m ((c : Thread nD τ).loc main_arg1)) R d := by
  have hR := R.isLt
  have hd := d.isLt
  have hN : 2 * (R.val / 512) + d.val / 1024 < cfg0.N := by rw [show cfg0.N = 8 from N_0]; omega
  have h : (2 * (R.val / 512) + d.val / 1024) / 2 * 512 + R.val % 512 = R.val := by omega
  have h' : (2 * (R.val / 512) + d.val / 1024) % 2 * 1024 + d.val % 1024 = d.val := by omega
  have e := (reads2 c ⟨_, hN⟩ ((dats m 0 c).arrAt 2 cfg0.N) ⟨R.val % 512, Nat.mod_lt _ (by decide)⟩ ⟨d.val % 1024, Nat.mod_lt _ (by decide)⟩ R d h h').symm
  rw [Value.blocks2 m c ⟨_, hN⟩ (writes _), Value.flushed2] at e
  refine e.trans ((leaves _ _ _ _).trans (Finset.sum_congr rfl fun k _ => congrArg₂ (fun u v : EReal => u * v) ?_ ?_))
  · exact (reads0 c ⟨_, hN⟩ (V m c main_arg0) k _ R h).trans (congrFun (V_main_arg0 m c) _)
  · exact (reads1 c ⟨_, hN⟩ (V m c main_arg1) k _ d h').trans (congrFun (V_main_arg1 m c) _)
end

end Cert.Kernel9Ideal.Gen

namespace Cert.Mm

open Idealize.ShloMosaic Idealize.ShloMosaic.TcCoe Idealize.ShloMosaic.ValueIdx
open Idealize.SL Idealize.SL.Sem
open Cert.Kernel9Ideal Cert.Kernel9Ideal.Gen Cert.Reference9Ideal.Read Cert.Products

theorem out_dw_reference_at (x0 : (⟨S2048x2048, .bf16⟩ : BufTy).Contents (Elt Ideal)) (x1 : (⟨S2048x2048, .f32⟩ : BufTy).Contents (Elt Ideal))
    (R : Fin 2048) (d : Fin 2048) : (val_main_v5 (F := Ideal) x0 x1 (ix2 R d) : EReal) = byWeight x0 x1 R d := by
  refine (val_main_v4_apply x0 x1 (ix2 R d)).trans ?_
  rw [val_main_v3_apply]
  refine (Finset.sum_congr rfl fun k _ => mul_comm _ _).trans ?_
  refine Finset.sum_congr rfl fun k _ => congrArg₂ (fun u v : EReal => u * v) (congrArg x0 ?_) (congrArg x1 ?_)
  all_goals exact funext fun a => match a with
    | ⟨0, _⟩ => rfl
    | ⟨1, _⟩ => rfl

variable {m : (ℓ : Loc nD τ sig) → Buf (Elt Ideal) ℓ} {c : Dev nD}
  {x0 : (⟨S2048x2048, .bf16⟩ : BufTy).Contents (Elt Ideal)} {x1 : (⟨S2048x2048, .f32⟩ : BufTy).Contents (Elt Ideal)}
  (e0 : x0 = m ((c : Thread nD τ).loc main_arg0)) (e1 : x1 = m ((c : Thread nD τ).loc main_arg1))

include e0 e1 in
theorem agree_out_dw : val_main_v5 (F := Ideal) x0 x1 = (dats m 0 c).arrAt 2 cfg0.N := by
  subst e0 e1
  funext i
  obtain ⟨R, d, rfl⟩ : ∃ (R : Fin 2048) (d : Fin 2048), i = ix2 R d := ⟨i 0, i 1, eq_ix2 i⟩
  exact (out_dw_reference_at _ _ R d).trans (result_at m c R d).symm

end Cert.Mm

end
-- ==== Proof.Mm.GateDh.lean ====
/- What the result array of the call `ple_gate_dh` holds, and that the reference's gradient of the gate's input is it. -/
module

public import proofs.«01_k».proof.Proof.Math.Products
public import proofs.«01_k».proof.Proof.Gen.Kernel10Ideal.Value
public import proofs.«01_k».proof.Proof.Gen.Reference10Ideal.Read

@[expose] public section

noncomputable section

namespace Cert.Kernel10Ideal.Gen

open Idealize.ShloMosaic Idealize.ShloMosaic.TcCoe Idealize.ShloMosaic.ValueIdx
open Idealize.SL Idealize.SL.Sem
open Cert.Products

/-- The blocks of a point: rows of the operands, and the tile of the result. -/
theorem blocks_at : ∀ t : Fin cfg0.N, (win0_0.index t 0 = t.val % 4 ∧ win0_0.index t 1 = 0)
    ∧ (win0_1.index t 0 = t.val / 4 ∧ win0_1.index t 1 = 0) ∧ (win0_2.index t 0 = t.val % 4 ∧ win0_2.index t 1 = t.val / 4) :=
  (by decide +kernel : ∀ t : Fin grid0.N, (win0_0.index t 0 = t.val % 4 ∧ win0_0.index t 1 = 0)
    ∧ (win0_1.index t 0 = t.val / 4 ∧ win0_1.index t 1 = 0) ∧ (win0_2.index t 0 = t.val % 4 ∧ win0_2.index t 1 = t.val / 4))

theorem writes : ∀ t : Fin cfg0.N, (cfg0.win 2).flush t = true :=
  (by decide +kernel : ∀ t : Fin grid0.N, win0_2.flush t = true)

section
variable {F : FTy → Type} [FloatOps F] (c : Dev nD) (t : Fin cfg0.N)

theorem reads0 (X : Buf (Elt F) ((c : Thread nD τ).loc main_arg0)) (k : Fin 2048) (y : Fin 512) (R : Fin 2048)
    (h : t.val % 4 * 512 + y.val = R.val) : ((cfg0.win 0).blk t).view.read (Elt F) X (ix2 y k) = X (ix2 R k) :=
  congrArg X (placed win0_0 t (ix2 y k) (ix2 R k) rfl fun a => match a with
    | ⟨0, _⟩ => by rw [show win0_0.index t ⟨0, _⟩ = _ from (blocks_at t).1.1]; exact h
    | ⟨1, _⟩ => by rw [show win0_0.index t ⟨1, _⟩ = 0 from (blocks_at t).1.2, Nat.zero_mul, Nat.zero_add])

theorem reads1 (X : Buf (Elt F) ((c : Thread nD τ).loc main_arg1)) (k : Fin 2048) (z : Fin 1024) (d : Fin 2048)
    (h : t.val / 4 * 1024 + z.val = d.val) : ((cfg0.win 1).blk t).view.read (Elt F) X (ix2 z k) = X (ix2 d k) :=
  congrArg X (placed win0_1 t (ix2 z k) (ix2 d k) rfl fun a => match a with
    | ⟨0, _⟩ => by rw [show win0_1.index t ⟨0, _⟩ = _ from (blocks_at t).2.1.1]; exact h
    | ⟨1, _⟩ => by rw [show win0_1.index t ⟨1, _⟩ = 0 from (blocks_at t).2.1.2, Nat.zero_mul, Nat.zero_add])

theorem reads2 (X : Buf (Elt F) ((c : Thread nD τ).loc main_v0)) (y : Fin 512) (z : Fin 1024) (R : Fin 2048) (d : Fin 2048)
    (h : t.val % 4 * 512 + y.val = R.val) (h' : t.val / 4 * 1024 + z.val = d.val) :
    ((cfg0.win 2).blk t).view.read (Elt F) X (ix2 y z) = X (ix2 R d) :=
  congrArg X (placed win0_2 t (ix2 y z) (ix2 R d) rfl fun a => match a with
    | ⟨0, _⟩ => by rw [show win0_2.index t ⟨0, _⟩ = _ from (blocks_at t).2.2.1]; exact h
    | ⟨1, _⟩ => by rw [show win0_2.index t ⟨1, _⟩ = _ from (blocks_at t).2.2.2]; exact h')
end

/-- What one point leaves in the result's block. -/
theorem leaves (x0 : Vec Ideal S512x2048 .bf16) (x1 : Vec Ideal S1024x2048 .bf16) (y : Fin 512) (z : Fin 1024) :
    (out0_2 x0 x1 (ix2 y z) : EReal) = byInput x0 x1 y z := by
  have e0 : View.ld x0 r0_0 = x0 := View.ld_unit_zero (funext fun a => match a with | ⟨0, _⟩ => rfl | ⟨1, _⟩ => rfl) _ x0
  have e1 : View.ld x1 r0_1 = x1 := View.ld_unit_zero (funext fun a => match a with | ⟨0, _⟩ => rfl | ⟨1, _⟩ => rfl) _ x1
  unfold out0_2
  rw [e0, e1, View.canon_unit_zero (funext fun a => match a with | ⟨0, _⟩ => rfl | ⟨1, _⟩ => rfl)]
  exact columns_apply x0 x1 y z

section
variable (m : (ℓ : Loc nD τ sig) → Buf (Elt Ideal) ℓ) (c : Dev nD)

theorem result_at (R : Fin 2048) (d : Fin 2048) : ((dats m 0 c).arrAt 2 cfg0.N (ix2 R d) : EReal)
    = byInput (m ((c : Thread nD τ).loc main_arg0)) (m ((c : Thread nD τ).loc main_arg1)) R d := by
  have hR := R.isLt
  have hd := d.isLt
  have hN : R.val / 512 + 4 * (d.val / 1024) < cfg0.N := by rw [show cfg0.N = 8 from N_0]; omega
  have h : (R.val / 512 + 4 * (d.val / 1024)) % 4 * 512 + R.val % 512 = R.val := by omega
  have h' : (R.val / 512 + 4 * (d.val / 1024)) / 4 * 1024 + d.val % 1024 = d.val := by omega
  have e := (reads2 c ⟨_, hN⟩ ((dats m 0 c).arrAt 2 cfg0.N) ⟨R.val % 512, Nat.mod_lt _ (by decide)⟩ ⟨d.val % 1024, Nat.mod_lt _ (by decide)⟩ R d h h').symm
  rw [Value.blocks2 m c ⟨_, hN⟩ (writes _), Value.flushed2] at e
  refine e.trans ((leaves _ _ _ _).trans (Finset.sum_congr rfl fun k _ => congrArg₂ (fun u v : EReal => u * v) ?_ ?_))
  · exact (reads0 c ⟨_, hN⟩ (V m c main_arg0) k _ R h).trans (congrFun (V_main_arg0 m c) _)
  · exact (reads1 c ⟨_, hN⟩ (V m c main_arg1) k _ d h').trans (congrFun (V_main_arg1 m c) _)
end

end Cert.Kernel10Ideal.Gen

namespace Cert.Mm

open Idealize.ShloMosaic Idealize.ShloMosaic.TcCoe Idealize.ShloMosaic.ValueIdx
open Idealize.SL Idealize.SL.Sem
open Cert.Kernel10Ideal Cert.Kernel10Ideal.Gen Cert.Reference10Ideal.Read Cert.Products

theorem gate_dh_reference_at (x0 : (⟨S2048x2048, .bf16⟩ : BufTy).Contents (Elt Ideal)) (x1 : (⟨S2048x2048, .bf16⟩ : BufTy).Contents (Elt Ideal))
    (R : Fin 2048) (d : Fin 2048) : (val_main_v4 (F := Ideal) x0 x1 (ix2 R d) : EReal) = byInput x0 x1 R d := by
  refine (val_main_v4_apply x0 x1 (ix2 R d)).trans ?_
  refine Finset.sum_congr rfl fun k _ => congrArg₂ (fun u v : EReal => u * v) (congrArg x0 ?_) (congrArg x1 ?_)
  all_goals exact funext fun a => match a with
    | ⟨0, _⟩ => rfl
    | ⟨1, _⟩ => rfl

variable {m : (ℓ : Loc nD τ sig) → Buf (Elt Ideal) ℓ} {c : Dev nD}
  {x0 : (⟨S2048x2048, .bf16⟩ : BufTy).Contents (Elt Ideal)} {x1 : (⟨S2048x2048, .bf16⟩ : BufTy).Contents (Elt Ideal)}
  (e0 : x0 = m ((c : Thread nD τ).loc main_arg0)) (e1 : x1 = m ((c : Thread nD τ).loc main_arg1))

include e0 e1 in
theorem agree_gate_dh : val_main_v4 (F := Ideal) x0 x1 = (dats m 0 c).arrAt 2 cfg0.N := by
  subst e0 e1
  funext i
  obtain ⟨R, d, rfl⟩ : ∃ (R : Fin 2048) (d : Fin 2048), i = ix2 R d := ⟨i 0, i 1, eq_ix2 i⟩
  exact (gate_dh_reference_at _ _ R d).trans (result_at m c R d).symm

end Cert.Mm

end
-- ==== Proof.Mm.OutDh.lean ====
/- What the result array of the call `mix_out_dh` holds, and that the reference's gradient of the output projection's input is it. -/
module

public import proofs.«01_k».proof.Proof.Math.Products
public import proofs.«01_k».proof.Proof.Gen.Kernel11Ideal.Value
public import proofs.«01_k».proof.Proof.Gen.Reference11Ideal.Read

@[expose] public section

noncomputable section

namespace Cert.Kernel11Ideal.Gen

open Idealize.ShloMosaic Idealize.ShloMosaic.TcCoe Idealize.ShloMosaic.ValueIdx
open Idealize.SL Idealize.SL.Sem
open Cert.Products

/-- The blocks of a point: rows of the operands, and the tile of the result. -/
theorem blocks_at : ∀ t : Fin cfg0.N, (win0_0.index t 0 = t.val % 4 ∧ win0_0.index t 1 = 0)
    ∧ (win0_1.index t 0 = t.val / 4 ∧ win0_1.index t 1 = 0) ∧ (win0_2.index t 0 = t.val % 4 ∧ win0_2.index t 1 = t.val / 4) :=
  (by decide +kernel : ∀ t : Fin grid0.N, (win0_0.index t 0 = t.val % 4 ∧ win0_0.index t 1 = 0)
    ∧ (win0_1.index t 0 = t.val / 4 ∧ win0_1.index t 1 = 0) ∧ (win0_2.index t 0 = t.val % 4 ∧ win0_2.index t 1 = t.val / 4))

theorem writes : ∀ t : Fin cfg0.N, (cfg0.win 2).flush t = true :=
  (by decide +kernel : ∀ t : Fin grid0.N, win0_2.flush t = true)

section
variable {F : FTy → Type} [FloatOps F] (c : Dev nD) (t : Fin cfg0.N)

theorem reads0 (X : Buf (Elt F) ((c : Thread nD τ).loc main_arg0)) (k : Fin 2048) (y : Fin 512) (R : Fin 2048)
    (h : t.val % 4 * 512 + y.val = R.val) : ((cfg0.win 0).blk t).view.read (Elt F) X (ix2 y k) = X (ix2 R k) :=
  congrArg X (placed win0_0 t (ix2 y k) (ix2 R k) rfl fun a => match a with
    | ⟨0, _⟩ => by rw [show win0_0.index t ⟨0, _⟩ = _ from (blocks_at t).1.1]; exact h
    | ⟨1, _⟩ => by rw [show win0_0.index t ⟨1, _⟩ = 0 from (blocks_at t).1.2, Nat.zero_mul, Nat.zero_add])

theorem reads1 (X : Buf (Elt F) ((c : Thread nD τ).loc main_arg1)) (k : Fin 2048) (z : Fin 1024) (d : Fin 2048)
    (h : t.val / 4 * 1024 + z.val = d.val) : ((cfg0.win 1).blk t).view.read (Elt F) X (ix2 z k) = X (ix2 d k) :=
  congrArg X (placed win0_1 t (ix2 z k) (ix2 d k) rfl fun a => match a with
    | ⟨0, _⟩ => by rw [show win0_1.index t ⟨0, _⟩ = _ from (blocks_at t).2.1.1]; exact h
    | ⟨1, _⟩ => by rw [show win0_1.index t ⟨1, _⟩ = 0 from (blocks_at t).2.1.2, Nat.zero_mul, Nat.zero_add])

theorem reads2 (X : Buf (Elt F) ((c : Thread nD τ).loc main_v0)) (y : Fin 512) (z : Fin 1024) (R : Fin 2048) (d : Fin 2048)
    (h : t.val % 4 * 512 + y.val = R.val) (h' : t.val / 4 * 1024 + z.val = d.val) :
    ((cfg0.win 2).blk t).view.read (Elt F) X (ix2 y z) = X (ix2 R d) :=
  congrArg X (placed win0_2 t (ix2 y z) (ix2 R d) rfl fun a => match a with
    | ⟨0, _⟩ => by rw [show win0_2.index t ⟨0, _⟩ = _ from (blocks_at t).2.2.1]; exact h
    | ⟨1, _⟩ => by rw [show win0_2.index t ⟨1, _⟩ = _ from (blocks_at t).2.2.2]; exact h')
end

/-- What one point leaves in the result's block. -/
theorem leaves (x0 : Vec Ideal S512x2048 .f32) (x1 : Vec Ideal S1024x2048 .bf16) (y : Fin 512) (z : Fin 1024) :
    (out0_2 x0 x1 (ix2 y z) : EReal) = byInput x0 x1 y z := by
  have e0 : View.ld x0 r0_0 = x0 := View.ld_unit_zero (funext fun a => match a with | ⟨0, _⟩ => rfl | ⟨1, _⟩ => rfl) _ x0
  have e1 : View.ld x1 r0_1 = x1 := View.ld_unit_zero (funext fun a => match a with | ⟨0, _⟩ => rfl | ⟨1, _⟩ => rfl) _ x1
  unfold out0_2
  rw [e0, e1, View.canon_unit_zero (funext fun a => match a with | ⟨0, _⟩ => rfl | ⟨1, _⟩ => rfl)]
  exact columns_apply (truncf .bf16 x0 bitsLt_bf16_f32) x1 y z

section
variable (m : (ℓ : Loc nD τ sig) → Buf (Elt Ideal) ℓ) (c : Dev nD)

theorem result_at (R : Fin 2048) (d : Fin 2048) : ((dats m 0 c).arrAt 2 cfg0.N (ix2 R d) : EReal)
    = byInput (m ((c : Thread nD τ).loc main_arg0)) (m ((c : Thread nD τ).loc main_arg1)) R d := by
  have hR := R.isLt
  have hd := d.isLt
  have hN : R.val / 512 + 4 * (d.val / 1024) < cfg0.N := by rw [show cfg0.N = 8 from N_0]; omega
  have h : (R.val / 512 + 4 * (d.val / 1024)) % 4 * 512 + R.val % 512 = R.val := by omega
  have h' : (R.val / 512 + 4 * (d.val / 1024)) / 4 * 1024 + d.val % 1024 = d.val := by omega
  have e := (reads2 c ⟨_, hN⟩ ((dats m 0 c).arrAt 2 cfg0.N) ⟨R.val % 512, Nat.mod_lt _ (by decide)⟩ ⟨d.val % 1024, Nat.mod_lt _ (by decide)⟩ R d h h').symm
  rw [Value.blocks2 m c ⟨_, hN⟩ (writes _), Value.flushed2] at e
  refine e.trans ((leaves _ _ _ _).trans (Finset.sum_congr rfl fun k _ => congrArg₂ (fun u v : EReal => u * v) ?_ ?_))
  · exact (reads0 c ⟨_, hN⟩ (V m c main_arg0) k _ R h).trans (congrFun (V_main_arg0 m c) _)
  · exact (reads1 c ⟨_, hN⟩ (V m c main_arg1) k _ d h').trans (congrFun (V_main_arg1 m c) _)
end

end Cert.Kernel11Ideal.Gen

namespace Cert.Mm

open Idealize.ShloMosaic Idealize.ShloMosaic.TcCoe Idealize.ShloMosaic.ValueIdx
open Idealize.SL Idealize.SL.Sem
open Cert.Kernel11Ideal Cert.Kernel11Ideal.Gen Cert.Reference11Ideal.Read Cert.Products

theorem out_dh_reference_at (x0 : (⟨S2048x2048, .f32⟩ : BufTy).Contents (Elt Ideal)) (x1 : (⟨S2048x2048, .bf16⟩ : BufTy).Contents (Elt Ideal))
    (R : Fin 2048) (d : Fin 2048) : (val_main_v4 (F := Ideal) x0 x1 (ix2 R d) : EReal) = byInput x0 x1 R d := by
  refine (val_main_v3_apply x0 x1 (ix2 R d)).trans ?_
  refine Finset.sum_congr rfl fun k _ => congrArg₂ (fun u v : EReal => u * v) (congrArg x0 ?_) (congrArg x1 ?_)
  all_goals exact funext fun a => match a with
    | ⟨0, _⟩ => rfl
    | ⟨1, _⟩ => rfl

variable {m : (ℓ : Loc nD τ sig) → Buf (Elt Ideal) ℓ} {c : Dev nD}
  {x0 : (⟨S2048x2048, .f32⟩ : BufTy).Contents (Elt Ideal)} {x1 : (⟨S2048x2048, .bf16⟩ : BufTy).Contents (Elt Ideal)}
  (e0 : x0 = m ((c : Thread nD τ).loc main_arg0)) (e1 : x1 = m ((c : Thread nD τ).loc main_arg1))

include e0 e1 in
theorem agree_out_dh : val_main_v4 (F := Ideal) x0 x1 = (dats m 0 c).arrAt 2 cfg0.N := by
  subst e0 e1
  funext i
  obtain ⟨R, d, rfl⟩ : ∃ (R : Fin 2048) (d : Fin 2048), i = ix2 R d := ⟨i 0, i 1, eq_ix2 i⟩
  exact (out_dh_reference_at _ _ R d).trans (result_at m c R d).symm

end Cert.Mm

end
-- ==== Proof.Math.Spans.lean ====
/- A sum over a stretch of places, and how a long sum is cut into stretches. -/
module

public import Idealize.ShloMosaic.PureOps.Ideal.Laws

@[expose] public section

noncomputable section

namespace Cert.Products

open scoped BigOperators

/-- The sum over the `n` places from `p` on. -/
def span {N : ℕ} (g : Fin N → EReal) (p n : ℕ) (h : p + n ≤ N) : EReal :=
  ∑ k : Fin n, g ⟨p + k.val, Nat.lt_of_lt_of_le (Nat.add_lt_add_left k.isLt p) h⟩

/-- A stretch of `a + b` places is one of `a` and one of `b`. -/
theorem span_cut {N : ℕ} (g : Fin N → EReal) (p a b : ℕ) (h : p + (a + b) ≤ N) (ha : p + a ≤ N) (hb : p + a + b ≤ N) :
    span g p (a + b) h = span g p a ha + span g (p + a) b hb := by
  unfold span
  rw [Fin.sum_univ_add]
  refine congrArg₂ (· + ·) rfl (Finset.sum_congr rfl fun k _ => congrArg g (Fin.ext ?_))
  show p + (a + k.val) = p + a + k.val
  omega

theorem span_whole {N : ℕ} (g : Fin N → EReal) (h : 0 + N ≤ N) : ∑ k, g k = span g 0 N h :=
  Finset.sum_congr rfl fun k _ => congrArg g (Fin.ext (Nat.zero_add _).symm)

/-- Six stretches of 1024. -/
theorem sum_six (g : Fin 6144 → EReal) : ∑ k, g k = span g 0 1024 (by decide) + (span g 1024 1024 (by decide)
    + (span g 2048 1024 (by decide) + (span g 3072 1024 (by decide) + (span g 4096 1024 (by decide) + span g 5120 1024 (by decide))))) :=
  (span_whole g (by decide)).trans <| (span_cut g 0 1024 5120 (by decide) (by decide) (by decide)).trans <| congrArg₂ (· + ·) rfl <|
  (span_cut g 1024 1024 4096 (by decide) (by decide) (by decide)).trans <| congrArg₂ (· + ·) rfl <|
  (span_cut g 2048 1024 3072 (by decide) (by decide) (by decide)).trans <| congrArg₂ (· + ·) rfl <|
  (span_cut g 3072 1024 2048 (by decide) (by decide) (by decide)).trans <| congrArg₂ (· + ·) rfl <|
  (span_cut g 4096 1024 1024 (by decide) (by decide) (by decide))

/-- Three stretches of 1024, one of 8, and three of 1024. -/
theorem sum_seven (g : Fin 6152 → EReal) : ∑ k, g k = span g 0 1024 (by decide) + (span g 1024 1024 (by decide)
    + (span g 2048 1024 (by decide) + (span g 3072 8 (by decide) + (span g 3080 1024 (by decide)
    + (span g 4104 1024 (by decide) + span g 5128 1024 (by decide)))))) :=
  (span_whole g (by decide)).trans <| (span_cut g 0 1024 5128 (by decide) (by decide) (by decide)).trans <| congrArg₂ (· + ·) rfl <|
  (span_cut g 1024 1024 4104 (by decide) (by decide) (by decide)).trans <| congrArg₂ (· + ·) rfl <|
  (span_cut g 2048 1024 3080 (by decide) (by decide) (by decide)).trans <| congrArg₂ (· + ·) rfl <|
  (span_cut g 3072 8 3072 (by decide) (by decide) (by decide)).trans <| congrArg₂ (· + ·) rfl <|
  (span_cut g 3080 1024 2048 (by decide) (by decide) (by decide)).trans <| congrArg₂ (· + ·) rfl <|
  (span_cut g 4104 1024 1024 (by decide) (by decide) (by decide))

/-- A sum that is zero after its first 8 places. -/
theorem sum_eight (g : Fin 128 → EReal) (h0 : ∀ k : Fin 128, 8 ≤ k.val → g k = 0) : ∑ k, g k = span g 0 8 (by decide) := by
  refine (span_whole g (by decide)).trans ((span_cut g 0 8 120 (by decide) (by decide) (by decide)).trans ?_)
  have e : span g (0 + 8) 120 (by decide) = 0 := Finset.sum_eq_zero fun k _ => h0 _ (by show 8 ≤ 0 + 8 + k.val; omega)
  rw [e, add_zero]

end Cert.Products

end
-- ==== Proof.Mm.InDhArray.lean ====
/- What the result array of the call `mix_in_dh` holds: the gradients of q, k and v times the projection's columns for them,
   plus the gradients of the forget logits times theirs. -/
module

public import proofs.«01_k».proof.Proof.Math.Products
public import proofs.«01_k».proof.Proof.Math.Spans
public import proofs.«01_k».proof.Proof.Gen.Kernel12Ideal.Value
public import Idealize.ShloMosaic.Lib.KernelVsHost
public import Idealize.ShloMosaic.Lib.StableHlo.RunRead

@[expose] public section

noncomputable section

namespace Cert.Kernel12Ideal.Gen

open Idealize.ShloMosaic Idealize.ShloMosaic.TcCoe Idealize.ShloMosaic.ValueIdx Idealize.ShloMosaic.StableHlo
open Idealize.SL Idealize.SL.Sem
open Cert.Products
open scoped BigOperators

/-! ## What the host prepares -/

section
variable {F : FTy → Type} [FloatOps F]

/-- The projection, transposed. -/
def turned (W : (⟨S2048x6152, .bf16⟩ : BufTy).Contents (Elt F)) : (⟨S6152x2048, .bf16⟩ : BufTy).Contents (Elt F) :=
  transpose S6152x2048 [1, 0] W transposes_S2048x6152_S6152x2048_1_0

/-- Its lines for q, k and v, in groups of 1024: of each the two head groups. -/
abbrev groups (W : (⟨S2048x6152, .bf16⟩ : BufTy).Contents (Elt F)) : List ((s : Shape) × (s.Idx → Elt F .bf16)) :=
  [⟨S1024x2048, extractStridedSlice S1024x2048 ![0, 0] (turned W) slices_S6152x2048_S1024x2048_0_0⟩,
    ⟨S1024x2048, extractStridedSlice S1024x2048 ![3080, 0] (turned W) slices_S6152x2048_S1024x2048_3080_0⟩,
    ⟨S1024x2048, extractStridedSlice S1024x2048 ![1024, 0] (turned W) slices_S6152x2048_S1024x2048_1024_0⟩,
    ⟨S1024x2048, extractStridedSlice S1024x2048 ![4104, 0] (turned W) slices_S6152x2048_S1024x2048_4104_0⟩,
    ⟨S1024x2048, extractStridedSlice S1024x2048 ![2048, 0] (turned W) slices_S6152x2048_S1024x2048_2048_0⟩,
    ⟨S1024x2048, extractStridedSlice S1024x2048 ![5128, 0] (turned W) slices_S6152x2048_S1024x2048_5128_0⟩]

/-- The groups one after another. -/
def ordered (W : (⟨S2048x6152, .bf16⟩ : BufTy).Contents (Elt F)) : (⟨S6144x2048, .bf16⟩ : BufTy).Contents (Elt F) :=
  concatenate S6144x2048 0 (groups W)
    concatenates_S1024x2048_S1024x2048_S1024x2048_S1024x2048_S1024x2048_S1024x2048_S6144x2048_d0

/-- Its lines for the forget logits, padded with zeros. -/
def forgetting (W : (⟨S2048x6152, .bf16⟩ : BufTy).Contents (Elt F)) : (⟨S128x2048, .bf16⟩ : BufTy).Contents (Elt F) :=
  pad S128x2048 ![0, 0] ![120, 0] ![0, 0] (extractStridedSlice S8x2048 ![3072, 0] (turned W) slices_S6152x2048_S8x2048_3072_0)
    (sitofp (F := F) .bf16 (constantI S_ 32 0#32)) pads_S8x2048_S128x2048_01200_000 h_S_

/-- The forget logits' gradients, padded with zeros. -/
def padded (L : (⟨S2048x8, .f32⟩ : BufTy).Contents (Elt F)) : (⟨S2048x128, .f32⟩ : BufTy).Contents (Elt F) :=
  pad S2048x128 ![0, 0] ![0, 120] ![0, 0] L (sitofp (F := F) .f32 (constantI S_ 32 0#32)) pads_S2048x8_S2048x128_000_01200 h_S_

variable (m : (ℓ : Loc nD τ sig) → Buf (Elt F) ℓ) (c : Dev nD)

theorem V_ordered : V m c main_v8 = ordered (m ((c : Thread nD τ).loc main_arg2)) := by
  unfold V
  after_reads_simp
  rfl

theorem V_padded : V m c main_v9 = forgetting (m ((c : Thread nD τ).loc main_arg2))
    ∧ V m c main_v10 = padded (m ((c : Thread nD τ).loc main_arg1)) := by
  unfold V
  refine ⟨?_, ?_⟩ <;> after_reads_simp <;> rfl
end

/-! ## The prepared arrays, element by element -/

theorem turned_at (W : (⟨S2048x6152, .bf16⟩ : BufTy).Contents (Elt Ideal)) (k : Fin 6152) (d : Fin 2048) :
    turned W (ix2 k d) = W (ix2 d k) :=
  transpose_apply _ W _ (ix2 k d) (ix2 d k) fun b => match b with
    | ⟨0, _⟩ => rfl
    | ⟨1, _⟩ => rfl

theorem piece_at (W : (⟨S2048x6152, .bf16⟩ : BufTy).Contents (Elt Ideal)) (q : ℕ) (h : S6152x2048.Slices ![q, 0] S1024x2048)
    (k : Fin 1024) (d : Fin 2048) (K : Fin 6152) (hK : q + k.val = K.val) :
    extractStridedSlice S1024x2048 ![q, 0] (turned W) h (ix2 k d) = W (ix2 d K) :=
  (extractStridedSlice_apply ![q, 0] (turned W) h (ix2 k d) (ix2 K d) fun a => match a with
    | ⟨0, _⟩ => hK.symm
    | ⟨1, _⟩ => (Nat.zero_add _).symm).trans (turned_at W K d)

/-- Row `k` of the `j`th group of 1024 rows. -/
abbrev grouped (j : ℕ) (k : Fin 1024) (h : j + 1024 ≤ 6144) : Fin 6144 := ⟨j + k.val, Nat.lt_of_lt_of_le (Nat.add_lt_add_left k.isLt j) h⟩

theorem off_axis (j : ℕ) (h : j + 1024 ≤ 6144) (k : Fin 1024) (d : Fin 2048) : ∀ b : Fin S1024x2048.rank,
    b.cast (show S1024x2048.rank = S6144x2048.rank from rfl) ≠ (0 : Fin 2) →
    ((ix2 k d : S1024x2048.Idx) b).val = ((ix2 (grouped j k h) d : S6144x2048.Idx) (b.cast rfl)).val := fun b hb => match b with
  | ⟨0, _⟩ => absurd rfl hb
  | ⟨1, _⟩ => rfl

/-- Row `k` of a group, in the projection's own columns: group `j` starts at row `p`, its columns at `q`. -/
theorem ordered_piece (W : (⟨S2048x6152, .bf16⟩ : BufTy).Contents (Elt Ideal)) (k : Fin 1024) (d : Fin 2048) (j p q : ℕ)
    (hp : p + 1024 ≤ 6144) (hq : q + 1024 ≤ 6152) (h : S6152x2048.Slices ![q, 0] S1024x2048) (hj : j < (groups W).length)
    (e : (groups W)[j] = ⟨S1024x2048, extractStridedSlice S1024x2048 ![q, 0] (turned W) h⟩)
    (hpre : ((((groups W).take j).map (·.1)).map fun s => if h : s.rank = S6144x2048.rank then s.size ((0 : Fin S6144x2048.rank).cast h.symm) else 0).sum = p) :
    ordered W (ix2 (grouped p k hp) d) = W (ix2 d ⟨q + k.val, Nat.lt_of_lt_of_le (Nat.add_lt_add_left k.isLt q) hq⟩) :=
  (concatenate_apply_piece (t := S6144x2048) 0 (groups W)
    concatenates_S1024x2048_S1024x2048_S1024x2048_S1024x2048_S1024x2048_S1024x2048_S6144x2048_d0
    (ix2 (grouped p k hp) d) j hj S1024x2048 _ e rfl p hpre (ix2 k d) (off_axis p hp k d) rfl).trans (piece_at W q h k d _ rfl)

theorem forgetting_at (W : (⟨S2048x6152, .bf16⟩ : BufTy).Contents (Elt Ideal)) (k : Fin 128) (d : Fin 2048) (h : k.val < 8) :
    forgetting W (ix2 k d) = W (ix2 d ⟨3072 + k.val, by omega⟩) :=
  (pad_apply_of_inside _ _ _ _ _ _ _ (ix2 k d) (ix2 (⟨k.val, h⟩ : Fin 8) d) fun a => match a with
    | ⟨0, _⟩ => by show k.val = 0 + k.val * (0 + 1); omega
    | ⟨1, _⟩ => by show d.val = 0 + d.val * (0 + 1); omega).trans <|
  (extractStridedSlice_apply ![3072, 0] (turned W) _ (ix2 (⟨k.val, h⟩ : Fin 8) d) (ix2 ⟨3072 + k.val, by omega⟩ d) fun a => match a with
    | ⟨0, _⟩ => rfl
    | ⟨1, _⟩ => (Nat.zero_add _).symm).trans (turned_at W _ d)

theorem padded_at (L : (⟨S2048x8, .f32⟩ : BufTy).Contents (Elt Ideal)) (r : Fin 2048) (k : Fin 128) (h : k.val < 8) :
    padded L (ix2 r k) = L (ix2 r ⟨k.val, h⟩) :=
  pad_apply_of_inside _ _ _ _ _ _ _ (ix2 r k) (ix2 r (⟨k.val, h⟩ : Fin 8)) fun a => match a with
    | ⟨0, _⟩ => by show r.val = 0 + r.val * (0 + 1); omega
    | ⟨1, _⟩ => by show k.val = 0 + k.val * (0 + 1); omega

theorem padded_zero (L : (⟨S2048x8, .f32⟩ : BufTy).Contents (Elt Ideal)) (r : Fin 2048) (k : Fin 128) (h : 8 ≤ k.val) :
    (padded L (ix2 r k) : EReal) = 0 := by
  refine (pad_apply_of_not_inside _ _ _ _ _ _ _ (ix2 r k) (1 : Fin 2) fun hin => ?_).trans ?_
  · have e : (k.val - 0) / (0 + 1) < 8 := hin.2.2
    omega
  · show ((((0#32 : BitVec 32).toInt : ℤ) : ℝ) : EReal) = 0
    simp

/-! ## The blocks of a point -/

theorem blocks_at : ∀ t : Fin cfg0.N, ((win0_0.index t 0 = t.val % 4 ∧ win0_0.index t 1 = 0)
    ∧ (win0_1.index t 0 = 0 ∧ win0_1.index t 1 = t.val / 4)) ∧ ((win0_2.index t 0 = t.val % 4 ∧ win0_2.index t 1 = 0)
    ∧ (win0_3.index t 0 = 0 ∧ win0_3.index t 1 = t.val / 4)) ∧ (win0_4.index t 0 = t.val % 4 ∧ win0_4.index t 1 = t.val / 4) :=
  (by decide +kernel : ∀ t : Fin grid0.N, ((win0_0.index t 0 = t.val % 4 ∧ win0_0.index t 1 = 0)
    ∧ (win0_1.index t 0 = 0 ∧ win0_1.index t 1 = t.val / 4)) ∧ ((win0_2.index t 0 = t.val % 4 ∧ win0_2.index t 1 = 0)
    ∧ (win0_3.index t 0 = 0 ∧ win0_3.index t 1 = t.val / 4)) ∧ (win0_4.index t 0 = t.val % 4 ∧ win0_4.index t 1 = t.val / 4))

theorem writes : ∀ t : Fin cfg0.N, (cfg0.win 4).flush t = true :=
  (by decide +kernel : ∀ t : Fin grid0.N, win0_4.flush t = true)

section
variable {F : FTy → Type} [FloatOps F] (c : Dev nD) (t : Fin cfg0.N)

theorem reads0 (X : Buf (Elt F) ((c : Thread nD τ).loc main_arg0)) (k : Fin 6144) (y : Fin 512) (R : Fin 2048)
    (h : t.val % 4 * 512 + y.val = R.val) : ((cfg0.win 0).blk t).view.read (Elt F) X (ix2 y k) = X (ix2 R k) :=
  congrArg X (placed win0_0 t (ix2 y k) (ix2 R k) rfl fun a => match a with
    | ⟨0, _⟩ => by rw [show win0_0.index t ⟨0, _⟩ = _ from (blocks_at t).1.1.1]; exact h
    | ⟨1, _⟩ => by rw [show win0_0.index t ⟨1, _⟩ = 0 from (blocks_at t).1.1.2, Nat.zero_mul, Nat.zero_add])

theorem reads1 (X : Buf (Elt F) ((c : Thread nD τ).loc main_v8)) (k : Fin 6144) (z : Fin 1024) (d : Fin 2048)
    (h : t.val / 4 * 1024 + z.val = d.val) : ((cfg0.win 1).blk t).view.read (Elt F) X (ix2 k z) = X (ix2 k d) :=
  congrArg X (placed win0_1 t (ix2 k z) (ix2 k d) rfl fun a => match a with
    | ⟨0, _⟩ => by rw [show win0_1.index t ⟨0, _⟩ = 0 from (blocks_at t).1.2.1, Nat.zero_mul, Nat.zero_add]
    | ⟨1, _⟩ => by rw [show win0_1.index t ⟨1, _⟩ = _ from (blocks_at t).1.2.2]; exact h)

theorem reads2 (X : Buf (Elt F) ((c : Thread nD τ).loc main_v10)) (k : Fin 128) (y : Fin 512) (R : Fin 2048)
    (h : t.val % 4 * 512 + y.val = R.val) : ((cfg0.win 2).blk t).view.read (Elt F) X (ix2 y k) = X (ix2 R k) :=
  congrArg X (placed win0_2 t (ix2 y k) (ix2 R k) rfl fun a => match a with
    | ⟨0, _⟩ => by rw [show win0_2.index t ⟨0, _⟩ = _ from (blocks_at t).2.1.1.1]; exact h
    | ⟨1, _⟩ => by rw [show win0_2.index t ⟨1, _⟩ = 0 from (blocks_at t).2.1.1.2, Nat.zero_mul, Nat.zero_add])

theorem reads3 (X : Buf (Elt F) ((c : Thread nD τ).loc main_v9)) (k : Fin 128) (z : Fin 1024) (d : Fin 2048)
    (h : t.val / 4 * 1024 + z.val = d.val) : ((cfg0.win 3).blk t).view.read (Elt F) X (ix2 k z) = X (ix2 k d) :=
  congrArg X (placed win0_3 t (ix2 k z) (ix2 k d) rfl fun a => match a with
    | ⟨0, _⟩ => by rw [show win0_3.index t ⟨0, _⟩ = 0 from (blocks_at t).2.1.2.1, Nat.zero_mul, Nat.zero_add]
    | ⟨1, _⟩ => by rw [show win0_3.index t ⟨1, _⟩ = _ from (blocks_at t).2.1.2.2]; exact h)

theorem reads4 (X : Buf (Elt F) ((c : Thread nD τ).loc main_v11)) (y : Fin 512) (z : Fin 1024) (R : Fin 2048) (d : Fin 2048)
    (h : t.val % 4 * 512 + y.val = R.val) (h' : t.val / 4 * 1024 + z.val = d.val) :
    ((cfg0.win 4).blk t).view.read (Elt F) X (ix2 y z) = X (ix2 R d) :=
  congrArg X (placed win0_4 t (ix2 y z) (ix2 R d) rfl fun a => match a with
    | ⟨0, _⟩ => by rw [show win0_4.index t ⟨0, _⟩ = _ from (blocks_at t).2.2.1]; exact h
    | ⟨1, _⟩ => by rw [show win0_4.index t ⟨1, _⟩ = _ from (blocks_at t).2.2.2]; exact h')
end

/-- What one point leaves in the result's block. -/
theorem leaves (x0 : Vec Ideal S512x6144 .bf16) (x1 : Vec Ideal S6144x1024 .bf16) (x2 : Vec Ideal S512x128 .f32)
    (x3 : Vec Ideal S128x1024 .bf16) (y : Fin 512) (z : Fin 1024) : (out0_4 x0 x1 x2 x3 (ix2 y z) : EReal)
      = (∑ k : Fin 6144, (x0 (ix2 y k) : EReal) * x1 (ix2 k z)) + ∑ k : Fin 128, (x2 (ix2 y k) : EReal) * x3 (ix2 k z) := by
  have e0 : View.ld x0 r0_0 = x0 := View.ld_unit_zero (funext fun a => match a with | ⟨0, _⟩ => rfl | ⟨1, _⟩ => rfl) _ x0
  have e1 : View.ld x1 r0_1 = x1 := View.ld_unit_zero (funext fun a => match a with | ⟨0, _⟩ => rfl | ⟨1, _⟩ => rfl) _ x1
  have e2 : View.ld x2 r0_2 = x2 := View.ld_unit_zero (funext fun a => match a with | ⟨0, _⟩ => rfl | ⟨1, _⟩ => rfl) _ x2
  have e3 : View.ld x3 r0_3 = x3 := View.ld_unit_zero (funext fun a => match a with | ⟨0, _⟩ => rfl | ⟨1, _⟩ => rfl) _ x3
  unfold out0_4
  rw [e0, e1, e2, e3, View.canon_unit_zero (funext fun a => match a with | ⟨0, _⟩ => rfl | ⟨1, _⟩ => rfl)]
  unfold k0_pay1
  simp only [shapeCast_self]
  exact congrArg₂ (fun u v : EReal => u + v) (plain_apply x0 x1 y z) (plain_apply (truncf .bf16 x2 bitsLt_bf16_f32) x3 y z)

/-- The call's two products. -/
def products (A : S2048x6144.Idx → EReal) (L : (⟨S2048x8, .f32⟩ : BufTy).Contents (Elt Ideal))
    (W : (⟨S2048x6152, .bf16⟩ : BufTy).Contents (Elt Ideal)) (r d : Fin 2048) : EReal :=
  (∑ k : Fin 6144, A (ix2 r k) * (ordered W (ix2 k d) : EReal)) + ∑ k : Fin 128, (padded L (ix2 r k) : EReal) * forgetting W (ix2 k d)

/-- The result, element by element. -/
theorem result_at (m : (ℓ : Loc nD τ sig) → Buf (Elt Ideal) ℓ) (c : Dev nD) (R d : Fin 2048) :
    ((dats m 0 c).arrAt 4 cfg0.N (ix2 R d) : EReal)
    = products (m ((c : Thread nD τ).loc main_arg0)) (m ((c : Thread nD τ).loc main_arg1)) (m ((c : Thread nD τ).loc main_arg2)) R d := by
  have hR := R.isLt
  have hd := d.isLt
  have hN : R.val / 512 + 4 * (d.val / 1024) < cfg0.N := by rw [show cfg0.N = 8 from N_0]; omega
  have h : (R.val / 512 + 4 * (d.val / 1024)) % 4 * 512 + R.val % 512 = R.val := by omega
  have h' : (R.val / 512 + 4 * (d.val / 1024)) / 4 * 1024 + d.val % 1024 = d.val := by omega
  have e := (reads4 c ⟨_, hN⟩ ((dats m 0 c).arrAt 4 cfg0.N) ⟨R.val % 512, Nat.mod_lt _ (by decide)⟩ ⟨d.val % 1024, Nat.mod_lt _ (by decide)⟩ R d h h').symm
  rw [Value.blocks4 m c ⟨_, hN⟩ (writes _), Value.flushed4] at e
  refine e.trans ((leaves _ _ _ _ _ _).trans (congrArg₂ (fun u v : EReal => u + v)
    (Finset.sum_congr rfl fun k _ => congrArg₂ (fun u v : EReal => u * v) ?_ ?_)
    (Finset.sum_congr rfl fun k _ => congrArg₂ (fun u v : EReal => u * v) ?_ ?_)))
  · exact (reads0 c ⟨_, hN⟩ (V m c main_arg0) k _ R h).trans (congrFun (V_main_arg0 m c) _)
  · exact (reads1 c ⟨_, hN⟩ (V m c main_v8) k _ d h').trans (congrFun (V_ordered m c) _)
  · exact (reads2 c ⟨_, hN⟩ (V m c main_v10) k _ R h).trans (congrFun (V_padded m c).2 _)
  · exact (reads3 c ⟨_, hN⟩ (V m c main_v9) k _ d h').trans (congrFun (V_padded m c).1 _)

/-! ## The result, in stretches of the projection's columns -/

/-- The products of row `r` of `A`, from column `p`, with row `d` of `W`, from column `q`, over 1024 columns. -/
def stretch (A : S2048x6144.Idx → EReal) (W : S2048x6152.Idx → EReal) (r d : Fin 2048) (p q : ℕ) (hp : p + 1024 ≤ 6144)
    (hq : q + 1024 ≤ 6152) : EReal :=
  ∑ k : Fin 1024, A (ix2 r (grouped p k hp)) * W (ix2 d ⟨q + k.val, Nat.lt_of_lt_of_le (Nat.add_lt_add_left k.isLt q) hq⟩)

/-- The forget logits' share. -/
def logits (L : S2048x8.Idx → EReal) (W : S2048x6152.Idx → EReal) (r d : Fin 2048) : EReal :=
  ∑ k : Fin 8, L (ix2 r k) * W (ix2 d ⟨3072 + k.val, by omega⟩)

theorem span_ordered (A : S2048x6144.Idx → EReal) (W : (⟨S2048x6152, .bf16⟩ : BufTy).Contents (Elt Ideal)) (r d : Fin 2048) (j p q : ℕ)
    (hp : p + 1024 ≤ 6144) (hq : q + 1024 ≤ 6152) (h : S6152x2048.Slices ![q, 0] S1024x2048) (hj : j < (groups W).length)
    (e : (groups W)[j] = ⟨S1024x2048, extractStridedSlice S1024x2048 ![q, 0] (turned W) h⟩)
    (hpre : ((((groups W).take j).map (·.1)).map fun s => if h : s.rank = S6144x2048.rank then s.size ((0 : Fin S6144x2048.rank).cast h.symm) else 0).sum = p) :
    span (fun k : Fin 6144 => A (ix2 r k) * (ordered W (ix2 k d) : EReal)) p 1024 hp = stretch A W r d p q hp hq :=
  Finset.sum_congr rfl fun k _ => congrArg (A (ix2 r (grouped p k hp)) * ·) (ordered_piece W k d j p q hp hq h hj e hpre)

set_option maxRecDepth 8000 in
/-- The two products of the call, in stretches. -/
theorem products_at (A : S2048x6144.Idx → EReal) (L : (⟨S2048x8, .f32⟩ : BufTy).Contents (Elt Ideal))
    (W : (⟨S2048x6152, .bf16⟩ : BufTy).Contents (Elt Ideal)) (r d : Fin 2048) :
    products A L W r d
      = (stretch A W r d 0 0 (by decide) (by decide) + (stretch A W r d 1024 3080 (by decide) (by decide)
        + (stretch A W r d 2048 1024 (by decide) (by decide) + (stretch A W r d 3072 4104 (by decide) (by decide)
        + (stretch A W r d 4096 2048 (by decide) (by decide) + stretch A W r d 5120 5128 (by decide) (by decide)))))) + logits L W r d := by
  refine congrArg₂ (fun u v : EReal => u + v) ?_ ?_
  · rw [sum_six, span_ordered A W r d 0 0 0 _ (by decide) _ (by show 0 < 6; decide) rfl rfl,
      span_ordered A W r d 1 1024 3080 _ (by decide) _ (by show 1 < 6; decide) rfl rfl,
      span_ordered A W r d 2 2048 1024 _ (by decide) _ (by show 2 < 6; decide) rfl rfl,
      span_ordered A W r d 3 3072 4104 _ (by decide) _ (by show 3 < 6; decide) rfl rfl,
      span_ordered A W r d 4 4096 2048 _ (by decide) _ (by show 4 < 6; decide) rfl rfl,
      span_ordered A W r d 5 5120 5128 _ (by decide) _ (by show 5 < 6; decide) rfl rfl]
  · refine (sum_eight _ fun k hk => ?_).trans (Finset.sum_congr rfl fun k _ => congrArg₂ (fun u v : EReal => u * v) ?_ ?_)
    · rw [padded_zero L r k hk, zero_mul]
    · exact (padded_at L r ⟨0 + k.val, by omega⟩ (by show 0 + k.val < 8; omega)).trans
        (congrArg L (congrArg (ix2 r) (Fin.ext (Nat.zero_add _))))
    · exact (forgetting_at W ⟨0 + k.val, by omega⟩ d (by show 0 + k.val < 8; omega)).trans
        (congrArg W (congrArg (ix2 d) (Fin.ext (by show 3072 + (0 + k.val) = 3072 + k.val; rw [Nat.zero_add]))))

end Cert.Kernel12Ideal.Gen

end
-- ==== Proof.Mm.InDh.lean ====
/- The reference's gradient of the mixer's normalised input is what the call `mix_in_dh` leaves: the same products, added in the
   order of the combined projection's columns instead of the call's groups. -/
module

public import proofs.«01_k».proof.Proof.Mm.InDhArray
public import proofs.«01_k».proof.Proof.Gen.Reference12Ideal.Read

@[expose] public section

noncomputable section

namespace Cert.Mm

open Idealize.ShloMosaic Idealize.ShloMosaic.TcCoe Idealize.ShloMosaic.ValueIdx
open Idealize.SL Idealize.SL.Sem
open Cert.Reference12Ideal Cert.Reference12Ideal.Gen Cert.Reference12Ideal.Read Cert.Products
open Cert.Kernel12Ideal.Gen (grouped stretch logits)
open scoped BigOperators

section
variable (A : (⟨S2048x6144, .bf16⟩ : BufTy).Contents (Elt Ideal)) (L : (⟨S2048x8, .f32⟩ : BufTy).Contents (Elt Ideal))
  (W : (⟨S2048x6152, .bf16⟩ : BufTy).Contents (Elt Ideal)) (r d : Fin 2048)

/-- The gradients of the projection's columns, in its order: q, k and v of the first heads, the forget logits, and q, k and v of
    the other heads. -/
abbrev columns : List ((s : Shape) × (s.Idx → Elt Ideal .f32)) :=
  [⟨S2048x1024, val_main_v12 (F := Ideal) A⟩, ⟨S2048x1024, val_main_v14 (F := Ideal) A⟩, ⟨S2048x1024, val_main_v16 (F := Ideal) A⟩,
    ⟨S2048x8, L⟩, ⟨S2048x1024, val_main_v13 (F := Ideal) A⟩, ⟨S2048x1024, val_main_v15 (F := Ideal) A⟩,
    ⟨S2048x1024, val_main_v17 (F := Ideal) A⟩]

/-- A column of one of the groups. -/
theorem column_at (j p q n : ℕ) (hq : q + n ≤ 6152) (x : (⟨2, ![2048, n]⟩ : Shape).Idx → Elt Ideal .f32) (k : Fin n)
    (hj : j < (columns A L).length) (e : (columns A L)[j] = ⟨⟨2, ![2048, n]⟩, x⟩)
    (hpre : ((((columns A L).take j).map (·.1)).map fun s => if h : s.rank = S2048x6152.rank then s.size ((1 : Fin S2048x6152.rank).cast h.symm) else 0).sum = q) :
    val_main_v18 (F := Ideal) A L (ix2 r ⟨q + k.val, Nat.lt_of_lt_of_le (Nat.add_lt_add_left k.isLt q) hq⟩) = x (ix2 r k) :=
  concatenate_apply_piece (t := S2048x6152) 1 (columns A L)
    concatenates_S2048x1024_S2048x1024_S2048x1024_S2048x8_S2048x1024_S2048x1024_S2048x1024_S2048x6152_d1
    (ix2 r ⟨q + k.val, Nat.lt_of_lt_of_le (Nat.add_lt_add_left k.isLt q) hq⟩) j hj ⟨2, ![2048, n]⟩ x e rfl q hpre (ix2 r k)
    (fun b hb => match b with
      | ⟨0, _⟩ => rfl
      | ⟨1, _⟩ => absurd rfl hb) rfl

/-- One stretch of the reference's product. -/
theorem span_column (j p q : ℕ) (hp : p + 1024 ≤ 6144) (hq : q + 1024 ≤ 6152) (x : S2048x1024.Idx → Elt Ideal .f32)
    (hx : ∀ k : Fin 1024, x (ix2 r k) = A (ix2 r (grouped p k hp))) (hj : j < (columns A L).length)
    (e : (columns A L)[j] = ⟨S2048x1024, x⟩)
    (hpre : ((((columns A L).take j).map (·.1)).map fun s => if h : s.rank = S2048x6152.rank then s.size ((1 : Fin S2048x6152.rank).cast h.symm) else 0).sum = q) :
    span (fun k : Fin 6152 => (val_main_v18 (F := Ideal) A L (ix2 r k) : EReal) * W (ix2 d k)) q 1024 hq = stretch A W r d p q hp hq :=
  Finset.sum_congr rfl fun k _ => congrArg (fun u : EReal => u * W (ix2 d ⟨q + k.val, Nat.lt_of_lt_of_le (Nat.add_lt_add_left k.isLt q) hq⟩))
    ((column_at A L r j p q 1024 hq x k hj e hpre).trans (hx k))

theorem span_logits : span (fun k : Fin 6152 => (val_main_v18 (F := Ideal) A L (ix2 r k) : EReal) * W (ix2 d k)) 3072 8 (by decide)
    = logits L W r d :=
  Finset.sum_congr rfl fun k _ => congrArg (fun u : EReal => u * W (ix2 d ⟨3072 + k.val, by omega⟩))
    (column_at A L r 3 0 3072 8 (by decide) L k (by show 3 < 7; decide) rfl rfl)

/-- Places with the same numbers are the same. -/
theorem same_place (i : S2048x6144.Idx) (r : Fin 2048) (K : Fin 6144) (h0 : (i 0).val = r.val) (h1 : (i 1).val = K.val) : i = ix2 r K :=
  funext fun a => match a with
    | ⟨0, _⟩ => Fin.ext h0
    | ⟨1, _⟩ => Fin.ext h1

set_option maxRecDepth 8000 in
/-- The reference's product, in stretches. -/
theorem in_dh_reference_at : (val_main_v19 (F := Ideal) A L W (ix2 r d) : EReal)
    = stretch A W r d 0 0 (by decide) (by decide) + (stretch A W r d 2048 1024 (by decide) (by decide)
      + (stretch A W r d 4096 2048 (by decide) (by decide) + (logits L W r d + (stretch A W r d 1024 3080 (by decide) (by decide)
      + (stretch A W r d 3072 4104 (by decide) (by decide) + stretch A W r d 5120 5128 (by decide) (by decide)))))) := by
  have e : (val_main_v19 (F := Ideal) A L W (ix2 r d) : EReal)
      = ∑ k : Fin 6152, (val_main_v18 (F := Ideal) A L (ix2 r k) : EReal) * W (ix2 d k) := by
    refine (val_main_v19_apply A L W (ix2 r d)).trans ?_
    refine Finset.sum_congr rfl fun k _ => congrArg₂ (fun u v : EReal => u * v) (congrArg (val_main_v18 (F := Ideal) A L) ?_) (congrArg W ?_)
    all_goals exact funext fun a => match a with
      | ⟨0, _⟩ => rfl
      | ⟨1, _⟩ => rfl
  rw [e, sum_seven,
    span_column A L W r d 0 0 0 (by decide) _ (val_main_v12 (F := Ideal) A) (fun k => (val_main_v12_apply A _).trans
      (congrArg A (same_place _ _ _ rfl (Nat.zero_add _).symm))) (by show 0 < 7; decide) rfl rfl,
    span_column A L W r d 1 2048 1024 (by decide) _ (val_main_v14 (F := Ideal) A) (fun k => (val_main_v14_apply A _).trans
      (congrArg A (same_place _ _ _ rfl rfl))) (by show 1 < 7; decide) rfl rfl,
    span_column A L W r d 2 4096 2048 (by decide) _ (val_main_v16 (F := Ideal) A) (fun k => (val_main_v16_apply A _).trans
      (congrArg A (same_place _ _ _ rfl rfl))) (by show 2 < 7; decide) rfl rfl,
    span_logits,
    span_column A L W r d 4 1024 3080 (by decide) _ (val_main_v13 (F := Ideal) A) (fun k => (val_main_v13_apply A _).trans
      (congrArg A (same_place _ _ _ rfl rfl))) (by show 4 < 7; decide) rfl rfl,
    span_column A L W r d 5 3072 4104 (by decide) _ (val_main_v15 (F := Ideal) A) (fun k => (val_main_v15_apply A _).trans
      (congrArg A (same_place _ _ _ rfl rfl))) (by show 5 < 7; decide) rfl rfl,
    span_column A L W r d 6 5120 5128 (by decide) _ (val_main_v17 (F := Ideal) A) (fun k => (val_main_v17_apply A _).trans
      (congrArg A (same_place _ _ _ rfl rfl))) (by show 6 < 7; decide) rfl rfl]
end

variable {m : (ℓ : Loc Cert.Kernel12Ideal.nD Cert.Kernel12Ideal.τ Cert.Kernel12Ideal.sig) → Buf (Elt Ideal) ℓ} {c : Dev Cert.Kernel12Ideal.nD}
  {x0 : (⟨S2048x6144, .bf16⟩ : BufTy).Contents (Elt Ideal)} {x1 : (⟨S2048x8, .f32⟩ : BufTy).Contents (Elt Ideal)}
  {x2 : (⟨S2048x6152, .bf16⟩ : BufTy).Contents (Elt Ideal)}
  (e0 : x0 = m ((c : Thread Cert.Kernel12Ideal.nD Cert.Kernel12Ideal.τ).loc Cert.Kernel12Ideal.main_arg0))
  (e1 : x1 = m ((c : Thread Cert.Kernel12Ideal.nD Cert.Kernel12Ideal.τ).loc Cert.Kernel12Ideal.main_arg1))
  (e2 : x2 = m ((c : Thread Cert.Kernel12Ideal.nD Cert.Kernel12Ideal.τ).loc Cert.Kernel12Ideal.main_arg2))

include e0 e1 e2 in
theorem agree_in_dh : val_main_v19 (F := Ideal) x0 x1 x2 = (Cert.Kernel12Ideal.Gen.dats m 0 c).arrAt 4 Cert.Kernel12Ideal.cfg0.N := by
  subst e0 e1 e2
  funext i
  obtain ⟨R, d, rfl⟩ : ∃ (R : Fin 2048) (d : Fin 2048), i = ix2 R d := ⟨i 0, i 1, eq_ix2 i⟩
  refine (in_dh_reference_at _ _ _ R d).trans (Eq.trans ?_ ((Cert.Kernel12Ideal.Gen.result_at m c R d).trans
    (Cert.Kernel12Ideal.Gen.products_at _ _ _ R d)).symm)
  ac_rfl

end Cert.Mm

end
-- ==== Proof.Math.Forward.lean ====
/- The product of a forward pass, as a sum. -/
module

public import proofs.«01_k».proof.Proof.Math.Products

@[expose] public section

noncomputable section

namespace Cert.Products

open Idealize.ShloMosaic Idealize.ShloMosaic.ValueIdx
open scoped BigOperators

/-- A row of the input times a column of the weight. -/
def rowByColumn {K M N : ℕ} (A : (⟨2, ![M, K]⟩ : Shape).Idx → EReal) (B : (⟨2, ![K, N]⟩ : Shape).Idx → EReal) (r : Fin M) (d : Fin N) : EReal :=
  ∑ k : Fin K, A (ix2 r k) * B (ix2 k d)

/-- A place of a matrix is its row and its column. -/
theorem place_eq {M N : ℕ} (i : (⟨2, ![M, N]⟩ : Shape).Idx) (r : Fin M) (d : Fin N) (h0 : (i 0).val = r.val) (h1 : (i 1).val = d.val) : i = ix2 r d :=
  funext fun a => match a with
    | ⟨0, _⟩ => Fin.ext h0
    | ⟨1, _⟩ => Fin.ext h1

end Cert.Products

end
-- ==== Proof.Mm.Qkv.lean ====
/- What the result array of the call `mix_qkv` holds, and that the reference's q, k and v, the columns of its product that are not
   the forget logits', are it. -/
module

public import proofs.«01_k».proof.Proof.Math.Forward
public import proofs.«01_k».proof.Proof.Mm.InDhArray
public import proofs.«01_k».proof.Proof.Gen.Kernel13Ideal.Value
public import proofs.«01_k».proof.Proof.Gen.Reference13Ideal.Read

@[expose] public section

noncomputable section

namespace Cert.Kernel13Ideal.Gen

open Idealize.ShloMosaic Idealize.ShloMosaic.TcCoe Idealize.ShloMosaic.ValueIdx Idealize.ShloMosaic.StableHlo
open Idealize.SL Idealize.SL.Sem
open Cert.Products
open Cert.Kernel12Ideal.Gen (ordered ordered_piece groups grouped turned)

/-- The host prepares the projection's columns as the call of the backward pass does: transposed, and in groups. -/
theorem V_ordered {F : FTy → Type} [FloatOps F] (m : (ℓ : Loc nD τ sig) → Buf (Elt F) ℓ) (c : Dev nD) :
    V m c main_v8 = ordered (m ((c : Thread nD τ).loc main_arg1)) := by
  unfold V
  after_reads_simp
  rfl

/-- The blocks of a point: rows of the operands, and the tile of the result. -/
theorem blocks_at : ∀ t : Fin cfg0.N, (win0_0.index t 0 = t.val % 4 ∧ win0_0.index t 1 = 0)
    ∧ (win0_1.index t 0 = t.val / 4 ∧ win0_1.index t 1 = 0) ∧ (win0_2.index t 0 = t.val % 4 ∧ win0_2.index t 1 = t.val / 4) :=
  (by decide +kernel : ∀ t : Fin grid0.N, (win0_0.index t 0 = t.val % 4 ∧ win0_0.index t 1 = 0)
    ∧ (win0_1.index t 0 = t.val / 4 ∧ win0_1.index t 1 = 0) ∧ (win0_2.index t 0 = t.val % 4 ∧ win0_2.index t 1 = t.val / 4))

theorem writes : ∀ t : Fin cfg0.N, (cfg0.win 2).flush t = true :=
  (by decide +kernel : ∀ t : Fin grid0.N, win0_2.flush t = true)

section
variable {F : FTy → Type} [FloatOps F] (c : Dev nD) (t : Fin cfg0.N)

theorem reads0 (X : Buf (Elt F) ((c : Thread nD τ).loc main_arg0)) (k : Fin 2048) (y : Fin 512) (R : Fin 2048)
    (h : t.val % 4 * 512 + y.val = R.val) : ((cfg0.win 0).blk t).view.read (Elt F) X (ix2 y k) = X (ix2 R k) :=
  congrArg X (placed win0_0 t (ix2 y k) (ix2 R k) rfl fun a => match a with
    | ⟨0, _⟩ => by rw [show win0_0.index t ⟨0, _⟩ = _ from (blocks_at t).1.1]; exact h
    | ⟨1, _⟩ => by rw [show win0_0.index t ⟨1, _⟩ = 0 from (blocks_at t).1.2, Nat.zero_mul, Nat.zero_add])

theorem reads1 (X : Buf (Elt F) ((c : Thread nD τ).loc main_v8)) (k : Fin 2048) (z : Fin 768) (d : Fin 6144)
    (h : t.val / 4 * 768 + z.val = d.val) : ((cfg0.win 1).blk t).view.read (Elt F) X (ix2 z k) = X (ix2 d k) :=
  congrArg X (placed win0_1 t (ix2 z k) (ix2 d k) rfl fun a => match a with
    | ⟨0, _⟩ => by rw [show win0_1.index t ⟨0, _⟩ = _ from (blocks_at t).2.1.1]; exact h
    | ⟨1, _⟩ => by rw [show win0_1.index t ⟨1, _⟩ = 0 from (blocks_at t).2.1.2, Nat.zero_mul, Nat.zero_add])

theorem reads2 (X : Buf (Elt F) ((c : Thread nD τ).loc main_v9)) (y : Fin 512) (z : Fin 768) (R : Fin 2048) (d : Fin 6144)
    (h : t.val % 4 * 512 + y.val = R.val) (h' : t.val / 4 * 768 + z.val = d.val) :
    ((cfg0.win 2).blk t).view.read (Elt F) X (ix2 y z) = X (ix2 R d) :=
  congrArg X (placed win0_2 t (ix2 y z) (ix2 R d) rfl fun a => match a with
    | ⟨0, _⟩ => by rw [show win0_2.index t ⟨0, _⟩ = _ from (blocks_at t).2.2.1]; exact h
    | ⟨1, _⟩ => by rw [show win0_2.index t ⟨1, _⟩ = _ from (blocks_at t).2.2.2]; exact h')
end

/-- What one point leaves in the result's block. -/
theorem leaves (x0 : Vec Ideal S512x2048 .bf16) (x1 : Vec Ideal S768x2048 .bf16) (y : Fin 512) (z : Fin 768) :
    (out0_2 x0 x1 (ix2 y z) : EReal) = byInput x0 x1 y z := by
  have e0 : View.ld x0 r0_0 = x0 := View.ld_unit_zero (funext fun a => match a with | ⟨0, _⟩ => rfl | ⟨1, _⟩ => rfl) _ x0
  have e1 : View.ld x1 r0_1 = x1 := View.ld_unit_zero (funext fun a => match a with | ⟨0, _⟩ => rfl | ⟨1, _⟩ => rfl) _ x1
  unfold out0_2
  rw [e0, e1, View.canon_unit_zero (funext fun a => match a with | ⟨0, _⟩ => rfl | ⟨1, _⟩ => rfl)]
  unfold k0_pay1
  simp only [shapeCast_self]
  exact columns_apply x0 x1 y z

/-- The call's product: a row of the input with a row of the prepared projection. -/
def grouping (A : S2048x2048.Idx → EReal) (W : (⟨S2048x6152, .bf16⟩ : BufTy).Contents (Elt Ideal)) (r : Fin 2048) (d : Fin 6144) : EReal :=
  ∑ k : Fin 2048, A (ix2 r k) * (ordered W (ix2 d k) : EReal)

theorem result_at (m : (ℓ : Loc nD τ sig) → Buf (Elt Ideal) ℓ) (c : Dev nD) (R : Fin 2048) (d : Fin 6144) :
    ((dats m 0 c).arrAt 2 cfg0.N (ix2 R d) : EReal)
    = grouping (m ((c : Thread nD τ).loc main_arg0)) (m ((c : Thread nD τ).loc main_arg1)) R d := by
  have hR := R.isLt
  have hd := d.isLt
  have hN : R.val / 512 + 4 * (d.val / 768) < cfg0.N := by rw [show cfg0.N = 32 from N_0]; omega
  have h : (R.val / 512 + 4 * (d.val / 768)) % 4 * 512 + R.val % 512 = R.val := by omega
  have h' : (R.val / 512 + 4 * (d.val / 768)) / 4 * 768 + d.val % 768 = d.val := by omega
  have e := (reads2 c ⟨_, hN⟩ ((dats m 0 c).arrAt 2 cfg0.N) ⟨R.val % 512, Nat.mod_lt _ (by decide)⟩ ⟨d.val % 768, Nat.mod_lt _ (by decide)⟩ R d h h').symm
  rw [Value.blocks2 m c ⟨_, hN⟩ (writes _), Value.flushed2] at e
  refine e.trans ((leaves _ _ _ _).trans (Finset.sum_congr rfl fun k _ => congrArg₂ (fun u v : EReal => u * v) ?_ ?_))
  · exact (reads0 c ⟨_, hN⟩ (V m c main_arg0) k _ R h).trans (congrFun (V_main_arg0 m c) _)
  · exact (reads1 c ⟨_, hN⟩ (V m c main_v8) k _ d h').trans (congrFun (V_ordered m c) _)

/-- The product of a row with a column of the projection. -/
def product (A : S2048x2048.Idx → EReal) (W : S2048x6152.Idx → EReal) (r : Fin 2048) (q : ℕ) (hq : q + 1024 ≤ 6152) (k : Fin 1024) : EReal :=
  rowByColumn A W r (⟨q + k.val, Nat.lt_of_lt_of_le (Nat.add_lt_add_left k.isLt q) hq⟩ : Fin 6152)

/-- In a group, the call's product is that with the projection's own column. -/
theorem grouping_at (A : S2048x2048.Idx → EReal) (W : (⟨S2048x6152, .bf16⟩ : BufTy).Contents (Elt Ideal)) (r : Fin 2048) (k : Fin 1024) (j p q : ℕ)
    (hp : p + 1024 ≤ 6144) (hq : q + 1024 ≤ 6152) (h : S6152x2048.Slices ![q, 0] S1024x2048) (hj : j < (groups W).length)
    (e : (groups W)[j] = ⟨S1024x2048, extractStridedSlice S1024x2048 ![q, 0] (turned W) h⟩)
    (hpre : ((((groups W).take j).map (·.1)).map fun s => if h : s.rank = S6144x2048.rank then s.size ((0 : Fin S6144x2048.rank).cast h.symm) else 0).sum = p) :
    grouping A W r (grouped p k hp) = product A W r q hq k :=
  Finset.sum_congr rfl fun K _ => congrArg (A (ix2 r K) * ·) (ordered_piece W k K j p q hp hq h hj e hpre)

end Cert.Kernel13Ideal.Gen

namespace Cert.Mm

open Idealize.ShloMosaic Idealize.ShloMosaic.TcCoe Idealize.ShloMosaic.ValueIdx
open Idealize.SL Idealize.SL.Sem
open Cert.Reference13Ideal Cert.Reference13Ideal.Gen Cert.Reference13Ideal.Read Cert.Products
open Cert.Kernel12Ideal.Gen (grouped)
open Cert.Kernel13Ideal.Gen (grouping grouping_at product)

section
variable (A : (⟨S2048x2048, .bf16⟩ : BufTy).Contents (Elt Ideal)) (W : (⟨S2048x6152, .bf16⟩ : BufTy).Contents (Elt Ideal)) (r : Fin 2048)

/-- The reference's q, k and v, of each the two head groups. -/
abbrev qkv : List ((s : Shape) × (s.Idx → Elt Ideal .f32)) :=
  [⟨S2048x1024, val_main_v3 (F := Ideal) A W⟩, ⟨S2048x1024, val_main_v7 (F := Ideal) A W⟩, ⟨S2048x1024, val_main_v4 (F := Ideal) A W⟩,
    ⟨S2048x1024, val_main_v8 (F := Ideal) A W⟩, ⟨S2048x1024, val_main_v5 (F := Ideal) A W⟩, ⟨S2048x1024, val_main_v9 (F := Ideal) A W⟩]

/-- The reference's product, at the place of a column. -/
theorem qkv_product_at (i : S2048x6152.Idx) (q : ℕ) (hq : q + 1024 ≤ 6152) (k : Fin 1024) (h0 : (i 0).val = r.val) (h1 : (i 1).val = q + k.val) :
    (val_main_v2 (F := Ideal) A W i : EReal) = product A W r q hq k :=
  (val_main_v2_apply A W i).trans (Finset.sum_congr rfl fun K _ => congrArg₂ (fun u v : EReal => u * v)
    (congrArg A (place_eq _ r K h0 rfl)) (congrArg W (place_eq _ K _ rfl h1)))

/-- A column of one of the groups. -/
theorem qkv_column_at (j p q : ℕ) (hp : p + 1024 ≤ 6144) (hq : q + 1024 ≤ 6152) (x : S2048x1024.Idx → Elt Ideal .f32) (k : Fin 1024)
    (hx : (x (ix2 r k) : EReal) = product A W r q hq k)
    (hj : j < (qkv A W).length) (e : (qkv A W)[j] = ⟨S2048x1024, x⟩)
    (hpre : ((((qkv A W).take j).map (·.1)).map fun s => if h : s.rank = S2048x6144.rank then s.size ((1 : Fin S2048x6144.rank).cast h.symm) else 0).sum = p) :
    (val_main_v11 (F := Ideal) A W (ix2 r (grouped p k hp)) : EReal) = product A W r q hq k :=
  (concatenate_apply_piece (t := S2048x6144) 1 (qkv A W)
    concatenates_S2048x1024_S2048x1024_S2048x1024_S2048x1024_S2048x1024_S2048x1024_S2048x6144_d1
    (ix2 r (grouped p k hp)) j hj S2048x1024 x e rfl p hpre (ix2 r k)
    (fun b hb => match b with
      | ⟨0, _⟩ => rfl
      | ⟨1, _⟩ => absurd rfl hb) rfl).trans hx

/-- A column is one of a group's. -/
theorem in_group (d : Fin 6144) (p : ℕ) (hp : p + 1024 ≤ 6144) (h : p ≤ d.val) (h' : d.val < p + 1024) : ∃ k : Fin 1024, d = grouped p k hp :=
  ⟨⟨d.val - p, by omega⟩, Fin.ext (by show d.val = p + (d.val - p); omega)⟩

set_option maxRecDepth 8000 in
/-- Column by column, the reference's q, k and v are the call's products. -/
theorem qkv_reference_at (d : Fin 6144) : (val_main_v11 (F := Ideal) A W (ix2 r d) : EReal) = grouping A W r d := by
  have hd := d.isLt
  by_cases c1 : d.val < 1024
  · obtain ⟨k, rfl⟩ := in_group d 0 (by decide) (by omega) (by omega)
    exact (qkv_column_at A W r 0 0 0 _ (by decide) (val_main_v3 (F := Ideal) A W) k ((val_main_v3_apply A W _).trans
      (qkv_product_at A W r _ 0 _ k rfl (Nat.zero_add _).symm)) (by show 0 < 6; decide) rfl rfl).trans
      (grouping_at A W r k 0 0 0 _ _ _ (by show 0 < 6; decide) rfl rfl).symm
  by_cases c2 : d.val < 2048
  · obtain ⟨k, rfl⟩ := in_group d 1024 (by decide) (by omega) (by omega)
    exact (qkv_column_at A W r 1 1024 3080 _ (by decide) (val_main_v7 (F := Ideal) A W) k ((val_main_v7_apply A W _).trans
      (qkv_product_at A W r _ 3080 _ k rfl rfl)) (by show 1 < 6; decide) rfl rfl).trans
      (grouping_at A W r k 1 1024 3080 _ _ _ (by show 1 < 6; decide) rfl rfl).symm
  by_cases c3 : d.val < 3072
  · obtain ⟨k, rfl⟩ := in_group d 2048 (by decide) (by omega) (by omega)
    exact (qkv_column_at A W r 2 2048 1024 _ (by decide) (val_main_v4 (F := Ideal) A W) k ((val_main_v4_apply A W _).trans
      (qkv_product_at A W r _ 1024 _ k rfl rfl)) (by show 2 < 6; decide) rfl rfl).trans
      (grouping_at A W r k 2 2048 1024 _ _ _ (by show 2 < 6; decide) rfl rfl).symm
  by_cases c4 : d.val < 4096
  · obtain ⟨k, rfl⟩ := in_group d 3072 (by decide) (by omega) (by omega)
    exact (qkv_column_at A W r 3 3072 4104 _ (by decide) (val_main_v8 (F := Ideal) A W) k ((val_main_v8_apply A W _).trans
      (qkv_product_at A W r _ 4104 _ k rfl rfl)) (by show 3 < 6; decide) rfl rfl).trans
      (grouping_at A W r k 3 3072 4104 _ _ _ (by show 3 < 6; decide) rfl rfl).symm
  by_cases c5 : d.val < 5120
  · obtain ⟨k, rfl⟩ := in_group d 4096 (by decide) (by omega) (by omega)
    exact (qkv_column_at A W r 4 4096 2048 _ (by decide) (val_main_v5 (F := Ideal) A W) k ((val_main_v5_apply A W _).trans
      (qkv_product_at A W r _ 2048 _ k rfl rfl)) (by show 4 < 6; decide) rfl rfl).trans
      (grouping_at A W r k 4 4096 2048 _ _ _ (by show 4 < 6; decide) rfl rfl).symm
  · obtain ⟨k, rfl⟩ := in_group d 5120 (by decide) (by omega) (by omega)
    exact (qkv_column_at A W r 5 5120 5128 _ (by decide) (val_main_v9 (F := Ideal) A W) k ((val_main_v9_apply A W _).trans
      (qkv_product_at A W r _ 5128 _ k rfl rfl)) (by show 5 < 6; decide) rfl rfl).trans
      (grouping_at A W r k 5 5120 5128 _ _ _ (by show 5 < 6; decide) rfl rfl).symm
end

variable {m : (ℓ : Loc Cert.Kernel13Ideal.nD Cert.Kernel13Ideal.τ Cert.Kernel13Ideal.sig) → Buf (Elt Ideal) ℓ} {c : Dev Cert.Kernel13Ideal.nD}
  {x0 : (⟨S2048x2048, .bf16⟩ : BufTy).Contents (Elt Ideal)} {x1 : (⟨S2048x6152, .bf16⟩ : BufTy).Contents (Elt Ideal)}
  (e0 : x0 = m ((c : Thread Cert.Kernel13Ideal.nD Cert.Kernel13Ideal.τ).loc Cert.Kernel13Ideal.main_arg0))
  (e1 : x1 = m ((c : Thread Cert.Kernel13Ideal.nD Cert.Kernel13Ideal.τ).loc Cert.Kernel13Ideal.main_arg1))

include e0 e1 in
theorem agree_qkv : val_main_v11 (F := Ideal) x0 x1 = (Cert.Kernel13Ideal.Gen.dats m 0 c).arrAt 2 Cert.Kernel13Ideal.cfg0.N := by
  subst e0 e1
  funext i
  obtain ⟨R, d, rfl⟩ : ∃ (R : Fin 2048) (d : Fin 6144), i = ix2 R d := ⟨i 0, i 1, eq_ix2 i⟩
  exact (qkv_reference_at _ _ R d).trans (Cert.Kernel13Ideal.Gen.result_at m c R d).symm

end Cert.Mm

end
-- ==== Proof.Mm.Gate.lean ====
/- What the result array of the call `ple_gate` holds, and that the reference's product of the layer embedding's gate is it. -/
module

public import proofs.«01_k».proof.Proof.Math.Forward
public import proofs.«01_k».proof.Proof.Gen.Kernel14Ideal.Value
public import proofs.«01_k».proof.Proof.Gen.Reference14Ideal.Read

@[expose] public section

noncomputable section

namespace Cert.Kernel14Ideal.Gen

open Idealize.ShloMosaic Idealize.ShloMosaic.TcCoe Idealize.ShloMosaic.ValueIdx
open Idealize.SL Idealize.SL.Sem
open Cert.Products

/-- The blocks of a point: rows of the input, columns of the weight, and the tile of the result. -/
theorem blocks_at : ∀ t : Fin cfg0.N, (win0_0.index t 0 = t.val % 4 ∧ win0_0.index t 1 = 0)
    ∧ (win0_1.index t 0 = 0 ∧ win0_1.index t 1 = t.val / 4) ∧ (win0_2.index t 0 = t.val % 4 ∧ win0_2.index t 1 = t.val / 4) :=
  (by decide +kernel : ∀ t : Fin grid0.N, (win0_0.index t 0 = t.val % 4 ∧ win0_0.index t 1 = 0)
    ∧ (win0_1.index t 0 = 0 ∧ win0_1.index t 1 = t.val / 4) ∧ (win0_2.index t 0 = t.val % 4 ∧ win0_2.index t 1 = t.val / 4))

theorem writes : ∀ t : Fin cfg0.N, (cfg0.win 2).flush t = true :=
  (by decide +kernel : ∀ t : Fin grid0.N, win0_2.flush t = true)

section
variable {F : FTy → Type} [FloatOps F] (c : Dev nD) (t : Fin cfg0.N)

theorem reads0 (X : Buf (Elt F) ((c : Thread nD τ).loc main_arg0)) (k : Fin 2048) (y : Fin 512) (R : Fin 2048)
    (h : t.val % 4 * 512 + y.val = R.val) : ((cfg0.win 0).blk t).view.read (Elt F) X (ix2 y k) = X (ix2 R k) :=
  congrArg X (placed win0_0 t (ix2 y k) (ix2 R k) rfl fun a => match a with
    | ⟨0, _⟩ => by rw [show win0_0.index t ⟨0, _⟩ = _ from (blocks_at t).1.1]; exact h
    | ⟨1, _⟩ => by rw [show win0_0.index t ⟨1, _⟩ = 0 from (blocks_at t).1.2, Nat.zero_mul, Nat.zero_add])

theorem reads1 (X : Buf (Elt F) ((c : Thread nD τ).loc main_arg1)) (k : Fin 2048) (z : Fin 512) (d : Fin 2048)
    (h : t.val / 4 * 512 + z.val = d.val) : ((cfg0.win 1).blk t).view.read (Elt F) X (ix2 k z) = X (ix2 k d) :=
  congrArg X (placed win0_1 t (ix2 k z) (ix2 k d) rfl fun a => match a with
    | ⟨0, _⟩ => by rw [show win0_1.index t ⟨0, _⟩ = 0 from (blocks_at t).2.1.1, Nat.zero_mul, Nat.zero_add]
    | ⟨1, _⟩ => by rw [show win0_1.index t ⟨1, _⟩ = _ from (blocks_at t).2.1.2]; exact h)

theorem reads2 (X : Buf (Elt F) ((c : Thread nD τ).loc main_v0)) (y z : Fin 512) (R d : Fin 2048)
    (h : t.val % 4 * 512 + y.val = R.val) (h' : t.val / 4 * 512 + z.val = d.val) :
    ((cfg0.win 2).blk t).view.read (Elt F) X (ix2 y z) = X (ix2 R d) :=
  congrArg X (placed win0_2 t (ix2 y z) (ix2 R d) rfl fun a => match a with
    | ⟨0, _⟩ => by rw [show win0_2.index t ⟨0, _⟩ = _ from (blocks_at t).2.2.1]; exact h
    | ⟨1, _⟩ => by rw [show win0_2.index t ⟨1, _⟩ = _ from (blocks_at t).2.2.2]; exact h')
end

/-- What one point leaves in the result's block. -/
theorem leaves (x0 : Vec Ideal S512x2048 .bf16) (x1 : Vec Ideal S2048x512 .bf16) (y z : Fin 512) :
    (out0_2 x0 x1 (ix2 y z) : EReal) = rowByColumn x0 x1 y z := by
  have e0 : View.ld x0 r0_0 = x0 := View.ld_unit_zero (funext fun a => match a with | ⟨0, _⟩ => rfl | ⟨1, _⟩ => rfl) _ x0
  have e1 : View.ld x1 r0_1 = x1 := View.ld_unit_zero (funext fun a => match a with | ⟨0, _⟩ => rfl | ⟨1, _⟩ => rfl) _ x1
  unfold out0_2
  rw [e0, e1, View.canon_unit_zero (funext fun a => match a with | ⟨0, _⟩ => rfl | ⟨1, _⟩ => rfl)]
  exact plain_apply x0 x1 y z

section
variable (m : (ℓ : Loc nD τ sig) → Buf (Elt Ideal) ℓ) (c : Dev nD)

theorem result_at (R d : Fin 2048) : ((dats m 0 c).arrAt 2 cfg0.N (ix2 R d) : EReal)
    = rowByColumn (m ((c : Thread nD τ).loc main_arg0)) (m ((c : Thread nD τ).loc main_arg1)) R d := by
  have hR := R.isLt
  have hd := d.isLt
  have hN : R.val / 512 + 4 * (d.val / 512) < cfg0.N := by rw [show cfg0.N = 16 from N_0]; omega
  have h : (R.val / 512 + 4 * (d.val / 512)) % 4 * 512 + R.val % 512 = R.val := by omega
  have h' : (R.val / 512 + 4 * (d.val / 512)) / 4 * 512 + d.val % 512 = d.val := by omega
  have e := (reads2 c ⟨_, hN⟩ ((dats m 0 c).arrAt 2 cfg0.N) ⟨R.val % 512, Nat.mod_lt _ (by decide)⟩ ⟨d.val % 512, Nat.mod_lt _ (by decide)⟩ R d h h').symm
  rw [Value.blocks2 m c ⟨_, hN⟩ (writes _), Value.flushed2] at e
  refine e.trans ((leaves _ _ _ _).trans (Finset.sum_congr rfl fun k _ => congrArg₂ (fun u v : EReal => u * v) ?_ ?_))
  · exact (reads0 c ⟨_, hN⟩ (V m c main_arg0) k _ R h).trans (congrFun (V_main_arg0 m c) _)
  · exact (reads1 c ⟨_, hN⟩ (V m c main_arg1) k _ d h').trans (congrFun (V_main_arg1 m c) _)
end

end Cert.Kernel14Ideal.Gen

namespace Cert.Mm

open Idealize.ShloMosaic Idealize.ShloMosaic.TcCoe Idealize.ShloMosaic.ValueIdx
open Idealize.SL Idealize.SL.Sem
open Cert.Kernel14Ideal Cert.Kernel14Ideal.Gen Cert.Reference14Ideal.Read Cert.Products

theorem gate_reference_at (x0 x1 : (⟨S2048x2048, .bf16⟩ : BufTy).Contents (Elt Ideal))
    (R d : Fin 2048) : (val_main_v2 (F := Ideal) x0 x1 (ix2 R d) : EReal) = rowByColumn x0 x1 R d := by
  refine (val_main_v2_apply x0 x1 (ix2 R d)).trans ?_
  exact Finset.sum_congr rfl fun k _ => congrArg₂ (fun u v : EReal => u * v) (congrArg x0 (place_eq _ R k rfl rfl))
    (congrArg x1 (place_eq _ k d rfl rfl))

variable {m : (ℓ : Loc nD τ sig) → Buf (Elt Ideal) ℓ} {c : Dev nD}
  {x0 x1 : (⟨S2048x2048, .bf16⟩ : BufTy).Contents (Elt Ideal)}
  (e0 : x0 = m ((c : Thread nD τ).loc main_arg0)) (e1 : x1 = m ((c : Thread nD τ).loc main_arg1))

include e0 e1 in
theorem agree_gate : val_main_v2 (F := Ideal) x0 x1 = (dats m 0 c).arrAt 2 cfg0.N := by
  subst e0 e1
  funext i
  obtain ⟨R, d, rfl⟩ : ∃ (R : Fin 2048) (d : Fin 2048), i = ix2 R d := ⟨i 0, i 1, eq_ix2 i⟩
  exact (gate_reference_at _ _ R d).trans (result_at m c R d).symm

end Cert.Mm

end
-- ==== Proof.Mm.Out.lean ====
/- What the result array of the call `mix_out` holds, and that the reference's mixer output, added to the stream, is it. -/
module

public import proofs.«01_k».proof.Proof.Math.Forward
public import proofs.«01_k».proof.Proof.Gen.Kernel15Ideal.Value
public import proofs.«01_k».proof.Proof.Gen.Reference15Ideal.Read

@[expose] public section

noncomputable section

namespace Cert.Kernel15Ideal.Gen

open Idealize.ShloMosaic Idealize.ShloMosaic.TcCoe Idealize.ShloMosaic.ValueIdx
open Idealize.SL Idealize.SL.Sem
open Cert.Products

/-- The blocks of a point: rows of the input, columns of the weight, and the tiles of the stream and of the result. -/
theorem blocks_at : ∀ t : Fin cfg0.N, (win0_0.index t 0 = t.val % 4 ∧ win0_0.index t 1 = 0)
    ∧ (win0_1.index t 0 = 0 ∧ win0_1.index t 1 = t.val / 4) ∧ (win0_2.index t 0 = t.val % 4 ∧ win0_2.index t 1 = t.val / 4)
    ∧ (win0_3.index t 0 = t.val % 4 ∧ win0_3.index t 1 = t.val / 4) :=
  (by decide +kernel : ∀ t : Fin grid0.N, (win0_0.index t 0 = t.val % 4 ∧ win0_0.index t 1 = 0)
    ∧ (win0_1.index t 0 = 0 ∧ win0_1.index t 1 = t.val / 4) ∧ (win0_2.index t 0 = t.val % 4 ∧ win0_2.index t 1 = t.val / 4)
    ∧ (win0_3.index t 0 = t.val % 4 ∧ win0_3.index t 1 = t.val / 4))

theorem writes : ∀ t : Fin cfg0.N, (cfg0.win 3).flush t = true :=
  (by decide +kernel : ∀ t : Fin grid0.N, win0_3.flush t = true)

section
variable {F : FTy → Type} [FloatOps F] (c : Dev nD) (t : Fin cfg0.N)

theorem reads0 (X : Buf (Elt F) ((c : Thread nD τ).loc main_arg0)) (k : Fin 2048) (y : Fin 512) (R : Fin 2048)
    (h : t.val % 4 * 512 + y.val = R.val) : ((cfg0.win 0).blk t).view.read (Elt F) X (ix2 y k) = X (ix2 R k) :=
  congrArg X (placed win0_0 t (ix2 y k) (ix2 R k) rfl fun a => match a with
    | ⟨0, _⟩ => by rw [show win0_0.index t ⟨0, _⟩ = _ from (blocks_at t).1.1]; exact h
    | ⟨1, _⟩ => by rw [show win0_0.index t ⟨1, _⟩ = 0 from (blocks_at t).1.2, Nat.zero_mul, Nat.zero_add])

theorem reads1 (X : Buf (Elt F) ((c : Thread nD τ).loc main_arg1)) (k : Fin 2048) (z : Fin 512) (d : Fin 2048)
    (h : t.val / 4 * 512 + z.val = d.val) : ((cfg0.win 1).blk t).view.read (Elt F) X (ix2 k z) = X (ix2 k d) :=
  congrArg X (placed win0_1 t (ix2 k z) (ix2 k d) rfl fun a => match a with
    | ⟨0, _⟩ => by rw [show win0_1.index t ⟨0, _⟩ = 0 from (blocks_at t).2.1.1, Nat.zero_mul, Nat.zero_add]
    | ⟨1, _⟩ => by rw [show win0_1.index t ⟨1, _⟩ = _ from (blocks_at t).2.1.2]; exact h)

theorem reads2 (X : Buf (Elt F) ((c : Thread nD τ).loc main_arg2)) (y z : Fin 512) (R d : Fin 2048)
    (h : t.val % 4 * 512 + y.val = R.val) (h' : t.val / 4 * 512 + z.val = d.val) :
    ((cfg0.win 2).blk t).view.read (Elt F) X (ix2 y z) = X (ix2 R d) :=
  congrArg X (placed win0_2 t (ix2 y z) (ix2 R d) rfl fun a => match a with
    | ⟨0, _⟩ => by rw [show win0_2.index t ⟨0, _⟩ = _ from (blocks_at t).2.2.1.1]; exact h
    | ⟨1, _⟩ => by rw [show win0_2.index t ⟨1, _⟩ = _ from (blocks_at t).2.2.1.2]; exact h')

theorem reads3 (X : Buf (Elt F) ((c : Thread nD τ).loc main_v0)) (y z : Fin 512) (R d : Fin 2048)
    (h : t.val % 4 * 512 + y.val = R.val) (h' : t.val / 4 * 512 + z.val = d.val) :
    ((cfg0.win 3).blk t).view.read (Elt F) X (ix2 y z) = X (ix2 R d) :=
  congrArg X (placed win0_3 t (ix2 y z) (ix2 R d) rfl fun a => match a with
    | ⟨0, _⟩ => by rw [show win0_3.index t ⟨0, _⟩ = _ from (blocks_at t).2.2.2.1]; exact h
    | ⟨1, _⟩ => by rw [show win0_3.index t ⟨1, _⟩ = _ from (blocks_at t).2.2.2.2]; exact h')
end

/-- What one point leaves in the result's block. -/
theorem leaves (x0 : Vec Ideal S512x2048 .bf16) (x1 : Vec Ideal S2048x512 .bf16) (x2 : Vec Ideal S512x512 .f32)
    (y z : Fin 512) : (out0_3 x0 x1 x2 (ix2 y z) : EReal) = x2 (ix2 y z) + rowByColumn x0 x1 y z := by
  have e0 : View.ld x0 r0_0 = x0 := View.ld_unit_zero (funext fun a => match a with | ⟨0, _⟩ => rfl | ⟨1, _⟩ => rfl) _ x0
  have e1 : View.ld x1 r0_1 = x1 := View.ld_unit_zero (funext fun a => match a with | ⟨0, _⟩ => rfl | ⟨1, _⟩ => rfl) _ x1
  have e2 : View.ld x2 r0_2 = x2 := View.ld_unit_zero (funext fun a => match a with | ⟨0, _⟩ => rfl | ⟨1, _⟩ => rfl) _ x2
  unfold out0_3
  rw [e0, e1, e2, View.canon_unit_zero (funext fun a => match a with | ⟨0, _⟩ => rfl | ⟨1, _⟩ => rfl)]
  exact congrArg (fun u : EReal => x2 (ix2 y z) + u) (plain_apply x0 x1 y z)

/-- The stream plus the product. -/
def onStream (A W : S2048x2048.Idx → EReal) (S : S2048x2048.Idx → EReal) (R d : Fin 2048) : EReal := S (ix2 R d) + rowByColumn A W R d

section
variable (m : (ℓ : Loc nD τ sig) → Buf (Elt Ideal) ℓ) (c : Dev nD)

theorem result_at (R d : Fin 2048) : ((dats m 0 c).arrAt 3 cfg0.N (ix2 R d) : EReal)
    = onStream (m ((c : Thread nD τ).loc main_arg0)) (m ((c : Thread nD τ).loc main_arg1)) (m ((c : Thread nD τ).loc main_arg2)) R d := by
  have hR := R.isLt
  have hd := d.isLt
  have hN : R.val / 512 + 4 * (d.val / 512) < cfg0.N := by rw [show cfg0.N = 16 from N_0]; omega
  have h : (R.val / 512 + 4 * (d.val / 512)) % 4 * 512 + R.val % 512 = R.val := by omega
  have h' : (R.val / 512 + 4 * (d.val / 512)) / 4 * 512 + d.val % 512 = d.val := by omega
  have e := (reads3 c ⟨_, hN⟩ ((dats m 0 c).arrAt 3 cfg0.N) ⟨R.val % 512, Nat.mod_lt _ (by decide)⟩ ⟨d.val % 512, Nat.mod_lt _ (by decide)⟩ R d h h').symm
  rw [Value.blocks3 m c ⟨_, hN⟩ (writes _), Value.flushed3] at e
  refine e.trans ((leaves _ _ _ _ _).trans (congrArg₂ (fun u v : EReal => u + v) ?_
    (Finset.sum_congr rfl fun k _ => congrArg₂ (fun u v : EReal => u * v) ?_ ?_)))
  · exact (reads2 c ⟨_, hN⟩ (V m c main_arg2) _ _ R d h h').trans (congrFun (V_main_arg2 m c) _)
  · exact (reads0 c ⟨_, hN⟩ (V m c main_arg0) k _ R h).trans (congrFun (V_main_arg0 m c) _)
  · exact (reads1 c ⟨_, hN⟩ (V m c main_arg1) k _ d h').trans (congrFun (V_main_arg1 m c) _)
end

end Cert.Kernel15Ideal.Gen

namespace Cert.Mm

open Idealize.ShloMosaic Idealize.ShloMosaic.TcCoe Idealize.ShloMosaic.ValueIdx
open Idealize.SL Idealize.SL.Sem
open Cert.Kernel15Ideal Cert.Kernel15Ideal.Gen Cert.Reference15Ideal.Read Cert.Products

theorem out_reference_at (x0 x1 : (⟨S2048x2048, .bf16⟩ : BufTy).Contents (Elt Ideal))
    (x2 : (⟨S2048x2048, .f32⟩ : BufTy).Contents (Elt Ideal)) (R d : Fin 2048) : (val_main_v3 (F := Ideal) x0 x1 x2 (ix2 R d) : EReal) = onStream x0 x1 x2 R d := by
  refine congrArg (fun u : EReal => x2 (ix2 R d) + u) ((val_main_v2_apply x0 x1 (ix2 R d)).trans ?_)
  exact Finset.sum_congr rfl fun k _ => congrArg₂ (fun u v : EReal => u * v) (congrArg x0 (place_eq _ R k rfl rfl))
    (congrArg x1 (place_eq _ k d rfl rfl))

variable {m : (ℓ : Loc nD τ sig) → Buf (Elt Ideal) ℓ} {c : Dev nD}
  {x0 x1 : (⟨S2048x2048, .bf16⟩ : BufTy).Contents (Elt Ideal)} {x2 : (⟨S2048x2048, .f32⟩ : BufTy).Contents (Elt Ideal)}
  (e0 : x0 = m ((c : Thread nD τ).loc main_arg0)) (e1 : x1 = m ((c : Thread nD τ).loc main_arg1))
  (e2 : x2 = m ((c : Thread nD τ).loc main_arg2))

include e0 e1 e2 in
theorem agree_out : val_main_v3 (F := Ideal) x0 x1 x2 = (dats m 0 c).arrAt 3 cfg0.N := by
  subst e0 e1 e2
  funext i
  obtain ⟨R, d, rfl⟩ : ∃ (R : Fin 2048) (d : Fin 2048), i = ix2 R d := ⟨i 0, i 1, eq_ix2 i⟩
  exact (out_reference_at _ _ _ R d).trans (result_at m c R d).symm

end Cert.Mm

end
-- ==== Proof.Mm.FfnGate.lean ====
/- What the result array of the call `ffn1_gate` holds, shard by shard, and that the reference's activations of the feed-forward's gate are it. -/
module

public import proofs.«01_k».proof.Proof.Math.Forward
public import proofs.«01_k».proof.Proof.Act.Agree
public import proofs.«01_k».proof.Proof.Gen.Kernel16Ideal.Value
public import proofs.«01_k».proof.Proof.Gen.Reference16Ideal.Read
public import Idealize.ShloMosaic.Lib.StableHlo.RunRead

@[expose] public section

noncomputable section

namespace Cert.Kernel16Ideal.Gen

open Idealize.ShloMosaic Idealize.ShloMosaic.TcCoe Idealize.ShloMosaic.ValueIdx Idealize.ShloMosaic.StableHlo
open Idealize.SL Idealize.SL.Sem
open Cert.Products Cert.Shards

/-! ## What the host prepares -/

/-- The weight, transposed. -/
def turned {F : FTy → Type} (W : (⟨S2048x5632, .bf16⟩ : BufTy).Contents (Elt F)) : (⟨S5632x2048, .bf16⟩ : BufTy).Contents (Elt F) :=
  transpose S5632x2048 [1, 0] W transposes_S2048x5632_S5632x2048_1_0

theorem V_turned {F : FTy → Type} [FloatOps F] (m : (ℓ : Loc nD τ sig) → Buf (Elt F) ℓ) (c : Dev nD) :
    V m c main_v0 = turned (m ((c : Thread nD τ).loc main_arg1)) := by
  unfold V
  after_reads_simp
  rfl

theorem turned_at (W : (⟨S2048x5632, .bf16⟩ : BufTy).Contents (Elt Ideal)) (k : Fin 5632) (d : Fin 2048) :
    turned W (ix2 k d) = W (ix2 d k) :=
  transpose_apply _ W _ (ix2 k d) (ix2 d k) fun b => match b with
    | ⟨0, _⟩ => rfl
    | ⟨1, _⟩ => rfl

/-! ## The blocks of a point -/

/-- Rows of the operands, and a part of a shard of the result. -/
theorem blocks_at : ∀ t : Fin cfg0.N, (win0_0.index t 0 = t.val % 4 ∧ win0_0.index t 1 = 0)
    ∧ (win0_1.index t 0 = t.val / 4 ∧ win0_1.index t 1 = 0) ∧ (win0_2.index t 0 = t.val ∧ win0_2.index t 1 = 0) :=
  (by decide +kernel : ∀ t : Fin grid0.N, (win0_0.index t 0 = t.val % 4 ∧ win0_0.index t 1 = 0)
    ∧ (win0_1.index t 0 = t.val / 4 ∧ win0_1.index t 1 = 0) ∧ (win0_2.index t 0 = t.val ∧ win0_2.index t 1 = 0))

theorem writes : ∀ t : Fin cfg0.N, (cfg0.win 2).flush t = true :=
  (by decide +kernel : ∀ t : Fin grid0.N, win0_2.flush t = true)

section
variable {F : FTy → Type} [FloatOps F] (c : Dev nD) (t : Fin cfg0.N)

theorem reads0 (X : Buf (Elt F) ((c : Thread nD τ).loc main_arg0)) (k : Fin 2048) (y : Fin 512) (R : Fin 2048)
    (h : t.val % 4 * 512 + y.val = R.val) : ((cfg0.win 0).blk t).view.read (Elt F) X (ix2 y k) = X (ix2 R k) :=
  congrArg X (placed win0_0 t (ix2 y k) (ix2 R k) rfl fun a => match a with
    | ⟨0, _⟩ => by rw [show win0_0.index t ⟨0, _⟩ = _ from (blocks_at t).1.1]; exact h
    | ⟨1, _⟩ => by rw [show win0_0.index t ⟨1, _⟩ = 0 from (blocks_at t).1.2, Nat.zero_mul, Nat.zero_add])

theorem reads1 (X : Buf (Elt F) ((c : Thread nD τ).loc main_v0)) (k : Fin 2048) (z : Fin 704) (d : Fin 5632)
    (h : t.val / 4 * 704 + z.val = d.val) : ((cfg0.win 1).blk t).view.read (Elt F) X (ix2 z k) = X (ix2 d k) :=
  congrArg X (placed win0_1 t (ix2 z k) (ix2 d k) rfl fun a => match a with
    | ⟨0, _⟩ => by rw [show win0_1.index t ⟨0, _⟩ = _ from (blocks_at t).2.1.1]; exact h
    | ⟨1, _⟩ => by rw [show win0_1.index t ⟨1, _⟩ = 0 from (blocks_at t).2.1.2, Nat.zero_mul, Nat.zero_add])

theorem reads2 (X : Buf (Elt F) ((c : Thread nD τ).loc main_v1)) (y : Fin 512) (z : Fin 704) (R : Fin 16384)
    (h : t.val * 512 + y.val = R.val) : ((cfg0.win 2).blk t).view.read (Elt F) X (ix2 y z) = X (ix2 R z) :=
  congrArg X (placed win0_2 t (ix2 y z) (ix2 R z) rfl fun a => match a with
    | ⟨0, _⟩ => by rw [show win0_2.index t ⟨0, _⟩ = _ from (blocks_at t).2.2.1]; exact h
    | ⟨1, _⟩ => by rw [show win0_2.index t ⟨1, _⟩ = 0 from (blocks_at t).2.2.2, Nat.zero_mul, Nat.zero_add])
end

/-- What one point leaves in the result's block. -/
theorem leaves (x0 : Vec Ideal S512x2048 .bf16) (x1 : Vec Ideal S704x2048 .bf16) (y : Fin 512) (z : Fin 704) :
    (out0_2 x0 x1 (ix2 y z) : EReal) = byInput x0 x1 y z := by
  have e0 : View.ld x0 r0_0 = x0 := View.ld_unit_zero (funext fun a => match a with | ⟨0, _⟩ => rfl | ⟨1, _⟩ => rfl) _ x0
  have e1 : View.ld x1 r0_1 = x1 := View.ld_unit_zero (funext fun a => match a with | ⟨0, _⟩ => rfl | ⟨1, _⟩ => rfl) _ x1
  unfold out0_2
  rw [e0, e1, View.canon_unit_zero (funext fun a => match a with | ⟨0, _⟩ => rfl | ⟨1, _⟩ => rfl)]
  unfold k0_pay1
  simp only [shapeCast_self]
  exact columns_apply x0 x1 y z

/-- Row `R` of the shards holds the products of its token, column `z` those with its hidden unit. -/
theorem result_at (m : (ℓ : Loc nD τ sig) → Buf (Elt Ideal) ℓ) (c : Dev nD) (R : Fin 16384) (z : Fin 704) :
    ((dats m 0 c).arrAt 2 cfg0.N (ix2 R z) : EReal)
    = rowByColumn (m ((c : Thread nD τ).loc main_arg0)) (m ((c : Thread nD τ).loc main_arg1)) (token R) (Cert.Shards.unit R z) := by
  have hR := R.isLt
  have hN : R.val / 512 < cfg0.N := by rw [show cfg0.N = 32 from N_0]; omega
  have h : R.val / 512 * 512 + R.val % 512 = R.val := by omega
  have h0 : R.val / 512 % 4 * 512 + R.val % 512 = (token R).val := by show _ = R.val % 2048; omega
  have h1 : R.val / 512 / 4 * 704 + z.val = (Cert.Shards.unit R z).val := by show _ = 704 * (R.val / 2048) + z.val; omega
  have e := (reads2 c ⟨_, hN⟩ ((dats m 0 c).arrAt 2 cfg0.N) ⟨R.val % 512, Nat.mod_lt _ (by decide)⟩ z R h).symm
  rw [Value.blocks2 m c ⟨_, hN⟩ (writes _), Value.flushed2] at e
  refine e.trans ((leaves _ _ _ _).trans (Finset.sum_congr rfl fun k _ => congrArg₂ (fun u v : EReal => u * v) ?_ ?_))
  · exact (reads0 c ⟨_, hN⟩ (V m c main_arg0) k _ _ h0).trans (congrFun (V_main_arg0 m c) _)
  · exact ((reads1 c ⟨_, hN⟩ (V m c main_v0) k z _ h1).trans (congrFun (V_turned m c) _)).trans (turned_at _ _ _)

end Cert.Kernel16Ideal.Gen

namespace Cert.Mm

open Idealize.ShloMosaic Idealize.ShloMosaic.TcCoe Idealize.ShloMosaic.ValueIdx
open Idealize.SL Idealize.SL.Sem
open Cert.Kernel16Ideal Cert.Kernel16Ideal.Gen Cert.Reference16Ideal.Read Cert.Products Cert.Shards

variable {m : (ℓ : Loc nD τ sig) → Buf (Elt Ideal) ℓ} {c : Dev nD}
  {x0 : (⟨S2048x2048, .bf16⟩ : BufTy).Contents (Elt Ideal)} {x1 : (⟨S2048x5632, .bf16⟩ : BufTy).Contents (Elt Ideal)}

theorem ffn_gate_reference_at (x0 : (⟨S2048x2048, .bf16⟩ : BufTy).Contents (Elt Ideal)) (x1 : (⟨S2048x5632, .bf16⟩ : BufTy).Contents (Elt Ideal))
    (R : Fin 16384) (z : Fin 704) : (val_main_v12 (F := Ideal) x0 x1 (ix2 R z) : EReal) = rowByColumn x0 x1 (token R) (Cert.Shards.unit R z) := by
  refine (Cert.Act.stacked_at (val_main_v3 (F := Ideal) x0 x1) R z).trans ?_
  refine (val_main_v2_apply x0 x1 (ix2 (token R) (Cert.Shards.unit R z))).trans ?_
  exact Finset.sum_congr rfl fun k _ => congrArg₂ (fun u v : EReal => u * v) (congrArg x0 (place_eq _ (token R) k rfl rfl))
    (congrArg x1 (place_eq _ k (Cert.Shards.unit R z) rfl rfl))

variable (e0 : x0 = m ((c : Thread nD τ).loc main_arg0)) (e1 : x1 = m ((c : Thread nD τ).loc main_arg1))

include e0 e1 in
theorem agree_ffn_gate : val_main_v12 (F := Ideal) x0 x1 = (dats m 0 c).arrAt 2 cfg0.N := by
  subst e0 e1
  funext i
  obtain ⟨R, z, rfl⟩ : ∃ (R : Fin 16384) (z : Fin 704), i = ix2 R z := ⟨i 0, i 1, eq_ix2 i⟩
  exact (ffn_gate_reference_at _ _ R z).trans (result_at m c R z).symm

end Cert.Mm

end
-- ==== Proof.Mm.PleProjDw.lean ====
/- What the result array of the call `ple_proj_dw` holds, and that the reference's gradient of the layer embedding's projection,
   in its eight groups of columns, is it. -/
module

public import proofs.«01_k».proof.Proof.Math.Forward
public import Idealize.ShloMosaic.Lib.ValueLayout
public import proofs.«01_k».proof.Proof.Gen.Kernel17Ideal.Value
public import proofs.«01_k».proof.Proof.Gen.Reference17Ideal.Read

@[expose] public section

noncomputable section

namespace Cert.Kernel17Ideal.Gen

open Idealize.ShloMosaic Idealize.ShloMosaic.TcCoe Idealize.ShloMosaic.ValueIdx
open Idealize.SL Idealize.SL.Sem
open Cert.Products

/-- The blocks of a point: the layer embedding whole, columns of the incoming gradient, and rows of the result. -/
theorem blocks_at : ∀ t : Fin cfg0.N, (win0_0.index t 0 = 0 ∧ win0_0.index t 1 = 0)
    ∧ (win0_1.index t 0 = 0 ∧ win0_1.index t 1 = t.val) ∧ (win0_2.index t 0 = t.val ∧ win0_2.index t 1 = 0) :=
  (by decide +kernel : ∀ t : Fin grid0.N, (win0_0.index t 0 = 0 ∧ win0_0.index t 1 = 0)
    ∧ (win0_1.index t 0 = 0 ∧ win0_1.index t 1 = t.val) ∧ (win0_2.index t 0 = t.val ∧ win0_2.index t 1 = 0))

theorem writes : ∀ t : Fin cfg0.N, (cfg0.win 2).flush t = true :=
  (by decide +kernel : ∀ t : Fin grid0.N, win0_2.flush t = true)

section
variable {F : FTy → Type} [FloatOps F] (c : Dev nD) (t : Fin cfg0.N)

theorem reads0 (X : Buf (Elt F) ((c : Thread nD τ).loc main_arg0)) (k : Fin 2048) (y : Fin 256) :
    ((cfg0.win 0).blk t).view.read (Elt F) X (ix2 k y) = X (ix2 k y) :=
  congrArg X (placed win0_0 t (ix2 k y) (ix2 k y) rfl fun a => match a with
    | ⟨0, _⟩ => by rw [show win0_0.index t ⟨0, _⟩ = 0 from (blocks_at t).1.1, Nat.zero_mul, Nat.zero_add]
    | ⟨1, _⟩ => by rw [show win0_0.index t ⟨1, _⟩ = 0 from (blocks_at t).1.2, Nat.zero_mul, Nat.zero_add])

theorem reads1 (X : Buf (Elt F) ((c : Thread nD τ).loc main_arg1)) (k : Fin 2048) (z : Fin 256) (d : Fin 2048)
    (h : t.val * 256 + z.val = d.val) : ((cfg0.win 1).blk t).view.read (Elt F) X (ix2 k z) = X (ix2 k d) :=
  congrArg X (placed win0_1 t (ix2 k z) (ix2 k d) rfl fun a => match a with
    | ⟨0, _⟩ => by rw [show win0_1.index t ⟨0, _⟩ = 0 from (blocks_at t).2.1.1, Nat.zero_mul, Nat.zero_add]
    | ⟨1, _⟩ => by rw [show win0_1.index t ⟨1, _⟩ = _ from (blocks_at t).2.1.2]; exact h)

theorem reads2 (X : Buf (Elt F) ((c : Thread nD τ).loc main_v0)) (y z : Fin 256) (R : Fin 2048)
    (h : t.val * 256 + y.val = R.val) : ((cfg0.win 2).blk t).view.read (Elt F) X (ix2 y z) = X (ix2 R z) :=
  congrArg X (placed win0_2 t (ix2 y z) (ix2 R z) rfl fun a => match a with
    | ⟨0, _⟩ => by rw [show win0_2.index t ⟨0, _⟩ = _ from (blocks_at t).2.2.1]; exact h
    | ⟨1, _⟩ => by rw [show win0_2.index t ⟨1, _⟩ = 0 from (blocks_at t).2.2.2, Nat.zero_mul, Nat.zero_add])
end

/-- What one point leaves in the result's block. -/
theorem leaves (x0 : Vec Ideal S2048x256 .f32) (x1 : Vec Ideal S2048x256 .bf16) (y z : Fin 256) :
    (out0_2 x0 x1 (ix2 y z) : EReal) = byWeight x0 x1 y z := by
  have e0 : View.ld x0 r0_0 = x0 := View.ld_unit_zero (funext fun a => match a with | ⟨0, _⟩ => rfl | ⟨1, _⟩ => rfl) _ x0
  have e1 : View.ld x1 r0_0 = x1 := View.ld_unit_zero (funext fun a => match a with | ⟨0, _⟩ => rfl | ⟨1, _⟩ => rfl) _ x1
  unfold out0_2
  rw [e0, e1, View.canon_unit_zero (funext fun a => match a with | ⟨0, _⟩ => rfl | ⟨1, _⟩ => rfl)]
  exact rows_apply (truncf .bf16 x0 bitsLt_bf16_f32) x1 y z

/-- The embedding's feature of a row of the result. -/
def feature (R : Fin 2048) : Fin 256 := ⟨R.val % 256, Nat.mod_lt _ (by decide)⟩

/-- The model's feature of a row and a column of the result: column `z` of the row's group. -/
def output (R : Fin 2048) (z : Fin 256) : Fin 2048 := ⟨256 * (R.val / 256) + z.val, by have := R.isLt; have := z.isLt; omega⟩

theorem result_at (m : (ℓ : Loc nD τ sig) → Buf (Elt Ideal) ℓ) (c : Dev nD) (R : Fin 2048) (z : Fin 256) :
    ((dats m 0 c).arrAt 2 cfg0.N (ix2 R z) : EReal)
    = byWeight (m ((c : Thread nD τ).loc main_arg0)) (m ((c : Thread nD τ).loc main_arg1)) (feature R) (output R z) := by
  have hR := R.isLt
  have hN : R.val / 256 < cfg0.N := by rw [show cfg0.N = 8 from N_0]; omega
  have h : R.val / 256 * 256 + R.val % 256 = R.val := by omega
  have h1 : R.val / 256 * 256 + z.val = (output R z).val := by show _ = 256 * (R.val / 256) + z.val; omega
  have e := (reads2 c ⟨_, hN⟩ ((dats m 0 c).arrAt 2 cfg0.N) (feature R) z R h).symm
  rw [Value.blocks2 m c ⟨_, hN⟩ (writes _), Value.flushed2] at e
  refine e.trans ((leaves _ _ _ _).trans (Finset.sum_congr rfl fun k _ => congrArg₂ (fun u v : EReal => u * v) ?_ ?_))
  · exact (reads0 c ⟨_, hN⟩ (V m c main_arg0) k _).trans (congrFun (V_main_arg0 m c) _)
  · exact (reads1 c ⟨_, hN⟩ (V m c main_arg1) k z _ h1).trans (congrFun (V_main_arg1 m c) _)

end Cert.Kernel17Ideal.Gen

namespace Cert.Mm

open Idealize.ShloMosaic Idealize.ShloMosaic.TcCoe Idealize.ShloMosaic.ValueIdx
open Idealize.SL Idealize.SL.Sem
open Cert.Reference17Ideal Cert.Reference17Ideal.Gen Cert.Reference17Ideal.Read Cert.Products
open Cert.Kernel17Ideal.Gen (feature output)

theorem slices_group (s : Fin 8) : S256x2048.Slices ![0, 256 * s.val] S256x256 :=
  (by decide +kernel : ∀ s : Fin 8, S256x2048.Slices ![0, 256 * s.val] S256x256) s

/-- A group of 256 columns. -/
def columnsFrom (X : (⟨S256x2048, .bf16⟩ : BufTy).Contents (Elt Ideal)) (s : Fin 8) : S256x256.Idx → Elt Ideal .bf16 :=
  extractStridedSlice S256x256 ![0, 256 * s.val] X (slices_group s)

/-- The groups one below another, at an index. -/
theorem below_at (X : (⟨S256x2048, .bf16⟩ : BufTy).Contents (Elt Ideal))
    (h : Shape.Concatenates ((List.ofFn fun s : Fin 8 => (⟨S256x256, columnsFrom X s⟩ : (s : Shape) × (s.Idx → Elt Ideal .bf16))).map (·.1)) S2048x256 0)
    (R : Fin 2048) (z : Fin 256) :
    concatenate S2048x256 0 (List.ofFn fun s : Fin 8 => (⟨S256x256, columnsFrom X s⟩ : (s : Shape) × (s.Idx → Elt Ideal .bf16))) h (ix2 R z)
      = X (ix2 (feature R) (output R z)) := by
  have hs : R.val / 256 < 8 := by have := R.isLt; omega
  refine (concatenate_ofFn_apply (t := S2048x256) (s₁ := S256x256) 0 (columnsFrom X) h rfl 256 rfl (ix2 R z)
    (⟨R.val / 256, hs⟩ : Fin 8) rfl (ix2 (feature R) z) rfl fun b hb => match b with
      | ⟨0, _⟩ => absurd rfl hb
      | ⟨1, _⟩ => rfl).trans ?_
  exact extractStridedSlice_apply _ X (slices_group _) (ix2 (feature R) z) _ fun a => match a with
    | ⟨0, _⟩ => (Nat.zero_add _).symm
    | ⟨1, _⟩ => rfl

theorem ple_proj_dw_reference_at (x0 : (⟨S2048x256, .f32⟩ : BufTy).Contents (Elt Ideal)) (x1 : (⟨S2048x2048, .bf16⟩ : BufTy).Contents (Elt Ideal))
    (R : Fin 2048) (z : Fin 256) : (val_main_v14 (F := Ideal) x0 x1 (ix2 R z) : EReal) = byWeight x0 x1 (feature R) (output R z) := by
  refine (below_at (val_main_v5 (F := Ideal) x0 x1)
    concatenates_S256x256_S256x256_S256x256_S256x256_S256x256_S256x256_S256x256_S256x256_S2048x256_d0 R z).trans ?_
  refine (val_main_v4_apply x0 x1 (ix2 (feature R) (output R z))).trans ?_
  rw [val_main_v3_apply]
  refine (Finset.sum_congr rfl fun k _ => mul_comm _ _).trans ?_
  exact Finset.sum_congr rfl fun k _ => congrArg₂ (fun u v : EReal => u * v) (congrArg x0 (place_eq _ k (feature R) rfl rfl))
    (congrArg x1 (place_eq _ k (output R z) rfl rfl))

variable {m : (ℓ : Loc Cert.Kernel17Ideal.nD Cert.Kernel17Ideal.τ Cert.Kernel17Ideal.sig) → Buf (Elt Ideal) ℓ} {c : Dev Cert.Kernel17Ideal.nD}
  {x0 : (⟨S2048x256, .f32⟩ : BufTy).Contents (Elt Ideal)} {x1 : (⟨S2048x2048, .bf16⟩ : BufTy).Contents (Elt Ideal)}
  (e0 : x0 = m ((c : Thread Cert.Kernel17Ideal.nD Cert.Kernel17Ideal.τ).loc Cert.Kernel17Ideal.main_arg0))
  (e1 : x1 = m ((c : Thread Cert.Kernel17Ideal.nD Cert.Kernel17Ideal.τ).loc Cert.Kernel17Ideal.main_arg1))

include e0 e1 in
theorem agree_ple_proj_dw : val_main_v14 (F := Ideal) x0 x1 = (Cert.Kernel17Ideal.Gen.dats m 0 c).arrAt 2 Cert.Kernel17Ideal.cfg0.N := by
  subst e0 e1
  funext i
  obtain ⟨R, z, rfl⟩ : ∃ (R : Fin 2048) (z : Fin 256), i = ix2 R z := ⟨i 0, i 1, eq_ix2 i⟩
  exact (ple_proj_dw_reference_at _ _ R z).trans (Cert.Kernel17Ideal.Gen.result_at m c R z).symm

end Cert.Mm

end
-- ==== Proof.lean ====
/- The certificate's claims, assembled. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Eqn.Agree
public import proofs.«01_k».proof.Proof.Gen.Kernel2
public import proofs.«01_k».proof.Proof.Gen.Kernel2.Frame
public import proofs.«01_k».proof.Proof.Gen.Kernel3
public import proofs.«01_k».proof.Proof.Gen.Kernel3.Frame
public import proofs.«01_k».proof.Proof.Act.Agree
public import proofs.«01_k».proof.Proof.Dh.Agree
public import proofs.«01_k».proof.Proof.Gen.Kernel4
public import proofs.«01_k».proof.Proof.Gen.Kernel4.Frame
public import proofs.«01_k».proof.Proof.Gen.Kernel5
public import proofs.«01_k».proof.Proof.Gen.Kernel6
public import proofs.«01_k».proof.Proof.Dh.AgreeStacked
public import proofs.«01_k».proof.Proof.Dw.Tables
public import proofs.«01_k».proof.Proof.Dw.AgreeMine
public import proofs.«01_k».proof.Proof.Dw.AgreeTheirs
public import proofs.«01_k».proof.Proof.Gen.Reference5Ideal.Run
public import proofs.«01_k».proof.Proof.Gen.Reference6Ideal.Run
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel7
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Frame
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Frame
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Frame
public import proofs.«01_k».proof.Proof.Gen.Kernel16Ideal.Value
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Frame
public import proofs.«01_k».proof.Proof.Gen.Kernel17Ideal.Value
public import proofs.«01_k».proof.Proof.Gen.Reference17Ideal.Run
public import proofs.«01_k».proof.Proof.Gen.Reference17Ideal.Read
public import proofs.«01_k».proof.Proof.Mm.QkvDw
public import proofs.«01_k».proof.Proof.Mm.GateDw
public import proofs.«01_k».proof.Proof.Mm.OutDw
public import proofs.«01_k».proof.Proof.Mm.GateDh
public import proofs.«01_k».proof.Proof.Mm.OutDh
public import proofs.«01_k».proof.Proof.Mm.InDh
public import proofs.«01_k».proof.Proof.Mm.Qkv
public import proofs.«01_k».proof.Proof.Mm.Gate
public import proofs.«01_k».proof.Proof.Mm.Out
public import proofs.«01_k».proof.Proof.Mm.FfnGate
public import proofs.«01_k».proof.Proof.Mm.PleProjDw
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- At finite arguments the idealized kernel and the idealized reference end with the same five arrays. -/
theorem values : Cert.algebraic_KernelIdeal_ReferenceIdeal_pre_finite (hKernelIdeal := Cert.KernelIdeal.Gen.facts)
    (hReferenceIdeal := Cert.ReferenceIdeal.Gen.facts) (hPre_finite := Cert.Eqn.facts_finite) :=
  fun m ρ m' ρ' hm ha =>
  ⟨fun c => (Cert.KernelIdeal.Gen.dats m 0 c).arrAt 9 Cert.KernelIdeal.cfg0.N,
    fun c => (Cert.KernelIdeal.Gen.dats m 0 c).arrAt 10 Cert.KernelIdeal.cfg0.N,
    fun c => (Cert.KernelIdeal.Gen.dats m 0 c).arrAt 11 Cert.KernelIdeal.cfg0.N,
    fun c => (Cert.KernelIdeal.Gen.dats m 0 c).arrAt 12 Cert.KernelIdeal.cfg0.N,
    fun c => (Cert.KernelIdeal.Gen.dats m 0 c).arrAt 13 Cert.KernelIdeal.cfg0.N,
    Cert.KernelIdeal.Value.run_blocks m ρ,
    (θ_run _ _ _).mono (fun r h c =>
      ⟨((h c).1.trans (Cert.ReferenceIdeal.Read.val_main_v306_eq _)).trans
          (Cert.Eqn.agree_q hm (ha c).1 (ha c).2.1 (ha c).2.2.1 (ha c).2.2.2),
        ((h c).2.1.trans (Cert.ReferenceIdeal.Read.val_main_v307_eq _)).trans
          (Cert.Eqn.agree_k hm (ha c).1 (ha c).2.1 (ha c).2.2.1 (ha c).2.2.2),
        ((h c).2.2.1.trans (Cert.ReferenceIdeal.Read.val_main_v308_eq _)).trans
          (Cert.Eqn.agree_v hm (ha c).1 (ha c).2.1 (ha c).2.2.1 (ha c).2.2.2),
        ((h c).2.2.2.1.trans (Cert.ReferenceIdeal.Read.val_main_v295_eq _)).trans
          (Cert.Eqn.agree_c hm (ha c).1 (ha c).2.1 (ha c).2.2.2),
        ((h c).2.2.2.2.1.trans (Cert.ReferenceIdeal.Read.val_main_v305_eq _)).trans
          (Cert.Eqn.agree_t hm (ha c).1 (ha c).2.2.1 (ha c).2.2.2),
        (h c).2.2.2.2.2⟩)
      (Cert.ReferenceIdeal.Value.run m' ρ')⟩

/-- At finite up activations, down weights and incoming gradient the activations' gradients are the reference's. -/
theorem values2 : Cert.algebraic_Kernel2Ideal_Reference2Ideal_pre_finite2 (hKernel2Ideal := Cert.Kernel2Ideal.Gen.facts)
    (hReference2Ideal := Cert.Reference2Ideal.Gen.facts) (hPre_finite2 := Cert.Act.facts_finite2) :=
  fun m ρ m' ρ' hm ha =>
  ⟨fun c => (Cert.Kernel2Ideal.Gen.dats m 0 c).arrAt 4 Cert.Kernel2Ideal.cfg0.N,
    fun c => (Cert.Kernel2Ideal.Gen.dats m 0 c).arrAt 5 Cert.Kernel2Ideal.cfg0.N,
    Cert.Kernel2Ideal.Value.run_blocks m ρ,
    (θ_run _ _ _).mono (fun r h c =>
      ⟨((h c).1.trans (Cert.Reference2Ideal.Read.val_main_v21_eq _ _)).trans
          (Cert.Act.agree_gate hm (ha c).1 (ha c).2.1 (ha c).2.2.1 (ha c).2.2.2),
        ((h c).2.1.trans (Cert.Reference2Ideal.Read.val_main_v31_eq _ _)).trans
          (Cert.Act.agree_up (ha c).1 (ha c).2.2.1 (ha c).2.2.2),
        (h c).2.2⟩)
      (Cert.Reference2Ideal.Value.run m' ρ')⟩

/-- At all arguments the normalised input's gradient is the reference's. -/
theorem values3 : Cert.algebraic_Kernel3Ideal_Reference3Ideal (hKernel3Ideal := Cert.Kernel3Ideal.Gen.facts)
    (hReference3Ideal := Cert.Reference3Ideal.Gen.facts) :=
  fun m ρ m' ρ' _ ha =>
  ⟨fun c => Cert.Kernel3Ideal.Value.G4 m c,
    Cert.Kernel3Ideal.Value.run m ρ,
    (θ_run _ _ _).mono (fun r h c =>
      ⟨((h c).1.trans (Cert.Reference3Ideal.Read.val_main_v9_eq _ _ _ _)).trans
          (Cert.Dh.agree (ha c).1 (ha c).2.1 (ha c).2.2.1 (ha c).2.2.2),
        (h c).2⟩)
      (Cert.Reference3Ideal.Value.run m' ρ')⟩

/-- The second feed-forward's call, whose weights lie in one array, leaves the same gradient. -/
theorem values4 : Cert.algebraic_Kernel4Ideal_Reference3Ideal (hKernel4Ideal := Cert.Kernel4Ideal.Gen.facts)
    (hReference3Ideal := Cert.Reference3Ideal.Gen.facts) :=
  fun m ρ m' ρ' _ ha =>
  ⟨fun c => Cert.Kernel4Ideal.Value.G4 m c,
    Cert.Kernel4Ideal.Value.run m ρ,
    (θ_run _ _ _).mono (fun r h c =>
      ⟨((h c).1.trans (Cert.Reference3Ideal.Read.val_main_v9_eq _ _ _ _)).trans
          (Cert.Dh.agree_stacked (ha c).1 (ha c).2.1 (ha c).2.2.1 (ha c).2.2.2),
        (h c).2⟩)
      (Cert.Reference3Ideal.Value.run m' ρ')⟩

/-- At all arguments a weight's gradient on the device's own side's shards, with what had landed added, is the reference's. -/
theorem values5 : Cert.algebraic_Kernel5Ideal_Reference5Ideal (hKernel5Ideal := Cert.Kernel5Ideal.Gen.facts)
    (hReference5Ideal := Cert.Reference5Ideal.Gen.facts) :=
  fun m ρ m' ρ' _ ha =>
  ⟨fun c => (Cert.Kernel5Ideal.Gen.dats m (Cert.Kernel5Ideal.Gen.ok m) 0 c).arrAt 3 (Cert.Kernel5Ideal.Gen.cfgM m (Cert.Kernel5Ideal.Gen.ok m)).N,
    Cert.Kernel5Ideal.Gen.run m ρ,
    (θ_run _ _ _).mono (fun r h c =>
      ⟨((h c).1.trans (Cert.Reference5Ideal.Read.val_main_v14_eq _ _ _)).trans (Cert.Dw.agree_mine (ha c).1 (ha c).2.1 (ha c).2.2),
        (h c).2⟩)
      (Cert.Reference5Ideal.Value.run m' ρ')⟩

/-- At all arguments a weight's gradient on the other side's shards is the reference's. -/
theorem values6 : Cert.algebraic_Kernel6Ideal_Reference6Ideal (hKernel6Ideal := Cert.Kernel6Ideal.Gen.facts)
    (hReference6Ideal := Cert.Reference6Ideal.Gen.facts) :=
  fun m ρ m' ρ' _ ha =>
  ⟨fun c => (Cert.Kernel6Ideal.Gen.dats m (Cert.Kernel6Ideal.Gen.ok m) 0 c).arrAt 2 (Cert.Kernel6Ideal.Gen.cfgM m (Cert.Kernel6Ideal.Gen.ok m)).N,
    Cert.Kernel6Ideal.Gen.run m ρ,
    (θ_run _ _ _).mono (fun r h c =>
      ⟨((h c).1.trans (Cert.Reference6Ideal.Read.val_main_v12_eq _ _)).trans (Cert.Dw.agree_theirs (ha c).1 (ha c).2),
        (h c).2⟩)
      (Cert.Reference6Ideal.Value.run m' ρ')⟩

/-- At all arguments the gradient of the mixer's q, k and v projection weight is the reference's. -/
theorem values7 : Cert.algebraic_Kernel7Ideal_Reference7Ideal (hKernel7Ideal := Cert.Kernel7Ideal.Gen.facts)
    (hReference7Ideal := Cert.Reference7Ideal.Gen.facts) :=
  fun m ρ m' ρ' _ ha =>
  ⟨fun c => (Cert.Kernel7Ideal.Gen.dats m 0 c).arrAt 2 Cert.Kernel7Ideal.cfg0.N,
    Cert.Kernel7Ideal.Value.run_blocks m ρ,
    (θ_run _ _ _).mono (fun r h c =>
      ⟨((h c).1.trans (Cert.Reference7Ideal.Read.val_main_v8_eq _ _)).trans (Cert.Mm.agree_qkv_dw (ha c).1 (ha c).2),
        (h c).2⟩)
      (Cert.Reference7Ideal.Value.run m' ρ')⟩

/-- At all arguments the gradient of the layer embedding's gate weight is the reference's. -/
theorem values8 : Cert.algebraic_Kernel8Ideal_Reference8Ideal (hKernel8Ideal := Cert.Kernel8Ideal.Gen.facts)
    (hReference8Ideal := Cert.Reference8Ideal.Gen.facts) :=
  fun m ρ m' ρ' _ ha =>
  ⟨fun c => (Cert.Kernel8Ideal.Gen.dats m 0 c).arrAt 2 Cert.Kernel8Ideal.cfg0.N,
    Cert.Kernel8Ideal.Value.run_blocks m ρ,
    (θ_run _ _ _).mono (fun r h c =>
      ⟨((h c).1.trans (Cert.Reference8Ideal.Read.val_main_v6_eq _ _)).trans (Cert.Mm.agree_gate_dw (ha c).1 (ha c).2),
        (h c).2⟩)
      (Cert.Reference8Ideal.Value.run m' ρ')⟩

/-- At all arguments the gradient of the mixer's output projection weight is the reference's. -/
theorem values9 : Cert.algebraic_Kernel9Ideal_Reference9Ideal (hKernel9Ideal := Cert.Kernel9Ideal.Gen.facts)
    (hReference9Ideal := Cert.Reference9Ideal.Gen.facts) :=
  fun m ρ m' ρ' _ ha =>
  ⟨fun c => (Cert.Kernel9Ideal.Gen.dats m 0 c).arrAt 2 Cert.Kernel9Ideal.cfg0.N,
    Cert.Kernel9Ideal.Value.run_blocks m ρ,
    (θ_run _ _ _).mono (fun r h c =>
      ⟨((h c).1.trans (Cert.Reference9Ideal.Read.val_main_v5_eq _ _)).trans (Cert.Mm.agree_out_dw (ha c).1 (ha c).2),
        (h c).2⟩)
      (Cert.Reference9Ideal.Value.run m' ρ')⟩

/-- At all arguments the gradient of the gate's input is the reference's. -/
theorem values10 : Cert.algebraic_Kernel10Ideal_Reference10Ideal (hKernel10Ideal := Cert.Kernel10Ideal.Gen.facts)
    (hReference10Ideal := Cert.Reference10Ideal.Gen.facts) :=
  fun m ρ m' ρ' _ ha =>
  ⟨fun c => (Cert.Kernel10Ideal.Gen.dats m 0 c).arrAt 2 Cert.Kernel10Ideal.cfg0.N,
    Cert.Kernel10Ideal.Value.run_blocks m ρ,
    (θ_run _ _ _).mono (fun r h c =>
      ⟨((h c).1.trans (Cert.Reference10Ideal.Read.val_main_v4_eq _ _)).trans (Cert.Mm.agree_gate_dh (ha c).1 (ha c).2),
        (h c).2⟩)
      (Cert.Reference10Ideal.Value.run m' ρ')⟩

/-- At all arguments the gradient of the output projection's input is the reference's. -/
theorem values11 : Cert.algebraic_Kernel11Ideal_Reference11Ideal (hKernel11Ideal := Cert.Kernel11Ideal.Gen.facts)
    (hReference11Ideal := Cert.Reference11Ideal.Gen.facts) :=
  fun m ρ m' ρ' _ ha =>
  ⟨fun c => (Cert.Kernel11Ideal.Gen.dats m 0 c).arrAt 2 Cert.Kernel11Ideal.cfg0.N,
    Cert.Kernel11Ideal.Value.run_blocks m ρ,
    (θ_run _ _ _).mono (fun r h c =>
      ⟨((h c).1.trans (Cert.Reference11Ideal.Read.val_main_v4_eq _ _)).trans (Cert.Mm.agree_out_dh (ha c).1 (ha c).2),
        (h c).2⟩)
      (Cert.Reference11Ideal.Value.run m' ρ')⟩

/-- At all arguments the gradient of the mixer's normalised input is the reference's. -/
theorem values12 : Cert.algebraic_Kernel12Ideal_Reference12Ideal (hKernel12Ideal := Cert.Kernel12Ideal.Gen.facts)
    (hReference12Ideal := Cert.Reference12Ideal.Gen.facts) :=
  fun m ρ m' ρ' _ ha =>
  ⟨fun c => (Cert.Kernel12Ideal.Gen.dats m 0 c).arrAt 4 Cert.Kernel12Ideal.cfg0.N,
    Cert.Kernel12Ideal.Value.run_blocks m ρ,
    (θ_run _ _ _).mono (fun r h c =>
      ⟨((h c).1.trans (Cert.Reference12Ideal.Read.val_main_v19_eq _ _ _)).trans (Cert.Mm.agree_in_dh (ha c).1 (ha c).2.1 (ha c).2.2),
        (h c).2⟩)
      (Cert.Reference12Ideal.Value.run m' ρ')⟩

/-- Both programs leave the products for q, k and v. -/
theorem values13 : Cert.algebraic_Kernel13Ideal_Reference13Ideal (hKernel13Ideal := Cert.Kernel13Ideal.Gen.facts)
    (hReference13Ideal := Cert.Reference13Ideal.Gen.facts) :=
  fun m ρ m' ρ' _ ha =>
  ⟨fun c => (Cert.Kernel13Ideal.Gen.dats m 0 c).arrAt 2 Cert.Kernel13Ideal.cfg0.N,
    Cert.Kernel13Ideal.Value.run_blocks m ρ,
    (θ_run _ _ _).mono (fun r h c =>
      ⟨((h c).1.trans (Cert.Reference13Ideal.Read.val_main_v11_eq _ _)).trans (Cert.Mm.agree_qkv (ha c).1 (ha c).2),
        (h c).2⟩)
      (Cert.Reference13Ideal.Value.run m' ρ')⟩

/-- Both programs leave the products of the layer embedding's gate. -/
theorem values14 : Cert.algebraic_Kernel14Ideal_Reference14Ideal (hKernel14Ideal := Cert.Kernel14Ideal.Gen.facts)
    (hReference14Ideal := Cert.Reference14Ideal.Gen.facts) :=
  fun m ρ m' ρ' _ ha =>
  ⟨fun c => (Cert.Kernel14Ideal.Gen.dats m 0 c).arrAt 2 Cert.Kernel14Ideal.cfg0.N,
    Cert.Kernel14Ideal.Value.run_blocks m ρ,
    (θ_run _ _ _).mono (fun r h c =>
      ⟨((h c).1.trans (Cert.Reference14Ideal.Read.val_main_v2_eq _ _)).trans (Cert.Mm.agree_gate (ha c).1 (ha c).2),
        (h c).2⟩)
      (Cert.Reference14Ideal.Value.run m' ρ')⟩

/-- Both programs leave the output projection added to the stream. -/
theorem values15 : Cert.algebraic_Kernel15Ideal_Reference15Ideal (hKernel15Ideal := Cert.Kernel15Ideal.Gen.facts)
    (hReference15Ideal := Cert.Reference15Ideal.Gen.facts) :=
  fun m ρ m' ρ' _ ha =>
  ⟨fun c => (Cert.Kernel15Ideal.Gen.dats m 0 c).arrAt 3 Cert.Kernel15Ideal.cfg0.N,
    Cert.Kernel15Ideal.Value.run_blocks m ρ,
    (θ_run _ _ _).mono (fun r h c =>
      ⟨((h c).1.trans (Cert.Reference15Ideal.Read.val_main_v3_eq _ _ _)).trans (Cert.Mm.agree_out (ha c).1 (ha c).2.1 (ha c).2.2),
        (h c).2⟩)
      (Cert.Reference15Ideal.Value.run m' ρ')⟩

/-- Both programs leave the activations of the feed-forward's gate. -/
theorem values16 : Cert.algebraic_Kernel16Ideal_Reference16Ideal (hKernel16Ideal := Cert.Kernel16Ideal.Gen.facts)
    (hReference16Ideal := Cert.Reference16Ideal.Gen.facts) :=
  fun m ρ m' ρ' _ ha =>
  ⟨fun c => (Cert.Kernel16Ideal.Gen.dats m 0 c).arrAt 2 Cert.Kernel16Ideal.cfg0.N,
    Cert.Kernel16Ideal.Value.run_blocks m ρ,
    (θ_run _ _ _).mono (fun r h c =>
      ⟨((h c).1.trans (Cert.Reference16Ideal.Read.val_main_v12_eq _ _)).trans (Cert.Mm.agree_ffn_gate (ha c).1 (ha c).2),
        (h c).2⟩)
      (Cert.Reference16Ideal.Value.run m' ρ')⟩

/-- Both programs leave the gradient of the layer embedding's projection. -/
theorem values17 : Cert.algebraic_Kernel17Ideal_Reference17Ideal (hKernel17Ideal := Cert.Kernel17Ideal.Gen.facts)
    (hReference17Ideal := Cert.Reference17Ideal.Gen.facts) :=
  fun m ρ m' ρ' _ ha =>
  ⟨fun c => (Cert.Kernel17Ideal.Gen.dats m 0 c).arrAt 2 Cert.Kernel17Ideal.cfg0.N,
    Cert.Kernel17Ideal.Value.run_blocks m ρ,
    (θ_run _ _ _).mono (fun r h c =>
      ⟨((h c).1.trans (Cert.Reference17Ideal.Read.val_main_v14_eq _ _)).trans (Cert.Mm.agree_ple_proj_dw (ha c).1 (ha c).2),
        (h c).2⟩)
      (Cert.Reference17Ideal.Value.run m' ρ')⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Eqn.facts_finite, Cert.Act.facts_finite2,
  fun m ρ _ => Cert.Kernel.Gen.frame m ρ, fun m ρ _ => Cert.KernelIdeal.Gen.frame m ρ, fun m ρ _ => Cert.KernelIdeal.Gen.frame m ρ,
  fun m ρ _ => (θ_run _ _ _).mono (fun r h => ⟨fun c => (h c).2.2.2.2.2, sem_eq_zero_of_no_sems rfl r.2⟩)
    (Cert.ReferenceIdeal.Value.run m ρ),
  fun m ρ _ => (θ_run _ _ _).mono (fun r h => ⟨fun c => (h c).2.2.2.2.2, sem_eq_zero_of_no_sems rfl r.2⟩)
    (Cert.ReferenceIdeal.Value.run m ρ),
  fun m ρ _ => Cert.Kernel2.Gen.frame m ρ, fun m ρ _ => Cert.Kernel2Ideal.Gen.frame m ρ, fun m ρ _ => Cert.Kernel2Ideal.Gen.frame m ρ,
  fun m ρ _ => (θ_run _ _ _).mono (fun r h => ⟨fun c => (h c).2.2, sem_eq_zero_of_no_sems rfl r.2⟩)
    (Cert.Reference2Ideal.Value.run m ρ),
  fun m ρ _ => (θ_run _ _ _).mono (fun r h => ⟨fun c => (h c).2.2, sem_eq_zero_of_no_sems rfl r.2⟩)
    (Cert.Reference2Ideal.Value.run m ρ),
  fun m ρ _ => Cert.Kernel3.Gen.frame m ρ, fun m ρ _ => Cert.Kernel3Ideal.Gen.frame m ρ,
  fun m ρ _ => (θ_run _ _ _).mono (fun r h => ⟨fun c => (h c).2, sem_eq_zero_of_no_sems rfl r.2⟩)
    (Cert.Reference3Ideal.Value.run m ρ),
  fun m ρ _ => Cert.Kernel4.Gen.frame m ρ, fun m ρ _ => Cert.Kernel4Ideal.Gen.frame m ρ,
  fun m ρ _ => Cert.Kernel5.Gen.frame m ρ (Cert.Dw.ok_Kernel5 m),
  fun m ρ _ => Cert.Kernel5Ideal.Gen.frame m ρ (Cert.Kernel5Ideal.Gen.ok m),
  fun m ρ _ => (θ_run _ _ _).mono (fun r h => ⟨fun c => (h c).2, sem_eq_zero_of_no_sems rfl r.2⟩)
    (Cert.Reference5Ideal.Value.run m ρ),
  fun m ρ _ => Cert.Kernel6.Gen.frame m ρ (Cert.Dw.ok_Kernel6 m),
  fun m ρ _ => Cert.Kernel6Ideal.Gen.frame m ρ (Cert.Kernel6Ideal.Gen.ok m),
  fun m ρ _ => (θ_run _ _ _).mono (fun r h => ⟨fun c => (h c).2, sem_eq_zero_of_no_sems rfl r.2⟩)
    (Cert.Reference6Ideal.Value.run m ρ),
  fun m ρ _ => Cert.Kernel7.Gen.frame m ρ, fun m ρ _ => Cert.Kernel7Ideal.Gen.frame m ρ,
  fun m ρ _ => (θ_run _ _ _).mono (fun r h => ⟨fun c => (h c).2, sem_eq_zero_of_no_sems rfl r.2⟩)
    (Cert.Reference7Ideal.Value.run m ρ),
  fun m ρ _ => Cert.Kernel8.Gen.frame m ρ, fun m ρ _ => Cert.Kernel8Ideal.Gen.frame m ρ,
  fun m ρ _ => (θ_run _ _ _).mono (fun r h => ⟨fun c => (h c).2, sem_eq_zero_of_no_sems rfl r.2⟩)
    (Cert.Reference8Ideal.Value.run m ρ),
  fun m ρ _ => Cert.Kernel9.Gen.frame m ρ, fun m ρ _ => Cert.Kernel9Ideal.Gen.frame m ρ,
  fun m ρ _ => (θ_run _ _ _).mono (fun r h => ⟨fun c => (h c).2, sem_eq_zero_of_no_sems rfl r.2⟩)
    (Cert.Reference9Ideal.Value.run m ρ),
  fun m ρ _ => Cert.Kernel10.Gen.frame m ρ, fun m ρ _ => Cert.Kernel10Ideal.Gen.frame m ρ,
  fun m ρ _ => (θ_run _ _ _).mono (fun r h => ⟨fun c => (h c).2, sem_eq_zero_of_no_sems rfl r.2⟩)
    (Cert.Reference10Ideal.Value.run m ρ),
  fun m ρ _ => Cert.Kernel11.Gen.frame m ρ, fun m ρ _ => Cert.Kernel11Ideal.Gen.frame m ρ,
  fun m ρ _ => (θ_run _ _ _).mono (fun r h => ⟨fun c => (h c).2, sem_eq_zero_of_no_sems rfl r.2⟩)
    (Cert.Reference11Ideal.Value.run m ρ),
  fun m ρ _ => Cert.Kernel12.Gen.frame m ρ, fun m ρ _ => Cert.Kernel12Ideal.Gen.frame m ρ,
  fun m ρ _ => (θ_run _ _ _).mono (fun r h => ⟨fun c => (h c).2, sem_eq_zero_of_no_sems rfl r.2⟩)
    (Cert.Reference12Ideal.Value.run m ρ),
  fun m ρ _ => Cert.Kernel13.Gen.frame m ρ, fun m ρ _ => Cert.Kernel13Ideal.Gen.frame m ρ,
  fun m ρ _ => (θ_run _ _ _).mono (fun r h => ⟨fun c => (h c).2, sem_eq_zero_of_no_sems rfl r.2⟩)
    (Cert.Reference13Ideal.Value.run m ρ),
  fun m ρ _ => Cert.Kernel14.Gen.frame m ρ, fun m ρ _ => Cert.Kernel14Ideal.Gen.frame m ρ,
  fun m ρ _ => (θ_run _ _ _).mono (fun r h => ⟨fun c => (h c).2, sem_eq_zero_of_no_sems rfl r.2⟩)
    (Cert.Reference14Ideal.Value.run m ρ),
  fun m ρ _ => Cert.Kernel15.Gen.frame m ρ, fun m ρ _ => Cert.Kernel15Ideal.Gen.frame m ρ,
  fun m ρ _ => (θ_run _ _ _).mono (fun r h => ⟨fun c => (h c).2, sem_eq_zero_of_no_sems rfl r.2⟩)
    (Cert.Reference15Ideal.Value.run m ρ),
  fun m ρ _ => Cert.Kernel16.Gen.frame m ρ, fun m ρ _ => Cert.Kernel16Ideal.Gen.frame m ρ,
  fun m ρ _ => (θ_run _ _ _).mono (fun r h => ⟨fun c => (h c).2, sem_eq_zero_of_no_sems rfl r.2⟩)
    (Cert.Reference16Ideal.Value.run m ρ),
  fun m ρ _ => Cert.Kernel17.Gen.frame m ρ, fun m ρ _ => Cert.Kernel17Ideal.Gen.frame m ρ,
  fun m ρ _ => (θ_run _ _ _).mono (fun r h => ⟨fun c => (h c).2, sem_eq_zero_of_no_sems rfl r.2⟩)
    (Cert.Reference17Ideal.Value.run m ρ),
  trivial, values, trivial, values2, trivial, values3, trivial, values4, trivial, values5, trivial, values6,
  trivial, values7, trivial, values8, trivial, values9, trivial, values10, trivial, values11, trivial, values12,
  trivial, values13, trivial, values14, trivial, values15, trivial, values16, trivial, values17⟩

end Cert.Proof

end
